-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Mlp2Dx (m : (ℓ : Loc Cert.Mlp2Dx.nD Cert.Mlp2Dx.τ Cert.Mlp2Dx.sig) → Buf (Elt Bits) ℓ) : Prop :=
  True

def Pre_Mlp2DxIdeal (m : (ℓ : Loc Cert.Mlp2DxIdeal.nD Cert.Mlp2DxIdeal.τ Cert.Mlp2DxIdeal.sig) → Buf (Elt Ideal) ℓ) : Prop :=
  True

def Pre_Mlp2DxReferenceIdeal (m : (ℓ : Loc Cert.Mlp2DxReferenceIdeal.nD Cert.Mlp2DxReferenceIdeal.τ Cert.Mlp2DxReferenceIdeal.sig) → Buf (Elt Ideal) ℓ) : Prop :=
  True

def Pre_Mlp2Dw (m : (ℓ : Loc Cert.Mlp2Dw.nD Cert.Mlp2Dw.τ Cert.Mlp2Dw.sig) → Buf (Elt Bits) ℓ) : Prop :=
  True

def Pre_Mlp2DwIdeal (m : (ℓ : Loc Cert.Mlp2DwIdeal.nD Cert.Mlp2DwIdeal.τ Cert.Mlp2DwIdeal.sig) → Buf (Elt Ideal) ℓ) : Prop :=
  True

def Pre_Mlp2DwReferenceIdeal (m : (ℓ : Loc Cert.Mlp2DwReferenceIdeal.nD Cert.Mlp2DwReferenceIdeal.τ Cert.Mlp2DwReferenceIdeal.sig) → Buf (Elt Ideal) ℓ) : Prop :=
  True

def Pre_Mlp1Dx (m : (ℓ : Loc Cert.Mlp1Dx.nD Cert.Mlp1Dx.τ Cert.Mlp1Dx.sig) → Buf (Elt Bits) ℓ) : Prop :=
  True

def Pre_Mlp1DxIdeal (m : (ℓ : Loc Cert.Mlp1DxIdeal.nD Cert.Mlp1DxIdeal.τ Cert.Mlp1DxIdeal.sig) → Buf (Elt Ideal) ℓ) : Prop :=
  True

def Pre_Mlp1DxReferenceIdeal (m : (ℓ : Loc Cert.Mlp1DxReferenceIdeal.nD Cert.Mlp1DxReferenceIdeal.τ Cert.Mlp1DxReferenceIdeal.sig) → Buf (Elt Ideal) ℓ) : Prop :=
  True

def Pre_Mlp1Dw (m : (ℓ : Loc Cert.Mlp1Dw.nD Cert.Mlp1Dw.τ Cert.Mlp1Dw.sig) → Buf (Elt Bits) ℓ) : Prop :=
  True

def Pre_Mlp1DwIdeal (m : (ℓ : Loc Cert.Mlp1DwIdeal.nD Cert.Mlp1DwIdeal.τ Cert.Mlp1DwIdeal.sig) → Buf (Elt Ideal) ℓ) : Prop :=
  True

def Pre_Mlp1DwReferenceIdeal (m : (ℓ : Loc Cert.Mlp1DwReferenceIdeal.nD Cert.Mlp1DwReferenceIdeal.τ Cert.Mlp1DwReferenceIdeal.sig) → Buf (Elt Ideal) ℓ) : Prop :=
  True

def Pre_WOutDx (m : (ℓ : Loc Cert.WOutDx.nD Cert.WOutDx.τ Cert.WOutDx.sig) → Buf (Elt Bits) ℓ) : Prop :=
  True

def Pre_WOutDxIdeal (m : (ℓ : Loc Cert.WOutDxIdeal.nD Cert.WOutDxIdeal.τ Cert.WOutDxIdeal.sig) → Buf (Elt Ideal) ℓ) : Prop :=
  True

def Pre_WOutDxReferenceIdeal (m : (ℓ : Loc Cert.WOutDxReferenceIdeal.nD Cert.WOutDxReferenceIdeal.τ Cert.WOutDxReferenceIdeal.sig) → Buf (Elt Ideal) ℓ) : Prop :=
  True

def Pre_WOutDw (m : (ℓ : Loc Cert.WOutDw.nD Cert.WOutDw.τ Cert.WOutDw.sig) → Buf (Elt Bits) ℓ) : Prop :=
  True

def Pre_WOutDwIdeal (m : (ℓ : Loc Cert.WOutDwIdeal.nD Cert.WOutDwIdeal.τ Cert.WOutDwIdeal.sig) → Buf (Elt Ideal) ℓ) : Prop :=
  True

def Pre_WOutDwReferenceIdeal (m : (ℓ : Loc Cert.WOutDwReferenceIdeal.nD Cert.WOutDwReferenceIdeal.τ Cert.WOutDwReferenceIdeal.sig) → Buf (Elt Ideal) ℓ) : Prop :=
  True

def Pre_GlaOutDx (m : (ℓ : Loc Cert.GlaOutDx.nD Cert.GlaOutDx.τ Cert.GlaOutDx.sig) → Buf (Elt Bits) ℓ) : Prop :=
  True

def Pre_GlaOutDxIdeal (m : (ℓ : Loc Cert.GlaOutDxIdeal.nD Cert.GlaOutDxIdeal.τ Cert.GlaOutDxIdeal.sig) → Buf (Elt Ideal) ℓ) : Prop :=
  True

def Pre_GlaOutDxReferenceIdeal (m : (ℓ : Loc Cert.GlaOutDxReferenceIdeal.nD Cert.GlaOutDxReferenceIdeal.τ Cert.GlaOutDxReferenceIdeal.sig) → Buf (Elt Ideal) ℓ) : Prop :=
  True

def Pre_GlaOutDw (m : (ℓ : Loc Cert.GlaOutDw.nD Cert.GlaOutDw.τ Cert.GlaOutDw.sig) → Buf (Elt Bits) ℓ) : Prop :=
  True

def Pre_GlaOutDwIdeal (m : (ℓ : Loc Cert.GlaOutDwIdeal.nD Cert.GlaOutDwIdeal.τ Cert.GlaOutDwIdeal.sig) → Buf (Elt Ideal) ℓ) : Prop :=
  True

def Pre_GlaOutDwReferenceIdeal (m : (ℓ : Loc Cert.GlaOutDwReferenceIdeal.nD Cert.GlaOutDwReferenceIdeal.τ Cert.GlaOutDwReferenceIdeal.sig) → Buf (Elt Ideal) ℓ) : Prop :=
  True

def Pre_MlaOutDx (m : (ℓ : Loc Cert.MlaOutDx.nD Cert.MlaOutDx.τ Cert.MlaOutDx.sig) → Buf (Elt Bits) ℓ) : Prop :=
  True

def Pre_MlaOutDxIdeal (m : (ℓ : Loc Cert.MlaOutDxIdeal.nD Cert.MlaOutDxIdeal.τ Cert.MlaOutDxIdeal.sig) → Buf (Elt Ideal) ℓ) : Prop :=
  True

def Pre_MlaOutDxReferenceIdeal (m : (ℓ : Loc Cert.MlaOutDxReferenceIdeal.nD Cert.MlaOutDxReferenceIdeal.τ Cert.MlaOutDxReferenceIdeal.sig) → Buf (Elt Ideal) ℓ) : Prop :=
  True

def Pre_MlaOutDw (m : (ℓ : Loc Cert.MlaOutDw.nD Cert.MlaOutDw.τ Cert.MlaOutDw.sig) → Buf (Elt Bits) ℓ) : Prop :=
  True

def Pre_MlaOutDwIdeal (m : (ℓ : Loc Cert.MlaOutDwIdeal.nD Cert.MlaOutDwIdeal.τ Cert.MlaOutDwIdeal.sig) → Buf (Elt Ideal) ℓ) : Prop :=
  True

def Pre_MlaOutDwReferenceIdeal (m : (ℓ : Loc Cert.MlaOutDwReferenceIdeal.nD Cert.MlaOutDwReferenceIdeal.τ Cert.MlaOutDwReferenceIdeal.sig) → Buf (Elt Ideal) ℓ) : Prop :=
  True

def Pre_MlaUqDx (m : (ℓ : Loc Cert.MlaUqDx.nD Cert.MlaUqDx.τ Cert.MlaUqDx.sig) → Buf (Elt Bits) ℓ) : Prop :=
  True

def Pre_MlaUqDxIdeal (m : (ℓ : Loc Cert.MlaUqDxIdeal.nD Cert.MlaUqDxIdeal.τ Cert.MlaUqDxIdeal.sig) → Buf (Elt Ideal) ℓ) : Prop :=
  True

def Pre_MlaUqDxReferenceIdeal (m : (ℓ : Loc Cert.MlaUqDxReferenceIdeal.nD Cert.MlaUqDxReferenceIdeal.τ Cert.MlaUqDxReferenceIdeal.sig) → Buf (Elt Ideal) ℓ) : Prop :=
  True

def Pre_MlaUqDw (m : (ℓ : Loc Cert.MlaUqDw.nD Cert.MlaUqDw.τ Cert.MlaUqDw.sig) → Buf (Elt Bits) ℓ) : Prop :=
  True

def Pre_MlaUqDwIdeal (m : (ℓ : Loc Cert.MlaUqDwIdeal.nD Cert.MlaUqDwIdeal.τ Cert.MlaUqDwIdeal.sig) → Buf (Elt Ideal) ℓ) : Prop :=
  True

def Pre_MlaUqDwReferenceIdeal (m : (ℓ : Loc Cert.MlaUqDwReferenceIdeal.nD Cert.MlaUqDwReferenceIdeal.τ Cert.MlaUqDwReferenceIdeal.sig) → Buf (Elt Ideal) ℓ) : Prop :=
  True

def Pre_MlaUkvDx (m : (ℓ : Loc Cert.MlaUkvDx.nD Cert.MlaUkvDx.τ Cert.MlaUkvDx.sig) → Buf (Elt Bits) ℓ) : Prop :=
  True

def Pre_MlaUkvDxIdeal (m : (ℓ : Loc Cert.MlaUkvDxIdeal.nD Cert.MlaUkvDxIdeal.τ Cert.MlaUkvDxIdeal.sig) → Buf (Elt Ideal) ℓ) : Prop :=
  True

def Pre_MlaUkvDxReferenceIdeal (m : (ℓ : Loc Cert.MlaUkvDxReferenceIdeal.nD Cert.MlaUkvDxReferenceIdeal.τ Cert.MlaUkvDxReferenceIdeal.sig) → Buf (Elt Ideal) ℓ) : Prop :=
  True

def Pre_MlaUkvDw (m : (ℓ : Loc Cert.MlaUkvDw.nD Cert.MlaUkvDw.τ Cert.MlaUkvDw.sig) → Buf (Elt Bits) ℓ) : Prop :=
  True

def Pre_MlaUkvDwIdeal (m : (ℓ : Loc Cert.MlaUkvDwIdeal.nD Cert.MlaUkvDwIdeal.τ Cert.MlaUkvDwIdeal.sig) → Buf (Elt Ideal) ℓ) : Prop :=
  True

def Pre_MlaUkvDwReferenceIdeal (m : (ℓ : Loc Cert.MlaUkvDwReferenceIdeal.nD Cert.MlaUkvDwReferenceIdeal.τ Cert.MlaUkvDwReferenceIdeal.sig) → Buf (Elt Ideal) ℓ) : Prop :=
  True

def Pre_GlaOut (m : (ℓ : Loc Cert.GlaOut.nD Cert.GlaOut.τ Cert.GlaOut.sig) → Buf (Elt Bits) ℓ) : Prop :=
  True

def Pre_GlaOutIdeal (m : (ℓ : Loc Cert.GlaOutIdeal.nD Cert.GlaOutIdeal.τ Cert.GlaOutIdeal.sig) → Buf (Elt Ideal) ℓ) : Prop :=
  True

def Pre_GlaOutReferenceIdeal (m : (ℓ : Loc Cert.GlaOutReferenceIdeal.nD Cert.GlaOutReferenceIdeal.τ Cert.GlaOutReferenceIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutReferenceIdeal (m : (ℓ : Loc Cert.WOutReferenceIdeal.nD Cert.WOutReferenceIdeal.τ Cert.WOutReferenceIdeal.sig) → Buf (Elt Ideal) ℓ) : Prop :=
  True

def Pre_MlaOut (m : (ℓ : Loc Cert.MlaOut.nD Cert.MlaOut.τ Cert.MlaOut.sig) → Buf (Elt Bits) ℓ) : Prop :=
  True

def Pre_MlaOutIdeal (m : (ℓ : Loc Cert.MlaOutIdeal.nD Cert.MlaOutIdeal.τ Cert.MlaOutIdeal.sig) → Buf (Elt Ideal) ℓ) : Prop :=
  True

def Pre_MlaOutReferenceIdeal (m : (ℓ : Loc Cert.MlaOutReferenceIdeal.nD Cert.MlaOutReferenceIdeal.τ Cert.MlaOutReferenceIdeal.sig) → Buf (Elt Ideal) ℓ) : Prop :=
  True

def Pre_MlaUq (m : (ℓ : Loc Cert.MlaUq.nD Cert.MlaUq.τ Cert.MlaUq.sig) → Buf (Elt Bits) ℓ) : Prop :=
  True

def Pre_MlaUqIdeal (m : (ℓ : Loc Cert.MlaUqIdeal.nD Cert.MlaUqIdeal.τ Cert.MlaUqIdeal.sig) → Buf (Elt Ideal) ℓ) : Prop :=
  True

def Pre_MlaUqReferenceIdeal (m : (ℓ : Loc Cert.MlaUqReferenceIdeal.nD Cert.MlaUqReferenceIdeal.τ Cert.MlaUqReferenceIdeal.sig) → Buf (Elt Ideal) ℓ) : Prop :=
  True

def Pre_MlaUkv (m : (ℓ : Loc Cert.MlaUkv.nD Cert.MlaUkv.τ Cert.MlaUkv.sig) → Buf (Elt Bits) ℓ) : Prop :=
  True

def Pre_MlaUkvIdeal (m : (ℓ : Loc Cert.MlaUkvIdeal.nD Cert.MlaUkvIdeal.τ Cert.MlaUkvIdeal.sig) → Buf (Elt Ideal) ℓ) : Prop :=
  True

def Pre_MlaUkvReferenceIdeal (m : (ℓ : Loc Cert.MlaUkvReferenceIdeal.nD Cert.MlaUkvReferenceIdeal.τ Cert.MlaUkvReferenceIdeal.sig) → Buf (Elt Ideal) ℓ) : Prop :=
  True

def Pre_Mlp1 (m : (ℓ : Loc Cert.Mlp1.nD Cert.Mlp1.τ Cert.Mlp1.sig) → Buf (Elt Bits) ℓ) : Prop :=
  True

def Pre_Mlp1Ideal (m : (ℓ : Loc Cert.Mlp1Ideal.nD Cert.Mlp1Ideal.τ Cert.Mlp1Ideal.sig) → Buf (Elt Ideal) ℓ) : Prop :=
  True

def Pre_Mlp1ReferenceIdeal (m : (ℓ : Loc Cert.Mlp1ReferenceIdeal.nD Cert.Mlp1ReferenceIdeal.τ Cert.Mlp1ReferenceIdeal.sig) → Buf (Elt Ideal) ℓ) : Prop :=
  True

def Pre_Mlp2 (m : (ℓ : Loc Cert.Mlp2.nD Cert.Mlp2.τ Cert.Mlp2.sig) → Buf (Elt Bits) ℓ) : Prop :=
  True

def Pre_Mlp2Ideal (m : (ℓ : Loc Cert.Mlp2Ideal.nD Cert.Mlp2Ideal.τ Cert.Mlp2Ideal.sig) → Buf (Elt Ideal) ℓ) : Prop :=
  True

def Pre_Mlp2ReferenceIdeal (m : (ℓ : Loc Cert.Mlp2ReferenceIdeal.nD Cert.Mlp2ReferenceIdeal.τ Cert.Mlp2ReferenceIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxReferenceIdeal (m : (ℓ : Loc Cert.ProjDxReferenceIdeal.nD Cert.ProjDxReferenceIdeal.τ Cert.ProjDxReferenceIdeal.sig) → Buf (Elt Ideal) ℓ) : Prop :=
  True

def Pre_ProjDwA (m : (ℓ : Loc Cert.ProjDwA.nD Cert.ProjDwA.τ Cert.ProjDwA.sig) → Buf (Elt Bits) ℓ) : Prop :=
  True

def Pre_ProjDwAIdeal (m : (ℓ : Loc Cert.ProjDwAIdeal.nD Cert.ProjDwAIdeal.τ Cert.ProjDwAIdeal.sig) → Buf (Elt Ideal) ℓ) : Prop :=
  True

def Pre_ProjDwAReferenceIdeal (m : (ℓ : Loc Cert.ProjDwAReferenceIdeal.nD Cert.ProjDwAReferenceIdeal.τ Cert.ProjDwAReferenceIdeal.sig) → Buf (Elt Ideal) ℓ) : Prop :=
  True

def Pre_ProjDwB (m : (ℓ : Loc Cert.ProjDwB.nD Cert.ProjDwB.τ Cert.ProjDwB.sig) → Buf (Elt Bits) ℓ) : Prop :=
  True

def Pre_ProjDwBIdeal (m : (ℓ : Loc Cert.ProjDwBIdeal.nD Cert.ProjDwBIdeal.τ Cert.ProjDwBIdeal.sig) → Buf (Elt Ideal) ℓ) : Prop :=
  True

def Pre_ProjDwBReferenceIdeal (m : (ℓ : Loc Cert.ProjDwBReferenceIdeal.nD Cert.ProjDwBReferenceIdeal.τ Cert.ProjDwBReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdReferenceIdeal (m : (ℓ : Loc Cert.MergeBwdReferenceIdeal.nD Cert.MergeBwdReferenceIdeal.τ Cert.MergeBwdReferenceIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdReferenceIdeal (m : (ℓ : Loc Cert.MergeFwdReferenceIdeal.nD Cert.MergeFwdReferenceIdeal.τ Cert.MergeFwdReferenceIdeal.sig) → Buf (Elt Ideal) ℓ) : Prop :=
  True

def Pre_AlphaDx (m : (ℓ : Loc Cert.AlphaDx.nD Cert.AlphaDx.τ Cert.AlphaDx.sig) → Buf (Elt Bits) ℓ) : Prop :=
  True

def Pre_AlphaDxIdeal (m : (ℓ : Loc Cert.AlphaDxIdeal.nD Cert.AlphaDxIdeal.τ Cert.AlphaDxIdeal.sig) → Buf (Elt Ideal) ℓ) : Prop :=
  True

def Pre_AlphaDxReferenceIdeal (m : (ℓ : Loc Cert.AlphaDxReferenceIdeal.nD Cert.AlphaDxReferenceIdeal.τ Cert.AlphaDxReferenceIdeal.sig) → Buf (Elt Ideal) ℓ) : Prop :=
  True

def Pre_AlphaDw (m : (ℓ : Loc Cert.AlphaDw.nD Cert.AlphaDw.τ Cert.AlphaDw.sig) → Buf (Elt Bits) ℓ) : Prop :=
  True

def Pre_AlphaDwIdeal (m : (ℓ : Loc Cert.AlphaDwIdeal.nD Cert.AlphaDwIdeal.τ Cert.AlphaDwIdeal.sig) → Buf (Elt Ideal) ℓ) : Prop :=
  True

def Pre_AlphaDwReferenceIdeal (m : (ℓ : Loc Cert.AlphaDwReferenceIdeal.nD Cert.AlphaDwReferenceIdeal.τ Cert.AlphaDwReferenceIdeal.sig) → Buf (Elt Ideal) ℓ) : Prop :=
  True

def Pre_GlaFwd (m : (ℓ : Loc Cert.GlaFwd.nD Cert.GlaFwd.τ Cert.GlaFwd.sig) → Buf (Elt Bits) ℓ) : Prop :=
  True

def Pre_GlaFwdIdeal (m : (ℓ : Loc Cert.GlaFwdIdeal.nD Cert.GlaFwdIdeal.τ Cert.GlaFwdIdeal.sig) → Buf (Elt Ideal) ℓ) : Prop :=
  True

def Pre_GlaFwdReferenceIdeal (m : (ℓ : Loc Cert.GlaFwdReferenceIdeal.nD Cert.GlaFwdReferenceIdeal.τ Cert.GlaFwdReferenceIdeal.sig) → Buf (Elt Ideal) ℓ) : Prop :=
  True

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1ReferenceIdeal (m : (ℓ : Loc Cert.Norm1ReferenceIdeal.nD Cert.Norm1ReferenceIdeal.τ Cert.Norm1ReferenceIdeal.sig) → Buf (Elt Ideal) ℓ) : Prop :=
  True

def Pre_Norm2 (m : (ℓ : Loc Cert.Norm2.nD Cert.Norm2.τ Cert.Norm2.sig) → Buf (Elt Bits) ℓ) : Prop :=
  True

def Pre_Norm2Ideal (m : (ℓ : Loc Cert.Norm2Ideal.nD Cert.Norm2Ideal.τ Cert.Norm2Ideal.sig) → Buf (Elt Ideal) ℓ) : Prop :=
  True

def Pre_Norm2ReferenceIdeal (m : (ℓ : Loc Cert.Norm2ReferenceIdeal.nD Cert.Norm2ReferenceIdeal.τ Cert.Norm2ReferenceIdeal.sig) → Buf (Elt Ideal) ℓ) : Prop :=
  True

def Pre_LatNorm (m : (ℓ : Loc Cert.LatNorm.nD Cert.LatNorm.τ Cert.LatNorm.sig) → Buf (Elt Bits) ℓ) : Prop :=
  True

def Pre_LatNormIdeal (m : (ℓ : Loc Cert.LatNormIdeal.nD Cert.LatNormIdeal.τ Cert.LatNormIdeal.sig) → Buf (Elt Ideal) ℓ) : Prop :=
  True

def Pre_LatNormReferenceIdeal (m : (ℓ : Loc Cert.LatNormReferenceIdeal.nD Cert.LatNormReferenceIdeal.τ Cert.LatNormReferenceIdeal.sig) → Buf (Elt Ideal) ℓ) : Prop :=
  True

def Pre_AdamwWAda (m : (ℓ : Loc Cert.AdamwWAda.nD Cert.AdamwWAda.τ Cert.AdamwWAda.sig) → Buf (Elt Bits) ℓ) : Prop :=
  True

def Pre_AdamwWAdaIdeal (m : (ℓ : Loc Cert.AdamwWAdaIdeal.nD Cert.AdamwWAdaIdeal.τ Cert.AdamwWAdaIdeal.sig) → Buf (Elt Ideal) ℓ) : Prop :=
  True

def Pre_AdamwWAdaReferenceIdeal (m : (ℓ : Loc Cert.AdamwWAdaReferenceIdeal.nD Cert.AdamwWAdaReferenceIdeal.τ Cert.AdamwWAdaReferenceIdeal.sig) → Buf (Elt Ideal) ℓ) : Prop :=
  True

def Pre_AdamwWIn (m : (ℓ : Loc Cert.AdamwWIn.nD Cert.AdamwWIn.τ Cert.AdamwWIn.sig) → Buf (Elt Bits) ℓ) : Prop :=
  True

def Pre_AdamwWInIdeal (m : (ℓ : Loc Cert.AdamwWInIdeal.nD Cert.AdamwWInIdeal.τ Cert.AdamwWInIdeal.sig) → Buf (Elt Ideal) ℓ) : Prop :=
  True

def Pre_AdamwWInReferenceIdeal (m : (ℓ : Loc Cert.AdamwWInReferenceIdeal.nD Cert.AdamwWInReferenceIdeal.τ Cert.AdamwWInReferenceIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_queries [hPre_finite_queries : Cert.Pre_finite_queries.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_queries.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))) = (fun _ => 1#1)

def Pre_AttnFwdReferenceIdeal (m : (ℓ : Loc Cert.AttnFwdReferenceIdeal.nD Cert.AttnFwdReferenceIdeal.τ Cert.AttnFwdReferenceIdeal.sig) → Buf (Elt Ideal) ℓ) : Prop :=
  True

def Pre_AttnFwdReferenceIdeal_finite_queries [hPre_finite_queries : Cert.Pre_finite_queries.Facts] (m : (ℓ : Loc Cert.AttnFwdReferenceIdeal.nD Cert.AttnFwdReferenceIdeal.τ Cert.AttnFwdReferenceIdeal.sig) → Buf (Elt Ideal) ℓ) : Prop :=
  ∀ c : Dev Cert.AttnFwdReferenceIdeal.nD,
    (Cert.Pre_finite_queries.fn (F := Ideal) (m ((c.tc : Thread Cert.AttnFwdReferenceIdeal.nD Cert.AttnFwdReferenceIdeal.τ).loc Cert.AttnFwdReferenceIdeal.main_arg0)) (m ((c.tc : Thread Cert.AttnFwdReferenceIdeal.nD Cert.AttnFwdReferenceIdeal.τ).loc Cert.AttnFwdReferenceIdeal.main_arg1)) (m ((c.tc : Thread Cert.AttnFwdReferenceIdeal.nD Cert.AttnFwdReferenceIdeal.τ).loc Cert.AttnFwdReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mlp2Dx [hMlp2Dx : Cert.Mlp2Dx.Facts] : Prop :=
  ∀ (m : (ℓ : Loc Cert.Mlp2Dx.nD Cert.Mlp2Dx.τ Cert.Mlp2Dx.sig) → Buf (Elt Bits) ℓ) (g : Dev Cert.Mlp2Dx.nD → PrngReg), Pre_Mlp2Dx m →
    θ_run (Cert.Mlp2Dx.defs (F := Bits)) (onTc (τ := Cert.Mlp2Dx.τ) (Cert.Mlp2Dx.main (F := Bits))) ⟨m, fun _ => 0, g⟩ (fun r => (∀ c : Dev Cert.Mlp2Dx.nD,
      r.2.mem ((c.tc : Thread Cert.Mlp2Dx.nD Cert.Mlp2Dx.τ).loc Cert.Mlp2Dx.main_arg0) = m ((c.tc : Thread Cert.Mlp2Dx.nD Cert.Mlp2Dx.τ).loc Cert.Mlp2Dx.main_arg0)
      ∧ r.2.mem ((c.tc : Thread Cert.Mlp2Dx.nD Cert.Mlp2Dx.τ).loc Cert.Mlp2Dx.main_arg1) = m ((c.tc : Thread Cert.Mlp2Dx.nD Cert.Mlp2Dx.τ).loc Cert.Mlp2Dx.main_arg1)
      ∧ r.2.mem ((c.tc : Thread Cert.Mlp2Dx.nD Cert.Mlp2Dx.τ).loc Cert.Mlp2Dx.main_arg2) = m ((c.tc : Thread Cert.Mlp2Dx.nD Cert.Mlp2Dx.τ).loc Cert.Mlp2Dx.main_arg2))
      ∧ r.2.sem = fun _ => 0)

def quiescent_Mlp2DxIdeal [hMlp2DxIdeal : Cert.Mlp2DxIdeal.Facts] : Prop :=
  ∀ (m : (ℓ : Loc Cert.Mlp2DxIdeal.nD Cert.Mlp2DxIdeal.τ Cert.Mlp2DxIdeal.sig) → Buf (Elt Ideal) ℓ) (g : Dev Cert.Mlp2DxIdeal.nD → PrngReg), Pre_Mlp2DxIdeal m →
    θ_run (Cert.Mlp2DxIdeal.defs (F := Ideal)) (onTc (τ := Cert.Mlp2DxIdeal.τ) (Cert.Mlp2DxIdeal.main (F := Ideal))) ⟨m, fun _ => 0, g⟩ (fun r => (∀ c : Dev Cert.Mlp2DxIdeal.nD,
      r.2.mem ((c.tc : Thread Cert.Mlp2DxIdeal.nD Cert.Mlp2DxIdeal.τ).loc Cert.Mlp2DxIdeal.main_arg0) = m ((c.tc : Thread Cert.Mlp2DxIdeal.nD Cert.Mlp2DxIdeal.τ).loc Cert.Mlp2DxIdeal.main_arg0)
      ∧ r.2.mem ((c.tc : Thread Cert.Mlp2DxIdeal.nD Cert.Mlp2DxIdeal.τ).loc Cert.Mlp2DxIdeal.main_arg1) = m ((c.tc : Thread Cert.Mlp2DxIdeal.nD Cert.Mlp2DxIdeal.τ).loc Cert.Mlp2DxIdeal.main_arg1)
      ∧ r.2.mem ((c.tc : Thread Cert.Mlp2DxIdeal.nD Cert.Mlp2DxIdeal.τ).loc Cert.Mlp2DxIdeal.main_arg2) = m ((c.tc : Thread Cert.Mlp2DxIdeal.nD Cert.Mlp2DxIdeal.τ).loc Cert.Mlp2DxIdeal.main_arg2))
      ∧ r.2.sem = fun _ => 0)

def quiescent_Mlp2DxReferenceIdeal [hMlp2DxReferenceIdeal : Cert.Mlp2DxReferenceIdeal.Facts] : Prop :=
  ∀ (m : (ℓ : Loc Cert.Mlp2DxReferenceIdeal.nD Cert.Mlp2DxReferenceIdeal.τ Cert.Mlp2DxReferenceIdeal.sig) → Buf (Elt Ideal) ℓ) (g : Dev Cert.Mlp2DxReferenceIdeal.nD → PrngReg), Pre_Mlp2DxReferenceIdeal m →
    θ_run (Cert.Mlp2DxReferenceIdeal.defs (F := Ideal)) (onTc (τ := Cert.Mlp2DxReferenceIdeal.τ) (Cert.Mlp2DxReferenceIdeal.main (F := Ideal))) ⟨m, fun _ => 0, g⟩ (fun r => (∀ c : Dev Cert.Mlp2DxReferenceIdeal.nD,
      r.2.mem ((c.tc : Thread Cert.Mlp2DxReferenceIdeal.nD Cert.Mlp2DxReferenceIdeal.τ).loc Cert.Mlp2DxReferenceIdeal.main_arg0) = m ((c.tc : Thread Cert.Mlp2DxReferenceIdeal.nD Cert.Mlp2DxReferenceIdeal.τ).loc Cert.Mlp2DxReferenceIdeal.main_arg0)
      ∧ r.2.mem ((c.tc : Thread Cert.Mlp2DxReferenceIdeal.nD Cert.Mlp2DxReferenceIdeal.τ).loc Cert.Mlp2DxReferenceIdeal.main_arg1) = m ((c.tc : Thread Cert.Mlp2DxReferenceIdeal.nD Cert.Mlp2DxReferenceIdeal.τ).loc Cert.Mlp2DxReferenceIdeal.main_arg1)
      ∧ r.2.mem ((c.tc : Thread Cert.Mlp2DxReferenceIdeal.nD Cert.Mlp2DxReferenceIdeal.τ).loc Cert.Mlp2DxReferenceIdeal.main_arg2) = m ((c.tc : Thread Cert.Mlp2DxReferenceIdeal.nD Cert.Mlp2DxReferenceIdeal.τ).loc Cert.Mlp2DxReferenceIdeal.main_arg2))
      ∧ r.2.sem = fun _ => 0)

def quiescent_Mlp2Dw [hMlp2Dw : Cert.Mlp2Dw.Facts] : Prop :=
  ∀ (m : (ℓ : Loc Cert.Mlp2Dw.nD Cert.Mlp2Dw.τ Cert.Mlp2Dw.sig) → Buf (Elt Bits) ℓ) (g : Dev Cert.Mlp2Dw.nD → PrngReg), Pre_Mlp2Dw m →
    θ_run (Cert.Mlp2Dw.defs (F := Bits)) (onTc (τ := Cert.Mlp2Dw.τ) (Cert.Mlp2Dw.main (F := Bits))) ⟨m, fun _ => 0, g⟩ (fun r => (∀ c : Dev Cert.Mlp2Dw.nD,
      r.2.mem ((c.tc : Thread Cert.Mlp2Dw.nD Cert.Mlp2Dw.τ).loc Cert.Mlp2Dw.main_arg0) = m ((c.tc : Thread Cert.Mlp2Dw.nD Cert.Mlp2Dw.τ).loc Cert.Mlp2Dw.main_arg0)
      ∧ r.2.mem ((c.tc : Thread Cert.Mlp2Dw.nD Cert.Mlp2Dw.τ).loc Cert.Mlp2Dw.main_arg1) = m ((c.tc : Thread Cert.Mlp2Dw.nD Cert.Mlp2Dw.τ).loc Cert.Mlp2Dw.main_arg1)
      ∧ r.2.mem ((c.tc : Thread Cert.Mlp2Dw.nD Cert.Mlp2Dw.τ).loc Cert.Mlp2Dw.main_arg2) = m ((c.tc : Thread Cert.Mlp2Dw.nD Cert.Mlp2Dw.τ).loc Cert.Mlp2Dw.main_arg2))
      ∧ r.2.sem = fun _ => 0)

def quiescent_Mlp2DwIdeal [hMlp2DwIdeal : Cert.Mlp2DwIdeal.Facts] : Prop :=
  ∀ (m : (ℓ : Loc Cert.Mlp2DwIdeal.nD Cert.Mlp2DwIdeal.τ Cert.Mlp2DwIdeal.sig) → Buf (Elt Ideal) ℓ) (g : Dev Cert.Mlp2DwIdeal.nD → PrngReg), Pre_Mlp2DwIdeal m →
    θ_run (Cert.Mlp2DwIdeal.defs (F := Ideal)) (onTc (τ := Cert.Mlp2DwIdeal.τ) (Cert.Mlp2DwIdeal.main (F := Ideal))) ⟨m, fun _ => 0, g⟩ (fun r => (∀ c : Dev Cert.Mlp2DwIdeal.nD,
      r.2.mem ((c.tc : Thread Cert.Mlp2DwIdeal.nD Cert.Mlp2DwIdeal.τ).loc Cert.Mlp2DwIdeal.main_arg0) = m ((c.tc : Thread Cert.Mlp2DwIdeal.nD Cert.Mlp2DwIdeal.τ).loc Cert.Mlp2DwIdeal.main_arg0)
      ∧ r.2.mem ((c.tc : Thread Cert.Mlp2DwIdeal.nD Cert.Mlp2DwIdeal.τ).loc Cert.Mlp2DwIdeal.main_arg1) = m ((c.tc : Thread Cert.Mlp2DwIdeal.nD Cert.Mlp2DwIdeal.τ).loc Cert.Mlp2DwIdeal.main_arg1)
      ∧ r.2.mem ((c.tc : Thread Cert.Mlp2DwIdeal.nD Cert.Mlp2DwIdeal.τ).loc Cert.Mlp2DwIdeal.main_arg2) = m ((c.tc : Thread Cert.Mlp2DwIdeal.nD Cert.Mlp2DwIdeal.τ).loc Cert.Mlp2DwIdeal.main_arg2))
      ∧ r.2.sem = fun _ => 0)

def quiescent_Mlp2DwReferenceIdeal [hMlp2DwReferenceIdeal : Cert.Mlp2DwReferenceIdeal.Facts] : Prop :=
  ∀ (m : (ℓ : Loc Cert.Mlp2DwReferenceIdeal.nD Cert.Mlp2DwReferenceIdeal.τ Cert.Mlp2DwReferenceIdeal.sig) → Buf (Elt Ideal) ℓ) (g : Dev Cert.Mlp2DwReferenceIdeal.nD → PrngReg), Pre_Mlp2DwReferenceIdeal m →
    θ_run (Cert.Mlp2DwReferenceIdeal.defs (F := Ideal)) (onTc (τ := Cert.Mlp2DwReferenceIdeal.τ) (Cert.Mlp2DwReferenceIdeal.main (F := Ideal))) ⟨m, fun _ => 0, g⟩ (fun r => (∀ c : Dev Cert.Mlp2DwReferenceIdeal.nD,
      r.2.mem ((c.tc : Thread Cert.Mlp2DwReferenceIdeal.nD Cert.Mlp2DwReferenceIdeal.τ).loc Cert.Mlp2DwReferenceIdeal.main_arg0) = m ((c.tc : Thread Cert.Mlp2DwReferenceIdeal.nD Cert.Mlp2DwReferenceIdeal.τ).loc Cert.Mlp2DwReferenceIdeal.main_arg0)
      ∧ r.2.mem ((c.tc : Thread Cert.Mlp2DwReferenceIdeal.nD Cert.Mlp2DwReferenceIdeal.τ).loc Cert.Mlp2DwReferenceIdeal.main_arg1) = m ((c.tc : Thread Cert.Mlp2DwReferenceIdeal.nD Cert.Mlp2DwReferenceIdeal.τ).loc Cert.Mlp2DwReferenceIdeal.main_arg1)
      ∧ r.2.mem ((c.tc : Thread Cert.Mlp2DwReferenceIdeal.nD Cert.Mlp2DwReferenceIdeal.τ).loc Cert.Mlp2DwReferenceIdeal.main_arg2) = m ((c.tc : Thread Cert.Mlp2DwReferenceIdeal.nD Cert.Mlp2DwReferenceIdeal.τ).loc Cert.Mlp2DwReferenceIdeal.main_arg2))
      ∧ r.2.sem = fun _ => 0)

def quiescent_Mlp1Dx [hMlp1Dx : Cert.Mlp1Dx.Facts] : Prop :=
  ∀ (m : (ℓ : Loc Cert.Mlp1Dx.nD Cert.Mlp1Dx.τ Cert.Mlp1Dx.sig) → Buf (Elt Bits) ℓ) (g : Dev Cert.Mlp1Dx.nD → PrngReg), Pre_Mlp1Dx m →
    θ_run (Cert.Mlp1Dx.defs (F := Bits)) (onTc (τ := Cert.Mlp1Dx.τ) (Cert.Mlp1Dx.main (F := Bits))) ⟨m, fun _ => 0, g⟩ (fun r => (∀ c : Dev Cert.Mlp1Dx.nD,
      r.2.mem ((c.tc : Thread Cert.Mlp1Dx.nD Cert.Mlp1Dx.τ).loc Cert.Mlp1Dx.main_arg0) = m ((c.tc : Thread Cert.Mlp1Dx.nD Cert.Mlp1Dx.τ).loc Cert.Mlp1Dx.main_arg0)
      ∧ r.2.mem ((c.tc : Thread Cert.Mlp1Dx.nD Cert.Mlp1Dx.τ).loc Cert.Mlp1Dx.main_arg1) = m ((c.tc : Thread Cert.Mlp1Dx.nD Cert.Mlp1Dx.τ).loc Cert.Mlp1Dx.main_arg1)
      ∧ r.2.mem ((c.tc : Thread Cert.Mlp1Dx.nD Cert.Mlp1Dx.τ).loc Cert.Mlp1Dx.main_arg2) = m ((c.tc : Thread Cert.Mlp1Dx.nD Cert.Mlp1Dx.τ).loc Cert.Mlp1Dx.main_arg2))
      ∧ r.2.sem = fun _ => 0)

def quiescent_Mlp1DxIdeal [hMlp1DxIdeal : Cert.Mlp1DxIdeal.Facts] : Prop :=
  ∀ (m : (ℓ : Loc Cert.Mlp1DxIdeal.nD Cert.Mlp1DxIdeal.τ Cert.Mlp1DxIdeal.sig) → Buf (Elt Ideal) ℓ) (g : Dev Cert.Mlp1DxIdeal.nD → PrngReg), Pre_Mlp1DxIdeal m →
    θ_run (Cert.Mlp1DxIdeal.defs (F := Ideal)) (onTc (τ := Cert.Mlp1DxIdeal.τ) (Cert.Mlp1DxIdeal.main (F := Ideal))) ⟨m, fun _ => 0, g⟩ (fun r => (∀ c : Dev Cert.Mlp1DxIdeal.nD,
      r.2.mem ((c.tc : Thread Cert.Mlp1DxIdeal.nD Cert.Mlp1DxIdeal.τ).loc Cert.Mlp1DxIdeal.main_arg0) = m ((c.tc : Thread Cert.Mlp1DxIdeal.nD Cert.Mlp1DxIdeal.τ).loc Cert.Mlp1DxIdeal.main_arg0)
      ∧ r.2.mem ((c.tc : Thread Cert.Mlp1DxIdeal.nD Cert.Mlp1DxIdeal.τ).loc Cert.Mlp1DxIdeal.main_arg1) = m ((c.tc : Thread Cert.Mlp1DxIdeal.nD Cert.Mlp1DxIdeal.τ).loc Cert.Mlp1DxIdeal.main_arg1)
      ∧ r.2.mem ((c.tc : Thread Cert.Mlp1DxIdeal.nD Cert.Mlp1DxIdeal.τ).loc Cert.Mlp1DxIdeal.main_arg2) = m ((c.tc : Thread Cert.Mlp1DxIdeal.nD Cert.Mlp1DxIdeal.τ).loc Cert.Mlp1DxIdeal.main_arg2))
      ∧ r.2.sem = fun _ => 0)

def quiescent_Mlp1DxReferenceIdeal [hMlp1DxReferenceIdeal : Cert.Mlp1DxReferenceIdeal.Facts] : Prop :=
  ∀ (m : (ℓ : Loc Cert.Mlp1DxReferenceIdeal.nD Cert.Mlp1DxReferenceIdeal.τ Cert.Mlp1DxReferenceIdeal.sig) → Buf (Elt Ideal) ℓ) (g : Dev Cert.Mlp1DxReferenceIdeal.nD → PrngReg), Pre_Mlp1DxReferenceIdeal m →
    θ_run (Cert.Mlp1DxReferenceIdeal.defs (F := Ideal)) (onTc (τ := Cert.Mlp1DxReferenceIdeal.τ) (Cert.Mlp1DxReferenceIdeal.main (F := Ideal))) ⟨m, fun _ => 0, g⟩ (fun r => (∀ c : Dev Cert.Mlp1DxReferenceIdeal.nD,
      r.2.mem ((c.tc : Thread Cert.Mlp1DxReferenceIdeal.nD Cert.Mlp1DxReferenceIdeal.τ).loc Cert.Mlp1DxReferenceIdeal.main_arg0) = m ((c.tc : Thread Cert.Mlp1DxReferenceIdeal.nD Cert.Mlp1DxReferenceIdeal.τ).loc Cert.Mlp1DxReferenceIdeal.main_arg0)
      ∧ r.2.mem ((c.tc : Thread Cert.Mlp1DxReferenceIdeal.nD Cert.Mlp1DxReferenceIdeal.τ).loc Cert.Mlp1DxReferenceIdeal.main_arg1) = m ((c.tc : Thread Cert.Mlp1DxReferenceIdeal.nD Cert.Mlp1DxReferenceIdeal.τ).loc Cert.Mlp1DxReferenceIdeal.main_arg1)
      ∧ r.2.mem ((c.tc : Thread Cert.Mlp1DxReferenceIdeal.nD Cert.Mlp1DxReferenceIdeal.τ).loc Cert.Mlp1DxReferenceIdeal.main_arg2) = m ((c.tc : Thread Cert.Mlp1DxReferenceIdeal.nD Cert.Mlp1DxReferenceIdeal.τ).loc Cert.Mlp1DxReferenceIdeal.main_arg2))
      ∧ r.2.sem = fun _ => 0)

def quiescent_Mlp1Dw [hMlp1Dw : Cert.Mlp1Dw.Facts] : Prop :=
  ∀ (m : (ℓ : Loc Cert.Mlp1Dw.nD Cert.Mlp1Dw.τ Cert.Mlp1Dw.sig) → Buf (Elt Bits) ℓ) (g : Dev Cert.Mlp1Dw.nD → PrngReg), Pre_Mlp1Dw m →
    θ_run (Cert.Mlp1Dw.defs (F := Bits)) (onTc (τ := Cert.Mlp1Dw.τ) (Cert.Mlp1Dw.main (F := Bits))) ⟨m, fun _ => 0, g⟩ (fun r => (∀ c : Dev Cert.Mlp1Dw.nD,
      r.2.mem ((c.tc : Thread Cert.Mlp1Dw.nD Cert.Mlp1Dw.τ).loc Cert.Mlp1Dw.main_arg0) = m ((c.tc : Thread Cert.Mlp1Dw.nD Cert.Mlp1Dw.τ).loc Cert.Mlp1Dw.main_arg0)
      ∧ r.2.mem ((c.tc : Thread Cert.Mlp1Dw.nD Cert.Mlp1Dw.τ).loc Cert.Mlp1Dw.main_arg1) = m ((c.tc : Thread Cert.Mlp1Dw.nD Cert.Mlp1Dw.τ).loc Cert.Mlp1Dw.main_arg1)
      ∧ r.2.mem ((c.tc : Thread Cert.Mlp1Dw.nD Cert.Mlp1Dw.τ).loc Cert.Mlp1Dw.main_arg2) = m ((c.tc : Thread Cert.Mlp1Dw.nD Cert.Mlp1Dw.τ).loc Cert.Mlp1Dw.main_arg2))
      ∧ r.2.sem = fun _ => 0)

def quiescent_Mlp1DwIdeal [hMlp1DwIdeal : Cert.Mlp1DwIdeal.Facts] : Prop :=
  ∀ (m : (ℓ : Loc Cert.Mlp1DwIdeal.nD Cert.Mlp1DwIdeal.τ Cert.Mlp1DwIdeal.sig) → Buf (Elt Ideal) ℓ) (g : Dev Cert.Mlp1DwIdeal.nD → PrngReg), Pre_Mlp1DwIdeal m →
    θ_run (Cert.Mlp1DwIdeal.defs (F := Ideal)) (onTc (τ := Cert.Mlp1DwIdeal.τ) (Cert.Mlp1DwIdeal.main (F := Ideal))) ⟨m, fun _ => 0, g⟩ (fun r => (∀ c : Dev Cert.Mlp1DwIdeal.nD,
      r.2.mem ((c.tc : Thread Cert.Mlp1DwIdeal.nD Cert.Mlp1DwIdeal.τ).loc Cert.Mlp1DwIdeal.main_arg0) = m ((c.tc : Thread Cert.Mlp1DwIdeal.nD Cert.Mlp1DwIdeal.τ).loc Cert.Mlp1DwIdeal.main_arg0)
      ∧ r.2.mem ((c.tc : Thread Cert.Mlp1DwIdeal.nD Cert.Mlp1DwIdeal.τ).loc Cert.Mlp1DwIdeal.main_arg1) = m ((c.tc : Thread Cert.Mlp1DwIdeal.nD Cert.Mlp1DwIdeal.τ).loc Cert.Mlp1DwIdeal.main_arg1)
      ∧ r.2.mem ((c.tc : Thread Cert.Mlp1DwIdeal.nD Cert.Mlp1DwIdeal.τ).loc Cert.Mlp1DwIdeal.main_arg2) = m ((c.tc : Thread Cert.Mlp1DwIdeal.nD Cert.Mlp1DwIdeal.τ).loc Cert.Mlp1DwIdeal.main_arg2))
      ∧ r.2.sem = fun _ => 0)

def quiescent_Mlp1DwReferenceIdeal [hMlp1DwReferenceIdeal : Cert.Mlp1DwReferenceIdeal.Facts] : Prop :=
  ∀ (m : (ℓ : Loc Cert.Mlp1DwReferenceIdeal.nD Cert.Mlp1DwReferenceIdeal.τ Cert.Mlp1DwReferenceIdeal.sig) → Buf (Elt Ideal) ℓ) (g : Dev Cert.Mlp1DwReferenceIdeal.nD → PrngReg), Pre_Mlp1DwReferenceIdeal m →
    θ_run (Cert.Mlp1DwReferenceIdeal.defs (F := Ideal)) (onTc (τ := Cert.Mlp1DwReferenceIdeal.τ) (Cert.Mlp1DwReferenceIdeal.main (F := Ideal))) ⟨m, fun _ => 0, g⟩ (fun r => (∀ c : Dev Cert.Mlp1DwReferenceIdeal.nD,
      r.2.mem ((c.tc : Thread Cert.Mlp1DwReferenceIdeal.nD Cert.Mlp1DwReferenceIdeal.τ).loc Cert.Mlp1DwReferenceIdeal.main_arg0) = m ((c.tc : Thread Cert.Mlp1DwReferenceIdeal.nD Cert.Mlp1DwReferenceIdeal.τ).loc Cert.Mlp1DwReferenceIdeal.main_arg0)
      ∧ r.2.mem ((c.tc : Thread Cert.Mlp1DwReferenceIdeal.nD Cert.Mlp1DwReferenceIdeal.τ).loc Cert.Mlp1DwReferenceIdeal.main_arg1) = m ((c.tc : Thread Cert.Mlp1DwReferenceIdeal.nD Cert.Mlp1DwReferenceIdeal.τ).loc Cert.Mlp1DwReferenceIdeal.main_arg1)
      ∧ r.2.mem ((c.tc : Thread Cert.Mlp1DwReferenceIdeal.nD Cert.Mlp1DwReferenceIdeal.τ).loc Cert.Mlp1DwReferenceIdeal.main_arg2) = m ((c.tc : Thread Cert.Mlp1DwReferenceIdeal.nD Cert.Mlp1DwReferenceIdeal.τ).loc Cert.Mlp1DwReferenceIdeal.main_arg2))
      ∧ r.2.sem = fun _ => 0)

def quiescent_WOutDx [hWOutDx : Cert.WOutDx.Facts] : Prop :=
  ∀ (m : (ℓ : Loc Cert.WOutDx.nD Cert.WOutDx.τ Cert.WOutDx.sig) → Buf (Elt Bits) ℓ) (g : Dev Cert.WOutDx.nD → PrngReg), Pre_WOutDx m →
    θ_run (Cert.WOutDx.defs (F := Bits)) (onTc (τ := Cert.WOutDx.τ) (Cert.WOutDx.main (F := Bits))) ⟨m, fun _ => 0, g⟩ (fun r => (∀ c : Dev Cert.WOutDx.nD,
      r.2.mem ((c.tc : Thread Cert.WOutDx.nD Cert.WOutDx.τ).loc Cert.WOutDx.main_arg0) = m ((c.tc : Thread Cert.WOutDx.nD Cert.WOutDx.τ).loc Cert.WOutDx.main_arg0)
      ∧ r.2.mem ((c.tc : Thread Cert.WOutDx.nD Cert.WOutDx.τ).loc Cert.WOutDx.main_arg1) = m ((c.tc : Thread Cert.WOutDx.nD Cert.WOutDx.τ).loc Cert.WOutDx.main_arg1)
      ∧ r.2.mem ((c.tc : Thread Cert.WOutDx.nD Cert.WOutDx.τ).loc Cert.WOutDx.main_arg2) = m ((c.tc : Thread Cert.WOutDx.nD Cert.WOutDx.τ).loc Cert.WOutDx.main_arg2))
      ∧ r.2.sem = fun _ => 0)

def quiescent_WOutDxIdeal [hWOutDxIdeal : Cert.WOutDxIdeal.Facts] : Prop :=
  ∀ (m : (ℓ : Loc Cert.WOutDxIdeal.nD Cert.WOutDxIdeal.τ Cert.WOutDxIdeal.sig) → Buf (Elt Ideal) ℓ) (g : Dev Cert.WOutDxIdeal.nD → PrngReg), Pre_WOutDxIdeal m →
    θ_run (Cert.WOutDxIdeal.defs (F := Ideal)) (onTc (τ := Cert.WOutDxIdeal.τ) (Cert.WOutDxIdeal.main (F := Ideal))) ⟨m, fun _ => 0, g⟩ (fun r => (∀ c : Dev Cert.WOutDxIdeal.nD,
      r.2.mem ((c.tc : Thread Cert.WOutDxIdeal.nD Cert.WOutDxIdeal.τ).loc Cert.WOutDxIdeal.main_arg0) = m ((c.tc : Thread Cert.WOutDxIdeal.nD Cert.WOutDxIdeal.τ).loc Cert.WOutDxIdeal.main_arg0)
      ∧ r.2.mem ((c.tc : Thread Cert.WOutDxIdeal.nD Cert.WOutDxIdeal.τ).loc Cert.WOutDxIdeal.main_arg1) = m ((c.tc : Thread Cert.WOutDxIdeal.nD Cert.WOutDxIdeal.τ).loc Cert.WOutDxIdeal.main_arg1)
      ∧ r.2.mem ((c.tc : Thread Cert.WOutDxIdeal.nD Cert.WOutDxIdeal.τ).loc Cert.WOutDxIdeal.main_arg2) = m ((c.tc : Thread Cert.WOutDxIdeal.nD Cert.WOutDxIdeal.τ).loc Cert.WOutDxIdeal.main_arg2))
      ∧ r.2.sem = fun _ => 0)

def quiescent_WOutDxReferenceIdeal [hWOutDxReferenceIdeal : Cert.WOutDxReferenceIdeal.Facts] : Prop :=
  ∀ (m : (ℓ : Loc Cert.WOutDxReferenceIdeal.nD Cert.WOutDxReferenceIdeal.τ Cert.WOutDxReferenceIdeal.sig) → Buf (Elt Ideal) ℓ) (g : Dev Cert.WOutDxReferenceIdeal.nD → PrngReg), Pre_WOutDxReferenceIdeal m →
    θ_run (Cert.WOutDxReferenceIdeal.defs (F := Ideal)) (onTc (τ := Cert.WOutDxReferenceIdeal.τ) (Cert.WOutDxReferenceIdeal.main (F := Ideal))) ⟨m, fun _ => 0, g⟩ (fun r => (∀ c : Dev Cert.WOutDxReferenceIdeal.nD,
      r.2.mem ((c.tc : Thread Cert.WOutDxReferenceIdeal.nD Cert.WOutDxReferenceIdeal.τ).loc Cert.WOutDxReferenceIdeal.main_arg0) = m ((c.tc : Thread Cert.WOutDxReferenceIdeal.nD Cert.WOutDxReferenceIdeal.τ).loc Cert.WOutDxReferenceIdeal.main_arg0)
      ∧ r.2.mem ((c.tc : Thread Cert.WOutDxReferenceIdeal.nD Cert.WOutDxReferenceIdeal.τ).loc Cert.WOutDxReferenceIdeal.main_arg1) = m ((c.tc : Thread Cert.WOutDxReferenceIdeal.nD Cert.WOutDxReferenceIdeal.τ).loc Cert.WOutDxReferenceIdeal.main_arg1)
      ∧ r.2.mem ((c.tc : Thread Cert.WOutDxReferenceIdeal.nD Cert.WOutDxReferenceIdeal.τ).loc Cert.WOutDxReferenceIdeal.main_arg2) = m ((c.tc : Thread Cert.WOutDxReferenceIdeal.nD Cert.WOutDxReferenceIdeal.τ).loc Cert.WOutDxReferenceIdeal.main_arg2))
      ∧ r.2.sem = fun _ => 0)

def quiescent_WOutDw [hWOutDw : Cert.WOutDw.Facts] : Prop :=
  ∀ (m : (ℓ : Loc Cert.WOutDw.nD Cert.WOutDw.τ Cert.WOutDw.sig) → Buf (Elt Bits) ℓ) (g : Dev Cert.WOutDw.nD → PrngReg), Pre_WOutDw m →
    θ_run (Cert.WOutDw.defs (F := Bits)) (onTc (τ := Cert.WOutDw.τ) (Cert.WOutDw.main (F := Bits))) ⟨m, fun _ => 0, g⟩ (fun r => (∀ c : Dev Cert.WOutDw.nD,
      r.2.mem ((c.tc : Thread Cert.WOutDw.nD Cert.WOutDw.τ).loc Cert.WOutDw.main_arg0) = m ((c.tc : Thread Cert.WOutDw.nD Cert.WOutDw.τ).loc Cert.WOutDw.main_arg0)
      ∧ r.2.mem ((c.tc : Thread Cert.WOutDw.nD Cert.WOutDw.τ).loc Cert.WOutDw.main_arg1) = m ((c.tc : Thread Cert.WOutDw.nD Cert.WOutDw.τ).loc Cert.WOutDw.main_arg1)
      ∧ r.2.mem ((c.tc : Thread Cert.WOutDw.nD Cert.WOutDw.τ).loc Cert.WOutDw.main_arg2) = m ((c.tc : Thread Cert.WOutDw.nD Cert.WOutDw.τ).loc Cert.WOutDw.main_arg2))
      ∧ r.2.sem = fun _ => 0)

def quiescent_WOutDwIdeal [hWOutDwIdeal : Cert.WOutDwIdeal.Facts] : Prop :=
  ∀ (m : (ℓ : Loc Cert.WOutDwIdeal.nD Cert.WOutDwIdeal.τ Cert.WOutDwIdeal.sig) → Buf (Elt Ideal) ℓ) (g : Dev Cert.WOutDwIdeal.nD → PrngReg), Pre_WOutDwIdeal m →
    θ_run (Cert.WOutDwIdeal.defs (F := Ideal)) (onTc (τ := Cert.WOutDwIdeal.τ) (Cert.WOutDwIdeal.main (F := Ideal))) ⟨m, fun _ => 0, g⟩ (fun r => (∀ c : Dev Cert.WOutDwIdeal.nD,
      r.2.mem ((c.tc : Thread Cert.WOutDwIdeal.nD Cert.WOutDwIdeal.τ).loc Cert.WOutDwIdeal.main_arg0) = m ((c.tc : Thread Cert.WOutDwIdeal.nD Cert.WOutDwIdeal.τ).loc Cert.WOutDwIdeal.main_arg0)
      ∧ r.2.mem ((c.tc : Thread Cert.WOutDwIdeal.nD Cert.WOutDwIdeal.τ).loc Cert.WOutDwIdeal.main_arg1) = m ((c.tc : Thread Cert.WOutDwIdeal.nD Cert.WOutDwIdeal.τ).loc Cert.WOutDwIdeal.main_arg1)
      ∧ r.2.mem ((c.tc : Thread Cert.WOutDwIdeal.nD Cert.WOutDwIdeal.τ).loc Cert.WOutDwIdeal.main_arg2) = m ((c.tc : Thread Cert.WOutDwIdeal.nD Cert.WOutDwIdeal.τ).loc Cert.WOutDwIdeal.main_arg2))
      ∧ r.2.sem = fun _ => 0)

def quiescent_WOutDwReferenceIdeal [hWOutDwReferenceIdeal : Cert.WOutDwReferenceIdeal.Facts] : Prop :=
  ∀ (m : (ℓ : Loc Cert.WOutDwReferenceIdeal.nD Cert.WOutDwReferenceIdeal.τ Cert.WOutDwReferenceIdeal.sig) → Buf (Elt Ideal) ℓ) (g : Dev Cert.WOutDwReferenceIdeal.nD → PrngReg), Pre_WOutDwReferenceIdeal m →
    θ_run (Cert.WOutDwReferenceIdeal.defs (F := Ideal)) (onTc (τ := Cert.WOutDwReferenceIdeal.τ) (Cert.WOutDwReferenceIdeal.main (F := Ideal))) ⟨m, fun _ => 0, g⟩ (fun r => (∀ c : Dev Cert.WOutDwReferenceIdeal.nD,
      r.2.mem ((c.tc : Thread Cert.WOutDwReferenceIdeal.nD Cert.WOutDwReferenceIdeal.τ).loc Cert.WOutDwReferenceIdeal.main_arg0) = m ((c.tc : Thread Cert.WOutDwReferenceIdeal.nD Cert.WOutDwReferenceIdeal.τ).loc Cert.WOutDwReferenceIdeal.main_arg0)
      ∧ r.2.mem ((c.tc : Thread Cert.WOutDwReferenceIdeal.nD Cert.WOutDwReferenceIdeal.τ).loc Cert.WOutDwReferenceIdeal.main_arg1) = m ((c.tc : Thread Cert.WOutDwReferenceIdeal.nD Cert.WOutDwReferenceIdeal.τ).loc Cert.WOutDwReferenceIdeal.main_arg1)
      ∧ r.2.mem ((c.tc : Thread Cert.WOutDwReferenceIdeal.nD Cert.WOutDwReferenceIdeal.τ).loc Cert.WOutDwReferenceIdeal.main_arg2) = m ((c.tc : Thread Cert.WOutDwReferenceIdeal.nD Cert.WOutDwReferenceIdeal.τ).loc Cert.WOutDwReferenceIdeal.main_arg2))
      ∧ r.2.sem = fun _ => 0)

def quiescent_GlaOutDx [hGlaOutDx : Cert.GlaOutDx.Facts] : Prop :=
  ∀ (m : (ℓ : Loc Cert.GlaOutDx.nD Cert.GlaOutDx.τ Cert.GlaOutDx.sig) → Buf (Elt Bits) ℓ) (g : Dev Cert.GlaOutDx.nD → PrngReg), Pre_GlaOutDx m →
    θ_run (Cert.GlaOutDx.defs (F := Bits)) (onTc (τ := Cert.GlaOutDx.τ) (Cert.GlaOutDx.main (F := Bits))) ⟨m, fun _ => 0, g⟩ (fun r => (∀ c : Dev Cert.GlaOutDx.nD,
      r.2.mem ((c.tc : Thread Cert.GlaOutDx.nD Cert.GlaOutDx.τ).loc Cert.GlaOutDx.main_arg0) = m ((c.tc : Thread Cert.GlaOutDx.nD Cert.GlaOutDx.τ).loc Cert.GlaOutDx.main_arg0)
      ∧ r.2.mem ((c.tc : Thread Cert.GlaOutDx.nD Cert.GlaOutDx.τ).loc Cert.GlaOutDx.main_arg1) = m ((c.tc : Thread Cert.GlaOutDx.nD Cert.GlaOutDx.τ).loc Cert.GlaOutDx.main_arg1)
      ∧ r.2.mem ((c.tc : Thread Cert.GlaOutDx.nD Cert.GlaOutDx.τ).loc Cert.GlaOutDx.main_arg2) = m ((c.tc : Thread Cert.GlaOutDx.nD Cert.GlaOutDx.τ).loc Cert.GlaOutDx.main_arg2))
      ∧ r.2.sem = fun _ => 0)

def quiescent_GlaOutDxIdeal [hGlaOutDxIdeal : Cert.GlaOutDxIdeal.Facts] : Prop :=
  ∀ (m : (ℓ : Loc Cert.GlaOutDxIdeal.nD Cert.GlaOutDxIdeal.τ Cert.GlaOutDxIdeal.sig) → Buf (Elt Ideal) ℓ) (g : Dev Cert.GlaOutDxIdeal.nD → PrngReg), Pre_GlaOutDxIdeal m →
    θ_run (Cert.GlaOutDxIdeal.defs (F := Ideal)) (onTc (τ := Cert.GlaOutDxIdeal.τ) (Cert.GlaOutDxIdeal.main (F := Ideal))) ⟨m, fun _ => 0, g⟩ (fun r => (∀ c : Dev Cert.GlaOutDxIdeal.nD,
      r.2.mem ((c.tc : Thread Cert.GlaOutDxIdeal.nD Cert.GlaOutDxIdeal.τ).loc Cert.GlaOutDxIdeal.main_arg0) = m ((c.tc : Thread Cert.GlaOutDxIdeal.nD Cert.GlaOutDxIdeal.τ).loc Cert.GlaOutDxIdeal.main_arg0)
      ∧ r.2.mem ((c.tc : Thread Cert.GlaOutDxIdeal.nD Cert.GlaOutDxIdeal.τ).loc Cert.GlaOutDxIdeal.main_arg1) = m ((c.tc : Thread Cert.GlaOutDxIdeal.nD Cert.GlaOutDxIdeal.τ).loc Cert.GlaOutDxIdeal.main_arg1)
      ∧ r.2.mem ((c.tc : Thread Cert.GlaOutDxIdeal.nD Cert.GlaOutDxIdeal.τ).loc Cert.GlaOutDxIdeal.main_arg2) = m ((c.tc : Thread Cert.GlaOutDxIdeal.nD Cert.GlaOutDxIdeal.τ).loc Cert.GlaOutDxIdeal.main_arg2))
      ∧ r.2.sem = fun _ => 0)

def quiescent_GlaOutDxReferenceIdeal [hGlaOutDxReferenceIdeal : Cert.GlaOutDxReferenceIdeal.Facts] : Prop :=
  ∀ (m : (ℓ : Loc Cert.GlaOutDxReferenceIdeal.nD Cert.GlaOutDxReferenceIdeal.τ Cert.GlaOutDxReferenceIdeal.sig) → Buf (Elt Ideal) ℓ) (g : Dev Cert.GlaOutDxReferenceIdeal.nD → PrngReg), Pre_GlaOutDxReferenceIdeal m →
    θ_run (Cert.GlaOutDxReferenceIdeal.defs (F := Ideal)) (onTc (τ := Cert.GlaOutDxReferenceIdeal.τ) (Cert.GlaOutDxReferenceIdeal.main (F := Ideal))) ⟨m, fun _ => 0, g⟩ (fun r => (∀ c : Dev Cert.GlaOutDxReferenceIdeal.nD,
      r.2.mem ((c.tc : Thread Cert.GlaOutDxReferenceIdeal.nD Cert.GlaOutDxReferenceIdeal.τ).loc Cert.GlaOutDxReferenceIdeal.main_arg0) = m ((c.tc : Thread Cert.GlaOutDxReferenceIdeal.nD Cert.GlaOutDxReferenceIdeal.τ).loc Cert.GlaOutDxReferenceIdeal.main_arg0)
      ∧ r.2.mem ((c.tc : Thread Cert.GlaOutDxReferenceIdeal.nD Cert.GlaOutDxReferenceIdeal.τ).loc Cert.GlaOutDxReferenceIdeal.main_arg1) = m ((c.tc : Thread Cert.GlaOutDxReferenceIdeal.nD Cert.GlaOutDxReferenceIdeal.τ).loc Cert.GlaOutDxReferenceIdeal.main_arg1)
      ∧ r.2.mem ((c.tc : Thread Cert.GlaOutDxReferenceIdeal.nD Cert.GlaOutDxReferenceIdeal.τ).loc Cert.GlaOutDxReferenceIdeal.main_arg2) = m ((c.tc : Thread Cert.GlaOutDxReferenceIdeal.nD Cert.GlaOutDxReferenceIdeal.τ).loc Cert.GlaOutDxReferenceIdeal.main_arg2))
      ∧ r.2.sem = fun _ => 0)

def quiescent_GlaOutDw [hGlaOutDw : Cert.GlaOutDw.Facts] : Prop :=
  ∀ (m : (ℓ : Loc Cert.GlaOutDw.nD Cert.GlaOutDw.τ Cert.GlaOutDw.sig) → Buf (Elt Bits) ℓ) (g : Dev Cert.GlaOutDw.nD → PrngReg), Pre_GlaOutDw m →
    θ_run (Cert.GlaOutDw.defs (F := Bits)) (onTc (τ := Cert.GlaOutDw.τ) (Cert.GlaOutDw.main (F := Bits))) ⟨m, fun _ => 0, g⟩ (fun r => (∀ c : Dev Cert.GlaOutDw.nD,
      r.2.mem ((c.tc : Thread Cert.GlaOutDw.nD Cert.GlaOutDw.τ).loc Cert.GlaOutDw.main_arg0) = m ((c.tc : Thread Cert.GlaOutDw.nD Cert.GlaOutDw.τ).loc Cert.GlaOutDw.main_arg0)
      ∧ r.2.mem ((c.tc : Thread Cert.GlaOutDw.nD Cert.GlaOutDw.τ).loc Cert.GlaOutDw.main_arg1) = m ((c.tc : Thread Cert.GlaOutDw.nD Cert.GlaOutDw.τ).loc Cert.GlaOutDw.main_arg1)
      ∧ r.2.mem ((c.tc : Thread Cert.GlaOutDw.nD Cert.GlaOutDw.τ).loc Cert.GlaOutDw.main_arg2) = m ((c.tc : Thread Cert.GlaOutDw.nD Cert.GlaOutDw.τ).loc Cert.GlaOutDw.main_arg2))
      ∧ r.2.sem = fun _ => 0)

def quiescent_GlaOutDwIdeal [hGlaOutDwIdeal : Cert.GlaOutDwIdeal.Facts] : Prop :=
  ∀ (m : (ℓ : Loc Cert.GlaOutDwIdeal.nD Cert.GlaOutDwIdeal.τ Cert.GlaOutDwIdeal.sig) → Buf (Elt Ideal) ℓ) (g : Dev Cert.GlaOutDwIdeal.nD → PrngReg), Pre_GlaOutDwIdeal m →
    θ_run (Cert.GlaOutDwIdeal.defs (F := Ideal)) (onTc (τ := Cert.GlaOutDwIdeal.τ) (Cert.GlaOutDwIdeal.main (F := Ideal))) ⟨m, fun _ => 0, g⟩ (fun r => (∀ c : Dev Cert.GlaOutDwIdeal.nD,
      r.2.mem ((c.tc : Thread Cert.GlaOutDwIdeal.nD Cert.GlaOutDwIdeal.τ).loc Cert.GlaOutDwIdeal.main_arg0) = m ((c.tc : Thread Cert.GlaOutDwIdeal.nD Cert.GlaOutDwIdeal.τ).loc Cert.GlaOutDwIdeal.main_arg0)
      ∧ r.2.mem ((c.tc : Thread Cert.GlaOutDwIdeal.nD Cert.GlaOutDwIdeal.τ).loc Cert.GlaOutDwIdeal.main_arg1) = m ((c.tc : Thread Cert.GlaOutDwIdeal.nD Cert.GlaOutDwIdeal.τ).loc Cert.GlaOutDwIdeal.main_arg1)
      ∧ r.2.mem ((c.tc : Thread Cert.GlaOutDwIdeal.nD Cert.GlaOutDwIdeal.τ).loc Cert.GlaOutDwIdeal.main_arg2) = m ((c.tc : Thread Cert.GlaOutDwIdeal.nD Cert.GlaOutDwIdeal.τ).loc Cert.GlaOutDwIdeal.main_arg2))
      ∧ r.2.sem = fun _ => 0)

def quiescent_GlaOutDwReferenceIdeal [hGlaOutDwReferenceIdeal : Cert.GlaOutDwReferenceIdeal.Facts] : Prop :=
  ∀ (m : (ℓ : Loc Cert.GlaOutDwReferenceIdeal.nD Cert.GlaOutDwReferenceIdeal.τ Cert.GlaOutDwReferenceIdeal.sig) → Buf (Elt Ideal) ℓ) (g : Dev Cert.GlaOutDwReferenceIdeal.nD → PrngReg), Pre_GlaOutDwReferenceIdeal m →
    θ_run (Cert.GlaOutDwReferenceIdeal.defs (F := Ideal)) (onTc (τ := Cert.GlaOutDwReferenceIdeal.τ) (Cert.GlaOutDwReferenceIdeal.main (F := Ideal))) ⟨m, fun _ => 0, g⟩ (fun r => (∀ c : Dev Cert.GlaOutDwReferenceIdeal.nD,
      r.2.mem ((c.tc : Thread Cert.GlaOutDwReferenceIdeal.nD Cert.GlaOutDwReferenceIdeal.τ).loc Cert.GlaOutDwReferenceIdeal.main_arg0) = m ((c.tc : Thread Cert.GlaOutDwReferenceIdeal.nD Cert.GlaOutDwReferenceIdeal.τ).loc Cert.GlaOutDwReferenceIdeal.main_arg0)
      ∧ r.2.mem ((c.tc : Thread Cert.GlaOutDwReferenceIdeal.nD Cert.GlaOutDwReferenceIdeal.τ).loc Cert.GlaOutDwReferenceIdeal.main_arg1) = m ((c.tc : Thread Cert.GlaOutDwReferenceIdeal.nD Cert.GlaOutDwReferenceIdeal.τ).loc Cert.GlaOutDwReferenceIdeal.main_arg1)
      ∧ r.2.mem ((c.tc : Thread Cert.GlaOutDwReferenceIdeal.nD Cert.GlaOutDwReferenceIdeal.τ).loc Cert.GlaOutDwReferenceIdeal.main_arg2) = m ((c.tc : Thread Cert.GlaOutDwReferenceIdeal.nD Cert.GlaOutDwReferenceIdeal.τ).loc Cert.GlaOutDwReferenceIdeal.main_arg2))
      ∧ r.2.sem = fun _ => 0)

def quiescent_MlaOutDx [hMlaOutDx : Cert.MlaOutDx.Facts] : Prop :=
  ∀ (m : (ℓ : Loc Cert.MlaOutDx.nD Cert.MlaOutDx.τ Cert.MlaOutDx.sig) → Buf (Elt Bits) ℓ) (g : Dev Cert.MlaOutDx.nD → PrngReg), Pre_MlaOutDx m →
    θ_run (Cert.MlaOutDx.defs (F := Bits)) (onTc (τ := Cert.MlaOutDx.τ) (Cert.MlaOutDx.main (F := Bits))) ⟨m, fun _ => 0, g⟩ (fun r => (∀ c : Dev Cert.MlaOutDx.nD,
      r.2.mem ((c.tc : Thread Cert.MlaOutDx.nD Cert.MlaOutDx.τ).loc Cert.MlaOutDx.main_arg0) = m ((c.tc : Thread Cert.MlaOutDx.nD Cert.MlaOutDx.τ).loc Cert.MlaOutDx.main_arg0)
      ∧ r.2.mem ((c.tc : Thread Cert.MlaOutDx.nD Cert.MlaOutDx.τ).loc Cert.MlaOutDx.main_arg1) = m ((c.tc : Thread Cert.MlaOutDx.nD Cert.MlaOutDx.τ).loc Cert.MlaOutDx.main_arg1)
      ∧ r.2.mem ((c.tc : Thread Cert.MlaOutDx.nD Cert.MlaOutDx.τ).loc Cert.MlaOutDx.main_arg2) = m ((c.tc : Thread Cert.MlaOutDx.nD Cert.MlaOutDx.τ).loc Cert.MlaOutDx.main_arg2))
      ∧ r.2.sem = fun _ => 0)

def quiescent_MlaOutDxIdeal [hMlaOutDxIdeal : Cert.MlaOutDxIdeal.Facts] : Prop :=
  ∀ (m : (ℓ : Loc Cert.MlaOutDxIdeal.nD Cert.MlaOutDxIdeal.τ Cert.MlaOutDxIdeal.sig) → Buf (Elt Ideal) ℓ) (g : Dev Cert.MlaOutDxIdeal.nD → PrngReg), Pre_MlaOutDxIdeal m →
    θ_run (Cert.MlaOutDxIdeal.defs (F := Ideal)) (onTc (τ := Cert.MlaOutDxIdeal.τ) (Cert.MlaOutDxIdeal.main (F := Ideal))) ⟨m, fun _ => 0, g⟩ (fun r => (∀ c : Dev Cert.MlaOutDxIdeal.nD,
      r.2.mem ((c.tc : Thread Cert.MlaOutDxIdeal.nD Cert.MlaOutDxIdeal.τ).loc Cert.MlaOutDxIdeal.main_arg0) = m ((c.tc : Thread Cert.MlaOutDxIdeal.nD Cert.MlaOutDxIdeal.τ).loc Cert.MlaOutDxIdeal.main_arg0)
      ∧ r.2.mem ((c.tc : Thread Cert.MlaOutDxIdeal.nD Cert.MlaOutDxIdeal.τ).loc Cert.MlaOutDxIdeal.main_arg1) = m ((c.tc : Thread Cert.MlaOutDxIdeal.nD Cert.MlaOutDxIdeal.τ).loc Cert.MlaOutDxIdeal.main_arg1)
      ∧ r.2.mem ((c.tc : Thread Cert.MlaOutDxIdeal.nD Cert.MlaOutDxIdeal.τ).loc Cert.MlaOutDxIdeal.main_arg2) = m ((c.tc : Thread Cert.MlaOutDxIdeal.nD Cert.MlaOutDxIdeal.τ).loc Cert.MlaOutDxIdeal.main_arg2))
      ∧ r.2.sem = fun _ => 0)

def quiescent_MlaOutDxReferenceIdeal [hMlaOutDxReferenceIdeal : Cert.MlaOutDxReferenceIdeal.Facts] : Prop :=
  ∀ (m : (ℓ : Loc Cert.MlaOutDxReferenceIdeal.nD Cert.MlaOutDxReferenceIdeal.τ Cert.MlaOutDxReferenceIdeal.sig) → Buf (Elt Ideal) ℓ) (g : Dev Cert.MlaOutDxReferenceIdeal.nD → PrngReg), Pre_MlaOutDxReferenceIdeal m →
    θ_run (Cert.MlaOutDxReferenceIdeal.defs (F := Ideal)) (onTc (τ := Cert.MlaOutDxReferenceIdeal.τ) (Cert.MlaOutDxReferenceIdeal.main (F := Ideal))) ⟨m, fun _ => 0, g⟩ (fun r => (∀ c : Dev Cert.MlaOutDxReferenceIdeal.nD,
      r.2.mem ((c.tc : Thread Cert.MlaOutDxReferenceIdeal.nD Cert.MlaOutDxReferenceIdeal.τ).loc Cert.MlaOutDxReferenceIdeal.main_arg0) = m ((c.tc : Thread Cert.MlaOutDxReferenceIdeal.nD Cert.MlaOutDxReferenceIdeal.τ).loc Cert.MlaOutDxReferenceIdeal.main_arg0)
      ∧ r.2.mem ((c.tc : Thread Cert.MlaOutDxReferenceIdeal.nD Cert.MlaOutDxReferenceIdeal.τ).loc Cert.MlaOutDxReferenceIdeal.main_arg1) = m ((c.tc : Thread Cert.MlaOutDxReferenceIdeal.nD Cert.MlaOutDxReferenceIdeal.τ).loc Cert.MlaOutDxReferenceIdeal.main_arg1)
      ∧ r.2.mem ((c.tc : Thread Cert.MlaOutDxReferenceIdeal.nD Cert.MlaOutDxReferenceIdeal.τ).loc Cert.MlaOutDxReferenceIdeal.main_arg2) = m ((c.tc : Thread Cert.MlaOutDxReferenceIdeal.nD Cert.MlaOutDxReferenceIdeal.τ).loc Cert.MlaOutDxReferenceIdeal.main_arg2))
      ∧ r.2.sem = fun _ => 0)

def quiescent_MlaOutDw [hMlaOutDw : Cert.MlaOutDw.Facts] : Prop :=
  ∀ (m : (ℓ : Loc Cert.MlaOutDw.nD Cert.MlaOutDw.τ Cert.MlaOutDw.sig) → Buf (Elt Bits) ℓ) (g : Dev Cert.MlaOutDw.nD → PrngReg), Pre_MlaOutDw m →
    θ_run (Cert.MlaOutDw.defs (F := Bits)) (onTc (τ := Cert.MlaOutDw.τ) (Cert.MlaOutDw.main (F := Bits))) ⟨m, fun _ => 0, g⟩ (fun r => (∀ c : Dev Cert.MlaOutDw.nD,
      r.2.mem ((c.tc : Thread Cert.MlaOutDw.nD Cert.MlaOutDw.τ).loc Cert.MlaOutDw.main_arg0) = m ((c.tc : Thread Cert.MlaOutDw.nD Cert.MlaOutDw.τ).loc Cert.MlaOutDw.main_arg0)
      ∧ r.2.mem ((c.tc : Thread Cert.MlaOutDw.nD Cert.MlaOutDw.τ).loc Cert.MlaOutDw.main_arg1) = m ((c.tc : Thread Cert.MlaOutDw.nD Cert.MlaOutDw.τ).loc Cert.MlaOutDw.main_arg1)
      ∧ r.2.mem ((c.tc : Thread Cert.MlaOutDw.nD Cert.MlaOutDw.τ).loc Cert.MlaOutDw.main_arg2) = m ((c.tc : Thread Cert.MlaOutDw.nD Cert.MlaOutDw.τ).loc Cert.MlaOutDw.main_arg2))
      ∧ r.2.sem = fun _ => 0)

def quiescent_MlaOutDwIdeal [hMlaOutDwIdeal : Cert.MlaOutDwIdeal.Facts] : Prop :=
  ∀ (m : (ℓ : Loc Cert.MlaOutDwIdeal.nD Cert.MlaOutDwIdeal.τ Cert.MlaOutDwIdeal.sig) → Buf (Elt Ideal) ℓ) (g : Dev Cert.MlaOutDwIdeal.nD → PrngReg), Pre_MlaOutDwIdeal m →
    θ_run (Cert.MlaOutDwIdeal.defs (F := Ideal)) (onTc (τ := Cert.MlaOutDwIdeal.τ) (Cert.MlaOutDwIdeal.main (F := Ideal))) ⟨m, fun _ => 0, g⟩ (fun r => (∀ c : Dev Cert.MlaOutDwIdeal.nD,
      r.2.mem ((c.tc : Thread Cert.MlaOutDwIdeal.nD Cert.MlaOutDwIdeal.τ).loc Cert.MlaOutDwIdeal.main_arg0) = m ((c.tc : Thread Cert.MlaOutDwIdeal.nD Cert.MlaOutDwIdeal.τ).loc Cert.MlaOutDwIdeal.main_arg0)
      ∧ r.2.mem ((c.tc : Thread Cert.MlaOutDwIdeal.nD Cert.MlaOutDwIdeal.τ).loc Cert.MlaOutDwIdeal.main_arg1) = m ((c.tc : Thread Cert.MlaOutDwIdeal.nD Cert.MlaOutDwIdeal.τ).loc Cert.MlaOutDwIdeal.main_arg1)
      ∧ r.2.mem ((c.tc : Thread Cert.MlaOutDwIdeal.nD Cert.MlaOutDwIdeal.τ).loc Cert.MlaOutDwIdeal.main_arg2) = m ((c.tc : Thread Cert.MlaOutDwIdeal.nD Cert.MlaOutDwIdeal.τ).loc Cert.MlaOutDwIdeal.main_arg2))
      ∧ r.2.sem = fun _ => 0)

def quiescent_MlaOutDwReferenceIdeal [hMlaOutDwReferenceIdeal : Cert.MlaOutDwReferenceIdeal.Facts] : Prop :=
  ∀ (m : (ℓ : Loc Cert.MlaOutDwReferenceIdeal.nD Cert.MlaOutDwReferenceIdeal.τ Cert.MlaOutDwReferenceIdeal.sig) → Buf (Elt Ideal) ℓ) (g : Dev Cert.MlaOutDwReferenceIdeal.nD → PrngReg), Pre_MlaOutDwReferenceIdeal m →
    θ_run (Cert.MlaOutDwReferenceIdeal.defs (F := Ideal)) (onTc (τ := Cert.MlaOutDwReferenceIdeal.τ) (Cert.MlaOutDwReferenceIdeal.main (F := Ideal))) ⟨m, fun _ => 0, g⟩ (fun r => (∀ c : Dev Cert.MlaOutDwReferenceIdeal.nD,
      r.2.mem ((c.tc : Thread Cert.MlaOutDwReferenceIdeal.nD Cert.MlaOutDwReferenceIdeal.τ).loc Cert.MlaOutDwReferenceIdeal.main_arg0) = m ((c.tc : Thread Cert.MlaOutDwReferenceIdeal.nD Cert.MlaOutDwReferenceIdeal.τ).loc Cert.MlaOutDwReferenceIdeal.main_arg0)
      ∧ r.2.mem ((c.tc : Thread Cert.MlaOutDwReferenceIdeal.nD Cert.MlaOutDwReferenceIdeal.τ).loc Cert.MlaOutDwReferenceIdeal.main_arg1) = m ((c.tc : Thread Cert.MlaOutDwReferenceIdeal.nD Cert.MlaOutDwReferenceIdeal.τ).loc Cert.MlaOutDwReferenceIdeal.main_arg1)
      ∧ r.2.mem ((c.tc : Thread Cert.MlaOutDwReferenceIdeal.nD Cert.MlaOutDwReferenceIdeal.τ).loc Cert.MlaOutDwReferenceIdeal.main_arg2) = m ((c.tc : Thread Cert.MlaOutDwReferenceIdeal.nD Cert.MlaOutDwReferenceIdeal.τ).loc Cert.MlaOutDwReferenceIdeal.main_arg2))
      ∧ r.2.sem = fun _ => 0)

def quiescent_MlaUqDx [hMlaUqDx : Cert.MlaUqDx.Facts] : Prop :=
  ∀ (m : (ℓ : Loc Cert.MlaUqDx.nD Cert.MlaUqDx.τ Cert.MlaUqDx.sig) → Buf (Elt Bits) ℓ) (g : Dev Cert.MlaUqDx.nD → PrngReg), Pre_MlaUqDx m →
    θ_run (Cert.MlaUqDx.defs (F := Bits)) (onTc (τ := Cert.MlaUqDx.τ) (Cert.MlaUqDx.main (F := Bits))) ⟨m, fun _ => 0, g⟩ (fun r => (∀ c : Dev Cert.MlaUqDx.nD,
      r.2.mem ((c.tc : Thread Cert.MlaUqDx.nD Cert.MlaUqDx.τ).loc Cert.MlaUqDx.main_arg0) = m ((c.tc : Thread Cert.MlaUqDx.nD Cert.MlaUqDx.τ).loc Cert.MlaUqDx.main_arg0)
      ∧ r.2.mem ((c.tc : Thread Cert.MlaUqDx.nD Cert.MlaUqDx.τ).loc Cert.MlaUqDx.main_arg1) = m ((c.tc : Thread Cert.MlaUqDx.nD Cert.MlaUqDx.τ).loc Cert.MlaUqDx.main_arg1)
      ∧ r.2.mem ((c.tc : Thread Cert.MlaUqDx.nD Cert.MlaUqDx.τ).loc Cert.MlaUqDx.main_arg2) = m ((c.tc : Thread Cert.MlaUqDx.nD Cert.MlaUqDx.τ).loc Cert.MlaUqDx.main_arg2))
      ∧ r.2.sem = fun _ => 0)

def quiescent_MlaUqDxIdeal [hMlaUqDxIdeal : Cert.MlaUqDxIdeal.Facts] : Prop :=
  ∀ (m : (ℓ : Loc Cert.MlaUqDxIdeal.nD Cert.MlaUqDxIdeal.τ Cert.MlaUqDxIdeal.sig) → Buf (Elt Ideal) ℓ) (g : Dev Cert.MlaUqDxIdeal.nD → PrngReg), Pre_MlaUqDxIdeal m →
    θ_run (Cert.MlaUqDxIdeal.defs (F := Ideal)) (onTc (τ := Cert.MlaUqDxIdeal.τ) (Cert.MlaUqDxIdeal.main (F := Ideal))) ⟨m, fun _ => 0, g⟩ (fun r => (∀ c : Dev Cert.MlaUqDxIdeal.nD,
      r.2.mem ((c.tc : Thread Cert.MlaUqDxIdeal.nD Cert.MlaUqDxIdeal.τ).loc Cert.MlaUqDxIdeal.main_arg0) = m ((c.tc : Thread Cert.MlaUqDxIdeal.nD Cert.MlaUqDxIdeal.τ).loc Cert.MlaUqDxIdeal.main_arg0)
      ∧ r.2.mem ((c.tc : Thread Cert.MlaUqDxIdeal.nD Cert.MlaUqDxIdeal.τ).loc Cert.MlaUqDxIdeal.main_arg1) = m ((c.tc : Thread Cert.MlaUqDxIdeal.nD Cert.MlaUqDxIdeal.τ).loc Cert.MlaUqDxIdeal.main_arg1)
      ∧ r.2.mem ((c.tc : Thread Cert.MlaUqDxIdeal.nD Cert.MlaUqDxIdeal.τ).loc Cert.MlaUqDxIdeal.main_arg2) = m ((c.tc : Thread Cert.MlaUqDxIdeal.nD Cert.MlaUqDxIdeal.τ).loc Cert.MlaUqDxIdeal.main_arg2))
      ∧ r.2.sem = fun _ => 0)

def quiescent_MlaUqDxReferenceIdeal [hMlaUqDxReferenceIdeal : Cert.MlaUqDxReferenceIdeal.Facts] : Prop :=
  ∀ (m : (ℓ : Loc Cert.MlaUqDxReferenceIdeal.nD Cert.MlaUqDxReferenceIdeal.τ Cert.MlaUqDxReferenceIdeal.sig) → Buf (Elt Ideal) ℓ) (g : Dev Cert.MlaUqDxReferenceIdeal.nD → PrngReg), Pre_MlaUqDxReferenceIdeal m →
    θ_run (Cert.MlaUqDxReferenceIdeal.defs (F := Ideal)) (onTc (τ := Cert.MlaUqDxReferenceIdeal.τ) (Cert.MlaUqDxReferenceIdeal.main (F := Ideal))) ⟨m, fun _ => 0, g⟩ (fun r => (∀ c : Dev Cert.MlaUqDxReferenceIdeal.nD,
      r.2.mem ((c.tc : Thread Cert.MlaUqDxReferenceIdeal.nD Cert.MlaUqDxReferenceIdeal.τ).loc Cert.MlaUqDxReferenceIdeal.main_arg0) = m ((c.tc : Thread Cert.MlaUqDxReferenceIdeal.nD Cert.MlaUqDxReferenceIdeal.τ).loc Cert.MlaUqDxReferenceIdeal.main_arg0)
      ∧ r.2.mem ((c.tc : Thread Cert.MlaUqDxReferenceIdeal.nD Cert.MlaUqDxReferenceIdeal.τ).loc Cert.MlaUqDxReferenceIdeal.main_arg1) = m ((c.tc : Thread Cert.MlaUqDxReferenceIdeal.nD Cert.MlaUqDxReferenceIdeal.τ).loc Cert.MlaUqDxReferenceIdeal.main_arg1)
      ∧ r.2.mem ((c.tc : Thread Cert.MlaUqDxReferenceIdeal.nD Cert.MlaUqDxReferenceIdeal.τ).loc Cert.MlaUqDxReferenceIdeal.main_arg2) = m ((c.tc : Thread Cert.MlaUqDxReferenceIdeal.nD Cert.MlaUqDxReferenceIdeal.τ).loc Cert.MlaUqDxReferenceIdeal.main_arg2))
      ∧ r.2.sem = fun _ => 0)

def quiescent_MlaUqDw [hMlaUqDw : Cert.MlaUqDw.Facts] : Prop :=
  ∀ (m : (ℓ : Loc Cert.MlaUqDw.nD Cert.MlaUqDw.τ Cert.MlaUqDw.sig) → Buf (Elt Bits) ℓ) (g : Dev Cert.MlaUqDw.nD → PrngReg), Pre_MlaUqDw m →
    θ_run (Cert.MlaUqDw.defs (F := Bits)) (onTc (τ := Cert.MlaUqDw.τ) (Cert.MlaUqDw.main (F := Bits))) ⟨m, fun _ => 0, g⟩ (fun r => (∀ c : Dev Cert.MlaUqDw.nD,
      r.2.mem ((c.tc : Thread Cert.MlaUqDw.nD Cert.MlaUqDw.τ).loc Cert.MlaUqDw.main_arg0) = m ((c.tc : Thread Cert.MlaUqDw.nD Cert.MlaUqDw.τ).loc Cert.MlaUqDw.main_arg0)
      ∧ r.2.mem ((c.tc : Thread Cert.MlaUqDw.nD Cert.MlaUqDw.τ).loc Cert.MlaUqDw.main_arg1) = m ((c.tc : Thread Cert.MlaUqDw.nD Cert.MlaUqDw.τ).loc Cert.MlaUqDw.main_arg1)
      ∧ r.2.mem ((c.tc : Thread Cert.MlaUqDw.nD Cert.MlaUqDw.τ).loc Cert.MlaUqDw.main_arg2) = m ((c.tc : Thread Cert.MlaUqDw.nD Cert.MlaUqDw.τ).loc Cert.MlaUqDw.main_arg2))
      ∧ r.2.sem = fun _ => 0)

def quiescent_MlaUqDwIdeal [hMlaUqDwIdeal : Cert.MlaUqDwIdeal.Facts] : Prop :=
  ∀ (m : (ℓ : Loc Cert.MlaUqDwIdeal.nD Cert.MlaUqDwIdeal.τ Cert.MlaUqDwIdeal.sig) → Buf (Elt Ideal) ℓ) (g : Dev Cert.MlaUqDwIdeal.nD → PrngReg), Pre_MlaUqDwIdeal m →
    θ_run (Cert.MlaUqDwIdeal.defs (F := Ideal)) (onTc (τ := Cert.MlaUqDwIdeal.τ) (Cert.MlaUqDwIdeal.main (F := Ideal))) ⟨m, fun _ => 0, g⟩ (fun r => (∀ c : Dev Cert.MlaUqDwIdeal.nD,
      r.2.mem ((c.tc : Thread Cert.MlaUqDwIdeal.nD Cert.MlaUqDwIdeal.τ).loc Cert.MlaUqDwIdeal.main_arg0) = m ((c.tc : Thread Cert.MlaUqDwIdeal.nD Cert.MlaUqDwIdeal.τ).loc Cert.MlaUqDwIdeal.main_arg0)
      ∧ r.2.mem ((c.tc : Thread Cert.MlaUqDwIdeal.nD Cert.MlaUqDwIdeal.τ).loc Cert.MlaUqDwIdeal.main_arg1) = m ((c.tc : Thread Cert.MlaUqDwIdeal.nD Cert.MlaUqDwIdeal.τ).loc Cert.MlaUqDwIdeal.main_arg1)
      ∧ r.2.mem ((c.tc : Thread Cert.MlaUqDwIdeal.nD Cert.MlaUqDwIdeal.τ).loc Cert.MlaUqDwIdeal.main_arg2) = m ((c.tc : Thread Cert.MlaUqDwIdeal.nD Cert.MlaUqDwIdeal.τ).loc Cert.MlaUqDwIdeal.main_arg2))
      ∧ r.2.sem = fun _ => 0)

def quiescent_MlaUqDwReferenceIdeal [hMlaUqDwReferenceIdeal : Cert.MlaUqDwReferenceIdeal.Facts] : Prop :=
  ∀ (m : (ℓ : Loc Cert.MlaUqDwReferenceIdeal.nD Cert.MlaUqDwReferenceIdeal.τ Cert.MlaUqDwReferenceIdeal.sig) → Buf (Elt Ideal) ℓ) (g : Dev Cert.MlaUqDwReferenceIdeal.nD → PrngReg), Pre_MlaUqDwReferenceIdeal m →
    θ_run (Cert.MlaUqDwReferenceIdeal.defs (F := Ideal)) (onTc (τ := Cert.MlaUqDwReferenceIdeal.τ) (Cert.MlaUqDwReferenceIdeal.main (F := Ideal))) ⟨m, fun _ => 0, g⟩ (fun r => (∀ c : Dev Cert.MlaUqDwReferenceIdeal.nD,
      r.2.mem ((c.tc : Thread Cert.MlaUqDwReferenceIdeal.nD Cert.MlaUqDwReferenceIdeal.τ).loc Cert.MlaUqDwReferenceIdeal.main_arg0) = m ((c.tc : Thread Cert.MlaUqDwReferenceIdeal.nD Cert.MlaUqDwReferenceIdeal.τ).loc Cert.MlaUqDwReferenceIdeal.main_arg0)
      ∧ r.2.mem ((c.tc : Thread Cert.MlaUqDwReferenceIdeal.nD Cert.MlaUqDwReferenceIdeal.τ).loc Cert.MlaUqDwReferenceIdeal.main_arg1) = m ((c.tc : Thread Cert.MlaUqDwReferenceIdeal.nD Cert.MlaUqDwReferenceIdeal.τ).loc Cert.MlaUqDwReferenceIdeal.main_arg1)
      ∧ r.2.mem ((c.tc : Thread Cert.MlaUqDwReferenceIdeal.nD Cert.MlaUqDwReferenceIdeal.τ).loc Cert.MlaUqDwReferenceIdeal.main_arg2) = m ((c.tc : Thread Cert.MlaUqDwReferenceIdeal.nD Cert.MlaUqDwReferenceIdeal.τ).loc Cert.MlaUqDwReferenceIdeal.main_arg2))
      ∧ r.2.sem = fun _ => 0)

def quiescent_MlaUkvDx [hMlaUkvDx : Cert.MlaUkvDx.Facts] : Prop :=
  ∀ (m : (ℓ : Loc Cert.MlaUkvDx.nD Cert.MlaUkvDx.τ Cert.MlaUkvDx.sig) → Buf (Elt Bits) ℓ) (g : Dev Cert.MlaUkvDx.nD → PrngReg), Pre_MlaUkvDx m →
    θ_run (Cert.MlaUkvDx.defs (F := Bits)) (onTc (τ := Cert.MlaUkvDx.τ) (Cert.MlaUkvDx.main (F := Bits))) ⟨m, fun _ => 0, g⟩ (fun r => (∀ c : Dev Cert.MlaUkvDx.nD,
      r.2.mem ((c.tc : Thread Cert.MlaUkvDx.nD Cert.MlaUkvDx.τ).loc Cert.MlaUkvDx.main_arg0) = m ((c.tc : Thread Cert.MlaUkvDx.nD Cert.MlaUkvDx.τ).loc Cert.MlaUkvDx.main_arg0)
      ∧ r.2.mem ((c.tc : Thread Cert.MlaUkvDx.nD Cert.MlaUkvDx.τ).loc Cert.MlaUkvDx.main_arg1) = m ((c.tc : Thread Cert.MlaUkvDx.nD Cert.MlaUkvDx.τ).loc Cert.MlaUkvDx.main_arg1)
      ∧ r.2.mem ((c.tc : Thread Cert.MlaUkvDx.nD Cert.MlaUkvDx.τ).loc Cert.MlaUkvDx.main_arg2) = m ((c.tc : Thread Cert.MlaUkvDx.nD Cert.MlaUkvDx.τ).loc Cert.MlaUkvDx.main_arg2))
      ∧ r.2.sem = fun _ => 0)

def quiescent_MlaUkvDxIdeal [hMlaUkvDxIdeal : Cert.MlaUkvDxIdeal.Facts] : Prop :=
  ∀ (m : (ℓ : Loc Cert.MlaUkvDxIdeal.nD Cert.MlaUkvDxIdeal.τ Cert.MlaUkvDxIdeal.sig) → Buf (Elt Ideal) ℓ) (g : Dev Cert.MlaUkvDxIdeal.nD → PrngReg), Pre_MlaUkvDxIdeal m →
    θ_run (Cert.MlaUkvDxIdeal.defs (F := Ideal)) (onTc (τ := Cert.MlaUkvDxIdeal.τ) (Cert.MlaUkvDxIdeal.main (F := Ideal))) ⟨m, fun _ => 0, g⟩ (fun r => (∀ c : Dev Cert.MlaUkvDxIdeal.nD,
      r.2.mem ((c.tc : Thread Cert.MlaUkvDxIdeal.nD Cert.MlaUkvDxIdeal.τ).loc Cert.MlaUkvDxIdeal.main_arg0) = m ((c.tc : Thread Cert.MlaUkvDxIdeal.nD Cert.MlaUkvDxIdeal.τ).loc Cert.MlaUkvDxIdeal.main_arg0)
      ∧ r.2.mem ((c.tc : Thread Cert.MlaUkvDxIdeal.nD Cert.MlaUkvDxIdeal.τ).loc Cert.MlaUkvDxIdeal.main_arg1) = m ((c.tc : Thread Cert.MlaUkvDxIdeal.nD Cert.MlaUkvDxIdeal.τ).loc Cert.MlaUkvDxIdeal.main_arg1)
      ∧ r.2.mem ((c.tc : Thread Cert.MlaUkvDxIdeal.nD Cert.MlaUkvDxIdeal.τ).loc Cert.MlaUkvDxIdeal.main_arg2) = m ((c.tc : Thread Cert.MlaUkvDxIdeal.nD Cert.MlaUkvDxIdeal.τ).loc Cert.MlaUkvDxIdeal.main_arg2))
      ∧ r.2.sem = fun _ => 0)

def quiescent_MlaUkvDxReferenceIdeal [hMlaUkvDxReferenceIdeal : Cert.MlaUkvDxReferenceIdeal.Facts] : Prop :=
  ∀ (m : (ℓ : Loc Cert.MlaUkvDxReferenceIdeal.nD Cert.MlaUkvDxReferenceIdeal.τ Cert.MlaUkvDxReferenceIdeal.sig) → Buf (Elt Ideal) ℓ) (g : Dev Cert.MlaUkvDxReferenceIdeal.nD → PrngReg), Pre_MlaUkvDxReferenceIdeal m →
    θ_run (Cert.MlaUkvDxReferenceIdeal.defs (F := Ideal)) (onTc (τ := Cert.MlaUkvDxReferenceIdeal.τ) (Cert.MlaUkvDxReferenceIdeal.main (F := Ideal))) ⟨m, fun _ => 0, g⟩ (fun r => (∀ c : Dev Cert.MlaUkvDxReferenceIdeal.nD,
      r.2.mem ((c.tc : Thread Cert.MlaUkvDxReferenceIdeal.nD Cert.MlaUkvDxReferenceIdeal.τ).loc Cert.MlaUkvDxReferenceIdeal.main_arg0) = m ((c.tc : Thread Cert.MlaUkvDxReferenceIdeal.nD Cert.MlaUkvDxReferenceIdeal.τ).loc Cert.MlaUkvDxReferenceIdeal.main_arg0)
      ∧ r.2.mem ((c.tc : Thread Cert.MlaUkvDxReferenceIdeal.nD Cert.MlaUkvDxReferenceIdeal.τ).loc Cert.MlaUkvDxReferenceIdeal.main_arg1) = m ((c.tc : Thread Cert.MlaUkvDxReferenceIdeal.nD Cert.MlaUkvDxReferenceIdeal.τ).loc Cert.MlaUkvDxReferenceIdeal.main_arg1)
      ∧ r.2.mem ((c.tc : Thread Cert.MlaUkvDxReferenceIdeal.nD Cert.MlaUkvDxReferenceIdeal.τ).loc Cert.MlaUkvDxReferenceIdeal.main_arg2) = m ((c.tc : Thread Cert.MlaUkvDxReferenceIdeal.nD Cert.MlaUkvDxReferenceIdeal.τ).loc Cert.MlaUkvDxReferenceIdeal.main_arg2))
      ∧ r.2.sem = fun _ => 0)

def quiescent_MlaUkvDw [hMlaUkvDw : Cert.MlaUkvDw.Facts] : Prop :=
  ∀ (m : (ℓ : Loc Cert.MlaUkvDw.nD Cert.MlaUkvDw.τ Cert.MlaUkvDw.sig) → Buf (Elt Bits) ℓ) (g : Dev Cert.MlaUkvDw.nD → PrngReg), Pre_MlaUkvDw m →
    θ_run (Cert.MlaUkvDw.defs (F := Bits)) (onTc (τ := Cert.MlaUkvDw.τ) (Cert.MlaUkvDw.main (F := Bits))) ⟨m, fun _ => 0, g⟩ (fun r => (∀ c : Dev Cert.MlaUkvDw.nD,
      r.2.mem ((c.tc : Thread Cert.MlaUkvDw.nD Cert.MlaUkvDw.τ).loc Cert.MlaUkvDw.main_arg0) = m ((c.tc : Thread Cert.MlaUkvDw.nD Cert.MlaUkvDw.τ).loc Cert.MlaUkvDw.main_arg0)
      ∧ r.2.mem ((c.tc : Thread Cert.MlaUkvDw.nD Cert.MlaUkvDw.τ).loc Cert.MlaUkvDw.main_arg1) = m ((c.tc : Thread Cert.MlaUkvDw.nD Cert.MlaUkvDw.τ).loc Cert.MlaUkvDw.main_arg1)
      ∧ r.2.mem ((c.tc : Thread Cert.MlaUkvDw.nD Cert.MlaUkvDw.τ).loc Cert.MlaUkvDw.main_arg2) = m ((c.tc : Thread Cert.MlaUkvDw.nD Cert.MlaUkvDw.τ).loc Cert.MlaUkvDw.main_arg2))
      ∧ r.2.sem = fun _ => 0)

def quiescent_MlaUkvDwIdeal [hMlaUkvDwIdeal : Cert.MlaUkvDwIdeal.Facts] : Prop :=
  ∀ (m : (ℓ : Loc Cert.MlaUkvDwIdeal.nD Cert.MlaUkvDwIdeal.τ Cert.MlaUkvDwIdeal.sig) → Buf (Elt Ideal) ℓ) (g : Dev Cert.MlaUkvDwIdeal.nD → PrngReg), Pre_MlaUkvDwIdeal m →
    θ_run (Cert.MlaUkvDwIdeal.defs (F := Ideal)) (onTc (τ := Cert.MlaUkvDwIdeal.τ) (Cert.MlaUkvDwIdeal.main (F := Ideal))) ⟨m, fun _ => 0, g⟩ (fun r => (∀ c : Dev Cert.MlaUkvDwIdeal.nD,
      r.2.mem ((c.tc : Thread Cert.MlaUkvDwIdeal.nD Cert.MlaUkvDwIdeal.τ).loc Cert.MlaUkvDwIdeal.main_arg0) = m ((c.tc : Thread Cert.MlaUkvDwIdeal.nD Cert.MlaUkvDwIdeal.τ).loc Cert.MlaUkvDwIdeal.main_arg0)
      ∧ r.2.mem ((c.tc : Thread Cert.MlaUkvDwIdeal.nD Cert.MlaUkvDwIdeal.τ).loc Cert.MlaUkvDwIdeal.main_arg1) = m ((c.tc : Thread Cert.MlaUkvDwIdeal.nD Cert.MlaUkvDwIdeal.τ).loc Cert.MlaUkvDwIdeal.main_arg1)
      ∧ r.2.mem ((c.tc : Thread Cert.MlaUkvDwIdeal.nD Cert.MlaUkvDwIdeal.τ).loc Cert.MlaUkvDwIdeal.main_arg2) = m ((c.tc : Thread Cert.MlaUkvDwIdeal.nD Cert.MlaUkvDwIdeal.τ).loc Cert.MlaUkvDwIdeal.main_arg2))
      ∧ r.2.sem = fun _ => 0)

def quiescent_MlaUkvDwReferenceIdeal [hMlaUkvDwReferenceIdeal : Cert.MlaUkvDwReferenceIdeal.Facts] : Prop :=
  ∀ (m : (ℓ : Loc Cert.MlaUkvDwReferenceIdeal.nD Cert.MlaUkvDwReferenceIdeal.τ Cert.MlaUkvDwReferenceIdeal.sig) → Buf (Elt Ideal) ℓ) (g : Dev Cert.MlaUkvDwReferenceIdeal.nD → PrngReg), Pre_MlaUkvDwReferenceIdeal m →
    θ_run (Cert.MlaUkvDwReferenceIdeal.defs (F := Ideal)) (onTc (τ := Cert.MlaUkvDwReferenceIdeal.τ) (Cert.MlaUkvDwReferenceIdeal.main (F := Ideal))) ⟨m, fun _ => 0, g⟩ (fun r => (∀ c : Dev Cert.MlaUkvDwReferenceIdeal.nD,
      r.2.mem ((c.tc : Thread Cert.MlaUkvDwReferenceIdeal.nD Cert.MlaUkvDwReferenceIdeal.τ).loc Cert.MlaUkvDwReferenceIdeal.main_arg0) = m ((c.tc : Thread Cert.MlaUkvDwReferenceIdeal.nD Cert.MlaUkvDwReferenceIdeal.τ).loc Cert.MlaUkvDwReferenceIdeal.main_arg0)
      ∧ r.2.mem ((c.tc : Thread Cert.MlaUkvDwReferenceIdeal.nD Cert.MlaUkvDwReferenceIdeal.τ).loc Cert.MlaUkvDwReferenceIdeal.main_arg1) = m ((c.tc : Thread Cert.MlaUkvDwReferenceIdeal.nD Cert.MlaUkvDwReferenceIdeal.τ).loc Cert.MlaUkvDwReferenceIdeal.main_arg1)
      ∧ r.2.mem ((c.tc : Thread Cert.MlaUkvDwReferenceIdeal.nD Cert.MlaUkvDwReferenceIdeal.τ).loc Cert.MlaUkvDwReferenceIdeal.main_arg2) = m ((c.tc : Thread Cert.MlaUkvDwReferenceIdeal.nD Cert.MlaUkvDwReferenceIdeal.τ).loc Cert.MlaUkvDwReferenceIdeal.main_arg2))
      ∧ r.2.sem = fun _ => 0)

def quiescent_GlaOut [hGlaOut : Cert.GlaOut.Facts] : Prop :=
  ∀ (m : (ℓ : Loc Cert.GlaOut.nD Cert.GlaOut.τ Cert.GlaOut.sig) → Buf (Elt Bits) ℓ) (g : Dev Cert.GlaOut.nD → PrngReg), Pre_GlaOut m →
    θ_run (Cert.GlaOut.defs (F := Bits)) (onTc (τ := Cert.GlaOut.τ) (Cert.GlaOut.main (F := Bits))) ⟨m, fun _ => 0, g⟩ (fun r => (∀ c : Dev Cert.GlaOut.nD,
      r.2.mem ((c.tc : Thread Cert.GlaOut.nD Cert.GlaOut.τ).loc Cert.GlaOut.main_arg0) = m ((c.tc : Thread Cert.GlaOut.nD Cert.GlaOut.τ).loc Cert.GlaOut.main_arg0)
      ∧ r.2.mem ((c.tc : Thread Cert.GlaOut.nD Cert.GlaOut.τ).loc Cert.GlaOut.main_arg1) = m ((c.tc : Thread Cert.GlaOut.nD Cert.GlaOut.τ).loc Cert.GlaOut.main_arg1))
      ∧ r.2.sem = fun _ => 0)

def quiescent_GlaOutIdeal [hGlaOutIdeal : Cert.GlaOutIdeal.Facts] : Prop :=
  ∀ (m : (ℓ : Loc Cert.GlaOutIdeal.nD Cert.GlaOutIdeal.τ Cert.GlaOutIdeal.sig) → Buf (Elt Ideal) ℓ) (g : Dev Cert.GlaOutIdeal.nD → PrngReg), Pre_GlaOutIdeal m →
    θ_run (Cert.GlaOutIdeal.defs (F := Ideal)) (onTc (τ := Cert.GlaOutIdeal.τ) (Cert.GlaOutIdeal.main (F := Ideal))) ⟨m, fun _ => 0, g⟩ (fun r => (∀ c : Dev Cert.GlaOutIdeal.nD,
      r.2.mem ((c.tc : Thread Cert.GlaOutIdeal.nD Cert.GlaOutIdeal.τ).loc Cert.GlaOutIdeal.main_arg0) = m ((c.tc : Thread Cert.GlaOutIdeal.nD Cert.GlaOutIdeal.τ).loc Cert.GlaOutIdeal.main_arg0)
      ∧ r.2.mem ((c.tc : Thread Cert.GlaOutIdeal.nD Cert.GlaOutIdeal.τ).loc Cert.GlaOutIdeal.main_arg1) = m ((c.tc : Thread Cert.GlaOutIdeal.nD Cert.GlaOutIdeal.τ).loc Cert.GlaOutIdeal.main_arg1))
      ∧ r.2.sem = fun _ => 0)

def quiescent_GlaOutReferenceIdeal [hGlaOutReferenceIdeal : Cert.GlaOutReferenceIdeal.Facts] : Prop :=
  ∀ (m : (ℓ : Loc Cert.GlaOutReferenceIdeal.nD Cert.GlaOutReferenceIdeal.τ Cert.GlaOutReferenceIdeal.sig) → Buf (Elt Ideal) ℓ) (g : Dev Cert.GlaOutReferenceIdeal.nD → PrngReg), Pre_GlaOutReferenceIdeal m →
    θ_run (Cert.GlaOutReferenceIdeal.defs (F := Ideal)) (onTc (τ := Cert.GlaOutReferenceIdeal.τ) (Cert.GlaOutReferenceIdeal.main (F := Ideal))) ⟨m, fun _ => 0, g⟩ (fun r => (∀ c : Dev Cert.GlaOutReferenceIdeal.nD,
      r.2.mem ((c.tc : Thread Cert.GlaOutReferenceIdeal.nD Cert.GlaOutReferenceIdeal.τ).loc Cert.GlaOutReferenceIdeal.main_arg0) = m ((c.tc : Thread Cert.GlaOutReferenceIdeal.nD Cert.GlaOutReferenceIdeal.τ).loc Cert.GlaOutReferenceIdeal.main_arg0)
      ∧ r.2.mem ((c.tc : Thread Cert.GlaOutReferenceIdeal.nD Cert.GlaOutReferenceIdeal.τ).loc Cert.GlaOutReferenceIdeal.main_arg1) = m ((c.tc : Thread Cert.GlaOutReferenceIdeal.nD Cert.GlaOutReferenceIdeal.τ).loc Cert.GlaOutReferenceIdeal.main_arg1))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ r.2.sem = fun _ => 0)

def quiescent_WOutReferenceIdeal [hWOutReferenceIdeal : Cert.WOutReferenceIdeal.Facts] : Prop :=
  ∀ (m : (ℓ : Loc Cert.WOutReferenceIdeal.nD Cert.WOutReferenceIdeal.τ Cert.WOutReferenceIdeal.sig) → Buf (Elt Ideal) ℓ) (g : Dev Cert.WOutReferenceIdeal.nD → PrngReg), Pre_WOutReferenceIdeal m →
    θ_run (Cert.WOutReferenceIdeal.defs (F := Ideal)) (onTc (τ := Cert.WOutReferenceIdeal.τ) (Cert.WOutReferenceIdeal.main (F := Ideal))) ⟨m, fun _ => 0, g⟩ (fun r => (∀ c : Dev Cert.WOutReferenceIdeal.nD,
      r.2.mem ((c.tc : Thread Cert.WOutReferenceIdeal.nD Cert.WOutReferenceIdeal.τ).loc Cert.WOutReferenceIdeal.main_arg0) = m ((c.tc : Thread Cert.WOutReferenceIdeal.nD Cert.WOutReferenceIdeal.τ).loc Cert.WOutReferenceIdeal.main_arg0)
      ∧ r.2.mem ((c.tc : Thread Cert.WOutReferenceIdeal.nD Cert.WOutReferenceIdeal.τ).loc Cert.WOutReferenceIdeal.main_arg1) = m ((c.tc : Thread Cert.WOutReferenceIdeal.nD Cert.WOutReferenceIdeal.τ).loc Cert.WOutReferenceIdeal.main_arg1))
      ∧ r.2.sem = fun _ => 0)

def quiescent_MlaOut [hMlaOut : Cert.MlaOut.Facts] : Prop :=
  ∀ (m : (ℓ : Loc Cert.MlaOut.nD Cert.MlaOut.τ Cert.MlaOut.sig) → Buf (Elt Bits) ℓ) (g : Dev Cert.MlaOut.nD → PrngReg), Pre_MlaOut m →
    θ_run (Cert.MlaOut.defs (F := Bits)) (onTc (τ := Cert.MlaOut.τ) (Cert.MlaOut.main (F := Bits))) ⟨m, fun _ => 0, g⟩ (fun r => (∀ c : Dev Cert.MlaOut.nD,
      r.2.mem ((c.tc : Thread Cert.MlaOut.nD Cert.MlaOut.τ).loc Cert.MlaOut.main_arg0) = m ((c.tc : Thread Cert.MlaOut.nD Cert.MlaOut.τ).loc Cert.MlaOut.main_arg0)
      ∧ r.2.mem ((c.tc : Thread Cert.MlaOut.nD Cert.MlaOut.τ).loc Cert.MlaOut.main_arg1) = m ((c.tc : Thread Cert.MlaOut.nD Cert.MlaOut.τ).loc Cert.MlaOut.main_arg1))
      ∧ r.2.sem = fun _ => 0)

def quiescent_MlaOutIdeal [hMlaOutIdeal : Cert.MlaOutIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg), Pre_MlaOutIdeal m →
    θ_run (Cert.MlaOutIdeal.defs (F := Ideal)) (onTc (τ := Cert.MlaOutIdeal.τ) (Cert.MlaOutIdeal.main (F := Ideal))) ⟨m, fun _ => 0, g⟩ (fun r => (∀ c : Dev Cert.MlaOutIdeal.nD,
      r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
      ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1))
      ∧ r.2.sem = fun _ => 0)

def quiescent_MlaOutReferenceIdeal [hMlaOutReferenceIdeal : Cert.MlaOutReferenceIdeal.Facts] : Prop :=
  ∀ (m : (ℓ : Loc Cert.MlaOutReferenceIdeal.nD Cert.MlaOutReferenceIdeal.τ Cert.MlaOutReferenceIdeal.sig) → Buf (Elt Ideal) ℓ) (g : Dev Cert.MlaOutReferenceIdeal.nD → PrngReg), Pre_MlaOutReferenceIdeal m →
    θ_run (Cert.MlaOutReferenceIdeal.defs (F := Ideal)) (onTc (τ := Cert.MlaOutReferenceIdeal.τ) (Cert.MlaOutReferenceIdeal.main (F := Ideal))) ⟨m, fun _ => 0, g⟩ (fun r => (∀ c : Dev Cert.MlaOutReferenceIdeal.nD,
      r.2.mem ((c.tc : Thread Cert.MlaOutReferenceIdeal.nD Cert.MlaOutReferenceIdeal.τ).loc Cert.MlaOutReferenceIdeal.main_arg0) = m ((c.tc : Thread Cert.MlaOutReferenceIdeal.nD Cert.MlaOutReferenceIdeal.τ).loc Cert.MlaOutReferenceIdeal.main_arg0)
      ∧ r.2.mem ((c.tc : Thread Cert.MlaOutReferenceIdeal.nD Cert.MlaOutReferenceIdeal.τ).loc Cert.MlaOutReferenceIdeal.main_arg1) = m ((c.tc : Thread Cert.MlaOutReferenceIdeal.nD Cert.MlaOutReferenceIdeal.τ).loc Cert.MlaOutReferenceIdeal.main_arg1))
      ∧ r.2.sem = fun _ => 0)

def quiescent_MlaUq [hMlaUq : Cert.MlaUq.Facts] : Prop :=
  ∀ (m : (ℓ : Loc Cert.MlaUq.nD Cert.MlaUq.τ Cert.MlaUq.sig) → Buf (Elt Bits) ℓ) (g : Dev Cert.MlaUq.nD → PrngReg), Pre_MlaUq m →
    θ_run (Cert.MlaUq.defs (F := Bits)) (onTc (τ := Cert.MlaUq.τ) (Cert.MlaUq.main (F := Bits))) ⟨m, fun _ => 0, g⟩ (fun r => (∀ c : Dev Cert.MlaUq.nD,
      r.2.mem ((c.tc : Thread Cert.MlaUq.nD Cert.MlaUq.τ).loc Cert.MlaUq.main_arg0) = m ((c.tc : Thread Cert.MlaUq.nD Cert.MlaUq.τ).loc Cert.MlaUq.main_arg0)
      ∧ r.2.mem ((c.tc : Thread Cert.MlaUq.nD Cert.MlaUq.τ).loc Cert.MlaUq.main_arg1) = m ((c.tc : Thread Cert.MlaUq.nD Cert.MlaUq.τ).loc Cert.MlaUq.main_arg1))
      ∧ r.2.sem = fun _ => 0)

def quiescent_MlaUqIdeal [hMlaUqIdeal : Cert.MlaUqIdeal.Facts] : Prop :=
  ∀ (m : (ℓ : Loc Cert.MlaUqIdeal.nD Cert.MlaUqIdeal.τ Cert.MlaUqIdeal.sig) → Buf (Elt Ideal) ℓ) (g : Dev Cert.MlaUqIdeal.nD → PrngReg), Pre_MlaUqIdeal m →
    θ_run (Cert.MlaUqIdeal.defs (F := Ideal)) (onTc (τ := Cert.MlaUqIdeal.τ) (Cert.MlaUqIdeal.main (F := Ideal))) ⟨m, fun _ => 0, g⟩ (fun r => (∀ c : Dev Cert.MlaUqIdeal.nD,
      r.2.mem ((c.tc : Thread Cert.MlaUqIdeal.nD Cert.MlaUqIdeal.τ).loc Cert.MlaUqIdeal.main_arg0) = m ((c.tc : Thread Cert.MlaUqIdeal.nD Cert.MlaUqIdeal.τ).loc Cert.MlaUqIdeal.main_arg0)
      ∧ r.2.mem ((c.tc : Thread Cert.MlaUqIdeal.nD Cert.MlaUqIdeal.τ).loc Cert.MlaUqIdeal.main_arg1) = m ((c.tc : Thread Cert.MlaUqIdeal.nD Cert.MlaUqIdeal.τ).loc Cert.MlaUqIdeal.main_arg1))
      ∧ r.2.sem = fun _ => 0)

def quiescent_MlaUqReferenceIdeal [hMlaUqReferenceIdeal : Cert.MlaUqReferenceIdeal.Facts] : Prop :=
  ∀ (m : (ℓ : Loc Cert.MlaUqReferenceIdeal.nD Cert.MlaUqReferenceIdeal.τ Cert.MlaUqReferenceIdeal.sig) → Buf (Elt Ideal) ℓ) (g : Dev Cert.MlaUqReferenceIdeal.nD → PrngReg), Pre_MlaUqReferenceIdeal m →
    θ_run (Cert.MlaUqReferenceIdeal.defs (F := Ideal)) (onTc (τ := Cert.MlaUqReferenceIdeal.τ) (Cert.MlaUqReferenceIdeal.main (F := Ideal))) ⟨m, fun _ => 0, g⟩ (fun r => (∀ c : Dev Cert.MlaUqReferenceIdeal.nD,
      r.2.mem ((c.tc : Thread Cert.MlaUqReferenceIdeal.nD Cert.MlaUqReferenceIdeal.τ).loc Cert.MlaUqReferenceIdeal.main_arg0) = m ((c.tc : Thread Cert.MlaUqReferenceIdeal.nD Cert.MlaUqReferenceIdeal.τ).loc Cert.MlaUqReferenceIdeal.main_arg0)
      ∧ r.2.mem ((c.tc : Thread Cert.MlaUqReferenceIdeal.nD Cert.MlaUqReferenceIdeal.τ).loc Cert.MlaUqReferenceIdeal.main_arg1) = m ((c.tc : Thread Cert.MlaUqReferenceIdeal.nD Cert.MlaUqReferenceIdeal.τ).loc Cert.MlaUqReferenceIdeal.main_arg1))
      ∧ r.2.sem = fun _ => 0)

def quiescent_MlaUkv [hMlaUkv : Cert.MlaUkv.Facts] : Prop :=
  ∀ (m : (ℓ : Loc Cert.MlaUkv.nD Cert.MlaUkv.τ Cert.MlaUkv.sig) → Buf (Elt Bits) ℓ) (g : Dev Cert.MlaUkv.nD → PrngReg), Pre_MlaUkv m →
    θ_run (Cert.MlaUkv.defs (F := Bits)) (onTc (τ := Cert.MlaUkv.τ) (Cert.MlaUkv.main (F := Bits))) ⟨m, fun _ => 0, g⟩ (fun r => (∀ c : Dev Cert.MlaUkv.nD,
      r.2.mem ((c.tc : Thread Cert.MlaUkv.nD Cert.MlaUkv.τ).loc Cert.MlaUkv.main_arg0) = m ((c.tc : Thread Cert.MlaUkv.nD Cert.MlaUkv.τ).loc Cert.MlaUkv.main_arg0)
      ∧ r.2.mem ((c.tc : Thread Cert.MlaUkv.nD Cert.MlaUkv.τ).loc Cert.MlaUkv.main_arg1) = m ((c.tc : Thread Cert.MlaUkv.nD Cert.MlaUkv.τ).loc Cert.MlaUkv.main_arg1))
      ∧ r.2.sem = fun _ => 0)

def quiescent_MlaUkvIdeal [hMlaUkvIdeal : Cert.MlaUkvIdeal.Facts] : Prop :=
  ∀ (m : (ℓ : Loc Cert.MlaUkvIdeal.nD Cert.MlaUkvIdeal.τ Cert.MlaUkvIdeal.sig) → Buf (Elt Ideal) ℓ) (g : Dev Cert.MlaUkvIdeal.nD → PrngReg), Pre_MlaUkvIdeal m →
    θ_run (Cert.MlaUkvIdeal.defs (F := Ideal)) (onTc (τ := Cert.MlaUkvIdeal.τ) (Cert.MlaUkvIdeal.main (F := Ideal))) ⟨m, fun _ => 0, g⟩ (fun r => (∀ c : Dev Cert.MlaUkvIdeal.nD,
      r.2.mem ((c.tc : Thread Cert.MlaUkvIdeal.nD Cert.MlaUkvIdeal.τ).loc Cert.MlaUkvIdeal.main_arg0) = m ((c.tc : Thread Cert.MlaUkvIdeal.nD Cert.MlaUkvIdeal.τ).loc Cert.MlaUkvIdeal.main_arg0)
      ∧ r.2.mem ((c.tc : Thread Cert.MlaUkvIdeal.nD Cert.MlaUkvIdeal.τ).loc Cert.MlaUkvIdeal.main_arg1) = m ((c.tc : Thread Cert.MlaUkvIdeal.nD Cert.MlaUkvIdeal.τ).loc Cert.MlaUkvIdeal.main_arg1))
      ∧ r.2.sem = fun _ => 0)

def quiescent_MlaUkvReferenceIdeal [hMlaUkvReferenceIdeal : Cert.MlaUkvReferenceIdeal.Facts] : Prop :=
  ∀ (m : (ℓ : Loc Cert.MlaUkvReferenceIdeal.nD Cert.MlaUkvReferenceIdeal.τ Cert.MlaUkvReferenceIdeal.sig) → Buf (Elt Ideal) ℓ) (g : Dev Cert.MlaUkvReferenceIdeal.nD → PrngReg), Pre_MlaUkvReferenceIdeal m →
    θ_run (Cert.MlaUkvReferenceIdeal.defs (F := Ideal)) (onTc (τ := Cert.MlaUkvReferenceIdeal.τ) (Cert.MlaUkvReferenceIdeal.main (F := Ideal))) ⟨m, fun _ => 0, g⟩ (fun r => (∀ c : Dev Cert.MlaUkvReferenceIdeal.nD,
      r.2.mem ((c.tc : Thread Cert.MlaUkvReferenceIdeal.nD Cert.MlaUkvReferenceIdeal.τ).loc Cert.MlaUkvReferenceIdeal.main_arg0) = m ((c.tc : Thread Cert.MlaUkvReferenceIdeal.nD Cert.MlaUkvReferenceIdeal.τ).loc Cert.MlaUkvReferenceIdeal.main_arg0)
      ∧ r.2.mem ((c.tc : Thread Cert.MlaUkvReferenceIdeal.nD Cert.MlaUkvReferenceIdeal.τ).loc Cert.MlaUkvReferenceIdeal.main_arg1) = m ((c.tc : Thread Cert.MlaUkvReferenceIdeal.nD Cert.MlaUkvReferenceIdeal.τ).loc Cert.MlaUkvReferenceIdeal.main_arg1))
      ∧ r.2.sem = fun _ => 0)

def quiescent_Mlp1 [hMlp1 : Cert.Mlp1.Facts] : Prop :=
  ∀ (m : (ℓ : Loc Cert.Mlp1.nD Cert.Mlp1.τ Cert.Mlp1.sig) → Buf (Elt Bits) ℓ) (g : Dev Cert.Mlp1.nD → PrngReg), Pre_Mlp1 m →
    θ_run (Cert.Mlp1.defs (F := Bits)) (onTc (τ := Cert.Mlp1.τ) (Cert.Mlp1.main (F := Bits))) ⟨m, fun _ => 0, g⟩ (fun r => (∀ c : Dev Cert.Mlp1.nD,
      r.2.mem ((c.tc : Thread Cert.Mlp1.nD Cert.Mlp1.τ).loc Cert.Mlp1.main_arg0) = m ((c.tc : Thread Cert.Mlp1.nD Cert.Mlp1.τ).loc Cert.Mlp1.main_arg0)
      ∧ r.2.mem ((c.tc : Thread Cert.Mlp1.nD Cert.Mlp1.τ).loc Cert.Mlp1.main_arg1) = m ((c.tc : Thread Cert.Mlp1.nD Cert.Mlp1.τ).loc Cert.Mlp1.main_arg1))
      ∧ r.2.sem = fun _ => 0)

def quiescent_Mlp1Ideal [hMlp1Ideal : Cert.Mlp1Ideal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg), Pre_Mlp1Ideal m →
    θ_run (Cert.Mlp1Ideal.defs (F := Ideal)) (onTc (τ := Cert.Mlp1Ideal.τ) (Cert.Mlp1Ideal.main (F := Ideal))) ⟨m, fun _ => 0, g⟩ (fun r => (∀ c : Dev Cert.Mlp1Ideal.nD,
      r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
      ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1))
      ∧ r.2.sem = fun _ => 0)

def quiescent_Mlp1ReferenceIdeal [hMlp1ReferenceIdeal : Cert.Mlp1ReferenceIdeal.Facts] : Prop :=
  ∀ (m : (ℓ : Loc Cert.Mlp1ReferenceIdeal.nD Cert.Mlp1ReferenceIdeal.τ Cert.Mlp1ReferenceIdeal.sig) → Buf (Elt Ideal) ℓ) (g : Dev Cert.Mlp1ReferenceIdeal.nD → PrngReg), Pre_Mlp1ReferenceIdeal m →
    θ_run (Cert.Mlp1ReferenceIdeal.defs (F := Ideal)) (onTc (τ := Cert.Mlp1ReferenceIdeal.τ) (Cert.Mlp1ReferenceIdeal.main (F := Ideal))) ⟨m, fun _ => 0, g⟩ (fun r => (∀ c : Dev Cert.Mlp1ReferenceIdeal.nD,
      r.2.mem ((c.tc : Thread Cert.Mlp1ReferenceIdeal.nD Cert.Mlp1ReferenceIdeal.τ).loc Cert.Mlp1ReferenceIdeal.main_arg0) = m ((c.tc : Thread Cert.Mlp1ReferenceIdeal.nD Cert.Mlp1ReferenceIdeal.τ).loc Cert.Mlp1ReferenceIdeal.main_arg0)
      ∧ r.2.mem ((c.tc : Thread Cert.Mlp1ReferenceIdeal.nD Cert.Mlp1ReferenceIdeal.τ).loc Cert.Mlp1ReferenceIdeal.main_arg1) = m ((c.tc : Thread Cert.Mlp1ReferenceIdeal.nD Cert.Mlp1ReferenceIdeal.τ).loc Cert.Mlp1ReferenceIdeal.main_arg1))
      ∧ r.2.sem = fun _ => 0)

def quiescent_Mlp2 [hMlp2 : Cert.Mlp2.Facts] : Prop :=
  ∀ (m : (ℓ : Loc Cert.Mlp2.nD Cert.Mlp2.τ Cert.Mlp2.sig) → Buf (Elt Bits) ℓ) (g : Dev Cert.Mlp2.nD → PrngReg), Pre_Mlp2 m →
    θ_run (Cert.Mlp2.defs (F := Bits)) (onTc (τ := Cert.Mlp2.τ) (Cert.Mlp2.main (F := Bits))) ⟨m, fun _ => 0, g⟩ (fun r => (∀ c : Dev Cert.Mlp2.nD,
      r.2.mem ((c.tc : Thread Cert.Mlp2.nD Cert.Mlp2.τ).loc Cert.Mlp2.main_arg0) = m ((c.tc : Thread Cert.Mlp2.nD Cert.Mlp2.τ).loc Cert.Mlp2.main_arg0)
      ∧ r.2.mem ((c.tc : Thread Cert.Mlp2.nD Cert.Mlp2.τ).loc Cert.Mlp2.main_arg1) = m ((c.tc : Thread Cert.Mlp2.nD Cert.Mlp2.τ).loc Cert.Mlp2.main_arg1))
      ∧ r.2.sem = fun _ => 0)

def quiescent_Mlp2Ideal [hMlp2Ideal : Cert.Mlp2Ideal.Facts] : Prop :=
  ∀ (m : (ℓ : Loc Cert.Mlp2Ideal.nD Cert.Mlp2Ideal.τ Cert.Mlp2Ideal.sig) → Buf (Elt Ideal) ℓ) (g : Dev Cert.Mlp2Ideal.nD → PrngReg), Pre_Mlp2Ideal m →
    θ_run (Cert.Mlp2Ideal.defs (F := Ideal)) (onTc (τ := Cert.Mlp2Ideal.τ) (Cert.Mlp2Ideal.main (F := Ideal))) ⟨m, fun _ => 0, g⟩ (fun r => (∀ c : Dev Cert.Mlp2Ideal.nD,
      r.2.mem ((c.tc : Thread Cert.Mlp2Ideal.nD Cert.Mlp2Ideal.τ).loc Cert.Mlp2Ideal.main_arg0) = m ((c.tc : Thread Cert.Mlp2Ideal.nD Cert.Mlp2Ideal.τ).loc Cert.Mlp2Ideal.main_arg0)
      ∧ r.2.mem ((c.tc : Thread Cert.Mlp2Ideal.nD Cert.Mlp2Ideal.τ).loc Cert.Mlp2Ideal.main_arg1) = m ((c.tc : Thread Cert.Mlp2Ideal.nD Cert.Mlp2Ideal.τ).loc Cert.Mlp2Ideal.main_arg1))
      ∧ r.2.sem = fun _ => 0)

def quiescent_Mlp2ReferenceIdeal [hMlp2ReferenceIdeal : Cert.Mlp2ReferenceIdeal.Facts] : Prop :=
  ∀ (m : (ℓ : Loc Cert.Mlp2ReferenceIdeal.nD Cert.Mlp2ReferenceIdeal.τ Cert.Mlp2ReferenceIdeal.sig) → Buf (Elt Ideal) ℓ) (g : Dev Cert.Mlp2ReferenceIdeal.nD → PrngReg), Pre_Mlp2ReferenceIdeal m →
    θ_run (Cert.Mlp2ReferenceIdeal.defs (F := Ideal)) (onTc (τ := Cert.Mlp2ReferenceIdeal.τ) (Cert.Mlp2ReferenceIdeal.main (F := Ideal))) ⟨m, fun _ => 0, g⟩ (fun r => (∀ c : Dev Cert.Mlp2ReferenceIdeal.nD,
      r.2.mem ((c.tc : Thread Cert.Mlp2ReferenceIdeal.nD Cert.Mlp2ReferenceIdeal.τ).loc Cert.Mlp2ReferenceIdeal.main_arg0) = m ((c.tc : Thread Cert.Mlp2ReferenceIdeal.nD Cert.Mlp2ReferenceIdeal.τ).loc Cert.Mlp2ReferenceIdeal.main_arg0)
      ∧ r.2.mem ((c.tc : Thread Cert.Mlp2ReferenceIdeal.nD Cert.Mlp2ReferenceIdeal.τ).loc Cert.Mlp2ReferenceIdeal.main_arg1) = m ((c.tc : Thread Cert.Mlp2ReferenceIdeal.nD Cert.Mlp2ReferenceIdeal.τ).loc Cert.Mlp2ReferenceIdeal.main_arg1))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1)
      ∧ r.2.mem ((c.tc : Thread Cert.ProjDx.nD Cert.ProjDx.τ).loc Cert.ProjDx.main_arg2) = m ((c.tc : Thread Cert.ProjDx.nD Cert.ProjDx.τ).loc Cert.ProjDx.main_arg2))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
      ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2))
      ∧ r.2.sem = fun _ => 0)

def quiescent_ProjDxReferenceIdeal [hProjDxReferenceIdeal : Cert.ProjDxReferenceIdeal.Facts] : Prop :=
  ∀ (m : (ℓ : Loc Cert.ProjDxReferenceIdeal.nD Cert.ProjDxReferenceIdeal.τ Cert.ProjDxReferenceIdeal.sig) → Buf (Elt Ideal) ℓ) (g : Dev Cert.ProjDxReferenceIdeal.nD → PrngReg), Pre_ProjDxReferenceIdeal m →
    θ_run (Cert.ProjDxReferenceIdeal.defs (F := Ideal)) (onTc (τ := Cert.ProjDxReferenceIdeal.τ) (Cert.ProjDxReferenceIdeal.main (F := Ideal))) ⟨m, fun _ => 0, g⟩ (fun r => (∀ c : Dev Cert.ProjDxReferenceIdeal.nD,
      r.2.mem ((c.tc : Thread Cert.ProjDxReferenceIdeal.nD Cert.ProjDxReferenceIdeal.τ).loc Cert.ProjDxReferenceIdeal.main_arg0) = m ((c.tc : Thread Cert.ProjDxReferenceIdeal.nD Cert.ProjDxReferenceIdeal.τ).loc Cert.ProjDxReferenceIdeal.main_arg0)
      ∧ r.2.mem ((c.tc : Thread Cert.ProjDxReferenceIdeal.nD Cert.ProjDxReferenceIdeal.τ).loc Cert.ProjDxReferenceIdeal.main_arg1) = m ((c.tc : Thread Cert.ProjDxReferenceIdeal.nD Cert.ProjDxReferenceIdeal.τ).loc Cert.ProjDxReferenceIdeal.main_arg1)
      ∧ r.2.mem ((c.tc : Thread Cert.ProjDxReferenceIdeal.nD Cert.ProjDxReferenceIdeal.τ).loc Cert.ProjDxReferenceIdeal.main_arg2) = m ((c.tc : Thread Cert.ProjDxReferenceIdeal.nD Cert.ProjDxReferenceIdeal.τ).loc Cert.ProjDxReferenceIdeal.main_arg2))
      ∧ r.2.sem = fun _ => 0)

def quiescent_ProjDwA [hProjDwA : Cert.ProjDwA.Facts] : Prop :=
  ∀ (m : (ℓ : Loc Cert.ProjDwA.nD Cert.ProjDwA.τ Cert.ProjDwA.sig) → Buf (Elt Bits) ℓ) (g : Dev Cert.ProjDwA.nD → PrngReg), Pre_ProjDwA m →
    θ_run (Cert.ProjDwA.defs (F := Bits)) (onTc (τ := Cert.ProjDwA.τ) (Cert.ProjDwA.main (F := Bits))) ⟨m, fun _ => 0, g⟩ (fun r => (∀ c : Dev Cert.ProjDwA.nD,
      r.2.mem ((c.tc : Thread Cert.ProjDwA.nD Cert.ProjDwA.τ).loc Cert.ProjDwA.main_arg0) = m ((c.tc : Thread Cert.ProjDwA.nD Cert.ProjDwA.τ).loc Cert.ProjDwA.main_arg0)
      ∧ r.2.mem ((c.tc : Thread Cert.ProjDwA.nD Cert.ProjDwA.τ).loc Cert.ProjDwA.main_arg1) = m ((c.tc : Thread Cert.ProjDwA.nD Cert.ProjDwA.τ).loc Cert.ProjDwA.main_arg1)
      ∧ r.2.mem ((c.tc : Thread Cert.ProjDwA.nD Cert.ProjDwA.τ).loc Cert.ProjDwA.main_arg2) = m ((c.tc : Thread Cert.ProjDwA.nD Cert.ProjDwA.τ).loc Cert.ProjDwA.main_arg2))
      ∧ r.2.sem = fun _ => 0)

def quiescent_ProjDwAIdeal [hProjDwAIdeal : Cert.ProjDwAIdeal.Facts] : Prop :=
  ∀ (m : (ℓ : Loc Cert.ProjDwAIdeal.nD Cert.ProjDwAIdeal.τ Cert.ProjDwAIdeal.sig) → Buf (Elt Ideal) ℓ) (g : Dev Cert.ProjDwAIdeal.nD → PrngReg), Pre_ProjDwAIdeal m →
    θ_run (Cert.ProjDwAIdeal.defs (F := Ideal)) (onTc (τ := Cert.ProjDwAIdeal.τ) (Cert.ProjDwAIdeal.main (F := Ideal))) ⟨m, fun _ => 0, g⟩ (fun r => (∀ c : Dev Cert.ProjDwAIdeal.nD,
      r.2.mem ((c.tc : Thread Cert.ProjDwAIdeal.nD Cert.ProjDwAIdeal.τ).loc Cert.ProjDwAIdeal.main_arg0) = m ((c.tc : Thread Cert.ProjDwAIdeal.nD Cert.ProjDwAIdeal.τ).loc Cert.ProjDwAIdeal.main_arg0)
      ∧ r.2.mem ((c.tc : Thread Cert.ProjDwAIdeal.nD Cert.ProjDwAIdeal.τ).loc Cert.ProjDwAIdeal.main_arg1) = m ((c.tc : Thread Cert.ProjDwAIdeal.nD Cert.ProjDwAIdeal.τ).loc Cert.ProjDwAIdeal.main_arg1)
      ∧ r.2.mem ((c.tc : Thread Cert.ProjDwAIdeal.nD Cert.ProjDwAIdeal.τ).loc Cert.ProjDwAIdeal.main_arg2) = m ((c.tc : Thread Cert.ProjDwAIdeal.nD Cert.ProjDwAIdeal.τ).loc Cert.ProjDwAIdeal.main_arg2))
      ∧ r.2.sem = fun _ => 0)

def quiescent_ProjDwAReferenceIdeal [hProjDwAReferenceIdeal : Cert.ProjDwAReferenceIdeal.Facts] : Prop :=
  ∀ (m : (ℓ : Loc Cert.ProjDwAReferenceIdeal.nD Cert.ProjDwAReferenceIdeal.τ Cert.ProjDwAReferenceIdeal.sig) → Buf (Elt Ideal) ℓ) (g : Dev Cert.ProjDwAReferenceIdeal.nD → PrngReg), Pre_ProjDwAReferenceIdeal m →
    θ_run (Cert.ProjDwAReferenceIdeal.defs (F := Ideal)) (onTc (τ := Cert.ProjDwAReferenceIdeal.τ) (Cert.ProjDwAReferenceIdeal.main (F := Ideal))) ⟨m, fun _ => 0, g⟩ (fun r => (∀ c : Dev Cert.ProjDwAReferenceIdeal.nD,
      r.2.mem ((c.tc : Thread Cert.ProjDwAReferenceIdeal.nD Cert.ProjDwAReferenceIdeal.τ).loc Cert.ProjDwAReferenceIdeal.main_arg0) = m ((c.tc : Thread Cert.ProjDwAReferenceIdeal.nD Cert.ProjDwAReferenceIdeal.τ).loc Cert.ProjDwAReferenceIdeal.main_arg0)
      ∧ r.2.mem ((c.tc : Thread Cert.ProjDwAReferenceIdeal.nD Cert.ProjDwAReferenceIdeal.τ).loc Cert.ProjDwAReferenceIdeal.main_arg1) = m ((c.tc : Thread Cert.ProjDwAReferenceIdeal.nD Cert.ProjDwAReferenceIdeal.τ).loc Cert.ProjDwAReferenceIdeal.main_arg1)
      ∧ r.2.mem ((c.tc : Thread Cert.ProjDwAReferenceIdeal.nD Cert.ProjDwAReferenceIdeal.τ).loc Cert.ProjDwAReferenceIdeal.main_arg2) = m ((c.tc : Thread Cert.ProjDwAReferenceIdeal.nD Cert.ProjDwAReferenceIdeal.τ).loc Cert.ProjDwAReferenceIdeal.main_arg2))
      ∧ r.2.sem = fun _ => 0)

def quiescent_ProjDwB [hProjDwB : Cert.ProjDwB.Facts] : Prop :=
  ∀ (m : (ℓ : Loc Cert.ProjDwB.nD Cert.ProjDwB.τ Cert.ProjDwB.sig) → Buf (Elt Bits) ℓ) (g : Dev Cert.ProjDwB.nD → PrngReg), Pre_ProjDwB m →
    θ_run (Cert.ProjDwB.defs (F := Bits)) (onTc (τ := Cert.ProjDwB.τ) (Cert.ProjDwB.main (F := Bits))) ⟨m, fun _ => 0, g⟩ (fun r => (∀ c : Dev Cert.ProjDwB.nD,
      r.2.mem ((c.tc : Thread Cert.ProjDwB.nD Cert.ProjDwB.τ).loc Cert.ProjDwB.main_arg0) = m ((c.tc : Thread Cert.ProjDwB.nD Cert.ProjDwB.τ).loc Cert.ProjDwB.main_arg0)
      ∧ r.2.mem ((c.tc : Thread Cert.ProjDwB.nD Cert.ProjDwB.τ).loc Cert.ProjDwB.main_arg1) = m ((c.tc : Thread Cert.ProjDwB.nD Cert.ProjDwB.τ).loc Cert.ProjDwB.main_arg1)
      ∧ r.2.mem ((c.tc : Thread Cert.ProjDwB.nD Cert.ProjDwB.τ).loc Cert.ProjDwB.main_arg2) = m ((c.tc : Thread Cert.ProjDwB.nD Cert.ProjDwB.τ).loc Cert.ProjDwB.main_arg2))
      ∧ r.2.sem = fun _ => 0)

def quiescent_ProjDwBIdeal [hProjDwBIdeal : Cert.ProjDwBIdeal.Facts] : Prop :=
  ∀ (m : (ℓ : Loc Cert.ProjDwBIdeal.nD Cert.ProjDwBIdeal.τ Cert.ProjDwBIdeal.sig) → Buf (Elt Ideal) ℓ) (g : Dev Cert.ProjDwBIdeal.nD → PrngReg), Pre_ProjDwBIdeal m →
    θ_run (Cert.ProjDwBIdeal.defs (F := Ideal)) (onTc (τ := Cert.ProjDwBIdeal.τ) (Cert.ProjDwBIdeal.main (F := Ideal))) ⟨m, fun _ => 0, g⟩ (fun r => (∀ c : Dev Cert.ProjDwBIdeal.nD,
      r.2.mem ((c.tc : Thread Cert.ProjDwBIdeal.nD Cert.ProjDwBIdeal.τ).loc Cert.ProjDwBIdeal.main_arg0) = m ((c.tc : Thread Cert.ProjDwBIdeal.nD Cert.ProjDwBIdeal.τ).loc Cert.ProjDwBIdeal.main_arg0)
      ∧ r.2.mem ((c.tc : Thread Cert.ProjDwBIdeal.nD Cert.ProjDwBIdeal.τ).loc Cert.ProjDwBIdeal.main_arg1) = m ((c.tc : Thread Cert.ProjDwBIdeal.nD Cert.ProjDwBIdeal.τ).loc Cert.ProjDwBIdeal.main_arg1)
      ∧ r.2.mem ((c.tc : Thread Cert.ProjDwBIdeal.nD Cert.ProjDwBIdeal.τ).loc Cert.ProjDwBIdeal.main_arg2) = m ((c.tc : Thread Cert.ProjDwBIdeal.nD Cert.ProjDwBIdeal.τ).loc Cert.ProjDwBIdeal.main_arg2))
      ∧ r.2.sem = fun _ => 0)

def quiescent_ProjDwBReferenceIdeal [hProjDwBReferenceIdeal : Cert.ProjDwBReferenceIdeal.Facts] : Prop :=
  ∀ (m : (ℓ : Loc Cert.ProjDwBReferenceIdeal.nD Cert.ProjDwBReferenceIdeal.τ Cert.ProjDwBReferenceIdeal.sig) → Buf (Elt Ideal) ℓ) (g : Dev Cert.ProjDwBReferenceIdeal.nD → PrngReg), Pre_ProjDwBReferenceIdeal m →
    θ_run (Cert.ProjDwBReferenceIdeal.defs (F := Ideal)) (onTc (τ := Cert.ProjDwBReferenceIdeal.τ) (Cert.ProjDwBReferenceIdeal.main (F := Ideal))) ⟨m, fun _ => 0, g⟩ (fun r => (∀ c : Dev Cert.ProjDwBReferenceIdeal.nD,
      r.2.mem ((c.tc : Thread Cert.ProjDwBReferenceIdeal.nD Cert.ProjDwBReferenceIdeal.τ).loc Cert.ProjDwBReferenceIdeal.main_arg0) = m ((c.tc : Thread Cert.ProjDwBReferenceIdeal.nD Cert.ProjDwBReferenceIdeal.τ).loc Cert.ProjDwBReferenceIdeal.main_arg0)
      ∧ r.2.mem ((c.tc : Thread Cert.ProjDwBReferenceIdeal.nD Cert.ProjDwBReferenceIdeal.τ).loc Cert.ProjDwBReferenceIdeal.main_arg1) = m ((c.tc : Thread Cert.ProjDwBReferenceIdeal.nD Cert.ProjDwBReferenceIdeal.τ).loc Cert.ProjDwBReferenceIdeal.main_arg1)
      ∧ r.2.mem ((c.tc : Thread Cert.ProjDwBReferenceIdeal.nD Cert.ProjDwBReferenceIdeal.τ).loc Cert.ProjDwBReferenceIdeal.main_arg2) = m ((c.tc : Thread Cert.ProjDwBReferenceIdeal.nD Cert.ProjDwBReferenceIdeal.τ).loc Cert.ProjDwBReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_MergeBwdReferenceIdeal [hMergeBwdReferenceIdeal : Cert.MergeBwdReferenceIdeal.Facts] : Prop :=
  ∀ (m : (ℓ : Loc Cert.MergeBwdReferenceIdeal.nD Cert.MergeBwdReferenceIdeal.τ Cert.MergeBwdReferenceIdeal.sig) → Buf (Elt Ideal) ℓ) (g : Dev Cert.MergeBwdReferenceIdeal.nD → PrngReg), Pre_MergeBwdReferenceIdeal m →
    θ_run (Cert.MergeBwdReferenceIdeal.defs (F := Ideal)) (onTc (τ := Cert.MergeBwdReferenceIdeal.τ) (Cert.MergeBwdReferenceIdeal.main (F := Ideal))) ⟨m, fun _ => 0, g⟩ (fun r => (∀ c : Dev Cert.MergeBwdReferenceIdeal.nD,
      r.2.mem ((c.tc : Thread Cert.MergeBwdReferenceIdeal.nD Cert.MergeBwdReferenceIdeal.τ).loc Cert.MergeBwdReferenceIdeal.main_arg0) = m ((c.tc : Thread Cert.MergeBwdReferenceIdeal.nD Cert.MergeBwdReferenceIdeal.τ).loc Cert.MergeBwdReferenceIdeal.main_arg0)
      ∧ r.2.mem ((c.tc : Thread Cert.MergeBwdReferenceIdeal.nD Cert.MergeBwdReferenceIdeal.τ).loc Cert.MergeBwdReferenceIdeal.main_arg1) = m ((c.tc : Thread Cert.MergeBwdReferenceIdeal.nD Cert.MergeBwdReferenceIdeal.τ).loc Cert.MergeBwdReferenceIdeal.main_arg1)
      ∧ r.2.mem ((c.tc : Thread Cert.MergeBwdReferenceIdeal.nD Cert.MergeBwdReferenceIdeal.τ).loc Cert.MergeBwdReferenceIdeal.main_arg2) = m ((c.tc : Thread Cert.MergeBwdReferenceIdeal.nD Cert.MergeBwdReferenceIdeal.τ).loc Cert.MergeBwdReferenceIdeal.main_arg2)
      ∧ r.2.mem ((c.tc : Thread Cert.MergeBwdReferenceIdeal.nD Cert.MergeBwdReferenceIdeal.τ).loc Cert.MergeBwdReferenceIdeal.main_arg3) = m ((c.tc : Thread Cert.MergeBwdReferenceIdeal.nD Cert.MergeBwdReferenceIdeal.τ).loc Cert.MergeBwdReferenceIdeal.main_arg3)
      ∧ r.2.mem ((c.tc : Thread Cert.MergeBwdReferenceIdeal.nD Cert.MergeBwdReferenceIdeal.τ).loc Cert.MergeBwdReferenceIdeal.main_arg4) = m ((c.tc : Thread Cert.MergeBwdReferenceIdeal.nD Cert.MergeBwdReferenceIdeal.τ).loc Cert.MergeBwdReferenceIdeal.main_arg4))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ r.2.sem = fun _ => 0)

def quiescent_MergeFwdReferenceIdeal [hMergeFwdReferenceIdeal : Cert.MergeFwdReferenceIdeal.Facts] : Prop :=
  ∀ (m : (ℓ : Loc Cert.MergeFwdReferenceIdeal.nD Cert.MergeFwdReferenceIdeal.τ Cert.MergeFwdReferenceIdeal.sig) → Buf (Elt Ideal) ℓ) (g : Dev Cert.MergeFwdReferenceIdeal.nD → PrngReg), Pre_MergeFwdReferenceIdeal m →
    θ_run (Cert.MergeFwdReferenceIdeal.defs (F := Ideal)) (onTc (τ := Cert.MergeFwdReferenceIdeal.τ) (Cert.MergeFwdReferenceIdeal.main (F := Ideal))) ⟨m, fun _ => 0, g⟩ (fun r => (∀ c : Dev Cert.MergeFwdReferenceIdeal.nD,
      r.2.mem ((c.tc : Thread Cert.MergeFwdReferenceIdeal.nD Cert.MergeFwdReferenceIdeal.τ).loc Cert.MergeFwdReferenceIdeal.main_arg0) = m ((c.tc : Thread Cert.MergeFwdReferenceIdeal.nD Cert.MergeFwdReferenceIdeal.τ).loc Cert.MergeFwdReferenceIdeal.main_arg0)
      ∧ r.2.mem ((c.tc : Thread Cert.MergeFwdReferenceIdeal.nD Cert.MergeFwdReferenceIdeal.τ).loc Cert.MergeFwdReferenceIdeal.main_arg1) = m ((c.tc : Thread Cert.MergeFwdReferenceIdeal.nD Cert.MergeFwdReferenceIdeal.τ).loc Cert.MergeFwdReferenceIdeal.main_arg1)
      ∧ r.2.mem ((c.tc : Thread Cert.MergeFwdReferenceIdeal.nD Cert.MergeFwdReferenceIdeal.τ).loc Cert.MergeFwdReferenceIdeal.main_arg2) = m ((c.tc : Thread Cert.MergeFwdReferenceIdeal.nD Cert.MergeFwdReferenceIdeal.τ).loc Cert.MergeFwdReferenceIdeal.main_arg2)
      ∧ r.2.mem ((c.tc : Thread Cert.MergeFwdReferenceIdeal.nD Cert.MergeFwdReferenceIdeal.τ).loc Cert.MergeFwdReferenceIdeal.main_arg3) = m ((c.tc : Thread Cert.MergeFwdReferenceIdeal.nD Cert.MergeFwdReferenceIdeal.τ).loc Cert.MergeFwdReferenceIdeal.main_arg3))
      ∧ r.2.sem = fun _ => 0)

def quiescent_AlphaDx [hAlphaDx : Cert.AlphaDx.Facts] : Prop :=
  ∀ (m : (ℓ : Loc Cert.AlphaDx.nD Cert.AlphaDx.τ Cert.AlphaDx.sig) → Buf (Elt Bits) ℓ) (g : Dev Cert.AlphaDx.nD → PrngReg), Pre_AlphaDx m →
    θ_run (Cert.AlphaDx.defs (F := Bits)) (onTc (τ := Cert.AlphaDx.τ) (Cert.AlphaDx.main (F := Bits))) ⟨m, fun _ => 0, g⟩ (fun r => (∀ c : Dev Cert.AlphaDx.nD,
      r.2.mem ((c.tc : Thread Cert.AlphaDx.nD Cert.AlphaDx.τ).loc Cert.AlphaDx.main_arg0) = m ((c.tc : Thread Cert.AlphaDx.nD Cert.AlphaDx.τ).loc Cert.AlphaDx.main_arg0)
      ∧ r.2.mem ((c.tc : Thread Cert.AlphaDx.nD Cert.AlphaDx.τ).loc Cert.AlphaDx.main_arg1) = m ((c.tc : Thread Cert.AlphaDx.nD Cert.AlphaDx.τ).loc Cert.AlphaDx.main_arg1)
      ∧ r.2.mem ((c.tc : Thread Cert.AlphaDx.nD Cert.AlphaDx.τ).loc Cert.AlphaDx.main_arg2) = m ((c.tc : Thread Cert.AlphaDx.nD Cert.AlphaDx.τ).loc Cert.AlphaDx.main_arg2))
      ∧ r.2.sem = fun _ => 0)

def quiescent_AlphaDxIdeal [hAlphaDxIdeal : Cert.AlphaDxIdeal.Facts] : Prop :=
  ∀ (m : (ℓ : Loc Cert.AlphaDxIdeal.nD Cert.AlphaDxIdeal.τ Cert.AlphaDxIdeal.sig) → Buf (Elt Ideal) ℓ) (g : Dev Cert.AlphaDxIdeal.nD → PrngReg), Pre_AlphaDxIdeal m →
    θ_run (Cert.AlphaDxIdeal.defs (F := Ideal)) (onTc (τ := Cert.AlphaDxIdeal.τ) (Cert.AlphaDxIdeal.main (F := Ideal))) ⟨m, fun _ => 0, g⟩ (fun r => (∀ c : Dev Cert.AlphaDxIdeal.nD,
      r.2.mem ((c.tc : Thread Cert.AlphaDxIdeal.nD Cert.AlphaDxIdeal.τ).loc Cert.AlphaDxIdeal.main_arg0) = m ((c.tc : Thread Cert.AlphaDxIdeal.nD Cert.AlphaDxIdeal.τ).loc Cert.AlphaDxIdeal.main_arg0)
      ∧ r.2.mem ((c.tc : Thread Cert.AlphaDxIdeal.nD Cert.AlphaDxIdeal.τ).loc Cert.AlphaDxIdeal.main_arg1) = m ((c.tc : Thread Cert.AlphaDxIdeal.nD Cert.AlphaDxIdeal.τ).loc Cert.AlphaDxIdeal.main_arg1)
      ∧ r.2.mem ((c.tc : Thread Cert.AlphaDxIdeal.nD Cert.AlphaDxIdeal.τ).loc Cert.AlphaDxIdeal.main_arg2) = m ((c.tc : Thread Cert.AlphaDxIdeal.nD Cert.AlphaDxIdeal.τ).loc Cert.AlphaDxIdeal.main_arg2))
      ∧ r.2.sem = fun _ => 0)

def quiescent_AlphaDxReferenceIdeal [hAlphaDxReferenceIdeal : Cert.AlphaDxReferenceIdeal.Facts] : Prop :=
  ∀ (m : (ℓ : Loc Cert.AlphaDxReferenceIdeal.nD Cert.AlphaDxReferenceIdeal.τ Cert.AlphaDxReferenceIdeal.sig) → Buf (Elt Ideal) ℓ) (g : Dev Cert.AlphaDxReferenceIdeal.nD → PrngReg), Pre_AlphaDxReferenceIdeal m →
    θ_run (Cert.AlphaDxReferenceIdeal.defs (F := Ideal)) (onTc (τ := Cert.AlphaDxReferenceIdeal.τ) (Cert.AlphaDxReferenceIdeal.main (F := Ideal))) ⟨m, fun _ => 0, g⟩ (fun r => (∀ c : Dev Cert.AlphaDxReferenceIdeal.nD,
      r.2.mem ((c.tc : Thread Cert.AlphaDxReferenceIdeal.nD Cert.AlphaDxReferenceIdeal.τ).loc Cert.AlphaDxReferenceIdeal.main_arg0) = m ((c.tc : Thread Cert.AlphaDxReferenceIdeal.nD Cert.AlphaDxReferenceIdeal.τ).loc Cert.AlphaDxReferenceIdeal.main_arg0)
      ∧ r.2.mem ((c.tc : Thread Cert.AlphaDxReferenceIdeal.nD Cert.AlphaDxReferenceIdeal.τ).loc Cert.AlphaDxReferenceIdeal.main_arg1) = m ((c.tc : Thread Cert.AlphaDxReferenceIdeal.nD Cert.AlphaDxReferenceIdeal.τ).loc Cert.AlphaDxReferenceIdeal.main_arg1)
      ∧ r.2.mem ((c.tc : Thread Cert.AlphaDxReferenceIdeal.nD Cert.AlphaDxReferenceIdeal.τ).loc Cert.AlphaDxReferenceIdeal.main_arg2) = m ((c.tc : Thread Cert.AlphaDxReferenceIdeal.nD Cert.AlphaDxReferenceIdeal.τ).loc Cert.AlphaDxReferenceIdeal.main_arg2))
      ∧ r.2.sem = fun _ => 0)

def quiescent_AlphaDw [hAlphaDw : Cert.AlphaDw.Facts] : Prop :=
  ∀ (m : (ℓ : Loc Cert.AlphaDw.nD Cert.AlphaDw.τ Cert.AlphaDw.sig) → Buf (Elt Bits) ℓ) (g : Dev Cert.AlphaDw.nD → PrngReg), Pre_AlphaDw m →
    θ_run (Cert.AlphaDw.defs (F := Bits)) (onTc (τ := Cert.AlphaDw.τ) (Cert.AlphaDw.main (F := Bits))) ⟨m, fun _ => 0, g⟩ (fun r => (∀ c : Dev Cert.AlphaDw.nD,
      r.2.mem ((c.tc : Thread Cert.AlphaDw.nD Cert.AlphaDw.τ).loc Cert.AlphaDw.main_arg0) = m ((c.tc : Thread Cert.AlphaDw.nD Cert.AlphaDw.τ).loc Cert.AlphaDw.main_arg0)
      ∧ r.2.mem ((c.tc : Thread Cert.AlphaDw.nD Cert.AlphaDw.τ).loc Cert.AlphaDw.main_arg1) = m ((c.tc : Thread Cert.AlphaDw.nD Cert.AlphaDw.τ).loc Cert.AlphaDw.main_arg1)
      ∧ r.2.mem ((c.tc : Thread Cert.AlphaDw.nD Cert.AlphaDw.τ).loc Cert.AlphaDw.main_arg2) = m ((c.tc : Thread Cert.AlphaDw.nD Cert.AlphaDw.τ).loc Cert.AlphaDw.main_arg2))
      ∧ r.2.sem = fun _ => 0)

def quiescent_AlphaDwIdeal [hAlphaDwIdeal : Cert.AlphaDwIdeal.Facts] : Prop :=
  ∀ (m : (ℓ : Loc Cert.AlphaDwIdeal.nD Cert.AlphaDwIdeal.τ Cert.AlphaDwIdeal.sig) → Buf (Elt Ideal) ℓ) (g : Dev Cert.AlphaDwIdeal.nD → PrngReg), Pre_AlphaDwIdeal m →
    θ_run (Cert.AlphaDwIdeal.defs (F := Ideal)) (onTc (τ := Cert.AlphaDwIdeal.τ) (Cert.AlphaDwIdeal.main (F := Ideal))) ⟨m, fun _ => 0, g⟩ (fun r => (∀ c : Dev Cert.AlphaDwIdeal.nD,
      r.2.mem ((c.tc : Thread Cert.AlphaDwIdeal.nD Cert.AlphaDwIdeal.τ).loc Cert.AlphaDwIdeal.main_arg0) = m ((c.tc : Thread Cert.AlphaDwIdeal.nD Cert.AlphaDwIdeal.τ).loc Cert.AlphaDwIdeal.main_arg0)
      ∧ r.2.mem ((c.tc : Thread Cert.AlphaDwIdeal.nD Cert.AlphaDwIdeal.τ).loc Cert.AlphaDwIdeal.main_arg1) = m ((c.tc : Thread Cert.AlphaDwIdeal.nD Cert.AlphaDwIdeal.τ).loc Cert.AlphaDwIdeal.main_arg1)
      ∧ r.2.mem ((c.tc : Thread Cert.AlphaDwIdeal.nD Cert.AlphaDwIdeal.τ).loc Cert.AlphaDwIdeal.main_arg2) = m ((c.tc : Thread Cert.AlphaDwIdeal.nD Cert.AlphaDwIdeal.τ).loc Cert.AlphaDwIdeal.main_arg2))
      ∧ r.2.sem = fun _ => 0)

def quiescent_AlphaDwReferenceIdeal [hAlphaDwReferenceIdeal : Cert.AlphaDwReferenceIdeal.Facts] : Prop :=
  ∀ (m : (ℓ : Loc Cert.AlphaDwReferenceIdeal.nD Cert.AlphaDwReferenceIdeal.τ Cert.AlphaDwReferenceIdeal.sig) → Buf (Elt Ideal) ℓ) (g : Dev Cert.AlphaDwReferenceIdeal.nD → PrngReg), Pre_AlphaDwReferenceIdeal m →
    θ_run (Cert.AlphaDwReferenceIdeal.defs (F := Ideal)) (onTc (τ := Cert.AlphaDwReferenceIdeal.τ) (Cert.AlphaDwReferenceIdeal.main (F := Ideal))) ⟨m, fun _ => 0, g⟩ (fun r => (∀ c : Dev Cert.AlphaDwReferenceIdeal.nD,
      r.2.mem ((c.tc : Thread Cert.AlphaDwReferenceIdeal.nD Cert.AlphaDwReferenceIdeal.τ).loc Cert.AlphaDwReferenceIdeal.main_arg0) = m ((c.tc : Thread Cert.AlphaDwReferenceIdeal.nD Cert.AlphaDwReferenceIdeal.τ).loc Cert.AlphaDwReferenceIdeal.main_arg0)
      ∧ r.2.mem ((c.tc : Thread Cert.AlphaDwReferenceIdeal.nD Cert.AlphaDwReferenceIdeal.τ).loc Cert.AlphaDwReferenceIdeal.main_arg1) = m ((c.tc : Thread Cert.AlphaDwReferenceIdeal.nD Cert.AlphaDwReferenceIdeal.τ).loc Cert.AlphaDwReferenceIdeal.main_arg1)
      ∧ r.2.mem ((c.tc : Thread Cert.AlphaDwReferenceIdeal.nD Cert.AlphaDwReferenceIdeal.τ).loc Cert.AlphaDwReferenceIdeal.main_arg2) = m ((c.tc : Thread Cert.AlphaDwReferenceIdeal.nD Cert.AlphaDwReferenceIdeal.τ).loc Cert.AlphaDwReferenceIdeal.main_arg2))
      ∧ r.2.sem = fun _ => 0)

def quiescent_GlaFwd [hGlaFwd : Cert.GlaFwd.Facts] : Prop :=
  ∀ (m : (ℓ : Loc Cert.GlaFwd.nD Cert.GlaFwd.τ Cert.GlaFwd.sig) → Buf (Elt Bits) ℓ) (g : Dev Cert.GlaFwd.nD → PrngReg), Pre_GlaFwd m →
    θ_run (Cert.GlaFwd.defs (F := Bits)) (onTc (τ := Cert.GlaFwd.τ) (Cert.GlaFwd.main (F := Bits))) ⟨m, fun _ => 0, g⟩ (fun r => (∀ c : Dev Cert.GlaFwd.nD,
      r.2.mem ((c.tc : Thread Cert.GlaFwd.nD Cert.GlaFwd.τ).loc Cert.GlaFwd.main_arg0) = m ((c.tc : Thread Cert.GlaFwd.nD Cert.GlaFwd.τ).loc Cert.GlaFwd.main_arg0)
      ∧ r.2.mem ((c.tc : Thread Cert.GlaFwd.nD Cert.GlaFwd.τ).loc Cert.GlaFwd.main_arg1) = m ((c.tc : Thread Cert.GlaFwd.nD Cert.GlaFwd.τ).loc Cert.GlaFwd.main_arg1)
      ∧ r.2.mem ((c.tc : Thread Cert.GlaFwd.nD Cert.GlaFwd.τ).loc Cert.GlaFwd.main_arg2) = m ((c.tc : Thread Cert.GlaFwd.nD Cert.GlaFwd.τ).loc Cert.GlaFwd.main_arg2)
      ∧ r.2.mem ((c.tc : Thread Cert.GlaFwd.nD Cert.GlaFwd.τ).loc Cert.GlaFwd.main_arg3) = m ((c.tc : Thread Cert.GlaFwd.nD Cert.GlaFwd.τ).loc Cert.GlaFwd.main_arg3)
      ∧ r.2.mem ((c.tc : Thread Cert.GlaFwd.nD Cert.GlaFwd.τ).loc Cert.GlaFwd.main_arg4) = m ((c.tc : Thread Cert.GlaFwd.nD Cert.GlaFwd.τ).loc Cert.GlaFwd.main_arg4)
      ∧ r.2.mem ((c.tc : Thread Cert.GlaFwd.nD Cert.GlaFwd.τ).loc Cert.GlaFwd.main_arg5) = m ((c.tc : Thread Cert.GlaFwd.nD Cert.GlaFwd.τ).loc Cert.GlaFwd.main_arg5)
      ∧ r.2.mem ((c.tc : Thread Cert.GlaFwd.nD Cert.GlaFwd.τ).loc Cert.GlaFwd.main_arg6) = m ((c.tc : Thread Cert.GlaFwd.nD Cert.GlaFwd.τ).loc Cert.GlaFwd.main_arg6)
      ∧ r.2.mem ((c.tc : Thread Cert.GlaFwd.nD Cert.GlaFwd.τ).loc Cert.GlaFwd.main_arg7) = m ((c.tc : Thread Cert.GlaFwd.nD Cert.GlaFwd.τ).loc Cert.GlaFwd.main_arg7))
      ∧ r.2.sem = fun _ => 0)

def quiescent_GlaFwdIdeal [hGlaFwdIdeal : Cert.GlaFwdIdeal.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg), Pre_GlaFwdIdeal m →
    θ_run (Cert.GlaFwdIdeal.defs (F := Ideal)) (onTc (τ := Cert.GlaFwdIdeal.τ) (Cert.GlaFwdIdeal.main (F := Ideal))) ⟨m, fun _ => 0, g⟩ (fun r => (∀ c : Dev Cert.GlaFwdIdeal.nD,
      r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
      ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
      ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
      ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3)
      ∧ r.2.mem ((c.tc : Thread Cert.GlaFwdIdeal.nD Cert.GlaFwdIdeal.τ).loc Cert.GlaFwdIdeal.main_arg4) = m ((c.tc : Thread Cert.GlaFwdIdeal.nD Cert.GlaFwdIdeal.τ).loc Cert.GlaFwdIdeal.main_arg4)
      ∧ r.2.mem ((c.tc : Thread Cert.GlaFwdIdeal.nD Cert.GlaFwdIdeal.τ).loc Cert.GlaFwdIdeal.main_arg5) = m ((c.tc : Thread Cert.GlaFwdIdeal.nD Cert.GlaFwdIdeal.τ).loc Cert.GlaFwdIdeal.main_arg5)
      ∧ r.2.mem ((c.tc : Thread Cert.GlaFwdIdeal.nD Cert.GlaFwdIdeal.τ).loc Cert.GlaFwdIdeal.main_arg6) = m ((c.tc : Thread Cert.GlaFwdIdeal.nD Cert.GlaFwdIdeal.τ).loc Cert.GlaFwdIdeal.main_arg6)
      ∧ r.2.mem ((c.tc : Thread Cert.GlaFwdIdeal.nD Cert.GlaFwdIdeal.τ).loc Cert.GlaFwdIdeal.main_arg7) = m ((c.tc : Thread Cert.GlaFwdIdeal.nD Cert.GlaFwdIdeal.τ).loc Cert.GlaFwdIdeal.main_arg7))
      ∧ r.2.sem = fun _ => 0)

def quiescent_GlaFwdReferenceIdeal [hGlaFwdReferenceIdeal : Cert.GlaFwdReferenceIdeal.Facts] : Prop :=
  ∀ (m : (ℓ : Loc Cert.GlaFwdReferenceIdeal.nD Cert.GlaFwdReferenceIdeal.τ Cert.GlaFwdReferenceIdeal.sig) → Buf (Elt Ideal) ℓ) (g : Dev Cert.GlaFwdReferenceIdeal.nD → PrngReg), Pre_GlaFwdReferenceIdeal m →
    θ_run (Cert.GlaFwdReferenceIdeal.defs (F := Ideal)) (onTc (τ := Cert.GlaFwdReferenceIdeal.τ) (Cert.GlaFwdReferenceIdeal.main (F := Ideal))) ⟨m, fun _ => 0, g⟩ (fun r => (∀ c : Dev Cert.GlaFwdReferenceIdeal.nD,
      r.2.mem ((c.tc : Thread Cert.GlaFwdReferenceIdeal.nD Cert.GlaFwdReferenceIdeal.τ).loc Cert.GlaFwdReferenceIdeal.main_arg0) = m ((c.tc : Thread Cert.GlaFwdReferenceIdeal.nD Cert.GlaFwdReferenceIdeal.τ).loc Cert.GlaFwdReferenceIdeal.main_arg0)
      ∧ r.2.mem ((c.tc : Thread Cert.GlaFwdReferenceIdeal.nD Cert.GlaFwdReferenceIdeal.τ).loc Cert.GlaFwdReferenceIdeal.main_arg1) = m ((c.tc : Thread Cert.GlaFwdReferenceIdeal.nD Cert.GlaFwdReferenceIdeal.τ).loc Cert.GlaFwdReferenceIdeal.main_arg1)
      ∧ r.2.mem ((c.tc : Thread Cert.GlaFwdReferenceIdeal.nD Cert.GlaFwdReferenceIdeal.τ).loc Cert.GlaFwdReferenceIdeal.main_arg2) = m ((c.tc : Thread Cert.GlaFwdReferenceIdeal.nD Cert.GlaFwdReferenceIdeal.τ).loc Cert.GlaFwdReferenceIdeal.main_arg2)
      ∧ r.2.mem ((c.tc : Thread Cert.GlaFwdReferenceIdeal.nD Cert.GlaFwdReferenceIdeal.τ).loc Cert.GlaFwdReferenceIdeal.main_arg3) = m ((c.tc : Thread Cert.GlaFwdReferenceIdeal.nD Cert.GlaFwdReferenceIdeal.τ).loc Cert.GlaFwdReferenceIdeal.main_arg3)
      ∧ r.2.mem ((c.tc : Thread Cert.GlaFwdReferenceIdeal.nD Cert.GlaFwdReferenceIdeal.τ).loc Cert.GlaFwdReferenceIdeal.main_arg4) = m ((c.tc : Thread Cert.GlaFwdReferenceIdeal.nD Cert.GlaFwdReferenceIdeal.τ).loc Cert.GlaFwdReferenceIdeal.main_arg4)
      ∧ r.2.mem ((c.tc : Thread Cert.GlaFwdReferenceIdeal.nD Cert.GlaFwdReferenceIdeal.τ).loc Cert.GlaFwdReferenceIdeal.main_arg5) = m ((c.tc : Thread Cert.GlaFwdReferenceIdeal.nD Cert.GlaFwdReferenceIdeal.τ).loc Cert.GlaFwdReferenceIdeal.main_arg5)
      ∧ r.2.mem ((c.tc : Thread Cert.GlaFwdReferenceIdeal.nD Cert.GlaFwdReferenceIdeal.τ).loc Cert.GlaFwdReferenceIdeal.main_arg6) = m ((c.tc : Thread Cert.GlaFwdReferenceIdeal.nD Cert.GlaFwdReferenceIdeal.τ).loc Cert.GlaFwdReferenceIdeal.main_arg6)
      ∧ r.2.mem ((c.tc : Thread Cert.GlaFwdReferenceIdeal.nD Cert.GlaFwdReferenceIdeal.τ).loc Cert.GlaFwdReferenceIdeal.main_arg7) = m ((c.tc : Thread Cert.GlaFwdReferenceIdeal.nD Cert.GlaFwdReferenceIdeal.τ).loc Cert.GlaFwdReferenceIdeal.main_arg7))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1)
      ∧ r.2.mem ((c.tc : Thread Cert.Norm1.nD Cert.Norm1.τ).loc Cert.Norm1.main_arg2) = m ((c.tc : Thread Cert.Norm1.nD Cert.Norm1.τ).loc Cert.Norm1.main_arg2)
      ∧ r.2.mem ((c.tc : Thread Cert.Norm1.nD Cert.Norm1.τ).loc Cert.Norm1.main_arg3) = m ((c.tc : Thread Cert.Norm1.nD Cert.Norm1.τ).loc Cert.Norm1.main_arg3))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3))
      ∧ r.2.sem = fun _ => 0)

def quiescent_Norm1ReferenceIdeal [hNorm1ReferenceIdeal : Cert.Norm1ReferenceIdeal.Facts] : Prop :=
  ∀ (m : (ℓ : Loc Cert.Norm1ReferenceIdeal.nD Cert.Norm1ReferenceIdeal.τ Cert.Norm1ReferenceIdeal.sig) → Buf (Elt Ideal) ℓ) (g : Dev Cert.Norm1ReferenceIdeal.nD → PrngReg), Pre_Norm1ReferenceIdeal m →
    θ_run (Cert.Norm1ReferenceIdeal.defs (F := Ideal)) (onTc (τ := Cert.Norm1ReferenceIdeal.τ) (Cert.Norm1ReferenceIdeal.main (F := Ideal))) ⟨m, fun _ => 0, g⟩ (fun r => (∀ c : Dev Cert.Norm1ReferenceIdeal.nD,
      r.2.mem ((c.tc : Thread Cert.Norm1ReferenceIdeal.nD Cert.Norm1ReferenceIdeal.τ).loc Cert.Norm1ReferenceIdeal.main_arg0) = m ((c.tc : Thread Cert.Norm1ReferenceIdeal.nD Cert.Norm1ReferenceIdeal.τ).loc Cert.Norm1ReferenceIdeal.main_arg0)
      ∧ r.2.mem ((c.tc : Thread Cert.Norm1ReferenceIdeal.nD Cert.Norm1ReferenceIdeal.τ).loc Cert.Norm1ReferenceIdeal.main_arg1) = m ((c.tc : Thread Cert.Norm1ReferenceIdeal.nD Cert.Norm1ReferenceIdeal.τ).loc Cert.Norm1ReferenceIdeal.main_arg1)
      ∧ r.2.mem ((c.tc : Thread Cert.Norm1ReferenceIdeal.nD Cert.Norm1ReferenceIdeal.τ).loc Cert.Norm1ReferenceIdeal.main_arg2) = m ((c.tc : Thread Cert.Norm1ReferenceIdeal.nD Cert.Norm1ReferenceIdeal.τ).loc Cert.Norm1ReferenceIdeal.main_arg2)
      ∧ r.2.mem ((c.tc : Thread Cert.Norm1ReferenceIdeal.nD Cert.Norm1ReferenceIdeal.τ).loc Cert.Norm1ReferenceIdeal.main_arg3) = m ((c.tc : Thread Cert.Norm1ReferenceIdeal.nD Cert.Norm1ReferenceIdeal.τ).loc Cert.Norm1ReferenceIdeal.main_arg3))
      ∧ r.2.sem = fun _ => 0)

def quiescent_Norm2 [hNorm2 : Cert.Norm2.Facts] : Prop :=
  ∀ (m : (ℓ : Loc Cert.Norm2.nD Cert.Norm2.τ Cert.Norm2.sig) → Buf (Elt Bits) ℓ) (g : Dev Cert.Norm2.nD → PrngReg), Pre_Norm2 m →
    θ_run (Cert.Norm2.defs (F := Bits)) (onTc (τ := Cert.Norm2.τ) (Cert.Norm2.main (F := Bits))) ⟨m, fun _ => 0, g⟩ (fun r => (∀ c : Dev Cert.Norm2.nD,
      r.2.mem ((c.tc : Thread Cert.Norm2.nD Cert.Norm2.τ).loc Cert.Norm2.main_arg0) = m ((c.tc : Thread Cert.Norm2.nD Cert.Norm2.τ).loc Cert.Norm2.main_arg0)
      ∧ r.2.mem ((c.tc : Thread Cert.Norm2.nD Cert.Norm2.τ).loc Cert.Norm2.main_arg1) = m ((c.tc : Thread Cert.Norm2.nD Cert.Norm2.τ).loc Cert.Norm2.main_arg1)
      ∧ r.2.mem ((c.tc : Thread Cert.Norm2.nD Cert.Norm2.τ).loc Cert.Norm2.main_arg2) = m ((c.tc : Thread Cert.Norm2.nD Cert.Norm2.τ).loc Cert.Norm2.main_arg2)
      ∧ r.2.mem ((c.tc : Thread Cert.Norm2.nD Cert.Norm2.τ).loc Cert.Norm2.main_arg3) = m ((c.tc : Thread Cert.Norm2.nD Cert.Norm2.τ).loc Cert.Norm2.main_arg3)
      ∧ r.2.mem ((c.tc : Thread Cert.Norm2.nD Cert.Norm2.τ).loc Cert.Norm2.main_arg4) = m ((c.tc : Thread Cert.Norm2.nD Cert.Norm2.τ).loc Cert.Norm2.main_arg4)
      ∧ r.2.mem ((c.tc : Thread Cert.Norm2.nD Cert.Norm2.τ).loc Cert.Norm2.main_arg5) = m ((c.tc : Thread Cert.Norm2.nD Cert.Norm2.τ).loc Cert.Norm2.main_arg5))
      ∧ r.2.sem = fun _ => 0)

def quiescent_Norm2Ideal [hNorm2Ideal : Cert.Norm2Ideal.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
      ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
      ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
      ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4)
      ∧ r.2.mem ((c.tc : Thread Cert.Norm2Ideal.nD Cert.Norm2Ideal.τ).loc Cert.Norm2Ideal.main_arg5) = m ((c.tc : Thread Cert.Norm2Ideal.nD Cert.Norm2Ideal.τ).loc Cert.Norm2Ideal.main_arg5))
      ∧ r.2.sem = fun _ => 0)

def quiescent_Norm2ReferenceIdeal [hNorm2ReferenceIdeal : Cert.Norm2ReferenceIdeal.Facts] : Prop :=
  ∀ (m : (ℓ : Loc Cert.Norm2ReferenceIdeal.nD Cert.Norm2ReferenceIdeal.τ Cert.Norm2ReferenceIdeal.sig) → Buf (Elt Ideal) ℓ) (g : Dev Cert.Norm2ReferenceIdeal.nD → PrngReg), Pre_Norm2ReferenceIdeal m →
    θ_run (Cert.Norm2ReferenceIdeal.defs (F := Ideal)) (onTc (τ := Cert.Norm2ReferenceIdeal.τ) (Cert.Norm2ReferenceIdeal.main (F := Ideal))) ⟨m, fun _ => 0, g⟩ (fun r => (∀ c : Dev Cert.Norm2ReferenceIdeal.nD,
      r.2.mem ((c.tc : Thread Cert.Norm2ReferenceIdeal.nD Cert.Norm2ReferenceIdeal.τ).loc Cert.Norm2ReferenceIdeal.main_arg0) = m ((c.tc : Thread Cert.Norm2ReferenceIdeal.nD Cert.Norm2ReferenceIdeal.τ).loc Cert.Norm2ReferenceIdeal.main_arg0)
      ∧ r.2.mem ((c.tc : Thread Cert.Norm2ReferenceIdeal.nD Cert.Norm2ReferenceIdeal.τ).loc Cert.Norm2ReferenceIdeal.main_arg1) = m ((c.tc : Thread Cert.Norm2ReferenceIdeal.nD Cert.Norm2ReferenceIdeal.τ).loc Cert.Norm2ReferenceIdeal.main_arg1)
      ∧ r.2.mem ((c.tc : Thread Cert.Norm2ReferenceIdeal.nD Cert.Norm2ReferenceIdeal.τ).loc Cert.Norm2ReferenceIdeal.main_arg2) = m ((c.tc : Thread Cert.Norm2ReferenceIdeal.nD Cert.Norm2ReferenceIdeal.τ).loc Cert.Norm2ReferenceIdeal.main_arg2)
      ∧ r.2.mem ((c.tc : Thread Cert.Norm2ReferenceIdeal.nD Cert.Norm2ReferenceIdeal.τ).loc Cert.Norm2ReferenceIdeal.main_arg3) = m ((c.tc : Thread Cert.Norm2ReferenceIdeal.nD Cert.Norm2ReferenceIdeal.τ).loc Cert.Norm2ReferenceIdeal.main_arg3)
      ∧ r.2.mem ((c.tc : Thread Cert.Norm2ReferenceIdeal.nD Cert.Norm2ReferenceIdeal.τ).loc Cert.Norm2ReferenceIdeal.main_arg4) = m ((c.tc : Thread Cert.Norm2ReferenceIdeal.nD Cert.Norm2ReferenceIdeal.τ).loc Cert.Norm2ReferenceIdeal.main_arg4)
      ∧ r.2.mem ((c.tc : Thread Cert.Norm2ReferenceIdeal.nD Cert.Norm2ReferenceIdeal.τ).loc Cert.Norm2ReferenceIdeal.main_arg5) = m ((c.tc : Thread Cert.Norm2ReferenceIdeal.nD Cert.Norm2ReferenceIdeal.τ).loc Cert.Norm2ReferenceIdeal.main_arg5))
      ∧ r.2.sem = fun _ => 0)

def quiescent_LatNorm [hLatNorm : Cert.LatNorm.Facts] : Prop :=
  ∀ (m : (ℓ : Loc Cert.LatNorm.nD Cert.LatNorm.τ Cert.LatNorm.sig) → Buf (Elt Bits) ℓ) (g : Dev Cert.LatNorm.nD → PrngReg), Pre_LatNorm m →
    θ_run (Cert.LatNorm.defs (F := Bits)) (onTc (τ := Cert.LatNorm.τ) (Cert.LatNorm.main (F := Bits))) ⟨m, fun _ => 0, g⟩ (fun r => (∀ c : Dev Cert.LatNorm.nD,
      r.2.mem ((c.tc : Thread Cert.LatNorm.nD Cert.LatNorm.τ).loc Cert.LatNorm.main_arg0) = m ((c.tc : Thread Cert.LatNorm.nD Cert.LatNorm.τ).loc Cert.LatNorm.main_arg0)
      ∧ r.2.mem ((c.tc : Thread Cert.LatNorm.nD Cert.LatNorm.τ).loc Cert.LatNorm.main_arg1) = m ((c.tc : Thread Cert.LatNorm.nD Cert.LatNorm.τ).loc Cert.LatNorm.main_arg1)
      ∧ r.2.mem ((c.tc : Thread Cert.LatNorm.nD Cert.LatNorm.τ).loc Cert.LatNorm.main_arg2) = m ((c.tc : Thread Cert.LatNorm.nD Cert.LatNorm.τ).loc Cert.LatNorm.main_arg2)
      ∧ r.2.mem ((c.tc : Thread Cert.LatNorm.nD Cert.LatNorm.τ).loc Cert.LatNorm.main_arg3) = m ((c.tc : Thread Cert.LatNorm.nD Cert.LatNorm.τ).loc Cert.LatNorm.main_arg3))
      ∧ r.2.sem = fun _ => 0)

def quiescent_LatNormIdeal [hLatNormIdeal : Cert.LatNormIdeal.Facts] : Prop :=
  ∀ (m : (ℓ : Loc Cert.LatNormIdeal.nD Cert.LatNormIdeal.τ Cert.LatNormIdeal.sig) → Buf (Elt Ideal) ℓ) (g : Dev Cert.LatNormIdeal.nD → PrngReg), Pre_LatNormIdeal m →
    θ_run (Cert.LatNormIdeal.defs (F := Ideal)) (onTc (τ := Cert.LatNormIdeal.τ) (Cert.LatNormIdeal.main (F := Ideal))) ⟨m, fun _ => 0, g⟩ (fun r => (∀ c : Dev Cert.LatNormIdeal.nD,
      r.2.mem ((c.tc : Thread Cert.LatNormIdeal.nD Cert.LatNormIdeal.τ).loc Cert.LatNormIdeal.main_arg0) = m ((c.tc : Thread Cert.LatNormIdeal.nD Cert.LatNormIdeal.τ).loc Cert.LatNormIdeal.main_arg0)
      ∧ r.2.mem ((c.tc : Thread Cert.LatNormIdeal.nD Cert.LatNormIdeal.τ).loc Cert.LatNormIdeal.main_arg1) = m ((c.tc : Thread Cert.LatNormIdeal.nD Cert.LatNormIdeal.τ).loc Cert.LatNormIdeal.main_arg1)
      ∧ r.2.mem ((c.tc : Thread Cert.LatNormIdeal.nD Cert.LatNormIdeal.τ).loc Cert.LatNormIdeal.main_arg2) = m ((c.tc : Thread Cert.LatNormIdeal.nD Cert.LatNormIdeal.τ).loc Cert.LatNormIdeal.main_arg2)
      ∧ r.2.mem ((c.tc : Thread Cert.LatNormIdeal.nD Cert.LatNormIdeal.τ).loc Cert.LatNormIdeal.main_arg3) = m ((c.tc : Thread Cert.LatNormIdeal.nD Cert.LatNormIdeal.τ).loc Cert.LatNormIdeal.main_arg3))
      ∧ r.2.sem = fun _ => 0)

def quiescent_LatNormReferenceIdeal [hLatNormReferenceIdeal : Cert.LatNormReferenceIdeal.Facts] : Prop :=
  ∀ (m : (ℓ : Loc Cert.LatNormReferenceIdeal.nD Cert.LatNormReferenceIdeal.τ Cert.LatNormReferenceIdeal.sig) → Buf (Elt Ideal) ℓ) (g : Dev Cert.LatNormReferenceIdeal.nD → PrngReg), Pre_LatNormReferenceIdeal m →
    θ_run (Cert.LatNormReferenceIdeal.defs (F := Ideal)) (onTc (τ := Cert.LatNormReferenceIdeal.τ) (Cert.LatNormReferenceIdeal.main (F := Ideal))) ⟨m, fun _ => 0, g⟩ (fun r => (∀ c : Dev Cert.LatNormReferenceIdeal.nD,
      r.2.mem ((c.tc : Thread Cert.LatNormReferenceIdeal.nD Cert.LatNormReferenceIdeal.τ).loc Cert.LatNormReferenceIdeal.main_arg0) = m ((c.tc : Thread Cert.LatNormReferenceIdeal.nD Cert.LatNormReferenceIdeal.τ).loc Cert.LatNormReferenceIdeal.main_arg0)
      ∧ r.2.mem ((c.tc : Thread Cert.LatNormReferenceIdeal.nD Cert.LatNormReferenceIdeal.τ).loc Cert.LatNormReferenceIdeal.main_arg1) = m ((c.tc : Thread Cert.LatNormReferenceIdeal.nD Cert.LatNormReferenceIdeal.τ).loc Cert.LatNormReferenceIdeal.main_arg1)
      ∧ r.2.mem ((c.tc : Thread Cert.LatNormReferenceIdeal.nD Cert.LatNormReferenceIdeal.τ).loc Cert.LatNormReferenceIdeal.main_arg2) = m ((c.tc : Thread Cert.LatNormReferenceIdeal.nD Cert.LatNormReferenceIdeal.τ).loc Cert.LatNormReferenceIdeal.main_arg2)
      ∧ r.2.mem ((c.tc : Thread Cert.LatNormReferenceIdeal.nD Cert.LatNormReferenceIdeal.τ).loc Cert.LatNormReferenceIdeal.main_arg3) = m ((c.tc : Thread Cert.LatNormReferenceIdeal.nD Cert.LatNormReferenceIdeal.τ).loc Cert.LatNormReferenceIdeal.main_arg3))
      ∧ r.2.sem = fun _ => 0)

def quiescent_AdamwWAda [hAdamwWAda : Cert.AdamwWAda.Facts] : Prop :=
  ∀ (m : (ℓ : Loc Cert.AdamwWAda.nD Cert.AdamwWAda.τ Cert.AdamwWAda.sig) → Buf (Elt Bits) ℓ) (g : Dev Cert.AdamwWAda.nD → PrngReg), Pre_AdamwWAda m →
    θ_run (Cert.AdamwWAda.defs (F := Bits)) (onTc (τ := Cert.AdamwWAda.τ) (Cert.AdamwWAda.main (F := Bits))) ⟨m, fun _ => 0, g⟩ (fun r => (∀ c : Dev Cert.AdamwWAda.nD,
      r.2.mem ((c.tc : Thread Cert.AdamwWAda.nD Cert.AdamwWAda.τ).loc Cert.AdamwWAda.main_arg0) = m ((c.tc : Thread Cert.AdamwWAda.nD Cert.AdamwWAda.τ).loc Cert.AdamwWAda.main_arg0)
      ∧ r.2.mem ((c.tc : Thread Cert.AdamwWAda.nD Cert.AdamwWAda.τ).loc Cert.AdamwWAda.main_arg1) = m ((c.tc : Thread Cert.AdamwWAda.nD Cert.AdamwWAda.τ).loc Cert.AdamwWAda.main_arg1)
      ∧ r.2.mem ((c.tc : Thread Cert.AdamwWAda.nD Cert.AdamwWAda.τ).loc Cert.AdamwWAda.main_arg2) = m ((c.tc : Thread Cert.AdamwWAda.nD Cert.AdamwWAda.τ).loc Cert.AdamwWAda.main_arg2)
      ∧ r.2.mem ((c.tc : Thread Cert.AdamwWAda.nD Cert.AdamwWAda.τ).loc Cert.AdamwWAda.main_arg3) = m ((c.tc : Thread Cert.AdamwWAda.nD Cert.AdamwWAda.τ).loc Cert.AdamwWAda.main_arg3))
      ∧ r.2.sem = fun _ => 0)

def quiescent_AdamwWAdaIdeal [hAdamwWAdaIdeal : Cert.AdamwWAdaIdeal.Facts] : Prop :=
  ∀ (m : (ℓ : Loc Cert.AdamwWAdaIdeal.nD Cert.AdamwWAdaIdeal.τ Cert.AdamwWAdaIdeal.sig) → Buf (Elt Ideal) ℓ) (g : Dev Cert.AdamwWAdaIdeal.nD → PrngReg), Pre_AdamwWAdaIdeal m →
    θ_run (Cert.AdamwWAdaIdeal.defs (F := Ideal)) (onTc (τ := Cert.AdamwWAdaIdeal.τ) (Cert.AdamwWAdaIdeal.main (F := Ideal))) ⟨m, fun _ => 0, g⟩ (fun r => (∀ c : Dev Cert.AdamwWAdaIdeal.nD,
      r.2.mem ((c.tc : Thread Cert.AdamwWAdaIdeal.nD Cert.AdamwWAdaIdeal.τ).loc Cert.AdamwWAdaIdeal.main_arg0) = m ((c.tc : Thread Cert.AdamwWAdaIdeal.nD Cert.AdamwWAdaIdeal.τ).loc Cert.AdamwWAdaIdeal.main_arg0)
      ∧ r.2.mem ((c.tc : Thread Cert.AdamwWAdaIdeal.nD Cert.AdamwWAdaIdeal.τ).loc Cert.AdamwWAdaIdeal.main_arg1) = m ((c.tc : Thread Cert.AdamwWAdaIdeal.nD Cert.AdamwWAdaIdeal.τ).loc Cert.AdamwWAdaIdeal.main_arg1)
      ∧ r.2.mem ((c.tc : Thread Cert.AdamwWAdaIdeal.nD Cert.AdamwWAdaIdeal.τ).loc Cert.AdamwWAdaIdeal.main_arg2) = m ((c.tc : Thread Cert.AdamwWAdaIdeal.nD Cert.AdamwWAdaIdeal.τ).loc Cert.AdamwWAdaIdeal.main_arg2)
      ∧ r.2.mem ((c.tc : Thread Cert.AdamwWAdaIdeal.nD Cert.AdamwWAdaIdeal.τ).loc Cert.AdamwWAdaIdeal.main_arg3) = m ((c.tc : Thread Cert.AdamwWAdaIdeal.nD Cert.AdamwWAdaIdeal.τ).loc Cert.AdamwWAdaIdeal.main_arg3))
      ∧ r.2.sem = fun _ => 0)

def quiescent_AdamwWAdaReferenceIdeal [hAdamwWAdaReferenceIdeal : Cert.AdamwWAdaReferenceIdeal.Facts] : Prop :=
  ∀ (m : (ℓ : Loc Cert.AdamwWAdaReferenceIdeal.nD Cert.AdamwWAdaReferenceIdeal.τ Cert.AdamwWAdaReferenceIdeal.sig) → Buf (Elt Ideal) ℓ) (g : Dev Cert.AdamwWAdaReferenceIdeal.nD → PrngReg), Pre_AdamwWAdaReferenceIdeal m →
    θ_run (Cert.AdamwWAdaReferenceIdeal.defs (F := Ideal)) (onTc (τ := Cert.AdamwWAdaReferenceIdeal.τ) (Cert.AdamwWAdaReferenceIdeal.main (F := Ideal))) ⟨m, fun _ => 0, g⟩ (fun r => (∀ c : Dev Cert.AdamwWAdaReferenceIdeal.nD,
      r.2.mem ((c.tc : Thread Cert.AdamwWAdaReferenceIdeal.nD Cert.AdamwWAdaReferenceIdeal.τ).loc Cert.AdamwWAdaReferenceIdeal.main_arg0) = m ((c.tc : Thread Cert.AdamwWAdaReferenceIdeal.nD Cert.AdamwWAdaReferenceIdeal.τ).loc Cert.AdamwWAdaReferenceIdeal.main_arg0)
      ∧ r.2.mem ((c.tc : Thread Cert.AdamwWAdaReferenceIdeal.nD Cert.AdamwWAdaReferenceIdeal.τ).loc Cert.AdamwWAdaReferenceIdeal.main_arg1) = m ((c.tc : Thread Cert.AdamwWAdaReferenceIdeal.nD Cert.AdamwWAdaReferenceIdeal.τ).loc Cert.AdamwWAdaReferenceIdeal.main_arg1)
      ∧ r.2.mem ((c.tc : Thread Cert.AdamwWAdaReferenceIdeal.nD Cert.AdamwWAdaReferenceIdeal.τ).loc Cert.AdamwWAdaReferenceIdeal.main_arg2) = m ((c.tc : Thread Cert.AdamwWAdaReferenceIdeal.nD Cert.AdamwWAdaReferenceIdeal.τ).loc Cert.AdamwWAdaReferenceIdeal.main_arg2)
      ∧ r.2.mem ((c.tc : Thread Cert.AdamwWAdaReferenceIdeal.nD Cert.AdamwWAdaReferenceIdeal.τ).loc Cert.AdamwWAdaReferenceIdeal.main_arg3) = m ((c.tc : Thread Cert.AdamwWAdaReferenceIdeal.nD Cert.AdamwWAdaReferenceIdeal.τ).loc Cert.AdamwWAdaReferenceIdeal.main_arg3))
      ∧ r.2.sem = fun _ => 0)

def quiescent_AdamwWIn [hAdamwWIn : Cert.AdamwWIn.Facts] : Prop :=
  ∀ (m : (ℓ : Loc Cert.AdamwWIn.nD Cert.AdamwWIn.τ Cert.AdamwWIn.sig) → Buf (Elt Bits) ℓ) (g : Dev Cert.AdamwWIn.nD → PrngReg), Pre_AdamwWIn m →
    θ_run (Cert.AdamwWIn.defs (F := Bits)) (onTc (τ := Cert.AdamwWIn.τ) (Cert.AdamwWIn.main (F := Bits))) ⟨m, fun _ => 0, g⟩ (fun r => (∀ c : Dev Cert.AdamwWIn.nD,
      r.2.mem ((c.tc : Thread Cert.AdamwWIn.nD Cert.AdamwWIn.τ).loc Cert.AdamwWIn.main_arg0) = m ((c.tc : Thread Cert.AdamwWIn.nD Cert.AdamwWIn.τ).loc Cert.AdamwWIn.main_arg0)
      ∧ r.2.mem ((c.tc : Thread Cert.AdamwWIn.nD Cert.AdamwWIn.τ).loc Cert.AdamwWIn.main_arg1) = m ((c.tc : Thread Cert.AdamwWIn.nD Cert.AdamwWIn.τ).loc Cert.AdamwWIn.main_arg1)
      ∧ r.2.mem ((c.tc : Thread Cert.AdamwWIn.nD Cert.AdamwWIn.τ).loc Cert.AdamwWIn.main_arg2) = m ((c.tc : Thread Cert.AdamwWIn.nD Cert.AdamwWIn.τ).loc Cert.AdamwWIn.main_arg2)
      ∧ r.2.mem ((c.tc : Thread Cert.AdamwWIn.nD Cert.AdamwWIn.τ).loc Cert.AdamwWIn.main_arg3) = m ((c.tc : Thread Cert.AdamwWIn.nD Cert.AdamwWIn.τ).loc Cert.AdamwWIn.main_arg3))
      ∧ r.2.sem = fun _ => 0)

def quiescent_AdamwWInIdeal [hAdamwWInIdeal : Cert.AdamwWInIdeal.Facts] : Prop :=
  ∀ (m : (ℓ : Loc Cert.AdamwWInIdeal.nD Cert.AdamwWInIdeal.τ Cert.AdamwWInIdeal.sig) → Buf (Elt Ideal) ℓ) (g : Dev Cert.AdamwWInIdeal.nD → PrngReg), Pre_AdamwWInIdeal m →
    θ_run (Cert.AdamwWInIdeal.defs (F := Ideal)) (onTc (τ := Cert.AdamwWInIdeal.τ) (Cert.AdamwWInIdeal.main (F := Ideal))) ⟨m, fun _ => 0, g⟩ (fun r => (∀ c : Dev Cert.AdamwWInIdeal.nD,
      r.2.mem ((c.tc : Thread Cert.AdamwWInIdeal.nD Cert.AdamwWInIdeal.τ).loc Cert.AdamwWInIdeal.main_arg0) = m ((c.tc : Thread Cert.AdamwWInIdeal.nD Cert.AdamwWInIdeal.τ).loc Cert.AdamwWInIdeal.main_arg0)
      ∧ r.2.mem ((c.tc : Thread Cert.AdamwWInIdeal.nD Cert.AdamwWInIdeal.τ).loc Cert.AdamwWInIdeal.main_arg1) = m ((c.tc : Thread Cert.AdamwWInIdeal.nD Cert.AdamwWInIdeal.τ).loc Cert.AdamwWInIdeal.main_arg1)
      ∧ r.2.mem ((c.tc : Thread Cert.AdamwWInIdeal.nD Cert.AdamwWInIdeal.τ).loc Cert.AdamwWInIdeal.main_arg2) = m ((c.tc : Thread Cert.AdamwWInIdeal.nD Cert.AdamwWInIdeal.τ).loc Cert.AdamwWInIdeal.main_arg2)
      ∧ r.2.mem ((c.tc : Thread Cert.AdamwWInIdeal.nD Cert.AdamwWInIdeal.τ).loc Cert.AdamwWInIdeal.main_arg3) = m ((c.tc : Thread Cert.AdamwWInIdeal.nD Cert.AdamwWInIdeal.τ).loc Cert.AdamwWInIdeal.main_arg3))
      ∧ r.2.sem = fun _ => 0)

def quiescent_AdamwWInReferenceIdeal [hAdamwWInReferenceIdeal : Cert.AdamwWInReferenceIdeal.Facts] : Prop :=
  ∀ (m : (ℓ : Loc Cert.AdamwWInReferenceIdeal.nD Cert.AdamwWInReferenceIdeal.τ Cert.AdamwWInReferenceIdeal.sig) → Buf (Elt Ideal) ℓ) (g : Dev Cert.AdamwWInReferenceIdeal.nD → PrngReg), Pre_AdamwWInReferenceIdeal m →
    θ_run (Cert.AdamwWInReferenceIdeal.defs (F := Ideal)) (onTc (τ := Cert.AdamwWInReferenceIdeal.τ) (Cert.AdamwWInReferenceIdeal.main (F := Ideal))) ⟨m, fun _ => 0, g⟩ (fun r => (∀ c : Dev Cert.AdamwWInReferenceIdeal.nD,
      r.2.mem ((c.tc : Thread Cert.AdamwWInReferenceIdeal.nD Cert.AdamwWInReferenceIdeal.τ).loc Cert.AdamwWInReferenceIdeal.main_arg0) = m ((c.tc : Thread Cert.AdamwWInReferenceIdeal.nD Cert.AdamwWInReferenceIdeal.τ).loc Cert.AdamwWInReferenceIdeal.main_arg0)
      ∧ r.2.mem ((c.tc : Thread Cert.AdamwWInReferenceIdeal.nD Cert.AdamwWInReferenceIdeal.τ).loc Cert.AdamwWInReferenceIdeal.main_arg1) = m ((c.tc : Thread Cert.AdamwWInReferenceIdeal.nD Cert.AdamwWInReferenceIdeal.τ).loc Cert.AdamwWInReferenceIdeal.main_arg1)
      ∧ r.2.mem ((c.tc : Thread Cert.AdamwWInReferenceIdeal.nD Cert.AdamwWInReferenceIdeal.τ).loc Cert.AdamwWInReferenceIdeal.main_arg2) = m ((c.tc : Thread Cert.AdamwWInReferenceIdeal.nD Cert.AdamwWInReferenceIdeal.τ).loc Cert.AdamwWInReferenceIdeal.main_arg2)
      ∧ r.2.mem ((c.tc : Thread Cert.AdamwWInReferenceIdeal.nD Cert.AdamwWInReferenceIdeal.τ).loc Cert.AdamwWInReferenceIdeal.main_arg3) = m ((c.tc : Thread Cert.AdamwWInReferenceIdeal.nD Cert.AdamwWInReferenceIdeal.τ).loc Cert.AdamwWInReferenceIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_finite_queries [hAttnFwdIdeal : Cert.AttnFwdIdeal.Facts] [hPre_finite_queries : Cert.Pre_finite_queries.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_queries m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdReferenceIdeal [hAttnFwdReferenceIdeal : Cert.AttnFwdReferenceIdeal.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1)
      ∧ r.2.mem ((c.tc : Thread Cert.AttnFwdReferenceIdeal.nD Cert.AttnFwdReferenceIdeal.τ).loc Cert.AttnFwdReferenceIdeal.main_arg2) = m ((c.tc : Thread Cert.AttnFwdReferenceIdeal.nD Cert.AttnFwdReferenceIdeal.τ).loc Cert.AttnFwdReferenceIdeal.main_arg2))
      ∧ r.2.sem = fun _ => 0)

def quiescent_AttnFwdReferenceIdeal_pre_finite_queries [hAttnFwdReferenceIdeal : Cert.AttnFwdReferenceIdeal.Facts] [hPre_finite_queries : Cert.Pre_finite_queries.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal_finite_queries m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1)
      ∧ r.2.mem ((c.tc : Thread Cert.AttnFwdReferenceIdeal.nD Cert.AttnFwdReferenceIdeal.τ).loc Cert.AttnFwdReferenceIdeal.main_arg2) = m ((c.tc : Thread Cert.AttnFwdReferenceIdeal.nD Cert.AttnFwdReferenceIdeal.τ).loc Cert.AttnFwdReferenceIdeal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale" .f32 0x3DD105EC#32 (((Real.sqrt 96)⁻¹ : ℝ) : EReal)
  ∧ IdealRules.named_const.Statement Cert.KernelIdeal.κ "unprescale" .f32 0x40D95360#32 (((Real.sqrt 96) * (Real.log 2) : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mlp2Dx_Mlp2DxIdeal : Prop :=
  True

def algebraic_Mlp2DxIdeal_Mlp2DxReferenceIdeal [hMlp2DxIdeal : Cert.Mlp2DxIdeal.Facts] [hMlp2DxReferenceIdeal : Cert.Mlp2DxReferenceIdeal.Facts] : Prop :=
  ∀ (m : (ℓ : Loc Cert.Mlp2DxIdeal.nD Cert.Mlp2DxIdeal.τ Cert.Mlp2DxIdeal.sig) → Buf (Elt Ideal) ℓ) (g : Dev Cert.Mlp2DxIdeal.nD → PrngReg)
    (m' : (ℓ : Loc Cert.Mlp2DxReferenceIdeal.nD Cert.Mlp2DxReferenceIdeal.τ Cert.Mlp2DxReferenceIdeal.sig) → Buf (Elt Ideal) ℓ) (g' : Dev Cert.Mlp2DxReferenceIdeal.nD → PrngReg), Pre_Mlp2DxIdeal m →
    (∀ c : Dev Cert.Mlp2DxIdeal.nD,
      m' ((c.tc : Thread Cert.Mlp2DxReferenceIdeal.nD Cert.Mlp2DxReferenceIdeal.τ).loc Cert.Mlp2DxReferenceIdeal.main_arg0) = m ((c.tc : Thread Cert.Mlp2DxIdeal.nD Cert.Mlp2DxIdeal.τ).loc Cert.Mlp2DxIdeal.main_arg0)
      ∧ m' ((c.tc : Thread Cert.Mlp2DxReferenceIdeal.nD Cert.Mlp2DxReferenceIdeal.τ).loc Cert.Mlp2DxReferenceIdeal.main_arg1) = m ((c.tc : Thread Cert.Mlp2DxIdeal.nD Cert.Mlp2DxIdeal.τ).loc Cert.Mlp2DxIdeal.main_arg1)
      ∧ m' ((c.tc : Thread Cert.Mlp2DxReferenceIdeal.nD Cert.Mlp2DxReferenceIdeal.τ).loc Cert.Mlp2DxReferenceIdeal.main_arg2) = m ((c.tc : Thread Cert.Mlp2DxIdeal.nD Cert.Mlp2DxIdeal.τ).loc Cert.Mlp2DxIdeal.main_arg2)) →
    ∃ (v0 : (c : Dev Cert.Mlp2DxIdeal.nD) → Buf (Elt Ideal) ((c.tc : Thread Cert.Mlp2DxIdeal.nD Cert.Mlp2DxIdeal.τ).loc Cert.Mlp2DxIdeal.main_v7)),
      θ_run (Cert.Mlp2DxIdeal.defs (F := Ideal)) (onTc (τ := Cert.Mlp2DxIdeal.τ) (Cert.Mlp2DxIdeal.main (F := Ideal))) ⟨m, fun _ => 0, g⟩ (fun r => ∀ c : Dev Cert.Mlp2DxIdeal.nD,
          r.2.mem ((c.tc : Thread Cert.Mlp2DxIdeal.nD Cert.Mlp2DxIdeal.τ).loc Cert.Mlp2DxIdeal.main_v7) = v0 c
          ∧ r.2.mem ((c.tc : Thread Cert.Mlp2DxIdeal.nD Cert.Mlp2DxIdeal.τ).loc Cert.Mlp2DxIdeal.main_arg0) = m ((c.tc : Thread Cert.Mlp2DxIdeal.nD Cert.Mlp2DxIdeal.τ).loc Cert.Mlp2DxIdeal.main_arg0)
          ∧ r.2.mem ((c.tc : Thread Cert.Mlp2DxIdeal.nD Cert.Mlp2DxIdeal.τ).loc Cert.Mlp2DxIdeal.main_arg1) = m ((c.tc : Thread Cert.Mlp2DxIdeal.nD Cert.Mlp2DxIdeal.τ).loc Cert.Mlp2DxIdeal.main_arg1)
          ∧ r.2.mem ((c.tc : Thread Cert.Mlp2DxIdeal.nD Cert.Mlp2DxIdeal.τ).loc Cert.Mlp2DxIdeal.main_arg2) = m ((c.tc : Thread Cert.Mlp2DxIdeal.nD Cert.Mlp2DxIdeal.τ).loc Cert.Mlp2DxIdeal.main_arg2))
      ∧ θ_run (Cert.Mlp2DxReferenceIdeal.defs (F := Ideal)) (onTc (τ := Cert.Mlp2DxReferenceIdeal.τ) (Cert.Mlp2DxReferenceIdeal.main (F := Ideal))) ⟨m', fun _ => 0, g'⟩ (fun r => ∀ c : Dev Cert.Mlp2DxReferenceIdeal.nD,
          r.2.mem ((c.tc : Thread Cert.Mlp2DxReferenceIdeal.nD Cert.Mlp2DxReferenceIdeal.τ).loc Cert.Mlp2DxReferenceIdeal.main_v15) = v0 c
          ∧ r.2.mem ((c.tc : Thread Cert.Mlp2DxReferenceIdeal.nD Cert.Mlp2DxReferenceIdeal.τ).loc Cert.Mlp2DxReferenceIdeal.main_arg0) = m' ((c.tc : Thread Cert.Mlp2DxReferenceIdeal.nD Cert.Mlp2DxReferenceIdeal.τ).loc Cert.Mlp2DxReferenceIdeal.main_arg0)
          ∧ r.2.mem ((c.tc : Thread Cert.Mlp2DxReferenceIdeal.nD Cert.Mlp2DxReferenceIdeal.τ).loc Cert.Mlp2DxReferenceIdeal.main_arg1) = m' ((c.tc : Thread Cert.Mlp2DxReferenceIdeal.nD Cert.Mlp2DxReferenceIdeal.τ).loc Cert.Mlp2DxReferenceIdeal.main_arg1)
          ∧ r.2.mem ((c.tc : Thread Cert.Mlp2DxReferenceIdeal.nD Cert.Mlp2DxReferenceIdeal.τ).loc Cert.Mlp2DxReferenceIdeal.main_arg2) = m' ((c.tc : Thread Cert.Mlp2DxReferenceIdeal.nD Cert.Mlp2DxReferenceIdeal.τ).loc Cert.Mlp2DxReferenceIdeal.main_arg2))

def preserves_Mlp2Dw_Mlp2DwIdeal : Prop :=
  True

def algebraic_Mlp2DwIdeal_Mlp2DwReferenceIdeal [hMlp2DwIdeal : Cert.Mlp2DwIdeal.Facts] [hMlp2DwReferenceIdeal : Cert.Mlp2DwReferenceIdeal.Facts] : Prop :=
  ∀ (m : (ℓ : Loc Cert.Mlp2DwIdeal.nD Cert.Mlp2DwIdeal.τ Cert.Mlp2DwIdeal.sig) → Buf (Elt Ideal) ℓ) (g : Dev Cert.Mlp2DwIdeal.nD → PrngReg)
    (m' : (ℓ : Loc Cert.Mlp2DwReferenceIdeal.nD Cert.Mlp2DwReferenceIdeal.τ Cert.Mlp2DwReferenceIdeal.sig) → Buf (Elt Ideal) ℓ) (g' : Dev Cert.Mlp2DwReferenceIdeal.nD → PrngReg), Pre_Mlp2DwIdeal m →
    (∀ c : Dev Cert.Mlp2DwIdeal.nD,
      m' ((c.tc : Thread Cert.Mlp2DwReferenceIdeal.nD Cert.Mlp2DwReferenceIdeal.τ).loc Cert.Mlp2DwReferenceIdeal.main_arg0) = m ((c.tc : Thread Cert.Mlp2DwIdeal.nD Cert.Mlp2DwIdeal.τ).loc Cert.Mlp2DwIdeal.main_arg0)
      ∧ m' ((c.tc : Thread Cert.Mlp2DwReferenceIdeal.nD Cert.Mlp2DwReferenceIdeal.τ).loc Cert.Mlp2DwReferenceIdeal.main_arg1) = m ((c.tc : Thread Cert.Mlp2DwIdeal.nD Cert.Mlp2DwIdeal.τ).loc Cert.Mlp2DwIdeal.main_arg1)
      ∧ m' ((c.tc : Thread Cert.Mlp2DwReferenceIdeal.nD Cert.Mlp2DwReferenceIdeal.τ).loc Cert.Mlp2DwReferenceIdeal.main_arg2) = m ((c.tc : Thread Cert.Mlp2DwIdeal.nD Cert.Mlp2DwIdeal.τ).loc Cert.Mlp2DwIdeal.main_arg2)) →
    ∃ (v0 : (c : Dev Cert.Mlp2DwIdeal.nD) → Buf (Elt Ideal) ((c.tc : Thread Cert.Mlp2DwIdeal.nD Cert.Mlp2DwIdeal.τ).loc Cert.Mlp2DwIdeal.main_v6)),
      θ_run (Cert.Mlp2DwIdeal.defs (F := Ideal)) (onTc (τ := Cert.Mlp2DwIdeal.τ) (Cert.Mlp2DwIdeal.main (F := Ideal))) ⟨m, fun _ => 0, g⟩ (fun r => ∀ c : Dev Cert.Mlp2DwIdeal.nD,
          r.2.mem ((c.tc : Thread Cert.Mlp2DwIdeal.nD Cert.Mlp2DwIdeal.τ).loc Cert.Mlp2DwIdeal.main_v6) = v0 c
          ∧ r.2.mem ((c.tc : Thread Cert.Mlp2DwIdeal.nD Cert.Mlp2DwIdeal.τ).loc Cert.Mlp2DwIdeal.main_arg0) = m ((c.tc : Thread Cert.Mlp2DwIdeal.nD Cert.Mlp2DwIdeal.τ).loc Cert.Mlp2DwIdeal.main_arg0)
          ∧ r.2.mem ((c.tc : Thread Cert.Mlp2DwIdeal.nD Cert.Mlp2DwIdeal.τ).loc Cert.Mlp2DwIdeal.main_arg1) = m ((c.tc : Thread Cert.Mlp2DwIdeal.nD Cert.Mlp2DwIdeal.τ).loc Cert.Mlp2DwIdeal.main_arg1)
          ∧ r.2.mem ((c.tc : Thread Cert.Mlp2DwIdeal.nD Cert.Mlp2DwIdeal.τ).loc Cert.Mlp2DwIdeal.main_arg2) = m ((c.tc : Thread Cert.Mlp2DwIdeal.nD Cert.Mlp2DwIdeal.τ).loc Cert.Mlp2DwIdeal.main_arg2))
      ∧ θ_run (Cert.Mlp2DwReferenceIdeal.defs (F := Ideal)) (onTc (τ := Cert.Mlp2DwReferenceIdeal.τ) (Cert.Mlp2DwReferenceIdeal.main (F := Ideal))) ⟨m', fun _ => 0, g'⟩ (fun r => ∀ c : Dev Cert.Mlp2DwReferenceIdeal.nD,
          r.2.mem ((c.tc : Thread Cert.Mlp2DwReferenceIdeal.nD Cert.Mlp2DwReferenceIdeal.τ).loc Cert.Mlp2DwReferenceIdeal.main_v9) = v0 c
          ∧ r.2.mem ((c.tc : Thread Cert.Mlp2DwReferenceIdeal.nD Cert.Mlp2DwReferenceIdeal.τ).loc Cert.Mlp2DwReferenceIdeal.main_arg0) = m' ((c.tc : Thread Cert.Mlp2DwReferenceIdeal.nD Cert.Mlp2DwReferenceIdeal.τ).loc Cert.Mlp2DwReferenceIdeal.main_arg0)
          ∧ r.2.mem ((c.tc : Thread Cert.Mlp2DwReferenceIdeal.nD Cert.Mlp2DwReferenceIdeal.τ).loc Cert.Mlp2DwReferenceIdeal.main_arg1) = m' ((c.tc : Thread Cert.Mlp2DwReferenceIdeal.nD Cert.Mlp2DwReferenceIdeal.τ).loc Cert.Mlp2DwReferenceIdeal.main_arg1)
          ∧ r.2.mem ((c.tc : Thread Cert.Mlp2DwReferenceIdeal.nD Cert.Mlp2DwReferenceIdeal.τ).loc Cert.Mlp2DwReferenceIdeal.main_arg2) = m' ((c.tc : Thread Cert.Mlp2DwReferenceIdeal.nD Cert.Mlp2DwReferenceIdeal.τ).loc Cert.Mlp2DwReferenceIdeal.main_arg2))

def preserves_Mlp1Dx_Mlp1DxIdeal : Prop :=
  True

def algebraic_Mlp1DxIdeal_Mlp1DxReferenceIdeal [hMlp1DxIdeal : Cert.Mlp1DxIdeal.Facts] [hMlp1DxReferenceIdeal : Cert.Mlp1DxReferenceIdeal.Facts] : Prop :=
  ∀ (m : (ℓ : Loc Cert.Mlp1DxIdeal.nD Cert.Mlp1DxIdeal.τ Cert.Mlp1DxIdeal.sig) → Buf (Elt Ideal) ℓ) (g : Dev Cert.Mlp1DxIdeal.nD → PrngReg)
    (m' : (ℓ : Loc Cert.Mlp1DxReferenceIdeal.nD Cert.Mlp1DxReferenceIdeal.τ Cert.Mlp1DxReferenceIdeal.sig) → Buf (Elt Ideal) ℓ) (g' : Dev Cert.Mlp1DxReferenceIdeal.nD → PrngReg), Pre_Mlp1DxIdeal m →
    (∀ c : Dev Cert.Mlp1DxIdeal.nD,
      m' ((c.tc : Thread Cert.Mlp1DxReferenceIdeal.nD Cert.Mlp1DxReferenceIdeal.τ).loc Cert.Mlp1DxReferenceIdeal.main_arg0) = m ((c.tc : Thread Cert.Mlp1DxIdeal.nD Cert.Mlp1DxIdeal.τ).loc Cert.Mlp1DxIdeal.main_arg0)
      ∧ m' ((c.tc : Thread Cert.Mlp1DxReferenceIdeal.nD Cert.Mlp1DxReferenceIdeal.τ).loc Cert.Mlp1DxReferenceIdeal.main_arg1) = m ((c.tc : Thread Cert.Mlp1DxIdeal.nD Cert.Mlp1DxIdeal.τ).loc Cert.Mlp1DxIdeal.main_arg1)
      ∧ m' ((c.tc : Thread Cert.Mlp1DxReferenceIdeal.nD Cert.Mlp1DxReferenceIdeal.τ).loc Cert.Mlp1DxReferenceIdeal.main_arg2) = m ((c.tc : Thread Cert.Mlp1DxIdeal.nD Cert.Mlp1DxIdeal.τ).loc Cert.Mlp1DxIdeal.main_arg2)) →
    ∃ (v0 : (c : Dev Cert.Mlp1DxIdeal.nD) → Buf (Elt Ideal) ((c.tc : Thread Cert.Mlp1DxIdeal.nD Cert.Mlp1DxIdeal.τ).loc Cert.Mlp1DxIdeal.main_v3)),
      θ_run (Cert.Mlp1DxIdeal.defs (F := Ideal)) (onTc (τ := Cert.Mlp1DxIdeal.τ) (Cert.Mlp1DxIdeal.main (F := Ideal))) ⟨m, fun _ => 0, g⟩ (fun r => ∀ c : Dev Cert.Mlp1DxIdeal.nD,
          r.2.mem ((c.tc : Thread Cert.Mlp1DxIdeal.nD Cert.Mlp1DxIdeal.τ).loc Cert.Mlp1DxIdeal.main_v3) = v0 c
          ∧ r.2.mem ((c.tc : Thread Cert.Mlp1DxIdeal.nD Cert.Mlp1DxIdeal.τ).loc Cert.Mlp1DxIdeal.main_arg0) = m ((c.tc : Thread Cert.Mlp1DxIdeal.nD Cert.Mlp1DxIdeal.τ).loc Cert.Mlp1DxIdeal.main_arg0)
          ∧ r.2.mem ((c.tc : Thread Cert.Mlp1DxIdeal.nD Cert.Mlp1DxIdeal.τ).loc Cert.Mlp1DxIdeal.main_arg1) = m ((c.tc : Thread Cert.Mlp1DxIdeal.nD Cert.Mlp1DxIdeal.τ).loc Cert.Mlp1DxIdeal.main_arg1)
          ∧ r.2.mem ((c.tc : Thread Cert.Mlp1DxIdeal.nD Cert.Mlp1DxIdeal.τ).loc Cert.Mlp1DxIdeal.main_arg2) = m ((c.tc : Thread Cert.Mlp1DxIdeal.nD Cert.Mlp1DxIdeal.τ).loc Cert.Mlp1DxIdeal.main_arg2))
      ∧ θ_run (Cert.Mlp1DxReferenceIdeal.defs (F := Ideal)) (onTc (τ := Cert.Mlp1DxReferenceIdeal.τ) (Cert.Mlp1DxReferenceIdeal.main (F := Ideal))) ⟨m', fun _ => 0, g'⟩ (fun r => ∀ c : Dev Cert.Mlp1DxReferenceIdeal.nD,
          r.2.mem ((c.tc : Thread Cert.Mlp1DxReferenceIdeal.nD Cert.Mlp1DxReferenceIdeal.τ).loc Cert.Mlp1DxReferenceIdeal.main_v4) = v0 c
          ∧ r.2.mem ((c.tc : Thread Cert.Mlp1DxReferenceIdeal.nD Cert.Mlp1DxReferenceIdeal.τ).loc Cert.Mlp1DxReferenceIdeal.main_arg0) = m' ((c.tc : Thread Cert.Mlp1DxReferenceIdeal.nD Cert.Mlp1DxReferenceIdeal.τ).loc Cert.Mlp1DxReferenceIdeal.main_arg0)
          ∧ r.2.mem ((c.tc : Thread Cert.Mlp1DxReferenceIdeal.nD Cert.Mlp1DxReferenceIdeal.τ).loc Cert.Mlp1DxReferenceIdeal.main_arg1) = m' ((c.tc : Thread Cert.Mlp1DxReferenceIdeal.nD Cert.Mlp1DxReferenceIdeal.τ).loc Cert.Mlp1DxReferenceIdeal.main_arg1)
          ∧ r.2.mem ((c.tc : Thread Cert.Mlp1DxReferenceIdeal.nD Cert.Mlp1DxReferenceIdeal.τ).loc Cert.Mlp1DxReferenceIdeal.main_arg2) = m' ((c.tc : Thread Cert.Mlp1DxReferenceIdeal.nD Cert.Mlp1DxReferenceIdeal.τ).loc Cert.Mlp1DxReferenceIdeal.main_arg2))

def preserves_Mlp1Dw_Mlp1DwIdeal : Prop :=
  True

def algebraic_Mlp1DwIdeal_Mlp1DwReferenceIdeal [hMlp1DwIdeal : Cert.Mlp1DwIdeal.Facts] [hMlp1DwReferenceIdeal : Cert.Mlp1DwReferenceIdeal.Facts] : Prop :=
  ∀ (m : (ℓ : Loc Cert.Mlp1DwIdeal.nD Cert.Mlp1DwIdeal.τ Cert.Mlp1DwIdeal.sig) → Buf (Elt Ideal) ℓ) (g : Dev Cert.Mlp1DwIdeal.nD → PrngReg)
    (m' : (ℓ : Loc Cert.Mlp1DwReferenceIdeal.nD Cert.Mlp1DwReferenceIdeal.τ Cert.Mlp1DwReferenceIdeal.sig) → Buf (Elt Ideal) ℓ) (g' : Dev Cert.Mlp1DwReferenceIdeal.nD → PrngReg), Pre_Mlp1DwIdeal m →
    (∀ c : Dev Cert.Mlp1DwIdeal.nD,
      m' ((c.tc : Thread Cert.Mlp1DwReferenceIdeal.nD Cert.Mlp1DwReferenceIdeal.τ).loc Cert.Mlp1DwReferenceIdeal.main_arg0) = m ((c.tc : Thread Cert.Mlp1DwIdeal.nD Cert.Mlp1DwIdeal.τ).loc Cert.Mlp1DwIdeal.main_arg0)
      ∧ m' ((c.tc : Thread Cert.Mlp1DwReferenceIdeal.nD Cert.Mlp1DwReferenceIdeal.τ).loc Cert.Mlp1DwReferenceIdeal.main_arg1) = m ((c.tc : Thread Cert.Mlp1DwIdeal.nD Cert.Mlp1DwIdeal.τ).loc Cert.Mlp1DwIdeal.main_arg1)
      ∧ m' ((c.tc : Thread Cert.Mlp1DwReferenceIdeal.nD Cert.Mlp1DwReferenceIdeal.τ).loc Cert.Mlp1DwReferenceIdeal.main_arg2) = m ((c.tc : Thread Cert.Mlp1DwIdeal.nD Cert.Mlp1DwIdeal.τ).loc Cert.Mlp1DwIdeal.main_arg2)) →
    ∃ (v0 : (c : Dev Cert.Mlp1DwIdeal.nD) → Buf (Elt Ideal) ((c.tc : Thread Cert.Mlp1DwIdeal.nD Cert.Mlp1DwIdeal.τ).loc Cert.Mlp1DwIdeal.main_v4)),
      θ_run (Cert.Mlp1DwIdeal.defs (F := Ideal)) (onTc (τ := Cert.Mlp1DwIdeal.τ) (Cert.Mlp1DwIdeal.main (F := Ideal))) ⟨m, fun _ => 0, g⟩ (fun r => ∀ c : Dev Cert.Mlp1DwIdeal.nD,
          r.2.mem ((c.tc : Thread Cert.Mlp1DwIdeal.nD Cert.Mlp1DwIdeal.τ).loc Cert.Mlp1DwIdeal.main_v4) = v0 c
          ∧ r.2.mem ((c.tc : Thread Cert.Mlp1DwIdeal.nD Cert.Mlp1DwIdeal.τ).loc Cert.Mlp1DwIdeal.main_arg0) = m ((c.tc : Thread Cert.Mlp1DwIdeal.nD Cert.Mlp1DwIdeal.τ).loc Cert.Mlp1DwIdeal.main_arg0)
          ∧ r.2.mem ((c.tc : Thread Cert.Mlp1DwIdeal.nD Cert.Mlp1DwIdeal.τ).loc Cert.Mlp1DwIdeal.main_arg1) = m ((c.tc : Thread Cert.Mlp1DwIdeal.nD Cert.Mlp1DwIdeal.τ).loc Cert.Mlp1DwIdeal.main_arg1)
          ∧ r.2.mem ((c.tc : Thread Cert.Mlp1DwIdeal.nD Cert.Mlp1DwIdeal.τ).loc Cert.Mlp1DwIdeal.main_arg2) = m ((c.tc : Thread Cert.Mlp1DwIdeal.nD Cert.Mlp1DwIdeal.τ).loc Cert.Mlp1DwIdeal.main_arg2))
      ∧ θ_run (Cert.Mlp1DwReferenceIdeal.defs (F := Ideal)) (onTc (τ := Cert.Mlp1DwReferenceIdeal.τ) (Cert.Mlp1DwReferenceIdeal.main (F := Ideal))) ⟨m', fun _ => 0, g'⟩ (fun r => ∀ c : Dev Cert.Mlp1DwReferenceIdeal.nD,
          r.2.mem ((c.tc : Thread Cert.Mlp1DwReferenceIdeal.nD Cert.Mlp1DwReferenceIdeal.τ).loc Cert.Mlp1DwReferenceIdeal.main_v2) = v0 c
          ∧ r.2.mem ((c.tc : Thread Cert.Mlp1DwReferenceIdeal.nD Cert.Mlp1DwReferenceIdeal.τ).loc Cert.Mlp1DwReferenceIdeal.main_arg0) = m' ((c.tc : Thread Cert.Mlp1DwReferenceIdeal.nD Cert.Mlp1DwReferenceIdeal.τ).loc Cert.Mlp1DwReferenceIdeal.main_arg0)
          ∧ r.2.mem ((c.tc : Thread Cert.Mlp1DwReferenceIdeal.nD Cert.Mlp1DwReferenceIdeal.τ).loc Cert.Mlp1DwReferenceIdeal.main_arg1) = m' ((c.tc : Thread Cert.Mlp1DwReferenceIdeal.nD Cert.Mlp1DwReferenceIdeal.τ).loc Cert.Mlp1DwReferenceIdeal.main_arg1)
          ∧ r.2.mem ((c.tc : Thread Cert.Mlp1DwReferenceIdeal.nD Cert.Mlp1DwReferenceIdeal.τ).loc Cert.Mlp1DwReferenceIdeal.main_arg2) = m' ((c.tc : Thread Cert.Mlp1DwReferenceIdeal.nD Cert.Mlp1DwReferenceIdeal.τ).loc Cert.Mlp1DwReferenceIdeal.main_arg2))

def preserves_WOutDx_WOutDxIdeal : Prop :=
  True

def algebraic_WOutDxIdeal_WOutDxReferenceIdeal [hWOutDxIdeal : Cert.WOutDxIdeal.Facts] [hWOutDxReferenceIdeal : Cert.WOutDxReferenceIdeal.Facts] : Prop :=
  ∀ (m : (ℓ : Loc Cert.WOutDxIdeal.nD Cert.WOutDxIdeal.τ Cert.WOutDxIdeal.sig) → Buf (Elt Ideal) ℓ) (g : Dev Cert.WOutDxIdeal.nD → PrngReg)
    (m' : (ℓ : Loc Cert.WOutDxReferenceIdeal.nD Cert.WOutDxReferenceIdeal.τ Cert.WOutDxReferenceIdeal.sig) → Buf (Elt Ideal) ℓ) (g' : Dev Cert.WOutDxReferenceIdeal.nD → PrngReg), Pre_WOutDxIdeal m →
    (∀ c : Dev Cert.WOutDxIdeal.nD,
      m' ((c.tc : Thread Cert.WOutDxReferenceIdeal.nD Cert.WOutDxReferenceIdeal.τ).loc Cert.WOutDxReferenceIdeal.main_arg0) = m ((c.tc : Thread Cert.WOutDxIdeal.nD Cert.WOutDxIdeal.τ).loc Cert.WOutDxIdeal.main_arg0)
      ∧ m' ((c.tc : Thread Cert.WOutDxReferenceIdeal.nD Cert.WOutDxReferenceIdeal.τ).loc Cert.WOutDxReferenceIdeal.main_arg1) = m ((c.tc : Thread Cert.WOutDxIdeal.nD Cert.WOutDxIdeal.τ).loc Cert.WOutDxIdeal.main_arg1)
      ∧ m' ((c.tc : Thread Cert.WOutDxReferenceIdeal.nD Cert.WOutDxReferenceIdeal.τ).loc Cert.WOutDxReferenceIdeal.main_arg2) = m ((c.tc : Thread Cert.WOutDxIdeal.nD Cert.WOutDxIdeal.τ).loc Cert.WOutDxIdeal.main_arg2)) →
    ∃ (v0 : (c : Dev Cert.WOutDxIdeal.nD) → Buf (Elt Ideal) ((c.tc : Thread Cert.WOutDxIdeal.nD Cert.WOutDxIdeal.τ).loc Cert.WOutDxIdeal.main_v3)),
      θ_run (Cert.WOutDxIdeal.defs (F := Ideal)) (onTc (τ := Cert.WOutDxIdeal.τ) (Cert.WOutDxIdeal.main (F := Ideal))) ⟨m, fun _ => 0, g⟩ (fun r => ∀ c : Dev Cert.WOutDxIdeal.nD,
          r.2.mem ((c.tc : Thread Cert.WOutDxIdeal.nD Cert.WOutDxIdeal.τ).loc Cert.WOutDxIdeal.main_v3) = v0 c
          ∧ r.2.mem ((c.tc : Thread Cert.WOutDxIdeal.nD Cert.WOutDxIdeal.τ).loc Cert.WOutDxIdeal.main_arg0) = m ((c.tc : Thread Cert.WOutDxIdeal.nD Cert.WOutDxIdeal.τ).loc Cert.WOutDxIdeal.main_arg0)
          ∧ r.2.mem ((c.tc : Thread Cert.WOutDxIdeal.nD Cert.WOutDxIdeal.τ).loc Cert.WOutDxIdeal.main_arg1) = m ((c.tc : Thread Cert.WOutDxIdeal.nD Cert.WOutDxIdeal.τ).loc Cert.WOutDxIdeal.main_arg1)
          ∧ r.2.mem ((c.tc : Thread Cert.WOutDxIdeal.nD Cert.WOutDxIdeal.τ).loc Cert.WOutDxIdeal.main_arg2) = m ((c.tc : Thread Cert.WOutDxIdeal.nD Cert.WOutDxIdeal.τ).loc Cert.WOutDxIdeal.main_arg2))
      ∧ θ_run (Cert.WOutDxReferenceIdeal.defs (F := Ideal)) (onTc (τ := Cert.WOutDxReferenceIdeal.τ) (Cert.WOutDxReferenceIdeal.main (F := Ideal))) ⟨m', fun _ => 0, g'⟩ (fun r => ∀ c : Dev Cert.WOutDxReferenceIdeal.nD,
          r.2.mem ((c.tc : Thread Cert.WOutDxReferenceIdeal.nD Cert.WOutDxReferenceIdeal.τ).loc Cert.WOutDxReferenceIdeal.main_v5) = v0 c
          ∧ r.2.mem ((c.tc : Thread Cert.WOutDxReferenceIdeal.nD Cert.WOutDxReferenceIdeal.τ).loc Cert.WOutDxReferenceIdeal.main_arg0) = m' ((c.tc : Thread Cert.WOutDxReferenceIdeal.nD Cert.WOutDxReferenceIdeal.τ).loc Cert.WOutDxReferenceIdeal.main_arg0)
          ∧ r.2.mem ((c.tc : Thread Cert.WOutDxReferenceIdeal.nD Cert.WOutDxReferenceIdeal.τ).loc Cert.WOutDxReferenceIdeal.main_arg1) = m' ((c.tc : Thread Cert.WOutDxReferenceIdeal.nD Cert.WOutDxReferenceIdeal.τ).loc Cert.WOutDxReferenceIdeal.main_arg1)
          ∧ r.2.mem ((c.tc : Thread Cert.WOutDxReferenceIdeal.nD Cert.WOutDxReferenceIdeal.τ).loc Cert.WOutDxReferenceIdeal.main_arg2) = m' ((c.tc : Thread Cert.WOutDxReferenceIdeal.nD Cert.WOutDxReferenceIdeal.τ).loc Cert.WOutDxReferenceIdeal.main_arg2))

def preserves_WOutDw_WOutDwIdeal : Prop :=
  True

def algebraic_WOutDwIdeal_WOutDwReferenceIdeal [hWOutDwIdeal : Cert.WOutDwIdeal.Facts] [hWOutDwReferenceIdeal : Cert.WOutDwReferenceIdeal.Facts] : Prop :=
  ∀ (m : (ℓ : Loc Cert.WOutDwIdeal.nD Cert.WOutDwIdeal.τ Cert.WOutDwIdeal.sig) → Buf (Elt Ideal) ℓ) (g : Dev Cert.WOutDwIdeal.nD → PrngReg)
    (m' : (ℓ : Loc Cert.WOutDwReferenceIdeal.nD Cert.WOutDwReferenceIdeal.τ Cert.WOutDwReferenceIdeal.sig) → Buf (Elt Ideal) ℓ) (g' : Dev Cert.WOutDwReferenceIdeal.nD → PrngReg), Pre_WOutDwIdeal m →
    (∀ c : Dev Cert.WOutDwIdeal.nD,
      m' ((c.tc : Thread Cert.WOutDwReferenceIdeal.nD Cert.WOutDwReferenceIdeal.τ).loc Cert.WOutDwReferenceIdeal.main_arg0) = m ((c.tc : Thread Cert.WOutDwIdeal.nD Cert.WOutDwIdeal.τ).loc Cert.WOutDwIdeal.main_arg0)
      ∧ m' ((c.tc : Thread Cert.WOutDwReferenceIdeal.nD Cert.WOutDwReferenceIdeal.τ).loc Cert.WOutDwReferenceIdeal.main_arg1) = m ((c.tc : Thread Cert.WOutDwIdeal.nD Cert.WOutDwIdeal.τ).loc Cert.WOutDwIdeal.main_arg1)
      ∧ m' ((c.tc : Thread Cert.WOutDwReferenceIdeal.nD Cert.WOutDwReferenceIdeal.τ).loc Cert.WOutDwReferenceIdeal.main_arg2) = m ((c.tc : Thread Cert.WOutDwIdeal.nD Cert.WOutDwIdeal.τ).loc Cert.WOutDwIdeal.main_arg2)) →
    ∃ (v0 : (c : Dev Cert.WOutDwIdeal.nD) → Buf (Elt Ideal) ((c.tc : Thread Cert.WOutDwIdeal.nD Cert.WOutDwIdeal.τ).loc Cert.WOutDwIdeal.main_v4)),
      θ_run (Cert.WOutDwIdeal.defs (F := Ideal)) (onTc (τ := Cert.WOutDwIdeal.τ) (Cert.WOutDwIdeal.main (F := Ideal))) ⟨m, fun _ => 0, g⟩ (fun r => ∀ c : Dev Cert.WOutDwIdeal.nD,
          r.2.mem ((c.tc : Thread Cert.WOutDwIdeal.nD Cert.WOutDwIdeal.τ).loc Cert.WOutDwIdeal.main_v4) = v0 c
          ∧ r.2.mem ((c.tc : Thread Cert.WOutDwIdeal.nD Cert.WOutDwIdeal.τ).loc Cert.WOutDwIdeal.main_arg0) = m ((c.tc : Thread Cert.WOutDwIdeal.nD Cert.WOutDwIdeal.τ).loc Cert.WOutDwIdeal.main_arg0)
          ∧ r.2.mem ((c.tc : Thread Cert.WOutDwIdeal.nD Cert.WOutDwIdeal.τ).loc Cert.WOutDwIdeal.main_arg1) = m ((c.tc : Thread Cert.WOutDwIdeal.nD Cert.WOutDwIdeal.τ).loc Cert.WOutDwIdeal.main_arg1)
          ∧ r.2.mem ((c.tc : Thread Cert.WOutDwIdeal.nD Cert.WOutDwIdeal.τ).loc Cert.WOutDwIdeal.main_arg2) = m ((c.tc : Thread Cert.WOutDwIdeal.nD Cert.WOutDwIdeal.τ).loc Cert.WOutDwIdeal.main_arg2))
      ∧ θ_run (Cert.WOutDwReferenceIdeal.defs (F := Ideal)) (onTc (τ := Cert.WOutDwReferenceIdeal.τ) (Cert.WOutDwReferenceIdeal.main (F := Ideal))) ⟨m', fun _ => 0, g'⟩ (fun r => ∀ c : Dev Cert.WOutDwReferenceIdeal.nD,
          r.2.mem ((c.tc : Thread Cert.WOutDwReferenceIdeal.nD Cert.WOutDwReferenceIdeal.τ).loc Cert.WOutDwReferenceIdeal.main_v2) = v0 c
          ∧ r.2.mem ((c.tc : Thread Cert.WOutDwReferenceIdeal.nD Cert.WOutDwReferenceIdeal.τ).loc Cert.WOutDwReferenceIdeal.main_arg0) = m' ((c.tc : Thread Cert.WOutDwReferenceIdeal.nD Cert.WOutDwReferenceIdeal.τ).loc Cert.WOutDwReferenceIdeal.main_arg0)
          ∧ r.2.mem ((c.tc : Thread Cert.WOutDwReferenceIdeal.nD Cert.WOutDwReferenceIdeal.τ).loc Cert.WOutDwReferenceIdeal.main_arg1) = m' ((c.tc : Thread Cert.WOutDwReferenceIdeal.nD Cert.WOutDwReferenceIdeal.τ).loc Cert.WOutDwReferenceIdeal.main_arg1)
          ∧ r.2.mem ((c.tc : Thread Cert.WOutDwReferenceIdeal.nD Cert.WOutDwReferenceIdeal.τ).loc Cert.WOutDwReferenceIdeal.main_arg2) = m' ((c.tc : Thread Cert.WOutDwReferenceIdeal.nD Cert.WOutDwReferenceIdeal.τ).loc Cert.WOutDwReferenceIdeal.main_arg2))

def preserves_GlaOutDx_GlaOutDxIdeal : Prop :=
  True

def algebraic_GlaOutDxIdeal_GlaOutDxReferenceIdeal [hGlaOutDxIdeal : Cert.GlaOutDxIdeal.Facts] [hGlaOutDxReferenceIdeal : Cert.GlaOutDxReferenceIdeal.Facts] : Prop :=
  ∀ (m : (ℓ : Loc Cert.GlaOutDxIdeal.nD Cert.GlaOutDxIdeal.τ Cert.GlaOutDxIdeal.sig) → Buf (Elt Ideal) ℓ) (g : Dev Cert.GlaOutDxIdeal.nD → PrngReg)
    (m' : (ℓ : Loc Cert.GlaOutDxReferenceIdeal.nD Cert.GlaOutDxReferenceIdeal.τ Cert.GlaOutDxReferenceIdeal.sig) → Buf (Elt Ideal) ℓ) (g' : Dev Cert.GlaOutDxReferenceIdeal.nD → PrngReg), Pre_GlaOutDxIdeal m →
    (∀ c : Dev Cert.GlaOutDxIdeal.nD,
      m' ((c.tc : Thread Cert.GlaOutDxReferenceIdeal.nD Cert.GlaOutDxReferenceIdeal.τ).loc Cert.GlaOutDxReferenceIdeal.main_arg0) = m ((c.tc : Thread Cert.GlaOutDxIdeal.nD Cert.GlaOutDxIdeal.τ).loc Cert.GlaOutDxIdeal.main_arg0)
      ∧ m' ((c.tc : Thread Cert.GlaOutDxReferenceIdeal.nD Cert.GlaOutDxReferenceIdeal.τ).loc Cert.GlaOutDxReferenceIdeal.main_arg1) = m ((c.tc : Thread Cert.GlaOutDxIdeal.nD Cert.GlaOutDxIdeal.τ).loc Cert.GlaOutDxIdeal.main_arg1)
      ∧ m' ((c.tc : Thread Cert.GlaOutDxReferenceIdeal.nD Cert.GlaOutDxReferenceIdeal.τ).loc Cert.GlaOutDxReferenceIdeal.main_arg2) = m ((c.tc : Thread Cert.GlaOutDxIdeal.nD Cert.GlaOutDxIdeal.τ).loc Cert.GlaOutDxIdeal.main_arg2)) →
    ∃ (v0 : (c : Dev Cert.GlaOutDxIdeal.nD) → Buf (Elt Ideal) ((c.tc : Thread Cert.GlaOutDxIdeal.nD Cert.GlaOutDxIdeal.τ).loc Cert.GlaOutDxIdeal.main_v3)),
      θ_run (Cert.GlaOutDxIdeal.defs (F := Ideal)) (onTc (τ := Cert.GlaOutDxIdeal.τ) (Cert.GlaOutDxIdeal.main (F := Ideal))) ⟨m, fun _ => 0, g⟩ (fun r => ∀ c : Dev Cert.GlaOutDxIdeal.nD,
          r.2.mem ((c.tc : Thread Cert.GlaOutDxIdeal.nD Cert.GlaOutDxIdeal.τ).loc Cert.GlaOutDxIdeal.main_v3) = v0 c
          ∧ r.2.mem ((c.tc : Thread Cert.GlaOutDxIdeal.nD Cert.GlaOutDxIdeal.τ).loc Cert.GlaOutDxIdeal.main_arg0) = m ((c.tc : Thread Cert.GlaOutDxIdeal.nD Cert.GlaOutDxIdeal.τ).loc Cert.GlaOutDxIdeal.main_arg0)
          ∧ r.2.mem ((c.tc : Thread Cert.GlaOutDxIdeal.nD Cert.GlaOutDxIdeal.τ).loc Cert.GlaOutDxIdeal.main_arg1) = m ((c.tc : Thread Cert.GlaOutDxIdeal.nD Cert.GlaOutDxIdeal.τ).loc Cert.GlaOutDxIdeal.main_arg1)
          ∧ r.2.mem ((c.tc : Thread Cert.GlaOutDxIdeal.nD Cert.GlaOutDxIdeal.τ).loc Cert.GlaOutDxIdeal.main_arg2) = m ((c.tc : Thread Cert.GlaOutDxIdeal.nD Cert.GlaOutDxIdeal.τ).loc Cert.GlaOutDxIdeal.main_arg2))
      ∧ θ_run (Cert.GlaOutDxReferenceIdeal.defs (F := Ideal)) (onTc (τ := Cert.GlaOutDxReferenceIdeal.τ) (Cert.GlaOutDxReferenceIdeal.main (F := Ideal))) ⟨m', fun _ => 0, g'⟩ (fun r => ∀ c : Dev Cert.GlaOutDxReferenceIdeal.nD,
          r.2.mem ((c.tc : Thread Cert.GlaOutDxReferenceIdeal.nD Cert.GlaOutDxReferenceIdeal.τ).loc Cert.GlaOutDxReferenceIdeal.main_v4) = v0 c
          ∧ r.2.mem ((c.tc : Thread Cert.GlaOutDxReferenceIdeal.nD Cert.GlaOutDxReferenceIdeal.τ).loc Cert.GlaOutDxReferenceIdeal.main_arg0) = m' ((c.tc : Thread Cert.GlaOutDxReferenceIdeal.nD Cert.GlaOutDxReferenceIdeal.τ).loc Cert.GlaOutDxReferenceIdeal.main_arg0)
          ∧ r.2.mem ((c.tc : Thread Cert.GlaOutDxReferenceIdeal.nD Cert.GlaOutDxReferenceIdeal.τ).loc Cert.GlaOutDxReferenceIdeal.main_arg1) = m' ((c.tc : Thread Cert.GlaOutDxReferenceIdeal.nD Cert.GlaOutDxReferenceIdeal.τ).loc Cert.GlaOutDxReferenceIdeal.main_arg1)
          ∧ r.2.mem ((c.tc : Thread Cert.GlaOutDxReferenceIdeal.nD Cert.GlaOutDxReferenceIdeal.τ).loc Cert.GlaOutDxReferenceIdeal.main_arg2) = m' ((c.tc : Thread Cert.GlaOutDxReferenceIdeal.nD Cert.GlaOutDxReferenceIdeal.τ).loc Cert.GlaOutDxReferenceIdeal.main_arg2))

def preserves_GlaOutDw_GlaOutDwIdeal : Prop :=
  True

def algebraic_GlaOutDwIdeal_GlaOutDwReferenceIdeal [hGlaOutDwIdeal : Cert.GlaOutDwIdeal.Facts] [hGlaOutDwReferenceIdeal : Cert.GlaOutDwReferenceIdeal.Facts] : Prop :=
  ∀ (m : (ℓ : Loc Cert.GlaOutDwIdeal.nD Cert.GlaOutDwIdeal.τ Cert.GlaOutDwIdeal.sig) → Buf (Elt Ideal) ℓ) (g : Dev Cert.GlaOutDwIdeal.nD → PrngReg)
    (m' : (ℓ : Loc Cert.GlaOutDwReferenceIdeal.nD Cert.GlaOutDwReferenceIdeal.τ Cert.GlaOutDwReferenceIdeal.sig) → Buf (Elt Ideal) ℓ) (g' : Dev Cert.GlaOutDwReferenceIdeal.nD → PrngReg), Pre_GlaOutDwIdeal m →
    (∀ c : Dev Cert.GlaOutDwIdeal.nD,
      m' ((c.tc : Thread Cert.GlaOutDwReferenceIdeal.nD Cert.GlaOutDwReferenceIdeal.τ).loc Cert.GlaOutDwReferenceIdeal.main_arg0) = m ((c.tc : Thread Cert.GlaOutDwIdeal.nD Cert.GlaOutDwIdeal.τ).loc Cert.GlaOutDwIdeal.main_arg0)
      ∧ m' ((c.tc : Thread Cert.GlaOutDwReferenceIdeal.nD Cert.GlaOutDwReferenceIdeal.τ).loc Cert.GlaOutDwReferenceIdeal.main_arg1) = m ((c.tc : Thread Cert.GlaOutDwIdeal.nD Cert.GlaOutDwIdeal.τ).loc Cert.GlaOutDwIdeal.main_arg1)
      ∧ m' ((c.tc : Thread Cert.GlaOutDwReferenceIdeal.nD Cert.GlaOutDwReferenceIdeal.τ).loc Cert.GlaOutDwReferenceIdeal.main_arg2) = m ((c.tc : Thread Cert.GlaOutDwIdeal.nD Cert.GlaOutDwIdeal.τ).loc Cert.GlaOutDwIdeal.main_arg2)) →
    ∃ (v0 : (c : Dev Cert.GlaOutDwIdeal.nD) → Buf (Elt Ideal) ((c.tc : Thread Cert.GlaOutDwIdeal.nD Cert.GlaOutDwIdeal.τ).loc Cert.GlaOutDwIdeal.main_v4)),
      θ_run (Cert.GlaOutDwIdeal.defs (F := Ideal)) (onTc (τ := Cert.GlaOutDwIdeal.τ) (Cert.GlaOutDwIdeal.main (F := Ideal))) ⟨m, fun _ => 0, g⟩ (fun r => ∀ c : Dev Cert.GlaOutDwIdeal.nD,
          r.2.mem ((c.tc : Thread Cert.GlaOutDwIdeal.nD Cert.GlaOutDwIdeal.τ).loc Cert.GlaOutDwIdeal.main_v4) = v0 c
          ∧ r.2.mem ((c.tc : Thread Cert.GlaOutDwIdeal.nD Cert.GlaOutDwIdeal.τ).loc Cert.GlaOutDwIdeal.main_arg0) = m ((c.tc : Thread Cert.GlaOutDwIdeal.nD Cert.GlaOutDwIdeal.τ).loc Cert.GlaOutDwIdeal.main_arg0)
          ∧ r.2.mem ((c.tc : Thread Cert.GlaOutDwIdeal.nD Cert.GlaOutDwIdeal.τ).loc Cert.GlaOutDwIdeal.main_arg1) = m ((c.tc : Thread Cert.GlaOutDwIdeal.nD Cert.GlaOutDwIdeal.τ).loc Cert.GlaOutDwIdeal.main_arg1)
          ∧ r.2.mem ((c.tc : Thread Cert.GlaOutDwIdeal.nD Cert.GlaOutDwIdeal.τ).loc Cert.GlaOutDwIdeal.main_arg2) = m ((c.tc : Thread Cert.GlaOutDwIdeal.nD Cert.GlaOutDwIdeal.τ).loc Cert.GlaOutDwIdeal.main_arg2))
      ∧ θ_run (Cert.GlaOutDwReferenceIdeal.defs (F := Ideal)) (onTc (τ := Cert.GlaOutDwReferenceIdeal.τ) (Cert.GlaOutDwReferenceIdeal.main (F := Ideal))) ⟨m', fun _ => 0, g'⟩ (fun r => ∀ c : Dev Cert.GlaOutDwReferenceIdeal.nD,
          r.2.mem ((c.tc : Thread Cert.GlaOutDwReferenceIdeal.nD Cert.GlaOutDwReferenceIdeal.τ).loc Cert.GlaOutDwReferenceIdeal.main_v2) = v0 c
          ∧ r.2.mem ((c.tc : Thread Cert.GlaOutDwReferenceIdeal.nD Cert.GlaOutDwReferenceIdeal.τ).loc Cert.GlaOutDwReferenceIdeal.main_arg0) = m' ((c.tc : Thread Cert.GlaOutDwReferenceIdeal.nD Cert.GlaOutDwReferenceIdeal.τ).loc Cert.GlaOutDwReferenceIdeal.main_arg0)
          ∧ r.2.mem ((c.tc : Thread Cert.GlaOutDwReferenceIdeal.nD Cert.GlaOutDwReferenceIdeal.τ).loc Cert.GlaOutDwReferenceIdeal.main_arg1) = m' ((c.tc : Thread Cert.GlaOutDwReferenceIdeal.nD Cert.GlaOutDwReferenceIdeal.τ).loc Cert.GlaOutDwReferenceIdeal.main_arg1)
          ∧ r.2.mem ((c.tc : Thread Cert.GlaOutDwReferenceIdeal.nD Cert.GlaOutDwReferenceIdeal.τ).loc Cert.GlaOutDwReferenceIdeal.main_arg2) = m' ((c.tc : Thread Cert.GlaOutDwReferenceIdeal.nD Cert.GlaOutDwReferenceIdeal.τ).loc Cert.GlaOutDwReferenceIdeal.main_arg2))

def preserves_MlaOutDx_MlaOutDxIdeal : Prop :=
  True

def algebraic_MlaOutDxIdeal_MlaOutDxReferenceIdeal [hMlaOutDxIdeal : Cert.MlaOutDxIdeal.Facts] [hMlaOutDxReferenceIdeal : Cert.MlaOutDxReferenceIdeal.Facts] : Prop :=
  ∀ (m : (ℓ : Loc Cert.MlaOutDxIdeal.nD Cert.MlaOutDxIdeal.τ Cert.MlaOutDxIdeal.sig) → Buf (Elt Ideal) ℓ) (g : Dev Cert.MlaOutDxIdeal.nD → PrngReg)
    (m' : (ℓ : Loc Cert.MlaOutDxReferenceIdeal.nD Cert.MlaOutDxReferenceIdeal.τ Cert.MlaOutDxReferenceIdeal.sig) → Buf (Elt Ideal) ℓ) (g' : Dev Cert.MlaOutDxReferenceIdeal.nD → PrngReg), Pre_MlaOutDxIdeal m →
    (∀ c : Dev Cert.MlaOutDxIdeal.nD,
      m' ((c.tc : Thread Cert.MlaOutDxReferenceIdeal.nD Cert.MlaOutDxReferenceIdeal.τ).loc Cert.MlaOutDxReferenceIdeal.main_arg0) = m ((c.tc : Thread Cert.MlaOutDxIdeal.nD Cert.MlaOutDxIdeal.τ).loc Cert.MlaOutDxIdeal.main_arg0)
      ∧ m' ((c.tc : Thread Cert.MlaOutDxReferenceIdeal.nD Cert.MlaOutDxReferenceIdeal.τ).loc Cert.MlaOutDxReferenceIdeal.main_arg1) = m ((c.tc : Thread Cert.MlaOutDxIdeal.nD Cert.MlaOutDxIdeal.τ).loc Cert.MlaOutDxIdeal.main_arg1)
      ∧ m' ((c.tc : Thread Cert.MlaOutDxReferenceIdeal.nD Cert.MlaOutDxReferenceIdeal.τ).loc Cert.MlaOutDxReferenceIdeal.main_arg2) = m ((c.tc : Thread Cert.MlaOutDxIdeal.nD Cert.MlaOutDxIdeal.τ).loc Cert.MlaOutDxIdeal.main_arg2)) →
    ∃ (v0 : (c : Dev Cert.MlaOutDxIdeal.nD) → Buf (Elt Ideal) ((c.tc : Thread Cert.MlaOutDxIdeal.nD Cert.MlaOutDxIdeal.τ).loc Cert.MlaOutDxIdeal.main_v6)),
      θ_run (Cert.MlaOutDxIdeal.defs (F := Ideal)) (onTc (τ := Cert.MlaOutDxIdeal.τ) (Cert.MlaOutDxIdeal.main (F := Ideal))) ⟨m, fun _ => 0, g⟩ (fun r => ∀ c : Dev Cert.MlaOutDxIdeal.nD,
          r.2.mem ((c.tc : Thread Cert.MlaOutDxIdeal.nD Cert.MlaOutDxIdeal.τ).loc Cert.MlaOutDxIdeal.main_v6) = v0 c
          ∧ r.2.mem ((c.tc : Thread Cert.MlaOutDxIdeal.nD Cert.MlaOutDxIdeal.τ).loc Cert.MlaOutDxIdeal.main_arg0) = m ((c.tc : Thread Cert.MlaOutDxIdeal.nD Cert.MlaOutDxIdeal.τ).loc Cert.MlaOutDxIdeal.main_arg0)
          ∧ r.2.mem ((c.tc : Thread Cert.MlaOutDxIdeal.nD Cert.MlaOutDxIdeal.τ).loc Cert.MlaOutDxIdeal.main_arg1) = m ((c.tc : Thread Cert.MlaOutDxIdeal.nD Cert.MlaOutDxIdeal.τ).loc Cert.MlaOutDxIdeal.main_arg1)
          ∧ r.2.mem ((c.tc : Thread Cert.MlaOutDxIdeal.nD Cert.MlaOutDxIdeal.τ).loc Cert.MlaOutDxIdeal.main_arg2) = m ((c.tc : Thread Cert.MlaOutDxIdeal.nD Cert.MlaOutDxIdeal.τ).loc Cert.MlaOutDxIdeal.main_arg2))
      ∧ θ_run (Cert.MlaOutDxReferenceIdeal.defs (F := Ideal)) (onTc (τ := Cert.MlaOutDxReferenceIdeal.τ) (Cert.MlaOutDxReferenceIdeal.main (F := Ideal))) ⟨m', fun _ => 0, g'⟩ (fun r => ∀ c : Dev Cert.MlaOutDxReferenceIdeal.nD,
          r.2.mem ((c.tc : Thread Cert.MlaOutDxReferenceIdeal.nD Cert.MlaOutDxReferenceIdeal.τ).loc Cert.MlaOutDxReferenceIdeal.main_v8) = v0 c
          ∧ r.2.mem ((c.tc : Thread Cert.MlaOutDxReferenceIdeal.nD Cert.MlaOutDxReferenceIdeal.τ).loc Cert.MlaOutDxReferenceIdeal.main_arg0) = m' ((c.tc : Thread Cert.MlaOutDxReferenceIdeal.nD Cert.MlaOutDxReferenceIdeal.τ).loc Cert.MlaOutDxReferenceIdeal.main_arg0)
          ∧ r.2.mem ((c.tc : Thread Cert.MlaOutDxReferenceIdeal.nD Cert.MlaOutDxReferenceIdeal.τ).loc Cert.MlaOutDxReferenceIdeal.main_arg1) = m' ((c.tc : Thread Cert.MlaOutDxReferenceIdeal.nD Cert.MlaOutDxReferenceIdeal.τ).loc Cert.MlaOutDxReferenceIdeal.main_arg1)
          ∧ r.2.mem ((c.tc : Thread Cert.MlaOutDxReferenceIdeal.nD Cert.MlaOutDxReferenceIdeal.τ).loc Cert.MlaOutDxReferenceIdeal.main_arg2) = m' ((c.tc : Thread Cert.MlaOutDxReferenceIdeal.nD Cert.MlaOutDxReferenceIdeal.τ).loc Cert.MlaOutDxReferenceIdeal.main_arg2))

def preserves_MlaOutDw_MlaOutDwIdeal : Prop :=
  True

def algebraic_MlaOutDwIdeal_MlaOutDwReferenceIdeal [hMlaOutDwIdeal : Cert.MlaOutDwIdeal.Facts] [hMlaOutDwReferenceIdeal : Cert.MlaOutDwReferenceIdeal.Facts] : Prop :=
  ∀ (m : (ℓ : Loc Cert.MlaOutDwIdeal.nD Cert.MlaOutDwIdeal.τ Cert.MlaOutDwIdeal.sig) → Buf (Elt Ideal) ℓ) (g : Dev Cert.MlaOutDwIdeal.nD → PrngReg)
    (m' : (ℓ : Loc Cert.MlaOutDwReferenceIdeal.nD Cert.MlaOutDwReferenceIdeal.τ Cert.MlaOutDwReferenceIdeal.sig) → Buf (Elt Ideal) ℓ) (g' : Dev Cert.MlaOutDwReferenceIdeal.nD → PrngReg), Pre_MlaOutDwIdeal m →
    (∀ c : Dev Cert.MlaOutDwIdeal.nD,
      m' ((c.tc : Thread Cert.MlaOutDwReferenceIdeal.nD Cert.MlaOutDwReferenceIdeal.τ).loc Cert.MlaOutDwReferenceIdeal.main_arg0) = m ((c.tc : Thread Cert.MlaOutDwIdeal.nD Cert.MlaOutDwIdeal.τ).loc Cert.MlaOutDwIdeal.main_arg0)
      ∧ m' ((c.tc : Thread Cert.MlaOutDwReferenceIdeal.nD Cert.MlaOutDwReferenceIdeal.τ).loc Cert.MlaOutDwReferenceIdeal.main_arg1) = m ((c.tc : Thread Cert.MlaOutDwIdeal.nD Cert.MlaOutDwIdeal.τ).loc Cert.MlaOutDwIdeal.main_arg1)
      ∧ m' ((c.tc : Thread Cert.MlaOutDwReferenceIdeal.nD Cert.MlaOutDwReferenceIdeal.τ).loc Cert.MlaOutDwReferenceIdeal.main_arg2) = m ((c.tc : Thread Cert.MlaOutDwIdeal.nD Cert.MlaOutDwIdeal.τ).loc Cert.MlaOutDwIdeal.main_arg2)) →
    ∃ (v0 : (c : Dev Cert.MlaOutDwIdeal.nD) → Buf (Elt Ideal) ((c.tc : Thread Cert.MlaOutDwIdeal.nD Cert.MlaOutDwIdeal.τ).loc Cert.MlaOutDwIdeal.main_v6)),
      θ_run (Cert.MlaOutDwIdeal.defs (F := Ideal)) (onTc (τ := Cert.MlaOutDwIdeal.τ) (Cert.MlaOutDwIdeal.main (F := Ideal))) ⟨m, fun _ => 0, g⟩ (fun r => ∀ c : Dev Cert.MlaOutDwIdeal.nD,
          r.2.mem ((c.tc : Thread Cert.MlaOutDwIdeal.nD Cert.MlaOutDwIdeal.τ).loc Cert.MlaOutDwIdeal.main_v6) = v0 c
          ∧ r.2.mem ((c.tc : Thread Cert.MlaOutDwIdeal.nD Cert.MlaOutDwIdeal.τ).loc Cert.MlaOutDwIdeal.main_arg0) = m ((c.tc : Thread Cert.MlaOutDwIdeal.nD Cert.MlaOutDwIdeal.τ).loc Cert.MlaOutDwIdeal.main_arg0)
          ∧ r.2.mem ((c.tc : Thread Cert.MlaOutDwIdeal.nD Cert.MlaOutDwIdeal.τ).loc Cert.MlaOutDwIdeal.main_arg1) = m ((c.tc : Thread Cert.MlaOutDwIdeal.nD Cert.MlaOutDwIdeal.τ).loc Cert.MlaOutDwIdeal.main_arg1)
          ∧ r.2.mem ((c.tc : Thread Cert.MlaOutDwIdeal.nD Cert.MlaOutDwIdeal.τ).loc Cert.MlaOutDwIdeal.main_arg2) = m ((c.tc : Thread Cert.MlaOutDwIdeal.nD Cert.MlaOutDwIdeal.τ).loc Cert.MlaOutDwIdeal.main_arg2))
      ∧ θ_run (Cert.MlaOutDwReferenceIdeal.defs (F := Ideal)) (onTc (τ := Cert.MlaOutDwReferenceIdeal.τ) (Cert.MlaOutDwReferenceIdeal.main (F := Ideal))) ⟨m', fun _ => 0, g'⟩ (fun r => ∀ c : Dev Cert.MlaOutDwReferenceIdeal.nD,
          r.2.mem ((c.tc : Thread Cert.MlaOutDwReferenceIdeal.nD Cert.MlaOutDwReferenceIdeal.τ).loc Cert.MlaOutDwReferenceIdeal.main_v8) = v0 c
          ∧ r.2.mem ((c.tc : Thread Cert.MlaOutDwReferenceIdeal.nD Cert.MlaOutDwReferenceIdeal.τ).loc Cert.MlaOutDwReferenceIdeal.main_arg0) = m' ((c.tc : Thread Cert.MlaOutDwReferenceIdeal.nD Cert.MlaOutDwReferenceIdeal.τ).loc Cert.MlaOutDwReferenceIdeal.main_arg0)
          ∧ r.2.mem ((c.tc : Thread Cert.MlaOutDwReferenceIdeal.nD Cert.MlaOutDwReferenceIdeal.τ).loc Cert.MlaOutDwReferenceIdeal.main_arg1) = m' ((c.tc : Thread Cert.MlaOutDwReferenceIdeal.nD Cert.MlaOutDwReferenceIdeal.τ).loc Cert.MlaOutDwReferenceIdeal.main_arg1)
          ∧ r.2.mem ((c.tc : Thread Cert.MlaOutDwReferenceIdeal.nD Cert.MlaOutDwReferenceIdeal.τ).loc Cert.MlaOutDwReferenceIdeal.main_arg2) = m' ((c.tc : Thread Cert.MlaOutDwReferenceIdeal.nD Cert.MlaOutDwReferenceIdeal.τ).loc Cert.MlaOutDwReferenceIdeal.main_arg2))

def preserves_MlaUqDx_MlaUqDxIdeal : Prop :=
  True

def algebraic_MlaUqDxIdeal_MlaUqDxReferenceIdeal [hMlaUqDxIdeal : Cert.MlaUqDxIdeal.Facts] [hMlaUqDxReferenceIdeal : Cert.MlaUqDxReferenceIdeal.Facts] : Prop :=
  ∀ (m : (ℓ : Loc Cert.MlaUqDxIdeal.nD Cert.MlaUqDxIdeal.τ Cert.MlaUqDxIdeal.sig) → Buf (Elt Ideal) ℓ) (g : Dev Cert.MlaUqDxIdeal.nD → PrngReg)
    (m' : (ℓ : Loc Cert.MlaUqDxReferenceIdeal.nD Cert.MlaUqDxReferenceIdeal.τ Cert.MlaUqDxReferenceIdeal.sig) → Buf (Elt Ideal) ℓ) (g' : Dev Cert.MlaUqDxReferenceIdeal.nD → PrngReg), Pre_MlaUqDxIdeal m →
    (∀ c : Dev Cert.MlaUqDxIdeal.nD,
      m' ((c.tc : Thread Cert.MlaUqDxReferenceIdeal.nD Cert.MlaUqDxReferenceIdeal.τ).loc Cert.MlaUqDxReferenceIdeal.main_arg0) = m ((c.tc : Thread Cert.MlaUqDxIdeal.nD Cert.MlaUqDxIdeal.τ).loc Cert.MlaUqDxIdeal.main_arg0)
      ∧ m' ((c.tc : Thread Cert.MlaUqDxReferenceIdeal.nD Cert.MlaUqDxReferenceIdeal.τ).loc Cert.MlaUqDxReferenceIdeal.main_arg1) = m ((c.tc : Thread Cert.MlaUqDxIdeal.nD Cert.MlaUqDxIdeal.τ).loc Cert.MlaUqDxIdeal.main_arg1)
      ∧ m' ((c.tc : Thread Cert.MlaUqDxReferenceIdeal.nD Cert.MlaUqDxReferenceIdeal.τ).loc Cert.MlaUqDxReferenceIdeal.main_arg2) = m ((c.tc : Thread Cert.MlaUqDxIdeal.nD Cert.MlaUqDxIdeal.τ).loc Cert.MlaUqDxIdeal.main_arg2)) →
    ∃ (v0 : (c : Dev Cert.MlaUqDxIdeal.nD) → Buf (Elt Ideal) ((c.tc : Thread Cert.MlaUqDxIdeal.nD Cert.MlaUqDxIdeal.τ).loc Cert.MlaUqDxIdeal.main_v8)),
      θ_run (Cert.MlaUqDxIdeal.defs (F := Ideal)) (onTc (τ := Cert.MlaUqDxIdeal.τ) (Cert.MlaUqDxIdeal.main (F := Ideal))) ⟨m, fun _ => 0, g⟩ (fun r => ∀ c : Dev Cert.MlaUqDxIdeal.nD,
          r.2.mem ((c.tc : Thread Cert.MlaUqDxIdeal.nD Cert.MlaUqDxIdeal.τ).loc Cert.MlaUqDxIdeal.main_v8) = v0 c
          ∧ r.2.mem ((c.tc : Thread Cert.MlaUqDxIdeal.nD Cert.MlaUqDxIdeal.τ).loc Cert.MlaUqDxIdeal.main_arg0) = m ((c.tc : Thread Cert.MlaUqDxIdeal.nD Cert.MlaUqDxIdeal.τ).loc Cert.MlaUqDxIdeal.main_arg0)
          ∧ r.2.mem ((c.tc : Thread Cert.MlaUqDxIdeal.nD Cert.MlaUqDxIdeal.τ).loc Cert.MlaUqDxIdeal.main_arg1) = m ((c.tc : Thread Cert.MlaUqDxIdeal.nD Cert.MlaUqDxIdeal.τ).loc Cert.MlaUqDxIdeal.main_arg1)
          ∧ r.2.mem ((c.tc : Thread Cert.MlaUqDxIdeal.nD Cert.MlaUqDxIdeal.τ).loc Cert.MlaUqDxIdeal.main_arg2) = m ((c.tc : Thread Cert.MlaUqDxIdeal.nD Cert.MlaUqDxIdeal.τ).loc Cert.MlaUqDxIdeal.main_arg2))
      ∧ θ_run (Cert.MlaUqDxReferenceIdeal.defs (F := Ideal)) (onTc (τ := Cert.MlaUqDxReferenceIdeal.τ) (Cert.MlaUqDxReferenceIdeal.main (F := Ideal))) ⟨m', fun _ => 0, g'⟩ (fun r => ∀ c : Dev Cert.MlaUqDxReferenceIdeal.nD,
          r.2.mem ((c.tc : Thread Cert.MlaUqDxReferenceIdeal.nD Cert.MlaUqDxReferenceIdeal.τ).loc Cert.MlaUqDxReferenceIdeal.main_v6) = v0 c
          ∧ r.2.mem ((c.tc : Thread Cert.MlaUqDxReferenceIdeal.nD Cert.MlaUqDxReferenceIdeal.τ).loc Cert.MlaUqDxReferenceIdeal.main_arg0) = m' ((c.tc : Thread Cert.MlaUqDxReferenceIdeal.nD Cert.MlaUqDxReferenceIdeal.τ).loc Cert.MlaUqDxReferenceIdeal.main_arg0)
          ∧ r.2.mem ((c.tc : Thread Cert.MlaUqDxReferenceIdeal.nD Cert.MlaUqDxReferenceIdeal.τ).loc Cert.MlaUqDxReferenceIdeal.main_arg1) = m' ((c.tc : Thread Cert.MlaUqDxReferenceIdeal.nD Cert.MlaUqDxReferenceIdeal.τ).loc Cert.MlaUqDxReferenceIdeal.main_arg1)
          ∧ r.2.mem ((c.tc : Thread Cert.MlaUqDxReferenceIdeal.nD Cert.MlaUqDxReferenceIdeal.τ).loc Cert.MlaUqDxReferenceIdeal.main_arg2) = m' ((c.tc : Thread Cert.MlaUqDxReferenceIdeal.nD Cert.MlaUqDxReferenceIdeal.τ).loc Cert.MlaUqDxReferenceIdeal.main_arg2))

def preserves_MlaUqDw_MlaUqDwIdeal : Prop :=
  True

def algebraic_MlaUqDwIdeal_MlaUqDwReferenceIdeal [hMlaUqDwIdeal : Cert.MlaUqDwIdeal.Facts] [hMlaUqDwReferenceIdeal : Cert.MlaUqDwReferenceIdeal.Facts] : Prop :=
  ∀ (m : (ℓ : Loc Cert.MlaUqDwIdeal.nD Cert.MlaUqDwIdeal.τ Cert.MlaUqDwIdeal.sig) → Buf (Elt Ideal) ℓ) (g : Dev Cert.MlaUqDwIdeal.nD → PrngReg)
    (m' : (ℓ : Loc Cert.MlaUqDwReferenceIdeal.nD Cert.MlaUqDwReferenceIdeal.τ Cert.MlaUqDwReferenceIdeal.sig) → Buf (Elt Ideal) ℓ) (g' : Dev Cert.MlaUqDwReferenceIdeal.nD → PrngReg), Pre_MlaUqDwIdeal m →
    (∀ c : Dev Cert.MlaUqDwIdeal.nD,
      m' ((c.tc : Thread Cert.MlaUqDwReferenceIdeal.nD Cert.MlaUqDwReferenceIdeal.τ).loc Cert.MlaUqDwReferenceIdeal.main_arg0) = m ((c.tc : Thread Cert.MlaUqDwIdeal.nD Cert.MlaUqDwIdeal.τ).loc Cert.MlaUqDwIdeal.main_arg0)
      ∧ m' ((c.tc : Thread Cert.MlaUqDwReferenceIdeal.nD Cert.MlaUqDwReferenceIdeal.τ).loc Cert.MlaUqDwReferenceIdeal.main_arg1) = m ((c.tc : Thread Cert.MlaUqDwIdeal.nD Cert.MlaUqDwIdeal.τ).loc Cert.MlaUqDwIdeal.main_arg1)
      ∧ m' ((c.tc : Thread Cert.MlaUqDwReferenceIdeal.nD Cert.MlaUqDwReferenceIdeal.τ).loc Cert.MlaUqDwReferenceIdeal.main_arg2) = m ((c.tc : Thread Cert.MlaUqDwIdeal.nD Cert.MlaUqDwIdeal.τ).loc Cert.MlaUqDwIdeal.main_arg2)) →
    ∃ (v0 : (c : Dev Cert.MlaUqDwIdeal.nD) → Buf (Elt Ideal) ((c.tc : Thread Cert.MlaUqDwIdeal.nD Cert.MlaUqDwIdeal.τ).loc Cert.MlaUqDwIdeal.main_v6)),
      θ_run (Cert.MlaUqDwIdeal.defs (F := Ideal)) (onTc (τ := Cert.MlaUqDwIdeal.τ) (Cert.MlaUqDwIdeal.main (F := Ideal))) ⟨m, fun _ => 0, g⟩ (fun r => ∀ c : Dev Cert.MlaUqDwIdeal.nD,
          r.2.mem ((c.tc : Thread Cert.MlaUqDwIdeal.nD Cert.MlaUqDwIdeal.τ).loc Cert.MlaUqDwIdeal.main_v6) = v0 c
          ∧ r.2.mem ((c.tc : Thread Cert.MlaUqDwIdeal.nD Cert.MlaUqDwIdeal.τ).loc Cert.MlaUqDwIdeal.main_arg0) = m ((c.tc : Thread Cert.MlaUqDwIdeal.nD Cert.MlaUqDwIdeal.τ).loc Cert.MlaUqDwIdeal.main_arg0)
          ∧ r.2.mem ((c.tc : Thread Cert.MlaUqDwIdeal.nD Cert.MlaUqDwIdeal.τ).loc Cert.MlaUqDwIdeal.main_arg1) = m ((c.tc : Thread Cert.MlaUqDwIdeal.nD Cert.MlaUqDwIdeal.τ).loc Cert.MlaUqDwIdeal.main_arg1)
          ∧ r.2.mem ((c.tc : Thread Cert.MlaUqDwIdeal.nD Cert.MlaUqDwIdeal.τ).loc Cert.MlaUqDwIdeal.main_arg2) = m ((c.tc : Thread Cert.MlaUqDwIdeal.nD Cert.MlaUqDwIdeal.τ).loc Cert.MlaUqDwIdeal.main_arg2))
      ∧ θ_run (Cert.MlaUqDwReferenceIdeal.defs (F := Ideal)) (onTc (τ := Cert.MlaUqDwReferenceIdeal.τ) (Cert.MlaUqDwReferenceIdeal.main (F := Ideal))) ⟨m', fun _ => 0, g'⟩ (fun r => ∀ c : Dev Cert.MlaUqDwReferenceIdeal.nD,
          r.2.mem ((c.tc : Thread Cert.MlaUqDwReferenceIdeal.nD Cert.MlaUqDwReferenceIdeal.τ).loc Cert.MlaUqDwReferenceIdeal.main_v8) = v0 c
          ∧ r.2.mem ((c.tc : Thread Cert.MlaUqDwReferenceIdeal.nD Cert.MlaUqDwReferenceIdeal.τ).loc Cert.MlaUqDwReferenceIdeal.main_arg0) = m' ((c.tc : Thread Cert.MlaUqDwReferenceIdeal.nD Cert.MlaUqDwReferenceIdeal.τ).loc Cert.MlaUqDwReferenceIdeal.main_arg0)
          ∧ r.2.mem ((c.tc : Thread Cert.MlaUqDwReferenceIdeal.nD Cert.MlaUqDwReferenceIdeal.τ).loc Cert.MlaUqDwReferenceIdeal.main_arg1) = m' ((c.tc : Thread Cert.MlaUqDwReferenceIdeal.nD Cert.MlaUqDwReferenceIdeal.τ).loc Cert.MlaUqDwReferenceIdeal.main_arg1)
          ∧ r.2.mem ((c.tc : Thread Cert.MlaUqDwReferenceIdeal.nD Cert.MlaUqDwReferenceIdeal.τ).loc Cert.MlaUqDwReferenceIdeal.main_arg2) = m' ((c.tc : Thread Cert.MlaUqDwReferenceIdeal.nD Cert.MlaUqDwReferenceIdeal.τ).loc Cert.MlaUqDwReferenceIdeal.main_arg2))

def preserves_MlaUkvDx_MlaUkvDxIdeal : Prop :=
  True

def algebraic_MlaUkvDxIdeal_MlaUkvDxReferenceIdeal [hMlaUkvDxIdeal : Cert.MlaUkvDxIdeal.Facts] [hMlaUkvDxReferenceIdeal : Cert.MlaUkvDxReferenceIdeal.Facts] : Prop :=
  ∀ (m : (ℓ : Loc Cert.MlaUkvDxIdeal.nD Cert.MlaUkvDxIdeal.τ Cert.MlaUkvDxIdeal.sig) → Buf (Elt Ideal) ℓ) (g : Dev Cert.MlaUkvDxIdeal.nD → PrngReg)
    (m' : (ℓ : Loc Cert.MlaUkvDxReferenceIdeal.nD Cert.MlaUkvDxReferenceIdeal.τ Cert.MlaUkvDxReferenceIdeal.sig) → Buf (Elt Ideal) ℓ) (g' : Dev Cert.MlaUkvDxReferenceIdeal.nD → PrngReg), Pre_MlaUkvDxIdeal m →
    (∀ c : Dev Cert.MlaUkvDxIdeal.nD,
      m' ((c.tc : Thread Cert.MlaUkvDxReferenceIdeal.nD Cert.MlaUkvDxReferenceIdeal.τ).loc Cert.MlaUkvDxReferenceIdeal.main_arg0) = m ((c.tc : Thread Cert.MlaUkvDxIdeal.nD Cert.MlaUkvDxIdeal.τ).loc Cert.MlaUkvDxIdeal.main_arg0)
      ∧ m' ((c.tc : Thread Cert.MlaUkvDxReferenceIdeal.nD Cert.MlaUkvDxReferenceIdeal.τ).loc Cert.MlaUkvDxReferenceIdeal.main_arg1) = m ((c.tc : Thread Cert.MlaUkvDxIdeal.nD Cert.MlaUkvDxIdeal.τ).loc Cert.MlaUkvDxIdeal.main_arg1)
      ∧ m' ((c.tc : Thread Cert.MlaUkvDxReferenceIdeal.nD Cert.MlaUkvDxReferenceIdeal.τ).loc Cert.MlaUkvDxReferenceIdeal.main_arg2) = m ((c.tc : Thread Cert.MlaUkvDxIdeal.nD Cert.MlaUkvDxIdeal.τ).loc Cert.MlaUkvDxIdeal.main_arg2)) →
    ∃ (v0 : (c : Dev Cert.MlaUkvDxIdeal.nD) → Buf (Elt Ideal) ((c.tc : Thread Cert.MlaUkvDxIdeal.nD Cert.MlaUkvDxIdeal.τ).loc Cert.MlaUkvDxIdeal.main_v3)),
      θ_run (Cert.MlaUkvDxIdeal.defs (F := Ideal)) (onTc (τ := Cert.MlaUkvDxIdeal.τ) (Cert.MlaUkvDxIdeal.main (F := Ideal))) ⟨m, fun _ => 0, g⟩ (fun r => ∀ c : Dev Cert.MlaUkvDxIdeal.nD,
          r.2.mem ((c.tc : Thread Cert.MlaUkvDxIdeal.nD Cert.MlaUkvDxIdeal.τ).loc Cert.MlaUkvDxIdeal.main_v3) = v0 c
          ∧ r.2.mem ((c.tc : Thread Cert.MlaUkvDxIdeal.nD Cert.MlaUkvDxIdeal.τ).loc Cert.MlaUkvDxIdeal.main_arg0) = m ((c.tc : Thread Cert.MlaUkvDxIdeal.nD Cert.MlaUkvDxIdeal.τ).loc Cert.MlaUkvDxIdeal.main_arg0)
          ∧ r.2.mem ((c.tc : Thread Cert.MlaUkvDxIdeal.nD Cert.MlaUkvDxIdeal.τ).loc Cert.MlaUkvDxIdeal.main_arg1) = m ((c.tc : Thread Cert.MlaUkvDxIdeal.nD Cert.MlaUkvDxIdeal.τ).loc Cert.MlaUkvDxIdeal.main_arg1)
          ∧ r.2.mem ((c.tc : Thread Cert.MlaUkvDxIdeal.nD Cert.MlaUkvDxIdeal.τ).loc Cert.MlaUkvDxIdeal.main_arg2) = m ((c.tc : Thread Cert.MlaUkvDxIdeal.nD Cert.MlaUkvDxIdeal.τ).loc Cert.MlaUkvDxIdeal.main_arg2))
      ∧ θ_run (Cert.MlaUkvDxReferenceIdeal.defs (F := Ideal)) (onTc (τ := Cert.MlaUkvDxReferenceIdeal.τ) (Cert.MlaUkvDxReferenceIdeal.main (F := Ideal))) ⟨m', fun _ => 0, g'⟩ (fun r => ∀ c : Dev Cert.MlaUkvDxReferenceIdeal.nD,
          r.2.mem ((c.tc : Thread Cert.MlaUkvDxReferenceIdeal.nD Cert.MlaUkvDxReferenceIdeal.τ).loc Cert.MlaUkvDxReferenceIdeal.main_v4) = v0 c
          ∧ r.2.mem ((c.tc : Thread Cert.MlaUkvDxReferenceIdeal.nD Cert.MlaUkvDxReferenceIdeal.τ).loc Cert.MlaUkvDxReferenceIdeal.main_arg0) = m' ((c.tc : Thread Cert.MlaUkvDxReferenceIdeal.nD Cert.MlaUkvDxReferenceIdeal.τ).loc Cert.MlaUkvDxReferenceIdeal.main_arg0)
          ∧ r.2.mem ((c.tc : Thread Cert.MlaUkvDxReferenceIdeal.nD Cert.MlaUkvDxReferenceIdeal.τ).loc Cert.MlaUkvDxReferenceIdeal.main_arg1) = m' ((c.tc : Thread Cert.MlaUkvDxReferenceIdeal.nD Cert.MlaUkvDxReferenceIdeal.τ).loc Cert.MlaUkvDxReferenceIdeal.main_arg1)
          ∧ r.2.mem ((c.tc : Thread Cert.MlaUkvDxReferenceIdeal.nD Cert.MlaUkvDxReferenceIdeal.τ).loc Cert.MlaUkvDxReferenceIdeal.main_arg2) = m' ((c.tc : Thread Cert.MlaUkvDxReferenceIdeal.nD Cert.MlaUkvDxReferenceIdeal.τ).loc Cert.MlaUkvDxReferenceIdeal.main_arg2))

def preserves_MlaUkvDw_MlaUkvDwIdeal : Prop :=
  True

def algebraic_MlaUkvDwIdeal_MlaUkvDwReferenceIdeal [hMlaUkvDwIdeal : Cert.MlaUkvDwIdeal.Facts] [hMlaUkvDwReferenceIdeal : Cert.MlaUkvDwReferenceIdeal.Facts] : Prop :=
  ∀ (m : (ℓ : Loc Cert.MlaUkvDwIdeal.nD Cert.MlaUkvDwIdeal.τ Cert.MlaUkvDwIdeal.sig) → Buf (Elt Ideal) ℓ) (g : Dev Cert.MlaUkvDwIdeal.nD → PrngReg)
    (m' : (ℓ : Loc Cert.MlaUkvDwReferenceIdeal.nD Cert.MlaUkvDwReferenceIdeal.τ Cert.MlaUkvDwReferenceIdeal.sig) → Buf (Elt Ideal) ℓ) (g' : Dev Cert.MlaUkvDwReferenceIdeal.nD → PrngReg), Pre_MlaUkvDwIdeal m →
    (∀ c : Dev Cert.MlaUkvDwIdeal.nD,
      m' ((c.tc : Thread Cert.MlaUkvDwReferenceIdeal.nD Cert.MlaUkvDwReferenceIdeal.τ).loc Cert.MlaUkvDwReferenceIdeal.main_arg0) = m ((c.tc : Thread Cert.MlaUkvDwIdeal.nD Cert.MlaUkvDwIdeal.τ).loc Cert.MlaUkvDwIdeal.main_arg0)
      ∧ m' ((c.tc : Thread Cert.MlaUkvDwReferenceIdeal.nD Cert.MlaUkvDwReferenceIdeal.τ).loc Cert.MlaUkvDwReferenceIdeal.main_arg1) = m ((c.tc : Thread Cert.MlaUkvDwIdeal.nD Cert.MlaUkvDwIdeal.τ).loc Cert.MlaUkvDwIdeal.main_arg1)
      ∧ m' ((c.tc : Thread Cert.MlaUkvDwReferenceIdeal.nD Cert.MlaUkvDwReferenceIdeal.τ).loc Cert.MlaUkvDwReferenceIdeal.main_arg2) = m ((c.tc : Thread Cert.MlaUkvDwIdeal.nD Cert.MlaUkvDwIdeal.τ).loc Cert.MlaUkvDwIdeal.main_arg2)) →
    ∃ (v0 : (c : Dev Cert.MlaUkvDwIdeal.nD) → Buf (Elt Ideal) ((c.tc : Thread Cert.MlaUkvDwIdeal.nD Cert.MlaUkvDwIdeal.τ).loc Cert.MlaUkvDwIdeal.main_v4)),
      θ_run (Cert.MlaUkvDwIdeal.defs (F := Ideal)) (onTc (τ := Cert.MlaUkvDwIdeal.τ) (Cert.MlaUkvDwIdeal.main (F := Ideal))) ⟨m, fun _ => 0, g⟩ (fun r => ∀ c : Dev Cert.MlaUkvDwIdeal.nD,
          r.2.mem ((c.tc : Thread Cert.MlaUkvDwIdeal.nD Cert.MlaUkvDwIdeal.τ).loc Cert.MlaUkvDwIdeal.main_v4) = v0 c
          ∧ r.2.mem ((c.tc : Thread Cert.MlaUkvDwIdeal.nD Cert.MlaUkvDwIdeal.τ).loc Cert.MlaUkvDwIdeal.main_arg0) = m ((c.tc : Thread Cert.MlaUkvDwIdeal.nD Cert.MlaUkvDwIdeal.τ).loc Cert.MlaUkvDwIdeal.main_arg0)
          ∧ r.2.mem ((c.tc : Thread Cert.MlaUkvDwIdeal.nD Cert.MlaUkvDwIdeal.τ).loc Cert.MlaUkvDwIdeal.main_arg1) = m ((c.tc : Thread Cert.MlaUkvDwIdeal.nD Cert.MlaUkvDwIdeal.τ).loc Cert.MlaUkvDwIdeal.main_arg1)
          ∧ r.2.mem ((c.tc : Thread Cert.MlaUkvDwIdeal.nD Cert.MlaUkvDwIdeal.τ).loc Cert.MlaUkvDwIdeal.main_arg2) = m ((c.tc : Thread Cert.MlaUkvDwIdeal.nD Cert.MlaUkvDwIdeal.τ).loc Cert.MlaUkvDwIdeal.main_arg2))
      ∧ θ_run (Cert.MlaUkvDwReferenceIdeal.defs (F := Ideal)) (onTc (τ := Cert.MlaUkvDwReferenceIdeal.τ) (Cert.MlaUkvDwReferenceIdeal.main (F := Ideal))) ⟨m', fun _ => 0, g'⟩ (fun r => ∀ c : Dev Cert.MlaUkvDwReferenceIdeal.nD,
          r.2.mem ((c.tc : Thread Cert.MlaUkvDwReferenceIdeal.nD Cert.MlaUkvDwReferenceIdeal.τ).loc Cert.MlaUkvDwReferenceIdeal.main_v2) = v0 c
          ∧ r.2.mem ((c.tc : Thread Cert.MlaUkvDwReferenceIdeal.nD Cert.MlaUkvDwReferenceIdeal.τ).loc Cert.MlaUkvDwReferenceIdeal.main_arg0) = m' ((c.tc : Thread Cert.MlaUkvDwReferenceIdeal.nD Cert.MlaUkvDwReferenceIdeal.τ).loc Cert.MlaUkvDwReferenceIdeal.main_arg0)
          ∧ r.2.mem ((c.tc : Thread Cert.MlaUkvDwReferenceIdeal.nD Cert.MlaUkvDwReferenceIdeal.τ).loc Cert.MlaUkvDwReferenceIdeal.main_arg1) = m' ((c.tc : Thread Cert.MlaUkvDwReferenceIdeal.nD Cert.MlaUkvDwReferenceIdeal.τ).loc Cert.MlaUkvDwReferenceIdeal.main_arg1)
          ∧ r.2.mem ((c.tc : Thread Cert.MlaUkvDwReferenceIdeal.nD Cert.MlaUkvDwReferenceIdeal.τ).loc Cert.MlaUkvDwReferenceIdeal.main_arg2) = m' ((c.tc : Thread Cert.MlaUkvDwReferenceIdeal.nD Cert.MlaUkvDwReferenceIdeal.τ).loc Cert.MlaUkvDwReferenceIdeal.main_arg2))

def preserves_GlaOut_GlaOutIdeal : Prop :=
  True

def algebraic_GlaOutIdeal_GlaOutReferenceIdeal [hGlaOutIdeal : Cert.GlaOutIdeal.Facts] [hGlaOutReferenceIdeal : Cert.GlaOutReferenceIdeal.Facts] : Prop :=
  ∀ (m : (ℓ : Loc Cert.GlaOutIdeal.nD Cert.GlaOutIdeal.τ Cert.GlaOutIdeal.sig) → Buf (Elt Ideal) ℓ) (g : Dev Cert.GlaOutIdeal.nD → PrngReg)
    (m' : (ℓ : Loc Cert.GlaOutReferenceIdeal.nD Cert.GlaOutReferenceIdeal.τ Cert.GlaOutReferenceIdeal.sig) → Buf (Elt Ideal) ℓ) (g' : Dev Cert.GlaOutReferenceIdeal.nD → PrngReg), Pre_GlaOutIdeal m →
    (∀ c : Dev Cert.GlaOutIdeal.nD,
      m' ((c.tc : Thread Cert.GlaOutReferenceIdeal.nD Cert.GlaOutReferenceIdeal.τ).loc Cert.GlaOutReferenceIdeal.main_arg0) = m ((c.tc : Thread Cert.GlaOutIdeal.nD Cert.GlaOutIdeal.τ).loc Cert.GlaOutIdeal.main_arg0)
      ∧ m' ((c.tc : Thread Cert.GlaOutReferenceIdeal.nD Cert.GlaOutReferenceIdeal.τ).loc Cert.GlaOutReferenceIdeal.main_arg1) = m ((c.tc : Thread Cert.GlaOutIdeal.nD Cert.GlaOutIdeal.τ).loc Cert.GlaOutIdeal.main_arg1)) →
    ∃ (v0 : (c : Dev Cert.GlaOutIdeal.nD) → Buf (Elt Ideal) ((c.tc : Thread Cert.GlaOutIdeal.nD Cert.GlaOutIdeal.τ).loc Cert.GlaOutIdeal.main_v3)),
      θ_run (Cert.GlaOutIdeal.defs (F := Ideal)) (onTc (τ := Cert.GlaOutIdeal.τ) (Cert.GlaOutIdeal.main (F := Ideal))) ⟨m, fun _ => 0, g⟩ (fun r => ∀ c : Dev Cert.GlaOutIdeal.nD,
          r.2.mem ((c.tc : Thread Cert.GlaOutIdeal.nD Cert.GlaOutIdeal.τ).loc Cert.GlaOutIdeal.main_v3) = v0 c
          ∧ r.2.mem ((c.tc : Thread Cert.GlaOutIdeal.nD Cert.GlaOutIdeal.τ).loc Cert.GlaOutIdeal.main_arg0) = m ((c.tc : Thread Cert.GlaOutIdeal.nD Cert.GlaOutIdeal.τ).loc Cert.GlaOutIdeal.main_arg0)
          ∧ r.2.mem ((c.tc : Thread Cert.GlaOutIdeal.nD Cert.GlaOutIdeal.τ).loc Cert.GlaOutIdeal.main_arg1) = m ((c.tc : Thread Cert.GlaOutIdeal.nD Cert.GlaOutIdeal.τ).loc Cert.GlaOutIdeal.main_arg1))
      ∧ θ_run (Cert.GlaOutReferenceIdeal.defs (F := Ideal)) (onTc (τ := Cert.GlaOutReferenceIdeal.τ) (Cert.GlaOutReferenceIdeal.main (F := Ideal))) ⟨m', fun _ => 0, g'⟩ (fun r => ∀ c : Dev Cert.GlaOutReferenceIdeal.nD,
          r.2.mem ((c.tc : Thread Cert.GlaOutReferenceIdeal.nD Cert.GlaOutReferenceIdeal.τ).loc Cert.GlaOutReferenceIdeal.main_v2) = v0 c
          ∧ r.2.mem ((c.tc : Thread Cert.GlaOutReferenceIdeal.nD Cert.GlaOutReferenceIdeal.τ).loc Cert.GlaOutReferenceIdeal.main_arg0) = m' ((c.tc : Thread Cert.GlaOutReferenceIdeal.nD Cert.GlaOutReferenceIdeal.τ).loc Cert.GlaOutReferenceIdeal.main_arg0)
          ∧ r.2.mem ((c.tc : Thread Cert.GlaOutReferenceIdeal.nD Cert.GlaOutReferenceIdeal.τ).loc Cert.GlaOutReferenceIdeal.main_arg1) = m' ((c.tc : Thread Cert.GlaOutReferenceIdeal.nD Cert.GlaOutReferenceIdeal.τ).loc Cert.GlaOutReferenceIdeal.main_arg1))

def preserves_WOut_WOutIdeal : Prop :=
  True

def algebraic_WOutIdeal_WOutReferenceIdeal [hWOutIdeal : Cert.WOutIdeal.Facts] [hWOutReferenceIdeal : Cert.WOutReferenceIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutReferenceIdeal.nD Cert.WOutReferenceIdeal.τ Cert.WOutReferenceIdeal.sig) → Buf (Elt Ideal) ℓ) (g' : Dev Cert.WOutReferenceIdeal.nD → PrngReg), Pre_WOutIdeal m →
    (∀ c : Dev Cert.WOutIdeal.nD,
      m' ((c.tc : Thread Cert.WOutReferenceIdeal.nD Cert.WOutReferenceIdeal.τ).loc Cert.WOutReferenceIdeal.main_arg0) = m ((c.tc : Thread Cert.WOutIdeal.nD Cert.WOutIdeal.τ).loc Cert.WOutIdeal.main_arg0)
      ∧ m' ((c.tc : Thread Cert.WOutReferenceIdeal.nD Cert.WOutReferenceIdeal.τ).loc Cert.WOutReferenceIdeal.main_arg1) = m ((c.tc : Thread Cert.WOutIdeal.nD Cert.WOutIdeal.τ).loc Cert.WOutIdeal.main_arg1)) →
    ∃ (v0 : (c : Dev Cert.WOutIdeal.nD) → Buf (Elt Ideal) ((c.tc : Thread Cert.WOutIdeal.nD Cert.WOutIdeal.τ).loc Cert.WOutIdeal.main_v3)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v3) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ θ_run (Cert.WOutReferenceIdeal.defs (F := Ideal)) (onTc (τ := Cert.WOutReferenceIdeal.τ) (Cert.WOutReferenceIdeal.main (F := Ideal))) ⟨m', fun _ => 0, g'⟩ (fun r => ∀ c : Dev Cert.WOutReferenceIdeal.nD,
          r.2.mem ((c.tc : Thread Cert.WOutReferenceIdeal.nD Cert.WOutReferenceIdeal.τ).loc Cert.WOutReferenceIdeal.main_v1) = v0 c
          ∧ r.2.mem ((c.tc : Thread Cert.WOutReferenceIdeal.nD Cert.WOutReferenceIdeal.τ).loc Cert.WOutReferenceIdeal.main_arg0) = m' ((c.tc : Thread Cert.WOutReferenceIdeal.nD Cert.WOutReferenceIdeal.τ).loc Cert.WOutReferenceIdeal.main_arg0)
          ∧ r.2.mem ((c.tc : Thread Cert.WOutReferenceIdeal.nD Cert.WOutReferenceIdeal.τ).loc Cert.WOutReferenceIdeal.main_arg1) = m' ((c.tc : Thread Cert.WOutReferenceIdeal.nD Cert.WOutReferenceIdeal.τ).loc Cert.WOutReferenceIdeal.main_arg1))

def preserves_MlaOut_MlaOutIdeal : Prop :=
  True

def algebraic_MlaOutIdeal_MlaOutReferenceIdeal [hMlaOutIdeal : Cert.MlaOutIdeal.Facts] [hMlaOutReferenceIdeal : Cert.MlaOutReferenceIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg)
    (m' : (ℓ : Loc Cert.MlaOutReferenceIdeal.nD Cert.MlaOutReferenceIdeal.τ Cert.MlaOutReferenceIdeal.sig) → Buf (Elt Ideal) ℓ) (g' : Dev Cert.MlaOutReferenceIdeal.nD → PrngReg), Pre_MlaOutIdeal m →
    (∀ c : Dev Cert.MlaOutIdeal.nD,
      m' ((c.tc : Thread Cert.MlaOutReferenceIdeal.nD Cert.MlaOutReferenceIdeal.τ).loc Cert.MlaOutReferenceIdeal.main_arg0) = m ((c.tc : Thread Cert.MlaOutIdeal.nD Cert.MlaOutIdeal.τ).loc Cert.MlaOutIdeal.main_arg0)
      ∧ m' ((c.tc : Thread Cert.MlaOutReferenceIdeal.nD Cert.MlaOutReferenceIdeal.τ).loc Cert.MlaOutReferenceIdeal.main_arg1) = m ((c.tc : Thread Cert.MlaOutIdeal.nD Cert.MlaOutIdeal.τ).loc Cert.MlaOutIdeal.main_arg1)) →
    ∃ (v0 : (c : Dev Cert.MlaOutIdeal.nD) → Buf (Elt Ideal) ((c.tc : Thread Cert.MlaOutIdeal.nD Cert.MlaOutIdeal.τ).loc Cert.MlaOutIdeal.main_v8)),
      θ_run (Cert.MlaOutIdeal.defs (F := Ideal)) (onTc (τ := Cert.MlaOutIdeal.τ) (Cert.MlaOutIdeal.main (F := Ideal))) ⟨m, fun _ => 0, g⟩ (fun r => ∀ c : Dev Cert.MlaOutIdeal.nD,
          r.2.mem ((c.tc : Thread Cert.MlaOutIdeal.nD Cert.MlaOutIdeal.τ).loc Cert.MlaOutIdeal.main_v8) = v0 c
          ∧ r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
          ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1))
      ∧ θ_run (Cert.MlaOutReferenceIdeal.defs (F := Ideal)) (onTc (τ := Cert.MlaOutReferenceIdeal.τ) (Cert.MlaOutReferenceIdeal.main (F := Ideal))) ⟨m', fun _ => 0, g'⟩ (fun r => ∀ c : Dev Cert.MlaOutReferenceIdeal.nD,
          r.2.mem ((c.tc : Thread Cert.MlaOutReferenceIdeal.nD Cert.MlaOutReferenceIdeal.τ).loc Cert.MlaOutReferenceIdeal.main_v3) = v0 c
          ∧ r.2.mem ((c.tc : Thread Cert.MlaOutReferenceIdeal.nD Cert.MlaOutReferenceIdeal.τ).loc Cert.MlaOutReferenceIdeal.main_arg0) = m' ((c.tc : Thread Cert.MlaOutReferenceIdeal.nD Cert.MlaOutReferenceIdeal.τ).loc Cert.MlaOutReferenceIdeal.main_arg0)
          ∧ r.2.mem ((c.tc : Thread Cert.MlaOutReferenceIdeal.nD Cert.MlaOutReferenceIdeal.τ).loc Cert.MlaOutReferenceIdeal.main_arg1) = m' ((c.tc : Thread Cert.MlaOutReferenceIdeal.nD Cert.MlaOutReferenceIdeal.τ).loc Cert.MlaOutReferenceIdeal.main_arg1))

def preserves_MlaUq_MlaUqIdeal : Prop :=
  True

def algebraic_MlaUqIdeal_MlaUqReferenceIdeal [hMlaUqIdeal : Cert.MlaUqIdeal.Facts] [hMlaUqReferenceIdeal : Cert.MlaUqReferenceIdeal.Facts] : Prop :=
  ∀ (m : (ℓ : Loc Cert.MlaUqIdeal.nD Cert.MlaUqIdeal.τ Cert.MlaUqIdeal.sig) → Buf (Elt Ideal) ℓ) (g : Dev Cert.MlaUqIdeal.nD → PrngReg)
    (m' : (ℓ : Loc Cert.MlaUqReferenceIdeal.nD Cert.MlaUqReferenceIdeal.τ Cert.MlaUqReferenceIdeal.sig) → Buf (Elt Ideal) ℓ) (g' : Dev Cert.MlaUqReferenceIdeal.nD → PrngReg), Pre_MlaUqIdeal m →
    (∀ c : Dev Cert.MlaUqIdeal.nD,
      m' ((c.tc : Thread Cert.MlaUqReferenceIdeal.nD Cert.MlaUqReferenceIdeal.τ).loc Cert.MlaUqReferenceIdeal.main_arg0) = m ((c.tc : Thread Cert.MlaUqIdeal.nD Cert.MlaUqIdeal.τ).loc Cert.MlaUqIdeal.main_arg0)
      ∧ m' ((c.tc : Thread Cert.MlaUqReferenceIdeal.nD Cert.MlaUqReferenceIdeal.τ).loc Cert.MlaUqReferenceIdeal.main_arg1) = m ((c.tc : Thread Cert.MlaUqIdeal.nD Cert.MlaUqIdeal.τ).loc Cert.MlaUqIdeal.main_arg1)) →
    ∃ (v0 : (c : Dev Cert.MlaUqIdeal.nD) → Buf (Elt Ideal) ((c.tc : Thread Cert.MlaUqIdeal.nD Cert.MlaUqIdeal.τ).loc Cert.MlaUqIdeal.main_v6)),
      θ_run (Cert.MlaUqIdeal.defs (F := Ideal)) (onTc (τ := Cert.MlaUqIdeal.τ) (Cert.MlaUqIdeal.main (F := Ideal))) ⟨m, fun _ => 0, g⟩ (fun r => ∀ c : Dev Cert.MlaUqIdeal.nD,
          r.2.mem ((c.tc : Thread Cert.MlaUqIdeal.nD Cert.MlaUqIdeal.τ).loc Cert.MlaUqIdeal.main_v6) = v0 c
          ∧ r.2.mem ((c.tc : Thread Cert.MlaUqIdeal.nD Cert.MlaUqIdeal.τ).loc Cert.MlaUqIdeal.main_arg0) = m ((c.tc : Thread Cert.MlaUqIdeal.nD Cert.MlaUqIdeal.τ).loc Cert.MlaUqIdeal.main_arg0)
          ∧ r.2.mem ((c.tc : Thread Cert.MlaUqIdeal.nD Cert.MlaUqIdeal.τ).loc Cert.MlaUqIdeal.main_arg1) = m ((c.tc : Thread Cert.MlaUqIdeal.nD Cert.MlaUqIdeal.τ).loc Cert.MlaUqIdeal.main_arg1))
      ∧ θ_run (Cert.MlaUqReferenceIdeal.defs (F := Ideal)) (onTc (τ := Cert.MlaUqReferenceIdeal.τ) (Cert.MlaUqReferenceIdeal.main (F := Ideal))) ⟨m', fun _ => 0, g'⟩ (fun r => ∀ c : Dev Cert.MlaUqReferenceIdeal.nD,
          r.2.mem ((c.tc : Thread Cert.MlaUqReferenceIdeal.nD Cert.MlaUqReferenceIdeal.τ).loc Cert.MlaUqReferenceIdeal.main_v4) = v0 c
          ∧ r.2.mem ((c.tc : Thread Cert.MlaUqReferenceIdeal.nD Cert.MlaUqReferenceIdeal.τ).loc Cert.MlaUqReferenceIdeal.main_arg0) = m' ((c.tc : Thread Cert.MlaUqReferenceIdeal.nD Cert.MlaUqReferenceIdeal.τ).loc Cert.MlaUqReferenceIdeal.main_arg0)
          ∧ r.2.mem ((c.tc : Thread Cert.MlaUqReferenceIdeal.nD Cert.MlaUqReferenceIdeal.τ).loc Cert.MlaUqReferenceIdeal.main_arg1) = m' ((c.tc : Thread Cert.MlaUqReferenceIdeal.nD Cert.MlaUqReferenceIdeal.τ).loc Cert.MlaUqReferenceIdeal.main_arg1))

def preserves_MlaUkv_MlaUkvIdeal : Prop :=
  True

def algebraic_MlaUkvIdeal_MlaUkvReferenceIdeal [hMlaUkvIdeal : Cert.MlaUkvIdeal.Facts] [hMlaUkvReferenceIdeal : Cert.MlaUkvReferenceIdeal.Facts] : Prop :=
  ∀ (m : (ℓ : Loc Cert.MlaUkvIdeal.nD Cert.MlaUkvIdeal.τ Cert.MlaUkvIdeal.sig) → Buf (Elt Ideal) ℓ) (g : Dev Cert.MlaUkvIdeal.nD → PrngReg)
    (m' : (ℓ : Loc Cert.MlaUkvReferenceIdeal.nD Cert.MlaUkvReferenceIdeal.τ Cert.MlaUkvReferenceIdeal.sig) → Buf (Elt Ideal) ℓ) (g' : Dev Cert.MlaUkvReferenceIdeal.nD → PrngReg), Pre_MlaUkvIdeal m →
    (∀ c : Dev Cert.MlaUkvIdeal.nD,
      m' ((c.tc : Thread Cert.MlaUkvReferenceIdeal.nD Cert.MlaUkvReferenceIdeal.τ).loc Cert.MlaUkvReferenceIdeal.main_arg0) = m ((c.tc : Thread Cert.MlaUkvIdeal.nD Cert.MlaUkvIdeal.τ).loc Cert.MlaUkvIdeal.main_arg0)
      ∧ m' ((c.tc : Thread Cert.MlaUkvReferenceIdeal.nD Cert.MlaUkvReferenceIdeal.τ).loc Cert.MlaUkvReferenceIdeal.main_arg1) = m ((c.tc : Thread Cert.MlaUkvIdeal.nD Cert.MlaUkvIdeal.τ).loc Cert.MlaUkvIdeal.main_arg1)) →
    ∃ (v0 : (c : Dev Cert.MlaUkvIdeal.nD) → Buf (Elt Ideal) ((c.tc : Thread Cert.MlaUkvIdeal.nD Cert.MlaUkvIdeal.τ).loc Cert.MlaUkvIdeal.main_v3)),
      θ_run (Cert.MlaUkvIdeal.defs (F := Ideal)) (onTc (τ := Cert.MlaUkvIdeal.τ) (Cert.MlaUkvIdeal.main (F := Ideal))) ⟨m, fun _ => 0, g⟩ (fun r => ∀ c : Dev Cert.MlaUkvIdeal.nD,
          r.2.mem ((c.tc : Thread Cert.MlaUkvIdeal.nD Cert.MlaUkvIdeal.τ).loc Cert.MlaUkvIdeal.main_v3) = v0 c
          ∧ r.2.mem ((c.tc : Thread Cert.MlaUkvIdeal.nD Cert.MlaUkvIdeal.τ).loc Cert.MlaUkvIdeal.main_arg0) = m ((c.tc : Thread Cert.MlaUkvIdeal.nD Cert.MlaUkvIdeal.τ).loc Cert.MlaUkvIdeal.main_arg0)
          ∧ r.2.mem ((c.tc : Thread Cert.MlaUkvIdeal.nD Cert.MlaUkvIdeal.τ).loc Cert.MlaUkvIdeal.main_arg1) = m ((c.tc : Thread Cert.MlaUkvIdeal.nD Cert.MlaUkvIdeal.τ).loc Cert.MlaUkvIdeal.main_arg1))
      ∧ θ_run (Cert.MlaUkvReferenceIdeal.defs (F := Ideal)) (onTc (τ := Cert.MlaUkvReferenceIdeal.τ) (Cert.MlaUkvReferenceIdeal.main (F := Ideal))) ⟨m', fun _ => 0, g'⟩ (fun r => ∀ c : Dev Cert.MlaUkvReferenceIdeal.nD,
          r.2.mem ((c.tc : Thread Cert.MlaUkvReferenceIdeal.nD Cert.MlaUkvReferenceIdeal.τ).loc Cert.MlaUkvReferenceIdeal.main_v2) = v0 c
          ∧ r.2.mem ((c.tc : Thread Cert.MlaUkvReferenceIdeal.nD Cert.MlaUkvReferenceIdeal.τ).loc Cert.MlaUkvReferenceIdeal.main_arg0) = m' ((c.tc : Thread Cert.MlaUkvReferenceIdeal.nD Cert.MlaUkvReferenceIdeal.τ).loc Cert.MlaUkvReferenceIdeal.main_arg0)
          ∧ r.2.mem ((c.tc : Thread Cert.MlaUkvReferenceIdeal.nD Cert.MlaUkvReferenceIdeal.τ).loc Cert.MlaUkvReferenceIdeal.main_arg1) = m' ((c.tc : Thread Cert.MlaUkvReferenceIdeal.nD Cert.MlaUkvReferenceIdeal.τ).loc Cert.MlaUkvReferenceIdeal.main_arg1))

def preserves_Mlp1_Mlp1Ideal : Prop :=
  True

def algebraic_Mlp1Ideal_Mlp1ReferenceIdeal [hMlp1Ideal : Cert.Mlp1Ideal.Facts] [hMlp1ReferenceIdeal : Cert.Mlp1ReferenceIdeal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg)
    (m' : (ℓ : Loc Cert.Mlp1ReferenceIdeal.nD Cert.Mlp1ReferenceIdeal.τ Cert.Mlp1ReferenceIdeal.sig) → Buf (Elt Ideal) ℓ) (g' : Dev Cert.Mlp1ReferenceIdeal.nD → PrngReg), Pre_Mlp1Ideal m →
    (∀ c : Dev Cert.Mlp1Ideal.nD,
      m' ((c.tc : Thread Cert.Mlp1ReferenceIdeal.nD Cert.Mlp1ReferenceIdeal.τ).loc Cert.Mlp1ReferenceIdeal.main_arg0) = m ((c.tc : Thread Cert.Mlp1Ideal.nD Cert.Mlp1Ideal.τ).loc Cert.Mlp1Ideal.main_arg0)
      ∧ m' ((c.tc : Thread Cert.Mlp1ReferenceIdeal.nD Cert.Mlp1ReferenceIdeal.τ).loc Cert.Mlp1ReferenceIdeal.main_arg1) = m ((c.tc : Thread Cert.Mlp1Ideal.nD Cert.Mlp1Ideal.τ).loc Cert.Mlp1Ideal.main_arg1)) →
    ∃ (v0 : (c : Dev Cert.Mlp1Ideal.nD) → Buf (Elt Ideal) ((c.tc : Thread Cert.Mlp1Ideal.nD Cert.Mlp1Ideal.τ).loc Cert.Mlp1Ideal.main_v3)),
      θ_run (Cert.Mlp1Ideal.defs (F := Ideal)) (onTc (τ := Cert.Mlp1Ideal.τ) (Cert.Mlp1Ideal.main (F := Ideal))) ⟨m, fun _ => 0, g⟩ (fun r => ∀ c : Dev Cert.Mlp1Ideal.nD,
          r.2.mem ((c.tc : Thread Cert.Mlp1Ideal.nD Cert.Mlp1Ideal.τ).loc Cert.Mlp1Ideal.main_v3) = v0 c
          ∧ r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
          ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1))
      ∧ θ_run (Cert.Mlp1ReferenceIdeal.defs (F := Ideal)) (onTc (τ := Cert.Mlp1ReferenceIdeal.τ) (Cert.Mlp1ReferenceIdeal.main (F := Ideal))) ⟨m', fun _ => 0, g'⟩ (fun r => ∀ c : Dev Cert.Mlp1ReferenceIdeal.nD,
          r.2.mem ((c.tc : Thread Cert.Mlp1ReferenceIdeal.nD Cert.Mlp1ReferenceIdeal.τ).loc Cert.Mlp1ReferenceIdeal.main_v4) = v0 c
          ∧ r.2.mem ((c.tc : Thread Cert.Mlp1ReferenceIdeal.nD Cert.Mlp1ReferenceIdeal.τ).loc Cert.Mlp1ReferenceIdeal.main_arg0) = m' ((c.tc : Thread Cert.Mlp1ReferenceIdeal.nD Cert.Mlp1ReferenceIdeal.τ).loc Cert.Mlp1ReferenceIdeal.main_arg0)
          ∧ r.2.mem ((c.tc : Thread Cert.Mlp1ReferenceIdeal.nD Cert.Mlp1ReferenceIdeal.τ).loc Cert.Mlp1ReferenceIdeal.main_arg1) = m' ((c.tc : Thread Cert.Mlp1ReferenceIdeal.nD Cert.Mlp1ReferenceIdeal.τ).loc Cert.Mlp1ReferenceIdeal.main_arg1))

def preserves_Mlp2_Mlp2Ideal : Prop :=
  True

def algebraic_Mlp2Ideal_Mlp2ReferenceIdeal [hMlp2Ideal : Cert.Mlp2Ideal.Facts] [hMlp2ReferenceIdeal : Cert.Mlp2ReferenceIdeal.Facts] : Prop :=
  ∀ (m : (ℓ : Loc Cert.Mlp2Ideal.nD Cert.Mlp2Ideal.τ Cert.Mlp2Ideal.sig) → Buf (Elt Ideal) ℓ) (g : Dev Cert.Mlp2Ideal.nD → PrngReg)
    (m' : (ℓ : Loc Cert.Mlp2ReferenceIdeal.nD Cert.Mlp2ReferenceIdeal.τ Cert.Mlp2ReferenceIdeal.sig) → Buf (Elt Ideal) ℓ) (g' : Dev Cert.Mlp2ReferenceIdeal.nD → PrngReg), Pre_Mlp2Ideal m →
    (∀ c : Dev Cert.Mlp2Ideal.nD,
      m' ((c.tc : Thread Cert.Mlp2ReferenceIdeal.nD Cert.Mlp2ReferenceIdeal.τ).loc Cert.Mlp2ReferenceIdeal.main_arg0) = m ((c.tc : Thread Cert.Mlp2Ideal.nD Cert.Mlp2Ideal.τ).loc Cert.Mlp2Ideal.main_arg0)
      ∧ m' ((c.tc : Thread Cert.Mlp2ReferenceIdeal.nD Cert.Mlp2ReferenceIdeal.τ).loc Cert.Mlp2ReferenceIdeal.main_arg1) = m ((c.tc : Thread Cert.Mlp2Ideal.nD Cert.Mlp2Ideal.τ).loc Cert.Mlp2Ideal.main_arg1)) →
    ∃ (v0 : (c : Dev Cert.Mlp2Ideal.nD) → Buf (Elt Ideal) ((c.tc : Thread Cert.Mlp2Ideal.nD Cert.Mlp2Ideal.τ).loc Cert.Mlp2Ideal.main_v5)),
      θ_run (Cert.Mlp2Ideal.defs (F := Ideal)) (onTc (τ := Cert.Mlp2Ideal.τ) (Cert.Mlp2Ideal.main (F := Ideal))) ⟨m, fun _ => 0, g⟩ (fun r => ∀ c : Dev Cert.Mlp2Ideal.nD,
          r.2.mem ((c.tc : Thread Cert.Mlp2Ideal.nD Cert.Mlp2Ideal.τ).loc Cert.Mlp2Ideal.main_v5) = v0 c
          ∧ r.2.mem ((c.tc : Thread Cert.Mlp2Ideal.nD Cert.Mlp2Ideal.τ).loc Cert.Mlp2Ideal.main_arg0) = m ((c.tc : Thread Cert.Mlp2Ideal.nD Cert.Mlp2Ideal.τ).loc Cert.Mlp2Ideal.main_arg0)
          ∧ r.2.mem ((c.tc : Thread Cert.Mlp2Ideal.nD Cert.Mlp2Ideal.τ).loc Cert.Mlp2Ideal.main_arg1) = m ((c.tc : Thread Cert.Mlp2Ideal.nD Cert.Mlp2Ideal.τ).loc Cert.Mlp2Ideal.main_arg1))
      ∧ θ_run (Cert.Mlp2ReferenceIdeal.defs (F := Ideal)) (onTc (τ := Cert.Mlp2ReferenceIdeal.τ) (Cert.Mlp2ReferenceIdeal.main (F := Ideal))) ⟨m', fun _ => 0, g'⟩ (fun r => ∀ c : Dev Cert.Mlp2ReferenceIdeal.nD,
          r.2.mem ((c.tc : Thread Cert.Mlp2ReferenceIdeal.nD Cert.Mlp2ReferenceIdeal.τ).loc Cert.Mlp2ReferenceIdeal.main_v3) = v0 c
          ∧ r.2.mem ((c.tc : Thread Cert.Mlp2ReferenceIdeal.nD Cert.Mlp2ReferenceIdeal.τ).loc Cert.Mlp2ReferenceIdeal.main_arg0) = m' ((c.tc : Thread Cert.Mlp2ReferenceIdeal.nD Cert.Mlp2ReferenceIdeal.τ).loc Cert.Mlp2ReferenceIdeal.main_arg0)
          ∧ r.2.mem ((c.tc : Thread Cert.Mlp2ReferenceIdeal.nD Cert.Mlp2ReferenceIdeal.τ).loc Cert.Mlp2ReferenceIdeal.main_arg1) = m' ((c.tc : Thread Cert.Mlp2ReferenceIdeal.nD Cert.Mlp2ReferenceIdeal.τ).loc Cert.Mlp2ReferenceIdeal.main_arg1))

def preserves_ProjDx_ProjDxIdeal : Prop :=
  True

def algebraic_ProjDxIdeal_ProjDxReferenceIdeal [hProjDxIdeal : Cert.ProjDxIdeal.Facts] [hProjDxReferenceIdeal : Cert.ProjDxReferenceIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxReferenceIdeal.nD Cert.ProjDxReferenceIdeal.τ Cert.ProjDxReferenceIdeal.sig) → Buf (Elt Ideal) ℓ) (g' : Dev Cert.ProjDxReferenceIdeal.nD → PrngReg), Pre_ProjDxIdeal m →
    (∀ c : Dev Cert.ProjDxIdeal.nD,
      m' ((c.tc : Thread Cert.ProjDxReferenceIdeal.nD Cert.ProjDxReferenceIdeal.τ).loc Cert.ProjDxReferenceIdeal.main_arg0) = m ((c.tc : Thread Cert.ProjDxIdeal.nD Cert.ProjDxIdeal.τ).loc Cert.ProjDxIdeal.main_arg0)
      ∧ m' ((c.tc : Thread Cert.ProjDxReferenceIdeal.nD Cert.ProjDxReferenceIdeal.τ).loc Cert.ProjDxReferenceIdeal.main_arg1) = m ((c.tc : Thread Cert.ProjDxIdeal.nD Cert.ProjDxIdeal.τ).loc Cert.ProjDxIdeal.main_arg1)
      ∧ m' ((c.tc : Thread Cert.ProjDxReferenceIdeal.nD Cert.ProjDxReferenceIdeal.τ).loc Cert.ProjDxReferenceIdeal.main_arg2) = m ((c.tc : Thread Cert.ProjDxIdeal.nD Cert.ProjDxIdeal.τ).loc Cert.ProjDxIdeal.main_arg2)) →
    ∃ (v0 : (c : Dev Cert.ProjDxIdeal.nD) → Buf (Elt Ideal) ((c.tc : Thread Cert.ProjDxIdeal.nD Cert.ProjDxIdeal.τ).loc Cert.ProjDxIdeal.main_v41)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v41) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
          ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2))
      ∧ θ_run (Cert.ProjDxReferenceIdeal.defs (F := Ideal)) (onTc (τ := Cert.ProjDxReferenceIdeal.τ) (Cert.ProjDxReferenceIdeal.main (F := Ideal))) ⟨m', fun _ => 0, g'⟩ (fun r => ∀ c : Dev Cert.ProjDxReferenceIdeal.nD,
          r.2.mem ((c.tc : Thread Cert.ProjDxReferenceIdeal.nD Cert.ProjDxReferenceIdeal.τ).loc Cert.ProjDxReferenceIdeal.main_v4) = v0 c
          ∧ r.2.mem ((c.tc : Thread Cert.ProjDxReferenceIdeal.nD Cert.ProjDxReferenceIdeal.τ).loc Cert.ProjDxReferenceIdeal.main_arg0) = m' ((c.tc : Thread Cert.ProjDxReferenceIdeal.nD Cert.ProjDxReferenceIdeal.τ).loc Cert.ProjDxReferenceIdeal.main_arg0)
          ∧ r.2.mem ((c.tc : Thread Cert.ProjDxReferenceIdeal.nD Cert.ProjDxReferenceIdeal.τ).loc Cert.ProjDxReferenceIdeal.main_arg1) = m' ((c.tc : Thread Cert.ProjDxReferenceIdeal.nD Cert.ProjDxReferenceIdeal.τ).loc Cert.ProjDxReferenceIdeal.main_arg1)
          ∧ r.2.mem ((c.tc : Thread Cert.ProjDxReferenceIdeal.nD Cert.ProjDxReferenceIdeal.τ).loc Cert.ProjDxReferenceIdeal.main_arg2) = m' ((c.tc : Thread Cert.ProjDxReferenceIdeal.nD Cert.ProjDxReferenceIdeal.τ).loc Cert.ProjDxReferenceIdeal.main_arg2))

def preserves_ProjDwA_ProjDwAIdeal : Prop :=
  True

def algebraic_ProjDwAIdeal_ProjDwAReferenceIdeal [hProjDwAIdeal : Cert.ProjDwAIdeal.Facts] [hProjDwAReferenceIdeal : Cert.ProjDwAReferenceIdeal.Facts] : Prop :=
  ∀ (m : (ℓ : Loc Cert.ProjDwAIdeal.nD Cert.ProjDwAIdeal.τ Cert.ProjDwAIdeal.sig) → Buf (Elt Ideal) ℓ) (g : Dev Cert.ProjDwAIdeal.nD → PrngReg)
    (m' : (ℓ : Loc Cert.ProjDwAReferenceIdeal.nD Cert.ProjDwAReferenceIdeal.τ Cert.ProjDwAReferenceIdeal.sig) → Buf (Elt Ideal) ℓ) (g' : Dev Cert.ProjDwAReferenceIdeal.nD → PrngReg), Pre_ProjDwAIdeal m →
    (∀ c : Dev Cert.ProjDwAIdeal.nD,
      m' ((c.tc : Thread Cert.ProjDwAReferenceIdeal.nD Cert.ProjDwAReferenceIdeal.τ).loc Cert.ProjDwAReferenceIdeal.main_arg0) = m ((c.tc : Thread Cert.ProjDwAIdeal.nD Cert.ProjDwAIdeal.τ).loc Cert.ProjDwAIdeal.main_arg0)
      ∧ m' ((c.tc : Thread Cert.ProjDwAReferenceIdeal.nD Cert.ProjDwAReferenceIdeal.τ).loc Cert.ProjDwAReferenceIdeal.main_arg1) = m ((c.tc : Thread Cert.ProjDwAIdeal.nD Cert.ProjDwAIdeal.τ).loc Cert.ProjDwAIdeal.main_arg1)
      ∧ m' ((c.tc : Thread Cert.ProjDwAReferenceIdeal.nD Cert.ProjDwAReferenceIdeal.τ).loc Cert.ProjDwAReferenceIdeal.main_arg2) = m ((c.tc : Thread Cert.ProjDwAIdeal.nD Cert.ProjDwAIdeal.τ).loc Cert.ProjDwAIdeal.main_arg2)) →
    ∃ (v0 : (c : Dev Cert.ProjDwAIdeal.nD) → Buf (Elt Ideal) ((c.tc : Thread Cert.ProjDwAIdeal.nD Cert.ProjDwAIdeal.τ).loc Cert.ProjDwAIdeal.main_v33)),
      θ_run (Cert.ProjDwAIdeal.defs (F := Ideal)) (onTc (τ := Cert.ProjDwAIdeal.τ) (Cert.ProjDwAIdeal.main (F := Ideal))) ⟨m, fun _ => 0, g⟩ (fun r => ∀ c : Dev Cert.ProjDwAIdeal.nD,
          r.2.mem ((c.tc : Thread Cert.ProjDwAIdeal.nD Cert.ProjDwAIdeal.τ).loc Cert.ProjDwAIdeal.main_v33) = v0 c
          ∧ r.2.mem ((c.tc : Thread Cert.ProjDwAIdeal.nD Cert.ProjDwAIdeal.τ).loc Cert.ProjDwAIdeal.main_arg0) = m ((c.tc : Thread Cert.ProjDwAIdeal.nD Cert.ProjDwAIdeal.τ).loc Cert.ProjDwAIdeal.main_arg0)
          ∧ r.2.mem ((c.tc : Thread Cert.ProjDwAIdeal.nD Cert.ProjDwAIdeal.τ).loc Cert.ProjDwAIdeal.main_arg1) = m ((c.tc : Thread Cert.ProjDwAIdeal.nD Cert.ProjDwAIdeal.τ).loc Cert.ProjDwAIdeal.main_arg1)
          ∧ r.2.mem ((c.tc : Thread Cert.ProjDwAIdeal.nD Cert.ProjDwAIdeal.τ).loc Cert.ProjDwAIdeal.main_arg2) = m ((c.tc : Thread Cert.ProjDwAIdeal.nD Cert.ProjDwAIdeal.τ).loc Cert.ProjDwAIdeal.main_arg2))
      ∧ θ_run (Cert.ProjDwAReferenceIdeal.defs (F := Ideal)) (onTc (τ := Cert.ProjDwAReferenceIdeal.τ) (Cert.ProjDwAReferenceIdeal.main (F := Ideal))) ⟨m', fun _ => 0, g'⟩ (fun r => ∀ c : Dev Cert.ProjDwAReferenceIdeal.nD,
          r.2.mem ((c.tc : Thread Cert.ProjDwAReferenceIdeal.nD Cert.ProjDwAReferenceIdeal.τ).loc Cert.ProjDwAReferenceIdeal.main_v4) = v0 c
          ∧ r.2.mem ((c.tc : Thread Cert.ProjDwAReferenceIdeal.nD Cert.ProjDwAReferenceIdeal.τ).loc Cert.ProjDwAReferenceIdeal.main_arg0) = m' ((c.tc : Thread Cert.ProjDwAReferenceIdeal.nD Cert.ProjDwAReferenceIdeal.τ).loc Cert.ProjDwAReferenceIdeal.main_arg0)
          ∧ r.2.mem ((c.tc : Thread Cert.ProjDwAReferenceIdeal.nD Cert.ProjDwAReferenceIdeal.τ).loc Cert.ProjDwAReferenceIdeal.main_arg1) = m' ((c.tc : Thread Cert.ProjDwAReferenceIdeal.nD Cert.ProjDwAReferenceIdeal.τ).loc Cert.ProjDwAReferenceIdeal.main_arg1)
          ∧ r.2.mem ((c.tc : Thread Cert.ProjDwAReferenceIdeal.nD Cert.ProjDwAReferenceIdeal.τ).loc Cert.ProjDwAReferenceIdeal.main_arg2) = m' ((c.tc : Thread Cert.ProjDwAReferenceIdeal.nD Cert.ProjDwAReferenceIdeal.τ).loc Cert.ProjDwAReferenceIdeal.main_arg2))

def preserves_ProjDwB_ProjDwBIdeal : Prop :=
  True

def algebraic_ProjDwBIdeal_ProjDwBReferenceIdeal [hProjDwBIdeal : Cert.ProjDwBIdeal.Facts] [hProjDwBReferenceIdeal : Cert.ProjDwBReferenceIdeal.Facts] : Prop :=
  ∀ (m : (ℓ : Loc Cert.ProjDwBIdeal.nD Cert.ProjDwBIdeal.τ Cert.ProjDwBIdeal.sig) → Buf (Elt Ideal) ℓ) (g : Dev Cert.ProjDwBIdeal.nD → PrngReg)
    (m' : (ℓ : Loc Cert.ProjDwBReferenceIdeal.nD Cert.ProjDwBReferenceIdeal.τ Cert.ProjDwBReferenceIdeal.sig) → Buf (Elt Ideal) ℓ) (g' : Dev Cert.ProjDwBReferenceIdeal.nD → PrngReg), Pre_ProjDwBIdeal m →
    (∀ c : Dev Cert.ProjDwBIdeal.nD,
      m' ((c.tc : Thread Cert.ProjDwBReferenceIdeal.nD Cert.ProjDwBReferenceIdeal.τ).loc Cert.ProjDwBReferenceIdeal.main_arg0) = m ((c.tc : Thread Cert.ProjDwBIdeal.nD Cert.ProjDwBIdeal.τ).loc Cert.ProjDwBIdeal.main_arg0)
      ∧ m' ((c.tc : Thread Cert.ProjDwBReferenceIdeal.nD Cert.ProjDwBReferenceIdeal.τ).loc Cert.ProjDwBReferenceIdeal.main_arg1) = m ((c.tc : Thread Cert.ProjDwBIdeal.nD Cert.ProjDwBIdeal.τ).loc Cert.ProjDwBIdeal.main_arg1)
      ∧ m' ((c.tc : Thread Cert.ProjDwBReferenceIdeal.nD Cert.ProjDwBReferenceIdeal.τ).loc Cert.ProjDwBReferenceIdeal.main_arg2) = m ((c.tc : Thread Cert.ProjDwBIdeal.nD Cert.ProjDwBIdeal.τ).loc Cert.ProjDwBIdeal.main_arg2)) →
    ∃ (v0 : (c : Dev Cert.ProjDwBIdeal.nD) → Buf (Elt Ideal) ((c.tc : Thread Cert.ProjDwBIdeal.nD Cert.ProjDwBIdeal.τ).loc Cert.ProjDwBIdeal.main_v33)),
      θ_run (Cert.ProjDwBIdeal.defs (F := Ideal)) (onTc (τ := Cert.ProjDwBIdeal.τ) (Cert.ProjDwBIdeal.main (F := Ideal))) ⟨m, fun _ => 0, g⟩ (fun r => ∀ c : Dev Cert.ProjDwBIdeal.nD,
          r.2.mem ((c.tc : Thread Cert.ProjDwBIdeal.nD Cert.ProjDwBIdeal.τ).loc Cert.ProjDwBIdeal.main_v33) = v0 c
          ∧ r.2.mem ((c.tc : Thread Cert.ProjDwBIdeal.nD Cert.ProjDwBIdeal.τ).loc Cert.ProjDwBIdeal.main_arg0) = m ((c.tc : Thread Cert.ProjDwBIdeal.nD Cert.ProjDwBIdeal.τ).loc Cert.ProjDwBIdeal.main_arg0)
          ∧ r.2.mem ((c.tc : Thread Cert.ProjDwBIdeal.nD Cert.ProjDwBIdeal.τ).loc Cert.ProjDwBIdeal.main_arg1) = m ((c.tc : Thread Cert.ProjDwBIdeal.nD Cert.ProjDwBIdeal.τ).loc Cert.ProjDwBIdeal.main_arg1)
          ∧ r.2.mem ((c.tc : Thread Cert.ProjDwBIdeal.nD Cert.ProjDwBIdeal.τ).loc Cert.ProjDwBIdeal.main_arg2) = m ((c.tc : Thread Cert.ProjDwBIdeal.nD Cert.ProjDwBIdeal.τ).loc Cert.ProjDwBIdeal.main_arg2))
      ∧ θ_run (Cert.ProjDwBReferenceIdeal.defs (F := Ideal)) (onTc (τ := Cert.ProjDwBReferenceIdeal.τ) (Cert.ProjDwBReferenceIdeal.main (F := Ideal))) ⟨m', fun _ => 0, g'⟩ (fun r => ∀ c : Dev Cert.ProjDwBReferenceIdeal.nD,
          r.2.mem ((c.tc : Thread Cert.ProjDwBReferenceIdeal.nD Cert.ProjDwBReferenceIdeal.τ).loc Cert.ProjDwBReferenceIdeal.main_v12) = v0 c
          ∧ r.2.mem ((c.tc : Thread Cert.ProjDwBReferenceIdeal.nD Cert.ProjDwBReferenceIdeal.τ).loc Cert.ProjDwBReferenceIdeal.main_arg0) = m' ((c.tc : Thread Cert.ProjDwBReferenceIdeal.nD Cert.ProjDwBReferenceIdeal.τ).loc Cert.ProjDwBReferenceIdeal.main_arg0)
          ∧ r.2.mem ((c.tc : Thread Cert.ProjDwBReferenceIdeal.nD Cert.ProjDwBReferenceIdeal.τ).loc Cert.ProjDwBReferenceIdeal.main_arg1) = m' ((c.tc : Thread Cert.ProjDwBReferenceIdeal.nD Cert.ProjDwBReferenceIdeal.τ).loc Cert.ProjDwBReferenceIdeal.main_arg1)
          ∧ r.2.mem ((c.tc : Thread Cert.ProjDwBReferenceIdeal.nD Cert.ProjDwBReferenceIdeal.τ).loc Cert.ProjDwBReferenceIdeal.main_arg2) = m' ((c.tc : Thread Cert.ProjDwBReferenceIdeal.nD Cert.ProjDwBReferenceIdeal.τ).loc Cert.ProjDwBReferenceIdeal.main_arg2))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v11)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v11) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v10) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_MergeBwd_MergeBwdIdeal : Prop :=
  True

def algebraic_MergeBwdIdeal_MergeBwdReferenceIdeal [hMergeBwdIdeal : Cert.MergeBwdIdeal.Facts] [hMergeBwdReferenceIdeal : Cert.MergeBwdReferenceIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdReferenceIdeal.nD Cert.MergeBwdReferenceIdeal.τ Cert.MergeBwdReferenceIdeal.sig) → Buf (Elt Ideal) ℓ) (g' : Dev Cert.MergeBwdReferenceIdeal.nD → PrngReg), Pre_MergeBwdIdeal m →
    (∀ c : Dev Cert.MergeBwdIdeal.nD,
      m' ((c.tc : Thread Cert.MergeBwdReferenceIdeal.nD Cert.MergeBwdReferenceIdeal.τ).loc Cert.MergeBwdReferenceIdeal.main_arg0) = m ((c.tc : Thread Cert.MergeBwdIdeal.nD Cert.MergeBwdIdeal.τ).loc Cert.MergeBwdIdeal.main_arg0)
      ∧ m' ((c.tc : Thread Cert.MergeBwdReferenceIdeal.nD Cert.MergeBwdReferenceIdeal.τ).loc Cert.MergeBwdReferenceIdeal.main_arg1) = m ((c.tc : Thread Cert.MergeBwdIdeal.nD Cert.MergeBwdIdeal.τ).loc Cert.MergeBwdIdeal.main_arg1)
      ∧ m' ((c.tc : Thread Cert.MergeBwdReferenceIdeal.nD Cert.MergeBwdReferenceIdeal.τ).loc Cert.MergeBwdReferenceIdeal.main_arg2) = m ((c.tc : Thread Cert.MergeBwdIdeal.nD Cert.MergeBwdIdeal.τ).loc Cert.MergeBwdIdeal.main_arg2)
      ∧ m' ((c.tc : Thread Cert.MergeBwdReferenceIdeal.nD Cert.MergeBwdReferenceIdeal.τ).loc Cert.MergeBwdReferenceIdeal.main_arg3) = m ((c.tc : Thread Cert.MergeBwdIdeal.nD Cert.MergeBwdIdeal.τ).loc Cert.MergeBwdIdeal.main_arg3)
      ∧ m' ((c.tc : Thread Cert.MergeBwdReferenceIdeal.nD Cert.MergeBwdReferenceIdeal.τ).loc Cert.MergeBwdReferenceIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v5_0)) (v1 : (c : Dev Cert.MergeBwdIdeal.nD) → Buf (Elt Ideal) ((c.tc : Thread Cert.MergeBwdIdeal.nD Cert.MergeBwdIdeal.τ).loc Cert.MergeBwdIdeal.main_v5_1)) (v2 : (c : Dev Cert.MergeBwdIdeal.nD) → Buf (Elt Ideal) ((c.tc : Thread Cert.MergeBwdIdeal.nD Cert.MergeBwdIdeal.τ).loc Cert.MergeBwdIdeal.main_v5_2)) (v3 : (c : Dev Cert.MergeBwdIdeal.nD) → Buf (Elt Ideal) ((c.tc : Thread Cert.MergeBwdIdeal.nD Cert.MergeBwdIdeal.τ).loc Cert.MergeBwdIdeal.main_v5_3)) (v4 : (c : Dev Cert.MergeBwdIdeal.nD) → Buf (Elt Ideal) ((c.tc : Thread Cert.MergeBwdIdeal.nD Cert.MergeBwdIdeal.τ).loc Cert.MergeBwdIdeal.main_v5_4)) (v5 : (c : Dev Cert.MergeBwdIdeal.nD) → Buf (Elt Ideal) ((c.tc : Thread Cert.MergeBwdIdeal.nD Cert.MergeBwdIdeal.τ).loc Cert.MergeBwdIdeal.main_v5_5)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v5_0) = v0 c
          ∧ r.2.mem ((c.tc : Thread Cert.MergeBwdIdeal.nD Cert.MergeBwdIdeal.τ).loc Cert.MergeBwdIdeal.main_v5_1) = v1 c
          ∧ r.2.mem ((c.tc : Thread Cert.MergeBwdIdeal.nD Cert.MergeBwdIdeal.τ).loc Cert.MergeBwdIdeal.main_v5_2) = v2 c
          ∧ r.2.mem ((c.tc : Thread Cert.MergeBwdIdeal.nD Cert.MergeBwdIdeal.τ).loc Cert.MergeBwdIdeal.main_v5_3) = v3 c
          ∧ r.2.mem ((c.tc : Thread Cert.MergeBwdIdeal.nD Cert.MergeBwdIdeal.τ).loc Cert.MergeBwdIdeal.main_v5_4) = v4 c
          ∧ r.2.mem ((c.tc : Thread Cert.MergeBwdIdeal.nD Cert.MergeBwdIdeal.τ).loc Cert.MergeBwdIdeal.main_v5_5) = v5 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.MergeBwdReferenceIdeal.defs (F := Ideal)) (onTc (τ := Cert.MergeBwdReferenceIdeal.τ) (Cert.MergeBwdReferenceIdeal.main (F := Ideal))) ⟨m', fun _ => 0, g'⟩ (fun r => ∀ c : Dev Cert.MergeBwdReferenceIdeal.nD,
          r.2.mem ((c.tc : Thread Cert.MergeBwdReferenceIdeal.nD Cert.MergeBwdReferenceIdeal.τ).loc Cert.MergeBwdReferenceIdeal.main_v31) = v0 c
          ∧ r.2.mem ((c.tc : Thread Cert.MergeBwdReferenceIdeal.nD Cert.MergeBwdReferenceIdeal.τ).loc Cert.MergeBwdReferenceIdeal.main_v32) = v1 c
          ∧ r.2.mem ((c.tc : Thread Cert.MergeBwdReferenceIdeal.nD Cert.MergeBwdReferenceIdeal.τ).loc Cert.MergeBwdReferenceIdeal.main_v34) = v2 c
          ∧ r.2.mem ((c.tc : Thread Cert.MergeBwdReferenceIdeal.nD Cert.MergeBwdReferenceIdeal.τ).loc Cert.MergeBwdReferenceIdeal.main_v36) = v3 c
          ∧ r.2.mem ((c.tc : Thread Cert.MergeBwdReferenceIdeal.nD Cert.MergeBwdReferenceIdeal.τ).loc Cert.MergeBwdReferenceIdeal.main_v37) = v4 c
          ∧ r.2.mem ((c.tc : Thread Cert.MergeBwdReferenceIdeal.nD Cert.MergeBwdReferenceIdeal.τ).loc Cert.MergeBwdReferenceIdeal.main_v38) = v5 c
          ∧ r.2.mem ((c.tc : Thread Cert.MergeBwdReferenceIdeal.nD Cert.MergeBwdReferenceIdeal.τ).loc Cert.MergeBwdReferenceIdeal.main_arg0) = m' ((c.tc : Thread Cert.MergeBwdReferenceIdeal.nD Cert.MergeBwdReferenceIdeal.τ).loc Cert.MergeBwdReferenceIdeal.main_arg0)
          ∧ r.2.mem ((c.tc : Thread Cert.MergeBwdReferenceIdeal.nD Cert.MergeBwdReferenceIdeal.τ).loc Cert.MergeBwdReferenceIdeal.main_arg1) = m' ((c.tc : Thread Cert.MergeBwdReferenceIdeal.nD Cert.MergeBwdReferenceIdeal.τ).loc Cert.MergeBwdReferenceIdeal.main_arg1)
          ∧ r.2.mem ((c.tc : Thread Cert.MergeBwdReferenceIdeal.nD Cert.MergeBwdReferenceIdeal.τ).loc Cert.MergeBwdReferenceIdeal.main_arg2) = m' ((c.tc : Thread Cert.MergeBwdReferenceIdeal.nD Cert.MergeBwdReferenceIdeal.τ).loc Cert.MergeBwdReferenceIdeal.main_arg2)
          ∧ r.2.mem ((c.tc : Thread Cert.MergeBwdReferenceIdeal.nD Cert.MergeBwdReferenceIdeal.τ).loc Cert.MergeBwdReferenceIdeal.main_arg3) = m' ((c.tc : Thread Cert.MergeBwdReferenceIdeal.nD Cert.MergeBwdReferenceIdeal.τ).loc Cert.MergeBwdReferenceIdeal.main_arg3)
          ∧ r.2.mem ((c.tc : Thread Cert.MergeBwdReferenceIdeal.nD Cert.MergeBwdReferenceIdeal.τ).loc Cert.MergeBwdReferenceIdeal.main_arg4) = m' ((c.tc : Thread Cert.MergeBwdReferenceIdeal.nD Cert.MergeBwdReferenceIdeal.τ).loc Cert.MergeBwdReferenceIdeal.main_arg4))

def preserves_MergeFwd_MergeFwdIdeal : Prop :=
  True

def algebraic_MergeFwdIdeal_MergeFwdReferenceIdeal [hMergeFwdIdeal : Cert.MergeFwdIdeal.Facts] [hMergeFwdReferenceIdeal : Cert.MergeFwdReferenceIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdReferenceIdeal.nD Cert.MergeFwdReferenceIdeal.τ Cert.MergeFwdReferenceIdeal.sig) → Buf (Elt Ideal) ℓ) (g' : Dev Cert.MergeFwdReferenceIdeal.nD → PrngReg), Pre_MergeFwdIdeal m →
    (∀ c : Dev Cert.MergeFwdIdeal.nD,
      m' ((c.tc : Thread Cert.MergeFwdReferenceIdeal.nD Cert.MergeFwdReferenceIdeal.τ).loc Cert.MergeFwdReferenceIdeal.main_arg0) = m ((c.tc : Thread Cert.MergeFwdIdeal.nD Cert.MergeFwdIdeal.τ).loc Cert.MergeFwdIdeal.main_arg0)
      ∧ m' ((c.tc : Thread Cert.MergeFwdReferenceIdeal.nD Cert.MergeFwdReferenceIdeal.τ).loc Cert.MergeFwdReferenceIdeal.main_arg1) = m ((c.tc : Thread Cert.MergeFwdIdeal.nD Cert.MergeFwdIdeal.τ).loc Cert.MergeFwdIdeal.main_arg1)
      ∧ m' ((c.tc : Thread Cert.MergeFwdReferenceIdeal.nD Cert.MergeFwdReferenceIdeal.τ).loc Cert.MergeFwdReferenceIdeal.main_arg2) = m ((c.tc : Thread Cert.MergeFwdIdeal.nD Cert.MergeFwdIdeal.τ).loc Cert.MergeFwdIdeal.main_arg2)
      ∧ m' ((c.tc : Thread Cert.MergeFwdReferenceIdeal.nD Cert.MergeFwdReferenceIdeal.τ).loc Cert.MergeFwdReferenceIdeal.main_arg3) = m ((c.tc : Thread Cert.MergeFwdIdeal.nD Cert.MergeFwdIdeal.τ).loc Cert.MergeFwdIdeal.main_arg3)) →
    ∃ (v0 : (c : Dev Cert.MergeFwdIdeal.nD) → Buf (Elt Ideal) ((c.tc : Thread Cert.MergeFwdIdeal.nD Cert.MergeFwdIdeal.τ).loc Cert.MergeFwdIdeal.main_v4)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v4) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ θ_run (Cert.MergeFwdReferenceIdeal.defs (F := Ideal)) (onTc (τ := Cert.MergeFwdReferenceIdeal.τ) (Cert.MergeFwdReferenceIdeal.main (F := Ideal))) ⟨m', fun _ => 0, g'⟩ (fun r => ∀ c : Dev Cert.MergeFwdReferenceIdeal.nD,
          r.2.mem ((c.tc : Thread Cert.MergeFwdReferenceIdeal.nD Cert.MergeFwdReferenceIdeal.τ).loc Cert.MergeFwdReferenceIdeal.main_v14) = v0 c
          ∧ r.2.mem ((c.tc : Thread Cert.MergeFwdReferenceIdeal.nD Cert.MergeFwdReferenceIdeal.τ).loc Cert.MergeFwdReferenceIdeal.main_arg0) = m' ((c.tc : Thread Cert.MergeFwdReferenceIdeal.nD Cert.MergeFwdReferenceIdeal.τ).loc Cert.MergeFwdReferenceIdeal.main_arg0)
          ∧ r.2.mem ((c.tc : Thread Cert.MergeFwdReferenceIdeal.nD Cert.MergeFwdReferenceIdeal.τ).loc Cert.MergeFwdReferenceIdeal.main_arg1) = m' ((c.tc : Thread Cert.MergeFwdReferenceIdeal.nD Cert.MergeFwdReferenceIdeal.τ).loc Cert.MergeFwdReferenceIdeal.main_arg1)
          ∧ r.2.mem ((c.tc : Thread Cert.MergeFwdReferenceIdeal.nD Cert.MergeFwdReferenceIdeal.τ).loc Cert.MergeFwdReferenceIdeal.main_arg2) = m' ((c.tc : Thread Cert.MergeFwdReferenceIdeal.nD Cert.MergeFwdReferenceIdeal.τ).loc Cert.MergeFwdReferenceIdeal.main_arg2)
          ∧ r.2.mem ((c.tc : Thread Cert.MergeFwdReferenceIdeal.nD Cert.MergeFwdReferenceIdeal.τ).loc Cert.MergeFwdReferenceIdeal.main_arg3) = m' ((c.tc : Thread Cert.MergeFwdReferenceIdeal.nD Cert.MergeFwdReferenceIdeal.τ).loc Cert.MergeFwdReferenceIdeal.main_arg3))

def preserves_AlphaDx_AlphaDxIdeal : Prop :=
  True

def algebraic_AlphaDxIdeal_AlphaDxReferenceIdeal [hAlphaDxIdeal : Cert.AlphaDxIdeal.Facts] [hAlphaDxReferenceIdeal : Cert.AlphaDxReferenceIdeal.Facts] : Prop :=
  ∀ (m : (ℓ : Loc Cert.AlphaDxIdeal.nD Cert.AlphaDxIdeal.τ Cert.AlphaDxIdeal.sig) → Buf (Elt Ideal) ℓ) (g : Dev Cert.AlphaDxIdeal.nD → PrngReg)
    (m' : (ℓ : Loc Cert.AlphaDxReferenceIdeal.nD Cert.AlphaDxReferenceIdeal.τ Cert.AlphaDxReferenceIdeal.sig) → Buf (Elt Ideal) ℓ) (g' : Dev Cert.AlphaDxReferenceIdeal.nD → PrngReg), Pre_AlphaDxIdeal m →
    (∀ c : Dev Cert.AlphaDxIdeal.nD,
      m' ((c.tc : Thread Cert.AlphaDxReferenceIdeal.nD Cert.AlphaDxReferenceIdeal.τ).loc Cert.AlphaDxReferenceIdeal.main_arg0) = m ((c.tc : Thread Cert.AlphaDxIdeal.nD Cert.AlphaDxIdeal.τ).loc Cert.AlphaDxIdeal.main_arg0)
      ∧ m' ((c.tc : Thread Cert.AlphaDxReferenceIdeal.nD Cert.AlphaDxReferenceIdeal.τ).loc Cert.AlphaDxReferenceIdeal.main_arg1) = m ((c.tc : Thread Cert.AlphaDxIdeal.nD Cert.AlphaDxIdeal.τ).loc Cert.AlphaDxIdeal.main_arg1)
      ∧ m' ((c.tc : Thread Cert.AlphaDxReferenceIdeal.nD Cert.AlphaDxReferenceIdeal.τ).loc Cert.AlphaDxReferenceIdeal.main_arg2) = m ((c.tc : Thread Cert.AlphaDxIdeal.nD Cert.AlphaDxIdeal.τ).loc Cert.AlphaDxIdeal.main_arg2)) →
    ∃ (v0 : (c : Dev Cert.AlphaDxIdeal.nD) → Buf (Elt Ideal) ((c.tc : Thread Cert.AlphaDxIdeal.nD Cert.AlphaDxIdeal.τ).loc Cert.AlphaDxIdeal.main_v3)),
      θ_run (Cert.AlphaDxIdeal.defs (F := Ideal)) (onTc (τ := Cert.AlphaDxIdeal.τ) (Cert.AlphaDxIdeal.main (F := Ideal))) ⟨m, fun _ => 0, g⟩ (fun r => ∀ c : Dev Cert.AlphaDxIdeal.nD,
          r.2.mem ((c.tc : Thread Cert.AlphaDxIdeal.nD Cert.AlphaDxIdeal.τ).loc Cert.AlphaDxIdeal.main_v3) = v0 c
          ∧ r.2.mem ((c.tc : Thread Cert.AlphaDxIdeal.nD Cert.AlphaDxIdeal.τ).loc Cert.AlphaDxIdeal.main_arg0) = m ((c.tc : Thread Cert.AlphaDxIdeal.nD Cert.AlphaDxIdeal.τ).loc Cert.AlphaDxIdeal.main_arg0)
          ∧ r.2.mem ((c.tc : Thread Cert.AlphaDxIdeal.nD Cert.AlphaDxIdeal.τ).loc Cert.AlphaDxIdeal.main_arg1) = m ((c.tc : Thread Cert.AlphaDxIdeal.nD Cert.AlphaDxIdeal.τ).loc Cert.AlphaDxIdeal.main_arg1)
          ∧ r.2.mem ((c.tc : Thread Cert.AlphaDxIdeal.nD Cert.AlphaDxIdeal.τ).loc Cert.AlphaDxIdeal.main_arg2) = m ((c.tc : Thread Cert.AlphaDxIdeal.nD Cert.AlphaDxIdeal.τ).loc Cert.AlphaDxIdeal.main_arg2))
      ∧ θ_run (Cert.AlphaDxReferenceIdeal.defs (F := Ideal)) (onTc (τ := Cert.AlphaDxReferenceIdeal.τ) (Cert.AlphaDxReferenceIdeal.main (F := Ideal))) ⟨m', fun _ => 0, g'⟩ (fun r => ∀ c : Dev Cert.AlphaDxReferenceIdeal.nD,
          r.2.mem ((c.tc : Thread Cert.AlphaDxReferenceIdeal.nD Cert.AlphaDxReferenceIdeal.τ).loc Cert.AlphaDxReferenceIdeal.main_v6) = v0 c
          ∧ r.2.mem ((c.tc : Thread Cert.AlphaDxReferenceIdeal.nD Cert.AlphaDxReferenceIdeal.τ).loc Cert.AlphaDxReferenceIdeal.main_arg0) = m' ((c.tc : Thread Cert.AlphaDxReferenceIdeal.nD Cert.AlphaDxReferenceIdeal.τ).loc Cert.AlphaDxReferenceIdeal.main_arg0)
          ∧ r.2.mem ((c.tc : Thread Cert.AlphaDxReferenceIdeal.nD Cert.AlphaDxReferenceIdeal.τ).loc Cert.AlphaDxReferenceIdeal.main_arg1) = m' ((c.tc : Thread Cert.AlphaDxReferenceIdeal.nD Cert.AlphaDxReferenceIdeal.τ).loc Cert.AlphaDxReferenceIdeal.main_arg1)
          ∧ r.2.mem ((c.tc : Thread Cert.AlphaDxReferenceIdeal.nD Cert.AlphaDxReferenceIdeal.τ).loc Cert.AlphaDxReferenceIdeal.main_arg2) = m' ((c.tc : Thread Cert.AlphaDxReferenceIdeal.nD Cert.AlphaDxReferenceIdeal.τ).loc Cert.AlphaDxReferenceIdeal.main_arg2))

def preserves_AlphaDw_AlphaDwIdeal : Prop :=
  True

def algebraic_AlphaDwIdeal_AlphaDwReferenceIdeal [hAlphaDwIdeal : Cert.AlphaDwIdeal.Facts] [hAlphaDwReferenceIdeal : Cert.AlphaDwReferenceIdeal.Facts] : Prop :=
  ∀ (m : (ℓ : Loc Cert.AlphaDwIdeal.nD Cert.AlphaDwIdeal.τ Cert.AlphaDwIdeal.sig) → Buf (Elt Ideal) ℓ) (g : Dev Cert.AlphaDwIdeal.nD → PrngReg)
    (m' : (ℓ : Loc Cert.AlphaDwReferenceIdeal.nD Cert.AlphaDwReferenceIdeal.τ Cert.AlphaDwReferenceIdeal.sig) → Buf (Elt Ideal) ℓ) (g' : Dev Cert.AlphaDwReferenceIdeal.nD → PrngReg), Pre_AlphaDwIdeal m →
    (∀ c : Dev Cert.AlphaDwIdeal.nD,
      m' ((c.tc : Thread Cert.AlphaDwReferenceIdeal.nD Cert.AlphaDwReferenceIdeal.τ).loc Cert.AlphaDwReferenceIdeal.main_arg0) = m ((c.tc : Thread Cert.AlphaDwIdeal.nD Cert.AlphaDwIdeal.τ).loc Cert.AlphaDwIdeal.main_arg0)
      ∧ m' ((c.tc : Thread Cert.AlphaDwReferenceIdeal.nD Cert.AlphaDwReferenceIdeal.τ).loc Cert.AlphaDwReferenceIdeal.main_arg1) = m ((c.tc : Thread Cert.AlphaDwIdeal.nD Cert.AlphaDwIdeal.τ).loc Cert.AlphaDwIdeal.main_arg1)
      ∧ m' ((c.tc : Thread Cert.AlphaDwReferenceIdeal.nD Cert.AlphaDwReferenceIdeal.τ).loc Cert.AlphaDwReferenceIdeal.main_arg2) = m ((c.tc : Thread Cert.AlphaDwIdeal.nD Cert.AlphaDwIdeal.τ).loc Cert.AlphaDwIdeal.main_arg2)) →
    ∃ (v0 : (c : Dev Cert.AlphaDwIdeal.nD) → Buf (Elt Ideal) ((c.tc : Thread Cert.AlphaDwIdeal.nD Cert.AlphaDwIdeal.τ).loc Cert.AlphaDwIdeal.main_v5)),
      θ_run (Cert.AlphaDwIdeal.defs (F := Ideal)) (onTc (τ := Cert.AlphaDwIdeal.τ) (Cert.AlphaDwIdeal.main (F := Ideal))) ⟨m, fun _ => 0, g⟩ (fun r => ∀ c : Dev Cert.AlphaDwIdeal.nD,
          r.2.mem ((c.tc : Thread Cert.AlphaDwIdeal.nD Cert.AlphaDwIdeal.τ).loc Cert.AlphaDwIdeal.main_v5) = v0 c
          ∧ r.2.mem ((c.tc : Thread Cert.AlphaDwIdeal.nD Cert.AlphaDwIdeal.τ).loc Cert.AlphaDwIdeal.main_arg0) = m ((c.tc : Thread Cert.AlphaDwIdeal.nD Cert.AlphaDwIdeal.τ).loc Cert.AlphaDwIdeal.main_arg0)
          ∧ r.2.mem ((c.tc : Thread Cert.AlphaDwIdeal.nD Cert.AlphaDwIdeal.τ).loc Cert.AlphaDwIdeal.main_arg1) = m ((c.tc : Thread Cert.AlphaDwIdeal.nD Cert.AlphaDwIdeal.τ).loc Cert.AlphaDwIdeal.main_arg1)
          ∧ r.2.mem ((c.tc : Thread Cert.AlphaDwIdeal.nD Cert.AlphaDwIdeal.τ).loc Cert.AlphaDwIdeal.main_arg2) = m ((c.tc : Thread Cert.AlphaDwIdeal.nD Cert.AlphaDwIdeal.τ).loc Cert.AlphaDwIdeal.main_arg2))
      ∧ θ_run (Cert.AlphaDwReferenceIdeal.defs (F := Ideal)) (onTc (τ := Cert.AlphaDwReferenceIdeal.τ) (Cert.AlphaDwReferenceIdeal.main (F := Ideal))) ⟨m', fun _ => 0, g'⟩ (fun r => ∀ c : Dev Cert.AlphaDwReferenceIdeal.nD,
          r.2.mem ((c.tc : Thread Cert.AlphaDwReferenceIdeal.nD Cert.AlphaDwReferenceIdeal.τ).loc Cert.AlphaDwReferenceIdeal.main_v4) = v0 c
          ∧ r.2.mem ((c.tc : Thread Cert.AlphaDwReferenceIdeal.nD Cert.AlphaDwReferenceIdeal.τ).loc Cert.AlphaDwReferenceIdeal.main_arg0) = m' ((c.tc : Thread Cert.AlphaDwReferenceIdeal.nD Cert.AlphaDwReferenceIdeal.τ).loc Cert.AlphaDwReferenceIdeal.main_arg0)
          ∧ r.2.mem ((c.tc : Thread Cert.AlphaDwReferenceIdeal.nD Cert.AlphaDwReferenceIdeal.τ).loc Cert.AlphaDwReferenceIdeal.main_arg1) = m' ((c.tc : Thread Cert.AlphaDwReferenceIdeal.nD Cert.AlphaDwReferenceIdeal.τ).loc Cert.AlphaDwReferenceIdeal.main_arg1)
          ∧ r.2.mem ((c.tc : Thread Cert.AlphaDwReferenceIdeal.nD Cert.AlphaDwReferenceIdeal.τ).loc Cert.AlphaDwReferenceIdeal.main_arg2) = m' ((c.tc : Thread Cert.AlphaDwReferenceIdeal.nD Cert.AlphaDwReferenceIdeal.τ).loc Cert.AlphaDwReferenceIdeal.main_arg2))

def preserves_GlaFwd_GlaFwdIdeal : Prop :=
  True

def algebraic_GlaFwdIdeal_GlaFwdReferenceIdeal [hGlaFwdIdeal : Cert.GlaFwdIdeal.Facts] [hGlaFwdReferenceIdeal : Cert.GlaFwdReferenceIdeal.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg)
    (m' : (ℓ : Loc Cert.GlaFwdReferenceIdeal.nD Cert.GlaFwdReferenceIdeal.τ Cert.GlaFwdReferenceIdeal.sig) → Buf (Elt Ideal) ℓ) (g' : Dev Cert.GlaFwdReferenceIdeal.nD → PrngReg), Pre_GlaFwdIdeal m →
    (∀ c : Dev Cert.GlaFwdIdeal.nD,
      m' ((c.tc : Thread Cert.GlaFwdReferenceIdeal.nD Cert.GlaFwdReferenceIdeal.τ).loc Cert.GlaFwdReferenceIdeal.main_arg0) = m ((c.tc : Thread Cert.GlaFwdIdeal.nD Cert.GlaFwdIdeal.τ).loc Cert.GlaFwdIdeal.main_arg0)
      ∧ m' ((c.tc : Thread Cert.GlaFwdReferenceIdeal.nD Cert.GlaFwdReferenceIdeal.τ).loc Cert.GlaFwdReferenceIdeal.main_arg1) = m ((c.tc : Thread Cert.GlaFwdIdeal.nD Cert.GlaFwdIdeal.τ).loc Cert.GlaFwdIdeal.main_arg1)
      ∧ m' ((c.tc : Thread Cert.GlaFwdReferenceIdeal.nD Cert.GlaFwdReferenceIdeal.τ).loc Cert.GlaFwdReferenceIdeal.main_arg2) = m ((c.tc : Thread Cert.GlaFwdIdeal.nD Cert.GlaFwdIdeal.τ).loc Cert.GlaFwdIdeal.main_arg2)
      ∧ m' ((c.tc : Thread Cert.GlaFwdReferenceIdeal.nD Cert.GlaFwdReferenceIdeal.τ).loc Cert.GlaFwdReferenceIdeal.main_arg3) = m ((c.tc : Thread Cert.GlaFwdIdeal.nD Cert.GlaFwdIdeal.τ).loc Cert.GlaFwdIdeal.main_arg3)
      ∧ m' ((c.tc : Thread Cert.GlaFwdReferenceIdeal.nD Cert.GlaFwdReferenceIdeal.τ).loc Cert.GlaFwdReferenceIdeal.main_arg4) = m ((c.tc : Thread Cert.GlaFwdIdeal.nD Cert.GlaFwdIdeal.τ).loc Cert.GlaFwdIdeal.main_arg4)
      ∧ m' ((c.tc : Thread Cert.GlaFwdReferenceIdeal.nD Cert.GlaFwdReferenceIdeal.τ).loc Cert.GlaFwdReferenceIdeal.main_arg5) = m ((c.tc : Thread Cert.GlaFwdIdeal.nD Cert.GlaFwdIdeal.τ).loc Cert.GlaFwdIdeal.main_arg5)
      ∧ m' ((c.tc : Thread Cert.GlaFwdReferenceIdeal.nD Cert.GlaFwdReferenceIdeal.τ).loc Cert.GlaFwdReferenceIdeal.main_arg6) = m ((c.tc : Thread Cert.GlaFwdIdeal.nD Cert.GlaFwdIdeal.τ).loc Cert.GlaFwdIdeal.main_arg6)
      ∧ m' ((c.tc : Thread Cert.GlaFwdReferenceIdeal.nD Cert.GlaFwdReferenceIdeal.τ).loc Cert.GlaFwdReferenceIdeal.main_arg7) = m ((c.tc : Thread Cert.GlaFwdIdeal.nD Cert.GlaFwdIdeal.τ).loc Cert.GlaFwdIdeal.main_arg7)) →
    ∃ (v0 : (c : Dev Cert.GlaFwdIdeal.nD) → Buf (Elt Ideal) ((c.tc : Thread Cert.GlaFwdIdeal.nD Cert.GlaFwdIdeal.τ).loc Cert.GlaFwdIdeal.main_v5_0)) (v1 : (c : Dev Cert.GlaFwdIdeal.nD) → Buf (Elt Ideal) ((c.tc : Thread Cert.GlaFwdIdeal.nD Cert.GlaFwdIdeal.τ).loc Cert.GlaFwdIdeal.main_v5_1)) (v2 : (c : Dev Cert.GlaFwdIdeal.nD) → Buf (Elt Ideal) ((c.tc : Thread Cert.GlaFwdIdeal.nD Cert.GlaFwdIdeal.τ).loc Cert.GlaFwdIdeal.main_v5_2)),
      θ_run (Cert.GlaFwdIdeal.defs (F := Ideal)) (onTc (τ := Cert.GlaFwdIdeal.τ) (Cert.GlaFwdIdeal.main (F := Ideal))) ⟨m, fun _ => 0, g⟩ (fun r => ∀ c : Dev Cert.GlaFwdIdeal.nD,
          r.2.mem ((c.tc : Thread Cert.GlaFwdIdeal.nD Cert.GlaFwdIdeal.τ).loc Cert.GlaFwdIdeal.main_v5_0) = v0 c
          ∧ r.2.mem ((c.tc : Thread Cert.GlaFwdIdeal.nD Cert.GlaFwdIdeal.τ).loc Cert.GlaFwdIdeal.main_v5_1) = v1 c
          ∧ r.2.mem ((c.tc : Thread Cert.GlaFwdIdeal.nD Cert.GlaFwdIdeal.τ).loc Cert.GlaFwdIdeal.main_v5_2) = v2 c
          ∧ r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
          ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
          ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
          ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3)
          ∧ r.2.mem ((c.tc : Thread Cert.GlaFwdIdeal.nD Cert.GlaFwdIdeal.τ).loc Cert.GlaFwdIdeal.main_arg4) = m ((c.tc : Thread Cert.GlaFwdIdeal.nD Cert.GlaFwdIdeal.τ).loc Cert.GlaFwdIdeal.main_arg4)
          ∧ r.2.mem ((c.tc : Thread Cert.GlaFwdIdeal.nD Cert.GlaFwdIdeal.τ).loc Cert.GlaFwdIdeal.main_arg5) = m ((c.tc : Thread Cert.GlaFwdIdeal.nD Cert.GlaFwdIdeal.τ).loc Cert.GlaFwdIdeal.main_arg5)
          ∧ r.2.mem ((c.tc : Thread Cert.GlaFwdIdeal.nD Cert.GlaFwdIdeal.τ).loc Cert.GlaFwdIdeal.main_arg6) = m ((c.tc : Thread Cert.GlaFwdIdeal.nD Cert.GlaFwdIdeal.τ).loc Cert.GlaFwdIdeal.main_arg6)
          ∧ r.2.mem ((c.tc : Thread Cert.GlaFwdIdeal.nD Cert.GlaFwdIdeal.τ).loc Cert.GlaFwdIdeal.main_arg7) = m ((c.tc : Thread Cert.GlaFwdIdeal.nD Cert.GlaFwdIdeal.τ).loc Cert.GlaFwdIdeal.main_arg7))
      ∧ θ_run (Cert.GlaFwdReferenceIdeal.defs (F := Ideal)) (onTc (τ := Cert.GlaFwdReferenceIdeal.τ) (Cert.GlaFwdReferenceIdeal.main (F := Ideal))) ⟨m', fun _ => 0, g'⟩ (fun r => ∀ c : Dev Cert.GlaFwdReferenceIdeal.nD,
          r.2.mem ((c.tc : Thread Cert.GlaFwdReferenceIdeal.nD Cert.GlaFwdReferenceIdeal.τ).loc Cert.GlaFwdReferenceIdeal.main_v56) = v0 c
          ∧ r.2.mem ((c.tc : Thread Cert.GlaFwdReferenceIdeal.nD Cert.GlaFwdReferenceIdeal.τ).loc Cert.GlaFwdReferenceIdeal.main_v58) = v1 c
          ∧ r.2.mem ((c.tc : Thread Cert.GlaFwdReferenceIdeal.nD Cert.GlaFwdReferenceIdeal.τ).loc Cert.GlaFwdReferenceIdeal.main_v59) = v2 c
          ∧ r.2.mem ((c.tc : Thread Cert.GlaFwdReferenceIdeal.nD Cert.GlaFwdReferenceIdeal.τ).loc Cert.GlaFwdReferenceIdeal.main_arg0) = m' ((c.tc : Thread Cert.GlaFwdReferenceIdeal.nD Cert.GlaFwdReferenceIdeal.τ).loc Cert.GlaFwdReferenceIdeal.main_arg0)
          ∧ r.2.mem ((c.tc : Thread Cert.GlaFwdReferenceIdeal.nD Cert.GlaFwdReferenceIdeal.τ).loc Cert.GlaFwdReferenceIdeal.main_arg1) = m' ((c.tc : Thread Cert.GlaFwdReferenceIdeal.nD Cert.GlaFwdReferenceIdeal.τ).loc Cert.GlaFwdReferenceIdeal.main_arg1)
          ∧ r.2.mem ((c.tc : Thread Cert.GlaFwdReferenceIdeal.nD Cert.GlaFwdReferenceIdeal.τ).loc Cert.GlaFwdReferenceIdeal.main_arg2) = m' ((c.tc : Thread Cert.GlaFwdReferenceIdeal.nD Cert.GlaFwdReferenceIdeal.τ).loc Cert.GlaFwdReferenceIdeal.main_arg2)
          ∧ r.2.mem ((c.tc : Thread Cert.GlaFwdReferenceIdeal.nD Cert.GlaFwdReferenceIdeal.τ).loc Cert.GlaFwdReferenceIdeal.main_arg3) = m' ((c.tc : Thread Cert.GlaFwdReferenceIdeal.nD Cert.GlaFwdReferenceIdeal.τ).loc Cert.GlaFwdReferenceIdeal.main_arg3)
          ∧ r.2.mem ((c.tc : Thread Cert.GlaFwdReferenceIdeal.nD Cert.GlaFwdReferenceIdeal.τ).loc Cert.GlaFwdReferenceIdeal.main_arg4) = m' ((c.tc : Thread Cert.GlaFwdReferenceIdeal.nD Cert.GlaFwdReferenceIdeal.τ).loc Cert.GlaFwdReferenceIdeal.main_arg4)
          ∧ r.2.mem ((c.tc : Thread Cert.GlaFwdReferenceIdeal.nD Cert.GlaFwdReferenceIdeal.τ).loc Cert.GlaFwdReferenceIdeal.main_arg5) = m' ((c.tc : Thread Cert.GlaFwdReferenceIdeal.nD Cert.GlaFwdReferenceIdeal.τ).loc Cert.GlaFwdReferenceIdeal.main_arg5)
          ∧ r.2.mem ((c.tc : Thread Cert.GlaFwdReferenceIdeal.nD Cert.GlaFwdReferenceIdeal.τ).loc Cert.GlaFwdReferenceIdeal.main_arg6) = m' ((c.tc : Thread Cert.GlaFwdReferenceIdeal.nD Cert.GlaFwdReferenceIdeal.τ).loc Cert.GlaFwdReferenceIdeal.main_arg6)
          ∧ r.2.mem ((c.tc : Thread Cert.GlaFwdReferenceIdeal.nD Cert.GlaFwdReferenceIdeal.τ).loc Cert.GlaFwdReferenceIdeal.main_arg7) = m' ((c.tc : Thread Cert.GlaFwdReferenceIdeal.nD Cert.GlaFwdReferenceIdeal.τ).loc Cert.GlaFwdReferenceIdeal.main_arg7))

def preserves_Norm1_Norm1Ideal : Prop :=
  True

def algebraic_Norm1Ideal_Norm1ReferenceIdeal [hNorm1Ideal : Cert.Norm1Ideal.Facts] [hNorm1ReferenceIdeal : Cert.Norm1ReferenceIdeal.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1ReferenceIdeal.nD Cert.Norm1ReferenceIdeal.τ Cert.Norm1ReferenceIdeal.sig) → Buf (Elt Ideal) ℓ) (g' : Dev Cert.Norm1ReferenceIdeal.nD → PrngReg), Pre_Norm1Ideal m →
    (∀ c : Dev Cert.Norm1Ideal.nD,
      m' ((c.tc : Thread Cert.Norm1ReferenceIdeal.nD Cert.Norm1ReferenceIdeal.τ).loc Cert.Norm1ReferenceIdeal.main_arg0) = m ((c.tc : Thread Cert.Norm1Ideal.nD Cert.Norm1Ideal.τ).loc Cert.Norm1Ideal.main_arg0)
      ∧ m' ((c.tc : Thread Cert.Norm1ReferenceIdeal.nD Cert.Norm1ReferenceIdeal.τ).loc Cert.Norm1ReferenceIdeal.main_arg1) = m ((c.tc : Thread Cert.Norm1Ideal.nD Cert.Norm1Ideal.τ).loc Cert.Norm1Ideal.main_arg1)
      ∧ m' ((c.tc : Thread Cert.Norm1ReferenceIdeal.nD Cert.Norm1ReferenceIdeal.τ).loc Cert.Norm1ReferenceIdeal.main_arg2) = m ((c.tc : Thread Cert.Norm1Ideal.nD Cert.Norm1Ideal.τ).loc Cert.Norm1Ideal.main_arg2)
      ∧ m' ((c.tc : Thread Cert.Norm1ReferenceIdeal.nD Cert.Norm1ReferenceIdeal.τ).loc Cert.Norm1ReferenceIdeal.main_arg3) = m ((c.tc : Thread Cert.Norm1Ideal.nD Cert.Norm1Ideal.τ).loc Cert.Norm1Ideal.main_arg3)) →
    ∃ (v0 : (c : Dev Cert.Norm1Ideal.nD) → Buf (Elt Ideal) ((c.tc : Thread Cert.Norm1Ideal.nD Cert.Norm1Ideal.τ).loc Cert.Norm1Ideal.main_v2)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v2) = v0 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
          ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
          ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3))
      ∧ θ_run (Cert.Norm1ReferenceIdeal.defs (F := Ideal)) (onTc (τ := Cert.Norm1ReferenceIdeal.τ) (Cert.Norm1ReferenceIdeal.main (F := Ideal))) ⟨m', fun _ => 0, g'⟩ (fun r => ∀ c : Dev Cert.Norm1ReferenceIdeal.nD,
          r.2.mem ((c.tc : Thread Cert.Norm1ReferenceIdeal.nD Cert.Norm1ReferenceIdeal.τ).loc Cert.Norm1ReferenceIdeal.main_v22) = v0 c
          ∧ r.2.mem ((c.tc : Thread Cert.Norm1ReferenceIdeal.nD Cert.Norm1ReferenceIdeal.τ).loc Cert.Norm1ReferenceIdeal.main_arg0) = m' ((c.tc : Thread Cert.Norm1ReferenceIdeal.nD Cert.Norm1ReferenceIdeal.τ).loc Cert.Norm1ReferenceIdeal.main_arg0)
          ∧ r.2.mem ((c.tc : Thread Cert.Norm1ReferenceIdeal.nD Cert.Norm1ReferenceIdeal.τ).loc Cert.Norm1ReferenceIdeal.main_arg1) = m' ((c.tc : Thread Cert.Norm1ReferenceIdeal.nD Cert.Norm1ReferenceIdeal.τ).loc Cert.Norm1ReferenceIdeal.main_arg1)
          ∧ r.2.mem ((c.tc : Thread Cert.Norm1ReferenceIdeal.nD Cert.Norm1ReferenceIdeal.τ).loc Cert.Norm1ReferenceIdeal.main_arg2) = m' ((c.tc : Thread Cert.Norm1ReferenceIdeal.nD Cert.Norm1ReferenceIdeal.τ).loc Cert.Norm1ReferenceIdeal.main_arg2)
          ∧ r.2.mem ((c.tc : Thread Cert.Norm1ReferenceIdeal.nD Cert.Norm1ReferenceIdeal.τ).loc Cert.Norm1ReferenceIdeal.main_arg3) = m' ((c.tc : Thread Cert.Norm1ReferenceIdeal.nD Cert.Norm1ReferenceIdeal.τ).loc Cert.Norm1ReferenceIdeal.main_arg3))

def preserves_Norm2_Norm2Ideal : Prop :=
  True

def algebraic_Norm2Ideal_Norm2ReferenceIdeal [hNorm2Ideal : Cert.Norm2Ideal.Facts] [hNorm2ReferenceIdeal : Cert.Norm2ReferenceIdeal.Facts] : Prop :=
  ∀ (m : (ℓ : Loc Cert.Norm2Ideal.nD Cert.Norm2Ideal.τ Cert.Norm2Ideal.sig) → Buf (Elt Ideal) ℓ) (g : Dev Cert.Norm2Ideal.nD → PrngReg)
    (m' : (ℓ : Loc Cert.Norm2ReferenceIdeal.nD Cert.Norm2ReferenceIdeal.τ Cert.Norm2ReferenceIdeal.sig) → Buf (Elt Ideal) ℓ) (g' : Dev Cert.Norm2ReferenceIdeal.nD → PrngReg), Pre_Norm2Ideal m →
    (∀ c : Dev Cert.Norm2Ideal.nD,
      m' ((c.tc : Thread Cert.Norm2ReferenceIdeal.nD Cert.Norm2ReferenceIdeal.τ).loc Cert.Norm2ReferenceIdeal.main_arg0) = m ((c.tc : Thread Cert.Norm2Ideal.nD Cert.Norm2Ideal.τ).loc Cert.Norm2Ideal.main_arg0)
      ∧ m' ((c.tc : Thread Cert.Norm2ReferenceIdeal.nD Cert.Norm2ReferenceIdeal.τ).loc Cert.Norm2ReferenceIdeal.main_arg1) = m ((c.tc : Thread Cert.Norm2Ideal.nD Cert.Norm2Ideal.τ).loc Cert.Norm2Ideal.main_arg1)
      ∧ m' ((c.tc : Thread Cert.Norm2ReferenceIdeal.nD Cert.Norm2ReferenceIdeal.τ).loc Cert.Norm2ReferenceIdeal.main_arg2) = m ((c.tc : Thread Cert.Norm2Ideal.nD Cert.Norm2Ideal.τ).loc Cert.Norm2Ideal.main_arg2)
      ∧ m' ((c.tc : Thread Cert.Norm2ReferenceIdeal.nD Cert.Norm2ReferenceIdeal.τ).loc Cert.Norm2ReferenceIdeal.main_arg3) = m ((c.tc : Thread Cert.Norm2Ideal.nD Cert.Norm2Ideal.τ).loc Cert.Norm2Ideal.main_arg3)
      ∧ m' ((c.tc : Thread Cert.Norm2ReferenceIdeal.nD Cert.Norm2ReferenceIdeal.τ).loc Cert.Norm2ReferenceIdeal.main_arg4) = m ((c.tc : Thread Cert.Norm2Ideal.nD Cert.Norm2Ideal.τ).loc Cert.Norm2Ideal.main_arg4)
      ∧ m' ((c.tc : Thread Cert.Norm2ReferenceIdeal.nD Cert.Norm2ReferenceIdeal.τ).loc Cert.Norm2ReferenceIdeal.main_arg5) = m ((c.tc : Thread Cert.Norm2Ideal.nD Cert.Norm2Ideal.τ).loc Cert.Norm2Ideal.main_arg5)) →
    ∃ (v0 : (c : Dev Cert.Norm2Ideal.nD) → Buf (Elt Ideal) ((c.tc : Thread Cert.Norm2Ideal.nD Cert.Norm2Ideal.τ).loc Cert.Norm2Ideal.main_v3_0)) (v1 : (c : Dev Cert.Norm2Ideal.nD) → Buf (Elt Ideal) ((c.tc : Thread Cert.Norm2Ideal.nD Cert.Norm2Ideal.τ).loc Cert.Norm2Ideal.main_v3_1)),
      θ_run (Cert.Norm2Ideal.defs (F := Ideal)) (onTc (τ := Cert.Norm2Ideal.τ) (Cert.Norm2Ideal.main (F := Ideal))) ⟨m, fun _ => 0, g⟩ (fun r => ∀ c : Dev Cert.Norm2Ideal.nD,
          r.2.mem ((c.tc : Thread Cert.Norm2Ideal.nD Cert.Norm2Ideal.τ).loc Cert.Norm2Ideal.main_v3_0) = v0 c
          ∧ r.2.mem ((c.tc : Thread Cert.Norm2Ideal.nD Cert.Norm2Ideal.τ).loc Cert.Norm2Ideal.main_v3_1) = v1 c
          ∧ r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
          ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
          ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
          ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
          ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4)
          ∧ r.2.mem ((c.tc : Thread Cert.Norm2Ideal.nD Cert.Norm2Ideal.τ).loc Cert.Norm2Ideal.main_arg5) = m ((c.tc : Thread Cert.Norm2Ideal.nD Cert.Norm2Ideal.τ).loc Cert.Norm2Ideal.main_arg5))
      ∧ θ_run (Cert.Norm2ReferenceIdeal.defs (F := Ideal)) (onTc (τ := Cert.Norm2ReferenceIdeal.τ) (Cert.Norm2ReferenceIdeal.main (F := Ideal))) ⟨m', fun _ => 0, g'⟩ (fun r => ∀ c : Dev Cert.Norm2ReferenceIdeal.nD,
          r.2.mem ((c.tc : Thread Cert.Norm2ReferenceIdeal.nD Cert.Norm2ReferenceIdeal.τ).loc Cert.Norm2ReferenceIdeal.main_v3) = v0 c
          ∧ r.2.mem ((c.tc : Thread Cert.Norm2ReferenceIdeal.nD Cert.Norm2ReferenceIdeal.τ).loc Cert.Norm2ReferenceIdeal.main_v26) = v1 c
          ∧ r.2.mem ((c.tc : Thread Cert.Norm2ReferenceIdeal.nD Cert.Norm2ReferenceIdeal.τ).loc Cert.Norm2ReferenceIdeal.main_arg0) = m' ((c.tc : Thread Cert.Norm2ReferenceIdeal.nD Cert.Norm2ReferenceIdeal.τ).loc Cert.Norm2ReferenceIdeal.main_arg0)
          ∧ r.2.mem ((c.tc : Thread Cert.Norm2ReferenceIdeal.nD Cert.Norm2ReferenceIdeal.τ).loc Cert.Norm2ReferenceIdeal.main_arg1) = m' ((c.tc : Thread Cert.Norm2ReferenceIdeal.nD Cert.Norm2ReferenceIdeal.τ).loc Cert.Norm2ReferenceIdeal.main_arg1)
          ∧ r.2.mem ((c.tc : Thread Cert.Norm2ReferenceIdeal.nD Cert.Norm2ReferenceIdeal.τ).loc Cert.Norm2ReferenceIdeal.main_arg2) = m' ((c.tc : Thread Cert.Norm2ReferenceIdeal.nD Cert.Norm2ReferenceIdeal.τ).loc Cert.Norm2ReferenceIdeal.main_arg2)
          ∧ r.2.mem ((c.tc : Thread Cert.Norm2ReferenceIdeal.nD Cert.Norm2ReferenceIdeal.τ).loc Cert.Norm2ReferenceIdeal.main_arg3) = m' ((c.tc : Thread Cert.Norm2ReferenceIdeal.nD Cert.Norm2ReferenceIdeal.τ).loc Cert.Norm2ReferenceIdeal.main_arg3)
          ∧ r.2.mem ((c.tc : Thread Cert.Norm2ReferenceIdeal.nD Cert.Norm2ReferenceIdeal.τ).loc Cert.Norm2ReferenceIdeal.main_arg4) = m' ((c.tc : Thread Cert.Norm2ReferenceIdeal.nD Cert.Norm2ReferenceIdeal.τ).loc Cert.Norm2ReferenceIdeal.main_arg4)
          ∧ r.2.mem ((c.tc : Thread Cert.Norm2ReferenceIdeal.nD Cert.Norm2ReferenceIdeal.τ).loc Cert.Norm2ReferenceIdeal.main_arg5) = m' ((c.tc : Thread Cert.Norm2ReferenceIdeal.nD Cert.Norm2ReferenceIdeal.τ).loc Cert.Norm2ReferenceIdeal.main_arg5))

def preserves_LatNorm_LatNormIdeal : Prop :=
  True

def algebraic_LatNormIdeal_LatNormReferenceIdeal [hLatNormIdeal : Cert.LatNormIdeal.Facts] [hLatNormReferenceIdeal : Cert.LatNormReferenceIdeal.Facts] : Prop :=
  ∀ (m : (ℓ : Loc Cert.LatNormIdeal.nD Cert.LatNormIdeal.τ Cert.LatNormIdeal.sig) → Buf (Elt Ideal) ℓ) (g : Dev Cert.LatNormIdeal.nD → PrngReg)
    (m' : (ℓ : Loc Cert.LatNormReferenceIdeal.nD Cert.LatNormReferenceIdeal.τ Cert.LatNormReferenceIdeal.sig) → Buf (Elt Ideal) ℓ) (g' : Dev Cert.LatNormReferenceIdeal.nD → PrngReg), Pre_LatNormIdeal m →
    (∀ c : Dev Cert.LatNormIdeal.nD,
      m' ((c.tc : Thread Cert.LatNormReferenceIdeal.nD Cert.LatNormReferenceIdeal.τ).loc Cert.LatNormReferenceIdeal.main_arg0) = m ((c.tc : Thread Cert.LatNormIdeal.nD Cert.LatNormIdeal.τ).loc Cert.LatNormIdeal.main_arg0)
      ∧ m' ((c.tc : Thread Cert.LatNormReferenceIdeal.nD Cert.LatNormReferenceIdeal.τ).loc Cert.LatNormReferenceIdeal.main_arg1) = m ((c.tc : Thread Cert.LatNormIdeal.nD Cert.LatNormIdeal.τ).loc Cert.LatNormIdeal.main_arg1)
      ∧ m' ((c.tc : Thread Cert.LatNormReferenceIdeal.nD Cert.LatNormReferenceIdeal.τ).loc Cert.LatNormReferenceIdeal.main_arg2) = m ((c.tc : Thread Cert.LatNormIdeal.nD Cert.LatNormIdeal.τ).loc Cert.LatNormIdeal.main_arg2)
      ∧ m' ((c.tc : Thread Cert.LatNormReferenceIdeal.nD Cert.LatNormReferenceIdeal.τ).loc Cert.LatNormReferenceIdeal.main_arg3) = m ((c.tc : Thread Cert.LatNormIdeal.nD Cert.LatNormIdeal.τ).loc Cert.LatNormIdeal.main_arg3)) →
    ∃ (v0 : (c : Dev Cert.LatNormIdeal.nD) → Buf (Elt Ideal) ((c.tc : Thread Cert.LatNormIdeal.nD Cert.LatNormIdeal.τ).loc Cert.LatNormIdeal.main_v4_0)) (v1 : (c : Dev Cert.LatNormIdeal.nD) → Buf (Elt Ideal) ((c.tc : Thread Cert.LatNormIdeal.nD Cert.LatNormIdeal.τ).loc Cert.LatNormIdeal.main_v4_1)),
      θ_run (Cert.LatNormIdeal.defs (F := Ideal)) (onTc (τ := Cert.LatNormIdeal.τ) (Cert.LatNormIdeal.main (F := Ideal))) ⟨m, fun _ => 0, g⟩ (fun r => ∀ c : Dev Cert.LatNormIdeal.nD,
          r.2.mem ((c.tc : Thread Cert.LatNormIdeal.nD Cert.LatNormIdeal.τ).loc Cert.LatNormIdeal.main_v4_0) = v0 c
          ∧ r.2.mem ((c.tc : Thread Cert.LatNormIdeal.nD Cert.LatNormIdeal.τ).loc Cert.LatNormIdeal.main_v4_1) = v1 c
          ∧ r.2.mem ((c.tc : Thread Cert.LatNormIdeal.nD Cert.LatNormIdeal.τ).loc Cert.LatNormIdeal.main_arg0) = m ((c.tc : Thread Cert.LatNormIdeal.nD Cert.LatNormIdeal.τ).loc Cert.LatNormIdeal.main_arg0)
          ∧ r.2.mem ((c.tc : Thread Cert.LatNormIdeal.nD Cert.LatNormIdeal.τ).loc Cert.LatNormIdeal.main_arg1) = m ((c.tc : Thread Cert.LatNormIdeal.nD Cert.LatNormIdeal.τ).loc Cert.LatNormIdeal.main_arg1)
          ∧ r.2.mem ((c.tc : Thread Cert.LatNormIdeal.nD Cert.LatNormIdeal.τ).loc Cert.LatNormIdeal.main_arg2) = m ((c.tc : Thread Cert.LatNormIdeal.nD Cert.LatNormIdeal.τ).loc Cert.LatNormIdeal.main_arg2)
          ∧ r.2.mem ((c.tc : Thread Cert.LatNormIdeal.nD Cert.LatNormIdeal.τ).loc Cert.LatNormIdeal.main_arg3) = m ((c.tc : Thread Cert.LatNormIdeal.nD Cert.LatNormIdeal.τ).loc Cert.LatNormIdeal.main_arg3))
      ∧ θ_run (Cert.LatNormReferenceIdeal.defs (F := Ideal)) (onTc (τ := Cert.LatNormReferenceIdeal.τ) (Cert.LatNormReferenceIdeal.main (F := Ideal))) ⟨m', fun _ => 0, g'⟩ (fun r => ∀ c : Dev Cert.LatNormReferenceIdeal.nD,
          r.2.mem ((c.tc : Thread Cert.LatNormReferenceIdeal.nD Cert.LatNormReferenceIdeal.τ).loc Cert.LatNormReferenceIdeal.main_v15) = v0 c
          ∧ r.2.mem ((c.tc : Thread Cert.LatNormReferenceIdeal.nD Cert.LatNormReferenceIdeal.τ).loc Cert.LatNormReferenceIdeal.main_v31) = v1 c
          ∧ r.2.mem ((c.tc : Thread Cert.LatNormReferenceIdeal.nD Cert.LatNormReferenceIdeal.τ).loc Cert.LatNormReferenceIdeal.main_arg0) = m' ((c.tc : Thread Cert.LatNormReferenceIdeal.nD Cert.LatNormReferenceIdeal.τ).loc Cert.LatNormReferenceIdeal.main_arg0)
          ∧ r.2.mem ((c.tc : Thread Cert.LatNormReferenceIdeal.nD Cert.LatNormReferenceIdeal.τ).loc Cert.LatNormReferenceIdeal.main_arg1) = m' ((c.tc : Thread Cert.LatNormReferenceIdeal.nD Cert.LatNormReferenceIdeal.τ).loc Cert.LatNormReferenceIdeal.main_arg1)
          ∧ r.2.mem ((c.tc : Thread Cert.LatNormReferenceIdeal.nD Cert.LatNormReferenceIdeal.τ).loc Cert.LatNormReferenceIdeal.main_arg2) = m' ((c.tc : Thread Cert.LatNormReferenceIdeal.nD Cert.LatNormReferenceIdeal.τ).loc Cert.LatNormReferenceIdeal.main_arg2)
          ∧ r.2.mem ((c.tc : Thread Cert.LatNormReferenceIdeal.nD Cert.LatNormReferenceIdeal.τ).loc Cert.LatNormReferenceIdeal.main_arg3) = m' ((c.tc : Thread Cert.LatNormReferenceIdeal.nD Cert.LatNormReferenceIdeal.τ).loc Cert.LatNormReferenceIdeal.main_arg3))

def preserves_AdamwWAda_AdamwWAdaIdeal : Prop :=
  True

def algebraic_AdamwWAdaIdeal_AdamwWAdaReferenceIdeal [hAdamwWAdaIdeal : Cert.AdamwWAdaIdeal.Facts] [hAdamwWAdaReferenceIdeal : Cert.AdamwWAdaReferenceIdeal.Facts] : Prop :=
  ∀ (m : (ℓ : Loc Cert.AdamwWAdaIdeal.nD Cert.AdamwWAdaIdeal.τ Cert.AdamwWAdaIdeal.sig) → Buf (Elt Ideal) ℓ) (g : Dev Cert.AdamwWAdaIdeal.nD → PrngReg)
    (m' : (ℓ : Loc Cert.AdamwWAdaReferenceIdeal.nD Cert.AdamwWAdaReferenceIdeal.τ Cert.AdamwWAdaReferenceIdeal.sig) → Buf (Elt Ideal) ℓ) (g' : Dev Cert.AdamwWAdaReferenceIdeal.nD → PrngReg), Pre_AdamwWAdaIdeal m →
    (∀ c : Dev Cert.AdamwWAdaIdeal.nD,
      m' ((c.tc : Thread Cert.AdamwWAdaReferenceIdeal.nD Cert.AdamwWAdaReferenceIdeal.τ).loc Cert.AdamwWAdaReferenceIdeal.main_arg0) = m ((c.tc : Thread Cert.AdamwWAdaIdeal.nD Cert.AdamwWAdaIdeal.τ).loc Cert.AdamwWAdaIdeal.main_arg0)
      ∧ m' ((c.tc : Thread Cert.AdamwWAdaReferenceIdeal.nD Cert.AdamwWAdaReferenceIdeal.τ).loc Cert.AdamwWAdaReferenceIdeal.main_arg1) = m ((c.tc : Thread Cert.AdamwWAdaIdeal.nD Cert.AdamwWAdaIdeal.τ).loc Cert.AdamwWAdaIdeal.main_arg1)
      ∧ m' ((c.tc : Thread Cert.AdamwWAdaReferenceIdeal.nD Cert.AdamwWAdaReferenceIdeal.τ).loc Cert.AdamwWAdaReferenceIdeal.main_arg2) = m ((c.tc : Thread Cert.AdamwWAdaIdeal.nD Cert.AdamwWAdaIdeal.τ).loc Cert.AdamwWAdaIdeal.main_arg2)
      ∧ m' ((c.tc : Thread Cert.AdamwWAdaReferenceIdeal.nD Cert.AdamwWAdaReferenceIdeal.τ).loc Cert.AdamwWAdaReferenceIdeal.main_arg3) = m ((c.tc : Thread Cert.AdamwWAdaIdeal.nD Cert.AdamwWAdaIdeal.τ).loc Cert.AdamwWAdaIdeal.main_arg3)) →
    ∃ (v0 : (c : Dev Cert.AdamwWAdaIdeal.nD) → Buf (Elt Ideal) ((c.tc : Thread Cert.AdamwWAdaIdeal.nD Cert.AdamwWAdaIdeal.τ).loc Cert.AdamwWAdaIdeal.main_v0_0)) (v1 : (c : Dev Cert.AdamwWAdaIdeal.nD) → Buf (Elt Ideal) ((c.tc : Thread Cert.AdamwWAdaIdeal.nD Cert.AdamwWAdaIdeal.τ).loc Cert.AdamwWAdaIdeal.main_v0_1)) (v2 : (c : Dev Cert.AdamwWAdaIdeal.nD) → Buf (Elt Ideal) ((c.tc : Thread Cert.AdamwWAdaIdeal.nD Cert.AdamwWAdaIdeal.τ).loc Cert.AdamwWAdaIdeal.main_v0_2)),
      θ_run (Cert.AdamwWAdaIdeal.defs (F := Ideal)) (onTc (τ := Cert.AdamwWAdaIdeal.τ) (Cert.AdamwWAdaIdeal.main (F := Ideal))) ⟨m, fun _ => 0, g⟩ (fun r => ∀ c : Dev Cert.AdamwWAdaIdeal.nD,
          r.2.mem ((c.tc : Thread Cert.AdamwWAdaIdeal.nD Cert.AdamwWAdaIdeal.τ).loc Cert.AdamwWAdaIdeal.main_v0_0) = v0 c
          ∧ r.2.mem ((c.tc : Thread Cert.AdamwWAdaIdeal.nD Cert.AdamwWAdaIdeal.τ).loc Cert.AdamwWAdaIdeal.main_v0_1) = v1 c
          ∧ r.2.mem ((c.tc : Thread Cert.AdamwWAdaIdeal.nD Cert.AdamwWAdaIdeal.τ).loc Cert.AdamwWAdaIdeal.main_v0_2) = v2 c
          ∧ r.2.mem ((c.tc : Thread Cert.AdamwWAdaIdeal.nD Cert.AdamwWAdaIdeal.τ).loc Cert.AdamwWAdaIdeal.main_arg0) = m ((c.tc : Thread Cert.AdamwWAdaIdeal.nD Cert.AdamwWAdaIdeal.τ).loc Cert.AdamwWAdaIdeal.main_arg0)
          ∧ r.2.mem ((c.tc : Thread Cert.AdamwWAdaIdeal.nD Cert.AdamwWAdaIdeal.τ).loc Cert.AdamwWAdaIdeal.main_arg1) = m ((c.tc : Thread Cert.AdamwWAdaIdeal.nD Cert.AdamwWAdaIdeal.τ).loc Cert.AdamwWAdaIdeal.main_arg1)
          ∧ r.2.mem ((c.tc : Thread Cert.AdamwWAdaIdeal.nD Cert.AdamwWAdaIdeal.τ).loc Cert.AdamwWAdaIdeal.main_arg2) = m ((c.tc : Thread Cert.AdamwWAdaIdeal.nD Cert.AdamwWAdaIdeal.τ).loc Cert.AdamwWAdaIdeal.main_arg2)
          ∧ r.2.mem ((c.tc : Thread Cert.AdamwWAdaIdeal.nD Cert.AdamwWAdaIdeal.τ).loc Cert.AdamwWAdaIdeal.main_arg3) = m ((c.tc : Thread Cert.AdamwWAdaIdeal.nD Cert.AdamwWAdaIdeal.τ).loc Cert.AdamwWAdaIdeal.main_arg3))
      ∧ θ_run (Cert.AdamwWAdaReferenceIdeal.defs (F := Ideal)) (onTc (τ := Cert.AdamwWAdaReferenceIdeal.τ) (Cert.AdamwWAdaReferenceIdeal.main (F := Ideal))) ⟨m', fun _ => 0, g'⟩ (fun r => ∀ c : Dev Cert.AdamwWAdaReferenceIdeal.nD,
          r.2.mem ((c.tc : Thread Cert.AdamwWAdaReferenceIdeal.nD Cert.AdamwWAdaReferenceIdeal.τ).loc Cert.AdamwWAdaReferenceIdeal.main_v23) = v0 c
          ∧ r.2.mem ((c.tc : Thread Cert.AdamwWAdaReferenceIdeal.nD Cert.AdamwWAdaReferenceIdeal.τ).loc Cert.AdamwWAdaReferenceIdeal.main_v4) = v1 c
          ∧ r.2.mem ((c.tc : Thread Cert.AdamwWAdaReferenceIdeal.nD Cert.AdamwWAdaReferenceIdeal.τ).loc Cert.AdamwWAdaReferenceIdeal.main_v10) = v2 c
          ∧ r.2.mem ((c.tc : Thread Cert.AdamwWAdaReferenceIdeal.nD Cert.AdamwWAdaReferenceIdeal.τ).loc Cert.AdamwWAdaReferenceIdeal.main_arg0) = m' ((c.tc : Thread Cert.AdamwWAdaReferenceIdeal.nD Cert.AdamwWAdaReferenceIdeal.τ).loc Cert.AdamwWAdaReferenceIdeal.main_arg0)
          ∧ r.2.mem ((c.tc : Thread Cert.AdamwWAdaReferenceIdeal.nD Cert.AdamwWAdaReferenceIdeal.τ).loc Cert.AdamwWAdaReferenceIdeal.main_arg1) = m' ((c.tc : Thread Cert.AdamwWAdaReferenceIdeal.nD Cert.AdamwWAdaReferenceIdeal.τ).loc Cert.AdamwWAdaReferenceIdeal.main_arg1)
          ∧ r.2.mem ((c.tc : Thread Cert.AdamwWAdaReferenceIdeal.nD Cert.AdamwWAdaReferenceIdeal.τ).loc Cert.AdamwWAdaReferenceIdeal.main_arg2) = m' ((c.tc : Thread Cert.AdamwWAdaReferenceIdeal.nD Cert.AdamwWAdaReferenceIdeal.τ).loc Cert.AdamwWAdaReferenceIdeal.main_arg2)
          ∧ r.2.mem ((c.tc : Thread Cert.AdamwWAdaReferenceIdeal.nD Cert.AdamwWAdaReferenceIdeal.τ).loc Cert.AdamwWAdaReferenceIdeal.main_arg3) = m' ((c.tc : Thread Cert.AdamwWAdaReferenceIdeal.nD Cert.AdamwWAdaReferenceIdeal.τ).loc Cert.AdamwWAdaReferenceIdeal.main_arg3))

def preserves_AdamwWIn_AdamwWInIdeal : Prop :=
  True

def algebraic_AdamwWInIdeal_AdamwWInReferenceIdeal [hAdamwWInIdeal : Cert.AdamwWInIdeal.Facts] [hAdamwWInReferenceIdeal : Cert.AdamwWInReferenceIdeal.Facts] : Prop :=
  ∀ (m : (ℓ : Loc Cert.AdamwWInIdeal.nD Cert.AdamwWInIdeal.τ Cert.AdamwWInIdeal.sig) → Buf (Elt Ideal) ℓ) (g : Dev Cert.AdamwWInIdeal.nD → PrngReg)
    (m' : (ℓ : Loc Cert.AdamwWInReferenceIdeal.nD Cert.AdamwWInReferenceIdeal.τ Cert.AdamwWInReferenceIdeal.sig) → Buf (Elt Ideal) ℓ) (g' : Dev Cert.AdamwWInReferenceIdeal.nD → PrngReg), Pre_AdamwWInIdeal m →
    (∀ c : Dev Cert.AdamwWInIdeal.nD,
      m' ((c.tc : Thread Cert.AdamwWInReferenceIdeal.nD Cert.AdamwWInReferenceIdeal.τ).loc Cert.AdamwWInReferenceIdeal.main_arg0) = m ((c.tc : Thread Cert.AdamwWInIdeal.nD Cert.AdamwWInIdeal.τ).loc Cert.AdamwWInIdeal.main_arg0)
      ∧ m' ((c.tc : Thread Cert.AdamwWInReferenceIdeal.nD Cert.AdamwWInReferenceIdeal.τ).loc Cert.AdamwWInReferenceIdeal.main_arg1) = m ((c.tc : Thread Cert.AdamwWInIdeal.nD Cert.AdamwWInIdeal.τ).loc Cert.AdamwWInIdeal.main_arg1)
      ∧ m' ((c.tc : Thread Cert.AdamwWInReferenceIdeal.nD Cert.AdamwWInReferenceIdeal.τ).loc Cert.AdamwWInReferenceIdeal.main_arg2) = m ((c.tc : Thread Cert.AdamwWInIdeal.nD Cert.AdamwWInIdeal.τ).loc Cert.AdamwWInIdeal.main_arg2)
      ∧ m' ((c.tc : Thread Cert.AdamwWInReferenceIdeal.nD Cert.AdamwWInReferenceIdeal.τ).loc Cert.AdamwWInReferenceIdeal.main_arg3) = m ((c.tc : Thread Cert.AdamwWInIdeal.nD Cert.AdamwWInIdeal.τ).loc Cert.AdamwWInIdeal.main_arg3)) →
    ∃ (v0 : (c : Dev Cert.AdamwWInIdeal.nD) → Buf (Elt Ideal) ((c.tc : Thread Cert.AdamwWInIdeal.nD Cert.AdamwWInIdeal.τ).loc Cert.AdamwWInIdeal.main_v4_0)) (v1 : (c : Dev Cert.AdamwWInIdeal.nD) → Buf (Elt Ideal) ((c.tc : Thread Cert.AdamwWInIdeal.nD Cert.AdamwWInIdeal.τ).loc Cert.AdamwWInIdeal.main_v4_1)) (v2 : (c : Dev Cert.AdamwWInIdeal.nD) → Buf (Elt Ideal) ((c.tc : Thread Cert.AdamwWInIdeal.nD Cert.AdamwWInIdeal.τ).loc Cert.AdamwWInIdeal.main_v4_2)),
      θ_run (Cert.AdamwWInIdeal.defs (F := Ideal)) (onTc (τ := Cert.AdamwWInIdeal.τ) (Cert.AdamwWInIdeal.main (F := Ideal))) ⟨m, fun _ => 0, g⟩ (fun r => ∀ c : Dev Cert.AdamwWInIdeal.nD,
          r.2.mem ((c.tc : Thread Cert.AdamwWInIdeal.nD Cert.AdamwWInIdeal.τ).loc Cert.AdamwWInIdeal.main_v4_0) = v0 c
          ∧ r.2.mem ((c.tc : Thread Cert.AdamwWInIdeal.nD Cert.AdamwWInIdeal.τ).loc Cert.AdamwWInIdeal.main_v4_1) = v1 c
          ∧ r.2.mem ((c.tc : Thread Cert.AdamwWInIdeal.nD Cert.AdamwWInIdeal.τ).loc Cert.AdamwWInIdeal.main_v4_2) = v2 c
          ∧ r.2.mem ((c.tc : Thread Cert.AdamwWInIdeal.nD Cert.AdamwWInIdeal.τ).loc Cert.AdamwWInIdeal.main_arg0) = m ((c.tc : Thread Cert.AdamwWInIdeal.nD Cert.AdamwWInIdeal.τ).loc Cert.AdamwWInIdeal.main_arg0)
          ∧ r.2.mem ((c.tc : Thread Cert.AdamwWInIdeal.nD Cert.AdamwWInIdeal.τ).loc Cert.AdamwWInIdeal.main_arg1) = m ((c.tc : Thread Cert.AdamwWInIdeal.nD Cert.AdamwWInIdeal.τ).loc Cert.AdamwWInIdeal.main_arg1)
          ∧ r.2.mem ((c.tc : Thread Cert.AdamwWInIdeal.nD Cert.AdamwWInIdeal.τ).loc Cert.AdamwWInIdeal.main_arg2) = m ((c.tc : Thread Cert.AdamwWInIdeal.nD Cert.AdamwWInIdeal.τ).loc Cert.AdamwWInIdeal.main_arg2)
          ∧ r.2.mem ((c.tc : Thread Cert.AdamwWInIdeal.nD Cert.AdamwWInIdeal.τ).loc Cert.AdamwWInIdeal.main_arg3) = m ((c.tc : Thread Cert.AdamwWInIdeal.nD Cert.AdamwWInIdeal.τ).loc Cert.AdamwWInIdeal.main_arg3))
      ∧ θ_run (Cert.AdamwWInReferenceIdeal.defs (F := Ideal)) (onTc (τ := Cert.AdamwWInReferenceIdeal.τ) (Cert.AdamwWInReferenceIdeal.main (F := Ideal))) ⟨m', fun _ => 0, g'⟩ (fun r => ∀ c : Dev Cert.AdamwWInReferenceIdeal.nD,
          r.2.mem ((c.tc : Thread Cert.AdamwWInReferenceIdeal.nD Cert.AdamwWInReferenceIdeal.τ).loc Cert.AdamwWInReferenceIdeal.main_v24) = v0 c
          ∧ r.2.mem ((c.tc : Thread Cert.AdamwWInReferenceIdeal.nD Cert.AdamwWInReferenceIdeal.τ).loc Cert.AdamwWInReferenceIdeal.main_v25) = v1 c
          ∧ r.2.mem ((c.tc : Thread Cert.AdamwWInReferenceIdeal.nD Cert.AdamwWInReferenceIdeal.τ).loc Cert.AdamwWInReferenceIdeal.main_v26) = v2 c
          ∧ r.2.mem ((c.tc : Thread Cert.AdamwWInReferenceIdeal.nD Cert.AdamwWInReferenceIdeal.τ).loc Cert.AdamwWInReferenceIdeal.main_arg0) = m' ((c.tc : Thread Cert.AdamwWInReferenceIdeal.nD Cert.AdamwWInReferenceIdeal.τ).loc Cert.AdamwWInReferenceIdeal.main_arg0)
          ∧ r.2.mem ((c.tc : Thread Cert.AdamwWInReferenceIdeal.nD Cert.AdamwWInReferenceIdeal.τ).loc Cert.AdamwWInReferenceIdeal.main_arg1) = m' ((c.tc : Thread Cert.AdamwWInReferenceIdeal.nD Cert.AdamwWInReferenceIdeal.τ).loc Cert.AdamwWInReferenceIdeal.main_arg1)
          ∧ r.2.mem ((c.tc : Thread Cert.AdamwWInReferenceIdeal.nD Cert.AdamwWInReferenceIdeal.τ).loc Cert.AdamwWInReferenceIdeal.main_arg2) = m' ((c.tc : Thread Cert.AdamwWInReferenceIdeal.nD Cert.AdamwWInReferenceIdeal.τ).loc Cert.AdamwWInReferenceIdeal.main_arg2)
          ∧ r.2.mem ((c.tc : Thread Cert.AdamwWInReferenceIdeal.nD Cert.AdamwWInReferenceIdeal.τ).loc Cert.AdamwWInReferenceIdeal.main_arg3) = m' ((c.tc : Thread Cert.AdamwWInReferenceIdeal.nD Cert.AdamwWInReferenceIdeal.τ).loc Cert.AdamwWInReferenceIdeal.main_arg3))

def preserves_AttnFwd_AttnFwdIdeal : Prop :=
  IdealRules.named_const.Statement Cert.AttnFwdIdeal.κ "mask" .f32 0xF149F2CA#32 ⊥

def algebraic_AttnFwdIdeal_AttnFwdReferenceIdeal_pre_finite_queries [hAttnFwdIdeal : Cert.AttnFwdIdeal.Facts] [hAttnFwdReferenceIdeal : Cert.AttnFwdReferenceIdeal.Facts] [hPre_finite_queries : Cert.Pre_finite_queries.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdReferenceIdeal.nD Cert.AttnFwdReferenceIdeal.τ Cert.AttnFwdReferenceIdeal.sig) → Buf (Elt Ideal) ℓ) (g' : Dev Cert.AttnFwdReferenceIdeal.nD → PrngReg), Pre_AttnFwdIdeal_finite_queries m →
    (∀ c : Dev Cert.AttnFwdIdeal.nD,
      m' ((c.tc : Thread Cert.AttnFwdReferenceIdeal.nD Cert.AttnFwdReferenceIdeal.τ).loc Cert.AttnFwdReferenceIdeal.main_arg0) = m ((c.tc : Thread Cert.AttnFwdIdeal.nD Cert.AttnFwdIdeal.τ).loc Cert.AttnFwdIdeal.main_arg0)
      ∧ m' ((c.tc : Thread Cert.AttnFwdReferenceIdeal.nD Cert.AttnFwdReferenceIdeal.τ).loc Cert.AttnFwdReferenceIdeal.main_arg1) = m ((c.tc : Thread Cert.AttnFwdIdeal.nD Cert.AttnFwdIdeal.τ).loc Cert.AttnFwdIdeal.main_arg1)
      ∧ m' ((c.tc : Thread Cert.AttnFwdReferenceIdeal.nD Cert.AttnFwdReferenceIdeal.τ).loc Cert.AttnFwdReferenceIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v14)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v14) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdReferenceIdeal.defs (F := Ideal)) (onTc (τ := Cert.AttnFwdReferenceIdeal.τ) (Cert.AttnFwdReferenceIdeal.main (F := Ideal))) ⟨m', fun _ => 0, g'⟩ (fun r => ∀ c : Dev Cert.AttnFwdReferenceIdeal.nD,
          r.2.mem ((c.tc : Thread Cert.AttnFwdReferenceIdeal.nD Cert.AttnFwdReferenceIdeal.τ).loc Cert.AttnFwdReferenceIdeal.main_v28) = v0 c
          ∧ r.2.mem ((c.tc : Thread Cert.AttnFwdReferenceIdeal.nD Cert.AttnFwdReferenceIdeal.τ).loc Cert.AttnFwdReferenceIdeal.main_arg0) = m' ((c.tc : Thread Cert.AttnFwdReferenceIdeal.nD Cert.AttnFwdReferenceIdeal.τ).loc Cert.AttnFwdReferenceIdeal.main_arg0)
          ∧ r.2.mem ((c.tc : Thread Cert.AttnFwdReferenceIdeal.nD Cert.AttnFwdReferenceIdeal.τ).loc Cert.AttnFwdReferenceIdeal.main_arg1) = m' ((c.tc : Thread Cert.AttnFwdReferenceIdeal.nD Cert.AttnFwdReferenceIdeal.τ).loc Cert.AttnFwdReferenceIdeal.main_arg1)
          ∧ r.2.mem ((c.tc : Thread Cert.AttnFwdReferenceIdeal.nD Cert.AttnFwdReferenceIdeal.τ).loc Cert.AttnFwdReferenceIdeal.main_arg2) = m' ((c.tc : Thread Cert.AttnFwdReferenceIdeal.nD Cert.AttnFwdReferenceIdeal.τ).loc Cert.AttnFwdReferenceIdeal.main_arg2))

def Claim : Prop :=
  ∃ (hKernel : Cert.Kernel.Facts) (hKernelIdeal : Cert.KernelIdeal.Facts) (hReferenceIdeal : Cert.ReferenceIdeal.Facts) (hMlp2Dx : Cert.Mlp2Dx.Facts) (hMlp2DxIdeal : Cert.Mlp2DxIdeal.Facts) (hMlp2DxReferenceIdeal : Cert.Mlp2DxReferenceIdeal.Facts) (hMlp2Dw : Cert.Mlp2Dw.Facts) (hMlp2DwIdeal : Cert.Mlp2DwIdeal.Facts) (hMlp2DwReferenceIdeal : Cert.Mlp2DwReferenceIdeal.Facts) (hMlp1Dx : Cert.Mlp1Dx.Facts) (hMlp1DxIdeal : Cert.Mlp1DxIdeal.Facts) (hMlp1DxReferenceIdeal : Cert.Mlp1DxReferenceIdeal.Facts) (hMlp1Dw : Cert.Mlp1Dw.Facts) (hMlp1DwIdeal : Cert.Mlp1DwIdeal.Facts) (hMlp1DwReferenceIdeal : Cert.Mlp1DwReferenceIdeal.Facts) (hWOutDx : Cert.WOutDx.Facts) (hWOutDxIdeal : Cert.WOutDxIdeal.Facts) (hWOutDxReferenceIdeal : Cert.WOutDxReferenceIdeal.Facts) (hWOutDw : Cert.WOutDw.Facts) (hWOutDwIdeal : Cert.WOutDwIdeal.Facts) (hWOutDwReferenceIdeal : Cert.WOutDwReferenceIdeal.Facts) (hGlaOutDx : Cert.GlaOutDx.Facts) (hGlaOutDxIdeal : Cert.GlaOutDxIdeal.Facts) (hGlaOutDxReferenceIdeal : Cert.GlaOutDxReferenceIdeal.Facts) (hGlaOutDw : Cert.GlaOutDw.Facts) (hGlaOutDwIdeal : Cert.GlaOutDwIdeal.Facts) (hGlaOutDwReferenceIdeal : Cert.GlaOutDwReferenceIdeal.Facts) (hMlaOutDx : Cert.MlaOutDx.Facts) (hMlaOutDxIdeal : Cert.MlaOutDxIdeal.Facts) (hMlaOutDxReferenceIdeal : Cert.MlaOutDxReferenceIdeal.Facts) (hMlaOutDw : Cert.MlaOutDw.Facts) (hMlaOutDwIdeal : Cert.MlaOutDwIdeal.Facts) (hMlaOutDwReferenceIdeal : Cert.MlaOutDwReferenceIdeal.Facts) (hMlaUqDx : Cert.MlaUqDx.Facts) (hMlaUqDxIdeal : Cert.MlaUqDxIdeal.Facts) (hMlaUqDxReferenceIdeal : Cert.MlaUqDxReferenceIdeal.Facts) (hMlaUqDw : Cert.MlaUqDw.Facts) (hMlaUqDwIdeal : Cert.MlaUqDwIdeal.Facts) (hMlaUqDwReferenceIdeal : Cert.MlaUqDwReferenceIdeal.Facts) (hMlaUkvDx : Cert.MlaUkvDx.Facts) (hMlaUkvDxIdeal : Cert.MlaUkvDxIdeal.Facts) (hMlaUkvDxReferenceIdeal : Cert.MlaUkvDxReferenceIdeal.Facts) (hMlaUkvDw : Cert.MlaUkvDw.Facts) (hMlaUkvDwIdeal : Cert.MlaUkvDwIdeal.Facts) (hMlaUkvDwReferenceIdeal : Cert.MlaUkvDwReferenceIdeal.Facts) (hGlaOut : Cert.GlaOut.Facts) (hGlaOutIdeal : Cert.GlaOutIdeal.Facts) (hGlaOutReferenceIdeal : Cert.GlaOutReferenceIdeal.Facts) (hWOut : Cert.WOut.Facts) (hWOutIdeal : Cert.WOutIdeal.Facts) (hWOutReferenceIdeal : Cert.WOutReferenceIdeal.Facts) (hMlaOut : Cert.MlaOut.Facts) (hMlaOutIdeal : Cert.MlaOutIdeal.Facts) (hMlaOutReferenceIdeal : Cert.MlaOutReferenceIdeal.Facts) (hMlaUq : Cert.MlaUq.Facts) (hMlaUqIdeal : Cert.MlaUqIdeal.Facts) (hMlaUqReferenceIdeal : Cert.MlaUqReferenceIdeal.Facts) (hMlaUkv : Cert.MlaUkv.Facts) (hMlaUkvIdeal : Cert.MlaUkvIdeal.Facts) (hMlaUkvReferenceIdeal : Cert.MlaUkvReferenceIdeal.Facts) (hMlp1 : Cert.Mlp1.Facts) (hMlp1Ideal : Cert.Mlp1Ideal.Facts) (hMlp1ReferenceIdeal : Cert.Mlp1ReferenceIdeal.Facts) (hMlp2 : Cert.Mlp2.Facts) (hMlp2Ideal : Cert.Mlp2Ideal.Facts) (hMlp2ReferenceIdeal : Cert.Mlp2ReferenceIdeal.Facts) (hProjDx : Cert.ProjDx.Facts) (hProjDxIdeal : Cert.ProjDxIdeal.Facts) (hProjDxReferenceIdeal : Cert.ProjDxReferenceIdeal.Facts) (hProjDwA : Cert.ProjDwA.Facts) (hProjDwAIdeal : Cert.ProjDwAIdeal.Facts) (hProjDwAReferenceIdeal : Cert.ProjDwAReferenceIdeal.Facts) (hProjDwB : Cert.ProjDwB.Facts) (hProjDwBIdeal : Cert.ProjDwBIdeal.Facts) (hProjDwBReferenceIdeal : Cert.ProjDwBReferenceIdeal.Facts) (hProj : Cert.Proj.Facts) (hProjIdeal : Cert.ProjIdeal.Facts) (hProjReferenceIdeal : Cert.ProjReferenceIdeal.Facts) (hMergeBwd : Cert.MergeBwd.Facts) (hMergeBwdIdeal : Cert.MergeBwdIdeal.Facts) (hMergeBwdReferenceIdeal : Cert.MergeBwdReferenceIdeal.Facts) (hMergeFwd : Cert.MergeFwd.Facts) (hMergeFwdIdeal : Cert.MergeFwdIdeal.Facts) (hMergeFwdReferenceIdeal : Cert.MergeFwdReferenceIdeal.Facts) (hAlphaDx : Cert.AlphaDx.Facts) (hAlphaDxIdeal : Cert.AlphaDxIdeal.Facts) (hAlphaDxReferenceIdeal : Cert.AlphaDxReferenceIdeal.Facts) (hAlphaDw : Cert.AlphaDw.Facts) (hAlphaDwIdeal : Cert.AlphaDwIdeal.Facts) (hAlphaDwReferenceIdeal : Cert.AlphaDwReferenceIdeal.Facts) (hGlaFwd : Cert.GlaFwd.Facts) (hGlaFwdIdeal : Cert.GlaFwdIdeal.Facts) (hGlaFwdReferenceIdeal : Cert.GlaFwdReferenceIdeal.Facts) (hNorm1 : Cert.Norm1.Facts) (hNorm1Ideal : Cert.Norm1Ideal.Facts) (hNorm1ReferenceIdeal : Cert.Norm1ReferenceIdeal.Facts) (hNorm2 : Cert.Norm2.Facts) (hNorm2Ideal : Cert.Norm2Ideal.Facts) (hNorm2ReferenceIdeal : Cert.Norm2ReferenceIdeal.Facts) (hLatNorm : Cert.LatNorm.Facts) (hLatNormIdeal : Cert.LatNormIdeal.Facts) (hLatNormReferenceIdeal : Cert.LatNormReferenceIdeal.Facts) (hAdamwWAda : Cert.AdamwWAda.Facts) (hAdamwWAdaIdeal : Cert.AdamwWAdaIdeal.Facts) (hAdamwWAdaReferenceIdeal : Cert.AdamwWAdaReferenceIdeal.Facts) (hAdamwWIn : Cert.AdamwWIn.Facts) (hAdamwWInIdeal : Cert.AdamwWInIdeal.Facts) (hAdamwWInReferenceIdeal : Cert.AdamwWInReferenceIdeal.Facts) (hAttnFwd : Cert.AttnFwd.Facts) (hAttnFwdIdeal : Cert.AttnFwdIdeal.Facts) (hAttnFwdReferenceIdeal : Cert.AttnFwdReferenceIdeal.Facts) (hPre_finite_scores : Cert.Pre_finite_scores.Facts) (hPre_finite_queries : Cert.Pre_finite_queries.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Mlp2Dx (hMlp2Dx := hMlp2Dx)
    ∧ quiescent_Mlp2DxIdeal (hMlp2DxIdeal := hMlp2DxIdeal)
    ∧ quiescent_Mlp2DxReferenceIdeal (hMlp2DxReferenceIdeal := hMlp2DxReferenceIdeal)
    ∧ quiescent_Mlp2Dw (hMlp2Dw := hMlp2Dw)
    ∧ quiescent_Mlp2DwIdeal (hMlp2DwIdeal := hMlp2DwIdeal)
    ∧ quiescent_Mlp2DwReferenceIdeal (hMlp2DwReferenceIdeal := hMlp2DwReferenceIdeal)
    ∧ quiescent_Mlp1Dx (hMlp1Dx := hMlp1Dx)
    ∧ quiescent_Mlp1DxIdeal (hMlp1DxIdeal := hMlp1DxIdeal)
    ∧ quiescent_Mlp1DxReferenceIdeal (hMlp1DxReferenceIdeal := hMlp1DxReferenceIdeal)
    ∧ quiescent_Mlp1Dw (hMlp1Dw := hMlp1Dw)
    ∧ quiescent_Mlp1DwIdeal (hMlp1DwIdeal := hMlp1DwIdeal)
    ∧ quiescent_Mlp1DwReferenceIdeal (hMlp1DwReferenceIdeal := hMlp1DwReferenceIdeal)
    ∧ quiescent_WOutDx (hWOutDx := hWOutDx)
    ∧ quiescent_WOutDxIdeal (hWOutDxIdeal := hWOutDxIdeal)
    ∧ quiescent_WOutDxReferenceIdeal (hWOutDxReferenceIdeal := hWOutDxReferenceIdeal)
    ∧ quiescent_WOutDw (hWOutDw := hWOutDw)
    ∧ quiescent_WOutDwIdeal (hWOutDwIdeal := hWOutDwIdeal)
    ∧ quiescent_WOutDwReferenceIdeal (hWOutDwReferenceIdeal := hWOutDwReferenceIdeal)
    ∧ quiescent_GlaOutDx (hGlaOutDx := hGlaOutDx)
    ∧ quiescent_GlaOutDxIdeal (hGlaOutDxIdeal := hGlaOutDxIdeal)
    ∧ quiescent_GlaOutDxReferenceIdeal (hGlaOutDxReferenceIdeal := hGlaOutDxReferenceIdeal)
    ∧ quiescent_GlaOutDw (hGlaOutDw := hGlaOutDw)
    ∧ quiescent_GlaOutDwIdeal (hGlaOutDwIdeal := hGlaOutDwIdeal)
    ∧ quiescent_GlaOutDwReferenceIdeal (hGlaOutDwReferenceIdeal := hGlaOutDwReferenceIdeal)
    ∧ quiescent_MlaOutDx (hMlaOutDx := hMlaOutDx)
    ∧ quiescent_MlaOutDxIdeal (hMlaOutDxIdeal := hMlaOutDxIdeal)
    ∧ quiescent_MlaOutDxReferenceIdeal (hMlaOutDxReferenceIdeal := hMlaOutDxReferenceIdeal)
    ∧ quiescent_MlaOutDw (hMlaOutDw := hMlaOutDw)
    ∧ quiescent_MlaOutDwIdeal (hMlaOutDwIdeal := hMlaOutDwIdeal)
    ∧ quiescent_MlaOutDwReferenceIdeal (hMlaOutDwReferenceIdeal := hMlaOutDwReferenceIdeal)
    ∧ quiescent_MlaUqDx (hMlaUqDx := hMlaUqDx)
    ∧ quiescent_MlaUqDxIdeal (hMlaUqDxIdeal := hMlaUqDxIdeal)
    ∧ quiescent_MlaUqDxReferenceIdeal (hMlaUqDxReferenceIdeal := hMlaUqDxReferenceIdeal)
    ∧ quiescent_MlaUqDw (hMlaUqDw := hMlaUqDw)
    ∧ quiescent_MlaUqDwIdeal (hMlaUqDwIdeal := hMlaUqDwIdeal)
    ∧ quiescent_MlaUqDwReferenceIdeal (hMlaUqDwReferenceIdeal := hMlaUqDwReferenceIdeal)
    ∧ quiescent_MlaUkvDx (hMlaUkvDx := hMlaUkvDx)
    ∧ quiescent_MlaUkvDxIdeal (hMlaUkvDxIdeal := hMlaUkvDxIdeal)
    ∧ quiescent_MlaUkvDxReferenceIdeal (hMlaUkvDxReferenceIdeal := hMlaUkvDxReferenceIdeal)
    ∧ quiescent_MlaUkvDw (hMlaUkvDw := hMlaUkvDw)
    ∧ quiescent_MlaUkvDwIdeal (hMlaUkvDwIdeal := hMlaUkvDwIdeal)
    ∧ quiescent_MlaUkvDwReferenceIdeal (hMlaUkvDwReferenceIdeal := hMlaUkvDwReferenceIdeal)
    ∧ quiescent_GlaOut (hGlaOut := hGlaOut)
    ∧ quiescent_GlaOutIdeal (hGlaOutIdeal := hGlaOutIdeal)
    ∧ quiescent_GlaOutReferenceIdeal (hGlaOutReferenceIdeal := hGlaOutReferenceIdeal)
    ∧ quiescent_WOut (hWOut := hWOut)
    ∧ quiescent_WOutIdeal (hWOutIdeal := hWOutIdeal)
    ∧ quiescent_WOutReferenceIdeal (hWOutReferenceIdeal := hWOutReferenceIdeal)
    ∧ quiescent_MlaOut (hMlaOut := hMlaOut)
    ∧ quiescent_MlaOutIdeal (hMlaOutIdeal := hMlaOutIdeal)
    ∧ quiescent_MlaOutReferenceIdeal (hMlaOutReferenceIdeal := hMlaOutReferenceIdeal)
    ∧ quiescent_MlaUq (hMlaUq := hMlaUq)
    ∧ quiescent_MlaUqIdeal (hMlaUqIdeal := hMlaUqIdeal)
    ∧ quiescent_MlaUqReferenceIdeal (hMlaUqReferenceIdeal := hMlaUqReferenceIdeal)
    ∧ quiescent_MlaUkv (hMlaUkv := hMlaUkv)
    ∧ quiescent_MlaUkvIdeal (hMlaUkvIdeal := hMlaUkvIdeal)
    ∧ quiescent_MlaUkvReferenceIdeal (hMlaUkvReferenceIdeal := hMlaUkvReferenceIdeal)
    ∧ quiescent_Mlp1 (hMlp1 := hMlp1)
    ∧ quiescent_Mlp1Ideal (hMlp1Ideal := hMlp1Ideal)
    ∧ quiescent_Mlp1ReferenceIdeal (hMlp1ReferenceIdeal := hMlp1ReferenceIdeal)
    ∧ quiescent_Mlp2 (hMlp2 := hMlp2)
    ∧ quiescent_Mlp2Ideal (hMlp2Ideal := hMlp2Ideal)
    ∧ quiescent_Mlp2ReferenceIdeal (hMlp2ReferenceIdeal := hMlp2ReferenceIdeal)
    ∧ quiescent_ProjDx (hProjDx := hProjDx)
    ∧ quiescent_ProjDxIdeal (hProjDxIdeal := hProjDxIdeal)
    ∧ quiescent_ProjDxReferenceIdeal (hProjDxReferenceIdeal := hProjDxReferenceIdeal)
    ∧ quiescent_ProjDwA (hProjDwA := hProjDwA)
    ∧ quiescent_ProjDwAIdeal (hProjDwAIdeal := hProjDwAIdeal)
    ∧ quiescent_ProjDwAReferenceIdeal (hProjDwAReferenceIdeal := hProjDwAReferenceIdeal)
    ∧ quiescent_ProjDwB (hProjDwB := hProjDwB)
    ∧ quiescent_ProjDwBIdeal (hProjDwBIdeal := hProjDwBIdeal)
    ∧ quiescent_ProjDwBReferenceIdeal (hProjDwBReferenceIdeal := hProjDwBReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_MergeBwd (hMergeBwd := hMergeBwd)
    ∧ quiescent_MergeBwdIdeal (hMergeBwdIdeal := hMergeBwdIdeal)
    ∧ quiescent_MergeBwdReferenceIdeal (hMergeBwdReferenceIdeal := hMergeBwdReferenceIdeal)
    ∧ quiescent_MergeFwd (hMergeFwd := hMergeFwd)
    ∧ quiescent_MergeFwdIdeal (hMergeFwdIdeal := hMergeFwdIdeal)
    ∧ quiescent_MergeFwdReferenceIdeal (hMergeFwdReferenceIdeal := hMergeFwdReferenceIdeal)
    ∧ quiescent_AlphaDx (hAlphaDx := hAlphaDx)
    ∧ quiescent_AlphaDxIdeal (hAlphaDxIdeal := hAlphaDxIdeal)
    ∧ quiescent_AlphaDxReferenceIdeal (hAlphaDxReferenceIdeal := hAlphaDxReferenceIdeal)
    ∧ quiescent_AlphaDw (hAlphaDw := hAlphaDw)
    ∧ quiescent_AlphaDwIdeal (hAlphaDwIdeal := hAlphaDwIdeal)
    ∧ quiescent_AlphaDwReferenceIdeal (hAlphaDwReferenceIdeal := hAlphaDwReferenceIdeal)
    ∧ quiescent_GlaFwd (hGlaFwd := hGlaFwd)
    ∧ quiescent_GlaFwdIdeal (hGlaFwdIdeal := hGlaFwdIdeal)
    ∧ quiescent_GlaFwdReferenceIdeal (hGlaFwdReferenceIdeal := hGlaFwdReferenceIdeal)
    ∧ quiescent_Norm1 (hNorm1 := hNorm1)
    ∧ quiescent_Norm1Ideal (hNorm1Ideal := hNorm1Ideal)
    ∧ quiescent_Norm1ReferenceIdeal (hNorm1ReferenceIdeal := hNorm1ReferenceIdeal)
    ∧ quiescent_Norm2 (hNorm2 := hNorm2)
    ∧ quiescent_Norm2Ideal (hNorm2Ideal := hNorm2Ideal)
    ∧ quiescent_Norm2ReferenceIdeal (hNorm2ReferenceIdeal := hNorm2ReferenceIdeal)
    ∧ quiescent_LatNorm (hLatNorm := hLatNorm)
    ∧ quiescent_LatNormIdeal (hLatNormIdeal := hLatNormIdeal)
    ∧ quiescent_LatNormReferenceIdeal (hLatNormReferenceIdeal := hLatNormReferenceIdeal)
    ∧ quiescent_AdamwWAda (hAdamwWAda := hAdamwWAda)
    ∧ quiescent_AdamwWAdaIdeal (hAdamwWAdaIdeal := hAdamwWAdaIdeal)
    ∧ quiescent_AdamwWAdaReferenceIdeal (hAdamwWAdaReferenceIdeal := hAdamwWAdaReferenceIdeal)
    ∧ quiescent_AdamwWIn (hAdamwWIn := hAdamwWIn)
    ∧ quiescent_AdamwWInIdeal (hAdamwWInIdeal := hAdamwWInIdeal)
    ∧ quiescent_AdamwWInReferenceIdeal (hAdamwWInReferenceIdeal := hAdamwWInReferenceIdeal)
    ∧ quiescent_AttnFwd (hAttnFwd := hAttnFwd)
    ∧ quiescent_AttnFwdIdeal (hAttnFwdIdeal := hAttnFwdIdeal)
    ∧ quiescent_AttnFwdIdeal_pre_finite_queries (hAttnFwdIdeal := hAttnFwdIdeal) (hPre_finite_queries := hPre_finite_queries)
    ∧ quiescent_AttnFwdReferenceIdeal (hAttnFwdReferenceIdeal := hAttnFwdReferenceIdeal)
    ∧ quiescent_AttnFwdReferenceIdeal_pre_finite_queries (hAttnFwdReferenceIdeal := hAttnFwdReferenceIdeal) (hPre_finite_queries := hPre_finite_queries)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Mlp2Dx_Mlp2DxIdeal
    ∧ algebraic_Mlp2DxIdeal_Mlp2DxReferenceIdeal (hMlp2DxIdeal := hMlp2DxIdeal) (hMlp2DxReferenceIdeal := hMlp2DxReferenceIdeal)
    ∧ preserves_Mlp2Dw_Mlp2DwIdeal
    ∧ algebraic_Mlp2DwIdeal_Mlp2DwReferenceIdeal (hMlp2DwIdeal := hMlp2DwIdeal) (hMlp2DwReferenceIdeal := hMlp2DwReferenceIdeal)
    ∧ preserves_Mlp1Dx_Mlp1DxIdeal
    ∧ algebraic_Mlp1DxIdeal_Mlp1DxReferenceIdeal (hMlp1DxIdeal := hMlp1DxIdeal) (hMlp1DxReferenceIdeal := hMlp1DxReferenceIdeal)
    ∧ preserves_Mlp1Dw_Mlp1DwIdeal
    ∧ algebraic_Mlp1DwIdeal_Mlp1DwReferenceIdeal (hMlp1DwIdeal := hMlp1DwIdeal) (hMlp1DwReferenceIdeal := hMlp1DwReferenceIdeal)
    ∧ preserves_WOutDx_WOutDxIdeal
    ∧ algebraic_WOutDxIdeal_WOutDxReferenceIdeal (hWOutDxIdeal := hWOutDxIdeal) (hWOutDxReferenceIdeal := hWOutDxReferenceIdeal)
    ∧ preserves_WOutDw_WOutDwIdeal
    ∧ algebraic_WOutDwIdeal_WOutDwReferenceIdeal (hWOutDwIdeal := hWOutDwIdeal) (hWOutDwReferenceIdeal := hWOutDwReferenceIdeal)
    ∧ preserves_GlaOutDx_GlaOutDxIdeal
    ∧ algebraic_GlaOutDxIdeal_GlaOutDxReferenceIdeal (hGlaOutDxIdeal := hGlaOutDxIdeal) (hGlaOutDxReferenceIdeal := hGlaOutDxReferenceIdeal)
    ∧ preserves_GlaOutDw_GlaOutDwIdeal
    ∧ algebraic_GlaOutDwIdeal_GlaOutDwReferenceIdeal (hGlaOutDwIdeal := hGlaOutDwIdeal) (hGlaOutDwReferenceIdeal := hGlaOutDwReferenceIdeal)
    ∧ preserves_MlaOutDx_MlaOutDxIdeal
    ∧ algebraic_MlaOutDxIdeal_MlaOutDxReferenceIdeal (hMlaOutDxIdeal := hMlaOutDxIdeal) (hMlaOutDxReferenceIdeal := hMlaOutDxReferenceIdeal)
    ∧ preserves_MlaOutDw_MlaOutDwIdeal
    ∧ algebraic_MlaOutDwIdeal_MlaOutDwReferenceIdeal (hMlaOutDwIdeal := hMlaOutDwIdeal) (hMlaOutDwReferenceIdeal := hMlaOutDwReferenceIdeal)
    ∧ preserves_MlaUqDx_MlaUqDxIdeal
    ∧ algebraic_MlaUqDxIdeal_MlaUqDxReferenceIdeal (hMlaUqDxIdeal := hMlaUqDxIdeal) (hMlaUqDxReferenceIdeal := hMlaUqDxReferenceIdeal)
    ∧ preserves_MlaUqDw_MlaUqDwIdeal
    ∧ algebraic_MlaUqDwIdeal_MlaUqDwReferenceIdeal (hMlaUqDwIdeal := hMlaUqDwIdeal) (hMlaUqDwReferenceIdeal := hMlaUqDwReferenceIdeal)
    ∧ preserves_MlaUkvDx_MlaUkvDxIdeal
    ∧ algebraic_MlaUkvDxIdeal_MlaUkvDxReferenceIdeal (hMlaUkvDxIdeal := hMlaUkvDxIdeal) (hMlaUkvDxReferenceIdeal := hMlaUkvDxReferenceIdeal)
    ∧ preserves_MlaUkvDw_MlaUkvDwIdeal
    ∧ algebraic_MlaUkvDwIdeal_MlaUkvDwReferenceIdeal (hMlaUkvDwIdeal := hMlaUkvDwIdeal) (hMlaUkvDwReferenceIdeal := hMlaUkvDwReferenceIdeal)
    ∧ preserves_GlaOut_GlaOutIdeal
    ∧ algebraic_GlaOutIdeal_GlaOutReferenceIdeal (hGlaOutIdeal := hGlaOutIdeal) (hGlaOutReferenceIdeal := hGlaOutReferenceIdeal)
    ∧ preserves_WOut_WOutIdeal
    ∧ algebraic_WOutIdeal_WOutReferenceIdeal (hWOutIdeal := hWOutIdeal) (hWOutReferenceIdeal := hWOutReferenceIdeal)
    ∧ preserves_MlaOut_MlaOutIdeal
    ∧ algebraic_MlaOutIdeal_MlaOutReferenceIdeal (hMlaOutIdeal := hMlaOutIdeal) (hMlaOutReferenceIdeal := hMlaOutReferenceIdeal)
    ∧ preserves_MlaUq_MlaUqIdeal
    ∧ algebraic_MlaUqIdeal_MlaUqReferenceIdeal (hMlaUqIdeal := hMlaUqIdeal) (hMlaUqReferenceIdeal := hMlaUqReferenceIdeal)
    ∧ preserves_MlaUkv_MlaUkvIdeal
    ∧ algebraic_MlaUkvIdeal_MlaUkvReferenceIdeal (hMlaUkvIdeal := hMlaUkvIdeal) (hMlaUkvReferenceIdeal := hMlaUkvReferenceIdeal)
    ∧ preserves_Mlp1_Mlp1Ideal
    ∧ algebraic_Mlp1Ideal_Mlp1ReferenceIdeal (hMlp1Ideal := hMlp1Ideal) (hMlp1ReferenceIdeal := hMlp1ReferenceIdeal)
    ∧ preserves_Mlp2_Mlp2Ideal
    ∧ algebraic_Mlp2Ideal_Mlp2ReferenceIdeal (hMlp2Ideal := hMlp2Ideal) (hMlp2ReferenceIdeal := hMlp2ReferenceIdeal)
    ∧ preserves_ProjDx_ProjDxIdeal
    ∧ algebraic_ProjDxIdeal_ProjDxReferenceIdeal (hProjDxIdeal := hProjDxIdeal) (hProjDxReferenceIdeal := hProjDxReferenceIdeal)
    ∧ preserves_ProjDwA_ProjDwAIdeal
    ∧ algebraic_ProjDwAIdeal_ProjDwAReferenceIdeal (hProjDwAIdeal := hProjDwAIdeal) (hProjDwAReferenceIdeal := hProjDwAReferenceIdeal)
    ∧ preserves_ProjDwB_ProjDwBIdeal
    ∧ algebraic_ProjDwBIdeal_ProjDwBReferenceIdeal (hProjDwBIdeal := hProjDwBIdeal) (hProjDwBReferenceIdeal := hProjDwBReferenceIdeal)
    ∧ preserves_Proj_ProjIdeal
    ∧ algebraic_ProjIdeal_ProjReferenceIdeal (hProjIdeal := hProjIdeal) (hProjReferenceIdeal := hProjReferenceIdeal)
    ∧ preserves_MergeBwd_MergeBwdIdeal
    ∧ algebraic_MergeBwdIdeal_MergeBwdReferenceIdeal (hMergeBwdIdeal := hMergeBwdIdeal) (hMergeBwdReferenceIdeal := hMergeBwdReferenceIdeal)
    ∧ preserves_MergeFwd_MergeFwdIdeal
    ∧ algebraic_MergeFwdIdeal_MergeFwdReferenceIdeal (hMergeFwdIdeal := hMergeFwdIdeal) (hMergeFwdReferenceIdeal := hMergeFwdReferenceIdeal)
    ∧ preserves_AlphaDx_AlphaDxIdeal
    ∧ algebraic_AlphaDxIdeal_AlphaDxReferenceIdeal (hAlphaDxIdeal := hAlphaDxIdeal) (hAlphaDxReferenceIdeal := hAlphaDxReferenceIdeal)
    ∧ preserves_AlphaDw_AlphaDwIdeal
    ∧ algebraic_AlphaDwIdeal_AlphaDwReferenceIdeal (hAlphaDwIdeal := hAlphaDwIdeal) (hAlphaDwReferenceIdeal := hAlphaDwReferenceIdeal)
    ∧ preserves_GlaFwd_GlaFwdIdeal
    ∧ algebraic_GlaFwdIdeal_GlaFwdReferenceIdeal (hGlaFwdIdeal := hGlaFwdIdeal) (hGlaFwdReferenceIdeal := hGlaFwdReferenceIdeal)
    ∧ preserves_Norm1_Norm1Ideal
    ∧ algebraic_Norm1Ideal_Norm1ReferenceIdeal (hNorm1Ideal := hNorm1Ideal) (hNorm1ReferenceIdeal := hNorm1ReferenceIdeal)
    ∧ preserves_Norm2_Norm2Ideal
    ∧ algebraic_Norm2Ideal_Norm2ReferenceIdeal (hNorm2Ideal := hNorm2Ideal) (hNorm2ReferenceIdeal := hNorm2ReferenceIdeal)
    ∧ preserves_LatNorm_LatNormIdeal
    ∧ algebraic_LatNormIdeal_LatNormReferenceIdeal (hLatNormIdeal := hLatNormIdeal) (hLatNormReferenceIdeal := hLatNormReferenceIdeal)
    ∧ preserves_AdamwWAda_AdamwWAdaIdeal
    ∧ algebraic_AdamwWAdaIdeal_AdamwWAdaReferenceIdeal (hAdamwWAdaIdeal := hAdamwWAdaIdeal) (hAdamwWAdaReferenceIdeal := hAdamwWAdaReferenceIdeal)
    ∧ preserves_AdamwWIn_AdamwWInIdeal
    ∧ algebraic_AdamwWInIdeal_AdamwWInReferenceIdeal (hAdamwWInIdeal := hAdamwWInIdeal) (hAdamwWInReferenceIdeal := hAdamwWInReferenceIdeal)
    ∧ preserves_AttnFwd_AttnFwdIdeal
    ∧ algebraic_AttnFwdIdeal_AttnFwdReferenceIdeal_pre_finite_queries (hAttnFwdIdeal := hAttnFwdIdeal) (hAttnFwdReferenceIdeal := hAttnFwdReferenceIdeal) (hPre_finite_queries := hPre_finite_queries)
-- ==== Pre_finite_queries.lean ====
abbrev S2x2048x16x96 : Shape := ⟨4, ![2, 2048, 16, 96]⟩
abbrev S2x2048x16x64 : Shape := ⟨4, ![2, 2048, 16, 64]⟩
abbrev S_ : Shape := ⟨0, ![]⟩

class Facts : Prop where
  bcast_S_S2x2048x16x96 : S_.BroadcastsInDim S2x2048x16x96 (![] : Fin 0 → Fin S2x2048x16x96.rank)
  reducesTo_S2x2048x16x96_S_d0_1_2_3 : S2x2048x16x96.ReducesTo [0, 1, 2, 3] S_
  h_S_ : 0 < S_.numel

variable [Facts]

def fn {F : FTy → Type} [FloatOps F] (main_arg0 : FVec F S2x2048x16x96 .f32) (main_arg1 : FVec F S2x2048x16x96 .f32) (main_arg2 : FVec F S2x2048x16x64 .f32) : IVec S_ 1 :=
  let main_cst : FVec F S_ .f32 := constant S_ .f32 0xFF800000#32
  let main_v0 : FVec F S2x2048x16x96 .f32 := broadcastInDim S2x2048x16x96 ![] bcast_S_S2x2048x16x96 main_cst
  let main_v1 : IVec S2x2048x16x96 1 := cmpf .ogt main_arg0 main_v0
  let main_cst_0 : FVec F S_ .f32 := constant S_ .f32 0x7F800000#32
  let main_v2 : FVec F S2x2048x16x96 .f32 := broadcastInDim S2x2048x16x96 ![] bcast_S_S2x2048x16x96 main_cst_0
  let main_v3 : IVec S2x2048x16x96 1 := cmpf .olt main_arg0 main_v2
  let main_v4 : IVec S2x2048x16x96 1 := andi main_v1 main_v3
  let main_c : IVec S_ 1 := constantI S_ 1 1#1
  let main_v5 : IVec S_ 1 := (fun x v => Host.reduce IntOp.andi x v reducesTo_S2x2048x16x96_S_d0_1_2_3 h_S_) main_v4 main_c
  let main_cst_1 : FVec F S_ .f32 := constant S_ .f32 0xFF800000#32
  let main_v6 : FVec F S2x2048x16x96 .f32 := broadcastInDim S2x2048x16x96 ![] bcast_S_S2x2048x16x96 main_cst_1
  let main_v7 : IVec S2x2048x16x96 1 := cmpf .ogt main_arg1 main_v6
  let main_cst_2 : FVec F S_ .f32 := constant S_ .f32 0x7F800000#32
  let main_v8 : FVec F S2x2048x16x96 .f32 := broadcastInDim S2x2048x16x96 ![] bcast_S_S2x2048x16x96 main_cst_2
  let main_v9 : IVec S2x2048x16x96 1 := cmpf .olt main_arg1 main_v8
  let main_v10 : IVec S2x2048x16x96 1 := andi main_v7 main_v9
  let main_c_3 : IVec S_ 1 := constantI S_ 1 1#1
  let main_v11 : IVec S_ 1 := (fun x v => Host.reduce IntOp.andi x v reducesTo_S2x2048x16x96_S_d0_1_2_3 h_S_) main_v10 main_c_3
  let main_v12 : IVec S_ 1 := andi main_v5 main_v11
  main_v12
-- ==== Pre_finite_scores.lean ====
abbrev S2x2048x16x96 : Shape := ⟨4, ![2, 2048, 16, 96]⟩
abbrev S2x2048x16x64 : Shape := ⟨4, ![2, 2048, 16, 64]⟩
abbrev S_ : Shape := ⟨0, ![]⟩

class Facts : Prop where
  bcast_S_S2x2048x16x96 : S_.BroadcastsInDim S2x2048x16x96 (![] : Fin 0 → Fin S2x2048x16x96.rank)
  reducesTo_S2x2048x16x96_S_d0_1_2_3 : S2x2048x16x96.ReducesTo [0, 1, 2, 3] S_
  h_S_ : 0 < S_.numel

variable [Facts]

def fn {F : FTy → Type} [FloatOps F] (main_arg0 : FVec F S2x2048x16x96 .f32) (main_arg1 : FVec F S2x2048x16x96 .f32) (main_arg2 : FVec F S2x2048x16x64 .f32) (main_arg3 : FVec F S2x2048x16x64 .f32) : IVec S_ 1 :=
  let main_cst : FVec F S_ .f32 := constant S_ .f32 0xFF800000#32
  let main_v0 : FVec F S2x2048x16x96 .f32 := broadcastInDim S2x2048x16x96 ![] bcast_S_S2x2048x16x96 main_cst
  let main_v1 : IVec S2x2048x16x96 1 := cmpf .ogt main_arg0 main_v0
  let main_cst_0 : FVec F S_ .f32 := constant S_ .f32 0x7F800000#32
  let main_v2 : FVec F S2x2048x16x96 .f32 := broadcastInDim S2x2048x16x96 ![] bcast_S_S2x2048x16x96 main_cst_0
  let main_v3 : IVec S2x2048x16x96 1 := cmpf .olt main_arg0 main_v2
  let main_v4 : IVec S2x2048x16x96 1 := andi main_v1 main_v3
  let main_c : IVec S_ 1 := constantI S_ 1 1#1
  let main_v5 : IVec S_ 1 := (fun x v => Host.reduce IntOp.andi x v reducesTo_S2x2048x16x96_S_d0_1_2_3 h_S_) main_v4 main_c
  let main_cst_1 : FVec F S_ .f32 := constant S_ .f32 0xFF800000#32
  let main_v6 : FVec F S2x2048x16x96 .f32 := broadcastInDim S2x2048x16x96 ![] bcast_S_S2x2048x16x96 main_cst_1
  let main_v7 : IVec S2x2048x16x96 1 := cmpf .ogt main_arg1 main_v6
  let main_cst_2 : FVec F S_ .f32 := constant S_ .f32 0x7F800000#32
  let main_v8 : FVec F S2x2048x16x96 .f32 := broadcastInDim S2x2048x16x96 ![] bcast_S_S2x2048x16x96 main_cst_2
  let main_v9 : IVec S2x2048x16x96 1 := cmpf .olt main_arg1 main_v8
  let main_v10 : IVec S2x2048x16x96 1 := andi main_v7 main_v9
  let main_c_3 : IVec S_ 1 := constantI S_ 1 1#1
  let main_v11 : IVec S_ 1 := (fun x v => Host.reduce IntOp.andi x v reducesTo_S2x2048x16x96_S_d0_1_2_3 h_S_) main_v10 main_c_3
  let main_v12 : IVec S_ 1 := andi main_v5 main_v11
  main_v12
-- ==== Kernel.lean ====
abbrev S2x2048x16x96 : Shape := ⟨4, ![2, 2048, 16, 96]⟩
abbrev S2x2048x16x64 : Shape := ⟨4, ![2, 2048, 16, 64]⟩
abbrev S_ : Shape := ⟨0, ![]⟩
abbrev S2x2048x16x128 : Shape := ⟨4, ![2, 2048, 16, 128]⟩
abbrev S2x2048x2048 : Shape := ⟨3, ![2, 2048, 2048]⟩
abbrev S1x2048x128 : Shape := ⟨3, ![1, 2048, 128]⟩
abbrev S2048x128 : Shape := ⟨2, ![2048, 128]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x512x128 : Shape := ⟨3, ![1, 512, 128]⟩
abbrev S512x128 : Shape := ⟨2, ![512, 128]⟩
abbrev S256x512 : Shape := ⟨2, ![256, 512]⟩
abbrev S1x768x128 : Shape := ⟨3, ![1, 768, 128]⟩
abbrev S768x128 : Shape := ⟨2, ![768, 128]⟩
abbrev S256x768 : Shape := ⟨2, ![256, 768]⟩
abbrev S1x1024x128 : Shape := ⟨3, ![1, 1024, 128]⟩
abbrev S1024x128 : Shape := ⟨2, ![1024, 128]⟩
abbrev S256x1024 : Shape := ⟨2, ![256, 1024]⟩
abbrev S1x1280x128 : Shape := ⟨3, ![1, 1280, 128]⟩
abbrev S1280x128 : Shape := ⟨2, ![1280, 128]⟩
abbrev S256x1280 : Shape := ⟨2, ![256, 1280]⟩
abbrev S1x1536x128 : Shape := ⟨3, ![1, 1536, 128]⟩
abbrev S1536x128 : Shape := ⟨2, ![1536, 128]⟩
abbrev S256x1536 : Shape := ⟨2, ![256, 1536]⟩
abbrev S1x1792x128 : Shape := ⟨3, ![1, 1792, 128]⟩
abbrev S1792x128 : Shape := ⟨2, ![1792, 128]⟩
abbrev S256x1792 : Shape := ⟨2, ![256, 1792]⟩

abbrev nBuf : Space → Nat
  | .hbm => 34
  | .vmem => 14
  | .smem => 0
  | _ => 0

abbrev bufTy : (tb : Table) → Fin (tcTables nBuf tb) → BufTy
  | .hbm, ⟨0, _⟩ => ⟨S2x2048x16x96, .f32⟩
  | .hbm, ⟨1, _⟩ => ⟨S2x2048x16x96, .f32⟩
  | .hbm, ⟨2, _⟩ => ⟨S2x2048x16x64, .f32⟩
  | .hbm, ⟨3, _⟩ => ⟨S2x2048x16x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2x2048x16x96, .f32⟩
  | .hbm, ⟨10, _⟩ => ⟨S2x2048x16x96, .f32⟩
  | .hbm, ⟨11, _⟩ => ⟨S_, .i32⟩
  | .hbm, ⟨12, _⟩ => ⟨S_, .f32⟩
  | .hbm, ⟨13, _⟩ => ⟨S2x2048x16x128, .f32⟩
  | .hbm, ⟨14, _⟩ => ⟨S2x2048x2048, .f32⟩
  | .hbm, ⟨15, _⟩ => ⟨S2x2048x2048, .bf16⟩
  | .hbm, ⟨16, _⟩ => ⟨S_, .i32⟩
  | .hbm, ⟨17, _⟩ => ⟨S_, .f32⟩
  | .hbm, ⟨18, _⟩ => ⟨S2x2048x16x128, .f32⟩
  | .hbm, ⟨19, _⟩ => ⟨S2x2048x2048, .f32⟩
  | .hbm, ⟨20, _⟩ => ⟨S2x2048x2048, .bf16⟩
  | .hbm, ⟨21, _⟩ => ⟨S_, .i32⟩
  | .hbm, ⟨22, _⟩ => ⟨S_, .f32⟩
  | .hbm, ⟨23, _⟩ => ⟨S2x2048x16x128, .f32⟩
  | .hbm, ⟨24, _⟩ => ⟨S2x2048x2048, .f32⟩
  | .hbm, ⟨25, _⟩ => ⟨S2x2048x2048, .bf16⟩
  | .hbm, ⟨26, _⟩ => ⟨S_, .i32⟩
  | .hbm, ⟨27, _⟩ => ⟨S_, .f32⟩
  | .hbm, ⟨28, _⟩ => ⟨S2x2048x16x128, .f32⟩
  | .hbm, ⟨29, _⟩ => ⟨S2x2048x2048, .f32⟩
  | .hbm, ⟨30, _⟩ => ⟨S2x2048x2048, .bf16⟩
  | .hbm, ⟨31, _⟩ => ⟨S2x2048x2048, .f32⟩
  | .hbm, ⟨32, _⟩ => ⟨S2x2048x2048, .f32⟩
  | .hbm, ⟨33, _⟩ => ⟨S2x2048x2048, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | _, _ => ⟨S2x2048x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_call2_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_call3_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_v17_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | "scale" => some (((Real.sqrt 96)⁻¹ : ℝ) : EReal)
  | "unprescale" => some (((Real.sqrt 96) * (Real.log 2) : ℝ) : EReal)
  | _ => none
-- ==== ReferenceIdeal.lean ====
abbrev S2x2048x16x96 : Shape := ⟨4, ![2, 2048, 16, 96]⟩
abbrev S2x2048x16x64 : Shape := ⟨4, ![2, 2048, 16, 64]⟩
abbrev S2x16x2048x2048 : Shape := ⟨4, ![2, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩
abbrev S2x16x64x2048 : Shape := ⟨4, ![2, 16, 64, 2048]⟩
abbrev S2x16x2048x96 : Shape := ⟨4, ![2, 16, 2048, 96]⟩
abbrev S2x2048x16x128 : Shape := ⟨4, ![2, 2048, 16, 128]⟩
abbrev S2x2048x2048 : Shape := ⟨3, ![2, 2048, 2048]⟩

abbrev nBuf : Space → Nat
  | .hbm => 120
  | .vmem => 0
  | .smem => 0
  | _ => 0

abbrev bufTy : (tb : Table) → Fin (tcTables nBuf tb) → BufTy
  | .hbm, ⟨0, _⟩ => ⟨S2x2048x16x96, .f32⟩
  | .hbm, ⟨1, _⟩ => ⟨S2x2048x16x96, .f32⟩
  | .hbm, ⟨2, _⟩ => ⟨S2x2048x16x64, .f32⟩
  | .hbm, ⟨3, _⟩ => ⟨S2x2048x16x64, .f32⟩
  | .hbm, ⟨4, _⟩ => ⟨S2x16x2048x2048, .f32⟩
  | .hbm, ⟨5, _⟩ => ⟨S_, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S2048, .i32⟩
  | .hbm, ⟨10, _⟩ => ⟨S_, .i32⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S1x2048, .i32⟩
  | .hbm, ⟨29, _⟩ => ⟨S2048x1, .i32⟩
  | .hbm, ⟨30, _⟩ => ⟨S2048x2048, .i32⟩
  | .hbm, ⟨31, _⟩ => ⟨S2048x2048, .i32⟩
  | .hbm, ⟨32, _⟩ => ⟨S2048x2048, .i1⟩
  | .hbm, ⟨33, _⟩ => ⟨S1x1x2048x2048, .i1⟩
  | .hbm, ⟨34, _⟩ => ⟨S_, .f32⟩
  | .hbm, ⟨35, _⟩ => ⟨S_, .f32⟩
  | .hbm, ⟨36, _⟩ => ⟨S2x16x2048x2048, .i1⟩
  | .hbm, ⟨37, _⟩ => ⟨S2x16x2048x2048, .f32⟩
  | .hbm, ⟨38, _⟩ => ⟨S2x16x2048x2048, .f32⟩
  | .hbm, ⟨39, _⟩ => ⟨S_, .f32⟩
  | .hbm, ⟨40, _⟩ => ⟨S2x16x2048x2048, .f32⟩
  | .hbm, ⟨41, _⟩ => ⟨S_, .f32⟩
  | .hbm, ⟨42, _⟩ => ⟨S2x16x2048, .f32⟩
  | .hbm, ⟨43, _⟩ => ⟨S2x16x2048x1, .f32⟩
  | .hbm, ⟨44, _⟩ => ⟨S2x16x2048x2048, .f32⟩
  | .hbm, ⟨45, _⟩ => ⟨S2x16x2048x2048, .i1⟩
  | .hbm, ⟨46, _⟩ => ⟨S2x16x2048x2048, .f32⟩
  | .hbm, ⟨47, _⟩ => ⟨S_, .f32⟩
  | .hbm, ⟨48, _⟩ => ⟨S2x16x2048, .f32⟩
  | .hbm, ⟨49, _⟩ => ⟨S_, .f32⟩
  | .hbm, ⟨50, _⟩ => ⟨S2x16x2048, .f32⟩
  | .hbm, ⟨51, _⟩ => ⟨S2x16x2048, .f32⟩
  | .hbm, ⟨52, _⟩ => ⟨S_, .f32⟩
  | .hbm, ⟨53, _⟩ => ⟨S2x16x2048, .f32⟩
  | .hbm, ⟨54, _⟩ => ⟨S2x16x2048, .i1⟩
  | .hbm, ⟨55, _⟩ => ⟨S_, .f32⟩
  | .hbm, ⟨56, _⟩ => ⟨S2x16x2048, .f32⟩
  | .hbm, ⟨57, _⟩ => ⟨S2x16x2048, .i1⟩
  | .hbm, ⟨58, _⟩ => ⟨S_, .f32⟩
  | .hbm, ⟨59, _⟩ => ⟨S2x16x2048, .f32⟩
  | .hbm, ⟨60, _⟩ => ⟨S_, .f32⟩
  | .hbm, ⟨61, _⟩ => ⟨S2x16x2048, .f32⟩
  | .hbm, ⟨62, _⟩ => ⟨S_, .f32⟩
  | .hbm, ⟨63, _⟩ => ⟨S2x16x2048, .f32⟩
  | .hbm, ⟨64, _⟩ => ⟨S2x16x2048, .f32⟩
  | .hbm, ⟨65, _⟩ => ⟨S2x16x2048, .f32⟩
  | .hbm, ⟨66, _⟩ => ⟨S2x16x2048x1, .f32⟩
  | .hbm, ⟨67, _⟩ => ⟨S2x16x2048x2048, .f32⟩
  | .hbm, ⟨68, _⟩ => ⟨S2x16x2048x2048, .f32⟩
  | .hbm, ⟨69, _⟩ => ⟨S2x16x2048x2048, .f32⟩
  | .hbm, ⟨70, _⟩ => ⟨S_, .f32⟩
  | .hbm, ⟨71, _⟩ => ⟨S2x16x2048, .f32⟩
  | .hbm, ⟨72, _⟩ => ⟨S2x16x2048x1, .f32⟩
  | .hbm, ⟨73, _⟩ => ⟨S2x16x2048x2048, .f32⟩
  | .hbm, ⟨74, _⟩ => ⟨S2x16x2048x2048, .f32⟩
  | .hbm, ⟨75, _⟩ => ⟨S2x16x2048x1, .f32⟩
  | .hbm, ⟨76, _⟩ => ⟨S_, .f32⟩
  | .hbm, ⟨77, _⟩ => ⟨S2x16x2048x1, .f32⟩
  | .hbm, ⟨78, _⟩ => ⟨S2x16x2048x1, .f32⟩
  | .hbm, ⟨79, _⟩ => ⟨S2x16x64x2048, .f32⟩
  | .hbm, ⟨80, _⟩ => ⟨S2x2048x16x64, .f32⟩
  | .hbm, ⟨81, _⟩ => ⟨S2x16x64x2048, .f32⟩
  | .hbm, ⟨82, _⟩ => ⟨S2x16x2048x2048, .f32⟩
  | .hbm, ⟨83, _⟩ => ⟨S2x16x64x2048, .f32⟩
  | .hbm, ⟨84, _⟩ => ⟨S2x2048x16x64, .f32⟩
  | .hbm, ⟨85, _⟩ => ⟨S2x16x2048x2048, .f32⟩
  | .hbm, ⟨86, _⟩ => ⟨S2x16x2048x2048, .f32⟩
  | .hbm, ⟨87, _⟩ => ⟨S2x16x2048x2048, .f32⟩
  | .hbm, ⟨88, _⟩ => ⟨S_, .f32⟩
  | .hbm, ⟨89, _⟩ => ⟨S2x16x2048, .f32⟩
  | .hbm, ⟨90, _⟩ => ⟨S2x16x2048x1, .f32⟩
  | .hbm, ⟨91, _⟩ => ⟨S2x16x2048x1, .f32⟩
  | .hbm, ⟨92, _⟩ => ⟨S2x16x2048x2048, .f32⟩
  | .hbm, ⟨93, _⟩ => ⟨S2x16x2048x2048, .f32⟩
  | .hbm, ⟨94, _⟩ => ⟨S_, .f32⟩
  | .hbm, ⟨95, _⟩ => ⟨S2x16x2048, .f32⟩
  | .hbm, ⟨96, _⟩ => ⟨S2x16x2048x2048, .f32⟩
  | .hbm, ⟨97, _⟩ => ⟨S2x16x2048x2048, .f32⟩
  | .hbm, ⟨98, _⟩ => ⟨S2x16x2048x2048, .f32⟩
  | .hbm, ⟨99, _⟩ => ⟨S_, .f32⟩
  | .hbm, ⟨100, _⟩ => ⟨S2x16x2048x2048, .f32⟩
  | .hbm, ⟨101, _⟩ => ⟨S2x16x2048x2048, .f32⟩
  | .hbm, ⟨102, _⟩ => ⟨S2x16x2048x2048, .f32⟩
  | .hbm, ⟨103, _⟩ => ⟨S2x16x2048x2048, .f32⟩
  | .hbm, ⟨104, _⟩ => ⟨S2x16x2048x96, .f32⟩
  | .hbm, ⟨105, _⟩ => ⟨S2x2048x16x96, .f32⟩
  | .hbm, ⟨106, _⟩ => ⟨S2x16x2048x96, .f32⟩
  | .hbm, ⟨107, _⟩ => ⟨S2x2048x16x96, .f32⟩
  | .hbm, ⟨108, _⟩ => ⟨S_, .i32⟩
  | .hbm, ⟨109, _⟩ => ⟨S_, .f32⟩
  | .hbm, ⟨110, _⟩ => ⟨S2x2048x16x128, .f32⟩
  | .hbm, ⟨111, _⟩ => ⟨S2x2048x2048, .f32⟩
  | .hbm, ⟨112, _⟩ => ⟨S_, .i32⟩
  | .hbm, ⟨113, _⟩ => ⟨S_, .f32⟩
  | .hbm, ⟨114, _⟩ => ⟨S2x2048x16x128, .f32⟩
  | .hbm, ⟨115, _⟩ => ⟨S2x2048x2048, .f32⟩
  | .hbm, ⟨116, _⟩ => ⟨S_, .i32⟩
  | .hbm, ⟨117, _⟩ => ⟨S_, .f32⟩
  | .hbm, ⟨118, _⟩ => ⟨S2x2048x16x128, .f32⟩
  | .hbm, ⟨119, _⟩ => ⟨S2x2048x2048, .f32⟩
  | _, _ => ⟨S2x2048x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_0 : Ref sig .tc := ⟨.hbm, 34, rfl⟩
abbrev main_call1_v0 : Ref sig .tc := ⟨.hbm, 35, rfl⟩
abbrev main_v12_1 : Ref sig .tc := ⟨.hbm, 36, rfl⟩
abbrev main_call1_v2 : Ref sig .tc := ⟨.hbm, 37, rfl⟩
abbrev main_v12_0 : Ref sig .tc := ⟨.hbm, 38, rfl⟩
abbrev main_call1_cst : Ref sig .tc := ⟨.hbm, 39, rfl⟩
abbrev main_v12_2 : Ref sig .tc := ⟨.hbm, 40, rfl⟩
abbrev main_cst_1 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_2 : Ref sig .tc := ⟨.hbm, 47, rfl⟩
abbrev main_v18 : Ref sig .tc := ⟨.hbm, 48, rfl⟩
abbrev main_cst_3 : Ref sig .tc := ⟨.hbm, 49, rfl⟩
abbrev main_v19 : Ref sig .tc := ⟨.hbm, 50, rfl⟩
abbrev main_v20 : Ref sig .tc := ⟨.hbm, 51, rfl⟩
abbrev main_cst_4 : Ref sig .tc := ⟨.hbm, 52, rfl⟩
abbrev main_v21 : Ref sig .tc := ⟨.hbm, 53, rfl⟩
abbrev main_v22 : Ref sig .tc := ⟨.hbm, 54, rfl⟩
abbrev main_cst_5 : Ref sig .tc := ⟨.hbm, 55, rfl⟩
abbrev main_v23 : Ref sig .tc := ⟨.hbm, 56, rfl⟩
abbrev main_v24 : Ref sig .tc := ⟨.hbm, 57, rfl⟩
abbrev main_cst_6 : Ref sig .tc := ⟨.hbm, 58, rfl⟩
abbrev main_v25 : Ref sig .tc := ⟨.hbm, 59, rfl⟩
abbrev main_cst_7 : Ref sig .tc := ⟨.hbm, 60, rfl⟩
abbrev main_v26 : Ref sig .tc := ⟨.hbm, 61, rfl⟩
abbrev main_cst_8 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_9 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_10 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_11 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_12 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_call2_cst : Ref sig .tc := ⟨.hbm, 99, rfl⟩
abbrev main_call2_v0 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_c_13 : Ref sig .tc := ⟨.hbm, 108, rfl⟩
abbrev main_call3_v0 : Ref sig .tc := ⟨.hbm, 109, rfl⟩
abbrev main_v66 : Ref sig .tc := ⟨.hbm, 110, rfl⟩
abbrev main_v67 : Ref sig .tc := ⟨.hbm, 111, rfl⟩
abbrev main_c_14 : Ref sig .tc := ⟨.hbm, 112, rfl⟩
abbrev main_call4_v0 : Ref sig .tc := ⟨.hbm, 113, rfl⟩
abbrev main_v68 : Ref sig .tc := ⟨.hbm, 114, rfl⟩
abbrev main_v69 : Ref sig .tc := ⟨.hbm, 115, rfl⟩
abbrev main_c_15 : Ref sig .tc := ⟨.hbm, 116, rfl⟩
abbrev main_call5_v0 : Ref sig .tc := ⟨.hbm, 117, rfl⟩
abbrev main_v70 : Ref sig .tc := ⟨.hbm, 118, rfl⟩
abbrev main_v71 : Ref sig .tc := ⟨.hbm, 119, rfl⟩

abbrev nD : Nat := 1
abbrev τ : Topo := Topo.v7x

variable {F : FTy → Type} [FloatOps F]
-- ==== Mlp2Dx.lean ====
abbrev S2x2048x4096 : Shape := ⟨3, ![2, 2048, 4096]⟩
abbrev S4096x1024 : Shape := ⟨2, ![4096, 1024]⟩
abbrev S2x2048x1024 : Shape := ⟨3, ![2, 2048, 1024]⟩
abbrev S_ : Shape := ⟨0, ![]⟩
abbrev S4096x4096 : Shape := ⟨2, ![4096, 4096]⟩
abbrev S1024x1024 : Shape := ⟨2, ![1024, 1024]⟩

abbrev nBuf : Space → Nat
  | .hbm => 13
  | .vmem => 8
  | .smem => 0
  | _ => 0

abbrev bufTy : (tb : Table) → Fin (tcTables nBuf tb) → BufTy
  | .hbm, ⟨0, _⟩ => ⟨S2x2048x4096, .f32⟩
  | .hbm, ⟨1, _⟩ => ⟨S4096x1024, .f32⟩
  | .hbm, ⟨2, _⟩ => ⟨S2x2048x1024, .f32⟩
  | .hbm, ⟨3, _⟩ => ⟨S_, .f32⟩
  | .hbm, ⟨4, _⟩ => ⟨S2x2048x4096, .f32⟩
  | .hbm, ⟨5, _⟩ => ⟨S2x2048x4096, .f32⟩
  | .hbm, ⟨6, _⟩ => ⟨S2x2048x4096, .f32⟩
  | .hbm, ⟨7, _⟩ => ⟨S4096x4096, .f32⟩
  | .hbm, ⟨8, _⟩ => ⟨S4096x4096, .bf16⟩
  | .hbm, ⟨9, _⟩ => ⟨S4096x1024, .f32⟩
  | .hbm, ⟨10, _⟩ => ⟨S4096x1024, .bf16⟩
  | .hbm, ⟨11, _⟩ => ⟨S4096x1024, .bf16⟩
  | .hbm, ⟨12, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Mlp2DxReferenceIdeal.lean ====
abbrev S2x2048x4096 : Shape := ⟨3, ![2, 2048, 4096]⟩
abbrev S4096x1024 : Shape := ⟨2, ![4096, 1024]⟩
abbrev S2x2048x1024 : Shape := ⟨3, ![2, 2048, 1024]⟩
abbrev S_ : Shape := ⟨0, ![]⟩
abbrev S1024x4096 : Shape := ⟨2, ![1024, 4096]⟩
abbrev S4096x4096 : Shape := ⟨2, ![4096, 4096]⟩

abbrev nBuf : Space → Nat
  | .hbm => 25
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x1024, .f32⟩
  | .hbm, ⟨2, _⟩ => ⟨S2x2048x1024, .f32⟩
  | .hbm, ⟨3, _⟩ => ⟨S_, .f32⟩
  | .hbm, ⟨4, _⟩ => ⟨S2x2048x4096, .f32⟩
  | .hbm, ⟨5, _⟩ => ⟨S2x2048x4096, .f32⟩
  | .hbm, ⟨6, _⟩ => ⟨S_, .f32⟩
  | .hbm, ⟨7, _⟩ => ⟨S2x2048x4096, .f32⟩
  | .hbm, ⟨8, _⟩ => ⟨S2x2048x4096, .i1⟩
  | .hbm, ⟨9, _⟩ => ⟨S_, .f32⟩
  | .hbm, ⟨10, _⟩ => ⟨S2x2048x4096, .f32⟩
  | .hbm, ⟨11, _⟩ => ⟨S2x2048x4096, .f32⟩
  | .hbm, ⟨12, _⟩ => ⟨S_, .f32⟩
  | .hbm, ⟨13, _⟩ => ⟨S2x2048x4096, .f32⟩
  | .hbm, ⟨14, _⟩ => ⟨S2x2048x4096, .f32⟩
  | .hbm, ⟨15, _⟩ => ⟨S2x2048x1024, .f32⟩
  | .hbm, ⟨16, _⟩ => ⟨S1024x4096, .f32⟩
  | .hbm, ⟨17, _⟩ => ⟨S4096x1024, .f32⟩
  | .hbm, ⟨18, _⟩ => ⟨S2x2048x4096, .f32⟩
  | .hbm, ⟨19, _⟩ => ⟨S2x2048x4096, .f32⟩
  | .hbm, ⟨20, _⟩ => ⟨S_, .f32⟩
  | .hbm, ⟨21, _⟩ => ⟨S2x2048x4096, .f32⟩
  | .hbm, ⟨22, _⟩ => ⟨S2x2048x4096, .f32⟩
  | .hbm, ⟨23, _⟩ => ⟨S4096x4096, .f32⟩
  | .hbm, ⟨24, _⟩ => ⟨S4096x4096, .bf16⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Mlp2Dw.lean ====
abbrev S2x2048x4096 : Shape := ⟨3, ![2, 2048, 4096]⟩
abbrev S4096x1024 : Shape := ⟨2, ![4096, 1024]⟩
abbrev S2x2048x1024 : Shape := ⟨3, ![2, 2048, 1024]⟩
abbrev S_ : Shape := ⟨0, ![]⟩
abbrev S4096x4096 : Shape := ⟨2, ![4096, 4096]⟩
abbrev S4096x512 : Shape := ⟨2, ![4096, 512]⟩
abbrev S512x1024 : Shape := ⟨2, ![512, 1024]⟩

abbrev nBuf : Space → Nat
  | .hbm => 12
  | .vmem => 5
  | .smem => 0
  | _ => 0

abbrev bufTy : (tb : Table) → Fin (tcTables nBuf tb) → BufTy
  | .hbm, ⟨0, _⟩ => ⟨S2x2048x4096, .f32⟩
  | .hbm, ⟨1, _⟩ => ⟨S4096x1024, .f32⟩
  | .hbm, ⟨2, _⟩ => ⟨S2x2048x1024, .f32⟩
  | .hbm, ⟨3, _⟩ => ⟨S_, .f32⟩
  | .hbm, ⟨4, _⟩ => ⟨S2x2048x4096, .f32⟩
  | .hbm, ⟨5, _⟩ => ⟨S2x2048x4096, .f32⟩
  | .hbm, ⟨6, _⟩ => ⟨S2x2048x4096, .f32⟩
  | .hbm, ⟨7, _⟩ => ⟨S4096x4096, .f32⟩
  | .hbm, ⟨8, _⟩ => ⟨S4096x4096, .bf16⟩
  | .hbm, ⟨9, _⟩ => ⟨S4096x1024, .f32⟩
  | .hbm, ⟨10, _⟩ => ⟨S4096x1024, .bf16⟩
  | .hbm, ⟨11, _⟩ => ⟨S4096x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mlp2DwReferenceIdeal.lean ====
abbrev S2x2048x4096 : Shape := ⟨3, ![2, 2048, 4096]⟩
abbrev S4096x1024 : Shape := ⟨2, ![4096, 1024]⟩
abbrev S2x2048x1024 : Shape := ⟨3, ![2, 2048, 1024]⟩
abbrev S_ : Shape := ⟨0, ![]⟩
abbrev S1024x4096 : Shape := ⟨2, ![1024, 4096]⟩

abbrev nBuf : Space → Nat
  | .hbm => 23
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x1024, .f32⟩
  | .hbm, ⟨2, _⟩ => ⟨S2x2048x1024, .f32⟩
  | .hbm, ⟨3, _⟩ => ⟨S_, .f32⟩
  | .hbm, ⟨4, _⟩ => ⟨S2x2048x4096, .f32⟩
  | .hbm, ⟨5, _⟩ => ⟨S2x2048x4096, .f32⟩
  | .hbm, ⟨6, _⟩ => ⟨S_, .f32⟩
  | .hbm, ⟨7, _⟩ => ⟨S2x2048x4096, .f32⟩
  | .hbm, ⟨8, _⟩ => ⟨S2x2048x4096, .i1⟩
  | .hbm, ⟨9, _⟩ => ⟨S_, .f32⟩
  | .hbm, ⟨10, _⟩ => ⟨S2x2048x4096, .f32⟩
  | .hbm, ⟨11, _⟩ => ⟨S2x2048x4096, .f32⟩
  | .hbm, ⟨12, _⟩ => ⟨S_, .f32⟩
  | .hbm, ⟨13, _⟩ => ⟨S2x2048x4096, .f32⟩
  | .hbm, ⟨14, _⟩ => ⟨S2x2048x4096, .f32⟩
  | .hbm, ⟨15, _⟩ => ⟨S2x2048x1024, .f32⟩
  | .hbm, ⟨16, _⟩ => ⟨S1024x4096, .f32⟩
  | .hbm, ⟨17, _⟩ => ⟨S4096x1024, .f32⟩
  | .hbm, ⟨18, _⟩ => ⟨S2x2048x4096, .f32⟩
  | .hbm, ⟨19, _⟩ => ⟨S2x2048x4096, .f32⟩
  | .hbm, ⟨20, _⟩ => ⟨S_, .f32⟩
  | .hbm, ⟨21, _⟩ => ⟨S2x2048x4096, .f32⟩
  | .hbm, ⟨22, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Mlp1Dx.lean ====
abbrev S2x2048x1024 : Shape := ⟨3, ![2, 2048, 1024]⟩
abbrev S1024x4096 : Shape := ⟨2, ![1024, 4096]⟩
abbrev S2x2048x4096 : Shape := ⟨3, ![2, 2048, 4096]⟩
abbrev S4096x4096 : Shape := ⟨2, ![4096, 4096]⟩
abbrev S4096x1024 : Shape := ⟨2, ![4096, 1024]⟩
abbrev S512x4096 : Shape := ⟨2, ![512, 4096]⟩
abbrev S512x1024 : Shape := ⟨2, ![512, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S2x2048x4096, .f32⟩
  | .hbm, ⟨3, _⟩ => ⟨S4096x4096, .f32⟩
  | .hbm, ⟨4, _⟩ => ⟨S4096x4096, .bf16⟩
  | .hbm, ⟨5, _⟩ => ⟨S1024x4096, .bf16⟩
  | .hbm, ⟨6, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mlp1DxReferenceIdeal.lean ====
abbrev S2x2048x1024 : Shape := ⟨3, ![2, 2048, 1024]⟩
abbrev S1024x4096 : Shape := ⟨2, ![1024, 4096]⟩
abbrev S2x2048x4096 : Shape := ⟨3, ![2, 2048, 4096]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S2x2048x4096, .f32⟩
  | .hbm, ⟨3, _⟩ => ⟨S2x2048x4096, .f32⟩
  | .hbm, ⟨4, _⟩ => ⟨S4096x1024, .f32⟩
  | .hbm, ⟨5, _⟩ => ⟨S1024x4096, .f32⟩
  | .hbm, ⟨6, _⟩ => ⟨S2x2048x1024, .f32⟩
  | .hbm, ⟨7, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Mlp1Dw.lean ====
abbrev S2x2048x1024 : Shape := ⟨3, ![2, 2048, 1024]⟩
abbrev S1024x4096 : Shape := ⟨2, ![1024, 4096]⟩
abbrev S2x2048x4096 : Shape := ⟨3, ![2, 2048, 4096]⟩
abbrev S4096x1024 : Shape := ⟨2, ![4096, 1024]⟩
abbrev S4096x4096 : Shape := ⟨2, ![4096, 4096]⟩
abbrev S4096x512 : Shape := ⟨2, ![4096, 512]⟩
abbrev S512x1024 : Shape := ⟨2, ![512, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S2x2048x4096, .f32⟩
  | .hbm, ⟨3, _⟩ => ⟨S4096x1024, .f32⟩
  | .hbm, ⟨4, _⟩ => ⟨S4096x1024, .bf16⟩
  | .hbm, ⟨5, _⟩ => ⟨S4096x4096, .f32⟩
  | .hbm, ⟨6, _⟩ => ⟨S4096x4096, .bf16⟩
  | .hbm, ⟨7, _⟩ => ⟨S1024x4096, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mlp1DwReferenceIdeal.lean ====
abbrev S2x2048x1024 : Shape := ⟨3, ![2, 2048, 1024]⟩
abbrev S1024x4096 : Shape := ⟨2, ![1024, 4096]⟩
abbrev S2x2048x4096 : Shape := ⟨3, ![2, 2048, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S2x2048x4096, .f32⟩
  | .hbm, ⟨3, _⟩ => ⟨S2x2048x4096, .f32⟩
  | .hbm, ⟨4, _⟩ => ⟨S4096x1024, .f32⟩
  | .hbm, ⟨5, _⟩ => ⟨S1024x4096, .f32⟩
  | .hbm, ⟨6, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== WOutDx.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S4096x1024, .f32⟩
  | .hbm, ⟨4, _⟩ => ⟨S4096x1024, .bf16⟩
  | .hbm, ⟨5, _⟩ => ⟨S1024x1024, .bf16⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WOutDxReferenceIdeal.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S2x2048x1024, .f32⟩
  | .hbm, ⟨4, _⟩ => ⟨S1024x1024, .f32⟩
  | .hbm, ⟨5, _⟩ => ⟨S1024x1024, .f32⟩
  | .hbm, ⟨6, _⟩ => ⟨S2x2048x1024, .f32⟩
  | .hbm, ⟨7, _⟩ => ⟨S4096x1024, .f32⟩
  | .hbm, ⟨8, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WOutDw.lean ====
abbrev S2x2048x1024 : Shape := ⟨3, ![2, 2048, 1024]⟩
abbrev S1024x1024 : Shape := ⟨2, ![1024, 1024]⟩
abbrev S4096x1024 : Shape := ⟨2, ![4096, 1024]⟩
abbrev S4096x512 : Shape := ⟨2, ![4096, 512]⟩
abbrev S512x1024 : Shape := ⟨2, ![512, 1024]⟩

abbrev nBuf : Space → Nat
  | .hbm => 8
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S4096x1024, .f32⟩
  | .hbm, ⟨4, _⟩ => ⟨S4096x1024, .bf16⟩
  | .hbm, ⟨5, _⟩ => ⟨S4096x1024, .f32⟩
  | .hbm, ⟨6, _⟩ => ⟨S4096x1024, .bf16⟩
  | .hbm, ⟨7, _⟩ => ⟨S1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WOutDwReferenceIdeal.lean ====
abbrev S2x2048x1024 : Shape := ⟨3, ![2, 2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S2x2048x1024, .f32⟩
  | .hbm, ⟨4, _⟩ => ⟨S1024x1024, .f32⟩
  | .hbm, ⟨5, _⟩ => ⟨S1024x1024, .f32⟩
  | .hbm, ⟨6, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GlaOutDx.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S4096x1024, .f32⟩
  | .hbm, ⟨4, _⟩ => ⟨S4096x1024, .bf16⟩
  | .hbm, ⟨5, _⟩ => ⟨S1024x1024, .bf16⟩
  | .hbm, ⟨6, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GlaOutDxReferenceIdeal.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S2x2048x1024, .f32⟩
  | .hbm, ⟨4, _⟩ => ⟨S1024x1024, .f32⟩
  | .hbm, ⟨5, _⟩ => ⟨S1024x1024, .f32⟩
  | .hbm, ⟨6, _⟩ => ⟨S2x2048x1024, .f32⟩
  | .hbm, ⟨7, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GlaOutDw.lean ====
abbrev S2x2048x1024 : Shape := ⟨3, ![2, 2048, 1024]⟩
abbrev S1024x1024 : Shape := ⟨2, ![1024, 1024]⟩
abbrev S4096x1024 : Shape := ⟨2, ![4096, 1024]⟩
abbrev S4096x512 : Shape := ⟨2, ![4096, 512]⟩
abbrev S512x1024 : Shape := ⟨2, ![512, 1024]⟩

abbrev nBuf : Space → Nat
  | .hbm => 8
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S4096x1024, .f32⟩
  | .hbm, ⟨4, _⟩ => ⟨S4096x1024, .bf16⟩
  | .hbm, ⟨5, _⟩ => ⟨S4096x1024, .f32⟩
  | .hbm, ⟨6, _⟩ => ⟨S4096x1024, .bf16⟩
  | .hbm, ⟨7, _⟩ => ⟨S1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GlaOutDwReferenceIdeal.lean ====
abbrev S2x2048x1024 : Shape := ⟨3, ![2, 2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S2x2048x1024, .f32⟩
  | .hbm, ⟨4, _⟩ => ⟨S1024x1024, .f32⟩
  | .hbm, ⟨5, _⟩ => ⟨S1024x1024, .f32⟩
  | .hbm, ⟨6, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MlaOutDx.lean ====
abbrev S2x2048x16x64 : Shape := ⟨4, ![2, 2048, 16, 64]⟩
abbrev S1024x1024 : Shape := ⟨2, ![1024, 1024]⟩
abbrev S2x2048x1024 : Shape := ⟨3, ![2, 2048, 1024]⟩
abbrev S4096x1024 : Shape := ⟨2, ![4096, 1024]⟩
abbrev S16x64x1024 : Shape := ⟨3, ![16, 64, 1024]⟩
abbrev S_ : Shape := ⟨0, ![]⟩
abbrev S16x128x1024 : Shape := ⟨3, ![16, 128, 1024]⟩
abbrev S2048x1024 : Shape := ⟨2, ![2048, 1024]⟩
abbrev S4096x2048 : Shape := ⟨2, ![4096, 2048]⟩

abbrev nBuf : Space → Nat
  | .hbm => 12
  | .vmem => 6
  | .smem => 0
  | _ => 0

abbrev bufTy : (tb : Table) → Fin (tcTables nBuf tb) → BufTy
  | .hbm, ⟨0, _⟩ => ⟨S2x2048x16x64, .f32⟩
  | .hbm, ⟨1, _⟩ => ⟨S1024x1024, .f32⟩
  | .hbm, ⟨2, _⟩ => ⟨S2x2048x1024, .f32⟩
  | .hbm, ⟨3, _⟩ => ⟨S4096x1024, .f32⟩
  | .hbm, ⟨4, _⟩ => ⟨S4096x1024, .bf16⟩
  | .hbm, ⟨5, _⟩ => ⟨S16x64x1024, .f32⟩
  | .hbm, ⟨6, _⟩ => ⟨S_, .i32⟩
  | .hbm, ⟨7, _⟩ => ⟨S_, .f32⟩
  | .hbm, ⟨8, _⟩ => ⟨S16x128x1024, .f32⟩
  | .hbm, ⟨9, _⟩ => ⟨S2048x1024, .f32⟩
  | .hbm, ⟨10, _⟩ => ⟨S2048x1024, .bf16⟩
  | .hbm, ⟨11, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S2x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaOutDxReferenceIdeal.lean ====
abbrev S2x2048x16x64 : Shape := ⟨4, ![2, 2048, 16, 64]⟩
abbrev S1024x1024 : Shape := ⟨2, ![1024, 1024]⟩
abbrev S2x2048x1024 : Shape := ⟨3, ![2, 2048, 1024]⟩
abbrev S_ : Shape := ⟨0, ![]⟩
abbrev S2x2048x16x128 : Shape := ⟨4, ![2, 2048, 16, 128]⟩
abbrev S4096x2048 : Shape := ⟨2, ![4096, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x16x64, .f32⟩
  | .hbm, ⟨1, _⟩ => ⟨S1024x1024, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S1024x1024, .f32⟩
  | .hbm, ⟨6, _⟩ => ⟨S1024x1024, .f32⟩
  | .hbm, ⟨7, _⟩ => ⟨S2x2048x1024, .f32⟩
  | .hbm, ⟨8, _⟩ => ⟨S2x2048x16x64, .f32⟩
  | .hbm, ⟨9, _⟩ => ⟨S_, .i32⟩
  | .hbm, ⟨10, _⟩ => ⟨S_, .f32⟩
  | .hbm, ⟨11, _⟩ => ⟨S2x2048x16x128, .f32⟩
  | .hbm, ⟨12, _⟩ => ⟨S4096x2048, .f32⟩
  | .hbm, ⟨13, _⟩ => ⟨S4096x2048, .bf16⟩
  | _, _ => ⟨S2x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== MlaOutDw.lean ====
abbrev S2x2048x16x64 : Shape := ⟨4, ![2, 2048, 16, 64]⟩
abbrev S1024x1024 : Shape := ⟨2, ![1024, 1024]⟩
abbrev S2x2048x1024 : Shape := ⟨3, ![2, 2048, 1024]⟩
abbrev S_ : Shape := ⟨0, ![]⟩
abbrev S2x2048x16x128 : Shape := ⟨4, ![2, 2048, 16, 128]⟩
abbrev S2x2048x2048 : Shape := ⟨3, ![2, 2048, 2048]⟩
abbrev S4096x2048 : Shape := ⟨2, ![4096, 2048]⟩
abbrev S4096x1024 : Shape := ⟨2, ![4096, 1024]⟩
abbrev S2048x1024 : Shape := ⟨2, ![2048, 1024]⟩
abbrev S4096x512 : Shape := ⟨2, ![4096, 512]⟩
abbrev S512x1024 : Shape := ⟨2, ![512, 1024]⟩

abbrev nBuf : Space → Nat
  | .hbm => 12
  | .vmem => 5
  | .smem => 0
  | _ => 0

abbrev bufTy : (tb : Table) → Fin (tcTables nBuf tb) → BufTy
  | .hbm, ⟨0, _⟩ => ⟨S2x2048x16x64, .f32⟩
  | .hbm, ⟨1, _⟩ => ⟨S1024x1024, .f32⟩
  | .hbm, ⟨2, _⟩ => ⟨S2x2048x1024, .f32⟩
  | .hbm, ⟨3, _⟩ => ⟨S_, .i32⟩
  | .hbm, ⟨4, _⟩ => ⟨S_, .f32⟩
  | .hbm, ⟨5, _⟩ => ⟨S2x2048x16x128, .f32⟩
  | .hbm, ⟨6, _⟩ => ⟨S2x2048x2048, .f32⟩
  | .hbm, ⟨7, _⟩ => ⟨S4096x2048, .f32⟩
  | .hbm, ⟨8, _⟩ => ⟨S4096x2048, .bf16⟩
  | .hbm, ⟨9, _⟩ => ⟨S4096x1024, .f32⟩
  | .hbm, ⟨10, _⟩ => ⟨S4096x1024, .bf16⟩
  | .hbm, ⟨11, _⟩ => ⟨S2048x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S2x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaOutDwReferenceIdeal.lean ====
abbrev S2x2048x16x64 : Shape := ⟨4, ![2, 2048, 16, 64]⟩
abbrev S1024x1024 : Shape := ⟨2, ![1024, 1024]⟩
abbrev S2x2048x1024 : Shape := ⟨3, ![2, 2048, 1024]⟩
abbrev S16x64x1024 : Shape := ⟨3, ![16, 64, 1024]⟩
abbrev S_ : Shape := ⟨0, ![]⟩
abbrev S16x128x1024 : Shape := ⟨3, ![16, 128, 1024]⟩
abbrev S2048x1024 : Shape := ⟨2, ![2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x16x64, .f32⟩
  | .hbm, ⟨1, _⟩ => ⟨S1024x1024, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S1024x1024, .f32⟩
  | .hbm, ⟨6, _⟩ => ⟨S1024x1024, .f32⟩
  | .hbm, ⟨7, _⟩ => ⟨S2x2048x1024, .f32⟩
  | .hbm, ⟨8, _⟩ => ⟨S2x2048x16x64, .f32⟩
  | .hbm, ⟨9, _⟩ => ⟨S16x64x1024, .f32⟩
  | .hbm, ⟨10, _⟩ => ⟨S_, .i32⟩
  | .hbm, ⟨11, _⟩ => ⟨S_, .f32⟩
  | .hbm, ⟨12, _⟩ => ⟨S16x128x1024, .f32⟩
  | .hbm, ⟨13, _⟩ => ⟨S2048x1024, .f32⟩
  | _, _ => ⟨S2x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== MlaUqDx.lean ====
abbrev S2x2048x256 : Shape := ⟨3, ![2, 2048, 256]⟩
abbrev S256x1536 : Shape := ⟨2, ![256, 1536]⟩
abbrev S2x2048x16x96 : Shape := ⟨4, ![2, 2048, 16, 96]⟩
abbrev S_ : Shape := ⟨0, ![]⟩
abbrev S2x2048x16x128 : Shape := ⟨4, ![2, 2048, 16, 128]⟩
abbrev S2x2048x2048 : Shape := ⟨3, ![2, 2048, 2048]⟩
abbrev S4096x2048 : Shape := ⟨2, ![4096, 2048]⟩
abbrev S256x16x96 : Shape := ⟨3, ![256, 16, 96]⟩
abbrev S256x16x128 : Shape := ⟨3, ![256, 16, 128]⟩
abbrev S256x2048 : Shape := ⟨2, ![256, 2048]⟩
abbrev S4096x256 : Shape := ⟨2, ![4096, 256]⟩
abbrev S1024x2048 : Shape := ⟨2, ![1024, 2048]⟩
abbrev S1024x256 : Shape := ⟨2, ![1024, 256]⟩

abbrev nBuf : Space → Nat
  | .hbm => 16
  | .vmem => 5
  | .smem => 0
  | _ => 0

abbrev bufTy : (tb : Table) → Fin (tcTables nBuf tb) → BufTy
  | .hbm, ⟨0, _⟩ => ⟨S2x2048x256, .f32⟩
  | .hbm, ⟨1, _⟩ => ⟨S256x1536, .f32⟩
  | .hbm, ⟨2, _⟩ => ⟨S2x2048x16x96, .f32⟩
  | .hbm, ⟨3, _⟩ => ⟨S_, .i32⟩
  | .hbm, ⟨4, _⟩ => ⟨S_, .f32⟩
  | .hbm, ⟨5, _⟩ => ⟨S2x2048x16x128, .f32⟩
  | .hbm, ⟨6, _⟩ => ⟨S2x2048x2048, .f32⟩
  | .hbm, ⟨7, _⟩ => ⟨S4096x2048, .f32⟩
  | .hbm, ⟨8, _⟩ => ⟨S4096x2048, .bf16⟩
  | .hbm, ⟨9, _⟩ => ⟨S256x16x96, .f32⟩
  | .hbm, ⟨10, _⟩ => ⟨S_, .i32⟩
  | .hbm, ⟨11, _⟩ => ⟨S_, .f32⟩
  | .hbm, ⟨12, _⟩ => ⟨S256x16x128, .f32⟩
  | .hbm, ⟨13, _⟩ => ⟨S256x2048, .f32⟩
  | .hbm, ⟨14, _⟩ => ⟨S256x2048, .bf16⟩
  | .hbm, ⟨15, _⟩ => ⟨S4096x256, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S1024x256, .f32⟩
  | .local _ .vmem, ⟨4, _⟩ => ⟨S1024x256, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUqDxReferenceIdeal.lean ====
abbrev S2x2048x256 : Shape := ⟨3, ![2, 2048, 256]⟩
abbrev S256x1536 : Shape := ⟨2, ![256, 1536]⟩
abbrev S2x2048x16x96 : Shape := ⟨4, ![2, 2048, 16, 96]⟩
abbrev S2x2048x1536 : Shape := ⟨3, ![2, 2048, 1536]⟩
abbrev S1536x256 : Shape := ⟨2, ![1536, 256]⟩
abbrev S4096x256 : Shape := ⟨2, ![4096, 256]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S256x1536, .f32⟩
  | .hbm, ⟨2, _⟩ => ⟨S2x2048x16x96, .f32⟩
  | .hbm, ⟨3, _⟩ => ⟨S2x2048x1536, .f32⟩
  | .hbm, ⟨4, _⟩ => ⟨S2x2048x16x96, .f32⟩
  | .hbm, ⟨5, _⟩ => ⟨S2x2048x1536, .f32⟩
  | .hbm, ⟨6, _⟩ => ⟨S1536x256, .f32⟩
  | .hbm, ⟨7, _⟩ => ⟨S256x1536, .f32⟩
  | .hbm, ⟨8, _⟩ => ⟨S2x2048x256, .f32⟩
  | .hbm, ⟨9, _⟩ => ⟨S4096x256, .f32⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlaUqDw.lean ====
abbrev S2x2048x256 : Shape := ⟨3, ![2, 2048, 256]⟩
abbrev S256x1536 : Shape := ⟨2, ![256, 1536]⟩
abbrev S2x2048x16x96 : Shape := ⟨4, ![2, 2048, 16, 96]⟩
abbrev S4096x256 : Shape := ⟨2, ![4096, 256]⟩
abbrev S_ : Shape := ⟨0, ![]⟩
abbrev S2x2048x16x128 : Shape := ⟨4, ![2, 2048, 16, 128]⟩
abbrev S2x2048x2048 : Shape := ⟨3, ![2, 2048, 2048]⟩
abbrev S4096x2048 : Shape := ⟨2, ![4096, 2048]⟩
abbrev S256x2048 : Shape := ⟨2, ![256, 2048]⟩
abbrev S4096x1024 : Shape := ⟨2, ![4096, 1024]⟩
abbrev S256x1024 : Shape := ⟨2, ![256, 1024]⟩

abbrev nBuf : Space → Nat
  | .hbm => 12
  | .vmem => 5
  | .smem => 0
  | _ => 0

abbrev bufTy : (tb : Table) → Fin (tcTables nBuf tb) → BufTy
  | .hbm, ⟨0, _⟩ => ⟨S2x2048x256, .f32⟩
  | .hbm, ⟨1, _⟩ => ⟨S256x1536, .f32⟩
  | .hbm, ⟨2, _⟩ => ⟨S2x2048x16x96, .f32⟩
  | .hbm, ⟨3, _⟩ => ⟨S4096x256, .f32⟩
  | .hbm, ⟨4, _⟩ => ⟨S4096x256, .bf16⟩
  | .hbm, ⟨5, _⟩ => ⟨S_, .i32⟩
  | .hbm, ⟨6, _⟩ => ⟨S_, .f32⟩
  | .hbm, ⟨7, _⟩ => ⟨S2x2048x16x128, .f32⟩
  | .hbm, ⟨8, _⟩ => ⟨S2x2048x2048, .f32⟩
  | .hbm, ⟨9, _⟩ => ⟨S4096x2048, .f32⟩
  | .hbm, ⟨10, _⟩ => ⟨S4096x2048, .bf16⟩
  | .hbm, ⟨11, _⟩ => ⟨S256x2048, .f32⟩
  | .local _ .vmem, ⟨0, _⟩ => ⟨S4096x256, .bf16⟩
  | .local _ .vmem, ⟨1, _⟩ => ⟨S4096x1024, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUqDwReferenceIdeal.lean ====
abbrev S2x2048x256 : Shape := ⟨3, ![2, 2048, 256]⟩
abbrev S256x1536 : Shape := ⟨2, ![256, 1536]⟩
abbrev S2x2048x16x96 : Shape := ⟨4, ![2, 2048, 16, 96]⟩
abbrev S2x2048x1536 : Shape := ⟨3, ![2, 2048, 1536]⟩
abbrev S1536x256 : Shape := ⟨2, ![1536, 256]⟩
abbrev S256x16x96 : Shape := ⟨3, ![256, 16, 96]⟩
abbrev S_ : Shape := ⟨0, ![]⟩
abbrev S256x16x128 : Shape := ⟨3, ![256, 16, 128]⟩
abbrev S256x2048 : Shape := ⟨2, ![256, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S256x1536, .f32⟩
  | .hbm, ⟨2, _⟩ => ⟨S2x2048x16x96, .f32⟩
  | .hbm, ⟨3, _⟩ => ⟨S2x2048x1536, .f32⟩
  | .hbm, ⟨4, _⟩ => ⟨S2x2048x16x96, .f32⟩
  | .hbm, ⟨5, _⟩ => ⟨S2x2048x1536, .f32⟩
  | .hbm, ⟨6, _⟩ => ⟨S1536x256, .f32⟩
  | .hbm, ⟨7, _⟩ => ⟨S256x1536, .f32⟩
  | .hbm, ⟨8, _⟩ => ⟨S2x2048x256, .f32⟩
  | .hbm, ⟨9, _⟩ => ⟨S256x16x96, .f32⟩
  | .hbm, ⟨10, _⟩ => ⟨S_, .i32⟩
  | .hbm, ⟨11, _⟩ => ⟨S_, .f32⟩
  | .hbm, ⟨12, _⟩ => ⟨S256x16x128, .f32⟩
  | .hbm, ⟨13, _⟩ => ⟨S256x2048, .f32⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== MlaUkvDx.lean ====
abbrev S2x2048x128 : Shape := ⟨3, ![2, 2048, 128]⟩
abbrev S128x2048 : Shape := ⟨2, ![128, 2048]⟩
abbrev S2x2048x2048 : Shape := ⟨3, ![2, 2048, 2048]⟩
abbrev S4096x2048 : Shape := ⟨2, ![4096, 2048]⟩
abbrev S4096x128 : Shape := ⟨2, ![4096, 128]⟩
abbrev S1024x2048 : Shape := ⟨2, ![1024, 2048]⟩
abbrev S1024x128 : Shape := ⟨2, ![1024, 128]⟩

abbrev nBuf : Space → Nat
  | .hbm => 7
  | .vmem => 5
  | .smem => 0
  | _ => 0

abbrev bufTy : (tb : Table) → Fin (tcTables nBuf tb) → BufTy
  | .hbm, ⟨0, _⟩ => ⟨S2x2048x128, .f32⟩
  | .hbm, ⟨1, _⟩ => ⟨S128x2048, .f32⟩
  | .hbm, ⟨2, _⟩ => ⟨S2x2048x2048, .f32⟩
  | .hbm, ⟨3, _⟩ => ⟨S4096x2048, .f32⟩
  | .hbm, ⟨4, _⟩ => ⟨S4096x2048, .bf16⟩
  | .hbm, ⟨5, _⟩ => ⟨S128x2048, .bf16⟩
  | .hbm, ⟨6, _⟩ => ⟨S4096x128, .f32⟩
  | .local _ .vmem, ⟨0, _⟩ => ⟨S1024x2048, .bf16⟩
  | .local _ .vmem, ⟨1, _⟩ => ⟨S1024x2048, .bf16⟩
  | .local _ .vmem, ⟨2, _⟩ => ⟨S128x2048, .bf16⟩
  | .local _ .vmem, ⟨3, _⟩ => ⟨S1024x128, .f32⟩
  | .local _ .vmem, ⟨4, _⟩ => ⟨S1024x128, .f32⟩
  | _, _ => ⟨S2x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUkvDxReferenceIdeal.lean ====
abbrev S2x2048x128 : Shape := ⟨3, ![2, 2048, 128]⟩
abbrev S128x2048 : Shape := ⟨2, ![128, 2048]⟩
abbrev S2x2048x2048 : Shape := ⟨3, ![2, 2048, 2048]⟩
abbrev S2048x128 : Shape := ⟨2, ![2048, 128]⟩
abbrev S4096x128 : Shape := ⟨2, ![4096, 128]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x128, .f32⟩
  | .hbm, ⟨1, _⟩ => ⟨S128x2048, .f32⟩
  | .hbm, ⟨2, _⟩ => ⟨S2x2048x2048, .f32⟩
  | .hbm, ⟨3, _⟩ => ⟨S2x2048x2048, .f32⟩
  | .hbm, ⟨4, _⟩ => ⟨S2048x128, .f32⟩
  | .hbm, ⟨5, _⟩ => ⟨S128x2048, .f32⟩
  | .hbm, ⟨6, _⟩ => ⟨S2x2048x128, .f32⟩
  | .hbm, ⟨7, _⟩ => ⟨S4096x128, .f32⟩
  | _, _ => ⟨S2x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlaUkvDw.lean ====
abbrev S2x2048x128 : Shape := ⟨3, ![2, 2048, 128]⟩
abbrev S128x2048 : Shape := ⟨2, ![128, 2048]⟩
abbrev S2x2048x2048 : Shape := ⟨3, ![2, 2048, 2048]⟩
abbrev S4096x128 : Shape := ⟨2, ![4096, 128]⟩
abbrev S4096x2048 : Shape := ⟨2, ![4096, 2048]⟩
abbrev S4096x1024 : Shape := ⟨2, ![4096, 1024]⟩
abbrev S128x1024 : Shape := ⟨2, ![128, 1024]⟩

abbrev nBuf : Space → Nat
  | .hbm => 8
  | .vmem => 5
  | .smem => 0
  | _ => 0

abbrev bufTy : (tb : Table) → Fin (tcTables nBuf tb) → BufTy
  | .hbm, ⟨0, _⟩ => ⟨S2x2048x128, .f32⟩
  | .hbm, ⟨1, _⟩ => ⟨S128x2048, .f32⟩
  | .hbm, ⟨2, _⟩ => ⟨S2x2048x2048, .f32⟩
  | .hbm, ⟨3, _⟩ => ⟨S4096x128, .f32⟩
  | .hbm, ⟨4, _⟩ => ⟨S4096x128, .bf16⟩
  | .hbm, ⟨5, _⟩ => ⟨S4096x2048, .f32⟩
  | .hbm, ⟨6, _⟩ => ⟨S4096x2048, .bf16⟩
  | .hbm, ⟨7, _⟩ => ⟨S128x2048, .f32⟩
  | .local _ .vmem, ⟨0, _⟩ => ⟨S4096x128, .bf16⟩
  | .local _ .vmem, ⟨1, _⟩ => ⟨S4096x1024, .bf16⟩
  | .local _ .vmem, ⟨2, _⟩ => ⟨S4096x1024, .bf16⟩
  | .local _ .vmem, ⟨3, _⟩ => ⟨S128x1024, .f32⟩
  | .local _ .vmem, ⟨4, _⟩ => ⟨S128x1024, .f32⟩
  | _, _ => ⟨S2x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUkvDwReferenceIdeal.lean ====
abbrev S2x2048x128 : Shape := ⟨3, ![2, 2048, 128]⟩
abbrev S128x2048 : Shape := ⟨2, ![128, 2048]⟩
abbrev S2x2048x2048 : Shape := ⟨3, ![2, 2048, 2048]⟩
abbrev S2048x128 : Shape := ⟨2, ![2048, 128]⟩

abbrev nBuf : Space → Nat
  | .hbm => 7
  | .vmem => 0
  | .smem => 0
  | _ => 0

abbrev bufTy : (tb : Table) → Fin (tcTables nBuf tb) → BufTy
  | .hbm, ⟨0, _⟩ => ⟨S2x2048x128, .f32⟩
  | .hbm, ⟨1, _⟩ => ⟨S128x2048, .f32⟩
  | .hbm, ⟨2, _⟩ => ⟨S2x2048x2048, .f32⟩
  | .hbm, ⟨3, _⟩ => ⟨S2x2048x2048, .f32⟩
  | .hbm, ⟨4, _⟩ => ⟨S2048x128, .f32⟩
  | .hbm, ⟨5, _⟩ => ⟨S128x2048, .f32⟩
  | .hbm, ⟨6, _⟩ => ⟨S2x2048x128, .f32⟩
  | _, _ => ⟨S2x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GlaOut.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GlaOutReferenceIdeal.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S4096x1024, .f32⟩
  | .hbm, ⟨4, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== WOut.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WOutReferenceIdeal.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MlaOut.lean ====
abbrev S2x2048x16x64 : Shape := ⟨4, ![2, 2048, 16, 64]⟩
abbrev S1024x1024 : Shape := ⟨2, ![1024, 1024]⟩
abbrev S_ : Shape := ⟨0, ![]⟩
abbrev S2x2048x16x128 : Shape := ⟨4, ![2, 2048, 16, 128]⟩
abbrev S2x2048x2048 : Shape := ⟨3, ![2, 2048, 2048]⟩
abbrev S4096x2048 : Shape := ⟨2, ![4096, 2048]⟩
abbrev S16x64x1024 : Shape := ⟨3, ![16, 64, 1024]⟩
abbrev S16x128x1024 : Shape := ⟨3, ![16, 128, 1024]⟩
abbrev S2048x1024 : Shape := ⟨2, ![2048, 1024]⟩
abbrev S4096x1024 : Shape := ⟨2, ![4096, 1024]⟩
abbrev S1024x2048 : Shape := ⟨2, ![1024, 2048]⟩

abbrev nBuf : Space → Nat
  | .hbm => 15
  | .vmem => 5
  | .smem => 0
  | _ => 0

abbrev bufTy : (tb : Table) → Fin (tcTables nBuf tb) → BufTy
  | .hbm, ⟨0, _⟩ => ⟨S2x2048x16x64, .f32⟩
  | .hbm, ⟨1, _⟩ => ⟨S1024x1024, .f32⟩
  | .hbm, ⟨2, _⟩ => ⟨S_, .i32⟩
  | .hbm, ⟨3, _⟩ => ⟨S_, .f32⟩
  | .hbm, ⟨4, _⟩ => ⟨S2x2048x16x128, .f32⟩
  | .hbm, ⟨5, _⟩ => ⟨S2x2048x2048, .f32⟩
  | .hbm, ⟨6, _⟩ => ⟨S4096x2048, .f32⟩
  | .hbm, ⟨7, _⟩ => ⟨S4096x2048, .bf16⟩
  | .hbm, ⟨8, _⟩ => ⟨S16x64x1024, .f32⟩
  | .hbm, ⟨9, _⟩ => ⟨S_, .i32⟩
  | .hbm, ⟨10, _⟩ => ⟨S_, .f32⟩
  | .hbm, ⟨11, _⟩ => ⟨S16x128x1024, .f32⟩
  | .hbm, ⟨12, _⟩ => ⟨S2048x1024, .f32⟩
  | .hbm, ⟨13, _⟩ => ⟨S2048x1024, .bf16⟩
  | .hbm, ⟨14, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaOutReferenceIdeal.lean ====
abbrev S2x2048x16x64 : Shape := ⟨4, ![2, 2048, 16, 64]⟩
abbrev S1024x1024 : Shape := ⟨2, ![1024, 1024]⟩
abbrev S2x2048x1024 : Shape := ⟨3, ![2, 2048, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x2048x16x64, .f32⟩
  | .hbm, ⟨1, _⟩ => ⟨S1024x1024, .f32⟩
  | .hbm, ⟨2, _⟩ => ⟨S2x2048x1024, .f32⟩
  | .hbm, ⟨3, _⟩ => ⟨S2x2048x1024, .f32⟩
  | .hbm, ⟨4, _⟩ => ⟨S4096x1024, .f32⟩
  | .hbm, ⟨5, _⟩ => ⟨S4096x1024, .bf16⟩
  | _, _ => ⟨S2x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MlaUq.lean ====
abbrev S2x2048x256 : Shape := ⟨3, ![2, 2048, 256]⟩
abbrev S256x1536 : Shape := ⟨2, ![256, 1536]⟩
abbrev S4096x256 : Shape := ⟨2, ![4096, 256]⟩
abbrev S256x16x96 : Shape := ⟨3, ![256, 16, 96]⟩
abbrev S_ : Shape := ⟨0, ![]⟩
abbrev S256x16x128 : Shape := ⟨3, ![256, 16, 128]⟩
abbrev S256x2048 : Shape := ⟨2, ![256, 2048]⟩
abbrev S4096x2048 : Shape := ⟨2, ![4096, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 11
  | .vmem => 6
  | .smem => 0
  | _ => 0

abbrev bufTy : (tb : Table) → Fin (tcTables nBuf tb) → BufTy
  | .hbm, ⟨0, _⟩ => ⟨S2x2048x256, .f32⟩
  | .hbm, ⟨1, _⟩ => ⟨S256x1536, .f32⟩
  | .hbm, ⟨2, _⟩ => ⟨S4096x256, .f32⟩
  | .hbm, ⟨3, _⟩ => ⟨S4096x256, .bf16⟩
  | .hbm, ⟨4, _⟩ => ⟨S256x16x96, .f32⟩
  | .hbm, ⟨5, _⟩ => ⟨S_, .i32⟩
  | .hbm, ⟨6, _⟩ => ⟨S_, .f32⟩
  | .hbm, ⟨7, _⟩ => ⟨S256x16x128, .f32⟩
  | .hbm, ⟨8, _⟩ => ⟨S256x2048, .f32⟩
  | .hbm, ⟨9, _⟩ => ⟨S256x2048, .bf16⟩
  | .hbm, ⟨10, _⟩ => ⟨S4096x2048, .bf16⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUqReferenceIdeal.lean ====
abbrev S2x2048x256 : Shape := ⟨3, ![2, 2048, 256]⟩
abbrev S256x1536 : Shape := ⟨2, ![256, 1536]⟩
abbrev S2x2048x1536 : Shape := ⟨3, ![2, 2048, 1536]⟩
abbrev S2x2048x16x96 : Shape := ⟨4, ![2, 2048, 16, 96]⟩
abbrev S_ : Shape := ⟨0, ![]⟩
abbrev S2x2048x16x128 : Shape := ⟨4, ![2, 2048, 16, 128]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S256x1536, .f32⟩
  | .hbm, ⟨2, _⟩ => ⟨S2x2048x1536, .f32⟩
  | .hbm, ⟨3, _⟩ => ⟨S2x2048x16x96, .f32⟩
  | .hbm, ⟨4, _⟩ => ⟨S_, .i32⟩
  | .hbm, ⟨5, _⟩ => ⟨S_, .f32⟩
  | .hbm, ⟨6, _⟩ => ⟨S2x2048x16x128, .f32⟩
  | .hbm, ⟨7, _⟩ => ⟨S4096x2048, .f32⟩
  | .hbm, ⟨8, _⟩ => ⟨S4096x2048, .bf16⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MlaUkv.lean ====
abbrev S2x2048x128 : Shape := ⟨3, ![2, 2048, 128]⟩
abbrev S128x2048 : Shape := ⟨2, ![128, 2048]⟩
abbrev S4096x128 : Shape := ⟨2, ![4096, 128]⟩
abbrev S4096x2048 : Shape := ⟨2, ![4096, 2048]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x2048x128, .f32⟩
  | .hbm, ⟨1, _⟩ => ⟨S128x2048, .f32⟩
  | .hbm, ⟨2, _⟩ => ⟨S4096x128, .f32⟩
  | .hbm, ⟨3, _⟩ => ⟨S4096x128, .bf16⟩
  | .hbm, ⟨4, _⟩ => ⟨S128x2048, .bf16⟩
  | .hbm, ⟨5, _⟩ => ⟨S4096x2048, .bf16⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S128x1024, .bf16⟩
  | .local _ .vmem, ⟨4, _⟩ => ⟨S1024x1024, .bf16⟩
  | .local _ .vmem, ⟨5, _⟩ => ⟨S1024x1024, .bf16⟩
  | _, _ => ⟨S2x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUkvReferenceIdeal.lean ====
abbrev S2x2048x128 : Shape := ⟨3, ![2, 2048, 128]⟩
abbrev S128x2048 : Shape := ⟨2, ![128, 2048]⟩
abbrev S2x2048x2048 : Shape := ⟨3, ![2, 2048, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2x2048x128, .f32⟩
  | .hbm, ⟨1, _⟩ => ⟨S128x2048, .f32⟩
  | .hbm, ⟨2, _⟩ => ⟨S2x2048x2048, .f32⟩
  | .hbm, ⟨3, _⟩ => ⟨S4096x2048, .f32⟩
  | .hbm, ⟨4, _⟩ => ⟨S4096x2048, .bf16⟩
  | _, _ => ⟨S2x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mlp1.lean ====
abbrev S2x2048x1024 : Shape := ⟨3, ![2, 2048, 1024]⟩
abbrev S1024x4096 : Shape := ⟨2, ![1024, 4096]⟩
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S4096x1024, .f32⟩
  | .hbm, ⟨3, _⟩ => ⟨S4096x1024, .bf16⟩
  | .hbm, ⟨4, _⟩ => ⟨S1024x4096, .bf16⟩
  | .hbm, ⟨5, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mlp1ReferenceIdeal.lean ====
abbrev S2x2048x1024 : Shape := ⟨3, ![2, 2048, 1024]⟩
abbrev S1024x4096 : Shape := ⟨2, ![1024, 4096]⟩
abbrev S2x2048x4096 : Shape := ⟨3, ![2, 2048, 4096]⟩
abbrev S_ : Shape := ⟨0, ![]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S2x2048x4096, .f32⟩
  | .hbm, ⟨3, _⟩ => ⟨S_, .f32⟩
  | .hbm, ⟨4, _⟩ => ⟨S2x2048x4096, .f32⟩
  | .hbm, ⟨5, _⟩ => ⟨S2x2048x4096, .f32⟩
  | .hbm, ⟨6, _⟩ => ⟨S2x2048x4096, .f32⟩
  | .hbm, ⟨7, _⟩ => ⟨S4096x4096, .f32⟩
  | .hbm, ⟨8, _⟩ => ⟨S4096x4096, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Mlp2.lean ====
abbrev S2x2048x4096 : Shape := ⟨3, ![2, 2048, 4096]⟩
abbrev S4096x1024 : Shape := ⟨2, ![4096, 1024]⟩
abbrev S_ : Shape := ⟨0, ![]⟩
abbrev S4096x4096 : Shape := ⟨2, ![4096, 4096]⟩
abbrev S512x4096 : Shape := ⟨2, ![512, 4096]⟩
abbrev S512x1024 : Shape := ⟨2, ![512, 1024]⟩

abbrev nBuf : Space → Nat
  | .hbm => 10
  | .vmem => 5
  | .smem => 0
  | _ => 0

abbrev bufTy : (tb : Table) → Fin (tcTables nBuf tb) → BufTy
  | .hbm, ⟨0, _⟩ => ⟨S2x2048x4096, .f32⟩
  | .hbm, ⟨1, _⟩ => ⟨S4096x1024, .f32⟩
  | .hbm, ⟨2, _⟩ => ⟨S_, .f32⟩
  | .hbm, ⟨3, _⟩ => ⟨S2x2048x4096, .f32⟩
  | .hbm, ⟨4, _⟩ => ⟨S2x2048x4096, .f32⟩
  | .hbm, ⟨5, _⟩ => ⟨S2x2048x4096, .f32⟩
  | .hbm, ⟨6, _⟩ => ⟨S4096x4096, .f32⟩
  | .hbm, ⟨7, _⟩ => ⟨S4096x4096, .bf16⟩
  | .hbm, ⟨8, _⟩ => ⟨S4096x1024, .bf16⟩
  | .hbm, ⟨9, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mlp2ReferenceIdeal.lean ====
abbrev S2x2048x4096 : Shape := ⟨3, ![2, 2048, 4096]⟩
abbrev S4096x1024 : Shape := ⟨2, ![4096, 1024]⟩
abbrev S_ : Shape := ⟨0, ![]⟩
abbrev S2x2048x1024 : Shape := ⟨3, ![2, 2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x1024, .f32⟩
  | .hbm, ⟨2, _⟩ => ⟨S_, .f32⟩
  | .hbm, ⟨3, _⟩ => ⟨S2x2048x4096, .f32⟩
  | .hbm, ⟨4, _⟩ => ⟨S2x2048x4096, .f32⟩
  | .hbm, ⟨5, _⟩ => ⟨S2x2048x4096, .f32⟩
  | .hbm, ⟨6, _⟩ => ⟨S2x2048x1024, .f32⟩
  | .hbm, ⟨7, _⟩ => ⟨S4096x1024, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== ProjDx.lean ====
abbrev S2x2048x1024 : Shape := ⟨3, ![2, 2048, 1024]⟩
abbrev S1024x5552 : Shape := ⟨2, ![1024, 5552]⟩
abbrev S2x2048x5552 : Shape := ⟨3, ![2, 2048, 5552]⟩
abbrev S2x2048x512 : Shape := ⟨3, ![2, 2048, 512]⟩
abbrev S4096x512 : Shape := ⟨2, ![4096, 512]⟩
abbrev S4096x1024 : Shape := ⟨2, ![4096, 1024]⟩
abbrev S2x2048x256 : Shape := ⟨3, ![2, 2048, 256]⟩
abbrev S4096x256 : Shape := ⟨2, ![4096, 256]⟩
abbrev S2x2048x128 : Shape := ⟨3, ![2, 2048, 128]⟩
abbrev S4096x128 : Shape := ⟨2, ![4096, 128]⟩
abbrev S2x2048x16 : Shape := ⟨3, ![2, 2048, 16]⟩
abbrev S_ : Shape := ⟨0, ![]⟩
abbrev S2x2048x32 : Shape := ⟨3, ![2, 2048, 32]⟩
abbrev S1024x3072 : Shape := ⟨2, ![1024, 3072]⟩
abbrev S1024x2048 : Shape := ⟨2, ![1024, 2048]⟩
abbrev S1024x384 : Shape := ⟨2, ![1024, 384]⟩
abbrev S1024x16 : Shape := ⟨2, ![1024, 16]⟩
abbrev S1024x176 : Shape := ⟨2, ![1024, 176]⟩
abbrev S1024x32 : Shape := ⟨2, ![1024, 32]⟩
abbrev S1024x5760 : Shape := ⟨2, ![1024, 5760]⟩
abbrev S8x128 : Shape := ⟨2, ![8, 128]⟩
abbrev S512x512 : Shape := ⟨2, ![512, 512]⟩
abbrev S512x1024 : Shape := ⟨2, ![512, 1024]⟩
abbrev S512x256 : Shape := ⟨2, ![512, 256]⟩
abbrev S512x128 : Shape := ⟨2, ![512, 128]⟩
abbrev S1024x512 : Shape := ⟨2, ![1024, 512]⟩
abbrev S1024x1024 : Shape := ⟨2, ![1024, 1024]⟩
abbrev S1024x256 : Shape := ⟨2, ![1024, 256]⟩
abbrev S1024x128 : Shape := ⟨2, ![1024, 128]⟩

abbrev nBuf : Space → Nat
  | .hbm => 52
  | .vmem => 24
  | .smem => 0
  | _ => 0

abbrev bufTy : (tb : Table) → Fin (tcTables nBuf tb) → BufTy
  | .hbm, ⟨0, _⟩ => ⟨S2x2048x1024, .f32⟩
  | .hbm, ⟨1, _⟩ => ⟨S1024x5552, .f32⟩
  | .hbm, ⟨2, _⟩ => ⟨S2x2048x5552, .f32⟩
  | .hbm, ⟨3, _⟩ => ⟨S2x2048x512, .f32⟩
  | .hbm, ⟨4, _⟩ => ⟨S4096x512, .f32⟩
  | .hbm, ⟨5, _⟩ => ⟨S4096x512, .bf16⟩
  | .hbm, ⟨6, _⟩ => ⟨S2x2048x512, .f32⟩
  | .hbm, ⟨7, _⟩ => ⟨S4096x512, .f32⟩
  | .hbm, ⟨8, _⟩ => ⟨S4096x512, .bf16⟩
  | .hbm, ⟨9, _⟩ => ⟨S2x2048x1024, .f32⟩
  | .hbm, ⟨10, _⟩ => ⟨S4096x1024, .f32⟩
  | .hbm, ⟨11, _⟩ => ⟨S4096x1024, .bf16⟩
  | .hbm, ⟨12, _⟩ => ⟨S2x2048x1024, .f32⟩
  | .hbm, ⟨13, _⟩ => ⟨S4096x1024, .f32⟩
  | .hbm, ⟨14, _⟩ => ⟨S4096x1024, .bf16⟩
  | .hbm, ⟨15, _⟩ => ⟨S2x2048x1024, .f32⟩
  | .hbm, ⟨16, _⟩ => ⟨S4096x1024, .f32⟩
  | .hbm, ⟨17, _⟩ => ⟨S4096x1024, .bf16⟩
  | .hbm, ⟨18, _⟩ => ⟨S2x2048x1024, .f32⟩
  | .hbm, ⟨19, _⟩ => ⟨S4096x1024, .f32⟩
  | .hbm, ⟨20, _⟩ => ⟨S4096x1024, .bf16⟩
  | .hbm, ⟨21, _⟩ => ⟨S2x2048x256, .f32⟩
  | .hbm, ⟨22, _⟩ => ⟨S4096x256, .f32⟩
  | .hbm, ⟨23, _⟩ => ⟨S4096x256, .bf16⟩
  | .hbm, ⟨24, _⟩ => ⟨S2x2048x128, .f32⟩
  | .hbm, ⟨25, _⟩ => ⟨S4096x128, .f32⟩
  | .hbm, ⟨26, _⟩ => ⟨S4096x128, .bf16⟩
  | .hbm, ⟨27, _⟩ => ⟨S2x2048x16, .f32⟩
  | .hbm, ⟨28, _⟩ => ⟨S_, .i32⟩
  | .hbm, ⟨29, _⟩ => ⟨S_, .f32⟩
  | .hbm, ⟨30, _⟩ => ⟨S2x2048x128, .f32⟩
  | .hbm, ⟨31, _⟩ => ⟨S4096x128, .f32⟩
  | .hbm, ⟨32, _⟩ => ⟨S4096x128, .bf16⟩
  | .hbm, ⟨33, _⟩ => ⟨S2x2048x32, .f32⟩
  | .hbm, ⟨34, _⟩ => ⟨S_, .i32⟩
  | .hbm, ⟨35, _⟩ => ⟨S_, .f32⟩
  | .hbm, ⟨36, _⟩ => ⟨S2x2048x128, .f32⟩
  | .hbm, ⟨37, _⟩ => ⟨S4096x128, .f32⟩
  | .hbm, ⟨38, _⟩ => ⟨S1024x3072, .f32⟩
  | .hbm, ⟨39, _⟩ => ⟨S1024x2048, .f32⟩
  | .hbm, ⟨40, _⟩ => ⟨S1024x384, .f32⟩
  | .hbm, ⟨41, _⟩ => ⟨S1024x16, .f32⟩
  | .hbm, ⟨42, _⟩ => ⟨S_, .f32⟩
  | .hbm, ⟨43, _⟩ => ⟨S1024x176, .f32⟩
  | .hbm, ⟨44, _⟩ => ⟨S1024x32, .f32⟩
  | .hbm, ⟨45, _⟩ => ⟨S_, .f32⟩
  | .hbm, ⟨46, _⟩ => ⟨S1024x32, .f32⟩
  | .hbm, ⟨47, _⟩ => ⟨S1024x5760, .f32⟩
  | .hbm, ⟨48, _⟩ => ⟨S1024x5760, .bf16⟩
  | .hbm, ⟨49, _⟩ => ⟨S_, .f32⟩
  | .hbm, ⟨50, _⟩ => ⟨S8x128, .f32⟩
  | .hbm, ⟨51, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x256, .bf16⟩
  | .local _ .vmem, ⟨13, _⟩ => ⟨S512x256, .bf16⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x128, .f32⟩
  | .local _ .vmem, ⟨19, _⟩ => ⟨S512x128, .f32⟩
  | .local _ .vmem, ⟨20, _⟩ => ⟨S1024x5760, .bf16⟩
  | .local _ .vmem, ⟨21, _⟩ => ⟨S8x128, .f32⟩
  | .local _ .vmem, ⟨22, _⟩ => ⟨S512x1024, .f32⟩
  | .local _ .vmem, ⟨23, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_c : Ref sig .tc := ⟨.hbm, 28, rfl⟩
abbrev main_call0_v0 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_c_0 : Ref sig .tc := ⟨.hbm, 34, rfl⟩
abbrev main_call1_v0 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst : Ref sig .tc := ⟨.hbm, 42, rfl⟩
abbrev main_v35 : Ref sig .tc := ⟨.hbm, 43, rfl⟩
abbrev main_v36 : Ref sig .tc := ⟨.hbm, 44, rfl⟩
abbrev main_cst_1 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_2 : Ref sig .tc := ⟨.hbm, 49, rfl⟩
abbrev main_v40 : Ref sig .tc := ⟨.hbm, 50, rfl⟩
abbrev main_v41 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x5760 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjDxReferenceIdeal.lean ====
abbrev S2x2048x1024 : Shape := ⟨3, ![2, 2048, 1024]⟩
abbrev S1024x5552 : Shape := ⟨2, ![1024, 5552]⟩
abbrev S2x2048x5552 : Shape := ⟨3, ![2, 2048, 5552]⟩
abbrev S5552x1024 : Shape := ⟨2, ![5552, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x5552, .f32⟩
  | .hbm, ⟨2, _⟩ => ⟨S2x2048x5552, .f32⟩
  | .hbm, ⟨3, _⟩ => ⟨S2x2048x5552, .f32⟩
  | .hbm, ⟨4, _⟩ => ⟨S5552x1024, .f32⟩
  | .hbm, ⟨5, _⟩ => ⟨S1024x5552, .f32⟩
  | .hbm, ⟨6, _⟩ => ⟨S2x2048x1024, .f32⟩
  | .hbm, ⟨7, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjDwA.lean ====
abbrev S2x2048x1024 : Shape := ⟨3, ![2, 2048, 1024]⟩
abbrev S1024x5552 : Shape := ⟨2, ![1024, 5552]⟩
abbrev S2x2048x5552 : Shape := ⟨3, ![2, 2048, 5552]⟩
abbrev S4096x1024 : Shape := ⟨2, ![4096, 1024]⟩
abbrev S2x2048x512 : Shape := ⟨3, ![2, 2048, 512]⟩
abbrev S4096x512 : Shape := ⟨2, ![4096, 512]⟩
abbrev S2x2048x256 : Shape := ⟨3, ![2, 2048, 256]⟩
abbrev S4096x256 : Shape := ⟨2, ![4096, 256]⟩
abbrev S2x2048x128 : Shape := ⟨3, ![2, 2048, 128]⟩
abbrev S4096x128 : Shape := ⟨2, ![4096, 128]⟩
abbrev S2x2048x16 : Shape := ⟨3, ![2, 2048, 16]⟩
abbrev S_ : Shape := ⟨0, ![]⟩
abbrev S2x2048x32 : Shape := ⟨3, ![2, 2048, 32]⟩
abbrev S1024x3072 : Shape := ⟨2, ![1024, 3072]⟩
abbrev S1024x1024 : Shape := ⟨2, ![1024, 1024]⟩
abbrev S1024x512 : Shape := ⟨2, ![1024, 512]⟩

abbrev nBuf : Space → Nat
  | .hbm => 41
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S1024x5552, .f32⟩
  | .hbm, ⟨2, _⟩ => ⟨S2x2048x5552, .f32⟩
  | .hbm, ⟨3, _⟩ => ⟨S4096x1024, .f32⟩
  | .hbm, ⟨4, _⟩ => ⟨S4096x1024, .bf16⟩
  | .hbm, ⟨5, _⟩ => ⟨S2x2048x512, .f32⟩
  | .hbm, ⟨6, _⟩ => ⟨S4096x512, .f32⟩
  | .hbm, ⟨7, _⟩ => ⟨S4096x512, .bf16⟩
  | .hbm, ⟨8, _⟩ => ⟨S2x2048x512, .f32⟩
  | .hbm, ⟨9, _⟩ => ⟨S4096x512, .f32⟩
  | .hbm, ⟨10, _⟩ => ⟨S4096x512, .bf16⟩
  | .hbm, ⟨11, _⟩ => ⟨S2x2048x1024, .f32⟩
  | .hbm, ⟨12, _⟩ => ⟨S4096x1024, .f32⟩
  | .hbm, ⟨13, _⟩ => ⟨S4096x1024, .bf16⟩
  | .hbm, ⟨14, _⟩ => ⟨S2x2048x1024, .f32⟩
  | .hbm, ⟨15, _⟩ => ⟨S4096x1024, .f32⟩
  | .hbm, ⟨16, _⟩ => ⟨S4096x1024, .bf16⟩
  | .hbm, ⟨17, _⟩ => ⟨S2x2048x1024, .f32⟩
  | .hbm, ⟨18, _⟩ => ⟨S4096x1024, .f32⟩
  | .hbm, ⟨19, _⟩ => ⟨S4096x1024, .bf16⟩
  | .hbm, ⟨20, _⟩ => ⟨S2x2048x1024, .f32⟩
  | .hbm, ⟨21, _⟩ => ⟨S4096x1024, .f32⟩
  | .hbm, ⟨22, _⟩ => ⟨S4096x1024, .bf16⟩
  | .hbm, ⟨23, _⟩ => ⟨S2x2048x256, .f32⟩
  | .hbm, ⟨24, _⟩ => ⟨S4096x256, .f32⟩
  | .hbm, ⟨25, _⟩ => ⟨S4096x256, .bf16⟩
  | .hbm, ⟨26, _⟩ => ⟨S2x2048x128, .f32⟩
  | .hbm, ⟨27, _⟩ => ⟨S4096x128, .f32⟩
  | .hbm, ⟨28, _⟩ => ⟨S4096x128, .bf16⟩
  | .hbm, ⟨29, _⟩ => ⟨S2x2048x16, .f32⟩
  | .hbm, ⟨30, _⟩ => ⟨S_, .i32⟩
  | .hbm, ⟨31, _⟩ => ⟨S_, .f32⟩
  | .hbm, ⟨32, _⟩ => ⟨S2x2048x128, .f32⟩
  | .hbm, ⟨33, _⟩ => ⟨S4096x128, .f32⟩
  | .hbm, ⟨34, _⟩ => ⟨S4096x128, .bf16⟩
  | .hbm, ⟨35, _⟩ => ⟨S2x2048x32, .f32⟩
  | .hbm, ⟨36, _⟩ => ⟨S_, .i32⟩
  | .hbm, ⟨37, _⟩ => ⟨S_, .f32⟩
  | .hbm, ⟨38, _⟩ => ⟨S2x2048x128, .f32⟩
  | .hbm, ⟨39, _⟩ => ⟨S4096x128, .f32⟩
  | .hbm, ⟨40, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x3072, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_c : Ref sig .tc := ⟨.hbm, 30, rfl⟩
abbrev main_call0_v0 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_c_0 : Ref sig .tc := ⟨.hbm, 36, rfl⟩
abbrev main_call1_v0 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v6 : BitVec 32 := Scalar.extui v0
  let c0_i32_3 : BitVec 32 := 0#32
  let v7 : BitVec 1 := Scalar.cmpi .ne v6 c0_i32_3
  v7

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v8 : BitVec 1 := Scalar.xori v0 v_true
  let v9 : BitVec 32 := Scalar.extui v8
  let c0_i32_4 : BitVec 32 := 0#32
  let v10 : BitVec 1 := Scalar.cmpi .ne v9 c0_i32_4
  v10

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v14 : BitVec 32 := Scalar.extui v0
  let c0_i32_8 : BitVec 32 := 0#32
  let v15 : BitVec 1 := Scalar.cmpi .ne v14 c0_i32_8
  v15

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_9 : BitVec 1 := 1#1
  let v16 : BitVec 1 := Scalar.xori v0 true_9
  let v17 : BitVec 32 := Scalar.extui v16
  let c0_i32_10 : BitVec 32 := 0#32
  let v18 : BitVec 1 := Scalar.cmpi .ne v17 c0_i32_10
  v18

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v22 : BitVec 32 := Scalar.extui v0
  let c0_i32_14 : BitVec 32 := 0#32
  let v23 : BitVec 1 := Scalar.cmpi .ne v22 c0_i32_14
  v23

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_15 : BitVec 1 := 1#1
  let v24 : BitVec 1 := Scalar.xori v0 true_15
  let v25 : BitVec 32 := Scalar.extui v24
  let c0_i32_16 : BitVec 32 := 0#32
  let v26 : BitVec 1 := Scalar.cmpi .ne v25 c0_i32_16
  v26

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v30 : BitVec 32 := Scalar.extui v0
  let c0_i32_20 : BitVec 32 := 0#32
  let v31 : BitVec 1 := Scalar.cmpi .ne v30 c0_i32_20
  v31

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_21 : BitVec 1 := 1#1
  let v32 : BitVec 1 := Scalar.xori v0 true_21
  let v33 : BitVec 32 := Scalar.extui v32
  let c0_i32_22 : BitVec 32 := 0#32
  let v34 : BitVec 1 := Scalar.cmpi .ne v33 c0_i32_22
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ProjDwAReferenceIdeal.lean ====
abbrev S2x2048x1024 : Shape := ⟨3, ![2, 2048, 1024]⟩
abbrev S1024x5552 : Shape := ⟨2, ![1024, 5552]⟩
abbrev S2x2048x5552 : Shape := ⟨3, ![2, 2048, 5552]⟩
abbrev S5552x1024 : Shape := ⟨2, ![5552, 1024]⟩
abbrev S1024x3072 : Shape := ⟨2, ![1024, 3072]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x5552, .f32⟩
  | .hbm, ⟨2, _⟩ => ⟨S2x2048x5552, .f32⟩
  | .hbm, ⟨3, _⟩ => ⟨S2x2048x5552, .f32⟩
  | .hbm, ⟨4, _⟩ => ⟨S5552x1024, .f32⟩
  | .hbm, ⟨5, _⟩ => ⟨S1024x5552, .f32⟩
  | .hbm, ⟨6, _⟩ => ⟨S2x2048x1024, .f32⟩
  | .hbm, ⟨7, _⟩ => ⟨S1024x3072, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjDwB.lean ====
abbrev S2x2048x1024 : Shape := ⟨3, ![2, 2048, 1024]⟩
abbrev S1024x5552 : Shape := ⟨2, ![1024, 5552]⟩
abbrev S2x2048x5552 : Shape := ⟨3, ![2, 2048, 5552]⟩
abbrev S4096x1024 : Shape := ⟨2, ![4096, 1024]⟩
abbrev S2x2048x512 : Shape := ⟨3, ![2, 2048, 512]⟩
abbrev S4096x512 : Shape := ⟨2, ![4096, 512]⟩
abbrev S2x2048x256 : Shape := ⟨3, ![2, 2048, 256]⟩
abbrev S4096x256 : Shape := ⟨2, ![4096, 256]⟩
abbrev S2x2048x128 : Shape := ⟨3, ![2, 2048, 128]⟩
abbrev S4096x128 : Shape := ⟨2, ![4096, 128]⟩
abbrev S2x2048x16 : Shape := ⟨3, ![2, 2048, 16]⟩
abbrev S_ : Shape := ⟨0, ![]⟩
abbrev S2x2048x32 : Shape := ⟨3, ![2, 2048, 32]⟩
abbrev S1024x2688 : Shape := ⟨2, ![1024, 2688]⟩
abbrev S1024x1024 : Shape := ⟨2, ![1024, 1024]⟩
abbrev S1024x256 : Shape := ⟨2, ![1024, 256]⟩
abbrev S1024x128 : Shape := ⟨2, ![1024, 128]⟩

abbrev nBuf : Space → Nat
  | .hbm => 41
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S1024x5552, .f32⟩
  | .hbm, ⟨2, _⟩ => ⟨S2x2048x5552, .f32⟩
  | .hbm, ⟨3, _⟩ => ⟨S4096x1024, .f32⟩
  | .hbm, ⟨4, _⟩ => ⟨S4096x1024, .bf16⟩
  | .hbm, ⟨5, _⟩ => ⟨S2x2048x512, .f32⟩
  | .hbm, ⟨6, _⟩ => ⟨S4096x512, .f32⟩
  | .hbm, ⟨7, _⟩ => ⟨S4096x512, .bf16⟩
  | .hbm, ⟨8, _⟩ => ⟨S2x2048x512, .f32⟩
  | .hbm, ⟨9, _⟩ => ⟨S4096x512, .f32⟩
  | .hbm, ⟨10, _⟩ => ⟨S4096x512, .bf16⟩
  | .hbm, ⟨11, _⟩ => ⟨S2x2048x1024, .f32⟩
  | .hbm, ⟨12, _⟩ => ⟨S4096x1024, .f32⟩
  | .hbm, ⟨13, _⟩ => ⟨S4096x1024, .bf16⟩
  | .hbm, ⟨14, _⟩ => ⟨S2x2048x1024, .f32⟩
  | .hbm, ⟨15, _⟩ => ⟨S4096x1024, .f32⟩
  | .hbm, ⟨16, _⟩ => ⟨S4096x1024, .bf16⟩
  | .hbm, ⟨17, _⟩ => ⟨S2x2048x1024, .f32⟩
  | .hbm, ⟨18, _⟩ => ⟨S4096x1024, .f32⟩
  | .hbm, ⟨19, _⟩ => ⟨S4096x1024, .bf16⟩
  | .hbm, ⟨20, _⟩ => ⟨S2x2048x1024, .f32⟩
  | .hbm, ⟨21, _⟩ => ⟨S4096x1024, .f32⟩
  | .hbm, ⟨22, _⟩ => ⟨S4096x1024, .bf16⟩
  | .hbm, ⟨23, _⟩ => ⟨S2x2048x256, .f32⟩
  | .hbm, ⟨24, _⟩ => ⟨S4096x256, .f32⟩
  | .hbm, ⟨25, _⟩ => ⟨S4096x256, .bf16⟩
  | .hbm, ⟨26, _⟩ => ⟨S2x2048x128, .f32⟩
  | .hbm, ⟨27, _⟩ => ⟨S4096x128, .f32⟩
  | .hbm, ⟨28, _⟩ => ⟨S4096x128, .bf16⟩
  | .hbm, ⟨29, _⟩ => ⟨S2x2048x16, .f32⟩
  | .hbm, ⟨30, _⟩ => ⟨S_, .i32⟩
  | .hbm, ⟨31, _⟩ => ⟨S_, .f32⟩
  | .hbm, ⟨32, _⟩ => ⟨S2x2048x128, .f32⟩
  | .hbm, ⟨33, _⟩ => ⟨S4096x128, .f32⟩
  | .hbm, ⟨34, _⟩ => ⟨S4096x128, .bf16⟩
  | .hbm, ⟨35, _⟩ => ⟨S2x2048x32, .f32⟩
  | .hbm, ⟨36, _⟩ => ⟨S_, .i32⟩
  | .hbm, ⟨37, _⟩ => ⟨S_, .f32⟩
  | .hbm, ⟨38, _⟩ => ⟨S2x2048x128, .f32⟩
  | .hbm, ⟨39, _⟩ => ⟨S4096x128, .f32⟩
  | .hbm, ⟨40, _⟩ => ⟨S1024x2688, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x256, .bf16⟩
  | .local _ .vmem, ⟨7, _⟩ => ⟨S1024x256, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .f32⟩
  | .local _ .vmem, ⟨13, _⟩ => ⟨S1024x128, .f32⟩
  | .local _ .vmem, ⟨14, _⟩ => ⟨S1024x2688, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_c : Ref sig .tc := ⟨.hbm, 30, rfl⟩
abbrev main_call0_v0 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_c_0 : Ref sig .tc := ⟨.hbm, 36, rfl⟩
abbrev main_call1_v0 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v6 : BitVec 32 := Scalar.extui v0
  let c0_i32_3 : BitVec 32 := 0#32
  let v7 : BitVec 1 := Scalar.cmpi .ne v6 c0_i32_3
  v7

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v8 : BitVec 1 := Scalar.xori v0 v_true
  let v9 : BitVec 32 := Scalar.extui v8
  let c0_i32_4 : BitVec 32 := 0#32
  let v10 : BitVec 1 := Scalar.cmpi .ne v9 c0_i32_4
  v10

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v14 : BitVec 32 := Scalar.extui v0
  let c0_i32_8 : BitVec 32 := 0#32
  let v15 : BitVec 1 := Scalar.cmpi .ne v14 c0_i32_8
  v15

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_9 : BitVec 1 := 1#1
  let v16 : BitVec 1 := Scalar.xori v0 true_9
  let v17 : BitVec 32 := Scalar.extui v16
  let c0_i32_10 : BitVec 32 := 0#32
  let v18 : BitVec 1 := Scalar.cmpi .ne v17 c0_i32_10
  v18

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v22 : BitVec 32 := Scalar.extui v0
  let c0_i32_14 : BitVec 32 := 0#32
  let v23 : BitVec 1 := Scalar.cmpi .ne v22 c0_i32_14
  v23

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_15 : BitVec 1 := 1#1
  let v24 : BitVec 1 := Scalar.xori v0 true_15
  let v25 : BitVec 32 := Scalar.extui v24
  let c0_i32_16 : BitVec 32 := 0#32
  let v26 : BitVec 1 := Scalar.cmpi .ne v25 c0_i32_16
  v26

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v30 : BitVec 32 := Scalar.extui v0
  let c0_i32_20 : BitVec 32 := 0#32
  let v31 : BitVec 1 := Scalar.cmpi .ne v30 c0_i32_20
  v31

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_21 : BitVec 1 := 1#1
  let v32 : BitVec 1 := Scalar.xori v0 true_21
  let v33 : BitVec 32 := Scalar.extui v32
  let c0_i32_22 : BitVec 32 := 0#32
  let v34 : BitVec 1 := Scalar.cmpi .ne v33 c0_i32_22
  v34

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v38 : BitVec 32 := Scalar.extui v0
  let c0_i32_26 : BitVec 32 := 0#32
  let v39 : BitVec 1 := Scalar.cmpi .ne v38 c0_i32_26
  v39

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let true_27 : BitVec 1 := 1#1
  let v40 : BitVec 1 := Scalar.xori v0 true_27
  let v41 : BitVec 32 := Scalar.extui v40
  let c0_i32_28 : BitVec 32 := 0#32
  let v42 : BitVec 1 := Scalar.cmpi .ne v41 c0_i32_28
  v42

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let v47 : BitVec 32 := Scalar.extui v0
  let c0_i32_32 : BitVec 32 := 0#32
  let v48 : BitVec 1 := Scalar.cmpi .ne v47 c0_i32_32
  v48

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let true_33 : BitVec 1 := 1#1
  let v49 : BitVec 1 := Scalar.xori v0 true_33
  let v50 : BitVec 32 := Scalar.extui v49
  let c0_i32_34 : BitVec 32 := 0#32
  let v51 : BitVec 1 := Scalar.cmpi .ne v50 c0_i32_34
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2688 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ProjDwBReferenceIdeal.lean ====
abbrev S2x2048x1024 : Shape := ⟨3, ![2, 2048, 1024]⟩
abbrev S1024x5552 : Shape := ⟨2, ![1024, 5552]⟩
abbrev S2x2048x5552 : Shape := ⟨3, ![2, 2048, 5552]⟩
abbrev S5552x1024 : Shape := ⟨2, ![5552, 1024]⟩
abbrev S1024x3072 : Shape := ⟨2, ![1024, 3072]⟩
abbrev S1024x16 : Shape := ⟨2, ![1024, 16]⟩
abbrev S1024x384 : Shape := ⟨2, ![1024, 384]⟩
abbrev S1024x32 : Shape := ⟨2, ![1024, 32]⟩
abbrev S1024x2048 : Shape := ⟨2, ![1024, 2048]⟩
abbrev S_ : Shape := ⟨0, ![]⟩
abbrev S1024x176 : Shape := ⟨2, ![1024, 176]⟩
abbrev S1024x5760 : Shape := ⟨2, ![1024, 5760]⟩
abbrev S1024x2688 : Shape := ⟨2, ![1024, 2688]⟩

abbrev nBuf : Space → Nat
  | .hbm => 18
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x5552, .f32⟩
  | .hbm, ⟨2, _⟩ => ⟨S2x2048x5552, .f32⟩
  | .hbm, ⟨3, _⟩ => ⟨S2x2048x5552, .f32⟩
  | .hbm, ⟨4, _⟩ => ⟨S5552x1024, .f32⟩
  | .hbm, ⟨5, _⟩ => ⟨S1024x5552, .f32⟩
  | .hbm, ⟨6, _⟩ => ⟨S2x2048x1024, .f32⟩
  | .hbm, ⟨7, _⟩ => ⟨S1024x3072, .f32⟩
  | .hbm, ⟨8, _⟩ => ⟨S1024x16, .f32⟩
  | .hbm, ⟨9, _⟩ => ⟨S1024x384, .f32⟩
  | .hbm, ⟨10, _⟩ => ⟨S1024x32, .f32⟩
  | .hbm, ⟨11, _⟩ => ⟨S1024x2048, .f32⟩
  | .hbm, ⟨12, _⟩ => ⟨S_, .f32⟩
  | .hbm, ⟨13, _⟩ => ⟨S1024x176, .f32⟩
  | .hbm, ⟨14, _⟩ => ⟨S_, .f32⟩
  | .hbm, ⟨15, _⟩ => ⟨S1024x32, .f32⟩
  | .hbm, ⟨16, _⟩ => ⟨S1024x5760, .f32⟩
  | .hbm, ⟨17, _⟩ => ⟨S1024x2688, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proj.lean ====
abbrev S2x2048x1024 : Shape := ⟨3, ![2, 2048, 1024]⟩
abbrev S1024x5552 : Shape := ⟨2, ![1024, 5552]⟩
abbrev S4096x1024 : Shape := ⟨2, ![4096, 1024]⟩
abbrev S1024x3072 : Shape := ⟨2, ![1024, 3072]⟩
abbrev S1024x2048 : Shape := ⟨2, ![1024, 2048]⟩
abbrev S1024x384 : Shape := ⟨2, ![1024, 384]⟩
abbrev S1024x16 : Shape := ⟨2, ![1024, 16]⟩
abbrev S_ : Shape := ⟨0, ![]⟩
abbrev S1024x176 : Shape := ⟨2, ![1024, 176]⟩
abbrev S1024x32 : Shape := ⟨2, ![1024, 32]⟩
abbrev S1024x5760 : Shape := ⟨2, ![1024, 5760]⟩
abbrev S4096x5760 : Shape := ⟨2, ![4096, 5760]⟩
abbrev S1024x1024 : Shape := ⟨2, ![1024, 1024]⟩
abbrev S1024x1152 : Shape := ⟨2, ![1024, 1152]⟩

abbrev nBuf : Space → Nat
  | .hbm => 16
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S1024x5552, .f32⟩
  | .hbm, ⟨2, _⟩ => ⟨S4096x1024, .f32⟩
  | .hbm, ⟨3, _⟩ => ⟨S4096x1024, .bf16⟩
  | .hbm, ⟨4, _⟩ => ⟨S1024x3072, .f32⟩
  | .hbm, ⟨5, _⟩ => ⟨S1024x2048, .f32⟩
  | .hbm, ⟨6, _⟩ => ⟨S1024x384, .f32⟩
  | .hbm, ⟨7, _⟩ => ⟨S1024x16, .f32⟩
  | .hbm, ⟨8, _⟩ => ⟨S_, .f32⟩
  | .hbm, ⟨9, _⟩ => ⟨S1024x176, .f32⟩
  | .hbm, ⟨10, _⟩ => ⟨S1024x32, .f32⟩
  | .hbm, ⟨11, _⟩ => ⟨S_, .f32⟩
  | .hbm, ⟨12, _⟩ => ⟨S1024x32, .f32⟩
  | .hbm, ⟨13, _⟩ => ⟨S1024x5760, .f32⟩
  | .hbm, ⟨14, _⟩ => ⟨S1024x5760, .bf16⟩
  | .hbm, ⟨15, _⟩ => ⟨S4096x5760, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .bf16⟩
  | .local _ .vmem, ⟨5, _⟩ => ⟨S1024x1152, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjReferenceIdeal.lean ====
abbrev S2x2048x1024 : Shape := ⟨3, ![2, 2048, 1024]⟩
abbrev S1024x5552 : Shape := ⟨2, ![1024, 5552]⟩
abbrev S2x2048x5552 : Shape := ⟨3, ![2, 2048, 5552]⟩
abbrev S2x2048x3072 : Shape := ⟨3, ![2, 2048, 3072]⟩
abbrev S2x2048x16 : Shape := ⟨3, ![2, 2048, 16]⟩
abbrev S2x2048x384 : Shape := ⟨3, ![2, 2048, 384]⟩
abbrev S2x2048x32 : Shape := ⟨3, ![2, 2048, 32]⟩
abbrev S2x2048x2048 : Shape := ⟨3, ![2, 2048, 2048]⟩
abbrev S_ : Shape := ⟨0, ![]⟩
abbrev S2x2048x176 : Shape := ⟨3, ![2, 2048, 176]⟩
abbrev S2x2048x5760 : Shape := ⟨3, ![2, 2048, 5760]⟩
abbrev S4096x5760 : Shape := ⟨2, ![4096, 5760]⟩

abbrev nBuf : Space → Nat
  | .hbm => 15
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x5552, .f32⟩
  | .hbm, ⟨2, _⟩ => ⟨S2x2048x5552, .f32⟩
  | .hbm, ⟨3, _⟩ => ⟨S2x2048x3072, .f32⟩
  | .hbm, ⟨4, _⟩ => ⟨S2x2048x16, .f32⟩
  | .hbm, ⟨5, _⟩ => ⟨S2x2048x384, .f32⟩
  | .hbm, ⟨6, _⟩ => ⟨S2x2048x32, .f32⟩
  | .hbm, ⟨7, _⟩ => ⟨S2x2048x2048, .f32⟩
  | .hbm, ⟨8, _⟩ => ⟨S_, .f32⟩
  | .hbm, ⟨9, _⟩ => ⟨S2x2048x176, .f32⟩
  | .hbm, ⟨10, _⟩ => ⟨S_, .f32⟩
  | .hbm, ⟨11, _⟩ => ⟨S2x2048x32, .f32⟩
  | .hbm, ⟨12, _⟩ => ⟨S2x2048x5760, .f32⟩
  | .hbm, ⟨13, _⟩ => ⟨S4096x5760, .f32⟩
  | .hbm, ⟨14, _⟩ => ⟨S4096x5760, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== MergeBwd.lean ====
abbrev S2x2048x2048 : Shape := ⟨3, ![2, 2048, 2048]⟩
abbrev S1x2048 : Shape := ⟨2, ![1, 2048]⟩
abbrev S2x2048x1024 : Shape := ⟨3, ![2, 2048, 1024]⟩
abbrev S_ : Shape := ⟨0, ![]⟩
abbrev S2x2048x5760 : Shape := ⟨3, ![2, 2048, 5760]⟩
abbrev S1x1024 : Shape := ⟨2, ![1, 1024]⟩
abbrev S1x512x1024 : Shape := ⟨3, ![1, 512, 1024]⟩
abbrev S512x1024 : Shape := ⟨2, ![512, 1024]⟩
abbrev S1024 : Shape := ⟨1, ![1024]⟩

abbrev nBuf : Space → Nat
  | .hbm => 18
  | .vmem => 22
  | .smem => 0
  | _ => 0

abbrev bufTy : (tb : Table) → Fin (tcTables nBuf tb) → BufTy
  | .hbm, ⟨0, _⟩ => ⟨S2x2048x2048, .f32⟩
  | .hbm, ⟨1, _⟩ => ⟨S1x2048, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S2x2048x1024, .bf16⟩
  | .hbm, ⟨6, _⟩ => ⟨S_, .i32⟩
  | .hbm, ⟨7, _⟩ => ⟨S_, .f32⟩
  | .hbm, ⟨8, _⟩ => ⟨S2x2048x5760, .f32⟩
  | .hbm, ⟨9, _⟩ => ⟨S2x2048x5760, .bf16⟩
  | .hbm, ⟨10, _⟩ => ⟨S2x2048x1024, .bf16⟩
  | .hbm, ⟨11, _⟩ => ⟨S2x2048x1024, .bf16⟩
  | .hbm, ⟨12, _⟩ => ⟨S2x2048x1024, .bf16⟩
  | .hbm, ⟨13, _⟩ => ⟨S2x2048x1024, .bf16⟩
  | .hbm, ⟨14, _⟩ => ⟨S2x2048x1024, .bf16⟩
  | .hbm, ⟨15, _⟩ => ⟨S2x2048x1024, .bf16⟩
  | .hbm, ⟨16, _⟩ => ⟨S1x1024, .f32⟩
  | .hbm, ⟨17, _⟩ => ⟨S1x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x1024, .f32⟩
  | .local _ .vmem, ⟨7, _⟩ => ⟨S1x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x1024, .f32⟩
  | .local _ .vmem, ⟨21, _⟩ => ⟨S1x1024, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== MergeBwdReferenceIdeal.lean ====
abbrev S2x2048x2048 : Shape := ⟨3, ![2, 2048, 2048]⟩
abbrev S1x2048 : Shape := ⟨2, ![1, 2048]⟩
abbrev S2x2048x1024 : Shape := ⟨3, ![2, 2048, 1024]⟩
abbrev S1x1x2048 : Shape := ⟨3, ![1, 1, 2048]⟩
abbrev S_ : Shape := ⟨0, ![]⟩
abbrev S2048 : Shape := ⟨1, ![2048]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S1x2048, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S1x1x2048, .f32⟩
  | .hbm, ⟨6, _⟩ => ⟨S2x2048x2048, .f32⟩
  | .hbm, ⟨7, _⟩ => ⟨S2x2048x2048, .f32⟩
  | .hbm, ⟨8, _⟩ => ⟨S2x2048x2048, .f32⟩
  | .hbm, ⟨9, _⟩ => ⟨S2x2048x2048, .f32⟩
  | .hbm, ⟨10, _⟩ => ⟨S_, .f32⟩
  | .hbm, ⟨11, _⟩ => ⟨S2x2048x2048, .f32⟩
  | .hbm, ⟨12, _⟩ => ⟨S2x2048x2048, .f32⟩
  | .hbm, ⟨13, _⟩ => ⟨S_, .f32⟩
  | .hbm, ⟨14, _⟩ => ⟨S2x2048x2048, .f32⟩
  | .hbm, ⟨15, _⟩ => ⟨S2x2048x2048, .f32⟩
  | .hbm, ⟨16, _⟩ => ⟨S_, .f32⟩
  | .hbm, ⟨17, _⟩ => ⟨S2x2048x2048, .f32⟩
  | .hbm, ⟨18, _⟩ => ⟨S2x2048x2048, .f32⟩
  | .hbm, ⟨19, _⟩ => ⟨S2x2048x2048, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S_, .f32⟩
  | .hbm, ⟨32, _⟩ => ⟨S2x2048x2048, .f32⟩
  | .hbm, ⟨33, _⟩ => ⟨S_, .f32⟩
  | .hbm, ⟨34, _⟩ => ⟨S2x2048x2048, .f32⟩
  | .hbm, ⟨35, _⟩ => ⟨S2x2048x2048, .f32⟩
  | .hbm, ⟨36, _⟩ => ⟨S2x2048x2048, .f32⟩
  | .hbm, ⟨37, _⟩ => ⟨S_, .f32⟩
  | .hbm, ⟨38, _⟩ => ⟨S2048, .f32⟩
  | .hbm, ⟨39, _⟩ => ⟨S1x1x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S2x2048x1024, .bf16⟩
  | .hbm, ⟨44, _⟩ => ⟨S2x2048x1024, .bf16⟩
  | .hbm, ⟨45, _⟩ => ⟨S2x2048x1024, .f32⟩
  | .hbm, ⟨46, _⟩ => ⟨S2x2048x1024, .bf16⟩
  | .hbm, ⟨47, _⟩ => ⟨S2x2048x1024, .f32⟩
  | .hbm, ⟨48, _⟩ => ⟨S2x2048x1024, .bf16⟩
  | .hbm, ⟨49, _⟩ => ⟨S1x1024, .f32⟩
  | .hbm, ⟨50, _⟩ => ⟨S1x1024, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== MergeFwd.lean ====
abbrev S2x2048x2048 : Shape := ⟨3, ![2, 2048, 2048]⟩
abbrev S1x2048 : Shape := ⟨2, ![1, 2048]⟩
abbrev S2x2048x1024 : Shape := ⟨3, ![2, 2048, 1024]⟩
abbrev S_ : Shape := ⟨0, ![]⟩
abbrev S2x2048x5760 : Shape := ⟨3, ![2, 2048, 5760]⟩
abbrev S1x512x1024 : Shape := ⟨3, ![1, 512, 1024]⟩
abbrev S1x1024 : Shape := ⟨2, ![1, 1024]⟩
abbrev S512x1024 : Shape := ⟨2, ![512, 1024]⟩

abbrev nBuf : Space → Nat
  | .hbm => 11
  | .vmem => 12
  | .smem => 0
  | _ => 0

abbrev bufTy : (tb : Table) → Fin (tcTables nBuf tb) → BufTy
  | .hbm, ⟨0, _⟩ => ⟨S2x2048x2048, .f32⟩
  | .hbm, ⟨1, _⟩ => ⟨S1x2048, .f32⟩
  | .hbm, ⟨2, _⟩ => ⟨S2x2048x1024, .f32⟩
  | .hbm, ⟨3, _⟩ => ⟨S2x2048x1024, .f32⟩
  | .hbm, ⟨4, _⟩ => ⟨S_, .i32⟩
  | .hbm, ⟨5, _⟩ => ⟨S_, .f32⟩
  | .hbm, ⟨6, _⟩ => ⟨S2x2048x5760, .f32⟩
  | .hbm, ⟨7, _⟩ => ⟨S2x2048x5760, .bf16⟩
  | .hbm, ⟨8, _⟩ => ⟨S2x2048x1024, .bf16⟩
  | .hbm, ⟨9, _⟩ => ⟨S2x2048x1024, .bf16⟩
  | .hbm, ⟨10, _⟩ => ⟨S2x2048x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1024, .f32⟩
  | .local _ .vmem, ⟨5, _⟩ => ⟨S1x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeFwdReferenceIdeal.lean ====
abbrev S2x2048x2048 : Shape := ⟨3, ![2, 2048, 2048]⟩
abbrev S1x2048 : Shape := ⟨2, ![1, 2048]⟩
abbrev S2x2048x1024 : Shape := ⟨3, ![2, 2048, 1024]⟩
abbrev S1x1x2048 : Shape := ⟨3, ![1, 1, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S1x2048, .f32⟩
  | .hbm, ⟨2, _⟩ => ⟨S2x2048x1024, .f32⟩
  | .hbm, ⟨3, _⟩ => ⟨S2x2048x1024, .f32⟩
  | .hbm, ⟨4, _⟩ => ⟨S1x1x2048, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S2x2048x2048, .f32⟩
  | .hbm, ⟨9, _⟩ => ⟨S_, .f32⟩
  | .hbm, ⟨10, _⟩ => ⟨S2x2048x2048, .f32⟩
  | .hbm, ⟨11, _⟩ => ⟨S2x2048x2048, .f32⟩
  | .hbm, ⟨12, _⟩ => ⟨S_, .f32⟩
  | .hbm, ⟨13, _⟩ => ⟨S2x2048x2048, .f32⟩
  | .hbm, ⟨14, _⟩ => ⟨S2x2048x2048, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S2x2048x1024, .f32⟩
  | .hbm, ⟨20, _⟩ => ⟨S2x2048x1024, .bf16⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== AlphaDx.lean ====
abbrev S2x2048x16 : Shape := ⟨3, ![2, 2048, 16]⟩
abbrev S16x512 : Shape := ⟨2, ![16, 512]⟩
abbrev S2x2048x512 : Shape := ⟨3, ![2, 2048, 512]⟩
abbrev S_ : Shape := ⟨0, ![]⟩
abbrev S128x512 : Shape := ⟨2, ![128, 512]⟩
abbrev S4096x512 : Shape := ⟨2, ![4096, 512]⟩
abbrev S4096x128 : Shape := ⟨2, ![4096, 128]⟩
abbrev S1024x512 : Shape := ⟨2, ![1024, 512]⟩
abbrev S1024x128 : Shape := ⟨2, ![1024, 128]⟩

abbrev nBuf : Space → Nat
  | .hbm => 9
  | .vmem => 5
  | .smem => 0
  | _ => 0

abbrev bufTy : (tb : Table) → Fin (tcTables nBuf tb) → BufTy
  | .hbm, ⟨0, _⟩ => ⟨S2x2048x16, .f32⟩
  | .hbm, ⟨1, _⟩ => ⟨S16x512, .f32⟩
  | .hbm, ⟨2, _⟩ => ⟨S2x2048x512, .f32⟩
  | .hbm, ⟨3, _⟩ => ⟨S_, .i32⟩
  | .hbm, ⟨4, _⟩ => ⟨S_, .f32⟩
  | .hbm, ⟨5, _⟩ => ⟨S128x512, .f32⟩
  | .hbm, ⟨6, _⟩ => ⟨S4096x512, .f32⟩
  | .hbm, ⟨7, _⟩ => ⟨S4096x512, .bf16⟩
  | .hbm, ⟨8, _⟩ => ⟨S4096x128, .bf16⟩
  | .local _ .vmem, ⟨0, _⟩ => ⟨S1024x512, .bf16⟩
  | .local _ .vmem, ⟨1, _⟩ => ⟨S1024x512, .bf16⟩
  | .local _ .vmem, ⟨2, _⟩ => ⟨S128x512, .f32⟩
  | .local _ .vmem, ⟨3, _⟩ => ⟨S1024x128, .bf16⟩
  | .local _ .vmem, ⟨4, _⟩ => ⟨S1024x128, .bf16⟩
  | _, _ => ⟨S2x2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AlphaDxReferenceIdeal.lean ====
abbrev S2x2048x16 : Shape := ⟨3, ![2, 2048, 16]⟩
abbrev S16x512 : Shape := ⟨2, ![16, 512]⟩
abbrev S2x2048x512 : Shape := ⟨3, ![2, 2048, 512]⟩
abbrev S512x16 : Shape := ⟨2, ![512, 16]⟩
abbrev S_ : Shape := ⟨0, ![]⟩
abbrev S2x2048x128 : Shape := ⟨3, ![2, 2048, 128]⟩
abbrev S4096x128 : Shape := ⟨2, ![4096, 128]⟩

abbrev nBuf : Space → Nat
  | .hbm => 12
  | .vmem => 0
  | .smem => 0
  | _ => 0

abbrev bufTy : (tb : Table) → Fin (tcTables nBuf tb) → BufTy
  | .hbm, ⟨0, _⟩ => ⟨S2x2048x16, .f32⟩
  | .hbm, ⟨1, _⟩ => ⟨S16x512, .f32⟩
  | .hbm, ⟨2, _⟩ => ⟨S2x2048x512, .f32⟩
  | .hbm, ⟨3, _⟩ => ⟨S2x2048x512, .f32⟩
  | .hbm, ⟨4, _⟩ => ⟨S512x16, .f32⟩
  | .hbm, ⟨5, _⟩ => ⟨S16x512, .f32⟩
  | .hbm, ⟨6, _⟩ => ⟨S2x2048x16, .f32⟩
  | .hbm, ⟨7, _⟩ => ⟨S_, .i32⟩
  | .hbm, ⟨8, _⟩ => ⟨S_, .f32⟩
  | .hbm, ⟨9, _⟩ => ⟨S2x2048x128, .f32⟩
  | .hbm, ⟨10, _⟩ => ⟨S4096x128, .f32⟩
  | .hbm, ⟨11, _⟩ => ⟨S4096x128, .bf16⟩
  | _, _ => ⟨S2x2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== AlphaDw.lean ====
abbrev S2x2048x16 : Shape := ⟨3, ![2, 2048, 16]⟩
abbrev S16x512 : Shape := ⟨2, ![16, 512]⟩
abbrev S2x2048x512 : Shape := ⟨3, ![2, 2048, 512]⟩
abbrev S4096x16 : Shape := ⟨2, ![4096, 16]⟩
abbrev S_ : Shape := ⟨0, ![]⟩
abbrev S4096x128 : Shape := ⟨2, ![4096, 128]⟩
abbrev S4096x512 : Shape := ⟨2, ![4096, 512]⟩
abbrev S128x512 : Shape := ⟨2, ![128, 512]⟩

abbrev nBuf : Space → Nat
  | .hbm => 11
  | .vmem => 3
  | .smem => 0
  | _ => 0

abbrev bufTy : (tb : Table) → Fin (tcTables nBuf tb) → BufTy
  | .hbm, ⟨0, _⟩ => ⟨S2x2048x16, .f32⟩
  | .hbm, ⟨1, _⟩ => ⟨S16x512, .f32⟩
  | .hbm, ⟨2, _⟩ => ⟨S2x2048x512, .f32⟩
  | .hbm, ⟨3, _⟩ => ⟨S4096x16, .f32⟩
  | .hbm, ⟨4, _⟩ => ⟨S4096x16, .bf16⟩
  | .hbm, ⟨5, _⟩ => ⟨S_, .i32⟩
  | .hbm, ⟨6, _⟩ => ⟨S_, .bf16⟩
  | .hbm, ⟨7, _⟩ => ⟨S4096x128, .bf16⟩
  | .hbm, ⟨8, _⟩ => ⟨S4096x512, .f32⟩
  | .hbm, ⟨9, _⟩ => ⟨S4096x512, .bf16⟩
  | .hbm, ⟨10, _⟩ => ⟨S128x512, .f32⟩
  | .local _ .vmem, ⟨0, _⟩ => ⟨S4096x128, .bf16⟩
  | .local _ .vmem, ⟨1, _⟩ => ⟨S4096x512, .bf16⟩
  | .local _ .vmem, ⟨2, _⟩ => ⟨S128x512, .f32⟩
  | _, _ => ⟨S2x2048x16, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AlphaDwReferenceIdeal.lean ====
abbrev S2x2048x16 : Shape := ⟨3, ![2, 2048, 16]⟩
abbrev S16x512 : Shape := ⟨2, ![16, 512]⟩
abbrev S2x2048x512 : Shape := ⟨3, ![2, 2048, 512]⟩
abbrev S512x16 : Shape := ⟨2, ![512, 16]⟩
abbrev S_ : Shape := ⟨0, ![]⟩
abbrev S128x512 : Shape := ⟨2, ![128, 512]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x16, .f32⟩
  | .hbm, ⟨1, _⟩ => ⟨S16x512, .f32⟩
  | .hbm, ⟨2, _⟩ => ⟨S2x2048x512, .f32⟩
  | .hbm, ⟨3, _⟩ => ⟨S2x2048x512, .f32⟩
  | .hbm, ⟨4, _⟩ => ⟨S512x16, .f32⟩
  | .hbm, ⟨5, _⟩ => ⟨S16x512, .f32⟩
  | .hbm, ⟨6, _⟩ => ⟨S2x2048x16, .f32⟩
  | .hbm, ⟨7, _⟩ => ⟨S_, .i32⟩
  | .hbm, ⟨8, _⟩ => ⟨S_, .f32⟩
  | .hbm, ⟨9, _⟩ => ⟨S128x512, .f32⟩
  | _, _ => ⟨S2x2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== GlaFwd.lean ====
abbrev S2x2048x512 : Shape := ⟨3, ![2, 2048, 512]⟩
abbrev S2x2048x1024 : Shape := ⟨3, ![2, 2048, 1024]⟩
abbrev S2x2048x16 : Shape := ⟨3, ![2, 2048, 16]⟩
abbrev S16x512 : Shape := ⟨2, ![16, 512]⟩
abbrev S1x512 : Shape := ⟨2, ![1, 512]⟩
abbrev S1x256 : Shape := ⟨2, ![1, 256]⟩
abbrev S_ : Shape := ⟨0, ![]⟩
abbrev S128x512 : Shape := ⟨2, ![128, 512]⟩
abbrev S2x2048x2432 : Shape := ⟨3, ![2, 2048, 2432]⟩
abbrev S2x2048x240 : Shape := ⟨3, ![2, 2048, 240]⟩
abbrev S2x2048x5760 : Shape := ⟨3, ![2, 2048, 5760]⟩
abbrev S2x4x32x256x128 : Shape := ⟨5, ![2, 4, 32, 256, 128]⟩
abbrev S1x2048x128 : Shape := ⟨3, ![1, 2048, 128]⟩
abbrev S1x2048x256 : Shape := ⟨3, ![1, 2048, 256]⟩
abbrev S128x128 : Shape := ⟨2, ![128, 128]⟩
abbrev S1x128 : Shape := ⟨2, ![1, 128]⟩
abbrev S1x1x32x256x128 : Shape := ⟨5, ![1, 1, 32, 256, 128]⟩
abbrev S2048x128 : Shape := ⟨2, ![2048, 128]⟩
abbrev S64x64 : Shape := ⟨2, ![64, 64]⟩
abbrev S256x128 : Shape := ⟨2, ![256, 128]⟩
abbrev S64x128 : Shape := ⟨2, ![64, 128]⟩
abbrev S128 : Shape := ⟨1, ![128]⟩
abbrev S1x64x128 : Shape := ⟨3, ![1, 64, 128]⟩
abbrev S1x64x256 : Shape := ⟨3, ![1, 64, 256]⟩
abbrev S64x256 : Shape := ⟨2, ![64, 256]⟩
abbrev S1x1x1x256x128 : Shape := ⟨5, ![1, 1, 1, 256, 128]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩

abbrev nBuf : Space → Nat
  | .hbm => 20
  | .vmem => 21
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x1024, .f32⟩
  | .hbm, ⟨3, _⟩ => ⟨S2x2048x1024, .f32⟩
  | .hbm, ⟨4, _⟩ => ⟨S2x2048x16, .f32⟩
  | .hbm, ⟨5, _⟩ => ⟨S16x512, .f32⟩
  | .hbm, ⟨6, _⟩ => ⟨S1x512, .f32⟩
  | .hbm, ⟨7, _⟩ => ⟨S1x256, .f32⟩
  | .hbm, ⟨8, _⟩ => ⟨S_, .i32⟩
  | .hbm, ⟨9, _⟩ => ⟨S_, .f32⟩
  | .hbm, ⟨10, _⟩ => ⟨S128x512, .f32⟩
  | .hbm, ⟨11, _⟩ => ⟨S_, .f32⟩
  | .hbm, ⟨12, _⟩ => ⟨S2x2048x2432, .f32⟩
  | .hbm, ⟨13, _⟩ => ⟨S_, .f32⟩
  | .hbm, ⟨14, _⟩ => ⟨S2x2048x240, .f32⟩
  | .hbm, ⟨15, _⟩ => ⟨S2x2048x5760, .f32⟩
  | .hbm, ⟨16, _⟩ => ⟨S2x2048x5760, .bf16⟩
  | .hbm, ⟨17, _⟩ => ⟨S2x2048x1024, .f32⟩
  | .hbm, ⟨18, _⟩ => ⟨S2x2048x1024, .bf16⟩
  | .hbm, ⟨19, _⟩ => ⟨S2x4x32x256x128, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x128, .bf16⟩
  | .local _ .vmem, ⟨9, _⟩ => ⟨S1x2048x128, .bf16⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S1x128, .f32⟩
  | .local _ .vmem, ⟨14, _⟩ => ⟨S1x256, .f32⟩
  | .local _ .vmem, ⟨15, _⟩ => ⟨S1x2048x256, .f32⟩
  | .local _ .vmem, ⟨16, _⟩ => ⟨S1x2048x256, .f32⟩
  | .local _ .vmem, ⟨17, _⟩ => ⟨S1x2048x256, .bf16⟩
  | .local _ .vmem, ⟨18, _⟩ => ⟨S1x2048x256, .bf16⟩
  | .local _ .vmem, ⟨19, _⟩ => ⟨S1x1x32x256x128, .f32⟩
  | .local _ .vmem, ⟨20, _⟩ => ⟨S1x1x32x256x128, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c43_i32 : BitVec 32 := 43#32
  let c0_i32_0 : BitVec 32 := 0#32
  ![arg1.toNat, c0_i32.toNat, c43_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, arg0.toNat, c0_i32.toNat, c0_i32_0.toNat, c0_i32_1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x32x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== GlaFwdReferenceIdeal.lean ====
abbrev S2x2048x512 : Shape := ⟨3, ![2, 2048, 512]⟩
abbrev S2x2048x1024 : Shape := ⟨3, ![2, 2048, 1024]⟩
abbrev S2x2048x16 : Shape := ⟨3, ![2, 2048, 16]⟩
abbrev S16x512 : Shape := ⟨2, ![16, 512]⟩
abbrev S1x512 : Shape := ⟨2, ![1, 512]⟩
abbrev S1x256 : Shape := ⟨2, ![1, 256]⟩
abbrev S2x32x64x4x128 : Shape := ⟨5, ![2, 32, 64, 4, 128]⟩
abbrev S_ : Shape := ⟨0, ![]⟩
abbrev S2x32x64x4x256 : Shape := ⟨5, ![2, 32, 64, 4, 256]⟩
abbrev S1x1x512 : Shape := ⟨3, ![1, 1, 512]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S1x1x64x64x1x1 : Shape := ⟨6, ![1, 1, 64, 64, 1, 1]⟩
abbrev S2x32x1x64x4x128 : Shape := ⟨6, ![2, 32, 1, 64, 4, 128]⟩
abbrev S2x32x64x64x4x128 : Shape := ⟨6, ![2, 32, 64, 64, 4, 128]⟩
abbrev S2x32x1x4x128 : Shape := ⟨5, ![2, 32, 1, 4, 128]⟩
abbrev S2x32x4x128 : Shape := ⟨4, ![2, 32, 4, 128]⟩
abbrev S32x2x4x128x256 : Shape := ⟨5, ![32, 2, 4, 128, 256]⟩
abbrev S32x2x4x128 : Shape := ⟨4, ![32, 2, 4, 128]⟩
abbrev S2x4x128x256 : Shape := ⟨4, ![2, 4, 128, 256]⟩
abbrev S32x2x64x4x128 : Shape := ⟨5, ![32, 2, 64, 4, 128]⟩
abbrev S32x2x64x4x256 : Shape := ⟨5, ![32, 2, 64, 4, 256]⟩
abbrev S1x2x4x128 : Shape := ⟨4, ![1, 2, 4, 128]⟩
abbrev S2x4x128 : Shape := ⟨3, ![2, 4, 128]⟩
abbrev S1x2x4x128x256 : Shape := ⟨5, ![1, 2, 4, 128, 256]⟩
abbrev S1x2x64x4x128 : Shape := ⟨5, ![1, 2, 64, 4, 128]⟩
abbrev S2x64x4x128 : Shape := ⟨4, ![2, 64, 4, 128]⟩
abbrev S2x4x128x1 : Shape := ⟨4, ![2, 4, 128, 1]⟩
abbrev S2x4x256x64 : Shape := ⟨4, ![2, 4, 256, 64]⟩
abbrev S2x64x4x256 : Shape := ⟨4, ![2, 64, 4, 256]⟩
abbrev S1x2x64x4x256 : Shape := ⟨5, ![1, 2, 64, 4, 256]⟩
abbrev S2x2048x4x256 : Shape := ⟨4, ![2, 2048, 4, 256]⟩
abbrev S2x2048x4 : Shape := ⟨3, ![2, 2048, 4]⟩
abbrev S2x2048x4x1 : Shape := ⟨4, ![2, 2048, 4, 1]⟩
abbrev S1x1x1x256 : Shape := ⟨4, ![1, 1, 1, 256]⟩
abbrev S2x4x32x256x128 : Shape := ⟨5, ![2, 4, 32, 256, 128]⟩

abbrev nBuf : Space → Nat
  | .hbm => 151
  | .vmem => 0
  | .smem => 0
  | _ => 0

abbrev hbmTy0_0 (i : Nat) : BufTy := match i % 128 with
  | 0 => ⟨S2x2048x512, .f32⟩
  | 1 => ⟨S2x2048x512, .f32⟩
  | 2 => ⟨S2x2048x1024, .f32⟩
  | 3 => ⟨S2x2048x1024, .f32⟩
  | 4 => ⟨S2x2048x16, .f32⟩
  | 5 => ⟨S16x512, .f32⟩
  | 6 => ⟨S1x512, .f32⟩
  | 7 => ⟨S1x256, .f32⟩
  | 8 => ⟨S2x32x64x4x128, .f32⟩
  | 9 => ⟨S_, .f32⟩
  | 10 => ⟨S2x32x64x4x128, .f32⟩
  | 11 => ⟨S2x32x64x4x128, .f32⟩
  | 12 => ⟨S2x32x64x4x128, .f32⟩
  | 13 => ⟨S2x32x64x4x256, .f32⟩
  | 14 => ⟨S2x2048x512, .f32⟩
  | 15 => ⟨S1x1x512, .f32⟩
  | 16 => ⟨S2x2048x512, .f32⟩
  | 17 => ⟨S2x2048x512, .f32⟩
  | 18 => ⟨S2x2048x512, .f32⟩
  | 19 => ⟨S_, .f32⟩
  | 20 => ⟨S2x2048x512, .f32⟩
  | 21 => ⟨S2x2048x512, .f32⟩
  | 22 => ⟨S2x2048x512, .f32⟩
  | 23 => ⟨S2x2048x512, .f32⟩
  | 24 => ⟨S2x2048x512, .i1⟩
  | 25 => ⟨S2x2048x512, .f32⟩
  | 26 => ⟨S2x2048x512, .f32⟩
  | 27 => ⟨S2x2048x512, .f32⟩
  | 28 => ⟨S2x2048x512, .f32⟩
  | 29 => ⟨S2x2048x512, .f32⟩
  | 30 => ⟨S2x2048x512, .f32⟩
  | 31 => ⟨S2x2048x512, .f32⟩
  | 32 => ⟨S2x2048x512, .f32⟩
  | 33 => ⟨S2x2048x512, .f32⟩
  | 34 => ⟨S_, .f32⟩
  | 35 => ⟨S2x2048x512, .f32⟩
  | 36 => ⟨S2x2048x512, .f32⟩
  | 37 => ⟨S2x32x64x4x128, .f32⟩
  | 38 => ⟨S64, .i32⟩
  | 39 => ⟨S1x64, .i32⟩
  | 40 => ⟨S64x1, .i32⟩
  | 41 => ⟨S64x64, .i32⟩
  | 42 => ⟨S64x64, .i32⟩
  | 43 => ⟨S64x64, .i1⟩
  | 44 => ⟨S1x1x64x64x1x1, .i1⟩
  | 45 => ⟨S2x32x1x64x4x128, .f32⟩
  | 46 => ⟨S_, .f32⟩
  | 47 => ⟨S_, .f32⟩
  | 48 => ⟨S2x32x64x64x4x128, .i1⟩
  | 49 => ⟨S2x32x64x64x4x128, .f32⟩
  | 50 => ⟨S2x32x64x64x4x128, .f32⟩
  | 51 => ⟨S2x32x64x64x4x128, .f32⟩
  | 52 => ⟨S_, .f32⟩
  | 53 => ⟨S2x32x64x4x128, .f32⟩
  | 54 => ⟨S2x32x1x4x128, .f32⟩
  | 55 => ⟨S2x32x4x128, .f32⟩
  | 56 => ⟨S2x32x1x4x128, .f32⟩
  | 57 => ⟨S2x32x64x4x128, .f32⟩
  | 58 => ⟨S2x32x64x4x128, .f32⟩
  | 59 => ⟨S2x32x64x4x128, .f32⟩
  | 60 => ⟨S2x32x64x4x128, .f32⟩
  | 61 => ⟨S32x2x4x128x256, .f32⟩
  | 62 => ⟨S2x32x4x128, .f32⟩
  | 63 => ⟨S32x2x4x128, .f32⟩
  | 64 => ⟨S_, .f32⟩
  | 65 => ⟨S2x4x128x256, .f32⟩
  | 66 => ⟨S32x2x64x4x128, .f32⟩
  | 67 => ⟨S_, .f32⟩
  | 68 => ⟨S32x2x4x128x256, .f32⟩
  | 69 => ⟨S_, .f32⟩
  | 70 => ⟨S32x2x64x4x256, .f32⟩
  | 71 => ⟨S_, .i32⟩
  | 72 => ⟨S32x2x4x128, .f32⟩
  | 73 => ⟨S32x2x4x128x256, .f32⟩
  | 74 => ⟨S32x2x64x4x128, .f32⟩
  | 75 => ⟨S_, .i32⟩
  | 76 => ⟨S2x4x128x256, .f32⟩
  | 77 => ⟨S32x2x4x128x256, .f32⟩
  | 78 => ⟨S32x2x64x4x256, .f32⟩
  | 79 => ⟨S_, .i32⟩
  | 80 => ⟨S_, .i1⟩
  | 81 => ⟨S_, .i32⟩
  | 82 => ⟨S_, .i32⟩
  | 83 => ⟨S_, .i32⟩
  | 84 => ⟨S1x2x4x128, .f32⟩
  | 85 => ⟨S2x4x128, .f32⟩
  | 86 => ⟨S_, .i32⟩
  | 87 => ⟨S_, .i32⟩
  | 88 => ⟨S_, .i32⟩
  | 89 => ⟨S_, .i32⟩
  | 90 => ⟨S1x2x4x128x256, .f32⟩
  | 91 => ⟨S2x4x128x256, .f32⟩
  | 92 => ⟨S_, .i32⟩
  | 93 => ⟨S_, .i32⟩
  | 94 => ⟨S_, .i32⟩
  | 95 => ⟨S_, .i32⟩
  | 96 => ⟨S1x2x64x4x128, .f32⟩
  | 97 => ⟨S2x64x4x128, .f32⟩
  | 98 => ⟨S2x4x128x1, .f32⟩
  | 99 => ⟨S2x4x128x256, .f32⟩
  | 100 => ⟨S2x4x128x256, .f32⟩
  | 101 => ⟨S2x4x128x256, .f32⟩
  | 102 => ⟨S2x4x256x64, .f32⟩
  | 103 => ⟨S2x64x4x256, .f32⟩
  | 104 => ⟨S1x2x4x128x256, .f32⟩
  | 105 => ⟨S_, .i32⟩
  | 106 => ⟨S_, .i32⟩
  | 107 => ⟨S_, .i32⟩
  | 108 => ⟨S_, .i32⟩
  | 109 => ⟨S32x2x4x128x256, .f32⟩
  | 110 => ⟨S1x2x64x4x256, .f32⟩
  | 111 => ⟨S_, .i32⟩
  | 112 => ⟨S_, .i32⟩
  | 113 => ⟨S_, .i32⟩
  | 114 => ⟨S_, .i32⟩
  | 115 => ⟨S32x2x64x4x256, .f32⟩
  | 116 => ⟨S_, .i32⟩
  | 117 => ⟨S_, .i32⟩
  | 118 => ⟨S2x32x64x4x256, .f32⟩
  | 119 => ⟨S2x2048x4x256, .f32⟩
  | 120 => ⟨S2x2048x4x256, .f32⟩
  | 121 => ⟨S_, .f32⟩
  | 122 => ⟨S2x2048x4, .f32⟩
  | 123 => ⟨S2x2048x4x1, .f32⟩
  | 124 => ⟨S_, .f32⟩
  | 125 => ⟨S2x2048x4x1, .f32⟩
  | 126 => ⟨S2x2048x4x1, .f32⟩
  | 127 => ⟨S_, .f32⟩
  | _ => ⟨S2x2048x512, .f32⟩

abbrev hbmTy0_1 (i : Nat) : BufTy := match i % 128 with
  | 0 => ⟨S2x2048x4x1, .f32⟩
  | 1 => ⟨S2x2048x4x1, .f32⟩
  | 2 => ⟨S2x2048x4x1, .f32⟩
  | 3 => ⟨S2x2048x4x256, .f32⟩
  | 4 => ⟨S2x2048x4x256, .f32⟩
  | 5 => ⟨S1x1x1x256, .f32⟩
  | 6 => ⟨S2x2048x4x256, .f32⟩
  | 7 => ⟨S2x2048x4x256, .f32⟩
  | 8 => ⟨S2x2048x4x256, .f32⟩
  | 9 => ⟨S2x2048x4x256, .f32⟩
  | 10 => ⟨S2x2048x4x256, .f32⟩
  | 11 => ⟨S_, .f32⟩
  | 12 => ⟨S2x2048x4x256, .f32⟩
  | 13 => ⟨S2x2048x4x256, .f32⟩
  | 14 => ⟨S_, .f32⟩
  | 15 => ⟨S2x2048x4x256, .f32⟩
  | 16 => ⟨S2x2048x4x256, .f32⟩
  | 17 => ⟨S2x2048x4x256, .f32⟩
  | 18 => ⟨S2x2048x4x256, .f32⟩
  | 19 => ⟨S2x2048x1024, .f32⟩
  | 20 => ⟨S2x2048x1024, .f32⟩
  | 21 => ⟨S2x2048x1024, .bf16⟩
  | 22 => ⟨S2x4x32x256x128, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v9 : Ref sig .tc := ⟨.hbm, 33, rfl⟩
abbrev main_cst_0 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_1 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_v21 : Ref sig .tc := ⟨.hbm, 51, rfl⟩
abbrev main_cst_2 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_3 : Ref sig .tc := ⟨.hbm, 64, rfl⟩
abbrev main_v33 : Ref sig .tc := ⟨.hbm, 65, rfl⟩
abbrev main_v34 : Ref sig .tc := ⟨.hbm, 66, rfl⟩
abbrev main_cst_4 : Ref sig .tc := ⟨.hbm, 67, rfl⟩
abbrev main_v35 : Ref sig .tc := ⟨.hbm, 68, rfl⟩
abbrev main_cst_5 : Ref sig .tc := ⟨.hbm, 69, rfl⟩
abbrev main_v36 : Ref sig .tc := ⟨.hbm, 70, rfl⟩
abbrev main_c : Ref sig .tc := ⟨.hbm, 71, rfl⟩
abbrev main_v37_0 : Ref sig .tc := ⟨.hbm, 72, rfl⟩
abbrev main_v37_1 : Ref sig .tc := ⟨.hbm, 73, rfl⟩
abbrev main_v37_2 : Ref sig .tc := ⟨.hbm, 74, rfl⟩
abbrev main_v37_3 : Ref sig .tc := ⟨.hbm, 75, rfl⟩
abbrev main_v37_4 : Ref sig .tc := ⟨.hbm, 76, rfl⟩
abbrev main_v37_5 : Ref sig .tc := ⟨.hbm, 77, rfl⟩
abbrev main_v37_6 : Ref sig .tc := ⟨.hbm, 78, rfl⟩
abbrev main_while0c_c_15 : Ref sig .tc := ⟨.hbm, 79, rfl⟩
abbrev main_while0c_v60 : Ref sig .tc := ⟨.hbm, 80, rfl⟩
abbrev main_while0b_call2_c : Ref sig .tc := ⟨.hbm, 81, rfl⟩
abbrev main_while0b_call2_c_0 : Ref sig .tc := ⟨.hbm, 82, rfl⟩
abbrev main_while0b_call2_c_1 : Ref sig .tc := ⟨.hbm, 83, rfl⟩
abbrev main_while0b_call2_v0 : Ref sig .tc := ⟨.hbm, 84, rfl⟩
abbrev main_while0b_v60 : Ref sig .tc := ⟨.hbm, 85, rfl⟩
abbrev main_while0b_call3_c : Ref sig .tc := ⟨.hbm, 86, rfl⟩
abbrev main_while0b_call3_c_0 : Ref sig .tc := ⟨.hbm, 87, rfl⟩
abbrev main_while0b_call3_c_1 : Ref sig .tc := ⟨.hbm, 88, rfl⟩
abbrev main_while0b_call3_c_2 : Ref sig .tc := ⟨.hbm, 89, rfl⟩
abbrev main_while0b_call3_v0 : Ref sig .tc := ⟨.hbm, 90, rfl⟩
abbrev main_while0b_v61 : Ref sig .tc := ⟨.hbm, 91, rfl⟩
abbrev main_while0b_call4_c : Ref sig .tc := ⟨.hbm, 92, rfl⟩
abbrev main_while0b_call4_c_0 : Ref sig .tc := ⟨.hbm, 93, rfl⟩
abbrev main_while0b_call4_c_1 : Ref sig .tc := ⟨.hbm, 94, rfl⟩
abbrev main_while0b_call4_c_2 : Ref sig .tc := ⟨.hbm, 95, rfl⟩
abbrev main_while0b_call4_v0 : Ref sig .tc := ⟨.hbm, 96, rfl⟩
abbrev main_while0b_v62 : Ref sig .tc := ⟨.hbm, 97, rfl⟩
abbrev main_while0b_v63 : Ref sig .tc := ⟨.hbm, 98, rfl⟩
abbrev main_while0b_v64 : Ref sig .tc := ⟨.hbm, 99, rfl⟩
abbrev main_while0b_v65 : Ref sig .tc := ⟨.hbm, 100, rfl⟩
abbrev main_while0b_v66 : Ref sig .tc := ⟨.hbm, 101, rfl⟩
abbrev main_while0b_v67 : Ref sig .tc := ⟨.hbm, 102, rfl⟩
abbrev main_while0b_v68 : Ref sig .tc := ⟨.hbm, 103, rfl⟩
abbrev main_while0b_call5_v0 : Ref sig .tc := ⟨.hbm, 104, rfl⟩
abbrev main_while0b_call5_c : Ref sig .tc := ⟨.hbm, 105, rfl⟩
abbrev main_while0b_call5_c_0 : Ref sig .tc := ⟨.hbm, 106, rfl⟩
abbrev main_while0b_call5_c_1 : Ref sig .tc := ⟨.hbm, 107, rfl⟩
abbrev main_while0b_call5_c_2 : Ref sig .tc := ⟨.hbm, 108, rfl⟩
abbrev main_while0b_v69 : Ref sig .tc := ⟨.hbm, 109, rfl⟩
abbrev main_while0b_call6_v0 : Ref sig .tc := ⟨.hbm, 110, rfl⟩
abbrev main_while0b_call6_c : Ref sig .tc := ⟨.hbm, 111, rfl⟩
abbrev main_while0b_call6_c_0 : Ref sig .tc := ⟨.hbm, 112, rfl⟩
abbrev main_while0b_call6_c_1 : Ref sig .tc := ⟨.hbm, 113, rfl⟩
abbrev main_while0b_call6_c_2 : Ref sig .tc := ⟨.hbm, 114, rfl⟩
abbrev main_while0b_v70 : Ref sig .tc := ⟨.hbm, 115, rfl⟩
abbrev main_while0b_c_15 : Ref sig .tc := ⟨.hbm, 116, rfl⟩
abbrev main_while0b_v71 : Ref sig .tc := ⟨.hbm, 117, rfl⟩
abbrev main_v38 : Ref sig .tc := ⟨.hbm, 118, rfl⟩
abbrev main_v39 : Ref sig .tc := ⟨.hbm, 119, rfl⟩
abbrev main_v40 : Ref sig .tc := ⟨.hbm, 120, rfl⟩
abbrev main_cst_6 : Ref sig .tc := ⟨.hbm, 121, rfl⟩
abbrev main_v41 : Ref sig .tc := ⟨.hbm, 122, rfl⟩
abbrev main_v42 : Ref sig .tc := ⟨.hbm, 123, rfl⟩
abbrev main_cst_7 : Ref sig .tc := ⟨.hbm, 124, rfl⟩
abbrev main_v43 : Ref sig .tc := ⟨.hbm, 125, rfl⟩
abbrev main_v44 : Ref sig .tc := ⟨.hbm, 126, rfl⟩
abbrev main_cst_8 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_v52 : Ref sig .tc := ⟨.hbm, 135, rfl⟩
abbrev main_v53 : Ref sig .tc := ⟨.hbm, 136, rfl⟩
abbrev main_call7_v0 : Ref sig .tc := ⟨.hbm, 137, rfl⟩
abbrev main_call7_v1 : Ref sig .tc := ⟨.hbm, 138, rfl⟩
abbrev main_call7_cst : Ref sig .tc := ⟨.hbm, 139, rfl⟩
abbrev main_call7_v2 : Ref sig .tc := ⟨.hbm, 140, rfl⟩
abbrev main_call7_v3 : Ref sig .tc := ⟨.hbm, 141, rfl⟩
abbrev main_call7_cst_0 : Ref sig .tc := ⟨.hbm, 142, rfl⟩
abbrev main_call7_v4 : Ref sig .tc := ⟨.hbm, 143, rfl⟩
abbrev main_call7_v5 : Ref sig .tc := ⟨.hbm, 144, rfl⟩
abbrev main_v54 : Ref sig .tc := ⟨.hbm, 145, rfl⟩
abbrev main_v55 : Ref sig .tc := ⟨.hbm, 146, rfl⟩
abbrev main_v56 : Ref sig .tc := ⟨.hbm, 147, rfl⟩
abbrev main_v57 : Ref sig .tc := ⟨.hbm, 148, rfl⟩
abbrev main_v58 : Ref sig .tc := ⟨.hbm, 149, rfl⟩
abbrev main_v59 : Ref sig .tc := ⟨.hbm, 150, rfl⟩

abbrev nD : Nat := 1
abbrev τ : Topo := Topo.v7x

variable {F : FTy → Type} [FloatOps F]

abbrev main_while0_count : Scf.Loop 32 := ⟨0#32, 32#32, 1#32⟩
-- ==== Norm1.lean ====
abbrev S2x2048x1024 : Shape := ⟨3, ![2, 2048, 1024]⟩
abbrev S1x1024 : Shape := ⟨2, ![1, 1024]⟩
abbrev S2x1024 : Shape := ⟨2, ![2, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S2x1024, .f32⟩
  | .hbm, ⟨3, _⟩ => ⟨S2x1024, .f32⟩
  | .hbm, ⟨4, _⟩ => ⟨S2x1x1024, .f32⟩
  | .hbm, ⟨5, _⟩ => ⟨S2x1x1024, .f32⟩
  | .hbm, ⟨6, _⟩ => ⟨S2x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .bf16⟩
  | .local _ .vmem, ⟨8, _⟩ => ⟨S1x512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Norm1ReferenceIdeal.lean ====
abbrev S2x2048x1024 : Shape := ⟨3, ![2, 2048, 1024]⟩
abbrev S1x1024 : Shape := ⟨2, ![1, 1024]⟩
abbrev S2x1024 : Shape := ⟨2, ![2, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S2x1024, .f32⟩
  | .hbm, ⟨3, _⟩ => ⟨S2x1024, .f32⟩
  | .hbm, ⟨4, _⟩ => ⟨S1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1024, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x1x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x2048x1024, .f32⟩
  | .hbm, ⟨26, _⟩ => ⟨S2x2048x1024, .f32⟩
  | .hbm, ⟨27, _⟩ => ⟨S2x1x1024, .f32⟩
  | .hbm, ⟨28, _⟩ => ⟨S2x2048x1024, .f32⟩
  | .hbm, ⟨29, _⟩ => ⟨S2x2048x1024, .f32⟩
  | .hbm, ⟨30, _⟩ => ⟨S2x2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Norm2.lean ====
abbrev S2x2048x1024 : Shape := ⟨3, ![2, 2048, 1024]⟩
abbrev S1x1024 : Shape := ⟨2, ![1, 1024]⟩
abbrev S2x1024 : Shape := ⟨2, ![2, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S2x1024, .f32⟩
  | .hbm, ⟨3, _⟩ => ⟨S2x1024, .f32⟩
  | .hbm, ⟨4, _⟩ => ⟨S2x2048x1024, .f32⟩
  | .hbm, ⟨5, _⟩ => ⟨S2x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x2048x1024, .f32⟩
  | .hbm, ⟨10, _⟩ => ⟨S2x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .bf16⟩
  | .local _ .vmem, ⟨14, _⟩ => ⟨S1x512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Norm2ReferenceIdeal.lean ====
abbrev S2x2048x1024 : Shape := ⟨3, ![2, 2048, 1024]⟩
abbrev S1x1024 : Shape := ⟨2, ![1, 1024]⟩
abbrev S2x1024 : Shape := ⟨2, ![2, 1024]⟩
abbrev S2x1x1024 : Shape := ⟨3, ![2, 1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S2x1024, .f32⟩
  | .hbm, ⟨3, _⟩ => ⟨S2x1024, .f32⟩
  | .hbm, ⟨4, _⟩ => ⟨S2x2048x1024, .f32⟩
  | .hbm, ⟨5, _⟩ => ⟨S2x1024, .f32⟩
  | .hbm, ⟨6, _⟩ => ⟨S2x1x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S1024, .f32⟩
  | .hbm, ⟨11, _⟩ => ⟨S2x2048x1024, .f32⟩
  | .hbm, ⟨12, _⟩ => ⟨S_, .f32⟩
  | .hbm, ⟨13, _⟩ => ⟨S2x2048, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S2x2048x1024, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x1x1024, .f32⟩
  | .hbm, ⟨28, _⟩ => ⟨S_, .f32⟩
  | .hbm, ⟨29, _⟩ => ⟨S2x1x1024, .f32⟩
  | .hbm, ⟨30, _⟩ => ⟨S2x1x1024, .f32⟩
  | .hbm, ⟨31, _⟩ => ⟨S2x2048x1024, .f32⟩
  | .hbm, ⟨32, _⟩ => ⟨S2x2048x1024, .f32⟩
  | .hbm, ⟨33, _⟩ => ⟨S2x1x1024, .f32⟩
  | .hbm, ⟨34, _⟩ => ⟨S2x2048x1024, .f32⟩
  | .hbm, ⟨35, _⟩ => ⟨S2x2048x1024, .f32⟩
  | .hbm, ⟨36, _⟩ => ⟨S2x2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== LatNorm.lean ====
abbrev S2x2048x256 : Shape := ⟨3, ![2, 2048, 256]⟩
abbrev S2x2048x128 : Shape := ⟨3, ![2, 2048, 128]⟩
abbrev S1x256 : Shape := ⟨2, ![1, 256]⟩
abbrev S1x128 : Shape := ⟨2, ![1, 128]⟩
abbrev S2x2048x384 : Shape := ⟨3, ![2, 2048, 384]⟩
abbrev S4096x384 : Shape := ⟨2, ![4096, 384]⟩
abbrev S_ : Shape := ⟨0, ![]⟩
abbrev S4096x5760 : Shape := ⟨2, ![4096, 5760]⟩
abbrev S4096x256 : Shape := ⟨2, ![4096, 256]⟩
abbrev S4096x128 : Shape := ⟨2, ![4096, 128]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S2x2048x256, .f32⟩
  | .hbm, ⟨1, _⟩ => ⟨S2x2048x128, .f32⟩
  | .hbm, ⟨2, _⟩ => ⟨S1x256, .f32⟩
  | .hbm, ⟨3, _⟩ => ⟨S1x128, .f32⟩
  | .hbm, ⟨4, _⟩ => ⟨S2x2048x384, .f32⟩
  | .hbm, ⟨5, _⟩ => ⟨S4096x384, .f32⟩
  | .hbm, ⟨6, _⟩ => ⟨S_, .i32⟩
  | .hbm, ⟨7, _⟩ => ⟨S_, .f32⟩
  | .hbm, ⟨8, _⟩ => ⟨S4096x5760, .f32⟩
  | .hbm, ⟨9, _⟩ => ⟨S4096x5760, .bf16⟩
  | .hbm, ⟨10, _⟩ => ⟨S4096x256, .bf16⟩
  | .hbm, ⟨11, _⟩ => ⟨S4096x128, .bf16⟩
  | .local _ .vmem, ⟨0, _⟩ => ⟨S512x256, .bf16⟩
  | .local _ .vmem, ⟨1, _⟩ => ⟨S512x256, .bf16⟩
  | .local _ .vmem, ⟨2, _⟩ => ⟨S512x128, .bf16⟩
  | .local _ .vmem, ⟨3, _⟩ => ⟨S512x128, .bf16⟩
  | .local _ .vmem, ⟨4, _⟩ => ⟨S1x256, .f32⟩
  | .local _ .vmem, ⟨5, _⟩ => ⟨S1x128, .f32⟩
  | .local _ .vmem, ⟨6, _⟩ => ⟨S512x256, .bf16⟩
  | .local _ .vmem, ⟨7, _⟩ => ⟨S512x256, .bf16⟩
  | .local _ .vmem, ⟨8, _⟩ => ⟨S512x128, .bf16⟩
  | .local _ .vmem, ⟨9, _⟩ => ⟨S512x128, .bf16⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_1 (i : grid0.Coords) : Fin 2 → Nat :=
  let arg0 : BitVec 32 := BitVec.ofNat 32 (i 0).val
  let c42_i32 : BitVec 32 := 42#32
  let c0_i32 : BitVec 32 := 0#32
  ![arg0.toNat, c42_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LatNormReferenceIdeal.lean ====
abbrev S2x2048x256 : Shape := ⟨3, ![2, 2048, 256]⟩
abbrev S2x2048x128 : Shape := ⟨3, ![2, 2048, 128]⟩
abbrev S1x256 : Shape := ⟨2, ![1, 256]⟩
abbrev S1x128 : Shape := ⟨2, ![1, 128]⟩
abbrev S256 : Shape := ⟨1, ![256]⟩
abbrev S_ : Shape := ⟨0, ![]⟩
abbrev S2x2048 : Shape := ⟨2, ![2, 2048]⟩
abbrev S2x2048x1 : Shape := ⟨3, ![2, 2048, 1]⟩
abbrev S1x1x256 : Shape := ⟨3, ![1, 1, 256]⟩
abbrev S4096x256 : Shape := ⟨2, ![4096, 256]⟩
abbrev S128 : Shape := ⟨1, ![128]⟩
abbrev S1x1x128 : Shape := ⟨3, ![1, 1, 128]⟩
abbrev S4096x128 : Shape := ⟨2, ![4096, 128]⟩

abbrev nBuf : Space → Nat
  | .hbm => 42
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S2x2048x128, .f32⟩
  | .hbm, ⟨2, _⟩ => ⟨S1x256, .f32⟩
  | .hbm, ⟨3, _⟩ => ⟨S1x128, .f32⟩
  | .hbm, ⟨4, _⟩ => ⟨S256, .f32⟩
  | .hbm, ⟨5, _⟩ => ⟨S2x2048x256, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x256, .f32⟩
  | .hbm, ⟨17, _⟩ => ⟨S2x2048x256, .f32⟩
  | .hbm, ⟨18, _⟩ => ⟨S1x1x256, .f32⟩
  | .hbm, ⟨19, _⟩ => ⟨S2x2048x256, .f32⟩
  | .hbm, ⟨20, _⟩ => ⟨S2x2048x256, .f32⟩
  | .hbm, ⟨21, _⟩ => ⟨S4096x256, .f32⟩
  | .hbm, ⟨22, _⟩ => ⟨S4096x256, .bf16⟩
  | .hbm, ⟨23, _⟩ => ⟨S128, .f32⟩
  | .hbm, ⟨24, _⟩ => ⟨S2x2048x128, .f32⟩
  | .hbm, ⟨25, _⟩ => ⟨S_, .f32⟩
  | .hbm, ⟨26, _⟩ => ⟨S2x2048, .f32⟩
  | .hbm, ⟨27, _⟩ => ⟨S2x2048x1, .f32⟩
  | .hbm, ⟨28, _⟩ => ⟨S_, .f32⟩
  | .hbm, ⟨29, _⟩ => ⟨S2x2048x1, .f32⟩
  | .hbm, ⟨30, _⟩ => ⟨S2x2048x1, .f32⟩
  | .hbm, ⟨31, _⟩ => ⟨S_, .f32⟩
  | .hbm, ⟨32, _⟩ => ⟨S2x2048x1, .f32⟩
  | .hbm, ⟨33, _⟩ => ⟨S2x2048x1, .f32⟩
  | .hbm, ⟨34, _⟩ => ⟨S2x2048x1, .f32⟩
  | .hbm, ⟨35, _⟩ => ⟨S2x2048x128, .f32⟩
  | .hbm, ⟨36, _⟩ => ⟨S2x2048x128, .f32⟩
  | .hbm, ⟨37, _⟩ => ⟨S1x1x128, .f32⟩
  | .hbm, ⟨38, _⟩ => ⟨S2x2048x128, .f32⟩
  | .hbm, ⟨39, _⟩ => ⟨S2x2048x128, .f32⟩
  | .hbm, ⟨40, _⟩ => ⟨S4096x128, .f32⟩
  | .hbm, ⟨41, _⟩ => ⟨S4096x128, .bf16⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== AdamwWAda.lean ====
abbrev S1024x1536 : Shape := ⟨2, ![1024, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwWAdaReferenceIdeal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwWIn.lean ====
abbrev S1024x1388 : Shape := ⟨2, ![1024, 1388]⟩
abbrev S1388x1024 : Shape := ⟨2, ![1388, 1024]⟩
abbrev S1388x128 : Shape := ⟨2, ![1388, 128]⟩

abbrev nBuf : Space → Nat
  | .hbm => 11
  | .vmem => 14
  | .smem => 0
  | _ => 0

abbrev bufTy : (tb : Table) → Fin (tcTables nBuf tb) → BufTy
  | .hbm, ⟨0, _⟩ => ⟨S1024x1388, .f32⟩
  | .hbm, ⟨1, _⟩ => ⟨S1024x1388, .f32⟩
  | .hbm, ⟨2, _⟩ => ⟨S1024x1388, .f32⟩
  | .hbm, ⟨3, _⟩ => ⟨S1024x1388, .f32⟩
  | .hbm, ⟨4, _⟩ => ⟨S1388x1024, .f32⟩
  | .hbm, ⟨5, _⟩ => ⟨S1388x1024, .f32⟩
  | .hbm, ⟨6, _⟩ => ⟨S1388x1024, .f32⟩
  | .hbm, ⟨7, _⟩ => ⟨S1388x1024, .f32⟩
  | .hbm, ⟨8, _⟩ => ⟨S1388x1024, .f32⟩
  | .hbm, ⟨9, _⟩ => ⟨S1388x1024, .f32⟩
  | .hbm, ⟨10, _⟩ => ⟨S1388x1024, .f32⟩
  | .local _ .vmem, ⟨0, _⟩ => ⟨S1388x128, .f32⟩
  | .local _ .vmem, ⟨1, _⟩ => ⟨S1388x128, .f32⟩
  | .local _ .vmem, ⟨2, _⟩ => ⟨S1388x128, .f32⟩
  | .local _ .vmem, ⟨3, _⟩ => ⟨S1388x128, .f32⟩
  | .local _ .vmem, ⟨4, _⟩ => ⟨S1388x128, .f32⟩
  | .local _ .vmem, ⟨5, _⟩ => ⟨S1388x128, .f32⟩
  | .local _ .vmem, ⟨6, _⟩ => ⟨S1388x128, .f32⟩
  | .local _ .vmem, ⟨7, _⟩ => ⟨S1388x128, .f32⟩
  | .local _ .vmem, ⟨8, _⟩ => ⟨S1388x128, .f32⟩
  | .local _ .vmem, ⟨9, _⟩ => ⟨S1388x128, .f32⟩
  | .local _ .vmem, ⟨10, _⟩ => ⟨S1388x128, .f32⟩
  | .local _ .vmem, ⟨11, _⟩ => ⟨S1388x128, .f32⟩
  | .local _ .vmem, ⟨12, _⟩ => ⟨S1388x128, .f32⟩
  | .local _ .vmem, ⟨13, _⟩ => ⟨S1388x128, .f32⟩
  | _, _ => ⟨S1024x1388, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1388x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1388x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1388x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1388x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1388x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1388x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1388x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwWInReferenceIdeal.lean ====
abbrev S1024x1388 : Shape := ⟨2, ![1024, 1388]⟩
abbrev S_ : Shape := ⟨0, ![]⟩
abbrev S1388x1024 : Shape := ⟨2, ![1388, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024x1388, .f32⟩
  | .hbm, ⟨1, _⟩ => ⟨S1024x1388, .f32⟩
  | .hbm, ⟨2, _⟩ => ⟨S1024x1388, .f32⟩
  | .hbm, ⟨3, _⟩ => ⟨S1024x1388, .f32⟩
  | .hbm, ⟨4, _⟩ => ⟨S_, .f32⟩
  | .hbm, ⟨5, _⟩ => ⟨S1024x1388, .f32⟩
  | .hbm, ⟨6, _⟩ => ⟨S1024x1388, .f32⟩
  | .hbm, ⟨7, _⟩ => ⟨S_, .f32⟩
  | .hbm, ⟨8, _⟩ => ⟨S1024x1388, .f32⟩
  | .hbm, ⟨9, _⟩ => ⟨S1024x1388, .f32⟩
  | .hbm, ⟨10, _⟩ => ⟨S1024x1388, .f32⟩
  | .hbm, ⟨11, _⟩ => ⟨S_, .f32⟩
  | .hbm, ⟨12, _⟩ => ⟨S1024x1388, .f32⟩
  | .hbm, ⟨13, _⟩ => ⟨S1024x1388, .f32⟩
  | .hbm, ⟨14, _⟩ => ⟨S1024x1388, .f32⟩
  | .hbm, ⟨15, _⟩ => ⟨S_, .f32⟩
  | .hbm, ⟨16, _⟩ => ⟨S1024x1388, .f32⟩
  | .hbm, ⟨17, _⟩ => ⟨S1024x1388, .f32⟩
  | .hbm, ⟨18, _⟩ => ⟨S1024x1388, .f32⟩
  | .hbm, ⟨19, _⟩ => ⟨S_, .f32⟩
  | .hbm, ⟨20, _⟩ => ⟨S1024x1388, .f32⟩
  | .hbm, ⟨21, _⟩ => ⟨S1024x1388, .f32⟩
  | .hbm, ⟨22, _⟩ => ⟨S_, .f32⟩
  | .hbm, ⟨23, _⟩ => ⟨S1024x1388, .f32⟩
  | .hbm, ⟨24, _⟩ => ⟨S1024x1388, .f32⟩
  | .hbm, ⟨25, _⟩ => ⟨S1024x1388, .f32⟩
  | .hbm, ⟨26, _⟩ => ⟨S_, .f32⟩
  | .hbm, ⟨27, _⟩ => ⟨S1024x1388, .f32⟩
  | .hbm, ⟨28, _⟩ => ⟨S1024x1388, .f32⟩
  | .hbm, ⟨29, _⟩ => ⟨S1024x1388, .f32⟩
  | .hbm, ⟨30, _⟩ => ⟨S_, .f32⟩
  | .hbm, ⟨31, _⟩ => ⟨S1024x1388, .f32⟩
  | .hbm, ⟨32, _⟩ => ⟨S1024x1388, .f32⟩
  | .hbm, ⟨33, _⟩ => ⟨S1024x1388, .f32⟩
  | .hbm, ⟨34, _⟩ => ⟨S_, .f32⟩
  | .hbm, ⟨35, _⟩ => ⟨S1024x1388, .f32⟩
  | .hbm, ⟨36, _⟩ => ⟨S1024x1388, .f32⟩
  | .hbm, ⟨37, _⟩ => ⟨S1388x1024, .f32⟩
  | .hbm, ⟨38, _⟩ => ⟨S1388x1024, .f32⟩
  | .hbm, ⟨39, _⟩ => ⟨S1388x1024, .f32⟩
  | _, _ => ⟨S1024x1388, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AttnFwd.lean ====
abbrev S2x2048x16x96 : Shape := ⟨4, ![2, 2048, 16, 96]⟩
abbrev S2x2048x16x64 : Shape := ⟨4, ![2, 2048, 16, 64]⟩
abbrev S_ : Shape := ⟨0, ![]⟩
abbrev S2x2048x16x128 : Shape := ⟨4, ![2, 2048, 16, 128]⟩
abbrev S2x2048x2048 : Shape := ⟨3, ![2, 2048, 2048]⟩
abbrev S1x2048x128 : Shape := ⟨3, ![1, 2048, 128]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x512x128 : Shape := ⟨3, ![1, 512, 128]⟩
abbrev S512x128 : Shape := ⟨2, ![512, 128]⟩
abbrev S256x512 : Shape := ⟨2, ![256, 512]⟩
abbrev S1x768x128 : Shape := ⟨3, ![1, 768, 128]⟩
abbrev S768x128 : Shape := ⟨2, ![768, 128]⟩
abbrev S256x768 : Shape := ⟨2, ![256, 768]⟩
abbrev S1x1024x128 : Shape := ⟨3, ![1, 1024, 128]⟩
abbrev S1024x128 : Shape := ⟨2, ![1024, 128]⟩
abbrev S256x1024 : Shape := ⟨2, ![256, 1024]⟩
abbrev S1x1280x128 : Shape := ⟨3, ![1, 1280, 128]⟩
abbrev S1280x128 : Shape := ⟨2, ![1280, 128]⟩
abbrev S256x1280 : Shape := ⟨2, ![256, 1280]⟩
abbrev S1x1536x128 : Shape := ⟨3, ![1, 1536, 128]⟩
abbrev S1536x128 : Shape := ⟨2, ![1536, 128]⟩
abbrev S256x1536 : Shape := ⟨2, ![256, 1536]⟩
abbrev S1x1792x128 : Shape := ⟨3, ![1, 1792, 128]⟩
abbrev S1792x128 : Shape := ⟨2, ![1792, 128]⟩
abbrev S256x1792 : Shape := ⟨2, ![256, 1792]⟩

abbrev nBuf : Space → Nat
  | .hbm => 26
  | .vmem => 8
  | .smem => 0
  | _ => 0

abbrev bufTy : (tb : Table) → Fin (tcTables nBuf tb) → BufTy
  | .hbm, ⟨0, _⟩ => ⟨S2x2048x16x96, .f32⟩
  | .hbm, ⟨1, _⟩ => ⟨S2x2048x16x96, .f32⟩
  | .hbm, ⟨2, _⟩ => ⟨S2x2048x16x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x2048x16x96, .f32⟩
  | .hbm, ⟨9, _⟩ => ⟨S2x2048x16x96, .f32⟩
  | .hbm, ⟨10, _⟩ => ⟨S_, .i32⟩
  | .hbm, ⟨11, _⟩ => ⟨S_, .f32⟩
  | .hbm, ⟨12, _⟩ => ⟨S2x2048x16x128, .f32⟩
  | .hbm, ⟨13, _⟩ => ⟨S2x2048x2048, .f32⟩
  | .hbm, ⟨14, _⟩ => ⟨S2x2048x2048, .bf16⟩
  | .hbm, ⟨15, _⟩ => ⟨S_, .i32⟩
  | .hbm, ⟨16, _⟩ => ⟨S_, .f32⟩
  | .hbm, ⟨17, _⟩ => ⟨S2x2048x16x128, .f32⟩
  | .hbm, ⟨18, _⟩ => ⟨S2x2048x2048, .f32⟩
  | .hbm, ⟨19, _⟩ => ⟨S2x2048x2048, .bf16⟩
  | .hbm, ⟨20, _⟩ => ⟨S_, .i32⟩
  | .hbm, ⟨21, _⟩ => ⟨S_, .f32⟩
  | .hbm, ⟨22, _⟩ => ⟨S2x2048x16x128, .f32⟩
  | .hbm, ⟨23, _⟩ => ⟨S2x2048x2048, .f32⟩
  | .hbm, ⟨24, _⟩ => ⟨S2x2048x2048, .bf16⟩
  | .hbm, ⟨25, _⟩ => ⟨S2x2048x2048, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | _, _ => ⟨S2x2048x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_call2_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnFwdIdeal.lean ====
variable {F : FTy → Type} [FloatOps F] [Named F]
def κ : String → Option EReal := fun
  | "mask" => some ⊥
  | _ => none
-- ==== AttnFwdReferenceIdeal.lean ====
abbrev S2x2048x16x96 : Shape := ⟨4, ![2, 2048, 16, 96]⟩
abbrev S2x2048x16x64 : Shape := ⟨4, ![2, 2048, 16, 64]⟩
abbrev S2x16x2048x2048 : Shape := ⟨4, ![2, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩
abbrev S2x16x64x2048 : Shape := ⟨4, ![2, 16, 64, 2048]⟩
abbrev S2x2048x16x128 : Shape := ⟨4, ![2, 2048, 16, 128]⟩
abbrev S2x2048x2048 : Shape := ⟨3, ![2, 2048, 2048]⟩

abbrev nBuf : Space → Nat
  | .hbm => 59
  | .vmem => 0
  | .smem => 0
  | _ => 0

abbrev bufTy : (tb : Table) → Fin (tcTables nBuf tb) → BufTy
  | .hbm, ⟨0, _⟩ => ⟨S2x2048x16x96, .f32⟩
  | .hbm, ⟨1, _⟩ => ⟨S2x2048x16x96, .f32⟩
  | .hbm, ⟨2, _⟩ => ⟨S2x2048x16x64, .f32⟩
  | .hbm, ⟨3, _⟩ => ⟨S2x16x2048x2048, .f32⟩
  | .hbm, ⟨4, _⟩ => ⟨S_, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S2048, .i32⟩
  | .hbm, ⟨9, _⟩ => ⟨S_, .i32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S1x2048, .i32⟩
  | .hbm, ⟨28, _⟩ => ⟨S2048x1, .i32⟩
  | .hbm, ⟨29, _⟩ => ⟨S2048x2048, .i32⟩
  | .hbm, ⟨30, _⟩ => ⟨S2048x2048, .i32⟩
  | .hbm, ⟨31, _⟩ => ⟨S2048x2048, .i1⟩
  | .hbm, ⟨32, _⟩ => ⟨S1x1x2048x2048, .i1⟩
  | .hbm, ⟨33, _⟩ => ⟨S_, .f32⟩
  | .hbm, ⟨34, _⟩ => ⟨S_, .f32⟩
  | .hbm, ⟨35, _⟩ => ⟨S2x16x2048x2048, .i1⟩
  | .hbm, ⟨36, _⟩ => ⟨S2x16x2048x2048, .f32⟩
  | .hbm, ⟨37, _⟩ => ⟨S2x16x2048x2048, .f32⟩
  | .hbm, ⟨38, _⟩ => ⟨S_, .f32⟩
  | .hbm, ⟨39, _⟩ => ⟨S2x16x2048, .f32⟩
  | .hbm, ⟨40, _⟩ => ⟨S_, .f32⟩
  | .hbm, ⟨41, _⟩ => ⟨S2x16x2048, .f32⟩
  | .hbm, ⟨42, _⟩ => ⟨S2x16x2048, .f32⟩
  | .hbm, ⟨43, _⟩ => ⟨S2x16x2048x1, .f32⟩
  | .hbm, ⟨44, _⟩ => ⟨S2x16x2048x2048, .f32⟩
  | .hbm, ⟨45, _⟩ => ⟨S2x16x2048x2048, .f32⟩
  | .hbm, ⟨46, _⟩ => ⟨S2x16x2048x2048, .f32⟩
  | .hbm, ⟨47, _⟩ => ⟨S_, .f32⟩
  | .hbm, ⟨48, _⟩ => ⟨S2x16x2048, .f32⟩
  | .hbm, ⟨49, _⟩ => ⟨S2x16x2048x1, .f32⟩
  | .hbm, ⟨50, _⟩ => ⟨S2x16x2048x2048, .f32⟩
  | .hbm, ⟨51, _⟩ => ⟨S2x16x2048x2048, .f32⟩
  | .hbm, ⟨52, _⟩ => ⟨S2x16x64x2048, .f32⟩
  | .hbm, ⟨53, _⟩ => ⟨S2x2048x16x64, .f32⟩
  | .hbm, ⟨54, _⟩ => ⟨S_, .i32⟩
  | .hbm, ⟨55, _⟩ => ⟨S_, .f32⟩
  | .hbm, ⟨56, _⟩ => ⟨S2x2048x16x128, .f32⟩
  | .hbm, ⟨57, _⟩ => ⟨S2x2048x2048, .f32⟩
  | .hbm, ⟨58, _⟩ => ⟨S2x2048x2048, .bf16⟩
  | _, _ => ⟨S2x2048x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v12 : Ref sig .tc := ⟨.hbm, 37, rfl⟩
abbrev main_cst_1 : Ref sig .tc := ⟨.hbm, 38, rfl⟩
abbrev main_v13 : Ref sig .tc := ⟨.hbm, 39, rfl⟩
abbrev main_cst_2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_3 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_c_4 : Ref sig .tc := ⟨.hbm, 54, rfl⟩
abbrev main_call2_v0 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩

abbrev nD : Nat := 1
abbrev τ : Topo := Topo.v7x

variable {F : FTy → Type} [FloatOps F]
-- ==== Proof.Consts.lean ====
/- The float constants the programs spell, as the extended reals they denote, and the three named ones. -/
module

public import proofs.«01_k».proof.KernelIdeal
public import Idealize.ShloMosaic.PureOps.Ideal
public import Idealize.ShloMosaic.Lib.IdealHost

@[expose] public section

noncomputable section

namespace Cert.Proof.Consts

open Idealize.ShloMosaic Cert.KernelIdeal

/-- The neutral value of a maximum is minus infinity. -/
theorem ofBits_bottom : Ideal.ofBits .f32 0xFF800000#32 = (⊥ : EReal) := by
  simp [Ideal.ofBits, Ideal.ieee]

/-- Plus infinity. -/
theorem ofBits_top : Ideal.ofBits .f32 0x7F800000#32 = (⊤ : EReal) := by
  simp [Ideal.ofBits, Ideal.ieee]

/-- `96.0`, the width of a score's sum. -/
theorem ofBits_96 : Ideal.ofBits .f32 0x42C00000#32 = ((96 : ℝ) : EReal) := by
  simp [Ideal.ofBits, Ideal.ieee, -EReal.coe_mul]; norm_num

/-- `2.0`, the base of the kernel's powers. -/
theorem ofBits_2 : Ideal.ofBits .f32 0x40000000#32 = ((2 : ℝ) : EReal) := by
  simp [Ideal.ofBits, Ideal.ieee, -EReal.coe_mul]; norm_num

/-- The value a masked score takes: minus infinity. -/
theorem named_mask : Named.named (F := Ideal) (φ := .f32) κ "mask" 0xF149F2CA#32 = (⊥ : EReal) :=
  IdealRules.named_const.ideal_named_scalar _ _ _ _ rfl

/-- One over the root of 96. -/
theorem named_scale : Named.named (F := Ideal) (φ := .f32) κ "scale" 0x3DD105EC#32 = (((Real.sqrt 96)⁻¹ : ℝ) : EReal) :=
  IdealRules.named_const.ideal_named_scalar _ _ _ _ rfl

/-- The root of 96 times the natural logarithm of 2. -/
theorem named_unprescale : Named.named (F := Ideal) (φ := .f32) κ "unprescale" 0x40D95360#32
    = (((Real.sqrt 96) * (Real.log 2) : ℝ) : EReal) :=
  IdealRules.named_const.ideal_named_scalar _ _ _ _ rfl

end Cert.Proof.Consts

end
-- ==== Proof.Precondition.lean ====
/- What the precondition says: every entry of the queries and keys is a real number. -/
module

public import proofs.«01_k».proof.Pre_finite_scores
public import proofs.«01_k».proof.Proof.Consts
public import Idealize.ShloMosaic.Lib.ReduceAll
public import Idealize.ShloMosaic.Lib.ShapeFacts

@[expose] public section

set_option maxRecDepth 16384

noncomputable section

namespace Cert.Proof.Precondition

open Idealize.ShloMosaic Cert.Pre_finite_scores

theorem facts : Cert.Pre_finite_scores.Facts where
  bcast_S_S2x2048x16x96 := by decide
  reducesTo_S2x2048x16x96_S_d0_1_2_3 := by decide
  h_S_ := by decide

instance : Subsingleton S_.Idx := ⟨fun a b => funext fun i => i.elim0⟩

/-- Two bits that give 1 are both 1. -/
theorem both_one : ∀ a b : BitVec 1, IntOp.andi a b = 1#1 → a = 1#1 ∧ b = 1#1 := by decide

/-- One input's test: every entry lies strictly between the infinities. -/
theorem inside [Facts] (x : FVec Ideal S2x2048x16x96 .f32)
    (e : Host.reduce IntOp.andi
      (andi (cmpf .ogt x (broadcastInDim S2x2048x16x96 ![] Facts.bcast_S_S2x2048x16x96 (constant (F := Ideal) S_ .f32 0xFF800000#32)))
        (cmpf .olt x (broadcastInDim S2x2048x16x96 ![] Facts.bcast_S_S2x2048x16x96 (constant (F := Ideal) S_ .f32 0x7F800000#32))))
      (constantI S_ 1 1#1) Facts.reducesTo_S2x2048x16x96_S_d0_1_2_3 Facts.h_S_ (fun i => i.elim0) = 1#1) (i : S2x2048x16x96.Idx) :
    (x i : EReal) ≠ ⊥ ∧ (x i : EReal) ≠ ⊤ := by
  obtain ⟨h1, h2⟩ := both_one _ _ (Host.reduce_andi_all _ _ _ _ _ e i)
  constructor
  · intro h
    have h1' : Ideal.cmp .ogt (x i) (Ideal.ofBits .f32 0xFF800000#32) = 1#1 := h1
    rw [Consts.ofBits_bottom, h] at h1'
    simp [Ideal.cmp] at h1'
  · intro h
    have h2' : Ideal.cmp .olt (x i) (Ideal.ofBits .f32 0x7F800000#32) = 1#1 := h2
    rw [Consts.ofBits_top, h] at h2'
    simp [Ideal.cmp] at h2'

/-- The precondition at its value. -/
theorem of_fn [Facts] (q k : FVec Ideal S2x2048x16x96 .f32) (v d : FVec Ideal S2x2048x16x64 .f32) (i₀ : S_.Idx) (e : fn q k v d i₀ = 1#1) :
    (∀ i, (q i : EReal) ≠ ⊥ ∧ (q i : EReal) ≠ ⊤) ∧ ∀ i, (k i : EReal) ≠ ⊥ ∧ (k i : EReal) ≠ ⊤ := by
  obtain rfl : i₀ = fun i => i.elim0 := Subsingleton.elim _ _
  obtain ⟨h1, h2⟩ := both_one _ _ e
  exact ⟨inside q h1, inside k h2⟩

end Cert.Proof.Precondition

end
-- ==== Proof.Frames.lean ====
/- The claims that need no value: every program runs to its end and leaves its arguments as they were, and the named
   constants of the idealized kernel are what the table says. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Precondition
public import Idealize.ShloMosaic.Lib.Quiescent

@[expose] public section

noncomputable section

open Idealize.ShloMosaic Idealize.ShloMosaic.TcCoe Idealize.SL.Sem

namespace Cert.Proof

/-- The kernel as printed runs and leaves its arguments. -/
theorem frame_kernel : Cert.quiescent_Kernel := fun m ρ _ => Cert.Kernel.Gen.frame m ρ

/-- So does the idealized kernel. -/
theorem frame_kernel_ideal : Cert.quiescent_KernelIdeal := fun m ρ _ => Cert.KernelIdeal.Gen.frame m ρ

/-- The reference runs on the host alone; it has no semaphore, so all of them end at zero. -/
theorem frame_reference_ideal : Cert.quiescent_ReferenceIdeal := fun m ρ _ =>
  (θ_run Cert.ReferenceIdeal.defs _ _).mono
    (fun r h => ⟨fun c => ⟨(h c).2.2.2.1, (h c).2.2.2.2.1, (h c).2.2.2.2.2.1, (h c).2.2.2.2.2.2⟩,
      sem_eq_zero_of_no_sems (by decide) r.2⟩)
    (Cert.ReferenceIdeal.Value.run (F := Ideal) m ρ)

instance : Cert.Pre_finite_scores.Facts := Precondition.facts

/-- The same two under the precondition of the value claim, which they do not use. -/
theorem frame_kernel_ideal_finite : Cert.quiescent_KernelIdeal_pre_finite_scores := fun m ρ _ => frame_kernel_ideal m ρ trivial
theorem frame_reference_ideal_finite : Cert.quiescent_ReferenceIdeal_pre_finite_scores := fun m ρ _ => frame_reference_ideal m ρ trivial

/-- The three names of the table: the mask's fill is `-∞`, the scale `1/√96`, and the factor that takes the query's
    prescale off again `√96 · log 2`. -/
theorem preserves : Cert.preserves_Kernel_KernelIdeal :=
  ⟨IdealRules.named_const.statement _ _ _ _ _ rfl, IdealRules.named_const.statement _ _ _ _ _ rfl,
    IdealRules.named_const.statement _ _ _ _ _ rfl⟩

end Cert.Proof

end
-- ==== Proof.RefTerms.lean ====
/- The reference's three results, named step by step. -/
module

public import proofs.«01_k».proof.Proof.Gen.ReferenceIdeal.Run

@[expose] public section

set_option maxRecDepth 16384

noncomputable section

namespace Cert.Proof.Ref

open Idealize.ShloMosaic Cert.ReferenceIdeal Cert.ReferenceIdeal.Gen Idealize.ShloMosaic.TcCoe Idealize.SL.Sem Idealize.ShloMosaic.StableHlo

variable {F : FTy → Type} [FloatOps F]

/-- Every position's chunk. -/
def chunks : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))

/-- Which keys a row sees: those of its own chunk and of earlier ones. -/
def keep : IVec S2x16x2048x2048 1 :=
  broadcastInDim S2x16x2048x2048 ![0, 1, 2, 3] bcast_S1x1x2048x2048_S2x16x2048x2048_0_1_2_3 (broadcastInDim S1x1x2048x2048 ![2, 3] bcast_S2048x2048_S1x1x2048x2048_2_3 (cmpi .sle (broadcastInDim S2048x2048 ![0, 1] bcast_S1x2048_S2048x2048_0_1 (broadcastInDim S1x2048 ![1] bcast_S2048_S1x2048_1 chunks)) (broadcastInDim S2048x2048 ![0, 1] bcast_S2048x1_S2048x2048_0_1 (broadcastInDim S2048x1 ![0] bcast_S2048_S2048x1_0 chunks))))

/-- The scaled scores. -/
def scaled (q : FVec F S2x2048x16x96 .f32) (k : FVec F S2x2048x16x96 .f32) : FVec F S2x16x2048x2048 .f32 :=
  Host.divf (Host.dotGeneral dot_S2x2048x16x96_S2x2048x16x96_S2x16x2048x2048_3_3_1_1_02_02 none q k) (broadcastInDim S2x16x2048x2048 ![] bcast_S_S2x16x2048x2048 (Host.sqrt (constant S_ .f32 0x42C00000#32)))

/-- The scores, later chunks' at minus infinity. -/
def masked (q : FVec F S2x2048x16x96 .f32) (k : FVec F S2x2048x16x96 .f32) : FVec F S2x16x2048x2048 .f32 :=
  select keep (scaled q k) (broadcastInDim S2x16x2048x2048 ![] bcast_S_S2x16x2048x2048 (id (constant S_ .f32 0xFF800000#32)))

/-- The number taken off a row's scores. -/
def tops (q : FVec F S2x2048x16x96 .f32) (k : FVec F S2x2048x16x96 .f32) : FVec F S2x16x2048x1 .f32 :=
  broadcastInDim S2x16x2048x1 ![0, 1, 2] bcast_S2x16x2048_S2x16x2048x1_0_1_2 (maximumf (broadcastInDim S2x16x2048 ![] bcast_S_S2x16x2048 (constant S_ .f32 0xFF800000#32)) (Host.reduce FloatOps.maximumf (masked q k) (constant S_ .f32 0xFF800000#32) reducesTo_S2x16x2048x2048_S2x16x2048_d3 h_S_))

/-- The powers. -/
def powers (q : FVec F S2x2048x16x96 .f32) (k : FVec F S2x2048x16x96 .f32) : FVec F S2x16x2048x2048 .f32 :=
  Host.exp (subf (masked q k) (broadcastInDim S2x16x2048x2048 ![0, 1, 2, 3] bcast_S2x16x2048x1_S2x16x2048x2048_0_1_2_3 (tops q k)))

/-- A row's sum of powers. -/
def sums (q : FVec F S2x2048x16x96 .f32) (k : FVec F S2x2048x16x96 .f32) : FVec F S2x16x2048x1 .f32 :=
  broadcastInDim S2x16x2048x1 ![0, 1, 2] bcast_S2x16x2048_S2x16x2048x1_0_1_2 (Host.reduceAdd (powers q k) (constant S_ .f32 0x00000000#32) reducesTo_S2x16x2048x2048_S2x16x2048_d3 h_S_)

/-- The weights. -/
def weights (q : FVec F S2x2048x16x96 .f32) (k : FVec F S2x2048x16x96 .f32) : FVec F S2x16x2048x2048 .f32 :=
  Host.divf (powers q k) (broadcastInDim S2x16x2048x2048 ![0, 1, 2, 3] bcast_S2x16x2048x1_S2x16x2048x2048_0_1_2_3 (sums q k))

/-- The cotangents, head by head. -/
def ctt (d : FVec F S2x2048x16x64 .f32) : FVec F S2x16x64x2048 .f32 :=
  transpose S2x16x64x2048 [0, 2, 3, 1] d transposes_S2x2048x16x64_S2x16x64x2048_0_2_3_1

/-- The weights' gradient. -/
def dweights (v : FVec F S2x2048x16x64 .f32) (d : FVec F S2x2048x16x64 .f32) : FVec F S2x16x2048x2048 .f32 :=
  Host.dotGeneral dot_S2x16x64x2048_S2x2048x16x64_S2x16x2048x2048_2_3_3_1_01_02 none (ctt d) v

/-- The sum's share of the powers' gradient. -/
def means (q : FVec F S2x2048x16x96 .f32) (k : FVec F S2x2048x16x96 .f32) (v : FVec F S2x2048x16x64 .f32) (d : FVec F S2x2048x16x64 .f32) : FVec F S2x16x2048x2048 .f32 :=
  broadcastInDim S2x16x2048x2048 ![0, 1, 2] bcast_S2x16x2048_S2x16x2048x2048_0_1_2 (Host.reduceAdd (Host.negf (shapeCast S2x16x2048x1 (Host.reduceAdd (mulf (mulf (dweights v d) (broadcastInDim S2x16x2048x2048 ![0, 1, 2, 3] bcast_S2x16x2048x1_S2x16x2048x2048_0_1_2_3 (Host.divf (broadcastInDim S2x16x2048x1 ![] bcast_S_S2x16x2048x1 (constant S_ .f32 0x3F800000#32)) (mulf (sums q k) (sums q k))))) (powers q k)) (constant S_ .f32 0x00000000#32) reducesTo_S2x16x2048x2048_S2x16x2048_d3 h_S_) shapeCasts_S2x16x2048_S2x16x2048x1)) (constant S_ .f32 0x00000000#32) reducesTo_S2x16x2048x1_S2x16x2048_d3 h_S_)

/-- The powers' gradient, times the powers. -/
def dpowers (q : FVec F S2x2048x16x96 .f32) (k : FVec F S2x2048x16x96 .f32) (v : FVec F S2x2048x16x64 .f32) (d : FVec F S2x2048x16x64 .f32) : FVec F S2x16x2048x2048 .f32 :=
  mulf (addf (Host.divf (dweights v d) (broadcastInDim S2x16x2048x2048 ![0, 1, 2, 3] bcast_S2x16x2048x1_S2x16x2048x2048_0_1_2_3 (sums q k))) (means q k v d)) (powers q k)

/-- The gradient of the scores before their scale. -/
def dmasked (q : FVec F S2x2048x16x96 .f32) (k : FVec F S2x2048x16x96 .f32) (v : FVec F S2x2048x16x64 .f32) (d : FVec F S2x2048x16x64 .f32) : FVec F S2x16x2048x2048 .f32 :=
  Host.divf (select keep (dpowers q k v d) (broadcastInDim S2x16x2048x2048 ![] bcast_S_S2x16x2048x2048 (constant S_ .f32 0x00000000#32))) (broadcastInDim S2x16x2048x2048 ![] bcast_S_S2x16x2048x2048 (Host.sqrt (constant S_ .f32 0x42C00000#32)))

/-- The queries' gradient, laid out. -/
def outQueries (q : FVec F S2x2048x16x96 .f32) (k : FVec F S2x2048x16x96 .f32) (v : FVec F S2x2048x16x64 .f32) (d : FVec F S2x2048x16x64 .f32) : FVec F S2x2048x2048 .f32 :=
  shapeCast S2x2048x2048 (pad S2x2048x16x128 ![0, 0, 0, 0] ![0, 0, 0, 32] ![0, 0, 0, 0] (transpose S2x2048x16x96 [0, 2, 1, 3] (Host.dotGeneral dot_S2x16x2048x2048_S2x2048x16x96_S2x16x2048x96_3_1_2_3_01_02 none (dmasked q k v d) k) transposes_S2x16x2048x96_S2x2048x16x96_0_2_1_3) (sitofp .f32 (constantI S_ 32 0#32)) pads_S2x2048x16x96_S2x2048x16x128_000_000_000_0320 h_S_) shapeCasts_S2x2048x16x128_S2x2048x2048

/-- The keys' gradient, laid out. -/
def outKeys (q : FVec F S2x2048x16x96 .f32) (k : FVec F S2x2048x16x96 .f32) (v : FVec F S2x2048x16x64 .f32) (d : FVec F S2x2048x16x64 .f32) : FVec F S2x2048x2048 .f32 :=
  shapeCast S2x2048x2048 (pad S2x2048x16x128 ![0, 0, 0, 0] ![0, 0, 0, 32] ![0, 0, 0, 0] (transpose S2x2048x16x96 [0, 2, 1, 3] (Host.dotGeneral dot_S2x16x2048x2048_S2x2048x16x96_S2x16x2048x96_2_1_3_3_01_02 none (dmasked q k v d) q) transposes_S2x16x2048x96_S2x2048x16x96_0_2_1_3) (sitofp .f32 (constantI S_ 32 0#32)) pads_S2x2048x16x96_S2x2048x16x128_000_000_000_0320 h_S_) shapeCasts_S2x2048x16x128_S2x2048x2048

/-- The values' gradient, laid out. -/
def outValues (q : FVec F S2x2048x16x96 .f32) (k : FVec F S2x2048x16x96 .f32) (d : FVec F S2x2048x16x64 .f32) : FVec F S2x2048x2048 .f32 :=
  shapeCast S2x2048x2048 (pad S2x2048x16x128 ![0, 0, 0, 0] ![0, 0, 0, 64] ![0, 0, 0, 0] (transpose S2x2048x16x64 [0, 3, 1, 2] (Host.dotGeneral dot_S2x16x64x2048_S2x16x2048x2048_S2x16x64x2048_3_2_2_3_01_01 none (ctt d) (weights q k)) transposes_S2x16x64x2048_S2x2048x16x64_0_3_1_2) (sitofp .f32 (constantI S_ 32 0#32)) pads_S2x2048x16x64_S2x2048x16x128_000_000_000_0640 h_S_) shapeCasts_S2x2048x16x128_S2x2048x2048

variable (m : (ℓ : Loc nD τ sig) → Buf (Elt F) ℓ) (c : Dev nD)

theorem res_outQueries : Value.res_main_v67 m c = outQueries (m ((c : Thread nD τ).loc main_arg0)) (m ((c : Thread nD τ).loc main_arg1)) (m ((c : Thread nD τ).loc main_arg2)) (m ((c : Thread nD τ).loc main_arg3)) := rfl
theorem res_outKeys : Value.res_main_v69 m c = outKeys (m ((c : Thread nD τ).loc main_arg0)) (m ((c : Thread nD τ).loc main_arg1)) (m ((c : Thread nD τ).loc main_arg2)) (m ((c : Thread nD τ).loc main_arg3)) := rfl
theorem res_outValues : Value.res_main_v71 m c = outValues (m ((c : Thread nD τ).loc main_arg0)) (m ((c : Thread nD τ).loc main_arg1)) (m ((c : Thread nD τ).loc main_arg3)) := rfl

end Cert.Proof.Ref

end
-- ==== Proof.RefRead.lean ====
/- The reference's steps read at an index, over the extended reals. -/
module

public import proofs.«01_k».proof.Proof.RefTerms
public import proofs.«01_k».proof.Proof.Consts
public import Idealize.ShloMosaic.Lib.Pointwise
public import Idealize.ShloMosaic.Lib.Pointwise.IndexVar
public import Idealize.ShloMosaic.Lib.ValueLayout

@[expose] public section

set_option maxRecDepth 16384

noncomputable section

namespace Cert.Proof.Ref

open Idealize.ShloMosaic Cert.ReferenceIdeal Cert.ReferenceIdeal.Gen

theorem ofBits_0 : Ideal.ofBits .f32 0x00000000#32 = (0 : EReal) := by
  simp [Ideal.ofBits, Ideal.ieee]

theorem ofBits_1 : Ideal.ofBits .f32 0x3F800000#32 = (1 : EReal) := by
  simp [Ideal.ofBits, Ideal.ieee, -EReal.coe_mul]; norm_num

/-- Over the root of 96. -/
theorem div_root (x : EReal) : Ideal.div x (Ideal.sqrt ((96 : ℝ) : EReal)) = x * (((Real.sqrt 96)⁻¹ : ℝ) : EReal) := by
  rw [Ideal.sqrt_coe, if_neg (by norm_num), Ideal.div_coe (Real.sqrt_pos.mpr (by norm_num)).ne', one_div]

/-- A row's largest value, at any sizes. -/
theorem rowMax_apply (n0 n1 n2 n3 : ℕ) (x : FVec Ideal ⟨4, ![n0, n1, n2, n3]⟩ .f32)
    (hr : Shape.ReducesTo (⟨4, ![n0, n1, n2, n3]⟩ : Shape) [3] ⟨3, ![n0, n1, n2]⟩) (hu : 0 < S_.numel) (a : Fin n0) (b : Fin n1) (c : Fin n2) :
    Host.reduce (FloatOps.maximumf (F := Ideal)) x (constant (F := Ideal) S_ .f32 0xFF800000#32) hr hu (ix3 a b c)
      = Finset.univ.fold max (⊥ : EReal) fun j : Fin n3 => (x (ix4 a b c j) : EReal) := by
  pointwise [Consts.ofBits_bottom]

variable (q k : FVec Ideal S2x2048x16x96 .f32) (v d : FVec Ideal S2x2048x16x64 .f32)
variable (b : Fin 2) (h : Fin 16) (I J : Fin 2048)

/-- The words' division by 64, at every position. -/
theorem chunk_word : ∀ x : Fin 2048,
    Scalar.select
      (IntOp.andi
        (IntOp.cmpi CmpIPredicate.ne
          (if BitVec.ofNat 32 x.val = 0 then 0 else if (BitVec.ofNat 32 x.val).msb = true then -1 else 1 : BitVec 32)
          (if (64#32) = 0 then 0 else if (64#32).msb = true then -1 else 1 : BitVec 32))
        (IntOp.cmpi CmpIPredicate.ne (IntOp.remsi ArithUnit.host (BitVec.ofNat 32 x.val) 64#32) 0#32))
      (IntOp.subi (IntOp.divsi ArithUnit.host (BitVec.ofNat 32 x.val) 64#32) 1#32)
      (IntOp.divsi ArithUnit.host (BitVec.ofNat 32 x.val) 64#32) = BitVec.ofNat 32 (x.val / 64) := by decide +kernel

/-- Chunk numbers compare as numbers. -/
theorem chunk_order : ∀ a b : Fin 32,
    IntOp.cmpi CmpIPredicate.sle (BitVec.ofNat 32 a.val) (BitVec.ofNat 32 b.val) = if a.val ≤ b.val then 1#1 else 0#1 := by decide +kernel

theorem chunks_apply (x : Fin 2048) : chunks (ix1 x) = BitVec.ofNat 32 (x.val / 64) := by
  unfold chunks
  pointwise
  exact chunk_word x

theorem keep_apply : keep (ix4 b h I J) = if J.val / 64 ≤ I.val / 64 then 1#1 else 0#1 := by
  unfold keep
  pointwise [chunks_apply]
  exact chunk_order ⟨J.val / 64, by omega⟩ ⟨I.val / 64, by omega⟩

theorem scaled_apply : scaled q k (ix4 b h I J)
    = ((∑ c : Fin 96, (q (ix4 b I h c) : EReal) * k (ix4 b J h c)) * (((Real.sqrt 96)⁻¹ : ℝ) : EReal) : EReal) := by
  unfold scaled
  pointwise [Consts.ofBits_96, div_root]

theorem masked_apply : masked q k (ix4 b h I J) = if J.val / 64 ≤ I.val / 64 then (scaled q k (ix4 b h I J) : EReal) else ⊥ := by
  unfold masked
  pointwise [keep_apply, Consts.ofBits_bottom]
  split <;> rfl

/-- The number taken off, from the rows' largest values. -/
theorem over_bottom (x : FVec Ideal S2x16x2048 .f32) :
    broadcastInDim S2x16x2048x1 ![0, 1, 2] bcast_S2x16x2048_S2x16x2048x1_0_1_2
      (maximumf (broadcastInDim S2x16x2048 ![] bcast_S_S2x16x2048 (constant (F := Ideal) S_ .f32 0xFF800000#32)) x) (ix4 b h I 0) = x (ix3 b h I) := by
  pointwise [Consts.ofBits_bottom]
  exact max_eq_right bot_le

theorem tops_apply : tops q k (ix4 b h I 0) = Finset.univ.fold max (⊥ : EReal) fun J : Fin 2048 => (masked q k (ix4 b h I J) : EReal) := by
  unfold tops
  exact (over_bottom b h I _).trans (rowMax_apply 2 16 2048 2048 (masked q k) _ _ b h I)

theorem powers_apply : powers q k (ix4 b h I J) = Ideal.exp ((masked q k (ix4 b h I J) : EReal) - tops q k (ix4 b h I 0)) := by
  unfold powers
  pointwise

theorem sums_apply : sums q k (ix4 b h I 0) = (∑ J : Fin 2048, (powers q k (ix4 b h I J) : EReal) : EReal) := by
  unfold sums
  pointwise [ofBits_0]

theorem weights_apply : weights q k (ix4 b h I J) = Ideal.div (powers q k (ix4 b h I J)) (sums q k (ix4 b h I 0)) := by
  unfold weights
  pointwise

theorem ctt_apply (c : Fin 64) : ctt d (ix4 b h c I) = d (ix4 b I h c) := by
  unfold ctt
  pointwise

theorem dweights_apply : dweights v d (ix4 b h I J) = (∑ c : Fin 64, (d (ix4 b I h c) : EReal) * v (ix4 b J h c) : EReal) := by
  unfold dweights
  pointwise [ctt_apply]

theorem means_apply : means q k v d (ix4 b h I J)
    = (-(∑ J : Fin 2048, ((dweights v d (ix4 b h I J) : EReal) * Ideal.div 1 ((sums q k (ix4 b h I 0) : EReal) * sums q k (ix4 b h I 0)))
        * powers q k (ix4 b h I J)) : EReal) := by
  unfold means
  pointwise [ofBits_0, ofBits_1]
  exact Fin.sum_univ_one _

theorem dpowers_apply : dpowers q k v d (ix4 b h I J)
    = ((Ideal.div (dweights v d (ix4 b h I J)) (sums q k (ix4 b h I 0)) + means q k v d (ix4 b h I J)) * powers q k (ix4 b h I J) : EReal) := by
  unfold dpowers
  pointwise

theorem dmasked_apply : dmasked q k v d (ix4 b h I J)
    = ((if J.val / 64 ≤ I.val / 64 then (dpowers q k v d (ix4 b h I J) : EReal) else 0) * (((Real.sqrt 96)⁻¹ : ℝ) : EReal) : EReal) := by
  unfold dmasked
  pointwise [keep_apply, Consts.ofBits_96, div_root, ofBits_0]
  split
  · rfl
  · exact (zero_mul _).symm

/-! ## The results -/

theorem fill_value : FloatOps.sitofp (F := Ideal) .f32 0#32 = (0 : EReal) := by
  show (((0#32).toInt : ℝ) : EReal) = 0
  simp

variable (l : Fin 128)

theorem outQueries_apply (L : Fin 2048) (hL : L.val = h.val * 128 + l.val) : outQueries q k v d (ix3 b I L)
    = if hl : l.val < 96 then (∑ J : Fin 2048, (dmasked q k v d (ix4 b h I J) : EReal) * k (ix4 b J h ⟨l.val, hl⟩) : EReal) else (0 : EReal) := by
  obtain ⟨n, hn⟩ := L
  subst hL
  have e1 : (h.val * 128 + l.val) / 128 = h.val := by omega
  have e2 : (h.val * 128 + l.val) % 128 = l.val := by omega
  unfold outQueries
  pointwise [e1, e2, fill_value]

theorem outKeys_apply (L : Fin 2048) (hL : L.val = h.val * 128 + l.val) : outKeys q k v d (ix3 b J L)
    = if hl : l.val < 96 then (∑ I : Fin 2048, (dmasked q k v d (ix4 b h I J) : EReal) * q (ix4 b I h ⟨l.val, hl⟩) : EReal) else (0 : EReal) := by
  obtain ⟨n, hn⟩ := L
  subst hL
  have e1 : (h.val * 128 + l.val) / 128 = h.val := by omega
  have e2 : (h.val * 128 + l.val) % 128 = l.val := by omega
  unfold outKeys
  pointwise [e1, e2, fill_value]

theorem outValues_apply (L : Fin 2048) (hL : L.val = h.val * 128 + l.val) : outValues q k d (ix3 b J L)
    = if hl : l.val < 64 then (∑ I : Fin 2048, (d (ix4 b I h ⟨l.val, hl⟩) : EReal) * weights q k (ix4 b h I J) : EReal) else (0 : EReal) := by
  obtain ⟨n, hn⟩ := L
  subst hL
  have e1 : (h.val * 128 + l.val) / 128 = h.val := by omega
  have e2 : (h.val * 128 + l.val) % 128 = l.val := by omega
  unfold outValues
  pointwise [e1, e2, fill_value, ctt_apply]

end Cert.Proof.Ref

end
-- ==== Proof.Entry.lean ====
/- The four arrays the kernel's call takes, as the host lines before it leave them. -/
module

public import proofs.«01_k».proof.Proof.Gen.KernelIdeal.Value
public import Idealize.ShloMosaic.Lib.StableHlo.RunRead

@[expose] public section

set_option maxRecDepth 16384

noncomputable section

namespace Cert.Proof.Entry

open Idealize.ShloMosaic Cert.KernelIdeal Cert.KernelIdeal.Gen Idealize.ShloMosaic.TcCoe Idealize.SL.Sem

variable {F : FTy → Type} [FloatOps F] [Named F]
variable (m : (ℓ : Loc nD τ sig) → Buf (Elt F) ℓ)

/-- The padding's fill. -/
def fill : FVec F S_ .f32 := sitofp .f32 (constantI S_ 32 0#32)

/-- Rows of 96 per head, laid out in 128 lanes per head. -/
def lanes96 (x : FVec F S2x2048x16x96 .f32) : FVec F S2x2048x2048 .bf16 :=
  truncf .bf16 (shapeCast S2x2048x2048 (pad S2x2048x16x128 ![0, 0, 0, 0] ![0, 0, 0, 32] ![0, 0, 0, 0] x fill
    pads_S2x2048x16x96_S2x2048x16x128_000_000_000_0320 h_S_) shapeCasts_S2x2048x16x128_S2x2048x2048) bitsLt_bf16_f32

/-- Rows of 64 per head, laid out in 128 lanes per head. -/
def lanes64 (x : FVec F S2x2048x16x64 .f32) : FVec F S2x2048x2048 .bf16 :=
  truncf .bf16 (shapeCast S2x2048x2048 (pad S2x2048x16x128 ![0, 0, 0, 0] ![0, 0, 0, 64] ![0, 0, 0, 0] x fill
    pads_S2x2048x16x64_S2x2048x16x128_000_000_000_0640 h_S_) shapeCasts_S2x2048x16x128_S2x2048x2048) bitsLt_bf16_f32

/-- The queries divided by the prescale. -/
def prescaled (x : FVec F S2x2048x16x96 .f32) : FVec F S2x2048x16x96 .f32 :=
  Host.divf x (broadcastInDim S2x2048x16x96 ![] bcast_S_S2x2048x16x96
    (mulf (Host.sqrt (constant S_ .f32 0x42C00000#32)) (Host.log (constant S_ .f32 0x40000000#32))))

theorem entry_queries (c : Dev nD) : V m c main_v7 = lanes96 (prescaled (m ((c : Thread nD τ).loc main_arg0))) := by
  unfold V
  after_reads_simp
  simp only [StableHlo.TRef.toBuf, StableHlo.TRef.ofBuf, cast_eq]
  rfl

theorem entry_keys (c : Dev nD) : V m c main_v10 = lanes96 (m ((c : Thread nD τ).loc main_arg1)) := by
  unfold V
  after_reads_simp
  simp only [StableHlo.TRef.toBuf, StableHlo.TRef.ofBuf, cast_eq]
  rfl

theorem entry_values (c : Dev nD) : V m c main_v13 = lanes64 (m ((c : Thread nD τ).loc main_arg2)) := by
  unfold V
  after_reads_simp
  simp only [StableHlo.TRef.toBuf, StableHlo.TRef.ofBuf, cast_eq]
  rfl

theorem entry_cotangents (c : Dev nD) : V m c main_v16 = lanes64 (m ((c : Thread nD τ).loc main_arg3)) := by
  unfold V
  after_reads_simp
  simp only [StableHlo.TRef.toBuf, StableHlo.TRef.ofBuf, cast_eq]
  rfl

end Cert.Proof.Entry

end
-- ==== Proof.Blocks.lean ====
/- The blocks the kernel's call reads of its four arrays, over the extended reals: block `t` is one head of one sequence. -/
module

public import proofs.«01_k».proof.Proof.Entry
public import proofs.«01_k».proof.Proof.Consts
public import Idealize.ShloMosaic.Lib.Pointwise
public import Idealize.ShloMosaic.Lib.Pipeline.ValueKit

@[expose] public section

set_option maxRecDepth 16384

noncomputable section

namespace Cert.Proof.Entry

open Idealize.ShloMosaic Cert.KernelIdeal Cert.KernelIdeal.Gen Idealize.ShloMosaic.TcCoe Idealize.SL.Sem

/-! ## Rows of one head -/

/-- A head's rows of 96, with zeros up to 128 lanes. -/
def rows96 (x : FVec Ideal S2x2048x16x96 .f32) (b : Fin 2) (h : Fin 16) (r : Fin 2048) (l : Fin 128) : EReal :=
  if hl : l.val < 96 then x (ix4 b r h ⟨l.val, hl⟩) else 0

/-- A head's rows of 64, with zeros up to 128 lanes. -/
def rows64 (x : FVec Ideal S2x2048x16x64 .f32) (b : Fin 2) (h : Fin 16) (r : Fin 2048) (l : Fin 128) : EReal :=
  if hl : l.val < 64 then x (ix4 b r h ⟨l.val, hl⟩) else 0

/-- Lane `l` of head `h` in the row of all heads. -/
def lane (h : Fin 16) (l : Fin 128) : Fin 2048 := ⟨h.val * 128 + l.val, by omega⟩

theorem fill_value : FloatOps.sitofp (F := Ideal) .f32 0#32 = (0 : EReal) := by
  show (((0#32).toInt : ℝ) : EReal) = 0
  simp

theorem lanes96_apply (x : FVec Ideal S2x2048x16x96 .f32) (b : Fin 2) (r : Fin 2048) (h : Fin 16) (l : Fin 128) :
    lanes96 (F := Ideal) x (ix3 b r (lane h l)) = rows96 x b h r l := by
  have e1 : (h.val * 128 + l.val) / 128 = h.val := by omega
  have e2 : (h.val * 128 + l.val) % 128 = l.val := by omega
  unfold lanes96 fill lane rows96
  pointwise [e1, e2, fill_value]

theorem lanes64_apply (x : FVec Ideal S2x2048x16x64 .f32) (b : Fin 2) (r : Fin 2048) (h : Fin 16) (l : Fin 128) :
    lanes64 (F := Ideal) x (ix3 b r (lane h l)) = rows64 x b h r l := by
  have e1 : (h.val * 128 + l.val) / 128 = h.val := by omega
  have e2 : (h.val * 128 + l.val) % 128 = l.val := by omega
  unfold lanes64 fill lane rows64
  pointwise [e1, e2, fill_value]

/-- The prescale. -/
abbrev prescale : ℝ := Real.sqrt 96 * Real.log 2

theorem prescale_pos : 0 < prescale := mul_pos (Real.sqrt_pos.mpr (by norm_num)) (Real.log_pos (by norm_num))

theorem prescaled_apply (x : FVec Ideal S2x2048x16x96 .f32) (b : Fin 2) (r : Fin 2048) (h : Fin 16) (l : Fin 96) :
    prescaled (F := Ideal) x (ix4 b r h l) = (x (ix4 b r h l) * ((prescale⁻¹ : ℝ) : EReal) : EReal) := by
  unfold prescaled
  pointwise [Consts.ofBits_96, Consts.ofBits_2]
  have e : Ideal.sqrt (((96 : ℝ)) : EReal) * Ideal.log ((2 : ℝ) : EReal) = ((prescale : ℝ) : EReal) := by
    rw [Ideal.sqrt_coe, if_neg (by norm_num), Ideal.log_coe, if_neg (by norm_num), ← EReal.coe_mul]
  rw [e, Ideal.div_coe prescale_pos.ne', one_div]

theorem rows96_prescaled (x : FVec Ideal S2x2048x16x96 .f32) (b : Fin 2) (h : Fin 16) (r : Fin 2048) (l : Fin 128) :
    rows96 (prescaled (F := Ideal) x) b h r l = rows96 x b h r l * ((prescale⁻¹ : ℝ) : EReal) := by
  unfold rows96
  split
  · exact prescaled_apply x b r h _
  · rw [zero_mul]

/-! ## The blocks -/

variable (m : (ℓ : Loc nD τ sig) → Buf (Elt Ideal) ℓ)

/-- The sequence and the head of grid point `t`. -/
abbrev seq (t : Fin cfg0.N) : Fin 2 := grid0.coords t 0
abbrev head (t : Fin cfg0.N) : Fin 16 := grid0.coords t 1

theorem index0 : ∀ t : Fin cfg0.N, win0_0.index t = ![(grid0.coords t 0).val, 0, (grid0.coords t 1).val] := by decide +kernel

theorem place0 (t : Fin cfg0.N) (A : Vec Ideal S2x2048x2048 .bf16) (r : Fin 2048) (l : Fin 128) :
    ((cfg0.win 0).blk t).view.read (Elt Ideal) A (ix3 0 r l) = A (ix3 (seq t) r (lane (head t) l)) := by
  unfold lane
  blk_ext [index0 t]
  rfl

theorem array0 (c : Dev nD) (W : (b : Ref sig .tc) → Buf (Elt Ideal) ((c : Thread nD τ).loc b)) : W (Pipeline.arrRef spec0 0) = W main_v7 := rfl

theorem block_of0 (c : Dev nD) (t : Fin cfg0.N) (A : Vec Ideal S2x2048x2048 .bf16) (h : V m c (Pipeline.arrRef spec0 0) = A) :
    iblk m c 0 t = ((cfg0.win 0).blk t).view.read (Elt Ideal) A := by
  unfold iblk
  rw [h]

/-- Block `t` of the queries. -/
theorem block_queries (c : Dev nD) (t : Fin cfg0.N) (r : Fin 2048) (l : Fin 128) :
    iblk m c 0 t (ix3 0 r l) = (rows96 (m ((c : Thread nD τ).loc main_arg0)) (seq t) (head t) r l * ((prescale⁻¹ : ℝ) : EReal) : EReal) := by
  rw [block_of0 m c t _ ((array0 c (V m c)).trans (entry_queries m c)), place0]
  exact (lanes96_apply _ _ _ _ _).trans (rows96_prescaled _ _ _ _ _)

theorem index1 : ∀ t : Fin cfg0.N, win0_1.index t = ![(grid0.coords t 0).val, 0, (grid0.coords t 1).val] := by decide +kernel

theorem place1 (t : Fin cfg0.N) (A : Vec Ideal S2x2048x2048 .bf16) (r : Fin 2048) (l : Fin 128) :
    ((cfg0.win 1).blk t).view.read (Elt Ideal) A (ix3 0 r l) = A (ix3 (seq t) r (lane (head t) l)) := by
  unfold lane
  blk_ext [index1 t]
  rfl

theorem array1 (c : Dev nD) (W : (b : Ref sig .tc) → Buf (Elt Ideal) ((c : Thread nD τ).loc b)) : W (Pipeline.arrRef spec0 1) = W main_v10 := rfl

theorem block_of1 (c : Dev nD) (t : Fin cfg0.N) (A : Vec Ideal S2x2048x2048 .bf16) (h : V m c (Pipeline.arrRef spec0 1) = A) :
    iblk m c 1 t = ((cfg0.win 1).blk t).view.read (Elt Ideal) A := by
  unfold iblk
  rw [h]

/-- Block `t` of the keys. -/
theorem block_keys (c : Dev nD) (t : Fin cfg0.N) (r : Fin 2048) (l : Fin 128) :
    iblk m c 1 t (ix3 0 r l) = (rows96 (m ((c : Thread nD τ).loc main_arg1)) (seq t) (head t) r l : EReal) := by
  rw [block_of1 m c t _ ((array1 c (V m c)).trans (entry_keys m c)), place1]
  exact lanes96_apply _ _ _ _ _

theorem index2 : ∀ t : Fin cfg0.N, win0_2.index t = ![(grid0.coords t 0).val, 0, (grid0.coords t 1).val] := by decide +kernel

theorem place2 (t : Fin cfg0.N) (A : Vec Ideal S2x2048x2048 .bf16) (r : Fin 2048) (l : Fin 128) :
    ((cfg0.win 2).blk t).view.read (Elt Ideal) A (ix3 0 r l) = A (ix3 (seq t) r (lane (head t) l)) := by
  unfold lane
  blk_ext [index2 t]
  rfl

theorem array2 (c : Dev nD) (W : (b : Ref sig .tc) → Buf (Elt Ideal) ((c : Thread nD τ).loc b)) : W (Pipeline.arrRef spec0 2) = W main_v13 := rfl

theorem block_of2 (c : Dev nD) (t : Fin cfg0.N) (A : Vec Ideal S2x2048x2048 .bf16) (h : V m c (Pipeline.arrRef spec0 2) = A) :
    iblk m c 2 t = ((cfg0.win 2).blk t).view.read (Elt Ideal) A := by
  unfold iblk
  rw [h]

/-- Block `t` of the values. -/
theorem block_values (c : Dev nD) (t : Fin cfg0.N) (r : Fin 2048) (l : Fin 128) :
    iblk m c 2 t (ix3 0 r l) = (rows64 (m ((c : Thread nD τ).loc main_arg2)) (seq t) (head t) r l : EReal) := by
  rw [block_of2 m c t _ ((array2 c (V m c)).trans (entry_values m c)), place2]
  exact lanes64_apply _ _ _ _ _

theorem index3 : ∀ t : Fin cfg0.N, win0_3.index t = ![(grid0.coords t 0).val, 0, (grid0.coords t 1).val] := by decide +kernel

theorem place3 (t : Fin cfg0.N) (A : Vec Ideal S2x2048x2048 .bf16) (r : Fin 2048) (l : Fin 128) :
    ((cfg0.win 3).blk t).view.read (Elt Ideal) A (ix3 0 r l) = A (ix3 (seq t) r (lane (head t) l)) := by
  unfold lane
  blk_ext [index3 t]
  rfl

theorem array3 (c : Dev nD) (W : (b : Ref sig .tc) → Buf (Elt Ideal) ((c : Thread nD τ).loc b)) : W (Pipeline.arrRef spec0 3) = W main_v16 := rfl

theorem block_of3 (c : Dev nD) (t : Fin cfg0.N) (A : Vec Ideal S2x2048x2048 .bf16) (h : V m c (Pipeline.arrRef spec0 3) = A) :
    iblk m c 3 t = ((cfg0.win 3).blk t).view.read (Elt Ideal) A := by
  unfold iblk
  rw [h]

/-- Block `t` of the cotangents. -/
theorem block_cotangents (c : Dev nD) (t : Fin cfg0.N) (r : Fin 2048) (l : Fin 128) :
    iblk m c 3 t (ix3 0 r l) = (rows64 (m ((c : Thread nD τ).loc main_arg3)) (seq t) (head t) r l : EReal) := by
  rw [block_of3 m c t _ ((array3 c (V m c)).trans (entry_cotangents m c)), place3]
  exact lanes64_apply _ _ _ _ _

end Cert.Proof.Entry

end
-- ==== Proof.Block.lean ====
/- One block of 256 query rows of the kernel, spelled as vector operations once for any number `n` of keys before it.
   The keys of a block come in two groups: the block's own 256 (scores masked by chunk) and the `n` before it (no mask).
   Every operation is stated at a free width, so that the eight printed blocks are instances of one text. -/
module

public import proofs.«01_k».proof.Proof.Gen.KernelIdeal
public import Idealize.ShloMosaic.Lib.MatmulPlain

@[expose] public section

noncomputable section

namespace Cert.Proof.Block

open Idealize.ShloMosaic Cert.KernelIdeal

variable {F : FTy → Type} [FloatOps F] [Named F]

/-! ## Shapes and dimension numbers at a free size -/

/-- A matrix of `a` rows and `b` columns. -/
abbrev Mat (a b : ℕ) : Shape := ⟨2, ![a, b]⟩
/-- A column of 256 values with no second axis. -/
abbrev Col : Shape := ⟨1, ![256]⟩
/-- `n` rows of a block: a unit axis, `n` rows, 128 lanes. -/
abbrev Slab (n : ℕ) : Shape := ⟨3, ![1, n, 128]⟩

theorem permPair : ([0] ++ [1] : List (Fin 2)).Perm (List.finRange 2) := by decide
theorem permSwap : ([1] ++ [0] : List (Fin 2)).Perm (List.finRange 2) := by decide

/-- The transposed-left product: `[K, M]ᵀ × [K, N]`. -/
def transposedLhs (M K N : ℕ) : DotDims (Mat K M) (Mat K N) (Mat M N) where
  lhsContracting := [0]
  rhsContracting := [0]
  lhsNonContracting := [1]
  rhsNonContracting := [1]
  lhsBatch := []
  rhsBatch := []
  wf := ⟨rfl, by simp, rfl, by simp, by simp, by simp, permSwap, permSwap, rfl, (show 0 < 2 by decide), fun b => by fin_cases b <;> rfl⟩

/-- Summing out the second axis of a matrix leaves its rows, at any width. -/
theorem rows_reduce (n : ℕ) : (Mat 256 n).Reduces [1] Col := ⟨rfl, Nat.one_pos, fun b => by fin_cases b; rfl⟩

/-- A column broadcast over any number of lanes. -/
theorem col_broadcasts (n : ℕ) : (Mat 256 1).Broadcasts (Mat 256 n) :=
  ⟨Nat.le_refl _, fun a => by
    fin_cases a
    · exact Or.inr fun _ => rfl
    · exact Or.inl rfl⟩

/-- A column keeps its number of elements when it gets a unit axis. -/
theorem col_casts : Col.ShapeCasts (Mat 256 1) := by decide

/-- A slab's unit axis dropped, at any number of rows. -/
theorem slab_casts (n : ℕ) : (Slab n).ShapeCasts (Mat n 128) := by
  show (Mat n 128).numel = (Slab n).numel
  simp [Shape.numel, Fin.prod_univ_succ]

/-- A slab's unit axis put back, at any number of rows. -/
theorem mat_casts (n : ℕ) : (Mat n 128).ShapeCasts (Slab n) := (slab_casts n).symm

theorem narrow : FTy.bits .bf16 < FTy.bits .f32 := by decide
theorem bitWord : 1 < 32 := by decide

/-! ## The operations a block is made of -/

/-- A slab of rows without its unit axis. -/
def flat {φ : FTy} (n : ℕ) (x : FVec F (Slab n) φ) : FVec F (Mat n 128) φ := shapeCast (Mat n 128) x (slab_casts n)

/-- A matrix of rows with the unit axis it is stored with. -/
def slab {φ : FTy} (n : ℕ) (x : FVec F (Mat n 128) φ) : FVec F (Slab n) φ := shapeCast (Slab n) x (mat_casts n)

/-- Rows against rows: `a` times the transpose of `b`. -/
def against (n : ℕ) (a : FVec F (Mat 256 128) .bf16) (b : FVec F (Mat n 128) .bf16) : FVec F (Mat 256 n) .f32 :=
  matmul (DotDims.transposedRhs 256 128 n) none a b (constant (Mat 256 n) .f32 0x00000000#32)

/-- The transpose of `a` times `b`: sums over the block's rows. -/
def overRows (n : ℕ) (a : FVec F (Mat 256 n) .bf16) (b : FVec F (Mat 256 128) .bf16) : FVec F (Mat n 128) .f32 :=
  matmul (transposedLhs n 256 128) none a b (constant (Mat n 128) .f32 0x00000000#32)

/-- `a` times `b`: sums over the keys. -/
def overKeys (n : ℕ) (a : FVec F (Mat 256 n) .bf16) (b : FVec F (Mat n 128) .bf16) : FVec F (Mat 256 128) .f32 :=
  matmul (DotDims.plain 256 n 128) none a b (constant (Mat 256 128) .f32 0x00000000#32)

/-- The sum of each row. -/
def rowSum (n : ℕ) (x : FVec F (Mat 256 n) .f32) : FVec F (Mat 256 1) .f32 :=
  shapeCast (Mat 256 1) (multiReduction .add [1] Col x 0x00000000#32 (rows_reduce n) (.inl rfl) rfl) col_casts

/-- The largest of each row. -/
def rowMax (n : ℕ) (x : FVec F (Mat 256 n) .f32) : FVec F (Mat 256 1) .f32 :=
  shapeCast (Mat 256 1) (multiReduction .maximumf [1] Col x 0xFF800000#32 (rows_reduce n) (.inl rfl) rfl) col_casts

/-- A column over `n` lanes. -/
def spread (n : ℕ) (x : FVec F (Mat 256 1) .f32) : FVec F (Mat 256 n) .f32 := broadcastTo (Mat 256 n) x (col_broadcasts n)

/-- Powers of two of the scores less the row's largest. -/
def powers (n : ℕ) (s : FVec F (Mat 256 n) .f32) (m : FVec F (Mat 256 1) .f32) : FVec F (Mat 256 n) .f32 :=
  exp2 (subf s (spread n m))

/-- One over a column. -/
def recip (z : FVec F (Mat 256 1) .f32) : FVec F (Mat 256 1) .f32 :=
  divf (broadcast (Mat 256 1) (FloatOps.ofBits .f32 0x3F800000#32)) z

/-- The cotangent rows times the reciprocal of their sums. -/
def scaledRows (d : FVec F (Mat 256 128) .bf16) (inv : FVec F (Mat 256 1) .f32) : FVec F (Mat 256 128) .bf16 :=
  truncf .bf16 (mulf (extf .f32 d narrow) (spread 128 inv)) narrow

/-- Sums over the block's rows of weights times cotangent rows. -/
def weighed (n : ℕ) (e : FVec F (Mat 256 n) .f32) (dn : FVec F (Mat 256 128) .bf16) : FVec F (Mat n 128) .f32 :=
  overRows n (truncf .bf16 e narrow) dn

/-- The gradient of the scores of one group of keys. -/
def dscore (n : ℕ) (e dp : FVec F (Mat 256 n) .f32) (delta inv : FVec F (Mat 256 1) .f32) : FVec F (Mat 256 n) .bf16 :=
  truncf .bf16 (mulf (mulf e (subf dp (spread n delta)))
    (spread n (mulf inv (broadcast (Mat 256 1) (Named.named κ "scale" 0x3DD105EC#32))))) narrow

/-! ## The mask -/

/-- Division by 64 rounding down, as the words spell it. -/
def chunkWord (x : IVec (Mat 256 256) 32) : IVec (Mat 256 256) 32 :=
  select (andi
      (cmpi .ne (subi (extui 32 (cmpi .sgt x (broadcast _ 0#32)) bitWord) (extui 32 (cmpi .slt x (broadcast _ 0#32)) bitWord)) (broadcast _ 1#32))
      (cmpi .ne (remsi x (broadcast _ 64#32)) (broadcast _ 0#32)))
    (subi (divsi x (broadcast _ 64#32)) (broadcast _ 1#32)) (divsi x (broadcast _ 64#32))

/-- The pairs of the block's own rows and keys that are kept: the key's chunk is not after the row's. -/
def kept : IVec (Mat 256 256) 1 :=
  cmpi .sle (chunkWord (iota .tc (Mat 256 256) 32 [1] (by decide))) (chunkWord (iota .tc (Mat 256 256) 32 [0] (by decide)))

/-- The masked scores of the block's own keys. -/
def ownScores (q kh : FVec F (Mat 256 128) .bf16) : FVec F (Mat 256 256) .f32 :=
  select kept (against 256 q kh) (broadcast (Mat 256 256) (Named.named κ "mask" 0xF149F2CA#32))

/-! ## The first block: no keys before it -/

namespace First

variable (q kh vh d : FVec F (Mat 256 128) .bf16)

def own : FVec F (Mat 256 256) .f32 := powers 256 (ownScores q kh) (rowMax 256 (ownScores q kh))
def inv : FVec F (Mat 256 1) .f32 := recip (rowSum 256 (own q kh))
def ownDp : FVec F (Mat 256 256) .f32 := against 256 d vh
def delta : FVec F (Mat 256 1) .f32 := mulf (rowSum 256 (mulf (ownDp vh d) (own q kh))) (inv q kh)
def ownDs : FVec F (Mat 256 256) .bf16 := dscore 256 (own q kh) (ownDp vh d) (delta q kh vh d) (inv q kh)
/-- The block's part of the values' gradient. -/
def ownDv : FVec F (Mat 256 128) .f32 := weighed 256 (own q kh) (scaledRows d (inv q kh))
/-- The block's part of the keys' gradient. -/
def ownDk : FVec F (Mat 256 128) .f32 := overRows 256 (ownDs q kh vh d) q
/-- The block's rows of the queries' gradient. -/
def dq : FVec F (Mat 256 128) .f32 := overKeys 256 (ownDs q kh vh d) kh

end First

/-! ## A later block: `n` keys before it -/

namespace Later

variable (n : ℕ) (q kh vh d : FVec F (Mat 256 128) .bf16) (kb vb : FVec F (Mat n 128) .bf16)

def largest : FVec F (Mat 256 1) .f32 := maximumf (rowMax 256 (ownScores q kh)) (rowMax n (against n q kb))
def own : FVec F (Mat 256 256) .f32 := powers 256 (ownScores q kh) (largest n q kh kb)
def past : FVec F (Mat 256 n) .f32 := powers n (against n q kb) (largest n q kh kb)
def inv : FVec F (Mat 256 1) .f32 := recip (addf (rowSum n (past n q kh kb)) (rowSum 256 (own n q kh kb)))
def ownDp : FVec F (Mat 256 256) .f32 := against 256 d vh
def pastDp : FVec F (Mat 256 n) .f32 := against n d vb
def delta : FVec F (Mat 256 1) .f32 :=
  mulf (addf (rowSum 256 (mulf (ownDp vh d) (own n q kh kb))) (rowSum n (mulf (pastDp n d vb) (past n q kh kb)))) (inv n q kh kb)
def ownDs : FVec F (Mat 256 256) .bf16 := dscore 256 (own n q kh kb) (ownDp vh d) (delta n q kh vh d kb vb) (inv n q kh kb)
def pastDs : FVec F (Mat 256 n) .bf16 := dscore n (past n q kh kb) (pastDp n d vb) (delta n q kh vh d kb vb) (inv n q kh kb)
/-- The block's part of the values' gradient, at its own keys. -/
def ownDv : FVec F (Mat 256 128) .f32 := weighed 256 (own n q kh kb) (scaledRows d (inv n q kh kb))
/-- The block's part of the values' gradient, at the keys before it. -/
def pastDv : FVec F (Mat n 128) .f32 := weighed n (past n q kh kb) (scaledRows d (inv n q kh kb))
/-- The block's part of the keys' gradient, at its own keys. -/
def ownDk : FVec F (Mat 256 128) .f32 := overRows 256 (ownDs n q kh vh d kb vb) q
/-- The block's part of the keys' gradient, at the keys before it. -/
def pastDk : FVec F (Mat n 128) .f32 := overRows n (pastDs n q kh vh d kb vb) q
/-- The block's rows of the queries' gradient. -/
def dq : FVec F (Mat 256 128) .f32 :=
  addf (overKeys 256 (ownDs n q kh vh d kb vb) kh) (overKeys n (pastDs n q kh vh d kb vb) kb)

end Later

end Cert.Proof.Block

end
-- ==== Proof.Stores.lean ====
/- The stores of one run of the kernel's body, block by block, as the operations of Block.lean over the loaded slabs. -/
module

public import proofs.«01_k».proof.Proof.Block
public import proofs.«01_k».proof.Proof.Gen.KernelIdeal.Value

@[expose] public section

set_option maxRecDepth 16384

noncomputable section

namespace Cert.Proof.Stores

open Idealize.ShloMosaic Cert.KernelIdeal Cert.KernelIdeal.Gen Cert.Proof.Block

variable {F : FTy → Type} [FloatOps F] [Named F]

/-- `n` rows from row `o` on lie in the block of 2048 rows. -/
theorem rows_inside {o n : ℕ} (h : o + n ≤ 2048) (a : Fin 3) : (![0, o, 0] : Fin 3 → ℕ) a + (Slab n).size a ≤ S1x2048x128.size a := by
  fin_cases a
  · exact Nat.le_refl 1
  · exact h
  · exact Nat.le_refl 128

/-- The box of `n` rows from row `o` on. -/
abbrev box (o n : ℕ) (h : o + n ≤ 2048) : Rect S1x2048x128 := Rect.unit ![0, o, 0] (Slab n).size (rows_inside h)

/-- What a load of `n` rows from row `o` on reads of a whole buffer holding `x`. -/
abbrev part (arg : Memref sig .tc .vmem S1x2048x128 .bf16) (harg : arg.IsWhole) (x : Vec F S1x2048x128 .bf16) (o n : ℕ)
    (h : o + n ≤ 2048) : FVec F (Mat n 128) .bf16 :=
  flat n (View.readAt (Elt F) arg.view (box o n h).toLoadRect (harg.unread x))

/-- A store that adds `w` to `n` rows of an accumulator on which the stores `L` have been made. -/
abbrev addTo (arg : Memref sig .tc .vmem S1x2048x128 .f32) (o n : ℕ) (h : o + n ≤ 2048) (w : FVec F (Mat n 128) .f32)
    (L : List (View.Piece (Elt F) S1x2048x128 .f32)) : List (View.Piece (Elt F) S1x2048x128 .f32) :=
  ⟨box o n h, slab n (addf (flat n (arg.view.readCov L (box o n h).toLoadRect)) w)⟩ :: L

/-- The accumulator's first store: zeros over the whole block. -/
abbrev cleared : List (View.Piece (Elt F) S1x2048x128 .f32) :=
  [⟨box 0 2048 (Nat.le_refl _), slab 2048 (broadcast (Mat 2048 128) (FloatOps.ofBits .f32 0x00000000#32))⟩]

section

variable (arg2 : Memref sig .tc .vmem S1x2048x128 .bf16) (harg2 : arg2.IsWhole) (arg3 : Memref sig .tc .vmem S1x2048x128 .bf16) (harg3 : arg3.IsWhole)
    (arg4 : Memref sig .tc .vmem S1x2048x128 .bf16) (harg4 : arg4.IsWhole) (arg5 : Memref sig .tc .vmem S1x2048x128 .bf16) (harg5 : arg5.IsWhole)
    (arg7 : Memref sig .tc .vmem S1x2048x128 .f32) (arg8 : Memref sig .tc .vmem S1x2048x128 .f32)
    (x0 x1 x2 x3 : Vec F S1x2048x128 .bf16)

/-! ## The values' gradient -/

/-- The first block's addition to the values' gradient. -/
def valuesFirst (L : List (View.Piece (Elt F) S1x2048x128 .f32)) : List (View.Piece (Elt F) S1x2048x128 .f32) :=
  addTo arg8 0 256 (by decide) (First.ownDv (part arg2 harg2 x0 0 256 (by decide)) (part arg3 harg3 x1 0 256 (by decide)) (part arg5 harg5 x3 0 256 (by decide))) L

/-- A later block's two additions to the values' gradient. -/
def valuesLater (n : ℕ) (h : n + 256 ≤ 2048) (h' : 0 + n ≤ 2048) (L : List (View.Piece (Elt F) S1x2048x128 .f32)) : List (View.Piece (Elt F) S1x2048x128 .f32) :=
  addTo arg8 0 n h' (Later.pastDv n (part arg2 harg2 x0 n 256 h) (part arg3 harg3 x1 n 256 h) (part arg5 harg5 x3 n 256 h) (part arg3 harg3 x1 0 n h'))
    (addTo arg8 n 256 h (Later.ownDv n (part arg2 harg2 x0 n 256 h) (part arg3 harg3 x1 n 256 h) (part arg5 harg5 x3 n 256 h) (part arg3 harg3 x1 0 n h')) L)

/-- All the stores to the values' gradient. -/
def values : List (View.Piece (Elt F) S1x2048x128 .f32) :=
  valuesLater arg2 harg2 arg3 harg3 arg5 harg5 arg8 x0 x1 x3 1792 (by decide) (by decide)
    (valuesLater arg2 harg2 arg3 harg3 arg5 harg5 arg8 x0 x1 x3 1536 (by decide) (by decide)
    (valuesLater arg2 harg2 arg3 harg3 arg5 harg5 arg8 x0 x1 x3 1280 (by decide) (by decide)
    (valuesLater arg2 harg2 arg3 harg3 arg5 harg5 arg8 x0 x1 x3 1024 (by decide) (by decide)
    (valuesLater arg2 harg2 arg3 harg3 arg5 harg5 arg8 x0 x1 x3 768 (by decide) (by decide)
    (valuesLater arg2 harg2 arg3 harg3 arg5 harg5 arg8 x0 x1 x3 512 (by decide) (by decide)
    (valuesLater arg2 harg2 arg3 harg3 arg5 harg5 arg8 x0 x1 x3 256 (by decide) (by decide)
    (valuesFirst arg2 harg2 arg3 harg3 arg5 harg5 arg8 x0 x1 x3 cleared)))))))

/-! ## The keys' gradient -/

/-- The first block's addition to the keys' gradient. -/
def keysFirst (L : List (View.Piece (Elt F) S1x2048x128 .f32)) : List (View.Piece (Elt F) S1x2048x128 .f32) :=
  addTo arg7 0 256 (by decide) (First.ownDk (part arg2 harg2 x0 0 256 (by decide)) (part arg3 harg3 x1 0 256 (by decide)) (part arg4 harg4 x2 0 256 (by decide)) (part arg5 harg5 x3 0 256 (by decide))) L

/-- A later block's two additions to the keys' gradient. -/
def keysLater (n : ℕ) (h : n + 256 ≤ 2048) (h' : 0 + n ≤ 2048) (L : List (View.Piece (Elt F) S1x2048x128 .f32)) : List (View.Piece (Elt F) S1x2048x128 .f32) :=
  addTo arg7 0 n h' (Later.pastDk n (part arg2 harg2 x0 n 256 h) (part arg3 harg3 x1 n 256 h) (part arg4 harg4 x2 n 256 h) (part arg5 harg5 x3 n 256 h) (part arg3 harg3 x1 0 n h') (part arg4 harg4 x2 0 n h'))
    (addTo arg7 n 256 h (Later.ownDk n (part arg2 harg2 x0 n 256 h) (part arg3 harg3 x1 n 256 h) (part arg4 harg4 x2 n 256 h) (part arg5 harg5 x3 n 256 h) (part arg3 harg3 x1 0 n h') (part arg4 harg4 x2 0 n h')) L)

/-- The additions to the keys' gradient. -/
def keysSum : List (View.Piece (Elt F) S1x2048x128 .f32) :=
  keysLater arg2 harg2 arg3 harg3 arg4 harg4 arg5 harg5 arg7 x0 x1 x2 x3 1792 (by decide) (by decide)
    (keysLater arg2 harg2 arg3 harg3 arg4 harg4 arg5 harg5 arg7 x0 x1 x2 x3 1536 (by decide) (by decide)
    (keysLater arg2 harg2 arg3 harg3 arg4 harg4 arg5 harg5 arg7 x0 x1 x2 x3 1280 (by decide) (by decide)
    (keysLater arg2 harg2 arg3 harg3 arg4 harg4 arg5 harg5 arg7 x0 x1 x2 x3 1024 (by decide) (by decide)
    (keysLater arg2 harg2 arg3 harg3 arg4 harg4 arg5 harg5 arg7 x0 x1 x2 x3 768 (by decide) (by decide)
    (keysLater arg2 harg2 arg3 harg3 arg4 harg4 arg5 harg5 arg7 x0 x1 x2 x3 512 (by decide) (by decide)
    (keysLater arg2 harg2 arg3 harg3 arg4 harg4 arg5 harg5 arg7 x0 x1 x2 x3 256 (by decide) (by decide)
    (keysFirst arg2 harg2 arg3 harg3 arg4 harg4 arg5 harg5 arg7 x0 x1 x2 x3 cleared)))))))

/-- All the stores to the keys' gradient: at the end the whole block is multiplied by one constant. -/
def keys : List (View.Piece (Elt F) S1x2048x128 .f32) :=
  ⟨box 0 2048 (Nat.le_refl _), slab 2048 (mulf
      (flat 2048 (arg7.view.readCov (keysSum arg2 harg2 arg3 harg3 arg4 harg4 arg5 harg5 arg7 x0 x1 x2 x3) (box 0 2048 (Nat.le_refl _)).toLoadRect))
      (broadcast (Mat 2048 128) (Named.named κ "unprescale" 0x40D95360#32)))⟩
    :: keysSum arg2 harg2 arg3 harg3 arg4 harg4 arg5 harg5 arg7 x0 x1 x2 x3

/-! ## The queries' gradient -/

/-- The first block's rows of the queries' gradient. -/
def queriesFirst : List (View.Piece (Elt F) S1x2048x128 .f32) :=
  [⟨box 0 256 (by decide), slab 256 (First.dq (part arg2 harg2 x0 0 256 (by decide)) (part arg3 harg3 x1 0 256 (by decide)) (part arg4 harg4 x2 0 256 (by decide)) (part arg5 harg5 x3 0 256 (by decide)))⟩]

/-- A later block's rows of the queries' gradient. -/
def queriesLater (n : ℕ) (h : n + 256 ≤ 2048) (h' : 0 + n ≤ 2048) (L : List (View.Piece (Elt F) S1x2048x128 .f32)) : List (View.Piece (Elt F) S1x2048x128 .f32) :=
  ⟨box n 256 h, slab 256 (Later.dq n (part arg2 harg2 x0 n 256 h) (part arg3 harg3 x1 n 256 h) (part arg4 harg4 x2 n 256 h) (part arg5 harg5 x3 n 256 h) (part arg3 harg3 x1 0 n h') (part arg4 harg4 x2 0 n h'))⟩ :: L

/-- All the stores to the queries' gradient. -/
def queries : List (View.Piece (Elt F) S1x2048x128 .f32) :=
  queriesLater arg2 harg2 arg3 harg3 arg4 harg4 arg5 harg5 x0 x1 x2 x3 1792 (by decide) (by decide)
    (queriesLater arg2 harg2 arg3 harg3 arg4 harg4 arg5 harg5 x0 x1 x2 x3 1536 (by decide) (by decide)
    (queriesLater arg2 harg2 arg3 harg3 arg4 harg4 arg5 harg5 x0 x1 x2 x3 1280 (by decide) (by decide)
    (queriesLater arg2 harg2 arg3 harg3 arg4 harg4 arg5 harg5 x0 x1 x2 x3 1024 (by decide) (by decide)
    (queriesLater arg2 harg2 arg3 harg3 arg4 harg4 arg5 harg5 x0 x1 x2 x3 768 (by decide) (by decide)
    (queriesLater arg2 harg2 arg3 harg3 arg4 harg4 arg5 harg5 x0 x1 x2 x3 512 (by decide) (by decide)
    (queriesLater arg2 harg2 arg3 harg3 arg4 harg4 arg5 harg5 x0 x1 x2 x3 256 (by decide) (by decide)
    (queriesFirst arg2 harg2 arg3 harg3 arg4 harg4 arg5 harg5 x0 x1 x2 x3)))))))

end

/-! ## What the run leaves in each output -/

section

variable (c : Dev nD) (i : grid0.Coords) (arg2 : Memref sig .tc .vmem S1x2048x128 .bf16) (harg2 : arg2.IsWhole) (arg3 : Memref sig .tc .vmem S1x2048x128 .bf16) (harg3 : arg3.IsWhole)
    (arg4 : Memref sig .tc .vmem S1x2048x128 .bf16) (harg4 : arg4.IsWhole) (arg5 : Memref sig .tc .vmem S1x2048x128 .bf16) (harg5 : arg5.IsWhole)
    (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole)
    (x0 x1 x2 x3 : Vec F S1x2048x128 .bf16)

/-- The queries' gradient after the run. -/
theorem out_queries : out0_A_4 c i arg2 harg2 arg3 harg3 arg4 harg4 arg5 harg5 arg6 harg6 arg7 harg7 arg8 harg8 x0 x1 x2 x3
    = View.canon (queries arg2 harg2 arg3 harg3 arg4 harg4 arg5 harg5 x0 x1 x2 x3) :=
  (show _ = VO0_4.read (Elt F) (VO0_4.writes (Elt F) VO0_4.junk (queries arg2 harg2 arg3 harg3 arg4 harg4 arg5 harg5 x0 x1 x2 x3)) from rfl).trans
    (View.read_writes_junk_eq_canon _ _)

/-- The keys' gradient after the run. -/
theorem out_keys : out0_A_5 c i arg2 harg2 arg3 harg3 arg4 harg4 arg5 harg5 arg6 harg6 arg7 harg7 arg8 harg8 x0 x1 x2 x3
    = View.canon (keys arg2 harg2 arg3 harg3 arg4 harg4 arg5 harg5 arg7 x0 x1 x2 x3) :=
  (show _ = VO0_5.read (Elt F) (VO0_5.writes (Elt F) VO0_5.junk (keys arg2 harg2 arg3 harg3 arg4 harg4 arg5 harg5 arg7 x0 x1 x2 x3)) from rfl).trans
    (View.read_writes_junk_eq_canon _ _)

/-- The values' gradient after the run. -/
theorem out_values : out0_A_6 c i arg2 harg2 arg3 harg3 arg4 harg4 arg5 harg5 arg6 harg6 arg7 harg7 arg8 harg8 x0 x1 x2 x3
    = View.canon (values arg2 harg2 arg3 harg3 arg5 harg5 arg8 x0 x1 x3) :=
  (show _ = VO0_6.read (Elt F) (VO0_6.writes (Elt F) VO0_6.junk (values arg2 harg2 arg3 harg3 arg5 harg5 arg8 x0 x1 x3)) from rfl).trans
    (View.read_writes_junk_eq_canon _ _)

end

end Cert.Proof.Stores

end
-- ==== Proof.BlockRead.lean ====
/- The operations of Block.lean read at an index, over the extended reals. -/
module

public import proofs.«01_k».proof.Proof.Block
public import proofs.«01_k».proof.Proof.Consts
public import Idealize.ShloMosaic.Lib.Pointwise
public import Idealize.ShloMosaic.Lib.Pointwise.IndexVar
public import Idealize.ShloMosaic.Lib.ValueLayout

@[expose] public section

noncomputable section

namespace Cert.Proof.Block

open Idealize.ShloMosaic Cert.KernelIdeal

theorem against_apply (n : ℕ) (a : FVec Ideal (Mat 256 128) .bf16) (b : FVec Ideal (Mat n 128) .bf16) (r : Fin 256) (j : Fin n) :
    against n a b (ix2 r j) = ∑ c : Fin 128, (a (ix2 r c) : EReal) * b (ix2 j c) := by
  unfold against
  pointwise

theorem overRows_apply (n : ℕ) (a : FVec Ideal (Mat 256 n) .bf16) (b : FVec Ideal (Mat 256 128) .bf16) (j : Fin n) (c : Fin 128) :
    overRows n a b (ix2 j c) = ∑ r : Fin 256, (a (ix2 r j) : EReal) * b (ix2 r c) := by
  unfold overRows
  pointwise

theorem overKeys_apply (n : ℕ) (a : FVec Ideal (Mat 256 n) .bf16) (b : FVec Ideal (Mat n 128) .bf16) (r : Fin 256) (c : Fin 128) :
    overKeys n a b (ix2 r c) = ∑ j : Fin n, (a (ix2 r j) : EReal) * b (ix2 j c) := by
  unfold overKeys
  exact (Ideal.matmul_plain_apply none a b _ r c).trans (by pointwise; rfl)

theorem spread_apply (n : ℕ) (x : FVec Ideal (Mat 256 1) .f32) (r : Fin 256) (j : Fin n) :
    spread n x (ix2 r j) = x (ix2 r 0) := by
  unfold spread
  pointwise

theorem rowSum_apply (n : ℕ) (x : FVec Ideal (Mat 256 n) .f32) (r : Fin 256) :
    rowSum n x (ix2 r 0) = ∑ j : Fin n, (x (ix2 r j) : EReal) := by
  unfold rowSum
  pointwise

theorem rowMax_apply (n : ℕ) (x : FVec Ideal (Mat 256 n) .f32) (r : Fin 256) :
    rowMax n x (ix2 r 0) = Finset.univ.fold max (⊥ : EReal) fun j : Fin n => (x (ix2 r j) : EReal) := by
  unfold rowMax
  pointwise [Consts.ofBits_bottom]

theorem flat_apply (n : ℕ) {φ : FTy} (x : FVec Ideal (Slab n) φ) (r : Fin n) (c : Fin 128) : flat n x (ix2 r c) = x (ix3 0 r c) :=
  ValueIdx.shapeCast_1ab_ab_apply x _ r c

theorem slab_apply (n : ℕ) {φ : FTy} (x : FVec Ideal (Mat n 128) φ) (u : Fin 1) (r : Fin n) (c : Fin 128) : slab n x (ix3 u r c) = x (ix2 r c) :=
  ValueIdx.shapeCast_ab_1ab_apply x _ u r c

theorem powers_apply (n : ℕ) (s : FVec Ideal (Mat 256 n) .f32) (m : FVec Ideal (Mat 256 1) .f32) (r : Fin 256) (j : Fin n) :
    powers n s m (ix2 r j) = Ideal.exp2 ((s (ix2 r j) : EReal) - m (ix2 r 0)) := by
  unfold powers
  pointwise [spread_apply]
  rfl

theorem recip_apply (z : FVec Ideal (Mat 256 1) .f32) (r : Fin 256) : recip z (ix2 r 0) = Ideal.div 1 (z (ix2 r 0)) := by
  unfold recip
  pointwise

theorem scaledRows_apply (d : FVec Ideal (Mat 256 128) .bf16) (inv : FVec Ideal (Mat 256 1) .f32) (r : Fin 256) (c : Fin 128) :
    scaledRows d inv (ix2 r c) = (d (ix2 r c) : EReal) * inv (ix2 r 0) := by
  unfold scaledRows
  pointwise [spread_apply]

theorem weighed_apply (n : ℕ) (e : FVec Ideal (Mat 256 n) .f32) (dn : FVec Ideal (Mat 256 128) .bf16) (j : Fin n) (c : Fin 128) :
    weighed n e dn (ix2 j c) = ∑ r : Fin 256, (e (ix2 r j) : EReal) * dn (ix2 r c) := by
  unfold weighed
  rw [overRows_apply]
  pointwise

theorem dscore_apply (n : ℕ) (e dp : FVec Ideal (Mat 256 n) .f32) (delta inv : FVec Ideal (Mat 256 1) .f32) (r : Fin 256) (j : Fin n) :
    dscore n e dp delta inv (ix2 r j)
      = ((e (ix2 r j) : EReal) * (dp (ix2 r j) - delta (ix2 r 0))) * ((inv (ix2 r 0) : EReal) * (((Real.sqrt 96)⁻¹ : ℝ) : EReal)) := by
  unfold dscore
  pointwise [spread_apply, Consts.named_scale]

/-- The words' division by 64, at the places of a block. -/
theorem chunk_word : ∀ x : Fin 256,
    Scalar.select
      (IntOp.andi
        (IntOp.cmpi CmpIPredicate.ne
          (IntOp.subi (BitVec.setWidth 32 (IntOp.cmpi CmpIPredicate.sgt (BitVec.ofNat 32 x.val) 0#32))
            (BitVec.setWidth 32 (IntOp.cmpi CmpIPredicate.slt (BitVec.ofNat 32 x.val) 0#32)))
          1#32)
        (IntOp.cmpi CmpIPredicate.ne (IntOp.remsi ArithUnit.vector (BitVec.ofNat 32 x.val) 64#32) 0#32))
      (IntOp.subi (IntOp.divsi ArithUnit.vector (BitVec.ofNat 32 x.val) 64#32) 1#32)
      (IntOp.divsi ArithUnit.vector (BitVec.ofNat 32 x.val) 64#32) =
    BitVec.ofNat 32 (x.val / 64) := by decide +kernel

/-- Chunk numbers compare as numbers. -/
theorem chunk_order : ∀ a b : Fin 4,
    IntOp.cmpi CmpIPredicate.sle (BitVec.ofNat 32 a.val) (BitVec.ofNat 32 b.val) = if a.val ≤ b.val then 1#1 else 0#1 := by decide +kernel

theorem kept_apply (r j : Fin 256) : kept (ix2 r j) = if j.val / 64 ≤ r.val / 64 then 1#1 else 0#1 := by
  unfold kept chunkWord
  pointwise
  rw [chunk_word r, chunk_word j]
  exact chunk_order ⟨j.val / 64, by omega⟩ ⟨r.val / 64, by omega⟩

theorem ownScores_apply (q kh : FVec Ideal (Mat 256 128) .bf16) (r j : Fin 256) :
    ownScores q kh (ix2 r j)
      = if j.val / 64 ≤ r.val / 64 then ∑ c : Fin 128, (q (ix2 r c) : EReal) * kh (ix2 j c) else (⊥ : EReal) := by
  unfold ownScores
  pointwise [against_apply, kept_apply, Consts.named_mask]
  split <;> rfl

end Cert.Proof.Block
end
-- ==== Proof.StoresRead.lean ====
/- The lists of stores of Stores.lean read at an index: an accumulator holds the sum of what the blocks added. -/
module

public import proofs.«01_k».proof.Proof.Stores
public import proofs.«01_k».proof.Proof.BlockRead

@[expose] public section

noncomputable section

namespace Cert.Proof.Stores

open Idealize.ShloMosaic Cert.KernelIdeal Cert.KernelIdeal.Gen Cert.Proof.Block

/-- A box's rows in the whole block. -/
theorem box_idx (o n : ℕ) (h : o + n ≤ 2048) (r : Fin n) (c : Fin 128) :
    (box o n h).emb (ix3 0 r c) = ix3 0 ⟨o + r.val, by omega⟩ c := by
  funext a
  apply Fin.ext
  match a with
  | ⟨0, _⟩ => rfl
  | ⟨1, _⟩ => show o + 1 * r.val = o + r.val; omega
  | ⟨2, _⟩ => show 0 + 1 * c.val = c.val; omega

/-- A row outside a box is none of its rows. -/
theorem not_mem_box (o n : ℕ) (h : o + n ≤ 2048) (r : Fin 2048) (c : Fin 128) (hr : ¬ (o ≤ r.val ∧ r.val < o + n)) :
    (ix3 0 r c : S1x2048x128.Idx) ∉ (box o n h).set := by
  intro hm
  obtain ⟨x, hx⟩ := (box o n h).exists_idx_of_mem hm
  have h1 : o + 1 * (x 1).val = r.val := congrArg (fun y : S1x2048x128.Idx => (y 1).val) hx
  have h2 : (x 1).val < n := (x 1).isLt
  omega

/-- A loaded part at an index is the buffer's row. -/
theorem part_apply (arg : Memref sig .tc .vmem S1x2048x128 .bf16) (harg : arg.IsWhole) (x : Vec Ideal S1x2048x128 .bf16) (o n : ℕ)
    (h : o + n ≤ 2048) (r : Fin n) (c : Fin 128) : part arg harg x o n h (ix2 r c) = x (ix3 0 ⟨o + r.val, by omega⟩ c) := by
  refine (flat_apply n _ r c).trans ?_
  rw [View.readAt_eq_ld, harg.read_unread]
  show x ((box o n h).emb (ix3 0 r c)) = _
  rw [box_idx]

section

variable (arg : Memref sig .tc .vmem S1x2048x128 .f32)

/-- A store that adds, at a row it covers. -/
theorem canon_addTo_inside (o n : ℕ) (h : o + n ≤ 2048) (w : FVec Ideal (Mat n 128) .f32)
    (L : List (View.Piece (Elt Ideal) S1x2048x128 .f32)) (r : Fin n) (c : Fin 128) :
    View.canon (addTo arg o n h w L) (ix3 0 ⟨o + r.val, by omega⟩ c)
      = ((View.canon L (ix3 0 ⟨o + r.val, by omega⟩ c) : EReal) + w (ix2 r c) : EReal) := by
  rw [← box_idx o n h r c, View.canon_cons_emb, slab_apply]
  refine congrArg (fun z : EReal => z + w (ix2 r c)) ((flat_apply n _ r c).trans ?_)
  rw [View.readCov_eq_canon']
  rfl

/-- A store, at a row it does not cover. -/
theorem canon_outside (o n : ℕ) (h : o + n ≤ 2048) (w : Vec Ideal (Slab n) .f32)
    (L : List (View.Piece (Elt Ideal) S1x2048x128 .f32)) (r : Fin 2048) (c : Fin 128) (hr : ¬ (o ≤ r.val ∧ r.val < o + n)) :
    View.canon ((⟨box o n h, w⟩ : View.Piece (Elt Ideal) S1x2048x128 .f32) :: L) (ix3 0 r c) = View.canon L (ix3 0 r c) :=
  View.canon_cons_of_not_mem _ L (not_mem_box o n h r c hr)

/-- A store, at a row it covers. -/
theorem canon_inside (o n : ℕ) (h : o + n ≤ 2048) (w : FVec Ideal (Mat n 128) .f32)
    (L : List (View.Piece (Elt Ideal) S1x2048x128 .f32)) (r : Fin n) (c : Fin 128) :
    View.canon ((⟨box o n h, slab n w⟩ : View.Piece (Elt Ideal) S1x2048x128 .f32) :: L) (ix3 0 ⟨o + r.val, by omega⟩ c) = w (ix2 r c) := by
  rw [← box_idx o n h r c, View.canon_cons_emb, slab_apply]

/-- The cleared accumulator is zero. -/
theorem canon_cleared (r : Fin 2048) (c : Fin 128) : View.canon (cleared (F := Ideal)) (ix3 0 r c) = (0 : EReal) := by
  have h := canon_inside 0 2048 (Nat.le_refl _) (broadcast (Mat 2048 128) (FloatOps.ofBits (F := Ideal) .f32 0x00000000#32)) [] r c
  simp only [Nat.zero_add] at h
  refine h.trans ?_
  show Ideal.ofBits .f32 0x00000000#32 = 0
  simp

/-- A block's two additions to an accumulator come to one function `G` of the row. -/
theorem canon_later (n : ℕ) (h : n + 256 ≤ 2048) (h' : 0 + n ≤ 2048) (own : FVec Ideal (Mat 256 128) .f32) (past : FVec Ideal (Mat n 128) .f32)
    (G : Fin 2048 → Fin 128 → EReal) (hown : ∀ (r : Fin 256) c, own (ix2 r c) = G ⟨n + r.val, by omega⟩ c)
    (hpast : ∀ (r : Fin n) c, past (ix2 r c) = G ⟨r.val, by omega⟩ c) (hrest : ∀ (r : Fin 2048) c, n + 256 ≤ r.val → G r c = 0)
    (L : List (View.Piece (Elt Ideal) S1x2048x128 .f32)) (r : Fin 2048) (c : Fin 128) :
    View.canon (addTo arg 0 n h' past (addTo arg n 256 h own L)) (ix3 0 r c) = ((View.canon L (ix3 0 r c) : EReal) + G r c : EReal) := by
  by_cases h1 : r.val < n
  · have e : r = ⟨0 + (⟨r.val, h1⟩ : Fin n).val, by omega⟩ := Fin.ext (by simp)
    rw [e, canon_addTo_inside arg 0 n h' past _ ⟨r.val, h1⟩ c, ← e, canon_outside n 256 h _ _ r c (by omega), hpast]
  · rw [canon_outside 0 n h' _ _ r c (by omega)]
    by_cases h2 : r.val < n + 256
    · have e : r = ⟨n + (⟨r.val - n, by omega⟩ : Fin 256).val, by omega⟩ := Fin.ext (by simp; omega)
      rw [e, canon_addTo_inside arg n 256 h own _ ⟨r.val - n, by omega⟩ c, hown]
    · rw [canon_outside n 256 h _ _ r c (by omega), hrest r c (by omega), add_zero]

/-- The first block's addition likewise. -/
theorem canon_first (own : FVec Ideal (Mat 256 128) .f32)
    (G : Fin 2048 → Fin 128 → EReal) (hown : ∀ (r : Fin 256) c, own (ix2 r c) = G ⟨0 + r.val, by omega⟩ c)
    (hrest : ∀ (r : Fin 2048) c, 0 + 256 ≤ r.val → G r c = 0)
    (L : List (View.Piece (Elt Ideal) S1x2048x128 .f32)) (r : Fin 2048) (c : Fin 128) :
    View.canon (addTo arg 0 256 (by decide) own L) (ix3 0 r c) = ((View.canon L (ix3 0 r c) : EReal) + G r c : EReal) := by
  by_cases h2 : r.val < 256
  · have e : r = ⟨0 + (⟨r.val, h2⟩ : Fin 256).val, by omega⟩ := Fin.ext (by simp)
    rw [e, canon_addTo_inside arg 0 256 (by decide) own _ ⟨r.val, h2⟩ c, hown]
  · rw [canon_outside 0 256 (by decide) _ _ r c (by omega), hrest r c (by omega), add_zero]

end

end Cert.Proof.Stores

end
-- ==== Proof.Weights.lean ====
/- The mathematics of one head, over plain rows and columns: the weights of chunk-causal attention, which do not depend on
   the number taken off the scores, and the three gradients they give. No program is mentioned here. -/
module

public import Mathlib.Data.EReal.Inv
public import Mathlib.Data.EReal.Operations
public import Mathlib.Analysis.SpecialFunctions.Pow.Real

@[expose] public section

noncomputable section

namespace Cert.Proof.Head

/-! ## Sums -/

/-- A sum of real numbers, as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A factor that is real and not negative goes into a sum. -/
theorem sum_mul_coe {ι : Type*} (s : Finset ι) (f : ι → EReal) {x : ℝ} (hx : 0 ≤ x) :
    (∑ i ∈ s, f i) * (x : EReal) = ∑ i ∈ s, f i * (x : EReal) := by
  classical
  induction s using Finset.induction_on with
  | empty => simp
  | insert a s ha ih =>
    rw [Finset.sum_insert ha, Finset.sum_insert ha,
      EReal.right_distrib_of_nonneg_of_ne_top (by exact_mod_cast hx) (EReal.coe_ne_top x), ih]

/-- The same over a difference. -/
theorem sub_mul_coe (a b : EReal) {x : ℝ} (hx : 0 ≤ x) : (a - b) * (x : EReal) = a * x + -(b * (x : EReal)) := by
  rw [sub_eq_add_neg, EReal.right_distrib_of_nonneg_of_ne_top (by exact_mod_cast hx) (EReal.coe_ne_top x), EReal.neg_mul]

/-- A sum over the first `n` places and the `w` after them, where nothing lies further. -/
theorem sum_two_groups {M : Type*} [AddCommMonoid M] {N : ℕ} (n w : ℕ) (h : n + w ≤ N) (f : Fin N → M)
    (hrest : ∀ i : Fin N, n + w ≤ i.val → f i = 0) :
    ∑ j : Fin n, f ⟨j.val, by omega⟩ + ∑ j : Fin w, f ⟨n + j.val, by omega⟩ = ∑ i, f i := by
  obtain ⟨k, rfl⟩ : ∃ k, N = n + w + k := ⟨N - (n + w), by omega⟩
  rw [Fin.sum_univ_add, Fin.sum_univ_add]
  have hz : ∑ i : Fin k, f (Fin.natAdd (n + w) i) = 0 :=
    Finset.sum_eq_zero fun i _ => hrest _ (by simp)
  rw [hz, add_zero]
  rfl

/-- Eight blocks of 256 make up a sum over 2048. -/
theorem sum_eight {M : Type*} [AddCommMonoid M] (f : Fin 2048 → M) :
    ∑ i, f i = (((((((∑ r : Fin 256, f ⟨0 + r.val, by omega⟩) + ∑ r : Fin 256, f ⟨256 + r.val, by omega⟩)
      + ∑ r : Fin 256, f ⟨512 + r.val, by omega⟩) + ∑ r : Fin 256, f ⟨768 + r.val, by omega⟩)
      + ∑ r : Fin 256, f ⟨1024 + r.val, by omega⟩) + ∑ r : Fin 256, f ⟨1280 + r.val, by omega⟩)
      + ∑ r : Fin 256, f ⟨1536 + r.val, by omega⟩) + ∑ r : Fin 256, f ⟨1792 + r.val, by omega⟩ := by
  have e : ∀ (g : Fin (8 * 256) → M), ∑ i, g i = ∑ a : Fin 8, ∑ r : Fin 256, g ⟨256 * a.val + r.val, by omega⟩ := fun g => by
    rw [← finProdFinEquiv.sum_comp, Fintype.sum_prod_type]
    refine Finset.sum_congr rfl fun a _ => Finset.sum_congr rfl fun r _ => congrArg g (Fin.ext ?_)
    show r.val + 256 * a.val = 256 * a.val + r.val
    omega
  refine (e f).trans ?_
  rw [Fin.sum_univ_eight]
  rfl

/-- The largest of finitely many values, each real or bottom and at least one real, is real. -/
theorem fold_max_real {n : ℕ} (f : Fin n → EReal) (htop : ∀ j, f j ≠ ⊤) (j₀ : Fin n) (hbot : f j₀ ≠ ⊥) :
    ∃ M : ℝ, Finset.univ.fold max ⊥ f = (M : EReal) := by
  have h1 : Finset.univ.fold max ⊥ f < ⊤ :=
    (Finset.fold_max_lt _).mpr ⟨bot_lt_top, fun j _ => lt_top_iff_ne_top.mpr (htop j)⟩
  have h2 : f j₀ ≤ Finset.univ.fold max ⊥ f := (Finset.le_fold_max _).mpr (Or.inr ⟨j₀, Finset.mem_univ _, le_refl _⟩)
  exact ⟨_, (EReal.coe_toReal h1.ne ((lt_of_lt_of_le (bot_lt_iff_ne_bot.mpr hbot) h2).ne')).symm⟩

/-- The same with a bound only above. -/
theorem fold_max_ne_top {n : ℕ} (f : Fin n → EReal) (htop : ∀ j, f j ≠ ⊤) : Finset.univ.fold max ⊥ f ≠ ⊤ :=
  ((Finset.fold_max_lt _).mpr ⟨bot_lt_top, fun j _ => lt_top_iff_ne_top.mpr (htop j)⟩).ne

/-! ## Weights -/

section

variable (Q K : Fin 2048 → Fin 128 → ℝ) (V D : Fin 2048 → Fin 128 → EReal)

/-- A score, to the base two. -/
def score (I J : Fin 2048) : ℝ := ∑ c : Fin 128, Q I c * K J c

/-- The power of a kept score less `M`; nothing where the key's chunk comes after the row's. -/
def shifted (M : ℝ) (I J : Fin 2048) : ℝ := if J.val / 64 ≤ I.val / 64 then (2 : ℝ) ^ (score Q K I J - M) else 0

/-- A row's sum of powers. -/
def total (M : ℝ) (I : Fin 2048) : ℝ := ∑ J, shifted Q K M I J

/-- The weight of a key in a row. -/
def share (I J : Fin 2048) : ℝ := shifted Q K 0 I J / total Q K 0 I

theorem shifted_nonneg (M : ℝ) (I J : Fin 2048) : 0 ≤ shifted Q K M I J := by
  unfold shifted
  split
  · exact Real.rpow_nonneg (by norm_num) _
  · exact le_refl _

theorem total_pos (M : ℝ) (I : Fin 2048) : 0 < total Q K M I :=
  Finset.sum_pos' (fun J _ => shifted_nonneg Q K M I J)
    ⟨I, Finset.mem_univ _, by rw [shifted, if_pos (le_refl _)]; exact Real.rpow_pos_of_pos (by norm_num) _⟩

theorem share_nonneg (I J : Fin 2048) : 0 ≤ share Q K I J := div_nonneg (shifted_nonneg _ _ _ _ _) (total_pos _ _ _ _).le

/-- A later chunk has no weight. -/
theorem shifted_later (M : ℝ) {I J : Fin 2048} (h : ¬ J.val / 64 ≤ I.val / 64) : shifted Q K M I J = 0 := if_neg h
theorem share_later {I J : Fin 2048} (h : ¬ J.val / 64 ≤ I.val / 64) : share Q K I J = 0 := by
  rw [share, shifted_later Q K 0 h, zero_div]

theorem shifted_eq (M : ℝ) (I J : Fin 2048) : shifted Q K M I J = shifted Q K 0 I J * (2 : ℝ) ^ (-M) := by
  unfold shifted
  split
  · rw [← Real.rpow_add (by norm_num), sub_zero, sub_eq_add_neg]
  · rw [zero_mul]

/-- Whatever is taken off the scores, a power over its row's sum is the weight. -/
theorem shifted_div_total (M : ℝ) (I J : Fin 2048) : shifted Q K M I J / total Q K M I = share Q K I J := by
  have e : total Q K M I = total Q K 0 I * (2 : ℝ) ^ (-M) := by
    rw [total, total, Finset.sum_mul]
    exact Finset.sum_congr rfl fun J _ => shifted_eq Q K M I J
  have hp : (0 : ℝ) < (2 : ℝ) ^ (-M) := Real.rpow_pos_of_pos (by norm_num) _
  rw [shifted_eq, e, share, mul_div_mul_right _ _ hp.ne']

/-! ## The three gradients -/

/-- The gradient of a weight. -/
def dweight (I J : Fin 2048) : EReal := ∑ c : Fin 128, D I c * V J c

/-- A row's mean of the weights' gradients. -/
def mean (I : Fin 2048) : EReal := ∑ J, dweight V D I J * (share Q K I J : EReal)

/-- The gradient of a score before its scale, times `s`. -/
def dscore (s : ℝ) (I J : Fin 2048) : EReal := (dweight V D I J - mean Q K V D I) * ((share Q K I J * s : ℝ) : EReal)

/-- The values' gradient. -/
def dv (J : Fin 2048) (c : Fin 128) : EReal := ∑ I, D I c * (share Q K I J : EReal)
/-- The keys' gradient, with rows `X` for the queries. -/
def dk (s : ℝ) (X : Fin 2048 → Fin 128 → EReal) (J : Fin 2048) (c : Fin 128) : EReal := ∑ I, dscore Q K V D s I J * X I c
/-- The queries' gradient. -/
def dq (s : ℝ) (I : Fin 2048) (c : Fin 128) : EReal := ∑ J, dscore Q K V D s I J * (K J c : EReal)

theorem dscore_later (s : ℝ) {I J : Fin 2048} (h : ¬ J.val / 64 ≤ I.val / 64) : dscore Q K V D s I J = 0 := by
  rw [dscore, share_later Q K h, zero_mul, EReal.coe_zero, mul_zero]

end

end Cert.Proof.Head

end
-- ==== Proof.BlockValue.lean ====
/- What one block of 256 query rows adds to the three gradients, over the extended reals: its part of the sums of Weights.lean. -/
module

public import proofs.«01_k».proof.Proof.BlockRead
public import proofs.«01_k».proof.Proof.Weights

@[expose] public section

noncomputable section

namespace Cert.Proof.Block

open Idealize.ShloMosaic Cert.KernelIdeal

/-- The scale of the scores. -/
abbrev scale : ℝ := (Real.sqrt 96)⁻¹

/-- The rows a block at row `n` loads: its own 256 and the `n` before it, of a head's queries, keys, values and cotangents. -/
structure Loads (n : ℕ) (hn : n + 256 ≤ 2048) (Q K : Fin 2048 → Fin 128 → ℝ) (V D : Fin 2048 → Fin 128 → EReal)
    (q kh vh d : FVec Ideal (Mat 256 128) .bf16) (kb vb : FVec Ideal (Mat n 128) .bf16) : Prop where
  aligned : 64 ∣ n
  queries : ∀ (r : Fin 256) c, q (ix2 r c) = (Q ⟨n + r.val, by omega⟩ c : EReal)
  ownKeys : ∀ (r : Fin 256) c, kh (ix2 r c) = (K ⟨n + r.val, by omega⟩ c : EReal)
  ownValues : ∀ (r : Fin 256) c, vh (ix2 r c) = V ⟨n + r.val, by omega⟩ c
  cotangents : ∀ (r : Fin 256) c, d (ix2 r c) = D ⟨n + r.val, by omega⟩ c
  pastKeys : ∀ (r : Fin n) c, kb (ix2 r c) = (K ⟨r.val, by omega⟩ c : EReal)
  pastValues : ∀ (r : Fin n) c, vb (ix2 r c) = V ⟨r.val, by omega⟩ c

namespace Loads

variable {n : ℕ} {hn : n + 256 ≤ 2048} {Q K : Fin 2048 → Fin 128 → ℝ} {V D : Fin 2048 → Fin 128 → EReal}
    {q kh vh d : FVec Ideal (Mat 256 128) .bf16} {kb vb : FVec Ideal (Mat n 128) .bf16} (h : Loads n hn Q K V D q kh vh d kb vb)
include h

/-- A row or key of the block in the whole head. -/
abbrev here (_ : Loads n hn Q K V D q kh vh d kb vb) (r : Fin 256) : Fin 2048 := ⟨n + r.val, by omega⟩
/-- A key before the block in the whole head. -/
abbrev before (_ : Loads n hn Q K V D q kh vh d kb vb) (j : Fin n) : Fin 2048 := ⟨j.val, by omega⟩

/-- Chunks of the block's own pairs compare as chunks of the head. -/
theorem chunk_here (r j : Fin 256) : j.val / 64 ≤ r.val / 64 ↔ (h.here j).val / 64 ≤ (h.here r).val / 64 := by
  obtain ⟨k, rfl⟩ := h.aligned
  show _ ↔ (64 * k + j.val) / 64 ≤ (64 * k + r.val) / 64
  omega

/-- Keys before the block are in chunks before the row's, or the row's own. -/
theorem chunk_before (r : Fin 256) (j : Fin n) : (h.before j).val / 64 ≤ (h.here r).val / 64 := by
  show j.val / 64 ≤ (n + r.val) / 64
  omega

/-- Keys past the block are in later chunks. -/
theorem chunk_after (r : Fin 256) (J : Fin 2048) (hJ : n + 256 ≤ J.val) : ¬ J.val / 64 ≤ (h.here r).val / 64 := by
  obtain ⟨k, rfl⟩ := h.aligned
  show ¬ J.val / 64 ≤ (64 * k + r.val) / 64
  omega

theorem ownScores_eq (r j : Fin 256) :
    ownScores q kh (ix2 r j) = if (h.here j).val / 64 ≤ (h.here r).val / 64 then (Head.score Q K (h.here r) (h.here j) : EReal) else ⊥ := by
  rw [ownScores_apply]
  refine if_congr (h.chunk_here r j) ?_ rfl
  rw [Head.score, Head.coe_sum]
  exact Finset.sum_congr rfl fun c _ => by rw [h.queries, h.ownKeys, EReal.coe_mul]

theorem pastScores_eq (r : Fin 256) (j : Fin n) : against n q kb (ix2 r j) = (Head.score Q K (h.here r) (h.before j) : EReal) := by
  rw [against_apply, Head.score, Head.coe_sum]
  exact Finset.sum_congr rfl fun c _ => by rw [h.queries, h.pastKeys, EReal.coe_mul]

/-- A row's largest score is a real number. -/
theorem largest_real (r : Fin 256) : ∃ M : ℝ, Later.largest n q kh kb (ix2 r 0) = (M : EReal) := by
  obtain ⟨M, hM⟩ := Head.fold_max_real (fun j : Fin 256 => (ownScores q kh (ix2 r j) : EReal))
    (fun j => by rw [h.ownScores_eq]; split <;> simp) r (by rw [h.ownScores_eq, if_pos (le_refl _)]; simp)
  have hp := Head.fold_max_ne_top (fun j : Fin n => (against n q kb (ix2 r j) : EReal)) (fun j => by rw [h.pastScores_eq]; simp)
  have e : Later.largest n q kh kb (ix2 r 0)
      = max (M : EReal) (Finset.univ.fold max ⊥ fun j : Fin n => (against n q kb (ix2 r j) : EReal)) := by
    unfold Later.largest
    pointwise [rowMax_apply]
    rw [hM]
  have h1 : Later.largest n q kh kb (ix2 r 0) ≠ (⊤ : EReal) := by
    rw [e]
    exact (max_lt (EReal.coe_lt_top M) (lt_top_iff_ne_top.mpr hp)).ne
  have h2 : Later.largest n q kh kb (ix2 r 0) ≠ (⊥ : EReal) := by
    rw [e]
    exact (lt_of_lt_of_le (EReal.bot_lt_coe M) (le_max_left _ _)).ne'
  exact ⟨_, (EReal.coe_toReal h1 h2).symm⟩

section

variable {r : Fin 256} {M : ℝ} (hM : Later.largest n q kh kb (ix2 r 0) = (M : EReal))
include hM

theorem own_eq (j : Fin 256) : Later.own n q kh kb (ix2 r j) = (Head.shifted Q K M (h.here r) (h.here j) : EReal) := by
  unfold Later.own Head.shifted
  rw [powers_apply, h.ownScores_eq, hM]
  split
  · rw [← EReal.coe_sub]; rfl
  · rw [EReal.bot_sub]; rfl

theorem past_eq (j : Fin n) : Later.past n q kh kb (ix2 r j) = (Head.shifted Q K M (h.here r) (h.before j) : EReal) := by
  unfold Later.past Head.shifted
  rw [powers_apply, h.pastScores_eq, hM, if_pos (h.chunk_before r j), ← EReal.coe_sub]
  rfl

theorem inv_eq : Later.inv n q kh kb (ix2 r 0) = (((Head.total Q K M (h.here r))⁻¹ : ℝ) : EReal) := by
  have e : (∑ j : Fin n, (Later.past n q kh kb (ix2 r j) : EReal)) + ∑ j : Fin 256, (Later.own n q kh kb (ix2 r j) : EReal)
      = (Head.total Q K M (h.here r) : EReal) := by
    rw [Head.total, ← Head.sum_two_groups n 256 hn _ fun J hJ => Head.shifted_later Q K M (h.chunk_after r J hJ), EReal.coe_add,
      Head.coe_sum, Head.coe_sum]
    exact congrArg₂ _ (Finset.sum_congr rfl fun j _ => h.past_eq hM j) (Finset.sum_congr rfl fun j _ => h.own_eq hM j)
  unfold Later.inv
  rw [recip_apply]
  pointwise [rowSum_apply]
  rw [e, Ideal.div_coe (Head.total_pos _ _ _ _).ne', one_mul, one_div]

end

/-- A power times the reciprocal of its row's sum is the weight. -/
theorem own_inv (r j : Fin 256) :
    (Later.own n q kh kb (ix2 r j) : EReal) * Later.inv n q kh kb (ix2 r 0) = (Head.share Q K (h.here r) (h.here j) : EReal) := by
  obtain ⟨M, hM⟩ := h.largest_real r
  rw [h.own_eq hM, h.inv_eq hM, ← EReal.coe_mul, ← div_eq_mul_inv, Head.shifted_div_total]

theorem past_inv (r : Fin 256) (j : Fin n) :
    (Later.past n q kh kb (ix2 r j) : EReal) * Later.inv n q kh kb (ix2 r 0) = (Head.share Q K (h.here r) (h.before j) : EReal) := by
  obtain ⟨M, hM⟩ := h.largest_real r
  rw [h.past_eq hM, h.inv_eq hM, ← EReal.coe_mul, ← div_eq_mul_inv, Head.shifted_div_total]

/-- The reciprocal goes into a row's sum. -/
theorem sum_inv {ι : Type} (s : Finset ι) (f : ι → EReal) (r : Fin 256) :
    (∑ j ∈ s, f j) * (Later.inv n q kh kb (ix2 r 0) : EReal) = ∑ j ∈ s, f j * (Later.inv n q kh kb (ix2 r 0) : EReal) := by
  obtain ⟨M, hM⟩ := h.largest_real r
  rw [h.inv_eq hM]
  exact Head.sum_mul_coe s f (inv_nonneg.mpr (Head.total_pos _ _ _ _).le)

theorem ownDp_eq (r j : Fin 256) : Later.ownDp vh d (ix2 r j) = Head.dweight V D (h.here r) (h.here j) := by
  unfold Later.ownDp Head.dweight
  rw [against_apply]
  exact Finset.sum_congr rfl fun c _ => by rw [h.cotangents, h.ownValues]

theorem pastDp_eq (r : Fin 256) (j : Fin n) : Later.pastDp n d vb (ix2 r j) = Head.dweight V D (h.here r) (h.before j) := by
  unfold Later.pastDp Head.dweight
  rw [against_apply]
  exact Finset.sum_congr rfl fun c _ => by rw [h.cotangents, h.pastValues]

theorem delta_eq (r : Fin 256) : Later.delta n q kh vh d kb vb (ix2 r 0) = Head.mean Q K V D (h.here r) := by
  obtain ⟨M, hM⟩ := h.largest_real r
  have e : Later.delta n q kh vh d kb vb (ix2 r 0)
      = ((∑ j : Fin 256, (Later.ownDp vh d (ix2 r j) : EReal) * Later.own n q kh kb (ix2 r j))
        + ∑ j : Fin n, (Later.pastDp n d vb (ix2 r j) : EReal) * Later.past n q kh kb (ix2 r j)) * Later.inv n q kh kb (ix2 r 0) := by
    unfold Later.delta
    pointwise [rowSum_apply]
  rw [e, Head.mean, ← Head.sum_two_groups n 256 hn _ fun J hJ => by
      rw [Head.share_later Q K (h.chunk_after r J hJ), EReal.coe_zero, mul_zero],
    h.inv_eq hM, EReal.right_distrib_of_nonneg_of_ne_top
      (by exact_mod_cast inv_nonneg.mpr (Head.total_pos _ _ _ _).le) (EReal.coe_ne_top _), ← h.inv_eq hM, h.sum_inv, h.sum_inv, add_comm]
  exact congrArg₂ _ (Finset.sum_congr rfl fun j _ => by rw [mul_assoc, h.past_inv, h.pastDp_eq])
    (Finset.sum_congr rfl fun j _ => by rw [mul_assoc, h.own_inv, h.ownDp_eq])

omit h in
/-- Power, difference and scaled reciprocal, put together as the gradient of a score. -/
theorem regroup (e x i p : EReal) (t : ℝ) (w : ℝ) (hw : e * i = (w : EReal)) : (e * (x - p)) * (i * (t : EReal)) = (x - p) * ((w * t : ℝ) : EReal) := by
  rw [EReal.coe_mul, ← hw]
  ac_rfl

theorem ownDs_eq (r j : Fin 256) : Later.ownDs n q kh vh d kb vb (ix2 r j) = Head.dscore Q K V D scale (h.here r) (h.here j) := by
  unfold Later.ownDs
  rw [dscore_apply, h.ownDp_eq, h.delta_eq]
  exact regroup _ _ _ _ _ _ (h.own_inv r j)

theorem pastDs_eq (r : Fin 256) (j : Fin n) : Later.pastDs n q kh vh d kb vb (ix2 r j) = Head.dscore Q K V D scale (h.here r) (h.before j) := by
  unfold Later.pastDs
  rw [dscore_apply, h.pastDp_eq, h.delta_eq]
  exact regroup _ _ _ _ _ _ (h.past_inv r j)

/-! ## The block's part of each gradient -/

theorem ownDv_eq (j : Fin 256) (c : Fin 128) :
    Later.ownDv n q kh d kb (ix2 j c) = ∑ r : Fin 256, D (h.here r) c * (Head.share Q K (h.here r) (h.here j) : EReal) := by
  unfold Later.ownDv
  rw [weighed_apply]
  refine Finset.sum_congr rfl fun r _ => ?_
  rw [scaledRows_apply, h.cotangents, ← h.own_inv]
  ac_rfl

theorem pastDv_eq (j : Fin n) (c : Fin 128) :
    Later.pastDv n q kh d kb (ix2 j c) = ∑ r : Fin 256, D (h.here r) c * (Head.share Q K (h.here r) (h.before j) : EReal) := by
  unfold Later.pastDv
  rw [weighed_apply]
  refine Finset.sum_congr rfl fun r _ => ?_
  rw [scaledRows_apply, h.cotangents, ← h.past_inv]
  ac_rfl

theorem ownDk_eq (j : Fin 256) (c : Fin 128) :
    Later.ownDk n q kh vh d kb vb (ix2 j c) = ∑ r : Fin 256, Head.dscore Q K V D scale (h.here r) (h.here j) * (Q (h.here r) c : EReal) := by
  unfold Later.ownDk
  rw [overRows_apply]
  exact Finset.sum_congr rfl fun r _ => by rw [h.ownDs_eq, h.queries]

theorem pastDk_eq (j : Fin n) (c : Fin 128) :
    Later.pastDk n q kh vh d kb vb (ix2 j c) = ∑ r : Fin 256, Head.dscore Q K V D scale (h.here r) (h.before j) * (Q (h.here r) c : EReal) := by
  unfold Later.pastDk
  rw [overRows_apply]
  exact Finset.sum_congr rfl fun r _ => by rw [h.pastDs_eq, h.queries]

theorem dq_eq (r : Fin 256) (c : Fin 128) : Later.dq n q kh vh d kb vb (ix2 r c) = Head.dq Q K V D scale (h.here r) c := by
  unfold Later.dq Head.dq
  rw [← Head.sum_two_groups n 256 hn _ fun J hJ => by rw [Head.dscore_later Q K V D _ (h.chunk_after r J hJ), zero_mul], add_comm]
  pointwise [overKeys_apply]
  exact congrArg₂ _ (Finset.sum_congr rfl fun j _ => by rw [h.ownDs_eq, h.ownKeys])
    (Finset.sum_congr rfl fun j _ => by rw [h.pastDs_eq, h.pastKeys])

end Loads

/-! ## The first block is a later block with no keys before it -/

section

variable (q kh vh d : FVec Ideal (Mat 256 128) .bf16) (kb vb : FVec Ideal (Mat 0 128) .bf16)

theorem rowSum_none (x : FVec Ideal (Mat 256 0) .f32) (r : Fin 256) : rowSum 0 x (ix2 r 0) = (0 : EReal) := by
  rw [rowSum_apply]
  rfl

/-- An index of a column is a row. -/
theorem col_index (i : (Mat 256 1).Idx) : i = ix2 (i 0) 0 := by
  funext a
  match a with
  | ⟨0, _⟩ => rfl
  | ⟨1, _⟩ => exact Subsingleton.elim (α := Fin 1) _ _

theorem first_largest : rowMax 256 (ownScores q kh) = Later.largest 0 q kh kb := by
  funext i
  rw [col_index i]
  unfold Later.largest
  pointwise [rowMax_apply]
  exact (max_eq_left bot_le).symm

theorem first_own : First.own q kh = Later.own 0 q kh kb := by
  unfold First.own Later.own
  rw [first_largest q kh kb]

theorem first_inv : First.inv q kh = Later.inv 0 q kh kb := by
  unfold First.inv Later.inv
  rw [first_own q kh kb]
  refine congrArg recip (funext fun i => ?_)
  rw [col_index i]
  pointwise [rowSum_none]

theorem first_delta : First.delta q kh vh d = Later.delta 0 q kh vh d kb vb := by
  unfold First.delta Later.delta
  rw [first_own q kh kb, first_inv q kh kb]
  refine congrArg (fun x => mulf x _) (funext fun i => ?_)
  rw [col_index i]
  pointwise [rowSum_none]
  rfl

theorem first_ds : First.ownDs q kh vh d = Later.ownDs 0 q kh vh d kb vb := by
  unfold First.ownDs Later.ownDs
  rw [first_own q kh kb, first_inv q kh kb, first_delta q kh vh d kb vb]
  rfl

theorem first_dv : First.ownDv q kh d = Later.ownDv 0 q kh d kb := by
  unfold First.ownDv Later.ownDv
  rw [first_own q kh kb, first_inv q kh kb]

theorem first_dk : First.ownDk q kh vh d = Later.ownDk 0 q kh vh d kb vb := by
  unfold First.ownDk Later.ownDk
  rw [first_ds q kh vh d kb vb]

theorem first_dq (r : Fin 256) (c : Fin 128) : First.dq q kh vh d (ix2 r c) = Later.dq 0 q kh vh d kb vb (ix2 r c) := by
  unfold First.dq Later.dq
  rw [first_ds q kh vh d kb vb]
  pointwise [overKeys_apply]
  rw [Finset.univ_eq_empty (α := Fin 0), Finset.sum_empty, add_zero]

end

end Cert.Proof.Block

end
-- ==== Proof.HeadValue.lean ====
/- What the run of one head leaves in its three outputs, over the extended reals: the gradients of Weights.lean. -/
module

public import proofs.«01_k».proof.Proof.StoresRead
public import proofs.«01_k».proof.Proof.BlockValue

@[expose] public section

noncomputable section

namespace Cert.Proof.Stores

open Idealize.ShloMosaic Cert.KernelIdeal Cert.KernelIdeal.Gen Cert.Proof.Block

section

variable {arg2 : Memref sig .tc .vmem S1x2048x128 .bf16} {harg2 : arg2.IsWhole} {arg3 : Memref sig .tc .vmem S1x2048x128 .bf16} {harg3 : arg3.IsWhole}
    {arg4 : Memref sig .tc .vmem S1x2048x128 .bf16} {harg4 : arg4.IsWhole} {arg5 : Memref sig .tc .vmem S1x2048x128 .bf16} {harg5 : arg5.IsWhole}
    {arg7 : Memref sig .tc .vmem S1x2048x128 .f32} {arg8 : Memref sig .tc .vmem S1x2048x128 .f32}
    {x0 x1 x2 x3 : Vec Ideal S1x2048x128 .bf16}

/-- The four input blocks of a head hold its queries, keys, values and cotangents. -/
structure Holds (Q K : Fin 2048 → Fin 128 → ℝ) (V D : Fin 2048 → Fin 128 → EReal) (x0 x1 x2 x3 : Vec Ideal S1x2048x128 .bf16) : Prop where
  queries : ∀ r c, x0 (ix3 0 r c) = (Q r c : EReal)
  keys : ∀ r c, x1 (ix3 0 r c) = (K r c : EReal)
  values : ∀ r c, x2 (ix3 0 r c) = V r c
  cotangents : ∀ r c, x3 (ix3 0 r c) = D r c

variable {Q K : Fin 2048 → Fin 128 → ℝ} {V D : Fin 2048 → Fin 128 → EReal} (hx : Holds Q K V D x0 x1 x2 x3)
include hx

/-- What a block loads. -/
theorem Holds.loads (n : ℕ) (h : n + 256 ≤ 2048) (h' : 0 + n ≤ 2048) (ha : 64 ∣ n) :
    Loads n h Q K V D (part arg2 harg2 x0 n 256 h) (part arg3 harg3 x1 n 256 h) (part arg4 harg4 x2 n 256 h) (part arg5 harg5 x3 n 256 h)
      (part arg3 harg3 x1 0 n h') (part arg4 harg4 x2 0 n h') where
  aligned := ha
  queries r c := (part_apply arg2 harg2 x0 n 256 h r c).trans (hx.queries _ _)
  ownKeys r c := (part_apply arg3 harg3 x1 n 256 h r c).trans (hx.keys _ _)
  ownValues r c := (part_apply arg4 harg4 x2 n 256 h r c).trans (hx.values _ _)
  cotangents r c := (part_apply arg5 harg5 x3 n 256 h r c).trans (hx.cotangents _ _)
  pastKeys r c := (part_apply arg3 harg3 x1 0 n h' r c).trans ((hx.keys _ _).trans (by simp only [Nat.zero_add]))
  pastValues r c := (part_apply arg4 harg4 x2 0 n h' r c).trans ((hx.values _ _).trans (by simp only [Nat.zero_add]))

/-! ## The values' gradient -/

/-- A later block's addition to the values' gradient. -/
theorem canon_valuesLater (n : ℕ) (h : n + 256 ≤ 2048) (h' : 0 + n ≤ 2048) (ha : 64 ∣ n) (L : List (View.Piece (Elt Ideal) S1x2048x128 .f32))
    (J : Fin 2048) (c : Fin 128) :
    View.canon (valuesLater arg2 harg2 arg3 harg3 arg5 harg5 arg8 x0 x1 x3 n h h' L) (ix3 0 J c)
      = ((View.canon L (ix3 0 J c) : EReal) + ∑ r : Fin 256, D ⟨n + r.val, by omega⟩ c * (Head.share Q K ⟨n + r.val, by omega⟩ J : EReal) : EReal) := by
  have hl := hx.loads (arg2 := arg2) (harg2 := harg2) (arg3 := arg3) (harg3 := harg3) (arg4 := arg3) (harg4 := harg3) (arg5 := arg5) (harg5 := harg5) n h h' ha
  exact canon_later arg8 n h h' _ _
    (fun J c => ∑ r : Fin 256, D ⟨n + r.val, by omega⟩ c * (Head.share Q K ⟨n + r.val, by omega⟩ J : EReal))
    (fun r c => hl.ownDv_eq r c) (fun r c => hl.pastDv_eq r c)
    (fun r c hr => Finset.sum_eq_zero fun r' _ => by rw [Head.share_later Q K (hl.chunk_after r' r hr), EReal.coe_zero, mul_zero]) L J c

/-- The first block's. -/
theorem canon_valuesFirst (L : List (View.Piece (Elt Ideal) S1x2048x128 .f32)) (J : Fin 2048) (c : Fin 128) :
    View.canon (valuesFirst arg2 harg2 arg3 harg3 arg5 harg5 arg8 x0 x1 x3 L) (ix3 0 J c)
      = ((View.canon L (ix3 0 J c) : EReal) + ∑ r : Fin 256, D ⟨0 + r.val, by omega⟩ c * (Head.share Q K ⟨0 + r.val, by omega⟩ J : EReal) : EReal) := by
  have hl := hx.loads (arg2 := arg2) (harg2 := harg2) (arg3 := arg3) (harg3 := harg3) (arg4 := arg3) (harg4 := harg3) (arg5 := arg5) (harg5 := harg5)
    0 (by decide) (by decide) (dvd_zero _)
  exact canon_first arg8 _
    (fun J c => ∑ r : Fin 256, D ⟨0 + r.val, by omega⟩ c * (Head.share Q K ⟨0 + r.val, by omega⟩ J : EReal))
    (fun r c => by rw [first_dv _ _ _ (part arg3 harg3 x1 0 0 (by decide))]; exact hl.ownDv_eq r c)
    (fun r c hr => Finset.sum_eq_zero fun r' _ => by rw [Head.share_later Q K (hl.chunk_after r' r hr), EReal.coe_zero, mul_zero]) L J c

/-- All of the values' gradient. -/
theorem values_eq (J : Fin 2048) (c : Fin 128) :
    View.canon (values arg2 harg2 arg3 harg3 arg5 harg5 arg8 x0 x1 x3) (ix3 0 J c) = Head.dv Q K D J c := by
  have later := fun n h h' ha L => canon_valuesLater hx (arg2 := arg2) (harg2 := harg2) (arg3 := arg3) (harg3 := harg3) (arg5 := arg5) (harg5 := harg5) (arg8 := arg8) n h h' ha L J c
  unfold values Head.dv
  rw [later 1792 (by decide) (by decide) (by decide), later 1536 (by decide) (by decide) (by decide), later 1280 (by decide) (by decide) (by decide), later 1024 (by decide) (by decide) (by decide), later 768 (by decide) (by decide) (by decide), later 512 (by decide) (by decide) (by decide), later 256 (by decide) (by decide) (by decide), canon_valuesFirst hx, canon_cleared, Head.sum_eight, zero_add]

/-! ## The keys' gradient -/

/-- A later block's addition to the keys' gradient. -/
theorem canon_keysLater (n : ℕ) (h : n + 256 ≤ 2048) (h' : 0 + n ≤ 2048) (ha : 64 ∣ n) (L : List (View.Piece (Elt Ideal) S1x2048x128 .f32))
    (J : Fin 2048) (c : Fin 128) :
    View.canon (keysLater arg2 harg2 arg3 harg3 arg4 harg4 arg5 harg5 arg7 x0 x1 x2 x3 n h h' L) (ix3 0 J c)
      = ((View.canon L (ix3 0 J c) : EReal)
        + ∑ r : Fin 256, Head.dscore Q K V D scale ⟨n + r.val, by omega⟩ J * (Q ⟨n + r.val, by omega⟩ c : EReal) : EReal) := by
  have hl := hx.loads (arg2 := arg2) (harg2 := harg2) (arg3 := arg3) (harg3 := harg3) (arg4 := arg4) (harg4 := harg4) (arg5 := arg5) (harg5 := harg5) n h h' ha
  exact canon_later arg7 n h h' _ _
    (fun J c => ∑ r : Fin 256, Head.dscore Q K V D scale ⟨n + r.val, by omega⟩ J * (Q ⟨n + r.val, by omega⟩ c : EReal))
    (fun r c => hl.ownDk_eq r c) (fun r c => hl.pastDk_eq r c)
    (fun r c hr => Finset.sum_eq_zero fun r' _ => by rw [Head.dscore_later Q K V D _ (hl.chunk_after r' r hr), zero_mul]) L J c

/-- The first block's. -/
theorem canon_keysFirst (L : List (View.Piece (Elt Ideal) S1x2048x128 .f32)) (J : Fin 2048) (c : Fin 128) :
    View.canon (keysFirst arg2 harg2 arg3 harg3 arg4 harg4 arg5 harg5 arg7 x0 x1 x2 x3 L) (ix3 0 J c)
      = ((View.canon L (ix3 0 J c) : EReal)
        + ∑ r : Fin 256, Head.dscore Q K V D scale ⟨0 + r.val, by omega⟩ J * (Q ⟨0 + r.val, by omega⟩ c : EReal) : EReal) := by
  have hl := hx.loads (arg2 := arg2) (harg2 := harg2) (arg3 := arg3) (harg3 := harg3) (arg4 := arg4) (harg4 := harg4) (arg5 := arg5) (harg5 := harg5)
    0 (by decide) (by decide) (dvd_zero _)
  exact canon_first arg7 _
    (fun J c => ∑ r : Fin 256, Head.dscore Q K V D scale ⟨0 + r.val, by omega⟩ J * (Q ⟨0 + r.val, by omega⟩ c : EReal))
    (fun r c => by rw [first_dk _ _ _ _ (part arg3 harg3 x1 0 0 (by decide)) (part arg4 harg4 x2 0 0 (by decide))]; exact hl.ownDk_eq r c)
    (fun r c hr => Finset.sum_eq_zero fun r' _ => by rw [Head.dscore_later Q K V D _ (hl.chunk_after r' r hr), zero_mul]) L J c

/-- The sum of the additions to the keys' gradient. -/
theorem keysSum_eq (J : Fin 2048) (c : Fin 128) :
    View.canon (keysSum arg2 harg2 arg3 harg3 arg4 harg4 arg5 harg5 arg7 x0 x1 x2 x3) (ix3 0 J c)
      = Head.dk Q K V D scale (fun I c => (Q I c : EReal)) J c := by
  have later := fun n h h' ha L => canon_keysLater hx (arg2 := arg2) (harg2 := harg2) (arg3 := arg3) (harg3 := harg3) (arg4 := arg4) (harg4 := harg4) (arg5 := arg5) (harg5 := harg5) (arg7 := arg7) n h h' ha L J c
  unfold keysSum Head.dk
  rw [later 1792 (by decide) (by decide) (by decide), later 1536 (by decide) (by decide) (by decide), later 1280 (by decide) (by decide) (by decide), later 1024 (by decide) (by decide) (by decide), later 768 (by decide) (by decide) (by decide), later 512 (by decide) (by decide) (by decide), later 256 (by decide) (by decide) (by decide), canon_keysFirst hx, canon_cleared, Head.sum_eight, zero_add]

/-- All of the keys' gradient. -/
theorem keys_eq (J : Fin 2048) (c : Fin 128) :
    View.canon (keys arg2 harg2 arg3 harg3 arg4 harg4 arg5 harg5 arg7 x0 x1 x2 x3) (ix3 0 J c)
      = (Head.dk Q K V D scale (fun I c => (Q I c : EReal)) J c * ((Real.sqrt 96 * Real.log 2 : ℝ) : EReal) : EReal) := by
  have e : J = ⟨0 + J.val, by omega⟩ := Fin.ext (by simp)
  unfold keys
  rw [e, canon_inside 0 2048 (Nat.le_refl _) _ _ J c, ← e, ← keysSum_eq hx (arg2 := arg2) (harg2 := harg2) (arg3 := arg3) (harg3 := harg3)
    (arg4 := arg4) (harg4 := harg4) (arg5 := arg5) (harg5 := harg5) (arg7 := arg7) J c]
  refine congrArg₂ (fun a b : EReal => a * b) ((flat_apply 2048 _ J c).trans ?_) Consts.named_unprescale
  rw [View.readCov_eq_canon']
  exact congrArg _ ((box_idx 0 2048 (Nat.le_refl _) J c).trans (by rw [← e]))

/-! ## The queries' gradient -/

/-- With the rows before a block in place, the block's are. -/
theorem canon_queriesLater (n : ℕ) (h : n + 256 ≤ 2048) (h' : 0 + n ≤ 2048) (ha : 64 ∣ n) (L : List (View.Piece (Elt Ideal) S1x2048x128 .f32))
    (hL : ∀ (I : Fin 2048) c, I.val < n → View.canon L (ix3 0 I c) = Head.dq Q K V D scale I c) (I : Fin 2048) (c : Fin 128) (hI : I.val < n + 256) :
    View.canon (queriesLater arg2 harg2 arg3 harg3 arg4 harg4 arg5 harg5 x0 x1 x2 x3 n h h' L) (ix3 0 I c) = Head.dq Q K V D scale I c := by
  have hl := hx.loads (arg2 := arg2) (harg2 := harg2) (arg3 := arg3) (harg3 := harg3) (arg4 := arg4) (harg4 := harg4) (arg5 := arg5) (harg5 := harg5) n h h' ha
  unfold queriesLater
  by_cases h1 : I.val < n
  · rw [canon_outside n 256 h _ _ I c (by omega), hL I c h1]
  · have e : I = ⟨n + (⟨I.val - n, by omega⟩ : Fin 256).val, by omega⟩ := Fin.ext (by simp; omega)
    rw [e, canon_inside n 256 h _ _ ⟨I.val - n, by omega⟩ c]
    exact hl.dq_eq _ c

/-- The first block's rows. -/
theorem canon_queriesFirst (I : Fin 2048) (c : Fin 128) (hI : I.val < 256) :
    View.canon (queriesFirst arg2 harg2 arg3 harg3 arg4 harg4 arg5 harg5 x0 x1 x2 x3) (ix3 0 I c) = Head.dq Q K V D scale I c := by
  have hl := hx.loads (arg2 := arg2) (harg2 := harg2) (arg3 := arg3) (harg3 := harg3) (arg4 := arg4) (harg4 := harg4) (arg5 := arg5) (harg5 := harg5)
    0 (by decide) (by decide) (dvd_zero _)
  have e : I = ⟨0 + (⟨I.val, hI⟩ : Fin 256).val, by omega⟩ := Fin.ext (by simp)
  unfold queriesFirst
  rw [e, canon_inside 0 256 (by decide) _ _ ⟨I.val, hI⟩ c,
    first_dq _ _ _ _ (part arg3 harg3 x1 0 0 (by decide)) (part arg4 harg4 x2 0 0 (by decide))]
  exact hl.dq_eq _ c

/-- All of the queries' gradient. -/
theorem queries_eq (I : Fin 2048) (c : Fin 128) :
    View.canon (queries arg2 harg2 arg3 harg3 arg4 harg4 arg5 harg5 x0 x1 x2 x3) (ix3 0 I c) = Head.dq Q K V D scale I c :=
  canon_queriesLater hx 1792 (by decide) (by decide) (by decide) _
    (canon_queriesLater hx 1536 (by decide) (by decide) (by decide) _
    (canon_queriesLater hx 1280 (by decide) (by decide) (by decide) _
    (canon_queriesLater hx 1024 (by decide) (by decide) (by decide) _
    (canon_queriesLater hx 768 (by decide) (by decide) (by decide) _
    (canon_queriesLater hx 512 (by decide) (by decide) (by decide) _
    (canon_queriesLater hx 256 (by decide) (by decide) (by decide) _
    (fun I c hI => canon_queriesFirst hx I c hI))))))) I c I.isLt

end

end Cert.Proof.Stores

end
-- ==== Proof.KernelValue.lean ====
/- The kernel's three result arrays, at real queries and keys: the gradients of Weights.lean, head by head. -/
module

public import proofs.«01_k».proof.Proof.Blocks
public import proofs.«01_k».proof.Proof.HeadValue

@[expose] public section

set_option maxRecDepth 16384
set_option maxHeartbeats 400000

noncomputable section

namespace Cert.Proof.Entry

open Idealize.ShloMosaic Cert.KernelIdeal Cert.KernelIdeal.Gen Idealize.ShloMosaic.TcCoe Idealize.SL.Sem

/-! ## The gradients of one head, from the four arguments -/

section

variable (q k : FVec Ideal S2x2048x16x96 .f32) (v ct : FVec Ideal S2x2048x16x64 .f32)

/-- A head's queries over the prescale, as real numbers. -/
def realQueries (b : Fin 2) (h : Fin 16) (r : Fin 2048) (l : Fin 128) : ℝ := (rows96 q b h r l).toReal * prescale⁻¹
/-- A head's keys, as real numbers. -/
def realKeys (b : Fin 2) (h : Fin 16) (r : Fin 2048) (l : Fin 128) : ℝ := (rows96 k b h r l).toReal

/-- The gradient of the queries. -/
def dqAt (b : Fin 2) (h : Fin 16) (r : Fin 2048) (l : Fin 128) : EReal :=
  Head.dq (realQueries q b h) (realKeys k b h) (rows64 v b h) (rows64 ct b h) Block.scale r l
/-- The gradient of the keys. -/
def dkAt (b : Fin 2) (h : Fin 16) (r : Fin 2048) (l : Fin 128) : EReal :=
  Head.dk (realQueries q b h) (realKeys k b h) (rows64 v b h) (rows64 ct b h) Block.scale (rows96 q b h) r l
/-- The gradient of the values. -/
def dvAt (b : Fin 2) (h : Fin 16) (r : Fin 2048) (l : Fin 128) : EReal :=
  Head.dv (realQueries q b h) (realKeys k b h) (rows64 ct b h) r l

/-- Every entry is a real number. -/
def Finite {s : Shape} (x : FVec Ideal s .f32) : Prop := ∀ i, (x i : EReal) ≠ ⊥ ∧ (x i : EReal) ≠ ⊤

variable {q k v ct}

theorem rows96_real {x : FVec Ideal S2x2048x16x96 .f32} (hx : Finite x) (b : Fin 2) (h : Fin 16) (r : Fin 2048) (l : Fin 128) :
    rows96 x b h r l = ((rows96 x b h r l).toReal : EReal) := by
  unfold rows96
  split
  · exact (EReal.coe_toReal (hx _).2 (hx _).1).symm
  · simp

theorem queries_real (hq : Finite q) (b : Fin 2) (h : Fin 16) (r : Fin 2048) (l : Fin 128) :
    rows96 q b h r l * ((prescale⁻¹ : ℝ) : EReal) = (realQueries q b h r l : EReal) := by
  rw [realQueries, EReal.coe_mul, ← rows96_real hq]

/-- The prescale goes off again: queries over it, times it, are the queries. -/
theorem unprescaled (hq : Finite q) (s : ℝ) (b : Fin 2) (h : Fin 16) (K : Fin 2048 → Fin 128 → ℝ) (V D : Fin 2048 → Fin 128 → EReal) (r : Fin 2048) (l : Fin 128) :
    Head.dk (realQueries q b h) K V D s (fun I c => (realQueries q b h I c : EReal)) r l * ((prescale : ℝ) : EReal)
      = Head.dk (realQueries q b h) K V D s (rows96 q b h) r l := by
  unfold Head.dk
  rw [Head.sum_mul_coe _ _ prescale_pos.le]
  refine Finset.sum_congr rfl fun I _ => ?_
  show _ * (realQueries q b h I l : EReal) * _ = _
  rw [mul_assoc, ← queries_real hq, mul_assoc, ← EReal.coe_mul, inv_mul_cancel₀ prescale_pos.ne', EReal.coe_one, mul_one]

end

/-! ## The three arrays after the run -/

/-- An array of all heads from its values head by head. -/
def spreadHeads (f : Fin 2 → Fin 16 → Fin 2048 → Fin 128 → EReal) : Vec Ideal S2x2048x2048 .f32 := fun i =>
  f (i 0) ⟨(i 2).val / 128, by have := (i 2).isLt; show (i 2).val / 128 < 16; change (i 2).val < 2048 at this; omega⟩ (i 1)
    ⟨(i 2).val % 128, Nat.mod_lt _ (by decide)⟩

theorem spreadHeads_apply (f : Fin 2 → Fin 16 → Fin 2048 → Fin 128 → EReal) (b : Fin 2) (h : Fin 16) (r : Fin 2048) (l : Fin 128) :
    spreadHeads f (ix3 b r (lane h l)) = f b h r l := by
  have e1 : (⟨(lane h l).val / 128, by have := (lane h l).isLt; omega⟩ : Fin 16) = h := Fin.ext (by simp only [lane]; omega)
  have e2 : (⟨(lane h l).val % 128, Nat.mod_lt _ (by decide)⟩ : Fin 128) = l := Fin.ext (by simp only [lane]; omega)
  show f b ⟨(lane h l).val / 128, _⟩ r ⟨(lane h l).val % 128, _⟩ = _
  rw [e1, e2]

/-- An index of a block of one head. -/
theorem block_index (y : S1x2048x128.Idx) : y = ix3 0 (y 1) (y 2) := by
  funext a
  match a with
  | ⟨0, _⟩ => exact Subsingleton.elim (α := Fin 1) _ _
  | ⟨1, _⟩ => rfl
  | ⟨2, _⟩ => rfl

section

variable (m : (ℓ : Loc nD τ sig) → Buf (Elt Ideal) ℓ)

/-- What the blocks of point `t` hold. -/
theorem holds (c : Dev nD) (hq : Finite (m ((c : Thread nD τ).loc main_arg0) : FVec Ideal S2x2048x16x96 .f32))
    (hk : Finite (m ((c : Thread nD τ).loc main_arg1) : FVec Ideal S2x2048x16x96 .f32)) (t : Fin cfg0.N) :
    Stores.Holds (realQueries (m ((c : Thread nD τ).loc main_arg0)) (seq t) (head t)) (realKeys (m ((c : Thread nD τ).loc main_arg1)) (seq t) (head t))
      (rows64 (m ((c : Thread nD τ).loc main_arg2)) (seq t) (head t)) (rows64 (m ((c : Thread nD τ).loc main_arg3)) (seq t) (head t))
      (iblk m c 0 t) (iblk m c 1 t) (iblk m c 2 t) (iblk m c 3 t) where
  queries r l := (block_queries m c t r l).trans (queries_real hq _ _ _ _)
  keys r l := (block_keys m c t r l).trans (rows96_real hk _ _ _ _)
  values r l := block_values m c t r l
  cotangents r l := block_cotangents m c t r l

theorem index4 : ∀ t : Fin cfg0.N, win0_4.index t = ![(grid0.coords t 0).val, 0, (grid0.coords t 1).val] := by decide +kernel
theorem index5 : ∀ t : Fin cfg0.N, win0_5.index t = ![(grid0.coords t 0).val, 0, (grid0.coords t 1).val] := by decide +kernel
theorem index6 : ∀ t : Fin cfg0.N, win0_6.index t = ![(grid0.coords t 0).val, 0, (grid0.coords t 1).val] := by decide +kernel

/-- Where an entry of block `t` lies in the array. -/
theorem place4 (t : Fin cfg0.N) (r : Fin 2048) (l : Fin 128) : (win0_4.blk t).view.emb (ix3 0 r l) = ix3 (seq t) r (lane (head t) l) := by
  unfold lane
  blk_ext [index4 t]
  rfl
theorem place5 (t : Fin cfg0.N) (r : Fin 2048) (l : Fin 128) : (win0_5.blk t).view.emb (ix3 0 r l) = ix3 (seq t) r (lane (head t) l) := by
  unfold lane
  blk_ext [index5 t]
  rfl
theorem place6 (t : Fin cfg0.N) (r : Fin 2048) (l : Fin 128) : (win0_6.blk t).view.emb (ix3 0 r l) = ix3 (seq t) r (lane (head t) l) := by
  unfold lane
  blk_ext [index6 t]
  rfl

/-- The three blocks the body leaves at point `t`. -/
theorem outs_queries (c : Dev nD) (t : Fin cfg0.N) : (outsAt0 m c t).1 = out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) := by
  simp only [outsAt0]
theorem outs_keys (c : Dev nD) (t : Fin cfg0.N) : (outsAt0 m c t).2.1 = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) := by
  simp only [outsAt0]
theorem outs_values (c : Dev nD) (t : Fin cfg0.N) : (outsAt0 m c t).2.2 = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) := by
  simp only [outsAt0]

variable (c : Dev nD) (hq : Finite (m ((c : Thread nD τ).loc main_arg0) : FVec Ideal S2x2048x16x96 .f32))
    (hk : Finite (m ((c : Thread nD τ).loc main_arg1) : FVec Ideal S2x2048x16x96 .f32))
include hq hk

/-- The queries' gradient. -/
theorem final_queries : (dats m 0 c).arrAt 4 cfg0.N = spreadHeads (dqAt (m ((c : Thread nD τ).loc main_arg0)) (m ((c : Thread nD τ).loc main_arg1))
    (m ((c : Thread nD τ).loc main_arg2)) (m ((c : Thread nD τ).loc main_arg3))) := by
  refine (dats m 0 c).arrAt_eq_of_covers 4 _ (by decide +kernel) fun t hf y => ?_
  rw [after0_4]
  blk_simp
  obtain ⟨r, l, rfl⟩ : ∃ (r : Fin 2048) (l : Fin 128), y = (ix3 0 r l : S1x2048x128.Idx) := ⟨_, _, block_index y⟩
  refine Eq.trans ?_ ((spreadHeads_apply _ (seq t) (head t) r l).symm.trans (congrArg _ (place4 t r l).symm))
  rw [outs_queries, Stores.out_queries]
  exact Stores.queries_eq (holds m c hq hk t) r l

/-- The keys' gradient. -/
theorem final_keys : (dats m 0 c).arrAt 5 cfg0.N = spreadHeads (dkAt (m ((c : Thread nD τ).loc main_arg0)) (m ((c : Thread nD τ).loc main_arg1))
    (m ((c : Thread nD τ).loc main_arg2)) (m ((c : Thread nD τ).loc main_arg3))) := by
  refine (dats m 0 c).arrAt_eq_of_covers 5 _ (by decide +kernel) fun t hf y => ?_
  rw [after0_5]
  blk_simp
  obtain ⟨r, l, rfl⟩ : ∃ (r : Fin 2048) (l : Fin 128), y = (ix3 0 r l : S1x2048x128.Idx) := ⟨_, _, block_index y⟩
  refine Eq.trans ?_ ((spreadHeads_apply _ (seq t) (head t) r l).symm.trans (congrArg _ (place5 t r l).symm))
  rw [outs_keys, Stores.out_keys]
  exact (Stores.keys_eq (holds m c hq hk t) r l).trans (unprescaled hq _ _ _ _ _ _ _ _)

/-- The values' gradient. -/
theorem final_values : (dats m 0 c).arrAt 6 cfg0.N = spreadHeads (dvAt (m ((c : Thread nD τ).loc main_arg0)) (m ((c : Thread nD τ).loc main_arg1))
    (m ((c : Thread nD τ).loc main_arg3))) := by
  refine (dats m 0 c).arrAt_eq_of_covers 6 _ (by decide +kernel) fun t hf y => ?_
  rw [after0_6]
  blk_simp
  obtain ⟨r, l, rfl⟩ : ∃ (r : Fin 2048) (l : Fin 128), y = (ix3 0 r l : S1x2048x128.Idx) := ⟨_, _, block_index y⟩
  refine Eq.trans ?_ ((spreadHeads_apply _ (seq t) (head t) r l).symm.trans (congrArg _ (place6 t r l).symm))
  rw [outs_values, Stores.out_values]
  exact Stores.values_eq (holds m c hq hk t) r l

end

end Cert.Proof.Entry

end
-- ==== Proof.RefValue.lean ====
/- The reference's steps at real queries and keys: the weights and gradients of Weights.lean, head by head. -/
module

public import proofs.«01_k».proof.Proof.RefRead
public import proofs.«01_k».proof.Proof.KernelValue

@[expose] public section

set_option maxRecDepth 16384

noncomputable section

namespace Cert.Proof.Ref

open Idealize.ShloMosaic Cert.ReferenceIdeal Cert.ReferenceIdeal.Gen Entry

/-- A sum over the first places, where nothing lies further. -/
theorem sum_front {n N : ℕ} (h : n ≤ N) (f : Fin N → EReal) (hrest : ∀ i : Fin N, n ≤ i.val → f i = 0) :
    ∑ j : Fin n, f ⟨j.val, by omega⟩ = ∑ i, f i := by
  refine Eq.trans ?_ (Head.sum_two_groups n 0 h f hrest)
  rw [Finset.univ_eq_empty (α := Fin 0), Finset.sum_empty, add_zero]

/-- The gradient of a row's powers, gathered: over the row's sum, less the mean. -/
theorem gather {n : ℕ} (x : Fin n → EReal) (w : Fin n → ℝ) {S : ℝ} (hS : 0 < S) (J : Fin n) :
    (Ideal.div (x J) (S : EReal) + -(∑ i, (x i * Ideal.div 1 ((S : EReal) * S)) * (w i : EReal))) * (w J : EReal)
      = (x J - ∑ i, x i * ((w i / S : ℝ) : EReal)) * ((w J / S : ℝ) : EReal) := by
  have e : ∀ i, (x i * Ideal.div 1 ((S : EReal) * S)) * (w i : EReal) = x i * ((w i / S : ℝ) : EReal) * ((S⁻¹ : ℝ) : EReal) := fun i => by
    rw [← EReal.coe_mul, Ideal.div_coe (mul_pos hS hS).ne', one_mul, mul_assoc, ← EReal.coe_mul, mul_assoc, ← EReal.coe_mul]
    exact congrArg (fun t : ℝ => x i * (t : EReal)) (by field_simp)
  rw [Finset.sum_congr rfl fun i _ => e i, ← Head.sum_mul_coe _ _ (inv_pos.mpr hS).le, Ideal.div_coe hS.ne', one_div,
    ← Head.sub_mul_coe _ _ (inv_pos.mpr hS).le, mul_assoc, ← EReal.coe_mul]
  exact congrArg (fun t : ℝ => _ * (t : EReal)) (by field_simp)

variable (q k : FVec Ideal S2x2048x16x96 .f32) (v d : FVec Ideal S2x2048x16x64 .f32)
variable (b : Fin 2) (h : Fin 16) (I J : Fin 2048)

theorem rows96_inside (x : FVec Ideal S2x2048x16x96 .f32) (c : Fin 96) (hc : c.val < 128) : rows96 x b h I ⟨c.val, hc⟩ = x (ix4 b I h c) := dif_pos c.isLt
theorem rows96_outside (x : FVec Ideal S2x2048x16x96 .f32) (c : Fin 128) (hc : 96 ≤ c.val) : rows96 x b h I c = 0 := dif_neg (by omega)
theorem rows64_inside (x : FVec Ideal S2x2048x16x64 .f32) (c : Fin 64) (hc : c.val < 128) : rows64 x b h I ⟨c.val, hc⟩ = x (ix4 b I h c) := dif_pos c.isLt
theorem rows64_outside (x : FVec Ideal S2x2048x16x64 .f32) (c : Fin 128) (hc : 64 ≤ c.val) : rows64 x b h I c = 0 := dif_neg (by omega)

theorem dweights_eq : dweights v d (ix4 b h I J) = Head.dweight (rows64 v b h) (rows64 d b h) I J := by
  have e := sum_front (n := 64) (by decide) (fun c : Fin 128 => rows64 d b h I c * rows64 v b h J c)
    fun c hc => by show rows64 d b h I c * _ = 0; rw [rows64_outside b h I d c hc, zero_mul]
  rw [dweights_apply, Head.dweight, ← e]
  exact Finset.sum_congr rfl fun c _ => by rw [rows64_inside, rows64_inside]

variable {q k} (hq : Finite q) (hk : Finite k)
include hq hk

theorem scaled_eq : scaled q k (ix4 b h I J) = ((Head.score (realQueries q b h) (realKeys k b h) I J * Real.log 2 : ℝ) : EReal) := by
  have e : (∑ c : Fin 96, (q (ix4 b I h c) : EReal) * k (ix4 b J h c)) = ((∑ c : Fin 128, (rows96 q b h I c).toReal * (rows96 k b h J c).toReal : ℝ) : EReal) := by
    have e := sum_front (n := 96) (by decide) (fun c : Fin 128 => (((rows96 q b h I c).toReal * (rows96 k b h J c).toReal : ℝ) : EReal))
      fun c hc => by show (((rows96 q b h I c).toReal * _ : ℝ) : EReal) = 0; rw [rows96_outside b h I q c hc]; simp
    rw [Head.coe_sum, ← e]
    refine Finset.sum_congr rfl fun c _ => ?_
    rw [EReal.coe_mul, ← rows96_real hq, ← rows96_real hk, rows96_inside, rows96_inside]
  rw [scaled_apply, e, ← EReal.coe_mul]
  congr 1
  rw [Head.score, Finset.sum_mul, Finset.sum_mul]
  refine Finset.sum_congr rfl fun c _ => ?_
  have hl : Real.log 2 ≠ 0 := (Real.log_pos (by norm_num)).ne'
  have hs : Real.sqrt 96 ≠ 0 := (Real.sqrt_pos.mpr (by norm_num)).ne'
  rw [realQueries, realKeys, prescale]
  field_simp

theorem tops_real : ∃ M : ℝ, tops q k (ix4 b h I 0) = (M : EReal) := by
  rw [tops_apply]
  refine Head.fold_max_real _ (fun J => ?_) I ?_
  · rw [masked_apply, scaled_eq b h I J hq hk]
    split
    · exact EReal.coe_ne_top _
    · exact bot_ne_top
  · rw [masked_apply, scaled_eq b h I I hq hk, if_pos (le_refl _)]
    exact EReal.coe_ne_bot _

section

variable {M : ℝ} (hM : tops q k (ix4 b h I 0) = (M : EReal))
include hM

theorem powers_eq : powers q k (ix4 b h I J) = (Head.shifted (realQueries q b h) (realKeys k b h) (M / Real.log 2) I J : EReal) := by
  rw [powers_apply, masked_apply, scaled_eq b h I J hq hk, hM, Head.shifted]
  have hl : 0 < Real.log 2 := Real.log_pos (by norm_num)
  split
  · rw [← EReal.coe_sub, Ideal.exp_coe, Real.rpow_def_of_pos (by norm_num)]
    exact congrArg (fun t : ℝ => ((Real.exp t : ℝ) : EReal)) (by field_simp)
  · rw [EReal.bot_sub, Ideal.exp_bot, EReal.coe_zero]

theorem sums_eq : sums q k (ix4 b h I 0) = (Head.total (realQueries q b h) (realKeys k b h) (M / Real.log 2) I : EReal) := by
  rw [sums_apply, Head.total, Head.coe_sum]
  exact Finset.sum_congr rfl fun J _ => powers_eq b h I J hq hk hM

theorem dpowers_eq : dpowers q k v d (ix4 b h I J)
    = (Head.dweight (rows64 v b h) (rows64 d b h) I J - Head.mean (realQueries q b h) (realKeys k b h) (rows64 v b h) (rows64 d b h) I)
      * (Head.share (realQueries q b h) (realKeys k b h) I J : EReal) := by
  have hS := Head.total_pos (realQueries q b h) (realKeys k b h) (M / Real.log 2) I
  have e := gather (fun J => Head.dweight (rows64 v b h) (rows64 d b h) I J)
    (fun J => Head.shifted (realQueries q b h) (realKeys k b h) (M / Real.log 2) I J) hS J
  simp only [Head.shifted_div_total] at e
  rw [dpowers_apply, means_apply, sums_eq b h I hq hk hM, powers_eq b h I J hq hk hM, dweights_eq]
  rw [Finset.sum_congr rfl fun J _ => by rw [dweights_eq, powers_eq b h I J hq hk hM]]
  exact e

end

theorem weights_eq : weights q k (ix4 b h I J) = (Head.share (realQueries q b h) (realKeys k b h) I J : EReal) := by
  obtain ⟨M, hM⟩ := tops_real b h I hq hk
  have hS := Head.total_pos (realQueries q b h) (realKeys k b h) (M / Real.log 2) I
  rw [weights_apply, powers_eq b h I J hq hk hM, sums_eq b h I hq hk hM, Ideal.div_coe hS.ne', ← EReal.coe_mul,
    ← Head.shifted_div_total _ _ (M / Real.log 2), mul_one_div]

theorem dmasked_eq : dmasked q k v d (ix4 b h I J)
    = Head.dscore (realQueries q b h) (realKeys k b h) (rows64 v b h) (rows64 d b h) Block.scale I J := by
  obtain ⟨M, hM⟩ := tops_real b h I hq hk
  rw [dmasked_apply]
  split
  · rw [dpowers_eq v d b h I J hq hk hM, Head.dscore, EReal.coe_mul, mul_assoc]
  · rw [Head.dscore_later _ _ _ _ _ (by assumption), zero_mul]

/-! ## The results -/

variable (l : Fin 128) (L : Fin 2048) (hL : L.val = h.val * 128 + l.val)
include hL

theorem outQueries_eq : outQueries q k v d (ix3 b I L) = dqAt q k v d b h I l := by
  rw [outQueries_apply q k v d b h I l L hL, dqAt, Head.dq]
  split
  · refine Finset.sum_congr rfl fun J _ => ?_
    rw [dmasked_eq v d b h I J hq hk, realKeys, ← rows96_real hk]
    exact congrArg _ (rows96_inside b h _ _ ⟨l.val, by assumption⟩ _).symm
  · refine (Finset.sum_eq_zero fun J _ => ?_).symm
    rw [realKeys, rows96_outside _ _ _ _ _ (by omega)]
    simp

theorem outKeys_eq : outKeys q k v d (ix3 b J L) = dkAt q k v d b h J l := by
  rw [outKeys_apply q k v d b h J l L hL, dkAt, Head.dk]
  split
  · refine Finset.sum_congr rfl fun I _ => ?_
    rw [dmasked_eq v d b h I J hq hk]
    exact congrArg _ (rows96_inside b h _ _ ⟨l.val, by assumption⟩ _).symm
  · refine (Finset.sum_eq_zero fun I _ => ?_).symm
    rw [rows96_outside _ _ _ _ _ (by omega), mul_zero]

theorem outValues_eq : outValues q k d (ix3 b J L) = dvAt q k d b h J l := by
  rw [outValues_apply q k d b h J l L hL, dvAt, Head.dv]
  split
  · refine Finset.sum_congr rfl fun I _ => ?_
    rw [weights_eq b h I J hq hk]
    exact congrArg (· * _) (rows64_inside b h _ _ ⟨l.val, by assumption⟩ _).symm
  · refine (Finset.sum_eq_zero fun I _ => ?_).symm
    rw [rows64_outside _ _ _ _ _ (by omega), zero_mul]

end Cert.Proof.Ref

end
-- ==== Proof.Algebraic.lean ====
/- The value claim: from equal arguments with real queries and keys the idealized kernel and the reference end with the
   same three arrays. -/
module

public import proofs.«01_k».proof.Proof.Frames
public import proofs.«01_k».proof.Proof.RefValue
public import Idealize.ShloMosaic.Lib.Claim

@[expose] public section

set_option maxRecDepth 16384

noncomputable section

open Idealize.ShloMosaic Idealize.ShloMosaic.TcCoe Idealize.SL.Sem

namespace Cert.Proof

open Entry

/-- An array of the reference that is a head's rows at every head is the spread of them. -/
theorem eq_spread (x : FVec Ideal Cert.ReferenceIdeal.S2x2048x2048 .f32) (f : Fin 2 → Fin 16 → Fin 2048 → Fin 128 → EReal)
    (hx : ∀ b h r l (L : Fin 2048), L.val = h.val * 128 + l.val → (x (ix3 b r L) : EReal) = f b h r l) : spreadHeads f = x := by
  funext i
  obtain ⟨b, r, L, rfl⟩ : ∃ (b : Fin 2) (r L : Fin 2048), i = (ix3 b r L : Cert.ReferenceIdeal.S2x2048x2048.Idx) :=
    ⟨i 0, i 1, i 2, by funext a; match a with | ⟨0, _⟩ => rfl | ⟨1, _⟩ => rfl | ⟨2, _⟩ => rfl⟩
  exact (hx b ⟨L.val / 128, by omega⟩ r ⟨L.val % 128, by omega⟩ L (by show L.val = L.val / 128 * 128 + L.val % 128; omega)).symm

/-- The three gradients agree. -/
theorem algebraic : Cert.algebraic_KernelIdeal_ReferenceIdeal_pre_finite_scores := by
  intro m g m' g' hpre hagree
  have hfin := fun c => Precondition.of_fn _ _ _ _ (fun i => i.elim0) (congrFun (hpre c) _)
  refine ⟨fun c : Dev Cert.KernelIdeal.nD => spreadHeads (dqAt (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))),
    fun c : Dev Cert.KernelIdeal.nD => spreadHeads (dkAt (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))),
    fun c : Dev Cert.KernelIdeal.nD => spreadHeads (dvAt (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg3))), ?_, ?_⟩
  · refine (θ_run Cert.KernelIdeal.defs _ _).mono (fun r h c => ?_) (Cert.KernelIdeal.Value.run_blocks m g)
    obtain ⟨h0, h1, h2, hrest⟩ := h c
    exact ⟨h0.trans (final_queries m c (hfin c).1 (hfin c).2), h1.trans (final_keys m c (hfin c).1 (hfin c).2),
      h2.trans (final_values m c (hfin c).1 (hfin c).2), hrest⟩
  · refine (θ_run Cert.ReferenceIdeal.defs _ _).mono (fun r h c => ?_) (Cert.ReferenceIdeal.Value.run m' g')
    obtain ⟨h0, h1, h2, hrest⟩ := h c
    obtain ⟨a0, a1, a2, a3⟩ := hagree c
    refine ⟨h0.trans ?_, h1.trans ?_, h2.trans ?_, hrest⟩
    · rw [Ref.res_outQueries, a0, a1, a2, a3]
      exact (eq_spread _ _ fun b h r l L hL => Ref.outQueries_eq _ _ b h r (hfin c).1 (hfin c).2 l L hL).symm
    · rw [Ref.res_outKeys, a0, a1, a2, a3]
      exact (eq_spread _ _ fun b h r l L hL => Ref.outKeys_eq _ _ b h r (hfin c).1 (hfin c).2 l L hL).symm
    · rw [Ref.res_outValues, a0, a1, a3]
      exact (eq_spread _ _ fun b h r l L hL => Ref.outValues_eq _ b h r (hfin c).1 (hfin c).2 l L hL).symm

end Cert.Proof

end
-- ==== Proof.Products.lean ====
/- The three products of two matrices that the step's calls take, over the extended reals, read at an entry. -/
module

public import Idealize.ShloMosaic.PureOps.Ideal
public import Idealize.ShloMosaic.Lib.Pointwise

@[expose] public section

noncomputable section

namespace Cert.Proof.Products

open Idealize.ShloMosaic

variable {M N K : ℕ}

/-- Entry `(r, c)` of `x yᵀ`. -/
def rowRow (x : (⟨2, ![M, K]⟩ : Shape).Idx → EReal) (y : (⟨2, ![N, K]⟩ : Shape).Idx → EReal) (r : Fin M) (c : Fin N) : EReal :=
  ∑ k : Fin K, x (ix2 r k) * y (ix2 c k)

/-- Entry `(r, c)` of `xᵀ y`. -/
def colCol (x : (⟨2, ![K, M]⟩ : Shape).Idx → EReal) (y : (⟨2, ![K, N]⟩ : Shape).Idx → EReal) (r : Fin M) (c : Fin N) : EReal :=
  ∑ k : Fin K, x (ix2 k r) * y (ix2 k c)

/-- Entry `(r, c)` of `x y`. -/
def rowCol (x : (⟨2, ![M, K]⟩ : Shape).Idx → EReal) (y : (⟨2, ![K, N]⟩ : Shape).Idx → EReal) (r : Fin M) (c : Fin N) : EReal :=
  ∑ k : Fin K, x (ix2 r k) * y (ix2 k c)

/-- The matrix with the given entries. -/
def mat (f : Fin M → Fin N → EReal) : (⟨2, ![M, N]⟩ : Shape).Idx → EReal := fun i => f (i 0) (i 1)

section
variable {M' N' : ℕ}

theorem rowRow_congr {x : (⟨2, ![M, K]⟩ : Shape).Idx → EReal} {y : (⟨2, ![N, K]⟩ : Shape).Idx → EReal}
    {X : (⟨2, ![M', K]⟩ : Shape).Idx → EReal} {Y : (⟨2, ![N', K]⟩ : Shape).Idx → EReal} {r : Fin M} {c : Fin N}
    {r' : Fin M'} {c' : Fin N'} (hx : ∀ k, x (ix2 r k) = X (ix2 r' k)) (hy : ∀ k, y (ix2 c k) = Y (ix2 c' k)) :
    rowRow x y r c = rowRow X Y r' c' :=
  Finset.sum_congr rfl fun k _ => by rw [hx k, hy k]

theorem colCol_congr {x : (⟨2, ![K, M]⟩ : Shape).Idx → EReal} {y : (⟨2, ![K, N]⟩ : Shape).Idx → EReal}
    {X : (⟨2, ![K, M']⟩ : Shape).Idx → EReal} {Y : (⟨2, ![K, N']⟩ : Shape).Idx → EReal} {r : Fin M} {c : Fin N}
    {r' : Fin M'} {c' : Fin N'} (hx : ∀ k, x (ix2 k r) = X (ix2 k r')) (hy : ∀ k, y (ix2 k c) = Y (ix2 k c')) :
    colCol x y r c = colCol X Y r' c' :=
  Finset.sum_congr rfl fun k _ => by rw [hx k, hy k]

theorem rowCol_congr {x : (⟨2, ![M, K]⟩ : Shape).Idx → EReal} {y : (⟨2, ![K, N]⟩ : Shape).Idx → EReal}
    {X : (⟨2, ![M', K]⟩ : Shape).Idx → EReal} {Y : (⟨2, ![K, N']⟩ : Shape).Idx → EReal} {r : Fin M} {c : Fin N}
    {r' : Fin M'} {c' : Fin N'} (hx : ∀ k, x (ix2 r k) = X (ix2 r' k)) (hy : ∀ k, y (ix2 k c) = Y (ix2 k c')) :
    rowCol x y r c = rowCol X Y r' c' :=
  Finset.sum_congr rfl fun k _ => by rw [hx k, hy k]

end

theorem ix_eta (i : (⟨2, ![M, N]⟩ : Shape).Idx) : i = ix2 (i 0) (i 1) := by
  funext a
  match a with
  | ⟨0, _⟩ => rfl
  | ⟨1, _⟩ => rfl

/-- A sum over the rows of a batch is the sum over the batch of the sums over its rows. -/
theorem sum_rows {α : Type} [AddCommMonoid α] (B S : ℕ) (f : Fin (B * S) → α) :
    ∑ k : Fin (B * S), f k = ∑ b : Fin B, ∑ s : Fin S, f (finProdFinEquiv (b, s)) := by
  rw [← Fintype.sum_prod_type', ← Equiv.sum_comp finProdFinEquiv]

/-- A row's number over the rows of one member of the batch is the member's, -/
theorem row_div {B S : ℕ} (b : Fin B) (s : Fin S) (h : (finProdFinEquiv (b, s)).val / S < B) :
    (⟨(finProdFinEquiv (b, s)).val / S, h⟩ : Fin B) = b := by
  have hS : 0 < S := Nat.lt_of_le_of_lt (Nat.zero_le _) s.isLt
  apply Fin.ext
  show (s.val + S * b.val) / S = b.val
  rw [Nat.add_mul_div_left _ _ hS, Nat.div_eq_of_lt s.isLt, Nat.zero_add]

/-- and the rest is the row's place in it. -/
theorem row_mod {B S : ℕ} (b : Fin B) (s : Fin S) (h : (finProdFinEquiv (b, s)).val % S < S) :
    (⟨(finProdFinEquiv (b, s)).val % S, h⟩ : Fin S) = s := by
  apply Fin.ext
  show (s.val + S * b.val) % S = s.val
  rw [Nat.add_mul_mod_self_left, Nat.mod_eq_of_lt s.isLt]

/-- A sum over the rows of a batch, the summand given by the member of the batch and the row in it. -/
theorem sum_batch {K : ℕ} (B S : ℕ) (hK : K = B * S) (f : Fin B → Fin S → EReal) (g : Fin K → EReal)
    (h : ∀ k b s, k.val / S = b.val → k.val % S = s.val → g k = f b s) : ∑ k, g k = ∑ b, ∑ s, f b s := by
  subst hK
  rw [sum_rows]
  refine Finset.sum_congr rfl fun b _ => Finset.sum_congr rfl fun s _ => h _ b s ?_ ?_
  · have hS : 0 < S := Nat.lt_of_le_of_lt (Nat.zero_le _) s.isLt
    show (s.val + S * b.val) / S = b.val
    rw [Nat.add_mul_div_left _ _ hS, Nat.div_eq_of_lt s.isLt, Nat.zero_add]
  · show (s.val + S * b.val) % S = s.val
    rw [Nat.add_mul_mod_self_left, Nat.mod_eq_of_lt s.isLt]

/-- What a value is padded with. -/
theorem pad_value : (FloatOps.sitofp (F := Ideal) FTy.f32 (0#32) : EReal) = 0 := by
  show (((0#32 : BitVec 32).toInt : ℝ) : EReal) = 0
  simp

/-- A sum over `B` groups of `W` lanes, all zero past the first `D` lanes of a group, is the sum over `B` groups of `D`. -/
theorem sum_padded (B D W : ℕ) (hW : D ≤ W) (f : Fin (B * D) → EReal) (g : Fin (B * W) → EReal)
    (h : ∀ x : Fin (B * W), ∀ y : Fin (B * D), x.val % W < D → y.val / D = x.val / W → y.val % D = x.val % W → g x = f y)
    (h0 : ∀ x : Fin (B * W), ¬ x.val % W < D → g x = 0) : ∑ x, g x = ∑ y, f y := by
  obtain ⟨E, rfl⟩ := Nat.exists_eq_add_of_le hW
  rw [sum_rows B (D + E), sum_rows B D]
  refine Finset.sum_congr rfl fun b _ => ?_
  rw [Fin.sum_univ_add, Finset.sum_eq_zero (s := Finset.univ) (f := fun e : Fin E => g (finProdFinEquiv (b, Fin.natAdd D e))), add_zero]
  · refine Finset.sum_congr rfl fun d _ => ?_
    have hd := d.isLt
    have div0 : ∀ S : ℕ, d.val < S → (d.val + S * b.val) / S = b.val := fun S hS => by
      rw [Nat.add_mul_div_left _ _ (Nat.lt_of_le_of_lt (Nat.zero_le _) hS), Nat.div_eq_of_lt hS, Nat.zero_add]
    have mod0 : ∀ S : ℕ, d.val < S → (d.val + S * b.val) % S = d.val := fun S hS => by
      rw [Nat.add_mul_mod_self_left, Nat.mod_eq_of_lt hS]
    refine h _ _ ?_ ?_ ?_
    · show (d.val + (D + E) * b.val) % (D + E) < D
      rw [mod0 _ (by omega)]; exact hd
    · show (d.val + D * b.val) / D = (d.val + (D + E) * b.val) / (D + E)
      rw [div0 _ hd, div0 _ (by omega)]
    · show (d.val + D * b.val) % D = (d.val + (D + E) * b.val) % (D + E)
      rw [mod0 _ hd, mod0 _ (by omega)]
  · intro e _
    have he := e.isLt
    refine h0 _ ?_
    show ¬ ((D + e.val) + (D + E) * b.val) % (D + E) < D
    rw [Nat.add_mul_mod_self_left, Nat.mod_eq_of_lt (by omega)]
    omega

end Cert.Proof.Products

end
-- ==== Proof.Mlp2Dx.lean ====
/- The call `mlp2_dx`: the gradient of the feed-forward's second product with respect to what its first one left. -/
module

public import proofs.«01_k».proof.Defs
public import proofs.«01_k».proof.Proof.Products
public import proofs.«01_k».proof.Proof.Gen.Mlp2DxIdeal.Value
public import proofs.«01_k».proof.Proof.Gen.Mlp2DxReferenceIdeal.Run
public import proofs.«01_k».proof.Proof.Gen.Mlp2Dx.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.Mlp2Dx

open Idealize.ShloMosaic Cert.Mlp2DxIdeal Cert.Mlp2DxIdeal.Gen Idealize.ShloMosaic.TcCoe Idealize.SL.Sem Products

variable (m : (ℓ : Loc nD τ sig) → Buf (Elt Ideal) ℓ)

/-- The squares of what is positive. -/
def squares (a : FVec Ideal S2x2048x4096 .f32) : FVec Ideal S2x2048x4096 .f32 :=
  mulf (maximumf a (broadcastInDim S2x2048x4096 ![] bcast_S_S2x2048x4096 (constant S_ .f32 0x00000000#32)))
    (maximumf a (broadcastInDim S2x2048x4096 ![] bcast_S_S2x2048x4096 (constant S_ .f32 0x00000000#32)))

/-- Their rows. -/
def ins (a : FVec Ideal S2x2048x4096 .f32) : FVec Ideal S4096x4096 .bf16 :=
  truncf .bf16 (shapeCast S4096x4096 (squares a) shapeCasts_S2x2048x4096_S4096x4096) bitsLt_bf16_f32

/-- The cotangent's rows. -/
def cots (x : FVec Ideal S2x2048x1024 .f32) : FVec Ideal S4096x1024 .bf16 :=
  truncf .bf16 (shapeCast S4096x1024 x shapeCasts_S2x2048x1024_S4096x1024) bitsLt_bf16_f32

theorem entry_ins (c : Dev nD) : V m c main_v3 = ins (m ((c : Thread nD τ).loc main_arg0)) := by
  unfold V
  after_reads_simp
  simp only [StableHlo.TRef.toBuf, StableHlo.TRef.ofBuf, cast_eq]
  rfl

theorem entry_cots (c : Dev nD) : V m c main_v5 = cots (m ((c : Thread nD τ).loc main_arg2)) := by
  unfold V
  after_reads_simp
  rfl

theorem entry_weights (c : Dev nD) : V m c main_v6 = (truncf .bf16 (m ((c : Thread nD τ).loc main_arg1) : FVec Ideal S4096x1024 .f32) bitsLt_bf16_f32 : FVec Ideal S4096x1024 .bf16) := by
  unfold V
  after_reads_simp

theorem index0 : ∀ t : Fin cfg0.N, win0_0.index t = ![(grid0.coords t 0).val, 0] := by decide +kernel
theorem index1 : ∀ t : Fin cfg0.N, win0_1.index t = ![(grid0.coords t 1).val, 0] := by decide +kernel
theorem index2 : ∀ t : Fin cfg0.N, win0_2.index t = ![(grid0.coords t 0).val, (grid0.coords t 1).val] := by decide +kernel
theorem index3 : ∀ t : Fin cfg0.N, win0_3.index t = ![(grid0.coords t 0).val, (grid0.coords t 1).val] := by decide +kernel

theorem two : Ideal.ofBits .f32 0x40000000#32 = ((2 : ℝ) : EReal) := by
  simp [Ideal.ofBits, Ideal.ieee, -EReal.coe_mul]; norm_num

theorem zero : Ideal.ofBits .f32 0x00000000#32 = (0 : EReal) := by
  simp [Ideal.ofBits, Ideal.ieee]

theorem payload (x y z : Vec Ideal S1024x1024 .bf16) (r l : Fin 1024) :
    k0_pay1 x y z (ix2 r l) = rowRow (M := 1024) (N := 1024) (K := 1024) x y r l * (((2 : ℝ) : EReal) * Ideal.sqrt (z (ix2 r l))) := by
  unfold k0_pay1 rowRow
  pointwise [two]

/-- The array the call leaves: the product of the two it takes, times twice the root of the third. -/
theorem final (c : Dev nD) (Z : FVec Ideal S4096x4096 .bf16) (D Y : FVec Ideal S4096x1024 .bf16)
    (hD : V m c main_v5 = D) (hY : V m c main_v6 = Y) (hZ : V m c main_v3 = Z) :
    (dats m 0 c).arrAt 3 cfg0.N
      = (mat fun r l => rowRow (M := 4096) (N := 4096) (K := 1024) D Y r l * (((2 : ℝ) : EReal) * Ideal.sqrt (Z (ix2 r l))) : FVec Ideal S4096x4096 .bf16) := by
  refine (dats m 0 c).arrAt_eq_of_covers 3 _ (by decide +kernel) fun t hf y => ?_
  blk_simp
  rw [after0_3]
  frame_out
  obtain ⟨r, l, rfl⟩ : ∃ (r l : Fin 1024), y = (ix2 r l : S1024x1024.Idx) := ⟨_, _, ix_eta y⟩
  rw [payload]
  subst hD hY hZ
  unfold mat
  refine congr (congrArg HMul.hMul (rowRow_congr (fun k => ?_) (fun k => ?_))) (congrArg (fun q => ((2 : ℝ) : EReal) * Ideal.sqrt q) ?_) <;>
    blk_ext [iblk, index0 t, index1 t, index2 t, index3 t]

/-- The root of a square that is not negative. -/
theorem root_square (a : EReal) (h : 0 ≤ a) : Ideal.sqrt (a * a) = a := by
  induction a using EReal.rec with
  | bot => exact absurd h (by decide)
  | top => rfl
  | coe r =>
    have h' : 0 ≤ r := by exact_mod_cast h
    rw [← EReal.coe_mul, Ideal.sqrt_coe, if_neg (not_lt.2 (mul_nonneg h' h')), Real.sqrt_mul_self h']

/-- The reference's array. -/
theorem reference (a : FVec Ideal S2x2048x4096 .f32) (w : FVec Ideal S4096x1024 .f32) (d : FVec Ideal S2x2048x1024 .f32) :
    (truncf .bf16 (shapeCast Cert.Mlp2DxReferenceIdeal.S4096x4096 (select (cmpf .ogt a (broadcastInDim S2x2048x4096 ![] bcast_S_S2x2048x4096 (constant S_ .f32 0x00000000#32)))
      (mulf (Host.dotGeneral (F := Ideal) Cert.Mlp2DxReferenceIdeal.dot_S2x2048x1024_S4096x1024_S2x2048x4096_2_1_01_0_n_n none d w)
        (mulf (broadcastInDim S2x2048x4096 ![] bcast_S_S2x2048x4096 (constant S_ .f32 0x40000000#32)) (maximumf a (broadcastInDim S2x2048x4096 ![] bcast_S_S2x2048x4096 (constant S_ .f32 0x00000000#32)))))
      (broadcastInDim S2x2048x4096 ![] bcast_S_S2x2048x4096 (constant S_ .f32 0x00000000#32))) Cert.Mlp2DxReferenceIdeal.Gen.shapeCasts_S2x2048x4096_S4096x4096) bitsLt_bf16_f32 : FVec Ideal S4096x4096 .bf16)
      = mat fun r l => rowRow (M := 4096) (N := 4096) (K := 1024) (cots d) w r l * (((2 : ℝ) : EReal) * Ideal.sqrt (ins a (ix2 r l))) := by
  funext i
  obtain ⟨r, l, rfl⟩ : ∃ (r l : Fin 4096), i = (ix2 r l : S4096x4096.Idx) := ⟨_, _, ix_eta i⟩
  unfold mat rowRow cots ins squares
  pointwise [two, zero]
  rw [root_square _ (le_max_right _ _)]
  split
  · rfl
  · rename_i h
    rw [max_eq_right (not_lt.1 h), mul_zero, mul_zero]

theorem frame : Cert.quiescent_Mlp2Dx := fun m ρ _ => Cert.Mlp2Dx.Gen.frame m ρ
theorem frame_ideal : Cert.quiescent_Mlp2DxIdeal := fun m ρ _ => Cert.Mlp2DxIdeal.Gen.frame m ρ
theorem frame_reference : Cert.quiescent_Mlp2DxReferenceIdeal := fun m ρ _ =>
  (θ_run Cert.Mlp2DxReferenceIdeal.defs _ _).mono (fun r h => ⟨fun c => (h c).2, sem_eq_zero_of_no_sems (by decide) r.2⟩)
    (Cert.Mlp2DxReferenceIdeal.Value.run (F := Ideal) m ρ)

/-- The call and the reference end with the same array. -/
theorem algebraic : Cert.algebraic_Mlp2DxIdeal_Mlp2DxReferenceIdeal := by
  intro m g m' g' _ hagree
  refine ⟨fun c : Dev nD => mat fun r l => rowRow (M := 4096) (N := 4096) (K := 1024) (cots (m ((c.tc : Thread nD τ).loc main_arg2))) (m ((c.tc : Thread nD τ).loc main_arg1)) r l * (((2 : ℝ) : EReal) * Ideal.sqrt (ins (m ((c.tc : Thread nD τ).loc main_arg0)) (ix2 r l))), ?_, ?_⟩
  · exact (θ_run Cert.Mlp2DxIdeal.defs _ _).mono
      (fun r h c => ⟨(h c).1.trans (final m c _ _ _ (entry_cots m c) (entry_weights m c) (entry_ins m c)), (h c).2⟩) (Cert.Mlp2DxIdeal.Value.run_blocks m g)
  · refine (θ_run Cert.Mlp2DxReferenceIdeal.defs _ _).mono (fun r h c => ⟨(h c).1.trans ?_, (h c).2⟩) (Cert.Mlp2DxReferenceIdeal.Value.run m' g')
    rw [(hagree c).1, (hagree c).2.1, (hagree c).2.2]
    exact reference _ _ _

end Cert.Proof.Mlp2Dx

end
-- ==== Proof.Mlp2Dw.lean ====
/- The call `mlp2_dw`: the gradient of the feed-forward's second product with respect to its weights. -/
module

public import proofs.«01_k».proof.Defs
public import proofs.«01_k».proof.Proof.Products
public import proofs.«01_k».proof.Proof.Gen.Mlp2DwIdeal.Value
public import proofs.«01_k».proof.Proof.Gen.Mlp2DwReferenceIdeal.Run
public import proofs.«01_k».proof.Proof.Gen.Mlp2Dw.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.Mlp2Dw

open Idealize.ShloMosaic Cert.Mlp2DwIdeal Cert.Mlp2DwIdeal.Gen Idealize.ShloMosaic.TcCoe Idealize.SL.Sem Products

variable (m : (ℓ : Loc nD τ sig) → Buf (Elt Ideal) ℓ)

/-- The squares of what is positive. -/
def squares (a : FVec Ideal S2x2048x4096 .f32) : FVec Ideal S2x2048x4096 .f32 :=
  mulf (maximumf a (broadcastInDim S2x2048x4096 ![] bcast_S_S2x2048x4096 (constant S_ .f32 0x00000000#32)))
    (maximumf a (broadcastInDim S2x2048x4096 ![] bcast_S_S2x2048x4096 (constant S_ .f32 0x00000000#32)))

/-- Their rows. -/
def ins (a : FVec Ideal S2x2048x4096 .f32) : FVec Ideal S4096x4096 .bf16 :=
  truncf .bf16 (shapeCast S4096x4096 (squares a) shapeCasts_S2x2048x4096_S4096x4096) bitsLt_bf16_f32

/-- The cotangent's rows. -/
def cots (x : FVec Ideal S2x2048x1024 .f32) : FVec Ideal S4096x1024 .bf16 :=
  truncf .bf16 (shapeCast S4096x1024 x shapeCasts_S2x2048x1024_S4096x1024) bitsLt_bf16_f32

theorem entry_ins (c : Dev nD) : V m c main_v3 = ins (m ((c : Thread nD τ).loc main_arg0)) := by
  unfold V
  after_reads_simp
  simp only [StableHlo.TRef.toBuf, StableHlo.TRef.ofBuf, cast_eq]
  rfl

theorem entry_cots (c : Dev nD) : V m c main_v5 = cots (m ((c : Thread nD τ).loc main_arg2)) := by
  unfold V
  after_reads_simp
  rfl

theorem index0 : ∀ t : Fin cfg0.N, win0_0.index t = ![0, (grid0.coords t 0).val] := by decide +kernel
theorem index1 : ∀ t : Fin cfg0.N, win0_1.index t = ![0, 0] := by decide +kernel
theorem index2 : ∀ t : Fin cfg0.N, win0_2.index t = ![(grid0.coords t 0).val, 0] := by decide +kernel

theorem payload (x : Vec Ideal S4096x512 .bf16) (y : Vec Ideal S4096x1024 .bf16) (r : Fin 512) (l : Fin 1024) :
    k0_pay1 x y (ix2 r l) = colCol (M := 512) (N := 1024) (K := 4096) x y r l := by
  unfold k0_pay1 colCol
  pointwise

/-- The array the call leaves is the product of the two it takes. -/
theorem final (c : Dev nD) (X : FVec Ideal S4096x4096 .bf16) (Y : FVec Ideal S4096x1024 .bf16) (hX : V m c main_v3 = X) (hY : V m c main_v5 = Y) :
    (dats m 0 c).arrAt 2 cfg0.N = (mat (colCol X Y) : FVec Ideal S4096x1024 .f32) := by
  refine (dats m 0 c).arrAt_eq_of_covers 2 _ (by decide +kernel) fun t hf y => ?_
  blk_simp
  rw [after0_2]
  frame_out
  obtain ⟨r, l, rfl⟩ : ∃ (r : Fin 512) (l : Fin 1024), y = (ix2 r l : S512x1024.Idx) := ⟨_, _, ix_eta y⟩
  rw [payload]
  subst hX hY
  refine colCol_congr (fun k => ?_) (fun k => ?_) <;> blk_ext [iblk, index0 t, index1 t, index2 t]

/-- The reference's array. -/
theorem reference (a : FVec Ideal S2x2048x4096 .f32) (d : FVec Ideal S2x2048x1024 .f32) :
    transpose Cert.Mlp2DwReferenceIdeal.S4096x1024 [1, 0] (Host.dotGeneral (F := Ideal) Cert.Mlp2DwReferenceIdeal.dot_S2x2048x1024_S2x2048x4096_S1024x4096_01_01_2_2_n_n none d (squares a))
        Cert.Mlp2DwReferenceIdeal.Gen.transposes_S1024x4096_S4096x1024_1_0
      = mat (colCol (ins a) (cots d)) := by
  funext i
  obtain ⟨r, l, rfl⟩ : ∃ (r : Fin 4096) (l : Fin 1024), i = (ix2 r l : S4096x1024.Idx) := ⟨_, _, ix_eta i⟩
  unfold mat colCol
  rw [sum_rows 2 2048]
  unfold ins cots
  pointwise
  refine Finset.sum_congr rfl fun b _ => Finset.sum_congr rfl fun s _ => ?_
  rw [row_div, row_mod, mul_comm]

theorem frame : Cert.quiescent_Mlp2Dw := fun m ρ _ => Cert.Mlp2Dw.Gen.frame m ρ
theorem frame_ideal : Cert.quiescent_Mlp2DwIdeal := fun m ρ _ => Cert.Mlp2DwIdeal.Gen.frame m ρ
theorem frame_reference : Cert.quiescent_Mlp2DwReferenceIdeal := fun m ρ _ =>
  (θ_run Cert.Mlp2DwReferenceIdeal.defs _ _).mono (fun r h => ⟨fun c => (h c).2, sem_eq_zero_of_no_sems (by decide) r.2⟩)
    (Cert.Mlp2DwReferenceIdeal.Value.run (F := Ideal) m ρ)

/-- The call and the reference end with the same array. -/
theorem algebraic : Cert.algebraic_Mlp2DwIdeal_Mlp2DwReferenceIdeal := by
  intro m g m' g' _ hagree
  refine ⟨fun c : Dev nD => mat (colCol (ins (m ((c.tc : Thread nD τ).loc main_arg0))) (cots (m ((c.tc : Thread nD τ).loc main_arg2)))), ?_, ?_⟩
  · exact (θ_run Cert.Mlp2DwIdeal.defs _ _).mono
      (fun r h c => ⟨(h c).1.trans (final m c _ _ (entry_ins m c) (entry_cots m c)), (h c).2⟩) (Cert.Mlp2DwIdeal.Value.run_blocks m g)
  · refine (θ_run Cert.Mlp2DwReferenceIdeal.defs _ _).mono (fun r h c => ⟨(h c).1.trans ?_, (h c).2⟩) (Cert.Mlp2DwReferenceIdeal.Value.run m' g')
    rw [(hagree c).1, (hagree c).2.2]
    exact reference _ _

end Cert.Proof.Mlp2Dw

end
-- ==== Proof.Mlp1Dx.lean ====
/- The call `mlp1_dx`: the gradient of the feed-forward's first product with respect to its input. -/
module

public import proofs.«01_k».proof.Defs
public import proofs.«01_k».proof.Proof.Products
public import proofs.«01_k».proof.Proof.Gen.Mlp1DxIdeal.Value
public import proofs.«01_k».proof.Proof.Gen.Mlp1DxReferenceIdeal.Run
public import proofs.«01_k».proof.Proof.Gen.Mlp1Dx.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.Mlp1Dx

open Idealize.ShloMosaic Cert.Mlp1DxIdeal Cert.Mlp1DxIdeal.Gen Idealize.ShloMosaic.TcCoe Idealize.SL.Sem Products

variable (m : (ℓ : Loc nD τ sig) → Buf (Elt Ideal) ℓ)

/-- The cotangent's rows. -/
def cots (x : FVec Ideal S2x2048x4096 .f32) : FVec Ideal S4096x4096 .bf16 :=
  truncf .bf16 (shapeCast S4096x4096 x shapeCasts_S2x2048x4096_S4096x4096) bitsLt_bf16_f32

theorem entry_cots (c : Dev nD) : V m c main_v1 = cots (m ((c : Thread nD τ).loc main_arg2)) := by
  unfold V
  after_reads_simp
  rfl

theorem entry_weights (c : Dev nD) : V m c main_v2 = (truncf .bf16 (m ((c : Thread nD τ).loc main_arg1) : FVec Ideal S1024x4096 .f32) bitsLt_bf16_f32 : FVec Ideal S1024x4096 .bf16) := by
  unfold V
  after_reads_simp

theorem index0 : ∀ t : Fin cfg0.N, win0_0.index t = ![(grid0.coords t 0).val, 0] := by decide +kernel
theorem index1 : ∀ t : Fin cfg0.N, win0_1.index t = ![0, 0] := by decide +kernel
theorem index2 : ∀ t : Fin cfg0.N, win0_2.index t = ![(grid0.coords t 0).val, 0] := by decide +kernel

theorem payload (x : Vec Ideal S512x4096 .bf16) (y : Vec Ideal S1024x4096 .bf16) (r : Fin 512) (l : Fin 1024) :
    k0_pay1 x y (ix2 r l) = rowRow (M := 512) (N := 1024) (K := 4096) x y r l := by
  unfold k0_pay1 rowRow
  pointwise

theorem final (c : Dev nD) (X : FVec Ideal S4096x4096 .bf16) (Y : FVec Ideal S1024x4096 .bf16) (hX : V m c main_v1 = X) (hY : V m c main_v2 = Y) :
    (dats m 0 c).arrAt 2 cfg0.N = (mat (rowRow X Y) : FVec Ideal S4096x1024 .f32) := by
  refine (dats m 0 c).arrAt_eq_of_covers 2 _ (by decide +kernel) fun t hf y => ?_
  blk_simp
  rw [after0_2]
  frame_out
  obtain ⟨r, l, rfl⟩ : ∃ (r : Fin 512) (l : Fin 1024), y = (ix2 r l : S512x1024.Idx) := ⟨_, _, ix_eta y⟩
  rw [payload]
  subst hX hY
  refine rowRow_congr (fun k => ?_) (fun k => ?_) <;> blk_ext [iblk, index0 t, index1 t, index2 t]

/-- The reference's array. -/
theorem reference (w : FVec Ideal S1024x4096 .f32) (d : FVec Ideal S2x2048x4096 .f32) :
    shapeCast Cert.Mlp1DxReferenceIdeal.S4096x1024 (Host.dotGeneral (F := Ideal) Cert.Mlp1DxReferenceIdeal.dot_S2x2048x4096_S1024x4096_S2x2048x1024_2_1_01_0_n_n none d w)
        Cert.Mlp1DxReferenceIdeal.Gen.shapeCasts_S2x2048x1024_S4096x1024
      = mat (rowRow (cots d) w) := by
  funext i
  obtain ⟨r, l, rfl⟩ : ∃ (r : Fin 4096) (l : Fin 1024), i = (ix2 r l : S4096x1024.Idx) := ⟨_, _, ix_eta i⟩
  unfold mat rowRow cots
  pointwise

theorem frame : Cert.quiescent_Mlp1Dx := fun m ρ _ => Cert.Mlp1Dx.Gen.frame m ρ
theorem frame_ideal : Cert.quiescent_Mlp1DxIdeal := fun m ρ _ => Cert.Mlp1DxIdeal.Gen.frame m ρ
theorem frame_reference : Cert.quiescent_Mlp1DxReferenceIdeal := fun m ρ _ =>
  (θ_run Cert.Mlp1DxReferenceIdeal.defs _ _).mono (fun r h => ⟨fun c => (h c).2, sem_eq_zero_of_no_sems (by decide) r.2⟩)
    (Cert.Mlp1DxReferenceIdeal.Value.run (F := Ideal) m ρ)

/-- The call and the reference end with the same array. -/
theorem algebraic : Cert.algebraic_Mlp1DxIdeal_Mlp1DxReferenceIdeal := by
  intro m g m' g' _ hagree
  refine ⟨fun c : Dev nD => mat (rowRow (cots (m ((c.tc : Thread nD τ).loc main_arg2))) (m ((c.tc : Thread nD τ).loc main_arg1))), ?_, ?_⟩
  · exact (θ_run Cert.Mlp1DxIdeal.defs _ _).mono
      (fun r h c => ⟨(h c).1.trans (final m c _ _ (entry_cots m c) (entry_weights m c)), (h c).2⟩) (Cert.Mlp1DxIdeal.Value.run_blocks m g)
  · refine (θ_run Cert.Mlp1DxReferenceIdeal.defs _ _).mono (fun r h c => ⟨(h c).1.trans ?_, (h c).2⟩) (Cert.Mlp1DxReferenceIdeal.Value.run m' g')
    rw [(hagree c).2.1, (hagree c).2.2]
    exact reference _ _

end Cert.Proof.Mlp1Dx

end
-- ==== Proof.Mlp1Dw.lean ====
/- The call `mlp1_dw`: the gradient of the feed-forward's first product with respect to its weights. -/
module

public import proofs.«01_k».proof.Defs
public import proofs.«01_k».proof.Proof.Products
public import proofs.«01_k».proof.Proof.Gen.Mlp1DwIdeal.Value
public import proofs.«01_k».proof.Proof.Gen.Mlp1DwReferenceIdeal.Run
public import proofs.«01_k».proof.Proof.Gen.Mlp1Dw.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.Mlp1Dw

open Idealize.ShloMosaic Cert.Mlp1DwIdeal Cert.Mlp1DwIdeal.Gen Idealize.ShloMosaic.TcCoe Idealize.SL.Sem Products

variable (m : (ℓ : Loc nD τ sig) → Buf (Elt Ideal) ℓ)

/-- The inputs' rows. -/
def ins (x : FVec Ideal S2x2048x1024 .f32) : FVec Ideal S4096x1024 .bf16 :=
  truncf .bf16 (shapeCast S4096x1024 x shapeCasts_S2x2048x1024_S4096x1024) bitsLt_bf16_f32

/-- The cotangent's rows. -/
def cots (x : FVec Ideal S2x2048x4096 .f32) : FVec Ideal S4096x4096 .bf16 :=
  truncf .bf16 (shapeCast S4096x4096 x shapeCasts_S2x2048x4096_S4096x4096) bitsLt_bf16_f32

theorem entry_ins (c : Dev nD) : V m c main_v1 = ins (m ((c : Thread nD τ).loc main_arg0)) := by
  unfold V
  after_reads_simp
  rfl

theorem entry_cots (c : Dev nD) : V m c main_v3 = cots (m ((c : Thread nD τ).loc main_arg2)) := by
  unfold V
  after_reads_simp
  rfl

theorem index0 : ∀ t : Fin cfg0.N, win0_0.index t = ![0, (grid0.coords t 0).val] := by decide +kernel
theorem index1 : ∀ t : Fin cfg0.N, win0_1.index t = ![0, (grid0.coords t 1).val] := by decide +kernel
theorem index2 : ∀ t : Fin cfg0.N, win0_2.index t = ![(grid0.coords t 0).val, (grid0.coords t 1).val] := by decide +kernel

theorem payload (x : Vec Ideal S4096x512 .bf16) (y : Vec Ideal S4096x1024 .bf16) (r : Fin 512) (l : Fin 1024) :
    k0_pay1 x y (ix2 r l) = colCol (M := 512) (N := 1024) (K := 4096) x y r l := by
  unfold k0_pay1 colCol
  pointwise

/-- The array the call leaves is the product of the two it takes. -/
theorem final (c : Dev nD) (X : FVec Ideal S4096x1024 .bf16) (Y : FVec Ideal S4096x4096 .bf16) (hX : V m c main_v1 = X) (hY : V m c main_v3 = Y) :
    (dats m 0 c).arrAt 2 cfg0.N = (mat (colCol X Y) : FVec Ideal S1024x4096 .f32) := by
  refine (dats m 0 c).arrAt_eq_of_covers 2 _ (by decide +kernel) fun t hf y => ?_
  blk_simp
  rw [after0_2]
  frame_out
  obtain ⟨r, l, rfl⟩ : ∃ (r : Fin 512) (l : Fin 1024), y = (ix2 r l : S512x1024.Idx) := ⟨_, _, ix_eta y⟩
  rw [payload]
  subst hX hY
  refine colCol_congr (fun k => ?_) (fun k => ?_) <;> blk_ext [iblk, index0 t, index1 t, index2 t]

/-- The reference's array. -/
theorem reference (x : FVec Ideal S2x2048x1024 .f32) (d : FVec Ideal S2x2048x4096 .f32) :
    transpose Cert.Mlp1DwReferenceIdeal.S1024x4096 [1, 0] (Host.dotGeneral (F := Ideal) Cert.Mlp1DwReferenceIdeal.dot_S2x2048x4096_S2x2048x1024_S4096x1024_01_01_2_2_n_n none d x)
        Cert.Mlp1DwReferenceIdeal.Gen.transposes_S4096x1024_S1024x4096_1_0
      = mat (colCol (ins x) (cots d)) := by
  funext i
  obtain ⟨r, l, rfl⟩ : ∃ (r : Fin 1024) (l : Fin 4096), i = (ix2 r l : S1024x4096.Idx) := ⟨_, _, ix_eta i⟩
  unfold mat colCol
  rw [sum_rows 2 2048]
  unfold ins cots
  pointwise
  refine Finset.sum_congr rfl fun b _ => Finset.sum_congr rfl fun s _ => ?_
  rw [row_div, row_mod, mul_comm]

theorem frame : Cert.quiescent_Mlp1Dw := fun m ρ _ => Cert.Mlp1Dw.Gen.frame m ρ
theorem frame_ideal : Cert.quiescent_Mlp1DwIdeal := fun m ρ _ => Cert.Mlp1DwIdeal.Gen.frame m ρ
theorem frame_reference : Cert.quiescent_Mlp1DwReferenceIdeal := fun m ρ _ =>
  (θ_run Cert.Mlp1DwReferenceIdeal.defs _ _).mono (fun r h => ⟨fun c => (h c).2, sem_eq_zero_of_no_sems (by decide) r.2⟩)
    (Cert.Mlp1DwReferenceIdeal.Value.run (F := Ideal) m ρ)

/-- The call and the reference end with the same array. -/
theorem algebraic : Cert.algebraic_Mlp1DwIdeal_Mlp1DwReferenceIdeal := by
  intro m g m' g' _ hagree
  refine ⟨fun c : Dev nD => mat (colCol (ins (m ((c.tc : Thread nD τ).loc main_arg0))) (cots (m ((c.tc : Thread nD τ).loc main_arg2)))), ?_, ?_⟩
  · exact (θ_run Cert.Mlp1DwIdeal.defs _ _).mono
      (fun r h c => ⟨(h c).1.trans (final m c _ _ (entry_ins m c) (entry_cots m c)), (h c).2⟩) (Cert.Mlp1DwIdeal.Value.run_blocks m g)
  · refine (θ_run Cert.Mlp1DwReferenceIdeal.defs _ _).mono (fun r h c => ⟨(h c).1.trans ?_, (h c).2⟩) (Cert.Mlp1DwReferenceIdeal.Value.run m' g')
    rw [(hagree c).1, (hagree c).2.2]
    exact reference _ _

end Cert.Proof.Mlp1Dw

end
-- ==== Proof.WOutDx.lean ====
/- The call `w_out_dx`: the gradient of the product that leaves the mixing with respect to its input. -/
module

public import proofs.«01_k».proof.Defs
public import proofs.«01_k».proof.Proof.Products
public import proofs.«01_k».proof.Proof.Gen.WOutDxIdeal.Value
public import proofs.«01_k».proof.Proof.Gen.WOutDxReferenceIdeal.Run
public import proofs.«01_k».proof.Proof.Gen.WOutDx.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.WOutDx

open Idealize.ShloMosaic Idealize.ShloMosaic.TcCoe Idealize.SL.Sem Products

section

open Cert.WOutDxIdeal Cert.WOutDxIdeal.Gen

variable (m : (ℓ : Loc nD τ sig) → Buf (Elt Ideal) ℓ)

/-- The cotangent's rows. -/
def cots (x : FVec Ideal S2x2048x1024 .f32) : FVec Ideal S4096x1024 .bf16 :=
  truncf .bf16 (shapeCast S4096x1024 x shapeCasts_S2x2048x1024_S4096x1024) bitsLt_bf16_f32

theorem entry_cots (c : Dev nD) : V m c main_v1 = cots (m ((c : Thread nD τ).loc main_arg2)) := by
  unfold V
  after_reads_simp
  rfl

/-- The weights. -/
def weights (x : FVec Ideal S1024x1024 .f32) : FVec Ideal S1024x1024 .bf16 :=
  truncf .bf16 x bitsLt_bf16_f32

theorem entry_weights (c : Dev nD) : V m c main_v2 = weights (m ((c : Thread nD τ).loc main_arg1)) := by
  unfold V
  after_reads_simp
  rfl

theorem index0 : ∀ t : Fin cfg0.N, win0_0.index t = ![(grid0.coords t 0).val, 0] := by decide +kernel
theorem index1 : ∀ t : Fin cfg0.N, win0_1.index t = ![(grid0.coords t 1).val, 0] := by decide +kernel
theorem index2 : ∀ t : Fin cfg0.N, win0_2.index t = ![(grid0.coords t 0).val, (grid0.coords t 1).val] := by decide +kernel

theorem payload (x : Vec Ideal S1024x1024 .bf16) (y : Vec Ideal S1024x1024 .bf16) (r : Fin 1024) (l : Fin 1024) :
    k0_pay1 x y (ix2 r l) = rowRow (M := 1024) (N := 1024) (K := 1024) x y r l := by
  unfold k0_pay1 rowRow
  pointwise

/-- What a grid point reads of the left matrix, whatever that matrix is. -/
theorem read0 (c : Dev nD) (t : Fin cfg0.N) (X : FVec Ideal S4096x1024 .bf16) (hX : V m c main_v1 = X) :
    iblk m c 0 t = ((cfg0.win 0).blk t).view.read (Elt Ideal) X := by
  subst hX
  rfl

/-- What a grid point reads of the right matrix. -/
theorem read1 (c : Dev nD) (t : Fin cfg0.N) (Y : FVec Ideal S1024x1024 .bf16) (hY : V m c main_v2 = Y) :
    iblk m c 1 t = ((cfg0.win 1).blk t).view.read (Elt Ideal) Y := by
  subst hY
  rfl

/-- The array the call leaves is the product of the two it takes. -/
theorem final (c : Dev nD) (X : FVec Ideal S4096x1024 .bf16) (Y : FVec Ideal S1024x1024 .bf16) (hX : V m c main_v1 = X) (hY : V m c main_v2 = Y) :
    (dats m 0 c).arrAt 2 cfg0.N = (mat (rowRow X Y) : FVec Ideal S4096x1024 .bf16) := by
  refine (dats m 0 c).arrAt_eq_of_covers 2 _ (by decide +kernel) fun t hf y => ?_
  blk_simp
  rw [after0_2]
  frame_out
  obtain ⟨r, l, rfl⟩ : ∃ (r : Fin 1024) (l : Fin 1024), y = (ix2 r l : S1024x1024.Idx) := ⟨_, _, ix_eta y⟩
  rw [payload]
  rw [read0 m c t X hX, read1 m c t Y hY]
  refine rowRow_congr (fun k => ?_) (fun k => ?_) <;> blk_ext [index0 t, index1 t, index2 t]

end

section

open Cert.WOutDxReferenceIdeal Cert.WOutDxReferenceIdeal.Gen

/-- The reference's array. -/
theorem reference (w : FVec Ideal S1024x1024 .f32) (d : FVec Ideal S2x2048x1024 .f32) :
    (truncf .bf16 (shapeCast _ (Host.dotGeneral (F := Ideal) dot_S2x2048x1024_S1024x1024_S2x2048x1024_2_1_01_0_n_n none d w) shapeCasts_S2x2048x1024_S4096x1024) bitsLt_bf16_f32 : FVec Ideal S4096x1024 .bf16)
      = mat (rowRow (cots d) (weights w)) := by
  funext i
  obtain ⟨r, l, rfl⟩ : ∃ (r : Fin 4096) (l : Fin 1024), i = (ix2 r l : S4096x1024.Idx) := ⟨_, _, ix_eta i⟩
  unfold mat rowRow
  unfold cots weights
  pointwise

end

open Cert.WOutDxIdeal Cert.WOutDxIdeal.Gen

theorem frame : Cert.quiescent_WOutDx := fun m ρ _ => Cert.WOutDx.Gen.frame m ρ
theorem frame_ideal : Cert.quiescent_WOutDxIdeal := fun m ρ _ => Cert.WOutDxIdeal.Gen.frame m ρ
theorem frame_reference : Cert.quiescent_WOutDxReferenceIdeal := fun m ρ _ =>
  (θ_run Cert.WOutDxReferenceIdeal.defs _ _).mono (fun r h => ⟨fun c => (h c).2, sem_eq_zero_of_no_sems (by decide) r.2⟩)
    (Cert.WOutDxReferenceIdeal.Value.run (F := Ideal) m ρ)

/-- The call and the reference end with the same array. -/
theorem algebraic : Cert.algebraic_WOutDxIdeal_WOutDxReferenceIdeal := by
  intro m g m' g' _ hagree
  refine ⟨fun c : Dev nD => mat (rowRow (cots (m ((c.tc : Thread nD τ).loc main_arg2))) (weights (m ((c.tc : Thread nD τ).loc main_arg1)))), ?_, ?_⟩
  · exact (θ_run Cert.WOutDxIdeal.defs _ _).mono
      (fun r h c => ⟨(h c).1.trans (final m c _ _ (entry_cots m c) (entry_weights m c)), (h c).2⟩) (Cert.WOutDxIdeal.Value.run_blocks m g)
  · refine (θ_run Cert.WOutDxReferenceIdeal.defs _ _).mono (fun r h c => ⟨(h c).1.trans ?_, (h c).2⟩) (Cert.WOutDxReferenceIdeal.Value.run m' g')
    rw [(hagree c).2.1, (hagree c).2.2]
    exact reference _ _

end Cert.Proof.WOutDx

end
-- ==== Proof.WOutDw.lean ====
/- The call `w_out_dw`: the gradient of the product that leaves the mixing with respect to its weights. -/
module

public import proofs.«01_k».proof.Defs
public import proofs.«01_k».proof.Proof.Products
public import proofs.«01_k».proof.Proof.Gen.WOutDwIdeal.Value
public import proofs.«01_k».proof.Proof.Gen.WOutDwReferenceIdeal.Run
public import proofs.«01_k».proof.Proof.Gen.WOutDw.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.WOutDw

open Idealize.ShloMosaic Idealize.ShloMosaic.TcCoe Idealize.SL.Sem Products

section

open Cert.WOutDwIdeal Cert.WOutDwIdeal.Gen

variable (m : (ℓ : Loc nD τ sig) → Buf (Elt Ideal) ℓ)

/-- The input's rows. -/
def ins (x : FVec Ideal S2x2048x1024 .f32) : FVec Ideal S4096x1024 .bf16 :=
  truncf .bf16 (shapeCast S4096x1024 x shapeCasts_S2x2048x1024_S4096x1024) bitsLt_bf16_f32

theorem entry_ins (c : Dev nD) : V m c main_v1 = ins (m ((c : Thread nD τ).loc main_arg0)) := by
  unfold V
  after_reads_simp
  rfl

/-- The cotangent's rows. -/
def cots (x : FVec Ideal S2x2048x1024 .f32) : FVec Ideal S4096x1024 .bf16 :=
  truncf .bf16 (shapeCast S4096x1024 x shapeCasts_S2x2048x1024_S4096x1024) bitsLt_bf16_f32

theorem entry_cots (c : Dev nD) : V m c main_v3 = cots (m ((c : Thread nD τ).loc main_arg2)) := by
  unfold V
  after_reads_simp
  rfl

theorem index0 : ∀ t : Fin cfg0.N, win0_0.index t = ![0, (grid0.coords t 0).val] := by decide +kernel
theorem index1 : ∀ t : Fin cfg0.N, win0_1.index t = ![0, (grid0.coords t 1).val] := by decide +kernel
theorem index2 : ∀ t : Fin cfg0.N, win0_2.index t = ![(grid0.coords t 0).val, (grid0.coords t 1).val] := by decide +kernel

theorem payload (x : Vec Ideal S4096x512 .bf16) (y : Vec Ideal S4096x1024 .bf16) (r : Fin 512) (l : Fin 1024) :
    k0_pay1 x y (ix2 r l) = colCol (M := 512) (N := 1024) (K := 4096) x y r l := by
  unfold k0_pay1 colCol
  pointwise

/-- What a grid point reads of the left matrix, whatever that matrix is. -/
theorem read0 (c : Dev nD) (t : Fin cfg0.N) (X : FVec Ideal S4096x1024 .bf16) (hX : V m c main_v1 = X) :
    iblk m c 0 t = ((cfg0.win 0).blk t).view.read (Elt Ideal) X := by
  subst hX
  rfl

/-- What a grid point reads of the right matrix. -/
theorem read1 (c : Dev nD) (t : Fin cfg0.N) (Y : FVec Ideal S4096x1024 .bf16) (hY : V m c main_v3 = Y) :
    iblk m c 1 t = ((cfg0.win 1).blk t).view.read (Elt Ideal) Y := by
  subst hY
  rfl

/-- The array the call leaves is the product of the two it takes. -/
theorem final (c : Dev nD) (X : FVec Ideal S4096x1024 .bf16) (Y : FVec Ideal S4096x1024 .bf16) (hX : V m c main_v1 = X) (hY : V m c main_v3 = Y) :
    (dats m 0 c).arrAt 2 cfg0.N = (mat (colCol X Y) : FVec Ideal S1024x1024 .f32) := by
  refine (dats m 0 c).arrAt_eq_of_covers 2 _ (by decide +kernel) fun t hf y => ?_
  blk_simp
  rw [after0_2]
  frame_out
  obtain ⟨r, l, rfl⟩ : ∃ (r : Fin 512) (l : Fin 1024), y = (ix2 r l : S512x1024.Idx) := ⟨_, _, ix_eta y⟩
  rw [payload]
  rw [read0 m c t X hX, read1 m c t Y hY]
  refine colCol_congr (fun k => ?_) (fun k => ?_) <;> blk_ext [index0 t, index1 t, index2 t]

end

section

open Cert.WOutDwReferenceIdeal Cert.WOutDwReferenceIdeal.Gen

/-- The reference's array. -/
theorem reference (x : FVec Ideal S2x2048x1024 .f32) (d : FVec Ideal S2x2048x1024 .f32) :
    (transpose S1024x1024 [1, 0] (Host.dotGeneral (F := Ideal) dot_S2x2048x1024_S2x2048x1024_S1024x1024_01_01_2_2_n_n none d x) transposes_S1024x1024_S1024x1024_1_0 : FVec Ideal S1024x1024 .f32)
      = mat (colCol (ins x) (cots d)) := by
  funext i
  obtain ⟨r, l, rfl⟩ : ∃ (r : Fin 1024) (l : Fin 1024), i = (ix2 r l : S1024x1024.Idx) := ⟨_, _, ix_eta i⟩
  unfold mat colCol
  rw [sum_rows 2 2048]
  unfold ins cots
  pointwise
  refine Finset.sum_congr rfl fun b _ => Finset.sum_congr rfl fun s _ => ?_
  rw [row_div, row_mod, mul_comm]

end

open Cert.WOutDwIdeal Cert.WOutDwIdeal.Gen

theorem frame : Cert.quiescent_WOutDw := fun m ρ _ => Cert.WOutDw.Gen.frame m ρ
theorem frame_ideal : Cert.quiescent_WOutDwIdeal := fun m ρ _ => Cert.WOutDwIdeal.Gen.frame m ρ
theorem frame_reference : Cert.quiescent_WOutDwReferenceIdeal := fun m ρ _ =>
  (θ_run Cert.WOutDwReferenceIdeal.defs _ _).mono (fun r h => ⟨fun c => (h c).2, sem_eq_zero_of_no_sems (by decide) r.2⟩)
    (Cert.WOutDwReferenceIdeal.Value.run (F := Ideal) m ρ)

/-- The call and the reference end with the same array. -/
theorem algebraic : Cert.algebraic_WOutDwIdeal_WOutDwReferenceIdeal := by
  intro m g m' g' _ hagree
  refine ⟨fun c : Dev nD => mat (colCol (ins (m ((c.tc : Thread nD τ).loc main_arg0))) (cots (m ((c.tc : Thread nD τ).loc main_arg2)))), ?_, ?_⟩
  · exact (θ_run Cert.WOutDwIdeal.defs _ _).mono
      (fun r h c => ⟨(h c).1.trans (final m c _ _ (entry_ins m c) (entry_cots m c)), (h c).2⟩) (Cert.WOutDwIdeal.Value.run_blocks m g)
  · refine (θ_run Cert.WOutDwReferenceIdeal.defs _ _).mono (fun r h c => ⟨(h c).1.trans ?_, (h c).2⟩) (Cert.WOutDwReferenceIdeal.Value.run m' g')
    rw [(hagree c).1, (hagree c).2.2]
    exact reference _ _

end Cert.Proof.WOutDw

end
-- ==== Proof.GlaOutDx.lean ====
/- The call `gla_out_dx`: the gradient of the product that leaves the recurrence's branch with respect to its input. -/
module

public import proofs.«01_k».proof.Defs
public import proofs.«01_k».proof.Proof.Products
public import proofs.«01_k».proof.Proof.Gen.GlaOutDxIdeal.Value
public import proofs.«01_k».proof.Proof.Gen.GlaOutDxReferenceIdeal.Run
public import proofs.«01_k».proof.Proof.Gen.GlaOutDx.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.GlaOutDx

open Idealize.ShloMosaic Idealize.ShloMosaic.TcCoe Idealize.SL.Sem Products

section

open Cert.GlaOutDxIdeal Cert.GlaOutDxIdeal.Gen

variable (m : (ℓ : Loc nD τ sig) → Buf (Elt Ideal) ℓ)

/-- The cotangent's rows. -/
def cots (x : FVec Ideal S2x2048x1024 .f32) : FVec Ideal S4096x1024 .bf16 :=
  truncf .bf16 (shapeCast S4096x1024 x shapeCasts_S2x2048x1024_S4096x1024) bitsLt_bf16_f32

theorem entry_cots (c : Dev nD) : V m c main_v1 = cots (m ((c : Thread nD τ).loc main_arg2)) := by
  unfold V
  after_reads_simp
  rfl

/-- The weights. -/
def weights (x : FVec Ideal S1024x1024 .f32) : FVec Ideal S1024x1024 .bf16 :=
  truncf .bf16 x bitsLt_bf16_f32

theorem entry_weights (c : Dev nD) : V m c main_v2 = weights (m ((c : Thread nD τ).loc main_arg1)) := by
  unfold V
  after_reads_simp
  rfl

theorem index0 : ∀ t : Fin cfg0.N, win0_0.index t = ![(grid0.coords t 0).val, 0] := by decide +kernel
theorem index1 : ∀ t : Fin cfg0.N, win0_1.index t = ![(grid0.coords t 1).val, 0] := by decide +kernel
theorem index2 : ∀ t : Fin cfg0.N, win0_2.index t = ![(grid0.coords t 0).val, (grid0.coords t 1).val] := by decide +kernel

theorem payload (x : Vec Ideal S1024x1024 .bf16) (y : Vec Ideal S1024x1024 .bf16) (r : Fin 1024) (l : Fin 1024) :
    k0_pay1 x y (ix2 r l) = rowRow (M := 1024) (N := 1024) (K := 1024) x y r l := by
  unfold k0_pay1 rowRow
  pointwise

/-- What a grid point reads of the left matrix, whatever that matrix is. -/
theorem read0 (c : Dev nD) (t : Fin cfg0.N) (X : FVec Ideal S4096x1024 .bf16) (hX : V m c main_v1 = X) :
    iblk m c 0 t = ((cfg0.win 0).blk t).view.read (Elt Ideal) X := by
  subst hX
  rfl

/-- What a grid point reads of the right matrix. -/
theorem read1 (c : Dev nD) (t : Fin cfg0.N) (Y : FVec Ideal S1024x1024 .bf16) (hY : V m c main_v2 = Y) :
    iblk m c 1 t = ((cfg0.win 1).blk t).view.read (Elt Ideal) Y := by
  subst hY
  rfl

/-- The array the call leaves is the product of the two it takes. -/
theorem final (c : Dev nD) (X : FVec Ideal S4096x1024 .bf16) (Y : FVec Ideal S1024x1024 .bf16) (hX : V m c main_v1 = X) (hY : V m c main_v2 = Y) :
    (dats m 0 c).arrAt 2 cfg0.N = (mat (rowRow X Y) : FVec Ideal S4096x1024 .f32) := by
  refine (dats m 0 c).arrAt_eq_of_covers 2 _ (by decide +kernel) fun t hf y => ?_
  blk_simp
  rw [after0_2]
  frame_out
  obtain ⟨r, l, rfl⟩ : ∃ (r : Fin 1024) (l : Fin 1024), y = (ix2 r l : S1024x1024.Idx) := ⟨_, _, ix_eta y⟩
  rw [payload]
  rw [read0 m c t X hX, read1 m c t Y hY]
  refine rowRow_congr (fun k => ?_) (fun k => ?_) <;> blk_ext [index0 t, index1 t, index2 t]

end

section

open Cert.GlaOutDxReferenceIdeal Cert.GlaOutDxReferenceIdeal.Gen

/-- The reference's array. -/
theorem reference (w : FVec Ideal S1024x1024 .f32) (d : FVec Ideal S2x2048x1024 .f32) :
    (shapeCast _ (Host.dotGeneral (F := Ideal) dot_S2x2048x1024_S1024x1024_S2x2048x1024_2_1_01_0_n_n none d w) shapeCasts_S2x2048x1024_S4096x1024 : FVec Ideal S4096x1024 .f32)
      = mat (rowRow (cots d) (weights w)) := by
  funext i
  obtain ⟨r, l, rfl⟩ : ∃ (r : Fin 4096) (l : Fin 1024), i = (ix2 r l : S4096x1024.Idx) := ⟨_, _, ix_eta i⟩
  unfold mat rowRow
  unfold cots weights
  pointwise

end

open Cert.GlaOutDxIdeal Cert.GlaOutDxIdeal.Gen

theorem frame : Cert.quiescent_GlaOutDx := fun m ρ _ => Cert.GlaOutDx.Gen.frame m ρ
theorem frame_ideal : Cert.quiescent_GlaOutDxIdeal := fun m ρ _ => Cert.GlaOutDxIdeal.Gen.frame m ρ
theorem frame_reference : Cert.quiescent_GlaOutDxReferenceIdeal := fun m ρ _ =>
  (θ_run Cert.GlaOutDxReferenceIdeal.defs _ _).mono (fun r h => ⟨fun c => (h c).2, sem_eq_zero_of_no_sems (by decide) r.2⟩)
    (Cert.GlaOutDxReferenceIdeal.Value.run (F := Ideal) m ρ)

/-- The call and the reference end with the same array. -/
theorem algebraic : Cert.algebraic_GlaOutDxIdeal_GlaOutDxReferenceIdeal := by
  intro m g m' g' _ hagree
  refine ⟨fun c : Dev nD => mat (rowRow (cots (m ((c.tc : Thread nD τ).loc main_arg2))) (weights (m ((c.tc : Thread nD τ).loc main_arg1)))), ?_, ?_⟩
  · exact (θ_run Cert.GlaOutDxIdeal.defs _ _).mono
      (fun r h c => ⟨(h c).1.trans (final m c _ _ (entry_cots m c) (entry_weights m c)), (h c).2⟩) (Cert.GlaOutDxIdeal.Value.run_blocks m g)
  · refine (θ_run Cert.GlaOutDxReferenceIdeal.defs _ _).mono (fun r h c => ⟨(h c).1.trans ?_, (h c).2⟩) (Cert.GlaOutDxReferenceIdeal.Value.run m' g')
    rw [(hagree c).2.1, (hagree c).2.2]
    exact reference _ _

end Cert.Proof.GlaOutDx

end
-- ==== Proof.GlaOutDw.lean ====
/- The call `gla_out_dw`: the gradient of the product that leaves the recurrence's branch with respect to its weights. -/
module

public import proofs.«01_k».proof.Defs
public import proofs.«01_k».proof.Proof.Products
public import proofs.«01_k».proof.Proof.Gen.GlaOutDwIdeal.Value
public import proofs.«01_k».proof.Proof.Gen.GlaOutDwReferenceIdeal.Run
public import proofs.«01_k».proof.Proof.Gen.GlaOutDw.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.GlaOutDw

open Idealize.ShloMosaic Idealize.ShloMosaic.TcCoe Idealize.SL.Sem Products

section

open Cert.GlaOutDwIdeal Cert.GlaOutDwIdeal.Gen

variable (m : (ℓ : Loc nD τ sig) → Buf (Elt Ideal) ℓ)

/-- The input's rows. -/
def ins (x : FVec Ideal S2x2048x1024 .f32) : FVec Ideal S4096x1024 .bf16 :=
  truncf .bf16 (shapeCast S4096x1024 x shapeCasts_S2x2048x1024_S4096x1024) bitsLt_bf16_f32

theorem entry_ins (c : Dev nD) : V m c main_v1 = ins (m ((c : Thread nD τ).loc main_arg0)) := by
  unfold V
  after_reads_simp
  rfl

/-- The cotangent's rows. -/
def cots (x : FVec Ideal S2x2048x1024 .f32) : FVec Ideal S4096x1024 .bf16 :=
  truncf .bf16 (shapeCast S4096x1024 x shapeCasts_S2x2048x1024_S4096x1024) bitsLt_bf16_f32

theorem entry_cots (c : Dev nD) : V m c main_v3 = cots (m ((c : Thread nD τ).loc main_arg2)) := by
  unfold V
  after_reads_simp
  rfl

theorem index0 : ∀ t : Fin cfg0.N, win0_0.index t = ![0, (grid0.coords t 0).val] := by decide +kernel
theorem index1 : ∀ t : Fin cfg0.N, win0_1.index t = ![0, (grid0.coords t 1).val] := by decide +kernel
theorem index2 : ∀ t : Fin cfg0.N, win0_2.index t = ![(grid0.coords t 0).val, (grid0.coords t 1).val] := by decide +kernel

theorem payload (x : Vec Ideal S4096x512 .bf16) (y : Vec Ideal S4096x1024 .bf16) (r : Fin 512) (l : Fin 1024) :
    k0_pay1 x y (ix2 r l) = colCol (M := 512) (N := 1024) (K := 4096) x y r l := by
  unfold k0_pay1 colCol
  pointwise

/-- What a grid point reads of the left matrix, whatever that matrix is. -/
theorem read0 (c : Dev nD) (t : Fin cfg0.N) (X : FVec Ideal S4096x1024 .bf16) (hX : V m c main_v1 = X) :
    iblk m c 0 t = ((cfg0.win 0).blk t).view.read (Elt Ideal) X := by
  subst hX
  rfl

/-- What a grid point reads of the right matrix. -/
theorem read1 (c : Dev nD) (t : Fin cfg0.N) (Y : FVec Ideal S4096x1024 .bf16) (hY : V m c main_v3 = Y) :
    iblk m c 1 t = ((cfg0.win 1).blk t).view.read (Elt Ideal) Y := by
  subst hY
  rfl

/-- The array the call leaves is the product of the two it takes. -/
theorem final (c : Dev nD) (X : FVec Ideal S4096x1024 .bf16) (Y : FVec Ideal S4096x1024 .bf16) (hX : V m c main_v1 = X) (hY : V m c main_v3 = Y) :
    (dats m 0 c).arrAt 2 cfg0.N = (mat (colCol X Y) : FVec Ideal S1024x1024 .f32) := by
  refine (dats m 0 c).arrAt_eq_of_covers 2 _ (by decide +kernel) fun t hf y => ?_
  blk_simp
  rw [after0_2]
  frame_out
  obtain ⟨r, l, rfl⟩ : ∃ (r : Fin 512) (l : Fin 1024), y = (ix2 r l : S512x1024.Idx) := ⟨_, _, ix_eta y⟩
  rw [payload]
  rw [read0 m c t X hX, read1 m c t Y hY]
  refine colCol_congr (fun k => ?_) (fun k => ?_) <;> blk_ext [index0 t, index1 t, index2 t]

end

section

open Cert.GlaOutDwReferenceIdeal Cert.GlaOutDwReferenceIdeal.Gen

/-- The reference's array. -/
theorem reference (x : FVec Ideal S2x2048x1024 .f32) (d : FVec Ideal S2x2048x1024 .f32) :
    (transpose S1024x1024 [1, 0] (Host.dotGeneral (F := Ideal) dot_S2x2048x1024_S2x2048x1024_S1024x1024_01_01_2_2_n_n none d x) transposes_S1024x1024_S1024x1024_1_0 : FVec Ideal S1024x1024 .f32)
      = mat (colCol (ins x) (cots d)) := by
  funext i
  obtain ⟨r, l, rfl⟩ : ∃ (r : Fin 1024) (l : Fin 1024), i = (ix2 r l : S1024x1024.Idx) := ⟨_, _, ix_eta i⟩
  unfold mat colCol
  rw [sum_rows 2 2048]
  unfold ins cots
  pointwise
  refine Finset.sum_congr rfl fun b _ => Finset.sum_congr rfl fun s _ => ?_
  rw [row_div, row_mod, mul_comm]

end

open Cert.GlaOutDwIdeal Cert.GlaOutDwIdeal.Gen

theorem frame : Cert.quiescent_GlaOutDw := fun m ρ _ => Cert.GlaOutDw.Gen.frame m ρ
theorem frame_ideal : Cert.quiescent_GlaOutDwIdeal := fun m ρ _ => Cert.GlaOutDwIdeal.Gen.frame m ρ
theorem frame_reference : Cert.quiescent_GlaOutDwReferenceIdeal := fun m ρ _ =>
  (θ_run Cert.GlaOutDwReferenceIdeal.defs _ _).mono (fun r h => ⟨fun c => (h c).2, sem_eq_zero_of_no_sems (by decide) r.2⟩)
    (Cert.GlaOutDwReferenceIdeal.Value.run (F := Ideal) m ρ)

/-- The call and the reference end with the same array. -/
theorem algebraic : Cert.algebraic_GlaOutDwIdeal_GlaOutDwReferenceIdeal := by
  intro m g m' g' _ hagree
  refine ⟨fun c : Dev nD => mat (colCol (ins (m ((c.tc : Thread nD τ).loc main_arg0))) (cots (m ((c.tc : Thread nD τ).loc main_arg2)))), ?_, ?_⟩
  · exact (θ_run Cert.GlaOutDwIdeal.defs _ _).mono
      (fun r h c => ⟨(h c).1.trans (final m c _ _ (entry_ins m c) (entry_cots m c)), (h c).2⟩) (Cert.GlaOutDwIdeal.Value.run_blocks m g)
  · refine (θ_run Cert.GlaOutDwReferenceIdeal.defs _ _).mono (fun r h c => ⟨(h c).1.trans ?_, (h c).2⟩) (Cert.GlaOutDwReferenceIdeal.Value.run m' g')
    rw [(hagree c).1, (hagree c).2.2]
    exact reference _ _

end Cert.Proof.GlaOutDw

end
-- ==== Proof.MlaOutDx.lean ====
/- The call `mla_out_dx`: the gradient of the product that leaves the attention's branch with respect to its input. -/
module

public import proofs.«01_k».proof.Defs
public import proofs.«01_k».proof.Proof.Products
public import proofs.«01_k».proof.Proof.Gen.MlaOutDxIdeal.Value
public import proofs.«01_k».proof.Proof.Gen.MlaOutDxReferenceIdeal.Run
public import proofs.«01_k».proof.Proof.Gen.MlaOutDx.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.MlaOutDx

open Idealize.ShloMosaic Idealize.ShloMosaic.TcCoe Idealize.SL.Sem Products

section

open Cert.MlaOutDxIdeal Cert.MlaOutDxIdeal.Gen

variable (m : (ℓ : Loc nD τ sig) → Buf (Elt Ideal) ℓ)

/-- The cotangent's rows. -/
def cots (x : FVec Ideal S2x2048x1024 .f32) : FVec Ideal S4096x1024 .bf16 :=
  truncf .bf16 (shapeCast S4096x1024 x shapeCasts_S2x2048x1024_S4096x1024) bitsLt_bf16_f32

theorem entry_cots (c : Dev nD) : V m c main_v1 = cots (m ((c : Thread nD τ).loc main_arg2)) := by
  unfold V
  after_reads_simp
  rfl

/-- The weights. -/
def weights (x : FVec Ideal S1024x1024 .f32) : FVec Ideal S2048x1024 .bf16 :=
  truncf .bf16 (shapeCast S2048x1024 (pad S16x128x1024 ![0, 0, 0] ![0, 64, 0] ![0, 0, 0] (shapeCast S16x64x1024 x shapeCasts_S1024x1024_S16x64x1024) (sitofp .f32 (constantI S_ 32 0#32))
    pads_S16x64x1024_S16x128x1024_000_0640_000 h_S_) shapeCasts_S16x128x1024_S2048x1024) bitsLt_bf16_f32

theorem entry_weights (c : Dev nD) : V m c main_v5 = weights (m ((c : Thread nD τ).loc main_arg1)) := by
  unfold V
  after_reads_simp
  simp only [StableHlo.TRef.toBuf, StableHlo.TRef.ofBuf, cast_eq]
  rfl

theorem index0 : ∀ t : Fin cfg0.N, win0_0.index t = ![(grid0.coords t 0).val, 0] := by decide +kernel
theorem index1 : ∀ t : Fin cfg0.N, win0_1.index t = ![(grid0.coords t 1).val, 0] := by decide +kernel
theorem index2 : ∀ t : Fin cfg0.N, win0_2.index t = ![(grid0.coords t 0).val, (grid0.coords t 1).val] := by decide +kernel

theorem payload (x : Vec Ideal S1024x1024 .bf16) (y : Vec Ideal S1024x1024 .bf16) (r : Fin 1024) (l : Fin 1024) :
    k0_pay1 x y (ix2 r l) = rowRow (M := 1024) (N := 1024) (K := 1024) x y r l := by
  unfold k0_pay1 rowRow
  pointwise

/-- What a grid point reads of the left matrix, whatever that matrix is. -/
theorem read0 (c : Dev nD) (t : Fin cfg0.N) (X : FVec Ideal S4096x1024 .bf16) (hX : V m c main_v1 = X) :
    iblk m c 0 t = ((cfg0.win 0).blk t).view.read (Elt Ideal) X := by
  subst hX
  rfl

/-- What a grid point reads of the right matrix. -/
theorem read1 (c : Dev nD) (t : Fin cfg0.N) (Y : FVec Ideal S2048x1024 .bf16) (hY : V m c main_v5 = Y) :
    iblk m c 1 t = ((cfg0.win 1).blk t).view.read (Elt Ideal) Y := by
  subst hY
  rfl

/-- The array the call leaves is the product of the two it takes. -/
theorem final (c : Dev nD) (X : FVec Ideal S4096x1024 .bf16) (Y : FVec Ideal S2048x1024 .bf16) (hX : V m c main_v1 = X) (hY : V m c main_v5 = Y) :
    (dats m 0 c).arrAt 2 cfg0.N = (mat (rowRow X Y) : FVec Ideal S4096x2048 .bf16) := by
  refine (dats m 0 c).arrAt_eq_of_covers 2 _ (by decide +kernel) fun t hf y => ?_
  blk_simp
  rw [after0_2]
  frame_out
  obtain ⟨r, l, rfl⟩ : ∃ (r : Fin 1024) (l : Fin 1024), y = (ix2 r l : S1024x1024.Idx) := ⟨_, _, ix_eta y⟩
  rw [payload]
  rw [read0 m c t X hX, read1 m c t Y hY]
  refine rowRow_congr (fun k => ?_) (fun k => ?_) <;> blk_ext [index0 t, index1 t, index2 t]

end

section

open Cert.MlaOutDxReferenceIdeal Cert.MlaOutDxReferenceIdeal.Gen

/-- The reference's array. -/
theorem reference (w : FVec Ideal S1024x1024 .f32) (d : FVec Ideal S2x2048x1024 .f32) :
    (truncf .bf16 (shapeCast _ (pad S2x2048x16x128 ![0, 0, 0, 0] ![0, 0, 0, 64] ![0, 0, 0, 0] (shapeCast _ (Host.dotGeneral (F := Ideal) dot_S2x2048x1024_S1024x1024_S2x2048x1024_2_1_01_0_n_n none d w) shapeCasts_S2x2048x1024_S2x2048x16x64) (sitofp (F := Ideal) .f32 (constantI S_ 32 0#32)) pads_S2x2048x16x64_S2x2048x16x128_000_000_000_0640 h_S_) shapeCasts_S2x2048x16x128_S4096x2048) bitsLt_bf16_f32 : FVec Ideal S4096x2048 .bf16)
      = mat (rowRow (cots d) (weights w)) := by
  funext i
  obtain ⟨r, l, rfl⟩ : ∃ (r : Fin 4096) (l : Fin 2048), i = (ix2 r l : S4096x2048.Idx) := ⟨_, _, ix_eta i⟩
  unfold mat rowRow
  unfold cots weights
  pointwise
  by_cases h : l.val % 128 < 64
  · refine (dif_pos ⟨by omega, by omega, by omega, h⟩).trans ?_
    refine Finset.sum_congr rfl fun k _ => ?_
    rw [dif_pos ⟨by omega, h⟩]
  · refine (dif_neg (fun q => h q.2.2.2)).trans (pad_value.trans ?_)
    symm
    refine Finset.sum_eq_zero fun k _ => ?_
    rw [dif_neg (fun q => h q.2), pad_value, mul_zero]

end

open Cert.MlaOutDxIdeal Cert.MlaOutDxIdeal.Gen

theorem frame : Cert.quiescent_MlaOutDx := fun m ρ _ => Cert.MlaOutDx.Gen.frame m ρ
theorem frame_ideal : Cert.quiescent_MlaOutDxIdeal := fun m ρ _ => Cert.MlaOutDxIdeal.Gen.frame m ρ
theorem frame_reference : Cert.quiescent_MlaOutDxReferenceIdeal := fun m ρ _ =>
  (θ_run Cert.MlaOutDxReferenceIdeal.defs _ _).mono (fun r h => ⟨fun c => (h c).2, sem_eq_zero_of_no_sems (by decide) r.2⟩)
    (Cert.MlaOutDxReferenceIdeal.Value.run (F := Ideal) m ρ)

/-- The call and the reference end with the same array. -/
theorem algebraic : Cert.algebraic_MlaOutDxIdeal_MlaOutDxReferenceIdeal := by
  intro m g m' g' _ hagree
  refine ⟨fun c : Dev nD => mat (rowRow (cots (m ((c.tc : Thread nD τ).loc main_arg2))) (weights (m ((c.tc : Thread nD τ).loc main_arg1)))), ?_, ?_⟩
  · exact (θ_run Cert.MlaOutDxIdeal.defs _ _).mono
      (fun r h c => ⟨(h c).1.trans (final m c _ _ (entry_cots m c) (entry_weights m c)), (h c).2⟩) (Cert.MlaOutDxIdeal.Value.run_blocks m g)
  · refine (θ_run Cert.MlaOutDxReferenceIdeal.defs _ _).mono (fun r h c => ⟨(h c).1.trans ?_, (h c).2⟩) (Cert.MlaOutDxReferenceIdeal.Value.run m' g')
    rw [(hagree c).2.1, (hagree c).2.2]
    exact reference _ _

end Cert.Proof.MlaOutDx

end
-- ==== Proof.MlaOutDw.lean ====
/- The call `mla_out_dw`: the gradient of the product that leaves the attention's branch with respect to its weights. -/
module

public import proofs.«01_k».proof.Defs
public import proofs.«01_k».proof.Proof.Products
public import proofs.«01_k».proof.Proof.Gen.MlaOutDwIdeal.Value
public import proofs.«01_k».proof.Proof.Gen.MlaOutDwReferenceIdeal.Run
public import proofs.«01_k».proof.Proof.Gen.MlaOutDw.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.MlaOutDw

open Idealize.ShloMosaic Idealize.ShloMosaic.TcCoe Idealize.SL.Sem Products

section

open Cert.MlaOutDwIdeal Cert.MlaOutDwIdeal.Gen

variable (m : (ℓ : Loc nD τ sig) → Buf (Elt Ideal) ℓ)

/-- The input's rows. -/
def ins (x : FVec Ideal S2x2048x16x64 .f32) : FVec Ideal S4096x2048 .bf16 :=
  truncf .bf16 (shapeCast S4096x2048 (shapeCast S2x2048x2048 (pad S2x2048x16x128 ![0, 0, 0, 0] ![0, 0, 0, 64] ![0, 0, 0, 0] x (sitofp .f32 (constantI S_ 32 0#32))
    pads_S2x2048x16x64_S2x2048x16x128_000_000_000_0640 h_S_) shapeCasts_S2x2048x16x128_S2x2048x2048) shapeCasts_S2x2048x2048_S4096x2048) bitsLt_bf16_f32

theorem entry_ins (c : Dev nD) : V m c main_v3 = ins (m ((c : Thread nD τ).loc main_arg0)) := by
  unfold V
  after_reads_simp
  simp only [StableHlo.TRef.toBuf, StableHlo.TRef.ofBuf, cast_eq]
  rfl

/-- The cotangent's rows. -/
def cots (x : FVec Ideal S2x2048x1024 .f32) : FVec Ideal S4096x1024 .bf16 :=
  truncf .bf16 (shapeCast S4096x1024 x shapeCasts_S2x2048x1024_S4096x1024) bitsLt_bf16_f32

theorem entry_cots (c : Dev nD) : V m c main_v5 = cots (m ((c : Thread nD τ).loc main_arg2)) := by
  unfold V
  after_reads_simp
  rfl

theorem index0 : ∀ t : Fin cfg0.N, win0_0.index t = ![0, (grid0.coords t 0).val] := by decide +kernel
theorem index1 : ∀ t : Fin cfg0.N, win0_1.index t = ![0, (grid0.coords t 1).val] := by decide +kernel
theorem index2 : ∀ t : Fin cfg0.N, win0_2.index t = ![(grid0.coords t 0).val, (grid0.coords t 1).val] := by decide +kernel

theorem payload (x : Vec Ideal S4096x512 .bf16) (y : Vec Ideal S4096x1024 .bf16) (r : Fin 512) (l : Fin 1024) :
    k0_pay1 x y (ix2 r l) = colCol (M := 512) (N := 1024) (K := 4096) x y r l := by
  unfold k0_pay1 colCol
  pointwise

/-- What a grid point reads of the left matrix, whatever that matrix is. -/
theorem read0 (c : Dev nD) (t : Fin cfg0.N) (X : FVec Ideal S4096x2048 .bf16) (hX : V m c main_v3 = X) :
    iblk m c 0 t = ((cfg0.win 0).blk t).view.read (Elt Ideal) X := by
  subst hX
  rfl

/-- What a grid point reads of the right matrix. -/
theorem read1 (c : Dev nD) (t : Fin cfg0.N) (Y : FVec Ideal S4096x1024 .bf16) (hY : V m c main_v5 = Y) :
    iblk m c 1 t = ((cfg0.win 1).blk t).view.read (Elt Ideal) Y := by
  subst hY
  rfl

/-- The array the call leaves is the product of the two it takes. -/
theorem final (c : Dev nD) (X : FVec Ideal S4096x2048 .bf16) (Y : FVec Ideal S4096x1024 .bf16) (hX : V m c main_v3 = X) (hY : V m c main_v5 = Y) :
    (dats m 0 c).arrAt 2 cfg0.N = (mat (colCol X Y) : FVec Ideal S2048x1024 .f32) := by
  refine (dats m 0 c).arrAt_eq_of_covers 2 _ (by decide +kernel) fun t hf y => ?_
  blk_simp
  rw [after0_2]
  frame_out
  obtain ⟨r, l, rfl⟩ : ∃ (r : Fin 512) (l : Fin 1024), y = (ix2 r l : S512x1024.Idx) := ⟨_, _, ix_eta y⟩
  rw [payload]
  rw [read0 m c t X hX, read1 m c t Y hY]
  refine colCol_congr (fun k => ?_) (fun k => ?_) <;> blk_ext [index0 t, index1 t, index2 t]

end

section

open Cert.MlaOutDwReferenceIdeal Cert.MlaOutDwReferenceIdeal.Gen

/-- The reference's array. -/
theorem reference (x : FVec Ideal S2x2048x16x64 .f32) (d : FVec Ideal S2x2048x1024 .f32) :
    (shapeCast _ (pad S16x128x1024 ![0, 0, 0] ![0, 64, 0] ![0, 0, 0] (shapeCast _ (transpose S1024x1024 [1, 0] (Host.dotGeneral (F := Ideal) dot_S2x2048x1024_S2x2048x1024_S1024x1024_01_01_2_2_n_n none d (shapeCast _ x shapeCasts_S2x2048x16x64_S2x2048x1024)) transposes_S1024x1024_S1024x1024_1_0) shapeCasts_S1024x1024_S16x64x1024) (sitofp (F := Ideal) .f32 (constantI S_ 32 0#32)) pads_S16x64x1024_S16x128x1024_000_0640_000 h_S_) shapeCasts_S16x128x1024_S2048x1024 : FVec Ideal S2048x1024 .f32)
      = mat (colCol (ins x) (cots d)) := by
  funext i
  obtain ⟨r, l, rfl⟩ : ∃ (r : Fin 2048) (l : Fin 1024), i = (ix2 r l : S2048x1024.Idx) := ⟨_, _, ix_eta i⟩
  unfold mat colCol
  unfold ins cots
  pointwise
  by_cases h : r.val % 128 < 64
  · refine (dif_pos ⟨by omega, h⟩).trans ?_
    refine (sum_batch 2 2048 rfl _ _ fun q b s e f => ?_).symm
    have u : (r.val / 128 * 64 + r.val % 128) / 64 = r.val / 128 := by omega
    have v : (r.val / 128 * 64 + r.val % 128) % 64 = r.val % 128 := by omega
    rw [dif_pos ⟨by omega, by omega, by omega, h⟩]
    simp only [e, f, u, v]
    exact mul_comm _ _
  · refine (dif_neg (fun q => h q.2)).trans (pad_value.trans ?_)
    symm
    refine Finset.sum_eq_zero fun q _ => ?_
    rw [dif_neg (fun z => h z.2.2.2), pad_value, zero_mul]

end

open Cert.MlaOutDwIdeal Cert.MlaOutDwIdeal.Gen

theorem frame : Cert.quiescent_MlaOutDw := fun m ρ _ => Cert.MlaOutDw.Gen.frame m ρ
theorem frame_ideal : Cert.quiescent_MlaOutDwIdeal := fun m ρ _ => Cert.MlaOutDwIdeal.Gen.frame m ρ
theorem frame_reference : Cert.quiescent_MlaOutDwReferenceIdeal := fun m ρ _ =>
  (θ_run Cert.MlaOutDwReferenceIdeal.defs _ _).mono (fun r h => ⟨fun c => (h c).2, sem_eq_zero_of_no_sems (by decide) r.2⟩)
    (Cert.MlaOutDwReferenceIdeal.Value.run (F := Ideal) m ρ)

/-- The call and the reference end with the same array. -/
theorem algebraic : Cert.algebraic_MlaOutDwIdeal_MlaOutDwReferenceIdeal := by
  intro m g m' g' _ hagree
  refine ⟨fun c : Dev nD => mat (colCol (ins (m ((c.tc : Thread nD τ).loc main_arg0))) (cots (m ((c.tc : Thread nD τ).loc main_arg2)))), ?_, ?_⟩
  · exact (θ_run Cert.MlaOutDwIdeal.defs _ _).mono
      (fun r h c => ⟨(h c).1.trans (final m c _ _ (entry_ins m c) (entry_cots m c)), (h c).2⟩) (Cert.MlaOutDwIdeal.Value.run_blocks m g)
  · refine (θ_run Cert.MlaOutDwReferenceIdeal.defs _ _).mono (fun r h c => ⟨(h c).1.trans ?_, (h c).2⟩) (Cert.MlaOutDwReferenceIdeal.Value.run m' g')
    rw [(hagree c).1, (hagree c).2.2]
    exact reference _ _

end Cert.Proof.MlaOutDw

end
-- ==== Proof.MlaUqDx.lean ====
/- The call `mla_uq_dx`: the gradient of the product that makes the queries with respect to its input. -/
module

public import proofs.«01_k».proof.Defs
public import proofs.«01_k».proof.Proof.Products
public import proofs.«01_k».proof.Proof.Gen.MlaUqDxIdeal.Value
public import proofs.«01_k».proof.Proof.Gen.MlaUqDxReferenceIdeal.Run
public import proofs.«01_k».proof.Proof.Gen.MlaUqDx.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.MlaUqDx

open Idealize.ShloMosaic Idealize.ShloMosaic.TcCoe Idealize.SL.Sem Products

section

open Cert.MlaUqDxIdeal Cert.MlaUqDxIdeal.Gen

variable (m : (ℓ : Loc nD τ sig) → Buf (Elt Ideal) ℓ)

/-- The cotangent's rows. -/
def cots (x : FVec Ideal S2x2048x16x96 .f32) : FVec Ideal S4096x2048 .bf16 :=
  truncf .bf16 (shapeCast S4096x2048 (shapeCast S2x2048x2048 (pad S2x2048x16x128 ![0, 0, 0, 0] ![0, 0, 0, 32] ![0, 0, 0, 0] x (sitofp .f32 (constantI S_ 32 0#32))
    pads_S2x2048x16x96_S2x2048x16x128_000_000_000_0320 h_S_) shapeCasts_S2x2048x16x128_S2x2048x2048) shapeCasts_S2x2048x2048_S4096x2048) bitsLt_bf16_f32

theorem entry_cots (c : Dev nD) : V m c main_v3 = cots (m ((c : Thread nD τ).loc main_arg2)) := by
  unfold V
  after_reads_simp
  simp only [StableHlo.TRef.toBuf, StableHlo.TRef.ofBuf, cast_eq]
  rfl

/-- The weights. -/
def weights (x : FVec Ideal S256x1536 .f32) : FVec Ideal S256x2048 .bf16 :=
  truncf .bf16 (shapeCast S256x2048 (pad S256x16x128 ![0, 0, 0] ![0, 0, 32] ![0, 0, 0] (shapeCast S256x16x96 x shapeCasts_S256x1536_S256x16x96) (sitofp .f32 (constantI S_ 32 0#32))
    pads_S256x16x96_S256x16x128_000_000_0320 h_S_) shapeCasts_S256x16x128_S256x2048) bitsLt_bf16_f32

theorem entry_weights (c : Dev nD) : V m c main_v7 = weights (m ((c : Thread nD τ).loc main_arg1)) := by
  unfold V
  after_reads_simp
  simp only [StableHlo.TRef.toBuf, StableHlo.TRef.ofBuf, cast_eq]
  rfl

theorem index0 : ∀ t : Fin cfg0.N, win0_0.index t = ![(grid0.coords t 0).val, 0] := by decide +kernel
theorem index1 : ∀ t : Fin cfg0.N, win0_1.index t = ![(grid0.coords t 1).val, 0] := by decide +kernel
theorem index2 : ∀ t : Fin cfg0.N, win0_2.index t = ![(grid0.coords t 0).val, (grid0.coords t 1).val] := by decide +kernel

theorem payload (x : Vec Ideal S1024x2048 .bf16) (y : Vec Ideal S256x2048 .bf16) (r : Fin 1024) (l : Fin 256) :
    k0_pay1 x y (ix2 r l) = rowRow (M := 1024) (N := 256) (K := 2048) x y r l := by
  unfold k0_pay1 rowRow
  pointwise

/-- What a grid point reads of the left matrix, whatever that matrix is. -/
theorem read0 (c : Dev nD) (t : Fin cfg0.N) (X : FVec Ideal S4096x2048 .bf16) (hX : V m c main_v3 = X) :
    iblk m c 0 t = ((cfg0.win 0).blk t).view.read (Elt Ideal) X := by
  subst hX
  rfl

/-- What a grid point reads of the right matrix. -/
theorem read1 (c : Dev nD) (t : Fin cfg0.N) (Y : FVec Ideal S256x2048 .bf16) (hY : V m c main_v7 = Y) :
    iblk m c 1 t = ((cfg0.win 1).blk t).view.read (Elt Ideal) Y := by
  subst hY
  rfl

/-- The array the call leaves is the product of the two it takes. -/
theorem final (c : Dev nD) (X : FVec Ideal S4096x2048 .bf16) (Y : FVec Ideal S256x2048 .bf16) (hX : V m c main_v3 = X) (hY : V m c main_v7 = Y) :
    (dats m 0 c).arrAt 2 cfg0.N = (mat (rowRow X Y) : FVec Ideal S4096x256 .f32) := by
  refine (dats m 0 c).arrAt_eq_of_covers 2 _ (by decide +kernel) fun t hf y => ?_
  blk_simp
  rw [after0_2]
  frame_out
  obtain ⟨r, l, rfl⟩ : ∃ (r : Fin 1024) (l : Fin 256), y = (ix2 r l : S1024x256.Idx) := ⟨_, _, ix_eta y⟩
  rw [payload]
  rw [read0 m c t X hX, read1 m c t Y hY]
  refine rowRow_congr (fun k => ?_) (fun k => ?_) <;> blk_ext [index0 t, index1 t, index2 t]

end

section

open Cert.MlaUqDxReferenceIdeal Cert.MlaUqDxReferenceIdeal.Gen

/-- The reference's array. -/
theorem reference (w : FVec Ideal S256x1536 .f32) (d : FVec Ideal S2x2048x16x96 .f32) :
    (shapeCast _ (Host.dotGeneral (F := Ideal) dot_S2x2048x1536_S256x1536_S2x2048x256_2_1_01_0_n_n none (shapeCast _ d shapeCasts_S2x2048x16x96_S2x2048x1536) w) shapeCasts_S2x2048x256_S4096x256 : FVec Ideal S4096x256 .f32)
      = mat (rowRow (cots d) (weights w)) := by
  funext i
  obtain ⟨r, l, rfl⟩ : ∃ (r : Fin 4096) (l : Fin 256), i = (ix2 r l : S4096x256.Idx) := ⟨_, _, ix_eta i⟩
  unfold mat rowRow
  unfold cots weights
  pointwise
  refine (sum_padded 16 96 128 (by omega) _ _ (fun x y h hd hm => ?_) (fun x h => ?_)).symm
  · rw [dif_pos ⟨by omega, by omega, by omega, h⟩, dif_pos ⟨by omega, h⟩]
    simp only [hd, hm]
    refine congrArg₂ _ rfl (congrArg w (congrArg (fun q => ix2 l q) (Fin.ext ?_)))
    show x.val / 128 * 96 + x.val % 128 = y.val
    omega
  · rw [dif_neg (fun q => h q.2.2.2), pad_value, zero_mul]

end

open Cert.MlaUqDxIdeal Cert.MlaUqDxIdeal.Gen

theorem frame : Cert.quiescent_MlaUqDx := fun m ρ _ => Cert.MlaUqDx.Gen.frame m ρ
theorem frame_ideal : Cert.quiescent_MlaUqDxIdeal := fun m ρ _ => Cert.MlaUqDxIdeal.Gen.frame m ρ
theorem frame_reference : Cert.quiescent_MlaUqDxReferenceIdeal := fun m ρ _ =>
  (θ_run Cert.MlaUqDxReferenceIdeal.defs _ _).mono (fun r h => ⟨fun c => (h c).2, sem_eq_zero_of_no_sems (by decide) r.2⟩)
    (Cert.MlaUqDxReferenceIdeal.Value.run (F := Ideal) m ρ)

/-- The call and the reference end with the same array. -/
theorem algebraic : Cert.algebraic_MlaUqDxIdeal_MlaUqDxReferenceIdeal := by
  intro m g m' g' _ hagree
  refine ⟨fun c : Dev nD => mat (rowRow (cots (m ((c.tc : Thread nD τ).loc main_arg2))) (weights (m ((c.tc : Thread nD τ).loc main_arg1)))), ?_, ?_⟩
  · exact (θ_run Cert.MlaUqDxIdeal.defs _ _).mono
      (fun r h c => ⟨(h c).1.trans (final m c _ _ (entry_cots m c) (entry_weights m c)), (h c).2⟩) (Cert.MlaUqDxIdeal.Value.run_blocks m g)
  · refine (θ_run Cert.MlaUqDxReferenceIdeal.defs _ _).mono (fun r h c => ⟨(h c).1.trans ?_, (h c).2⟩) (Cert.MlaUqDxReferenceIdeal.Value.run m' g')
    rw [(hagree c).2.1, (hagree c).2.2]
    exact reference _ _

end Cert.Proof.MlaUqDx

end
-- ==== Proof.MlaUqDw.lean ====
/- The call `mla_uq_dw`: the gradient of the product that makes the queries with respect to its weights. -/
module

public import proofs.«01_k».proof.Defs
public import proofs.«01_k».proof.Proof.Products
public import proofs.«01_k».proof.Proof.Gen.MlaUqDwIdeal.Value
public import proofs.«01_k».proof.Proof.Gen.MlaUqDwReferenceIdeal.Run
public import proofs.«01_k».proof.Proof.Gen.MlaUqDw.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.MlaUqDw

open Idealize.ShloMosaic Idealize.ShloMosaic.TcCoe Idealize.SL.Sem Products

section

open Cert.MlaUqDwIdeal Cert.MlaUqDwIdeal.Gen

variable (m : (ℓ : Loc nD τ sig) → Buf (Elt Ideal) ℓ)

/-- The input's rows. -/
def ins (x : FVec Ideal S2x2048x256 .f32) : FVec Ideal S4096x256 .bf16 :=
  truncf .bf16 (shapeCast S4096x256 x shapeCasts_S2x2048x256_S4096x256) bitsLt_bf16_f32

theorem entry_ins (c : Dev nD) : V m c main_v1 = ins (m ((c : Thread nD τ).loc main_arg0)) := by
  unfold V
  after_reads_simp
  rfl

/-- The cotangent's rows. -/
def cots (x : FVec Ideal S2x2048x16x96 .f32) : FVec Ideal S4096x2048 .bf16 :=
  truncf .bf16 (shapeCast S4096x2048 (shapeCast S2x2048x2048 (pad S2x2048x16x128 ![0, 0, 0, 0] ![0, 0, 0, 32] ![0, 0, 0, 0] x (sitofp .f32 (constantI S_ 32 0#32))
    pads_S2x2048x16x96_S2x2048x16x128_000_000_000_0320 h_S_) shapeCasts_S2x2048x16x128_S2x2048x2048) shapeCasts_S2x2048x2048_S4096x2048) bitsLt_bf16_f32

theorem entry_cots (c : Dev nD) : V m c main_v5 = cots (m ((c : Thread nD τ).loc main_arg2)) := by
  unfold V
  after_reads_simp
  simp only [StableHlo.TRef.toBuf, StableHlo.TRef.ofBuf, cast_eq]
  rfl

theorem index0 : ∀ t : Fin cfg0.N, win0_0.index t = ![0, (grid0.coords t 0).val] := by decide +kernel
theorem index1 : ∀ t : Fin cfg0.N, win0_1.index t = ![0, (grid0.coords t 1).val] := by decide +kernel
theorem index2 : ∀ t : Fin cfg0.N, win0_2.index t = ![(grid0.coords t 0).val, (grid0.coords t 1).val] := by decide +kernel

theorem payload (x : Vec Ideal S4096x256 .bf16) (y : Vec Ideal S4096x1024 .bf16) (r : Fin 256) (l : Fin 1024) :
    k0_pay1 x y (ix2 r l) = colCol (M := 256) (N := 1024) (K := 4096) x y r l := by
  unfold k0_pay1 colCol
  pointwise

/-- What a grid point reads of the left matrix, whatever that matrix is. -/
theorem read0 (c : Dev nD) (t : Fin cfg0.N) (X : FVec Ideal S4096x256 .bf16) (hX : V m c main_v1 = X) :
    iblk m c 0 t = ((cfg0.win 0).blk t).view.read (Elt Ideal) X := by
  subst hX
  rfl

/-- What a grid point reads of the right matrix. -/
theorem read1 (c : Dev nD) (t : Fin cfg0.N) (Y : FVec Ideal S4096x2048 .bf16) (hY : V m c main_v5 = Y) :
    iblk m c 1 t = ((cfg0.win 1).blk t).view.read (Elt Ideal) Y := by
  subst hY
  rfl

/-- The array the call leaves is the product of the two it takes. -/
theorem final (c : Dev nD) (X : FVec Ideal S4096x256 .bf16) (Y : FVec Ideal S4096x2048 .bf16) (hX : V m c main_v1 = X) (hY : V m c main_v5 = Y) :
    (dats m 0 c).arrAt 2 cfg0.N = (mat (colCol X Y) : FVec Ideal S256x2048 .f32) := by
  refine (dats m 0 c).arrAt_eq_of_covers 2 _ (by decide +kernel) fun t hf y => ?_
  blk_simp
  rw [after0_2]
  frame_out
  obtain ⟨r, l, rfl⟩ : ∃ (r : Fin 256) (l : Fin 1024), y = (ix2 r l : S256x1024.Idx) := ⟨_, _, ix_eta y⟩
  rw [payload]
  rw [read0 m c t X hX, read1 m c t Y hY]
  refine colCol_congr (fun k => ?_) (fun k => ?_) <;> blk_ext [index0 t, index1 t, index2 t]

end

section

open Cert.MlaUqDwReferenceIdeal Cert.MlaUqDwReferenceIdeal.Gen

/-- The reference's array. -/
theorem reference (x : FVec Ideal S2x2048x256 .f32) (d : FVec Ideal S2x2048x16x96 .f32) :
    (shapeCast _ (pad S256x16x128 ![0, 0, 0] ![0, 0, 32] ![0, 0, 0] (shapeCast _ (transpose S256x1536 [1, 0] (Host.dotGeneral (F := Ideal) dot_S2x2048x1536_S2x2048x256_S1536x256_01_01_2_2_n_n none (shapeCast _ d shapeCasts_S2x2048x16x96_S2x2048x1536) x) transposes_S1536x256_S256x1536_1_0) shapeCasts_S256x1536_S256x16x96) (sitofp (F := Ideal) .f32 (constantI S_ 32 0#32)) pads_S256x16x96_S256x16x128_000_000_0320 h_S_) shapeCasts_S256x16x128_S256x2048 : FVec Ideal S256x2048 .f32)
      = mat (colCol (ins x) (cots d)) := by
  funext i
  obtain ⟨r, l, rfl⟩ : ∃ (r : Fin 256) (l : Fin 2048), i = (ix2 r l : S256x2048.Idx) := ⟨_, _, ix_eta i⟩
  unfold mat colCol
  unfold ins cots
  pointwise
  by_cases h : l.val % 128 < 96
  · refine (dif_pos ⟨by omega, h⟩).trans ?_
    refine (sum_batch 2 2048 rfl _ _ fun q b s e f => ?_).symm
    have u : (l.val / 128 * 96 + l.val % 128) / 96 = l.val / 128 := by omega
    have v : (l.val / 128 * 96 + l.val % 128) % 96 = l.val % 128 := by omega
    rw [dif_pos ⟨by omega, by omega, by omega, h⟩]
    simp only [e, f, u, v]
    exact mul_comm _ _
  · refine (dif_neg (fun q => h q.2)).trans (pad_value.trans ?_)
    symm
    refine Finset.sum_eq_zero fun q _ => ?_
    rw [dif_neg (fun z => h z.2.2.2), pad_value, mul_zero]

end

open Cert.MlaUqDwIdeal Cert.MlaUqDwIdeal.Gen

theorem frame : Cert.quiescent_MlaUqDw := fun m ρ _ => Cert.MlaUqDw.Gen.frame m ρ
theorem frame_ideal : Cert.quiescent_MlaUqDwIdeal := fun m ρ _ => Cert.MlaUqDwIdeal.Gen.frame m ρ
theorem frame_reference : Cert.quiescent_MlaUqDwReferenceIdeal := fun m ρ _ =>
  (θ_run Cert.MlaUqDwReferenceIdeal.defs _ _).mono (fun r h => ⟨fun c => (h c).2, sem_eq_zero_of_no_sems (by decide) r.2⟩)
    (Cert.MlaUqDwReferenceIdeal.Value.run (F := Ideal) m ρ)

/-- The call and the reference end with the same array. -/
theorem algebraic : Cert.algebraic_MlaUqDwIdeal_MlaUqDwReferenceIdeal := by
  intro m g m' g' _ hagree
  refine ⟨fun c : Dev nD => mat (colCol (ins (m ((c.tc : Thread nD τ).loc main_arg0))) (cots (m ((c.tc : Thread nD τ).loc main_arg2)))), ?_, ?_⟩
  · exact (θ_run Cert.MlaUqDwIdeal.defs _ _).mono
      (fun r h c => ⟨(h c).1.trans (final m c _ _ (entry_ins m c) (entry_cots m c)), (h c).2⟩) (Cert.MlaUqDwIdeal.Value.run_blocks m g)
  · refine (θ_run Cert.MlaUqDwReferenceIdeal.defs _ _).mono (fun r h c => ⟨(h c).1.trans ?_, (h c).2⟩) (Cert.MlaUqDwReferenceIdeal.Value.run m' g')
    rw [(hagree c).1, (hagree c).2.2]
    exact reference _ _

end Cert.Proof.MlaUqDw

end
-- ==== Proof.MlaUkvDx.lean ====
/- The call `mla_ukv_dx`: the gradient of the product that makes the keys and values with respect to its input. -/
module

public import proofs.«01_k».proof.Defs
public import proofs.«01_k».proof.Proof.Products
public import proofs.«01_k».proof.Proof.Gen.MlaUkvDxIdeal.Value
public import proofs.«01_k».proof.Proof.Gen.MlaUkvDxReferenceIdeal.Run
public import proofs.«01_k».proof.Proof.Gen.MlaUkvDx.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.MlaUkvDx

open Idealize.ShloMosaic Idealize.ShloMosaic.TcCoe Idealize.SL.Sem Products

section

open Cert.MlaUkvDxIdeal Cert.MlaUkvDxIdeal.Gen

variable (m : (ℓ : Loc nD τ sig) → Buf (Elt Ideal) ℓ)

/-- The cotangent's rows. -/
def cots (x : FVec Ideal S2x2048x2048 .f32) : FVec Ideal S4096x2048 .bf16 :=
  truncf .bf16 (shapeCast S4096x2048 x shapeCasts_S2x2048x2048_S4096x2048) bitsLt_bf16_f32

theorem entry_cots (c : Dev nD) : V m c main_v1 = cots (m ((c : Thread nD τ).loc main_arg2)) := by
  unfold V
  after_reads_simp
  rfl

/-- The weights. -/
def weights (x : FVec Ideal S128x2048 .f32) : FVec Ideal S128x2048 .bf16 :=
  truncf .bf16 x bitsLt_bf16_f32

theorem entry_weights (c : Dev nD) : V m c main_v2 = weights (m ((c : Thread nD τ).loc main_arg1)) := by
  unfold V
  after_reads_simp
  rfl

theorem index0 : ∀ t : Fin cfg0.N, win0_0.index t = ![(grid0.coords t 0).val, 0] := by decide +kernel
theorem index1 : ∀ t : Fin cfg0.N, win0_1.index t = ![(grid0.coords t 1).val, 0] := by decide +kernel
theorem index2 : ∀ t : Fin cfg0.N, win0_2.index t = ![(grid0.coords t 0).val, (grid0.coords t 1).val] := by decide +kernel

theorem payload (x : Vec Ideal S1024x2048 .bf16) (y : Vec Ideal S128x2048 .bf16) (r : Fin 1024) (l : Fin 128) :
    k0_pay1 x y (ix2 r l) = rowRow (M := 1024) (N := 128) (K := 2048) x y r l := by
  unfold k0_pay1 rowRow
  pointwise

/-- What a grid point reads of the left matrix, whatever that matrix is. -/
theorem read0 (c : Dev nD) (t : Fin cfg0.N) (X : FVec Ideal S4096x2048 .bf16) (hX : V m c main_v1 = X) :
    iblk m c 0 t = ((cfg0.win 0).blk t).view.read (Elt Ideal) X := by
  subst hX
  rfl

/-- What a grid point reads of the right matrix. -/
theorem read1 (c : Dev nD) (t : Fin cfg0.N) (Y : FVec Ideal S128x2048 .bf16) (hY : V m c main_v2 = Y) :
    iblk m c 1 t = ((cfg0.win 1).blk t).view.read (Elt Ideal) Y := by
  subst hY
  rfl

/-- The array the call leaves is the product of the two it takes. -/
theorem final (c : Dev nD) (X : FVec Ideal S4096x2048 .bf16) (Y : FVec Ideal S128x2048 .bf16) (hX : V m c main_v1 = X) (hY : V m c main_v2 = Y) :
    (dats m 0 c).arrAt 2 cfg0.N = (mat (rowRow X Y) : FVec Ideal S4096x128 .f32) := by
  refine (dats m 0 c).arrAt_eq_of_covers 2 _ (by decide +kernel) fun t hf y => ?_
  blk_simp
  rw [after0_2]
  frame_out
  obtain ⟨r, l, rfl⟩ : ∃ (r : Fin 1024) (l : Fin 128), y = (ix2 r l : S1024x128.Idx) := ⟨_, _, ix_eta y⟩
  rw [payload]
  rw [read0 m c t X hX, read1 m c t Y hY]
  refine rowRow_congr (fun k => ?_) (fun k => ?_) <;> blk_ext [index0 t, index1 t, index2 t]

end

section

open Cert.MlaUkvDxReferenceIdeal Cert.MlaUkvDxReferenceIdeal.Gen

/-- The reference's array. -/
theorem reference (w : FVec Ideal S128x2048 .f32) (d : FVec Ideal S2x2048x2048 .f32) :
    (shapeCast _ (Host.dotGeneral (F := Ideal) dot_S2x2048x2048_S128x2048_S2x2048x128_2_1_01_0_n_n none d w) shapeCasts_S2x2048x128_S4096x128 : FVec Ideal S4096x128 .f32)
      = mat (rowRow (cots d) (weights w)) := by
  funext i
  obtain ⟨r, l, rfl⟩ : ∃ (r : Fin 4096) (l : Fin 128), i = (ix2 r l : S4096x128.Idx) := ⟨_, _, ix_eta i⟩
  unfold mat rowRow
  unfold cots weights
  pointwise

end

open Cert.MlaUkvDxIdeal Cert.MlaUkvDxIdeal.Gen

theorem frame : Cert.quiescent_MlaUkvDx := fun m ρ _ => Cert.MlaUkvDx.Gen.frame m ρ
theorem frame_ideal : Cert.quiescent_MlaUkvDxIdeal := fun m ρ _ => Cert.MlaUkvDxIdeal.Gen.frame m ρ
theorem frame_reference : Cert.quiescent_MlaUkvDxReferenceIdeal := fun m ρ _ =>
  (θ_run Cert.MlaUkvDxReferenceIdeal.defs _ _).mono (fun r h => ⟨fun c => (h c).2, sem_eq_zero_of_no_sems (by decide) r.2⟩)
    (Cert.MlaUkvDxReferenceIdeal.Value.run (F := Ideal) m ρ)

/-- The call and the reference end with the same array. -/
theorem algebraic : Cert.algebraic_MlaUkvDxIdeal_MlaUkvDxReferenceIdeal := by
  intro m g m' g' _ hagree
  refine ⟨fun c : Dev nD => mat (rowRow (cots (m ((c.tc : Thread nD τ).loc main_arg2))) (weights (m ((c.tc : Thread nD τ).loc main_arg1)))), ?_, ?_⟩
  · exact (θ_run Cert.MlaUkvDxIdeal.defs _ _).mono
      (fun r h c => ⟨(h c).1.trans (final m c _ _ (entry_cots m c) (entry_weights m c)), (h c).2⟩) (Cert.MlaUkvDxIdeal.Value.run_blocks m g)
  · refine (θ_run Cert.MlaUkvDxReferenceIdeal.defs _ _).mono (fun r h c => ⟨(h c).1.trans ?_, (h c).2⟩) (Cert.MlaUkvDxReferenceIdeal.Value.run m' g')
    rw [(hagree c).2.1, (hagree c).2.2]
    exact reference _ _

end Cert.Proof.MlaUkvDx

end
-- ==== Proof.MlaUkvDw.lean ====
/- The call `mla_ukv_dw`: the gradient of the product that makes the keys and values with respect to its weights. -/
module

public import proofs.«01_k».proof.Defs
public import proofs.«01_k».proof.Proof.Products
public import proofs.«01_k».proof.Proof.Gen.MlaUkvDwIdeal.Value
public import proofs.«01_k».proof.Proof.Gen.MlaUkvDwReferenceIdeal.Run
public import proofs.«01_k».proof.Proof.Gen.MlaUkvDw.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.MlaUkvDw

open Idealize.ShloMosaic Idealize.ShloMosaic.TcCoe Idealize.SL.Sem Products

section

open Cert.MlaUkvDwIdeal Cert.MlaUkvDwIdeal.Gen

variable (m : (ℓ : Loc nD τ sig) → Buf (Elt Ideal) ℓ)

/-- The input's rows. -/
def ins (x : FVec Ideal S2x2048x128 .f32) : FVec Ideal S4096x128 .bf16 :=
  truncf .bf16 (shapeCast S4096x128 x shapeCasts_S2x2048x128_S4096x128) bitsLt_bf16_f32

theorem entry_ins (c : Dev nD) : V m c main_v1 = ins (m ((c : Thread nD τ).loc main_arg0)) := by
  unfold V
  after_reads_simp
  rfl

/-- The cotangent's rows. -/
def cots (x : FVec Ideal S2x2048x2048 .f32) : FVec Ideal S4096x2048 .bf16 :=
  truncf .bf16 (shapeCast S4096x2048 x shapeCasts_S2x2048x2048_S4096x2048) bitsLt_bf16_f32

theorem entry_cots (c : Dev nD) : V m c main_v3 = cots (m ((c : Thread nD τ).loc main_arg2)) := by
  unfold V
  after_reads_simp
  rfl

theorem index0 : ∀ t : Fin cfg0.N, win0_0.index t = ![0, (grid0.coords t 0).val] := by decide +kernel
theorem index1 : ∀ t : Fin cfg0.N, win0_1.index t = ![0, (grid0.coords t 1).val] := by decide +kernel
theorem index2 : ∀ t : Fin cfg0.N, win0_2.index t = ![(grid0.coords t 0).val, (grid0.coords t 1).val] := by decide +kernel

theorem payload (x : Vec Ideal S4096x128 .bf16) (y : Vec Ideal S4096x1024 .bf16) (r : Fin 128) (l : Fin 1024) :
    k0_pay1 x y (ix2 r l) = colCol (M := 128) (N := 1024) (K := 4096) x y r l := by
  unfold k0_pay1 colCol
  pointwise

/-- What a grid point reads of the left matrix, whatever that matrix is. -/
theorem read0 (c : Dev nD) (t : Fin cfg0.N) (X : FVec Ideal S4096x128 .bf16) (hX : V m c main_v1 = X) :
    iblk m c 0 t = ((cfg0.win 0).blk t).view.read (Elt Ideal) X := by
  subst hX
  rfl

/-- What a grid point reads of the right matrix. -/
theorem read1 (c : Dev nD) (t : Fin cfg0.N) (Y : FVec Ideal S4096x2048 .bf16) (hY : V m c main_v3 = Y) :
    iblk m c 1 t = ((cfg0.win 1).blk t).view.read (Elt Ideal) Y := by
  subst hY
  rfl

/-- The array the call leaves is the product of the two it takes. -/
theorem final (c : Dev nD) (X : FVec Ideal S4096x128 .bf16) (Y : FVec Ideal S4096x2048 .bf16) (hX : V m c main_v1 = X) (hY : V m c main_v3 = Y) :
    (dats m 0 c).arrAt 2 cfg0.N = (mat (colCol X Y) : FVec Ideal S128x2048 .f32) := by
  refine (dats m 0 c).arrAt_eq_of_covers 2 _ (by decide +kernel) fun t hf y => ?_
  blk_simp
  rw [after0_2]
  frame_out
  obtain ⟨r, l, rfl⟩ : ∃ (r : Fin 128) (l : Fin 1024), y = (ix2 r l : S128x1024.Idx) := ⟨_, _, ix_eta y⟩
  rw [payload]
  rw [read0 m c t X hX, read1 m c t Y hY]
  refine colCol_congr (fun k => ?_) (fun k => ?_) <;> blk_ext [index0 t, index1 t, index2 t]

end

section

open Cert.MlaUkvDwReferenceIdeal Cert.MlaUkvDwReferenceIdeal.Gen

/-- The reference's array. -/
theorem reference (x : FVec Ideal S2x2048x128 .f32) (d : FVec Ideal S2x2048x2048 .f32) :
    (transpose S128x2048 [1, 0] (Host.dotGeneral (F := Ideal) dot_S2x2048x2048_S2x2048x128_S2048x128_01_01_2_2_n_n none d x) transposes_S2048x128_S128x2048_1_0 : FVec Ideal S128x2048 .f32)
      = mat (colCol (ins x) (cots d)) := by
  funext i
  obtain ⟨r, l, rfl⟩ : ∃ (r : Fin 128) (l : Fin 2048), i = (ix2 r l : S128x2048.Idx) := ⟨_, _, ix_eta i⟩
  unfold mat colCol
  rw [sum_rows 2 2048]
  unfold ins cots
  pointwise
  refine Finset.sum_congr rfl fun b _ => Finset.sum_congr rfl fun s _ => ?_
  rw [row_div, row_mod, mul_comm]

end

open Cert.MlaUkvDwIdeal Cert.MlaUkvDwIdeal.Gen

theorem frame : Cert.quiescent_MlaUkvDw := fun m ρ _ => Cert.MlaUkvDw.Gen.frame m ρ
theorem frame_ideal : Cert.quiescent_MlaUkvDwIdeal := fun m ρ _ => Cert.MlaUkvDwIdeal.Gen.frame m ρ
theorem frame_reference : Cert.quiescent_MlaUkvDwReferenceIdeal := fun m ρ _ =>
  (θ_run Cert.MlaUkvDwReferenceIdeal.defs _ _).mono (fun r h => ⟨fun c => (h c).2, sem_eq_zero_of_no_sems (by decide) r.2⟩)
    (Cert.MlaUkvDwReferenceIdeal.Value.run (F := Ideal) m ρ)

/-- The call and the reference end with the same array. -/
theorem algebraic : Cert.algebraic_MlaUkvDwIdeal_MlaUkvDwReferenceIdeal := by
  intro m g m' g' _ hagree
  refine ⟨fun c : Dev nD => mat (colCol (ins (m ((c.tc : Thread nD τ).loc main_arg0))) (cots (m ((c.tc : Thread nD τ).loc main_arg2)))), ?_, ?_⟩
  · exact (θ_run Cert.MlaUkvDwIdeal.defs _ _).mono
      (fun r h c => ⟨(h c).1.trans (final m c _ _ (entry_ins m c) (entry_cots m c)), (h c).2⟩) (Cert.MlaUkvDwIdeal.Value.run_blocks m g)
  · refine (θ_run Cert.MlaUkvDwReferenceIdeal.defs _ _).mono (fun r h c => ⟨(h c).1.trans ?_, (h c).2⟩) (Cert.MlaUkvDwReferenceIdeal.Value.run m' g')
    rw [(hagree c).1, (hagree c).2.2]
    exact reference _ _

end Cert.Proof.MlaUkvDw

end
-- ==== Proof.GlaOut.lean ====
/- The call `gla_out`: the product that leaves the recurrence's branch. -/
module

public import proofs.«01_k».proof.Defs
public import proofs.«01_k».proof.Proof.Products
public import proofs.«01_k».proof.Proof.Gen.GlaOutIdeal.Value
public import proofs.«01_k».proof.Proof.Gen.GlaOutReferenceIdeal.Run
public import proofs.«01_k».proof.Proof.Gen.GlaOut.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.GlaOut

open Idealize.ShloMosaic Idealize.ShloMosaic.TcCoe Idealize.SL.Sem Products

section

open Cert.GlaOutIdeal Cert.GlaOutIdeal.Gen

variable (m : (ℓ : Loc nD τ sig) → Buf (Elt Ideal) ℓ)

/-- The input's rows. -/
def ins (x : FVec Ideal S2x2048x1024 .f32) : FVec Ideal S4096x1024 .bf16 :=
  truncf .bf16 (shapeCast S4096x1024 x shapeCasts_S2x2048x1024_S4096x1024) bitsLt_bf16_f32

theorem entry_ins (c : Dev nD) : V m c main_v1 = ins (m ((c : Thread nD τ).loc main_arg0)) := by
  unfold V
  after_reads_simp
  rfl

/-- The weights. -/
def weights (x : FVec Ideal S1024x1024 .f32) : FVec Ideal S1024x1024 .bf16 :=
  truncf .bf16 x bitsLt_bf16_f32

theorem entry_weights (c : Dev nD) : V m c main_v2 = weights (m ((c : Thread nD τ).loc main_arg1)) := by
  unfold V
  after_reads_simp
  rfl

theorem index0 : ∀ t : Fin cfg0.N, win0_0.index t = ![(grid0.coords t 0).val, 0] := by decide +kernel
theorem index1 : ∀ t : Fin cfg0.N, win0_1.index t = ![0, (grid0.coords t 1).val] := by decide +kernel
theorem index2 : ∀ t : Fin cfg0.N, win0_2.index t = ![(grid0.coords t 0).val, (grid0.coords t 1).val] := by decide +kernel

theorem payload (x : Vec Ideal S1024x1024 .bf16) (y : Vec Ideal S1024x1024 .bf16) (r : Fin 1024) (l : Fin 1024) :
    k0_pay1 x y (ix2 r l) = rowCol (M := 1024) (N := 1024) (K := 1024) x y r l := by
  unfold k0_pay1 rowCol
  pointwise

/-- What a grid point reads of the left matrix, whatever that matrix is. -/
theorem read0 (c : Dev nD) (t : Fin cfg0.N) (X : FVec Ideal S4096x1024 .bf16) (hX : V m c main_v1 = X) :
    iblk m c 0 t = ((cfg0.win 0).blk t).view.read (Elt Ideal) X := by
  subst hX
  rfl

/-- What a grid point reads of the right matrix. -/
theorem read1 (c : Dev nD) (t : Fin cfg0.N) (Y : FVec Ideal S1024x1024 .bf16) (hY : V m c main_v2 = Y) :
    iblk m c 1 t = ((cfg0.win 1).blk t).view.read (Elt Ideal) Y := by
  subst hY
  rfl

/-- The array the call leaves is the product of the two it takes. -/
theorem final (c : Dev nD) (X : FVec Ideal S4096x1024 .bf16) (Y : FVec Ideal S1024x1024 .bf16) (hX : V m c main_v1 = X) (hY : V m c main_v2 = Y) :
    (dats m 0 c).arrAt 2 cfg0.N = (mat (rowCol X Y) : FVec Ideal S4096x1024 .bf16) := by
  refine (dats m 0 c).arrAt_eq_of_covers 2 _ (by decide +kernel) fun t hf y => ?_
  blk_simp
  rw [after0_2]
  frame_out
  obtain ⟨r, l, rfl⟩ : ∃ (r : Fin 1024) (l : Fin 1024), y = (ix2 r l : S1024x1024.Idx) := ⟨_, _, ix_eta y⟩
  rw [payload]
  rw [read0 m c t X hX, read1 m c t Y hY]
  refine rowCol_congr (fun k => ?_) (fun k => ?_) <;> blk_ext [index0 t, index1 t, index2 t]

end

section

open Cert.GlaOutReferenceIdeal Cert.GlaOutReferenceIdeal.Gen

/-- The reference's array. -/
theorem reference (x : FVec Ideal S2x2048x1024 .f32) (w : FVec Ideal S1024x1024 .f32) :
    (truncf .bf16 (shapeCast _ (Host.dotGeneral (F := Ideal) dot_S2x2048x1024_S1024x1024_S2x2048x1024_2_0_01_1_n_n none x w) shapeCasts_S2x2048x1024_S4096x1024) bitsLt_bf16_f32 : FVec Ideal S4096x1024 .bf16)
      = mat (rowCol (ins x) (weights w)) := by
  funext i
  obtain ⟨r, l, rfl⟩ : ∃ (r : Fin 4096) (l : Fin 1024), i = (ix2 r l : S4096x1024.Idx) := ⟨_, _, ix_eta i⟩
  unfold mat rowCol
  unfold ins weights
  pointwise

end

open Cert.GlaOutIdeal Cert.GlaOutIdeal.Gen

theorem frame : Cert.quiescent_GlaOut := fun m ρ _ => Cert.GlaOut.Gen.frame m ρ
theorem frame_ideal : Cert.quiescent_GlaOutIdeal := fun m ρ _ => Cert.GlaOutIdeal.Gen.frame m ρ
theorem frame_reference : Cert.quiescent_GlaOutReferenceIdeal := fun m ρ _ =>
  (θ_run Cert.GlaOutReferenceIdeal.defs _ _).mono (fun r h => ⟨fun c => (h c).2, sem_eq_zero_of_no_sems (by decide) r.2⟩)
    (Cert.GlaOutReferenceIdeal.Value.run (F := Ideal) m ρ)

/-- The call and the reference end with the same array. -/
theorem algebraic : Cert.algebraic_GlaOutIdeal_GlaOutReferenceIdeal := by
  intro m g m' g' _ hagree
  refine ⟨fun c : Dev nD => mat (rowCol (ins (m ((c.tc : Thread nD τ).loc main_arg0))) (weights (m ((c.tc : Thread nD τ).loc main_arg1)))), ?_, ?_⟩
  · exact (θ_run Cert.GlaOutIdeal.defs _ _).mono
      (fun r h c => ⟨(h c).1.trans (final m c _ _ (entry_ins m c) (entry_weights m c)), (h c).2⟩) (Cert.GlaOutIdeal.Value.run_blocks m g)
  · refine (θ_run Cert.GlaOutReferenceIdeal.defs _ _).mono (fun r h c => ⟨(h c).1.trans ?_, (h c).2⟩) (Cert.GlaOutReferenceIdeal.Value.run m' g')
    rw [(hagree c).1, (hagree c).2]
    exact reference _ _

end Cert.Proof.GlaOut

end
-- ==== Proof.WOut.lean ====
/- The call `w_out`: the product that leaves the mixing. -/
module

public import proofs.«01_k».proof.Defs
public import proofs.«01_k».proof.Proof.Products
public import proofs.«01_k».proof.Proof.Gen.WOutIdeal.Value
public import proofs.«01_k».proof.Proof.Gen.WOutReferenceIdeal.Run
public import proofs.«01_k».proof.Proof.Gen.WOut.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.WOut

open Idealize.ShloMosaic Idealize.ShloMosaic.TcCoe Idealize.SL.Sem Products

section

open Cert.WOutIdeal Cert.WOutIdeal.Gen

variable (m : (ℓ : Loc nD τ sig) → Buf (Elt Ideal) ℓ)

/-- The input's rows. -/
def ins (x : FVec Ideal S2x2048x1024 .f32) : FVec Ideal S4096x1024 .bf16 :=
  truncf .bf16 (shapeCast S4096x1024 x shapeCasts_S2x2048x1024_S4096x1024) bitsLt_bf16_f32

theorem entry_ins (c : Dev nD) : V m c main_v1 = ins (m ((c : Thread nD τ).loc main_arg0)) := by
  unfold V
  after_reads_simp
  rfl

/-- The weights. -/
def weights (x : FVec Ideal S1024x1024 .f32) : FVec Ideal S1024x1024 .bf16 :=
  truncf .bf16 x bitsLt_bf16_f32

theorem entry_weights (c : Dev nD) : V m c main_v2 = weights (m ((c : Thread nD τ).loc main_arg1)) := by
  unfold V
  after_reads_simp
  rfl

theorem index0 : ∀ t : Fin cfg0.N, win0_0.index t = ![(grid0.coords t 0).val, 0] := by decide +kernel
theorem index1 : ∀ t : Fin cfg0.N, win0_1.index t = ![0, (grid0.coords t 1).val] := by decide +kernel
theorem index2 : ∀ t : Fin cfg0.N, win0_2.index t = ![(grid0.coords t 0).val, (grid0.coords t 1).val] := by decide +kernel

theorem payload (x : Vec Ideal S1024x1024 .bf16) (y : Vec Ideal S1024x1024 .bf16) (r : Fin 1024) (l : Fin 1024) :
    k0_pay1 x y (ix2 r l) = rowCol (M := 1024) (N := 1024) (K := 1024) x y r l := by
  unfold k0_pay1 rowCol
  pointwise

/-- What a grid point reads of the left matrix, whatever that matrix is. -/
theorem read0 (c : Dev nD) (t : Fin cfg0.N) (X : FVec Ideal S4096x1024 .bf16) (hX : V m c main_v1 = X) :
    iblk m c 0 t = ((cfg0.win 0).blk t).view.read (Elt Ideal) X := by
  subst hX
  rfl

/-- What a grid point reads of the right matrix. -/
theorem read1 (c : Dev nD) (t : Fin cfg0.N) (Y : FVec Ideal S1024x1024 .bf16) (hY : V m c main_v2 = Y) :
    iblk m c 1 t = ((cfg0.win 1).blk t).view.read (Elt Ideal) Y := by
  subst hY
  rfl

/-- The array the call leaves is the product of the two it takes. -/
theorem final (c : Dev nD) (X : FVec Ideal S4096x1024 .bf16) (Y : FVec Ideal S1024x1024 .bf16) (hX : V m c main_v1 = X) (hY : V m c main_v2 = Y) :
    (dats m 0 c).arrAt 2 cfg0.N = (mat (rowCol X Y) : FVec Ideal S4096x1024 .f32) := by
  refine (dats m 0 c).arrAt_eq_of_covers 2 _ (by decide +kernel) fun t hf y => ?_
  blk_simp
  rw [after0_2]
  frame_out
  obtain ⟨r, l, rfl⟩ : ∃ (r : Fin 1024) (l : Fin 1024), y = (ix2 r l : S1024x1024.Idx) := ⟨_, _, ix_eta y⟩
  rw [payload]
  rw [read0 m c t X hX, read1 m c t Y hY]
  refine rowCol_congr (fun k => ?_) (fun k => ?_) <;> blk_ext [index0 t, index1 t, index2 t]

end

section

open Cert.WOutReferenceIdeal Cert.WOutReferenceIdeal.Gen

/-- The reference's array. -/
theorem reference (x : FVec Ideal S2x2048x1024 .f32) (w : FVec Ideal S1024x1024 .f32) :
    (shapeCast _ (Host.dotGeneral (F := Ideal) dot_S2x2048x1024_S1024x1024_S2x2048x1024_2_0_01_1_n_n none x w) shapeCasts_S2x2048x1024_S4096x1024 : FVec Ideal S4096x1024 .f32)
      = mat (rowCol (ins x) (weights w)) := by
  funext i
  obtain ⟨r, l, rfl⟩ : ∃ (r : Fin 4096) (l : Fin 1024), i = (ix2 r l : S4096x1024.Idx) := ⟨_, _, ix_eta i⟩
  unfold mat rowCol
  unfold ins weights
  pointwise

end

open Cert.WOutIdeal Cert.WOutIdeal.Gen

theorem frame : Cert.quiescent_WOut := fun m ρ _ => Cert.WOut.Gen.frame m ρ
theorem frame_ideal : Cert.quiescent_WOutIdeal := fun m ρ _ => Cert.WOutIdeal.Gen.frame m ρ
theorem frame_reference : Cert.quiescent_WOutReferenceIdeal := fun m ρ _ =>
  (θ_run Cert.WOutReferenceIdeal.defs _ _).mono (fun r h => ⟨fun c => (h c).2, sem_eq_zero_of_no_sems (by decide) r.2⟩)
    (Cert.WOutReferenceIdeal.Value.run (F := Ideal) m ρ)

/-- The call and the reference end with the same array. -/
theorem algebraic : Cert.algebraic_WOutIdeal_WOutReferenceIdeal := by
  intro m g m' g' _ hagree
  refine ⟨fun c : Dev nD => mat (rowCol (ins (m ((c.tc : Thread nD τ).loc main_arg0))) (weights (m ((c.tc : Thread nD τ).loc main_arg1)))), ?_, ?_⟩
  · exact (θ_run Cert.WOutIdeal.defs _ _).mono
      (fun r h c => ⟨(h c).1.trans (final m c _ _ (entry_ins m c) (entry_weights m c)), (h c).2⟩) (Cert.WOutIdeal.Value.run_blocks m g)
  · refine (θ_run Cert.WOutReferenceIdeal.defs _ _).mono (fun r h c => ⟨(h c).1.trans ?_, (h c).2⟩) (Cert.WOutReferenceIdeal.Value.run m' g')
    rw [(hagree c).1, (hagree c).2]
    exact reference _ _

end Cert.Proof.WOut

end
-- ==== Proof.MlaOut.lean ====
/- The call `mla_out`: the product that leaves the attention's branch. -/
module

public import proofs.«01_k».proof.Defs
public import proofs.«01_k».proof.Proof.Products
public import proofs.«01_k».proof.Proof.Gen.MlaOutIdeal.Value
public import proofs.«01_k».proof.Proof.Gen.MlaOutReferenceIdeal.Run
public import proofs.«01_k».proof.Proof.Gen.MlaOut.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.MlaOut

open Idealize.ShloMosaic Idealize.ShloMosaic.TcCoe Idealize.SL.Sem Products

section

open Cert.MlaOutIdeal Cert.MlaOutIdeal.Gen

variable (m : (ℓ : Loc nD τ sig) → Buf (Elt Ideal) ℓ)

/-- The input's rows. -/
def ins (x : FVec Ideal S2x2048x16x64 .f32) : FVec Ideal S4096x2048 .bf16 :=
  truncf .bf16 (shapeCast S4096x2048 (shapeCast S2x2048x2048 (pad S2x2048x16x128 ![0, 0, 0, 0] ![0, 0, 0, 64] ![0, 0, 0, 0] x (sitofp .f32 (constantI S_ 32 0#32))
    pads_S2x2048x16x64_S2x2048x16x128_000_000_000_0640 h_S_) shapeCasts_S2x2048x16x128_S2x2048x2048) shapeCasts_S2x2048x2048_S4096x2048) bitsLt_bf16_f32

theorem entry_ins (c : Dev nD) : V m c main_v3 = ins (m ((c : Thread nD τ).loc main_arg0)) := by
  unfold V
  after_reads_simp
  simp only [StableHlo.TRef.toBuf, StableHlo.TRef.ofBuf, cast_eq]
  rfl

/-- The weights. -/
def weights (x : FVec Ideal S1024x1024 .f32) : FVec Ideal S2048x1024 .bf16 :=
  truncf .bf16 (shapeCast S2048x1024 (pad S16x128x1024 ![0, 0, 0] ![0, 64, 0] ![0, 0, 0] (shapeCast S16x64x1024 x shapeCasts_S1024x1024_S16x64x1024) (sitofp .f32 (constantI S_ 32 0#32))
    pads_S16x64x1024_S16x128x1024_000_0640_000 h_S_) shapeCasts_S16x128x1024_S2048x1024) bitsLt_bf16_f32

theorem entry_weights (c : Dev nD) : V m c main_v7 = weights (m ((c : Thread nD τ).loc main_arg1)) := by
  unfold V
  after_reads_simp
  simp only [StableHlo.TRef.toBuf, StableHlo.TRef.ofBuf, cast_eq]
  rfl

theorem index0 : ∀ t : Fin cfg0.N, win0_0.index t = ![(grid0.coords t 0).val, 0] := by decide +kernel
theorem index1 : ∀ t : Fin cfg0.N, win0_1.index t = ![0, (grid0.coords t 1).val] := by decide +kernel
theorem index2 : ∀ t : Fin cfg0.N, win0_2.index t = ![(grid0.coords t 0).val, (grid0.coords t 1).val] := by decide +kernel

theorem payload (x : Vec Ideal S1024x2048 .bf16) (y : Vec Ideal S2048x1024 .bf16) (r : Fin 1024) (l : Fin 1024) :
    k0_pay1 x y (ix2 r l) = rowCol (M := 1024) (N := 1024) (K := 2048) x y r l := by
  unfold k0_pay1 rowCol
  pointwise

/-- What a grid point reads of the left matrix, whatever that matrix is. -/
theorem read0 (c : Dev nD) (t : Fin cfg0.N) (X : FVec Ideal S4096x2048 .bf16) (hX : V m c main_v3 = X) :
    iblk m c 0 t = ((cfg0.win 0).blk t).view.read (Elt Ideal) X := by
  subst hX
  rfl

/-- What a grid point reads of the right matrix. -/
theorem read1 (c : Dev nD) (t : Fin cfg0.N) (Y : FVec Ideal S2048x1024 .bf16) (hY : V m c main_v7 = Y) :
    iblk m c 1 t = ((cfg0.win 1).blk t).view.read (Elt Ideal) Y := by
  subst hY
  rfl

/-- The array the call leaves is the product of the two it takes. -/
theorem final (c : Dev nD) (X : FVec Ideal S4096x2048 .bf16) (Y : FVec Ideal S2048x1024 .bf16) (hX : V m c main_v3 = X) (hY : V m c main_v7 = Y) :
    (dats m 0 c).arrAt 2 cfg0.N = (mat (rowCol X Y) : FVec Ideal S4096x1024 .bf16) := by
  refine (dats m 0 c).arrAt_eq_of_covers 2 _ (by decide +kernel) fun t hf y => ?_
  blk_simp
  rw [after0_2]
  frame_out
  obtain ⟨r, l, rfl⟩ : ∃ (r : Fin 1024) (l : Fin 1024), y = (ix2 r l : S1024x1024.Idx) := ⟨_, _, ix_eta y⟩
  rw [payload]
  rw [read0 m c t X hX, read1 m c t Y hY]
  refine rowCol_congr (fun k => ?_) (fun k => ?_) <;> blk_ext [index0 t, index1 t, index2 t]

end

section

open Cert.MlaOutReferenceIdeal Cert.MlaOutReferenceIdeal.Gen

/-- The reference's array. -/
theorem reference (x : FVec Ideal S2x2048x16x64 .f32) (w : FVec Ideal S1024x1024 .f32) :
    (truncf .bf16 (shapeCast _ (Host.dotGeneral (F := Ideal) dot_S2x2048x1024_S1024x1024_S2x2048x1024_2_0_01_1_n_n none (shapeCast _ x shapeCasts_S2x2048x16x64_S2x2048x1024) w) shapeCasts_S2x2048x1024_S4096x1024) bitsLt_bf16_f32 : FVec Ideal S4096x1024 .bf16)
      = mat (rowCol (ins x) (weights w)) := by
  funext i
  obtain ⟨r, l, rfl⟩ : ∃ (r : Fin 4096) (l : Fin 1024), i = (ix2 r l : S4096x1024.Idx) := ⟨_, _, ix_eta i⟩
  unfold mat rowCol
  unfold ins weights
  pointwise
  refine (sum_padded 16 64 128 (by omega) _ _ (fun x y h hd hm => ?_) (fun x h => ?_)).symm
  · rw [dif_pos ⟨by omega, by omega, by omega, h⟩, dif_pos ⟨by omega, h⟩]
    simp only [hd, hm]
    refine congrArg₂ _ rfl (congrArg w (congrArg (fun q => ix2 q l) (Fin.ext ?_)))
    show x.val / 128 * 64 + x.val % 128 = y.val
    omega
  · rw [dif_neg (fun q => h q.2.2.2), pad_value, zero_mul]

end

open Cert.MlaOutIdeal Cert.MlaOutIdeal.Gen

theorem frame : Cert.quiescent_MlaOut := fun m ρ _ => Cert.MlaOut.Gen.frame m ρ
theorem frame_ideal : Cert.quiescent_MlaOutIdeal := fun m ρ _ => Cert.MlaOutIdeal.Gen.frame m ρ
theorem frame_reference : Cert.quiescent_MlaOutReferenceIdeal := fun m ρ _ =>
  (θ_run Cert.MlaOutReferenceIdeal.defs _ _).mono (fun r h => ⟨fun c => (h c).2, sem_eq_zero_of_no_sems (by decide) r.2⟩)
    (Cert.MlaOutReferenceIdeal.Value.run (F := Ideal) m ρ)

/-- The call and the reference end with the same array. -/
theorem algebraic : Cert.algebraic_MlaOutIdeal_MlaOutReferenceIdeal := by
  intro m g m' g' _ hagree
  refine ⟨fun c : Dev nD => mat (rowCol (ins (m ((c.tc : Thread nD τ).loc main_arg0))) (weights (m ((c.tc : Thread nD τ).loc main_arg1)))), ?_, ?_⟩
  · exact (θ_run Cert.MlaOutIdeal.defs _ _).mono
      (fun r h c => ⟨(h c).1.trans (final m c _ _ (entry_ins m c) (entry_weights m c)), (h c).2⟩) (Cert.MlaOutIdeal.Value.run_blocks m g)
  · refine (θ_run Cert.MlaOutReferenceIdeal.defs _ _).mono (fun r h c => ⟨(h c).1.trans ?_, (h c).2⟩) (Cert.MlaOutReferenceIdeal.Value.run m' g')
    rw [(hagree c).1, (hagree c).2]
    exact reference _ _

end Cert.Proof.MlaOut

end
-- ==== Proof.MlaUq.lean ====
/- The call `mla_uq`: the product that makes the queries. -/
module

public import proofs.«01_k».proof.Defs
public import proofs.«01_k».proof.Proof.Products
public import proofs.«01_k».proof.Proof.Gen.MlaUqIdeal.Value
public import proofs.«01_k».proof.Proof.Gen.MlaUqReferenceIdeal.Run
public import proofs.«01_k».proof.Proof.Gen.MlaUq.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.MlaUq

open Idealize.ShloMosaic Idealize.ShloMosaic.TcCoe Idealize.SL.Sem Products

section

open Cert.MlaUqIdeal Cert.MlaUqIdeal.Gen

variable (m : (ℓ : Loc nD τ sig) → Buf (Elt Ideal) ℓ)

/-- The input's rows. -/
def ins (x : FVec Ideal S2x2048x256 .f32) : FVec Ideal S4096x256 .bf16 :=
  truncf .bf16 (shapeCast S4096x256 x shapeCasts_S2x2048x256_S4096x256) bitsLt_bf16_f32

theorem entry_ins (c : Dev nD) : V m c main_v1 = ins (m ((c : Thread nD τ).loc main_arg0)) := by
  unfold V
  after_reads_simp
  rfl

/-- The weights. -/
def weights (x : FVec Ideal S256x1536 .f32) : FVec Ideal S256x2048 .bf16 :=
  truncf .bf16 (shapeCast S256x2048 (pad S256x16x128 ![0, 0, 0] ![0, 0, 32] ![0, 0, 0] (shapeCast S256x16x96 x shapeCasts_S256x1536_S256x16x96) (sitofp .f32 (constantI S_ 32 0#32))
    pads_S256x16x96_S256x16x128_000_000_0320 h_S_) shapeCasts_S256x16x128_S256x2048) bitsLt_bf16_f32

theorem entry_weights (c : Dev nD) : V m c main_v5 = weights (m ((c : Thread nD τ).loc main_arg1)) := by
  unfold V
  after_reads_simp
  simp only [StableHlo.TRef.toBuf, StableHlo.TRef.ofBuf, cast_eq]
  rfl

theorem index0 : ∀ t : Fin cfg0.N, win0_0.index t = ![(grid0.coords t 0).val, 0] := by decide +kernel
theorem index1 : ∀ t : Fin cfg0.N, win0_1.index t = ![0, (grid0.coords t 1).val] := by decide +kernel
theorem index2 : ∀ t : Fin cfg0.N, win0_2.index t = ![(grid0.coords t 0).val, (grid0.coords t 1).val] := by decide +kernel

theorem payload (x : Vec Ideal S1024x256 .bf16) (y : Vec Ideal S256x1024 .bf16) (r : Fin 1024) (l : Fin 1024) :
    k0_pay1 x y (ix2 r l) = rowCol (M := 1024) (N := 1024) (K := 256) x y r l := by
  unfold k0_pay1 rowCol
  pointwise

/-- What a grid point reads of the left matrix, whatever that matrix is. -/
theorem read0 (c : Dev nD) (t : Fin cfg0.N) (X : FVec Ideal S4096x256 .bf16) (hX : V m c main_v1 = X) :
    iblk m c 0 t = ((cfg0.win 0).blk t).view.read (Elt Ideal) X := by
  subst hX
  rfl

/-- What a grid point reads of the right matrix. -/
theorem read1 (c : Dev nD) (t : Fin cfg0.N) (Y : FVec Ideal S256x2048 .bf16) (hY : V m c main_v5 = Y) :
    iblk m c 1 t = ((cfg0.win 1).blk t).view.read (Elt Ideal) Y := by
  subst hY
  rfl

/-- The array the call leaves is the product of the two it takes. -/
theorem final (c : Dev nD) (X : FVec Ideal S4096x256 .bf16) (Y : FVec Ideal S256x2048 .bf16) (hX : V m c main_v1 = X) (hY : V m c main_v5 = Y) :
    (dats m 0 c).arrAt 2 cfg0.N = (mat (rowCol X Y) : FVec Ideal S4096x2048 .bf16) := by
  refine (dats m 0 c).arrAt_eq_of_covers 2 _ (by decide +kernel) fun t hf y => ?_
  blk_simp
  rw [after0_2]
  frame_out
  obtain ⟨r, l, rfl⟩ : ∃ (r : Fin 1024) (l : Fin 1024), y = (ix2 r l : S1024x1024.Idx) := ⟨_, _, ix_eta y⟩
  rw [payload]
  rw [read0 m c t X hX, read1 m c t Y hY]
  refine rowCol_congr (fun k => ?_) (fun k => ?_) <;> blk_ext [index0 t, index1 t, index2 t]

end

section

open Cert.MlaUqReferenceIdeal Cert.MlaUqReferenceIdeal.Gen

/-- The reference's array. -/
theorem reference (x : FVec Ideal S2x2048x256 .f32) (w : FVec Ideal S256x1536 .f32) :
    (truncf .bf16 (shapeCast _ (pad S2x2048x16x128 ![0, 0, 0, 0] ![0, 0, 0, 32] ![0, 0, 0, 0] (shapeCast _ (Host.dotGeneral (F := Ideal) dot_S2x2048x256_S256x1536_S2x2048x1536_2_0_01_1_n_n none x w) shapeCasts_S2x2048x1536_S2x2048x16x96) (sitofp (F := Ideal) .f32 (constantI S_ 32 0#32)) pads_S2x2048x16x96_S2x2048x16x128_000_000_000_0320 h_S_) shapeCasts_S2x2048x16x128_S4096x2048) bitsLt_bf16_f32 : FVec Ideal S4096x2048 .bf16)
      = mat (rowCol (ins x) (weights w)) := by
  funext i
  obtain ⟨r, l, rfl⟩ : ∃ (r : Fin 4096) (l : Fin 2048), i = (ix2 r l : S4096x2048.Idx) := ⟨_, _, ix_eta i⟩
  unfold mat rowCol
  unfold ins weights
  pointwise
  by_cases h : l.val % 128 < 96
  · refine (dif_pos ⟨by omega, by omega, by omega, h⟩).trans ?_
    refine Finset.sum_congr rfl fun k _ => ?_
    rw [dif_pos ⟨by omega, h⟩]
  · refine (dif_neg (fun q => h q.2.2.2)).trans (pad_value.trans ?_)
    symm
    refine Finset.sum_eq_zero fun k _ => ?_
    rw [dif_neg (fun q => h q.2), pad_value, mul_zero]

end

open Cert.MlaUqIdeal Cert.MlaUqIdeal.Gen

theorem frame : Cert.quiescent_MlaUq := fun m ρ _ => Cert.MlaUq.Gen.frame m ρ
theorem frame_ideal : Cert.quiescent_MlaUqIdeal := fun m ρ _ => Cert.MlaUqIdeal.Gen.frame m ρ
theorem frame_reference : Cert.quiescent_MlaUqReferenceIdeal := fun m ρ _ =>
  (θ_run Cert.MlaUqReferenceIdeal.defs _ _).mono (fun r h => ⟨fun c => (h c).2, sem_eq_zero_of_no_sems (by decide) r.2⟩)
    (Cert.MlaUqReferenceIdeal.Value.run (F := Ideal) m ρ)

/-- The call and the reference end with the same array. -/
theorem algebraic : Cert.algebraic_MlaUqIdeal_MlaUqReferenceIdeal := by
  intro m g m' g' _ hagree
  refine ⟨fun c : Dev nD => mat (rowCol (ins (m ((c.tc : Thread nD τ).loc main_arg0))) (weights (m ((c.tc : Thread nD τ).loc main_arg1)))), ?_, ?_⟩
  · exact (θ_run Cert.MlaUqIdeal.defs _ _).mono
      (fun r h c => ⟨(h c).1.trans (final m c _ _ (entry_ins m c) (entry_weights m c)), (h c).2⟩) (Cert.MlaUqIdeal.Value.run_blocks m g)
  · refine (θ_run Cert.MlaUqReferenceIdeal.defs _ _).mono (fun r h c => ⟨(h c).1.trans ?_, (h c).2⟩) (Cert.MlaUqReferenceIdeal.Value.run m' g')
    rw [(hagree c).1, (hagree c).2]
    exact reference _ _

end Cert.Proof.MlaUq

end
-- ==== Proof.MlaUkv.lean ====
/- The call `mla_ukv`: the product that makes the keys and values. -/
module

public import proofs.«01_k».proof.Defs
public import proofs.«01_k».proof.Proof.Products
public import proofs.«01_k».proof.Proof.Gen.MlaUkvIdeal.Value
public import proofs.«01_k».proof.Proof.Gen.MlaUkvReferenceIdeal.Run
public import proofs.«01_k».proof.Proof.Gen.MlaUkv.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.MlaUkv

open Idealize.ShloMosaic Idealize.ShloMosaic.TcCoe Idealize.SL.Sem Products

section

open Cert.MlaUkvIdeal Cert.MlaUkvIdeal.Gen

variable (m : (ℓ : Loc nD τ sig) → Buf (Elt Ideal) ℓ)

/-- The input's rows. -/
def ins (x : FVec Ideal S2x2048x128 .f32) : FVec Ideal S4096x128 .bf16 :=
  truncf .bf16 (shapeCast S4096x128 x shapeCasts_S2x2048x128_S4096x128) bitsLt_bf16_f32

theorem entry_ins (c : Dev nD) : V m c main_v1 = ins (m ((c : Thread nD τ).loc main_arg0)) := by
  unfold V
  after_reads_simp
  rfl

/-- The weights. -/
def weights (x : FVec Ideal S128x2048 .f32) : FVec Ideal S128x2048 .bf16 :=
  truncf .bf16 x bitsLt_bf16_f32

theorem entry_weights (c : Dev nD) : V m c main_v2 = weights (m ((c : Thread nD τ).loc main_arg1)) := by
  unfold V
  after_reads_simp
  rfl

theorem index0 : ∀ t : Fin cfg0.N, win0_0.index t = ![(grid0.coords t 0).val, 0] := by decide +kernel
theorem index1 : ∀ t : Fin cfg0.N, win0_1.index t = ![0, (grid0.coords t 1).val] := by decide +kernel
theorem index2 : ∀ t : Fin cfg0.N, win0_2.index t = ![(grid0.coords t 0).val, (grid0.coords t 1).val] := by decide +kernel

theorem payload (x : Vec Ideal S1024x128 .bf16) (y : Vec Ideal S128x1024 .bf16) (r : Fin 1024) (l : Fin 1024) :
    k0_pay1 x y (ix2 r l) = rowCol (M := 1024) (N := 1024) (K := 128) x y r l := by
  unfold k0_pay1 rowCol
  pointwise

/-- What a grid point reads of the left matrix, whatever that matrix is. -/
theorem read0 (c : Dev nD) (t : Fin cfg0.N) (X : FVec Ideal S4096x128 .bf16) (hX : V m c main_v1 = X) :
    iblk m c 0 t = ((cfg0.win 0).blk t).view.read (Elt Ideal) X := by
  subst hX
  rfl

/-- What a grid point reads of the right matrix. -/
theorem read1 (c : Dev nD) (t : Fin cfg0.N) (Y : FVec Ideal S128x2048 .bf16) (hY : V m c main_v2 = Y) :
    iblk m c 1 t = ((cfg0.win 1).blk t).view.read (Elt Ideal) Y := by
  subst hY
  rfl

/-- The array the call leaves is the product of the two it takes. -/
theorem final (c : Dev nD) (X : FVec Ideal S4096x128 .bf16) (Y : FVec Ideal S128x2048 .bf16) (hX : V m c main_v1 = X) (hY : V m c main_v2 = Y) :
    (dats m 0 c).arrAt 2 cfg0.N = (mat (rowCol X Y) : FVec Ideal S4096x2048 .bf16) := by
  refine (dats m 0 c).arrAt_eq_of_covers 2 _ (by decide +kernel) fun t hf y => ?_
  blk_simp
  rw [after0_2]
  frame_out
  obtain ⟨r, l, rfl⟩ : ∃ (r : Fin 1024) (l : Fin 1024), y = (ix2 r l : S1024x1024.Idx) := ⟨_, _, ix_eta y⟩
  rw [payload]
  rw [read0 m c t X hX, read1 m c t Y hY]
  refine rowCol_congr (fun k => ?_) (fun k => ?_) <;> blk_ext [index0 t, index1 t, index2 t]

end

section

open Cert.MlaUkvReferenceIdeal Cert.MlaUkvReferenceIdeal.Gen

/-- The reference's array. -/
theorem reference (x : FVec Ideal S2x2048x128 .f32) (w : FVec Ideal S128x2048 .f32) :
    (truncf .bf16 (shapeCast _ (Host.dotGeneral (F := Ideal) dot_S2x2048x128_S128x2048_S2x2048x2048_2_0_01_1_n_n none x w) shapeCasts_S2x2048x2048_S4096x2048) bitsLt_bf16_f32 : FVec Ideal S4096x2048 .bf16)
      = mat (rowCol (ins x) (weights w)) := by
  funext i
  obtain ⟨r, l, rfl⟩ : ∃ (r : Fin 4096) (l : Fin 2048), i = (ix2 r l : S4096x2048.Idx) := ⟨_, _, ix_eta i⟩
  unfold mat rowCol
  unfold ins weights
  pointwise

end

open Cert.MlaUkvIdeal Cert.MlaUkvIdeal.Gen

theorem frame : Cert.quiescent_MlaUkv := fun m ρ _ => Cert.MlaUkv.Gen.frame m ρ
theorem frame_ideal : Cert.quiescent_MlaUkvIdeal := fun m ρ _ => Cert.MlaUkvIdeal.Gen.frame m ρ
theorem frame_reference : Cert.quiescent_MlaUkvReferenceIdeal := fun m ρ _ =>
  (θ_run Cert.MlaUkvReferenceIdeal.defs _ _).mono (fun r h => ⟨fun c => (h c).2, sem_eq_zero_of_no_sems (by decide) r.2⟩)
    (Cert.MlaUkvReferenceIdeal.Value.run (F := Ideal) m ρ)

/-- The call and the reference end with the same array. -/
theorem algebraic : Cert.algebraic_MlaUkvIdeal_MlaUkvReferenceIdeal := by
  intro m g m' g' _ hagree
  refine ⟨fun c : Dev nD => mat (rowCol (ins (m ((c.tc : Thread nD τ).loc main_arg0))) (weights (m ((c.tc : Thread nD τ).loc main_arg1)))), ?_, ?_⟩
  · exact (θ_run Cert.MlaUkvIdeal.defs _ _).mono
      (fun r h c => ⟨(h c).1.trans (final m c _ _ (entry_ins m c) (entry_weights m c)), (h c).2⟩) (Cert.MlaUkvIdeal.Value.run_blocks m g)
  · refine (θ_run Cert.MlaUkvReferenceIdeal.defs _ _).mono (fun r h c => ⟨(h c).1.trans ?_, (h c).2⟩) (Cert.MlaUkvReferenceIdeal.Value.run m' g')
    rw [(hagree c).1, (hagree c).2]
    exact reference _ _

end Cert.Proof.MlaUkv

end
-- ==== Proof.Mlp1.lean ====
/- The call `mlp1`: the feed-forward's first product, squared where it is positive. -/
module

public import proofs.«01_k».proof.Defs
public import proofs.«01_k».proof.Proof.Products
public import proofs.«01_k».proof.Proof.Gen.Mlp1Ideal.Value
public import proofs.«01_k».proof.Proof.Gen.Mlp1ReferenceIdeal.Run
public import proofs.«01_k».proof.Proof.Gen.Mlp1.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.Mlp1

open Idealize.ShloMosaic Idealize.ShloMosaic.TcCoe Idealize.SL.Sem Products

section

open Cert.Mlp1Ideal Cert.Mlp1Ideal.Gen

variable (m : (ℓ : Loc nD τ sig) → Buf (Elt Ideal) ℓ)

/-- The input's rows. -/
def ins (x : FVec Ideal S2x2048x1024 .f32) : FVec Ideal S4096x1024 .bf16 :=
  truncf .bf16 (shapeCast S4096x1024 x shapeCasts_S2x2048x1024_S4096x1024) bitsLt_bf16_f32

theorem entry_ins (c : Dev nD) : V m c main_v1 = ins (m ((c : Thread nD τ).loc main_arg0)) := by
  unfold V
  after_reads_simp
  rfl

/-- The weights. -/
def weights (x : FVec Ideal S1024x4096 .f32) : FVec Ideal S1024x4096 .bf16 :=
  truncf .bf16 x bitsLt_bf16_f32

theorem entry_weights (c : Dev nD) : V m c main_v2 = weights (m ((c : Thread nD τ).loc main_arg1)) := by
  unfold V
  after_reads_simp
  rfl

/-- The squares of what is positive. -/
def square {M N : ℕ} (f : Fin M → Fin N → EReal) (r : Fin M) (l : Fin N) : EReal := max (f r l) 0 * max (f r l) 0

theorem zero : Ideal.ofBits .f32 0x00000000#32 = (0 : EReal) := by
  simp [Ideal.ofBits, Ideal.ieee]

theorem index0 : ∀ t : Fin cfg0.N, win0_0.index t = ![(grid0.coords t 0).val, 0] := by decide +kernel
theorem index1 : ∀ t : Fin cfg0.N, win0_1.index t = ![0, (grid0.coords t 1).val] := by decide +kernel
theorem index2 : ∀ t : Fin cfg0.N, win0_2.index t = ![(grid0.coords t 0).val, (grid0.coords t 1).val] := by decide +kernel

theorem payload (x : Vec Ideal S1024x1024 .bf16) (y : Vec Ideal S1024x1024 .bf16) (r : Fin 1024) (l : Fin 1024) :
    k0_pay1 x y (ix2 r l) = square (rowCol (M := 1024) (N := 1024) (K := 1024) x y) r l := by
  unfold k0_pay1 rowCol square
  pointwise [zero]

/-- What a grid point reads of the left matrix, whatever that matrix is. -/
theorem read0 (c : Dev nD) (t : Fin cfg0.N) (X : FVec Ideal S4096x1024 .bf16) (hX : V m c main_v1 = X) :
    iblk m c 0 t = ((cfg0.win 0).blk t).view.read (Elt Ideal) X := by
  subst hX
  rfl

/-- What a grid point reads of the right matrix. -/
theorem read1 (c : Dev nD) (t : Fin cfg0.N) (Y : FVec Ideal S1024x4096 .bf16) (hY : V m c main_v2 = Y) :
    iblk m c 1 t = ((cfg0.win 1).blk t).view.read (Elt Ideal) Y := by
  subst hY
  rfl

/-- The array the call leaves is the product of the two it takes, with what is positive squared. -/
theorem final (c : Dev nD) (X : FVec Ideal S4096x1024 .bf16) (Y : FVec Ideal S1024x4096 .bf16) (hX : V m c main_v1 = X) (hY : V m c main_v2 = Y) :
    (dats m 0 c).arrAt 2 cfg0.N = (mat (square (rowCol (M := 4096) (N := 4096) (K := 1024) X Y)) : FVec Ideal S4096x4096 .bf16) := by
  refine (dats m 0 c).arrAt_eq_of_covers 2 _ (by decide +kernel) fun t hf y => ?_
  blk_simp
  rw [after0_2]
  frame_out
  obtain ⟨r, l, rfl⟩ : ∃ (r : Fin 1024) (l : Fin 1024), y = (ix2 r l : S1024x1024.Idx) := ⟨_, _, ix_eta y⟩
  rw [payload]
  rw [read0 m c t X hX, read1 m c t Y hY]
  refine congrArg (fun q : EReal => max q 0 * max q 0) ?_
  refine rowCol_congr (fun k => ?_) (fun k => ?_) <;> blk_ext [index0 t, index1 t, index2 t]

end

section

open Cert.Mlp1ReferenceIdeal Cert.Mlp1ReferenceIdeal.Gen

/-- The reference's array. -/
theorem reference (x : FVec Ideal S2x2048x1024 .f32) (w : FVec Ideal S1024x4096 .f32) :
    (truncf .bf16 (shapeCast _ (mulf (maximumf (Host.dotGeneral (F := Ideal) dot_S2x2048x1024_S1024x4096_S2x2048x4096_2_0_01_1_n_n none x w) (broadcastInDim S2x2048x4096 ![] bcast_S_S2x2048x4096 (constant S_ .f32 0x00000000#32))) (maximumf (Host.dotGeneral (F := Ideal) dot_S2x2048x1024_S1024x4096_S2x2048x4096_2_0_01_1_n_n none x w) (broadcastInDim S2x2048x4096 ![] bcast_S_S2x2048x4096 (constant S_ .f32 0x00000000#32)))) shapeCasts_S2x2048x4096_S4096x4096) bitsLt_bf16_f32 : FVec Ideal S4096x4096 .bf16)
      = mat (square (rowCol (M := 4096) (N := 4096) (K := 1024) (ins x) (weights w))) := by
  funext i
  obtain ⟨r, l, rfl⟩ : ∃ (r : Fin 4096) (l : Fin 4096), i = (ix2 r l : S4096x4096.Idx) := ⟨_, _, ix_eta i⟩
  unfold mat rowCol square
  unfold ins weights
  pointwise

end

open Cert.Mlp1Ideal Cert.Mlp1Ideal.Gen

theorem frame : Cert.quiescent_Mlp1 := fun m ρ _ => Cert.Mlp1.Gen.frame m ρ
theorem frame_ideal : Cert.quiescent_Mlp1Ideal := fun m ρ _ => Cert.Mlp1Ideal.Gen.frame m ρ
theorem frame_reference : Cert.quiescent_Mlp1ReferenceIdeal := fun m ρ _ =>
  (θ_run Cert.Mlp1ReferenceIdeal.defs _ _).mono (fun r h => ⟨fun c => (h c).2, sem_eq_zero_of_no_sems (by decide) r.2⟩)
    (Cert.Mlp1ReferenceIdeal.Value.run (F := Ideal) m ρ)

/-- The call and the reference end with the same array. -/
theorem algebraic : Cert.algebraic_Mlp1Ideal_Mlp1ReferenceIdeal := by
  intro m g m' g' _ hagree
  refine ⟨fun c : Dev nD => mat (square (rowCol (M := 4096) (N := 4096) (K := 1024) (ins (m ((c.tc : Thread nD τ).loc main_arg0))) (weights (m ((c.tc : Thread nD τ).loc main_arg1))))), ?_, ?_⟩
  · exact (θ_run Cert.Mlp1Ideal.defs _ _).mono
      (fun r h c => ⟨(h c).1.trans (final m c _ _ (entry_ins m c) (entry_weights m c)), (h c).2⟩) (Cert.Mlp1Ideal.Value.run_blocks m g)
  · refine (θ_run Cert.Mlp1ReferenceIdeal.defs _ _).mono (fun r h c => ⟨(h c).1.trans ?_, (h c).2⟩) (Cert.Mlp1ReferenceIdeal.Value.run m' g')
    rw [(hagree c).1, (hagree c).2]
    exact reference _ _

end Cert.Proof.Mlp1

end
-- ==== Proof.Mlp2.lean ====
/- The call `mlp2`: the feed-forward's second product. -/
module

public import proofs.«01_k».proof.Defs
public import proofs.«01_k».proof.Proof.Products
public import proofs.«01_k».proof.Proof.Gen.Mlp2Ideal.Value
public import proofs.«01_k».proof.Proof.Gen.Mlp2ReferenceIdeal.Run
public import proofs.«01_k».proof.Proof.Gen.Mlp2.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.Mlp2

open Idealize.ShloMosaic Idealize.ShloMosaic.TcCoe Idealize.SL.Sem Products

section

open Cert.Mlp2Ideal Cert.Mlp2Ideal.Gen

variable (m : (ℓ : Loc nD τ sig) → Buf (Elt Ideal) ℓ)

/-- The input's rows. -/
def ins (x : FVec Ideal S2x2048x4096 .f32) : FVec Ideal S4096x4096 .bf16 :=
  truncf .bf16 (shapeCast S4096x4096 (mulf (maximumf x (broadcastInDim S2x2048x4096 ![] bcast_S_S2x2048x4096 (constant S_ .f32 0x00000000#32)))
    (maximumf x (broadcastInDim S2x2048x4096 ![] bcast_S_S2x2048x4096 (constant S_ .f32 0x00000000#32)))) shapeCasts_S2x2048x4096_S4096x4096) bitsLt_bf16_f32

theorem entry_ins (c : Dev nD) : V m c main_v3 = ins (m ((c : Thread nD τ).loc main_arg0)) := by
  unfold V
  after_reads_simp
  simp only [StableHlo.TRef.toBuf, StableHlo.TRef.ofBuf, cast_eq]
  rfl

/-- The weights. -/
def weights (x : FVec Ideal S4096x1024 .f32) : FVec Ideal S4096x1024 .bf16 :=
  truncf .bf16 x bitsLt_bf16_f32

theorem entry_weights (c : Dev nD) : V m c main_v4 = weights (m ((c : Thread nD τ).loc main_arg1)) := by
  unfold V
  after_reads_simp
  rfl

theorem index0 : ∀ t : Fin cfg0.N, win0_0.index t = ![(grid0.coords t 0).val, 0] := by decide +kernel
theorem index1 : ∀ t : Fin cfg0.N, win0_1.index t = ![0, (grid0.coords t 1).val] := by decide +kernel
theorem index2 : ∀ t : Fin cfg0.N, win0_2.index t = ![(grid0.coords t 0).val, (grid0.coords t 1).val] := by decide +kernel

theorem payload (x : Vec Ideal S512x4096 .bf16) (y : Vec Ideal S4096x1024 .bf16) (r : Fin 512) (l : Fin 1024) :
    k0_pay1 x y (ix2 r l) = rowCol (M := 512) (N := 1024) (K := 4096) x y r l := by
  unfold k0_pay1 rowCol
  pointwise

/-- What a grid point reads of the left matrix, whatever that matrix is. -/
theorem read0 (c : Dev nD) (t : Fin cfg0.N) (X : FVec Ideal S4096x4096 .bf16) (hX : V m c main_v3 = X) :
    iblk m c 0 t = ((cfg0.win 0).blk t).view.read (Elt Ideal) X := by
  subst hX
  rfl

/-- What a grid point reads of the right matrix. -/
theorem read1 (c : Dev nD) (t : Fin cfg0.N) (Y : FVec Ideal S4096x1024 .bf16) (hY : V m c main_v4 = Y) :
    iblk m c 1 t = ((cfg0.win 1).blk t).view.read (Elt Ideal) Y := by
  subst hY
  rfl

/-- The array the call leaves is the product of the two it takes. -/
theorem final (c : Dev nD) (X : FVec Ideal S4096x4096 .bf16) (Y : FVec Ideal S4096x1024 .bf16) (hX : V m c main_v3 = X) (hY : V m c main_v4 = Y) :
    (dats m 0 c).arrAt 2 cfg0.N = (mat (rowCol X Y) : FVec Ideal S4096x1024 .f32) := by
  refine (dats m 0 c).arrAt_eq_of_covers 2 _ (by decide +kernel) fun t hf y => ?_
  blk_simp
  rw [after0_2]
  frame_out
  obtain ⟨r, l, rfl⟩ : ∃ (r : Fin 512) (l : Fin 1024), y = (ix2 r l : S512x1024.Idx) := ⟨_, _, ix_eta y⟩
  rw [payload]
  rw [read0 m c t X hX, read1 m c t Y hY]
  refine rowCol_congr (fun k => ?_) (fun k => ?_) <;> blk_ext [index0 t, index1 t, index2 t]

end

section

open Cert.Mlp2ReferenceIdeal Cert.Mlp2ReferenceIdeal.Gen

/-- The reference's array. -/
theorem reference (x : FVec Ideal S2x2048x4096 .f32) (w : FVec Ideal S4096x1024 .f32) :
    (shapeCast _ (Host.dotGeneral (F := Ideal) dot_S2x2048x4096_S4096x1024_S2x2048x1024_2_0_01_1_n_n none (mulf (maximumf x (broadcastInDim S2x2048x4096 ![] bcast_S_S2x2048x4096 (constant S_ .f32 0x00000000#32))) (maximumf x (broadcastInDim S2x2048x4096 ![] bcast_S_S2x2048x4096 (constant S_ .f32 0x00000000#32)))) w) shapeCasts_S2x2048x1024_S4096x1024 : FVec Ideal S4096x1024 .f32)
      = mat (rowCol (ins x) (weights w)) := by
  funext i
  obtain ⟨r, l, rfl⟩ : ∃ (r : Fin 4096) (l : Fin 1024), i = (ix2 r l : S4096x1024.Idx) := ⟨_, _, ix_eta i⟩
  unfold mat rowCol
  unfold ins weights
  pointwise

end

open Cert.Mlp2Ideal Cert.Mlp2Ideal.Gen

theorem frame : Cert.quiescent_Mlp2 := fun m ρ _ => Cert.Mlp2.Gen.frame m ρ
theorem frame_ideal : Cert.quiescent_Mlp2Ideal := fun m ρ _ => Cert.Mlp2Ideal.Gen.frame m ρ
theorem frame_reference : Cert.quiescent_Mlp2ReferenceIdeal := fun m ρ _ =>
  (θ_run Cert.Mlp2ReferenceIdeal.defs _ _).mono (fun r h => ⟨fun c => (h c).2, sem_eq_zero_of_no_sems (by decide) r.2⟩)
    (Cert.Mlp2ReferenceIdeal.Value.run (F := Ideal) m ρ)

/-- The call and the reference end with the same array. -/
theorem algebraic : Cert.algebraic_Mlp2Ideal_Mlp2ReferenceIdeal := by
  intro m g m' g' _ hagree
  refine ⟨fun c : Dev nD => mat (rowCol (ins (m ((c.tc : Thread nD τ).loc main_arg0))) (weights (m ((c.tc : Thread nD τ).loc main_arg1)))), ?_, ?_⟩
  · exact (θ_run Cert.Mlp2Ideal.defs _ _).mono
      (fun r h c => ⟨(h c).1.trans (final m c _ _ (entry_ins m c) (entry_weights m c)), (h c).2⟩) (Cert.Mlp2Ideal.Value.run_blocks m g)
  · refine (θ_run Cert.Mlp2ReferenceIdeal.defs _ _).mono (fun r h c => ⟨(h c).1.trans ?_, (h c).2⟩) (Cert.Mlp2ReferenceIdeal.Value.run m' g')
    rw [(hagree c).1, (hagree c).2]
    exact reference _ _

end Cert.Proof.Mlp2

end
-- ==== Proof.Pieces.lean ====
/- The ten pieces of the first projection's cotangent and the order of its columns, as the host makes them for the calls
`proj_dx`, `proj_dw_a` and `proj_dw_b`, read entry by entry. -/
module

public import proofs.«01_k».proof.Proof.Products
public import proofs.«01_k».proof.Proof.Gen.ProjDxIdeal.Launch
public import Idealize.ShloMosaic.Lib.Pointwise

@[expose] public section

set_option maxRecDepth 16384

noncomputable section

namespace Cert.Proof.Pieces

open Idealize.ShloMosaic Cert.ProjDxIdeal Cert.ProjDxIdeal.Gen Idealize.ShloMosaic.TcCoe Idealize.SL.Sem Products

/-- The cotangent at a row and a column, 0 past the last column. -/
def cot (d : FVec Ideal S2x2048x5552 .f32) (r : Fin 4096) (n : ℕ) : EReal :=
  if h : n < 5552 then d (ix3 ⟨r.val / 2048, by omega⟩ ⟨r.val % 2048, by omega⟩ ⟨n, h⟩) else 0

/-- The weights at a row and a column, 0 past the last column. -/
def weight (w : FVec Ideal S1024x5552 .f32) (l : Fin 1024) (n : ℕ) : EReal := if h : n < 5552 then w (ix2 l ⟨n, h⟩) else 0

theorem at_column (w : FVec Ideal S1024x5552 .f32) (l : Fin 1024) {i : Fin 5552} {n : ℕ} (h : i.val = n) (h' : n < 5552) :
    w (ix2 l i) = weight w l n := by
  subst h
  unfold weight
  rw [dif_pos h']

theorem at_cot (d : FVec Ideal S2x2048x5552 .f32) (r : Fin 4096) {b : Fin 2} {s : Fin 2048} {i : Fin 5552} {n : ℕ} (hb : b.val = r.val / 2048)
    (hs : s.val = r.val % 2048) (h : i.val = n) : d (ix3 b s i) = cot d r n := by
  subst h
  unfold cot
  rw [dif_pos i.isLt]
  congr 2 <;> apply Fin.ext <;> assumption

def q (d : FVec Ideal S2x2048x5552 .f32) : FVec Ideal S4096x512 .bf16 :=
  truncf .bf16 (shapeCast S4096x512 (extractStridedSlice S2x2048x512 ![0, 0, 0] d slices_S2x2048x5552_S2x2048x512_0_0_0) shapeCasts_S2x2048x512_S4096x512) bitsLt_bf16_f32

def key (d : FVec Ideal S2x2048x5552 .f32) : FVec Ideal S4096x512 .bf16 :=
  truncf .bf16 (shapeCast S4096x512 (extractStridedSlice S2x2048x512 ![0, 0, 512] d slices_S2x2048x5552_S2x2048x512_0_0_512) shapeCasts_S2x2048x512_S4096x512) bitsLt_bf16_f32

def val (d : FVec Ideal S2x2048x5552 .f32) : FVec Ideal S4096x1024 .bf16 :=
  truncf .bf16 (shapeCast S4096x1024 (extractStridedSlice S2x2048x1024 ![0, 0, 1024] d slices_S2x2048x5552_S2x2048x1024_0_0_1024) shapeCasts_S2x2048x1024_S4096x1024) bitsLt_bf16_f32

def gate (d : FVec Ideal S2x2048x5552 .f32) : FVec Ideal S4096x1024 .bf16 :=
  truncf .bf16 (shapeCast S4096x1024 (extractStridedSlice S2x2048x1024 ![0, 0, 2048] d slices_S2x2048x5552_S2x2048x1024_0_0_2048) shapeCasts_S2x2048x1024_S4096x1024) bitsLt_bf16_f32

def mergeA (d : FVec Ideal S2x2048x5552 .f32) : FVec Ideal S4096x1024 .bf16 :=
  truncf .bf16 (shapeCast S4096x1024 (extractStridedSlice S2x2048x1024 ![0, 0, 3504] d slices_S2x2048x5552_S2x2048x1024_0_0_3504) shapeCasts_S2x2048x1024_S4096x1024) bitsLt_bf16_f32

def mergeB (d : FVec Ideal S2x2048x5552 .f32) : FVec Ideal S4096x1024 .bf16 :=
  truncf .bf16 (shapeCast S4096x1024 (extractStridedSlice S2x2048x1024 ![0, 0, 4528] d slices_S2x2048x5552_S2x2048x1024_0_0_4528) shapeCasts_S2x2048x1024_S4096x1024) bitsLt_bf16_f32

def latQ (d : FVec Ideal S2x2048x5552 .f32) : FVec Ideal S4096x256 .bf16 :=
  truncf .bf16 (shapeCast S4096x256 (extractStridedSlice S2x2048x256 ![0, 0, 3088] d slices_S2x2048x5552_S2x2048x256_0_0_3088) shapeCasts_S2x2048x256_S4096x256) bitsLt_bf16_f32

def latKv (d : FVec Ideal S2x2048x5552 .f32) : FVec Ideal S4096x128 .bf16 :=
  truncf .bf16 (shapeCast S4096x128 (extractStridedSlice S2x2048x128 ![0, 0, 3344] d slices_S2x2048x5552_S2x2048x128_0_0_3344) shapeCasts_S2x2048x128_S4096x128) bitsLt_bf16_f32

def decay (d : FVec Ideal S2x2048x5552 .f32) : FVec Ideal S4096x128 .bf16 :=
  truncf .bf16 (shapeCast S4096x128 (pad S2x2048x128 ![0, 0, 0] ![0, 0, 112] ![0, 0, 0] (extractStridedSlice S2x2048x16 ![0, 0, 3072] d slices_S2x2048x5552_S2x2048x16_0_0_3072)
    (sitofp .f32 (constantI S_ 32 0#32)) pads_S2x2048x16_S2x2048x128_000_000_01120 h_S_) shapeCasts_S2x2048x128_S4096x128) bitsLt_bf16_f32

def kpe (d : FVec Ideal S2x2048x5552 .f32) : FVec Ideal S4096x128 .f32 :=
  shapeCast S4096x128 (pad S2x2048x128 ![0, 0, 64] ![0, 0, 32] ![0, 0, 0] (extractStridedSlice S2x2048x32 ![0, 0, 3472] d slices_S2x2048x5552_S2x2048x32_0_0_3472)
    (sitofp .f32 (constantI S_ 32 0#32)) pads_S2x2048x32_S2x2048x128_000_000_64320 h_S_) shapeCasts_S2x2048x128_S4096x128

theorem q_at (d : FVec Ideal S2x2048x5552 .f32) (r : Fin 4096) (k : Fin 512) : q d (ix2 r k) = cot d r (0 + k.val) := by
  unfold q cot
  rw [dif_pos (by omega)]
  pointwise

theorem key_at (d : FVec Ideal S2x2048x5552 .f32) (r : Fin 4096) (k : Fin 512) : key d (ix2 r k) = cot d r (512 + k.val) := by
  unfold key cot
  rw [dif_pos (by omega)]
  pointwise

theorem val_at (d : FVec Ideal S2x2048x5552 .f32) (r : Fin 4096) (k : Fin 1024) : val d (ix2 r k) = cot d r (1024 + k.val) := by
  unfold val cot
  rw [dif_pos (by omega)]
  pointwise

theorem gate_at (d : FVec Ideal S2x2048x5552 .f32) (r : Fin 4096) (k : Fin 1024) : gate d (ix2 r k) = cot d r (2048 + k.val) := by
  unfold gate cot
  rw [dif_pos (by omega)]
  pointwise

theorem mergeA_at (d : FVec Ideal S2x2048x5552 .f32) (r : Fin 4096) (k : Fin 1024) : mergeA d (ix2 r k) = cot d r (3504 + k.val) := by
  unfold mergeA cot
  rw [dif_pos (by omega)]
  pointwise

theorem mergeB_at (d : FVec Ideal S2x2048x5552 .f32) (r : Fin 4096) (k : Fin 1024) : mergeB d (ix2 r k) = cot d r (4528 + k.val) := by
  unfold mergeB cot
  rw [dif_pos (by omega)]
  pointwise

theorem latQ_at (d : FVec Ideal S2x2048x5552 .f32) (r : Fin 4096) (k : Fin 256) : latQ d (ix2 r k) = cot d r (3088 + k.val) := by
  unfold latQ cot
  rw [dif_pos (by omega)]
  pointwise

theorem latKv_at (d : FVec Ideal S2x2048x5552 .f32) (r : Fin 4096) (k : Fin 128) : latKv d (ix2 r k) = cot d r (3344 + k.val) := by
  unfold latKv cot
  rw [dif_pos (by omega)]
  pointwise

theorem decay_at (d : FVec Ideal S2x2048x5552 .f32) (r : Fin 4096) (k : Fin 128) :
    decay d (ix2 r k) = if k.val < 16 then cot d r (3072 + k.val) else 0 := by
  unfold decay
  pointwise
  by_cases h : k.val < 16
  · exact (dif_pos ⟨by omega, by omega, h⟩).trans ((at_cot d r rfl rfl (by dsimp only <;> omega)).trans (if_pos h).symm)
  · exact (dif_neg (fun q => h q.2.2)).trans (pad_value.trans (if_neg h).symm)

theorem kpe_at (d : FVec Ideal S2x2048x5552 .f32) (r : Fin 4096) (k : Fin 128) :
    kpe d (ix2 r k) = if 64 ≤ k.val ∧ k.val < 96 then cot d r (3472 + (k.val - 64)) else 0 := by
  unfold kpe
  pointwise
  by_cases h : 64 ≤ k.val ∧ k.val < 96
  · exact (dif_pos ⟨by omega, by omega, by omega⟩).trans ((at_cot d r rfl rfl (by dsimp only <;> omega)).trans (if_pos h).symm)
  · exact (dif_neg (fun q => h (by omega))).trans (pad_value.trans (if_neg h).symm)

/-- The weights, in the order of columns the calls read. -/
def columns (x : FVec Ideal S1024x5552 .f32) : FVec Ideal S1024x5760 .bf16 :=
  truncf .bf16 (concatenate S1024x5760 1 [⟨S1024x3072, (extractStridedSlice S1024x3072 ![0, 0] x slices_S1024x5552_S1024x3072_0_0 : FVec Ideal S1024x3072 .f32)⟩,
    ⟨S1024x2048, (extractStridedSlice S1024x2048 ![0, 3504] x slices_S1024x5552_S1024x2048_0_3504 : FVec Ideal S1024x2048 .f32)⟩,
    ⟨S1024x384, (extractStridedSlice S1024x384 ![0, 3088] x slices_S1024x5552_S1024x384_0_3088 : FVec Ideal S1024x384 .f32)⟩,
    ⟨S1024x16, (extractStridedSlice S1024x16 ![0, 3072] x slices_S1024x5552_S1024x16_0_3072 : FVec Ideal S1024x16 .f32)⟩,
    ⟨S1024x176, (broadcastInDim S1024x176 ![] bcast_S_S1024x176 (constant S_ .f32 0x00000000#32) : FVec Ideal S1024x176 .f32)⟩,
    ⟨S1024x32, (extractStridedSlice S1024x32 ![0, 3472] x slices_S1024x5552_S1024x32_0_3472 : FVec Ideal S1024x32 .f32)⟩,
    ⟨S1024x32, (broadcastInDim S1024x32 ![] bcast_S_S1024x32 (constant S_ .f32 0x00000000#32) : FVec Ideal S1024x32 .f32)⟩]
    concatenates_S1024x3072_S1024x2048_S1024x384_S1024x16_S1024x176_S1024x32_S1024x32_S1024x5760_d1) bitsLt_bf16_f32

theorem columns_main (w : FVec Ideal S1024x5552 .f32) (l : Fin 1024) (n : Fin 5760) (h : 0 ≤ n.val) (h' : n.val < 3072) :
    columns w (ix2 l n) = weight w l (0 + (n.val - 0)) := by
  unfold columns
  pointwise
  exact (dif_pos (by omega)).trans (at_column w l (by dsimp only <;> omega) (by omega))

theorem columns_merge (w : FVec Ideal S1024x5552 .f32) (l : Fin 1024) (n : Fin 5760) (h : 3072 ≤ n.val) (h' : n.val < 5120) :
    columns w (ix2 l n) = weight w l (3504 + (n.val - 3072)) := by
  unfold columns
  pointwise
  exact (dif_neg (by omega)).trans ((dif_pos (by omega)).trans (at_column w l (by dsimp only <;> omega) (by omega)))

theorem columns_latent (w : FVec Ideal S1024x5552 .f32) (l : Fin 1024) (n : Fin 5760) (h : 5120 ≤ n.val) (h' : n.val < 5504) :
    columns w (ix2 l n) = weight w l (3088 + (n.val - 5120)) := by
  unfold columns
  pointwise
  exact (dif_neg (by omega)).trans ((dif_neg (by omega)).trans ((dif_pos (by omega)).trans (at_column w l (by dsimp only <;> omega) (by omega))))

theorem columns_decay (w : FVec Ideal S1024x5552 .f32) (l : Fin 1024) (n : Fin 5760) (h : 5504 ≤ n.val) (h' : n.val < 5520) :
    columns w (ix2 l n) = weight w l (3072 + (n.val - 5504)) := by
  unfold columns
  pointwise
  exact (dif_neg (by omega)).trans ((dif_neg (by omega)).trans ((dif_neg (by omega)).trans ((dif_pos (by omega)).trans (at_column w l (by dsimp only <;> omega) (by omega)))))

theorem columns_gap (w : FVec Ideal S1024x5552 .f32) (l : Fin 1024) (n : Fin 5760) (h : 5520 ≤ n.val) (h' : n.val < 5696) :
    columns w (ix2 l n) = 0 := by
  unfold columns
  pointwise
  exact (dif_neg (by omega)).trans ((dif_neg (by omega)).trans ((dif_neg (by omega)).trans ((dif_neg (by omega)).trans (dif_pos (by omega)))))

theorem columns_kpe (w : FVec Ideal S1024x5552 .f32) (l : Fin 1024) (n : Fin 5760) (h : 5696 ≤ n.val) (h' : n.val < 5728) :
    columns w (ix2 l n) = weight w l (3472 + (n.val - 5696)) := by
  unfold columns
  pointwise
  exact (dif_neg (by omega)).trans ((dif_neg (by omega)).trans ((dif_neg (by omega)).trans ((dif_neg (by omega)).trans ((dif_neg (by omega)).trans ((dif_pos (by omega)).trans (at_column w l (by dsimp only <;> omega) (by omega)))))))

theorem columns_end (w : FVec Ideal S1024x5552 .f32) (l : Fin 1024) (n : Fin 5760) (h : 5728 ≤ n.val) (h' : n.val < 5760) :
    columns w (ix2 l n) = 0 := by
  unfold columns
  pointwise
  exact (dif_neg (by omega)).trans ((dif_neg (by omega)).trans ((dif_neg (by omega)).trans ((dif_neg (by omega)).trans ((dif_neg (by omega)).trans ((dif_neg (by omega)).trans rfl)))))

/-- A product of two blocks, in the rows they hold. -/
theorem tile {W : ℕ} {X : (⟨2, ![1024, 1024]⟩ : Shape).Idx → EReal} {Y : (⟨2, ![1024, W]⟩ : Shape).Idx → EReal} {H : Fin 1024 → Fin 1024 → EReal}
    {D : Fin 1024 → ℕ → EReal} {o : ℕ} (hX : ∀ k l, X (ix2 k l) = H k l) (hY : ∀ k l, Y (ix2 k l) = D k (o + l.val)) {a u : Fin 1024} {b : Fin W} {n : ℕ}
    (hu : u.val = a.val) (hn : n = o + b.val) : colCol X Y a b = ∑ k, H k u * D k n := by
  obtain rfl := Fin.ext hu
  subst hn
  exact Finset.sum_congr rfl fun k _ => by rw [hX, hY]

/-- A sum over lanes that are zero but for `n` lanes from lane `a` on, which hold the terms `o`, `o + 1`, … of a sequence. -/
theorem sum_lanes {W : ℕ} (a n o : ℕ) (han : a + n ≤ W) (g : Fin W → EReal) (f : ℕ → EReal)
    (h : ∀ k : Fin W, a ≤ k.val → k.val < a + n → g k = f (o + (k.val - a)))
    (h0 : ∀ k : Fin W, ¬(a ≤ k.val ∧ k.val < a + n) → g k = 0) : ∑ k, g k = ∑ i ∈ Finset.Ico o (o + n), f i := by
  have e : ∀ k : Fin W, g k = (fun j : ℕ => if a ≤ j ∧ j < a + n then f (o + (j - a)) else 0) k.val := fun k => by
    by_cases q : a ≤ k.val ∧ k.val < a + n
    · exact (h k q.1 q.2).trans (if_pos q).symm
    · exact (h0 k q).trans (if_neg q).symm
  rw [Finset.sum_congr rfl fun k _ => e k, Fin.sum_univ_eq_sum_range (fun j : ℕ => if a ≤ j ∧ j < a + n then f (o + (j - a)) else 0),
    Finset.sum_Ico_eq_sum_range, Nat.add_sub_cancel_left,
    ← Finset.sum_subset (s₁ := Finset.Ico a (a + n)) (fun j hj => by rw [Finset.mem_range]; rw [Finset.mem_Ico] at hj; omega)
      (fun j _ hj => if_neg (by rwa [Finset.mem_Ico] at hj)), Finset.sum_Ico_eq_sum_range, Nat.add_sub_cancel_left]
  refine Finset.sum_congr rfl fun j hj => ?_
  rw [Finset.mem_range] at hj
  rw [if_pos (by omega), Nat.add_sub_cancel_left]

end Cert.Proof.Pieces

end
-- ==== Proof.ProjDx.lean ====
/- The call `proj_dx`: the gradient of the first projection with respect to its input, a sum of ten products. -/
module

public import proofs.«01_k».proof.Defs
public import proofs.«01_k».proof.Proof.Pieces
public import proofs.«01_k».proof.Proof.Gen.ProjDxIdeal.Value
public import proofs.«01_k».proof.Proof.Gen.ProjDxReferenceIdeal.Run
public import proofs.«01_k».proof.Proof.Gen.ProjDx.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.ProjDx

open Idealize.ShloMosaic Idealize.ShloMosaic.TcCoe Idealize.SL.Sem Products Pieces

section

open Cert.ProjDxIdeal Cert.ProjDxIdeal.Gen

variable (m : (ℓ : Loc nD τ sig) → Buf (Elt Ideal) ℓ)

theorem entry_q (c : Dev nD) : V m c main_v2 = q (m ((c : Thread nD τ).loc main_arg2)) := by
  unfold V
  after_reads_simp
  rfl

theorem entry_key (c : Dev nD) : V m c main_v5 = key (m ((c : Thread nD τ).loc main_arg2)) := by
  unfold V
  after_reads_simp
  rfl

theorem entry_val (c : Dev nD) : V m c main_v8 = val (m ((c : Thread nD τ).loc main_arg2)) := by
  unfold V
  after_reads_simp
  rfl

theorem entry_gate (c : Dev nD) : V m c main_v11 = gate (m ((c : Thread nD τ).loc main_arg2)) := by
  unfold V
  after_reads_simp
  rfl

theorem entry_mergeA (c : Dev nD) : V m c main_v14 = mergeA (m ((c : Thread nD τ).loc main_arg2)) := by
  unfold V
  after_reads_simp
  rfl

theorem entry_mergeB (c : Dev nD) : V m c main_v17 = mergeB (m ((c : Thread nD τ).loc main_arg2)) := by
  unfold V
  after_reads_simp
  rfl

theorem entry_latQ (c : Dev nD) : V m c main_v20 = latQ (m ((c : Thread nD τ).loc main_arg2)) := by
  unfold V
  after_reads_simp
  rfl

theorem entry_latKv (c : Dev nD) : V m c main_v23 = latKv (m ((c : Thread nD τ).loc main_arg2)) := by
  unfold V
  after_reads_simp
  rfl

theorem entry_decay (c : Dev nD) : V m c main_v27 = decay (m ((c : Thread nD τ).loc main_arg2)) := by
  unfold V
  after_reads_simp
  simp only [StableHlo.TRef.toBuf, StableHlo.TRef.ofBuf, cast_eq]
  rfl

theorem entry_kpe (c : Dev nD) : V m c main_v30 = kpe (m ((c : Thread nD τ).loc main_arg2)) := by
  unfold V
  after_reads_simp
  simp only [StableHlo.TRef.toBuf, StableHlo.TRef.ofBuf, cast_eq]
  rfl

theorem entry_columns (c : Dev nD) : V m c main_v39 = columns (m ((c : Thread nD τ).loc main_arg1)) := by
  unfold V
  after_reads_simp
  try simp only [StableHlo.TRef.toBuf, StableHlo.TRef.ofBuf, cast_eq]
  rfl

theorem index_out : ∀ t : Fin cfg0.N, win0_12.index t = ![(grid0.coords t 0).val, 0] := by decide +kernel
theorem index_cols : ∀ t : Fin cfg0.N, win0_10.index t = ![0, 0] := by decide +kernel
theorem index0 : ∀ t : Fin cfg0.N, win0_0.index t = ![(grid0.coords t 0).val, 0] := by decide +kernel
theorem index1 : ∀ t : Fin cfg0.N, win0_1.index t = ![(grid0.coords t 0).val, 0] := by decide +kernel
theorem index2 : ∀ t : Fin cfg0.N, win0_2.index t = ![(grid0.coords t 0).val, 0] := by decide +kernel
theorem index3 : ∀ t : Fin cfg0.N, win0_3.index t = ![(grid0.coords t 0).val, 0] := by decide +kernel
theorem index4 : ∀ t : Fin cfg0.N, win0_4.index t = ![(grid0.coords t 0).val, 0] := by decide +kernel
theorem index5 : ∀ t : Fin cfg0.N, win0_5.index t = ![(grid0.coords t 0).val, 0] := by decide +kernel
theorem index6 : ∀ t : Fin cfg0.N, win0_6.index t = ![(grid0.coords t 0).val, 0] := by decide +kernel
theorem index7 : ∀ t : Fin cfg0.N, win0_7.index t = ![(grid0.coords t 0).val, 0] := by decide +kernel
theorem index8 : ∀ t : Fin cfg0.N, win0_8.index t = ![(grid0.coords t 0).val, 0] := by decide +kernel
theorem index9 : ∀ t : Fin cfg0.N, win0_9.index t = ![(grid0.coords t 0).val, 0] := by decide +kernel

/-- One of the ten products: a piece's row against as many columns of the weights, from column `o` on. -/
def part {M K : ℕ} (x : (⟨2, ![M, K]⟩ : Shape).Idx → EReal) (w : (⟨2, ![1024, 5760]⟩ : Shape).Idx → EReal) (o : ℕ) (ho : o + K ≤ 5760) (r : Fin M) (l : Fin 1024) : EReal :=
  ∑ k : Fin K, x (ix2 r k) * w (ix2 l ⟨o + k.val, by omega⟩)

theorem part_congr {M M' K : ℕ} {x : (⟨2, ![M, K]⟩ : Shape).Idx → EReal} {X : (⟨2, ![M', K]⟩ : Shape).Idx → EReal} {w W : (⟨2, ![1024, 5760]⟩ : Shape).Idx → EReal} {o : ℕ} {ho : o + K ≤ 5760} {r : Fin M} {r' : Fin M'}
    {l l' : Fin 1024} (hx : ∀ k, x (ix2 r k) = X (ix2 r' k)) (hw : ∀ n, w (ix2 l n) = W (ix2 l' n)) : part x w o ho r l = part X W o ho r' l' :=
  Finset.sum_congr rfl fun k _ => by rw [hx k, hw _]

/-- The sum of the ten. -/
def total {M : ℕ} (x0 : (⟨2, ![M, 512]⟩ : Shape).Idx → EReal) (x1 : (⟨2, ![M, 512]⟩ : Shape).Idx → EReal) (x2 : (⟨2, ![M, 1024]⟩ : Shape).Idx → EReal) (x3 : (⟨2, ![M, 1024]⟩ : Shape).Idx → EReal) (x4 : (⟨2, ![M, 1024]⟩ : Shape).Idx → EReal) (x5 : (⟨2, ![M, 1024]⟩ : Shape).Idx → EReal) (x6 : (⟨2, ![M, 256]⟩ : Shape).Idx → EReal) (x7 : (⟨2, ![M, 128]⟩ : Shape).Idx → EReal) (x8 : (⟨2, ![M, 128]⟩ : Shape).Idx → EReal) (x9 : (⟨2, ![M, 128]⟩ : Shape).Idx → EReal)
    (x : (⟨2, ![1024, 5760]⟩ : Shape).Idx → EReal) (r : Fin M) (l : Fin 1024) : EReal :=
  part x0 x 0 (by omega) r l + part x1 x 512 (by omega) r l + part x2 x 1024 (by omega) r l + part x3 x 2048 (by omega) r l + part x4 x 3072 (by omega) r l + part x5 x 4096 (by omega) r l + part x6 x 5120 (by omega) r l + part x7 x 5376 (by omega) r l + part x8 x 5504 (by omega) r l + part x9 x 5632 (by omega) r l

theorem total_congr {M M' : ℕ} {x0 : (⟨2, ![M, 512]⟩ : Shape).Idx → EReal} {x1 : (⟨2, ![M, 512]⟩ : Shape).Idx → EReal} {x2 : (⟨2, ![M, 1024]⟩ : Shape).Idx → EReal} {x3 : (⟨2, ![M, 1024]⟩ : Shape).Idx → EReal} {x4 : (⟨2, ![M, 1024]⟩ : Shape).Idx → EReal} {x5 : (⟨2, ![M, 1024]⟩ : Shape).Idx → EReal} {x6 : (⟨2, ![M, 256]⟩ : Shape).Idx → EReal} {x7 : (⟨2, ![M, 128]⟩ : Shape).Idx → EReal} {x8 : (⟨2, ![M, 128]⟩ : Shape).Idx → EReal} {x9 : (⟨2, ![M, 128]⟩ : Shape).Idx → EReal}
    {X0 : (⟨2, ![M', 512]⟩ : Shape).Idx → EReal} {X1 : (⟨2, ![M', 512]⟩ : Shape).Idx → EReal} {X2 : (⟨2, ![M', 1024]⟩ : Shape).Idx → EReal} {X3 : (⟨2, ![M', 1024]⟩ : Shape).Idx → EReal} {X4 : (⟨2, ![M', 1024]⟩ : Shape).Idx → EReal} {X5 : (⟨2, ![M', 1024]⟩ : Shape).Idx → EReal} {X6 : (⟨2, ![M', 256]⟩ : Shape).Idx → EReal} {X7 : (⟨2, ![M', 128]⟩ : Shape).Idx → EReal} {X8 : (⟨2, ![M', 128]⟩ : Shape).Idx → EReal} {X9 : (⟨2, ![M', 128]⟩ : Shape).Idx → EReal} {x X : (⟨2, ![1024, 5760]⟩ : Shape).Idx → EReal} {r : Fin M} {r' : Fin M'} {l l' : Fin 1024}
    (h0 : ∀ k, x0 (ix2 r k) = X0 (ix2 r' k)) (h1 : ∀ k, x1 (ix2 r k) = X1 (ix2 r' k)) (h2 : ∀ k, x2 (ix2 r k) = X2 (ix2 r' k)) (h3 : ∀ k, x3 (ix2 r k) = X3 (ix2 r' k)) (h4 : ∀ k, x4 (ix2 r k) = X4 (ix2 r' k)) (h5 : ∀ k, x5 (ix2 r k) = X5 (ix2 r' k)) (h6 : ∀ k, x6 (ix2 r k) = X6 (ix2 r' k)) (h7 : ∀ k, x7 (ix2 r k) = X7 (ix2 r' k)) (h8 : ∀ k, x8 (ix2 r k) = X8 (ix2 r' k)) (h9 : ∀ k, x9 (ix2 r k) = X9 (ix2 r' k))
    (h : ∀ n, x (ix2 l n) = X (ix2 l' n)) : total x0 x1 x2 x3 x4 x5 x6 x7 x8 x9 x r l = total X0 X1 X2 X3 X4 X5 X6 X7 X8 X9 X r' l' := by
  unfold total
  rw [part_congr h0 h, part_congr h1 h, part_congr h2 h, part_congr h3 h, part_congr h4 h, part_congr h5 h, part_congr h6 h, part_congr h7 h, part_congr h8 h, part_congr h9 h]

theorem payload (x0 : (⟨2, ![512, 512]⟩ : Shape).Idx → EReal) (x1 : (⟨2, ![512, 512]⟩ : Shape).Idx → EReal) (x2 : (⟨2, ![512, 1024]⟩ : Shape).Idx → EReal) (x3 : (⟨2, ![512, 1024]⟩ : Shape).Idx → EReal) (x4 : (⟨2, ![512, 1024]⟩ : Shape).Idx → EReal) (x5 : (⟨2, ![512, 1024]⟩ : Shape).Idx → EReal) (x6 : (⟨2, ![512, 256]⟩ : Shape).Idx → EReal) (x7 : (⟨2, ![512, 128]⟩ : Shape).Idx → EReal) (x8 : (⟨2, ![512, 128]⟩ : Shape).Idx → EReal) (x9 : (⟨2, ![512, 128]⟩ : Shape).Idx → EReal)
    (x10 : (⟨2, ![1024, 5760]⟩ : Shape).Idx → EReal) (x11 : Vec Ideal S8x128 .f32) (r : Fin 512) (l : Fin 1024) :
    out0_12 (F := Ideal) x0 x1 x2 x3 x4 x5 x6 x7 x8 x9 x10 x11 (ix2 r l) = total x0 x1 x2 x3 x4 x5 x6 x7 x8 x9 x10 r l := by
  unfold out0_12 total part
  frame_out
  unfold k0_pay1 k0_pay2 k0_pay3
  pointwise

theorem read0 (c : Dev nD) (t : Fin cfg0.N) (X : FVec Ideal S4096x512 .bf16) (hX : V m c main_v2 = X) (r : Fin 512) (R : Fin 4096)
    (hR : R.val = 512 * (grid0.coords t 0).val + r.val) (k : Fin 512) : iblk m c 0 t (ix2 r k) = X (ix2 R k) := by
  have e : iblk m c 0 t = ((cfg0.win 0).blk t).view.read (Elt Ideal) X := by
    subst hX
    rfl
  rw [e]
  blk_ext [index0 t, hR]

theorem read1 (c : Dev nD) (t : Fin cfg0.N) (X : FVec Ideal S4096x512 .bf16) (hX : V m c main_v5 = X) (r : Fin 512) (R : Fin 4096)
    (hR : R.val = 512 * (grid0.coords t 0).val + r.val) (k : Fin 512) : iblk m c 1 t (ix2 r k) = X (ix2 R k) := by
  have e : iblk m c 1 t = ((cfg0.win 1).blk t).view.read (Elt Ideal) X := by
    subst hX
    rfl
  rw [e]
  blk_ext [index1 t, hR]

theorem read2 (c : Dev nD) (t : Fin cfg0.N) (X : FVec Ideal S4096x1024 .bf16) (hX : V m c main_v8 = X) (r : Fin 512) (R : Fin 4096)
    (hR : R.val = 512 * (grid0.coords t 0).val + r.val) (k : Fin 1024) : iblk m c 2 t (ix2 r k) = X (ix2 R k) := by
  have e : iblk m c 2 t = ((cfg0.win 2).blk t).view.read (Elt Ideal) X := by
    subst hX
    rfl
  rw [e]
  blk_ext [index2 t, hR]

theorem read3 (c : Dev nD) (t : Fin cfg0.N) (X : FVec Ideal S4096x1024 .bf16) (hX : V m c main_v11 = X) (r : Fin 512) (R : Fin 4096)
    (hR : R.val = 512 * (grid0.coords t 0).val + r.val) (k : Fin 1024) : iblk m c 3 t (ix2 r k) = X (ix2 R k) := by
  have e : iblk m c 3 t = ((cfg0.win 3).blk t).view.read (Elt Ideal) X := by
    subst hX
    rfl
  rw [e]
  blk_ext [index3 t, hR]

theorem read4 (c : Dev nD) (t : Fin cfg0.N) (X : FVec Ideal S4096x1024 .bf16) (hX : V m c main_v14 = X) (r : Fin 512) (R : Fin 4096)
    (hR : R.val = 512 * (grid0.coords t 0).val + r.val) (k : Fin 1024) : iblk m c 4 t (ix2 r k) = X (ix2 R k) := by
  have e : iblk m c 4 t = ((cfg0.win 4).blk t).view.read (Elt Ideal) X := by
    subst hX
    rfl
  rw [e]
  blk_ext [index4 t, hR]

theorem read5 (c : Dev nD) (t : Fin cfg0.N) (X : FVec Ideal S4096x1024 .bf16) (hX : V m c main_v17 = X) (r : Fin 512) (R : Fin 4096)
    (hR : R.val = 512 * (grid0.coords t 0).val + r.val) (k : Fin 1024) : iblk m c 5 t (ix2 r k) = X (ix2 R k) := by
  have e : iblk m c 5 t = ((cfg0.win 5).blk t).view.read (Elt Ideal) X := by
    subst hX
    rfl
  rw [e]
  blk_ext [index5 t, hR]

theorem read6 (c : Dev nD) (t : Fin cfg0.N) (X : FVec Ideal S4096x256 .bf16) (hX : V m c main_v20 = X) (r : Fin 512) (R : Fin 4096)
    (hR : R.val = 512 * (grid0.coords t 0).val + r.val) (k : Fin 256) : iblk m c 6 t (ix2 r k) = X (ix2 R k) := by
  have e : iblk m c 6 t = ((cfg0.win 6).blk t).view.read (Elt Ideal) X := by
    subst hX
    rfl
  rw [e]
  blk_ext [index6 t, hR]

theorem read7 (c : Dev nD) (t : Fin cfg0.N) (X : FVec Ideal S4096x128 .bf16) (hX : V m c main_v23 = X) (r : Fin 512) (R : Fin 4096)
    (hR : R.val = 512 * (grid0.coords t 0).val + r.val) (k : Fin 128) : iblk m c 7 t (ix2 r k) = X (ix2 R k) := by
  have e : iblk m c 7 t = ((cfg0.win 7).blk t).view.read (Elt Ideal) X := by
    subst hX
    rfl
  rw [e]
  blk_ext [index7 t, hR]

theorem read8 (c : Dev nD) (t : Fin cfg0.N) (X : FVec Ideal S4096x128 .bf16) (hX : V m c main_v27 = X) (r : Fin 512) (R : Fin 4096)
    (hR : R.val = 512 * (grid0.coords t 0).val + r.val) (k : Fin 128) : iblk m c 8 t (ix2 r k) = X (ix2 R k) := by
  have e : iblk m c 8 t = ((cfg0.win 8).blk t).view.read (Elt Ideal) X := by
    subst hX
    rfl
  rw [e]
  blk_ext [index8 t, hR]

theorem read9 (c : Dev nD) (t : Fin cfg0.N) (X : FVec Ideal S4096x128 .f32) (hX : V m c main_v30 = X) (r : Fin 512) (R : Fin 4096)
    (hR : R.val = 512 * (grid0.coords t 0).val + r.val) (k : Fin 128) : iblk m c 9 t (ix2 r k) = X (ix2 R k) := by
  have e : iblk m c 9 t = ((cfg0.win 9).blk t).view.read (Elt Ideal) X := by
    subst hX
    rfl
  rw [e]
  blk_ext [index9 t, hR]

theorem read_cols (c : Dev nD) (t : Fin cfg0.N) (X : FVec Ideal S1024x5760 .bf16) (hX : V m c main_v39 = X) (l : Fin 1024) (n : Fin 5760) :
    iblk m c 10 t (ix2 l n) = X (ix2 l n) := by
  have e : iblk m c 10 t = ((cfg0.win 10).blk t).view.read (Elt Ideal) X := by
    subst hX
    rfl
  rw [e]
  blk_ext [index_cols t]

/-- A block's row among all rows, -/
def row (t : Fin cfg0.N) (r : Fin 512) : Fin 4096 :=
  ⟨512 * (grid0.coords t 0).val + r.val, by have h : (grid0.coords t 0).val < 8 := (grid0.coords t 0).isLt; omega⟩

/-- where an entry of the block that a grid point writes lies in the array. -/
theorem place (t : Fin cfg0.N) (r : Fin 512) (l : Fin 1024) : (win0_12.blk t).view.emb (ix2 r l) = ix2 (row t r) l := by
  unfold row
  blk_ext [index_out t]

/-- The array the call leaves, in the pieces and the weights it takes. -/
theorem final (c : Dev nD) (X0 : FVec Ideal S4096x512 .bf16) (X1 : FVec Ideal S4096x512 .bf16) (X2 : FVec Ideal S4096x1024 .bf16) (X3 : FVec Ideal S4096x1024 .bf16) (X4 : FVec Ideal S4096x1024 .bf16) (X5 : FVec Ideal S4096x1024 .bf16) (X6 : FVec Ideal S4096x256 .bf16) (X7 : FVec Ideal S4096x128 .bf16) (X8 : FVec Ideal S4096x128 .bf16) (X9 : FVec Ideal S4096x128 .f32) (W : FVec Ideal S1024x5760 .bf16)
    (h0 : V m c main_v2 = X0) (h1 : V m c main_v5 = X1) (h2 : V m c main_v8 = X2) (h3 : V m c main_v11 = X3) (h4 : V m c main_v14 = X4) (h5 : V m c main_v17 = X5) (h6 : V m c main_v20 = X6) (h7 : V m c main_v23 = X7) (h8 : V m c main_v27 = X8) (h9 : V m c main_v30 = X9) (hW : V m c main_v39 = W) :
    (dats m 0 c).arrAt 12 cfg0.N = (mat (total X0 X1 X2 X3 X4 X5 X6 X7 X8 X9 W) : FVec Ideal S4096x1024 .f32) := by
  refine (dats m 0 c).arrAt_eq_of_covers 12 _ (by decide +kernel) fun t hf y => ?_
  blk_simp
  rw [after0_12]
  obtain ⟨r, l, rfl⟩ : ∃ (r : Fin 512) (l : Fin 1024), y = (ix2 r l : S512x1024.Idx) := ⟨_, _, ix_eta y⟩
  rw [payload]
  rw [place]
  exact total_congr (fun k => read0 m c t X0 h0 r _ rfl k) (fun k => read1 m c t X1 h1 r _ rfl k) (fun k => read2 m c t X2 h2 r _ rfl k) (fun k => read3 m c t X3 h3 r _ rfl k) (fun k => read4 m c t X4 h4 r _ rfl k) (fun k => read5 m c t X5 h5 r _ rfl k) (fun k => read6 m c t X6 h6 r _ rfl k) (fun k => read7 m c t X7 h7 r _ rfl k) (fun k => read8 m c t X8 h8 r _ rfl k) (fun k => read9 m c t X9 h9 r _ rfl k) (fun n => read_cols m c t W hW l n)

/-! ## The ten products together -/

theorem part_q (d : FVec Ideal S2x2048x5552 .f32) (w : FVec Ideal S1024x5552 .f32) (r : Fin 4096) (l : Fin 1024) :
    part (q d) (columns w) 0 (by omega) r l = ∑ n ∈ Finset.Ico 0 512, cot d r n * weight w l n := by
  refine sum_lanes 0 512 0 (by omega) _ (fun n => cot d r n * weight w l n) (fun k h h' => ?_) (fun k h => ?_)
  · rw [q_at, columns_main w l _ (by dsimp only <;> omega) (by dsimp only <;> omega)]
    exact congrArg₂ (· * ·) (congrArg (cot d r) (by first | omega | (dsimp only <;> omega))) (congrArg (weight w l) (by first | omega | (dsimp only <;> omega)))
  · exact absurd ⟨by omega, by omega⟩ h

theorem part_key (d : FVec Ideal S2x2048x5552 .f32) (w : FVec Ideal S1024x5552 .f32) (r : Fin 4096) (l : Fin 1024) :
    part (key d) (columns w) 512 (by omega) r l = ∑ n ∈ Finset.Ico 512 1024, cot d r n * weight w l n := by
  refine sum_lanes 0 512 512 (by omega) _ (fun n => cot d r n * weight w l n) (fun k h h' => ?_) (fun k h => ?_)
  · rw [key_at, columns_main w l _ (by dsimp only <;> omega) (by dsimp only <;> omega)]
    exact congrArg₂ (· * ·) (congrArg (cot d r) (by first | omega | (dsimp only <;> omega))) (congrArg (weight w l) (by first | omega | (dsimp only <;> omega)))
  · exact absurd ⟨by omega, by omega⟩ h

theorem part_val (d : FVec Ideal S2x2048x5552 .f32) (w : FVec Ideal S1024x5552 .f32) (r : Fin 4096) (l : Fin 1024) :
    part (val d) (columns w) 1024 (by omega) r l = ∑ n ∈ Finset.Ico 1024 2048, cot d r n * weight w l n := by
  refine sum_lanes 0 1024 1024 (by omega) _ (fun n => cot d r n * weight w l n) (fun k h h' => ?_) (fun k h => ?_)
  · rw [val_at, columns_main w l _ (by dsimp only <;> omega) (by dsimp only <;> omega)]
    exact congrArg₂ (· * ·) (congrArg (cot d r) (by first | omega | (dsimp only <;> omega))) (congrArg (weight w l) (by first | omega | (dsimp only <;> omega)))
  · exact absurd ⟨by omega, by omega⟩ h

theorem part_gate (d : FVec Ideal S2x2048x5552 .f32) (w : FVec Ideal S1024x5552 .f32) (r : Fin 4096) (l : Fin 1024) :
    part (gate d) (columns w) 2048 (by omega) r l = ∑ n ∈ Finset.Ico 2048 3072, cot d r n * weight w l n := by
  refine sum_lanes 0 1024 2048 (by omega) _ (fun n => cot d r n * weight w l n) (fun k h h' => ?_) (fun k h => ?_)
  · rw [gate_at, columns_main w l _ (by dsimp only <;> omega) (by dsimp only <;> omega)]
    exact congrArg₂ (· * ·) (congrArg (cot d r) (by first | omega | (dsimp only <;> omega))) (congrArg (weight w l) (by first | omega | (dsimp only <;> omega)))
  · exact absurd ⟨by omega, by omega⟩ h

theorem part_mergeA (d : FVec Ideal S2x2048x5552 .f32) (w : FVec Ideal S1024x5552 .f32) (r : Fin 4096) (l : Fin 1024) :
    part (mergeA d) (columns w) 3072 (by omega) r l = ∑ n ∈ Finset.Ico 3504 4528, cot d r n * weight w l n := by
  refine sum_lanes 0 1024 3504 (by omega) _ (fun n => cot d r n * weight w l n) (fun k h h' => ?_) (fun k h => ?_)
  · rw [mergeA_at, columns_merge w l _ (by dsimp only <;> omega) (by dsimp only <;> omega)]
    exact congrArg₂ (· * ·) (congrArg (cot d r) (by first | omega | (dsimp only <;> omega))) (congrArg (weight w l) (by first | omega | (dsimp only <;> omega)))
  · exact absurd ⟨by omega, by omega⟩ h

theorem part_mergeB (d : FVec Ideal S2x2048x5552 .f32) (w : FVec Ideal S1024x5552 .f32) (r : Fin 4096) (l : Fin 1024) :
    part (mergeB d) (columns w) 4096 (by omega) r l = ∑ n ∈ Finset.Ico 4528 5552, cot d r n * weight w l n := by
  refine sum_lanes 0 1024 4528 (by omega) _ (fun n => cot d r n * weight w l n) (fun k h h' => ?_) (fun k h => ?_)
  · rw [mergeB_at, columns_merge w l _ (by dsimp only <;> omega) (by dsimp only <;> omega)]
    exact congrArg₂ (· * ·) (congrArg (cot d r) (by first | omega | (dsimp only <;> omega))) (congrArg (weight w l) (by first | omega | (dsimp only <;> omega)))
  · exact absurd ⟨by omega, by omega⟩ h

theorem part_latQ (d : FVec Ideal S2x2048x5552 .f32) (w : FVec Ideal S1024x5552 .f32) (r : Fin 4096) (l : Fin 1024) :
    part (latQ d) (columns w) 5120 (by omega) r l = ∑ n ∈ Finset.Ico 3088 3344, cot d r n * weight w l n := by
  refine sum_lanes 0 256 3088 (by omega) _ (fun n => cot d r n * weight w l n) (fun k h h' => ?_) (fun k h => ?_)
  · rw [latQ_at, columns_latent w l _ (by dsimp only <;> omega) (by dsimp only <;> omega)]
    exact congrArg₂ (· * ·) (congrArg (cot d r) (by first | omega | (dsimp only <;> omega))) (congrArg (weight w l) (by first | omega | (dsimp only <;> omega)))
  · exact absurd ⟨by omega, by omega⟩ h

theorem part_latKv (d : FVec Ideal S2x2048x5552 .f32) (w : FVec Ideal S1024x5552 .f32) (r : Fin 4096) (l : Fin 1024) :
    part (latKv d) (columns w) 5376 (by omega) r l = ∑ n ∈ Finset.Ico 3344 3472, cot d r n * weight w l n := by
  refine sum_lanes 0 128 3344 (by omega) _ (fun n => cot d r n * weight w l n) (fun k h h' => ?_) (fun k h => ?_)
  · rw [latKv_at, columns_latent w l _ (by dsimp only <;> omega) (by dsimp only <;> omega)]
    exact congrArg₂ (· * ·) (congrArg (cot d r) (by first | omega | (dsimp only <;> omega))) (congrArg (weight w l) (by first | omega | (dsimp only <;> omega)))
  · exact absurd ⟨by omega, by omega⟩ h

theorem part_decay (d : FVec Ideal S2x2048x5552 .f32) (w : FVec Ideal S1024x5552 .f32) (r : Fin 4096) (l : Fin 1024) :
    part (decay d) (columns w) 5504 (by omega) r l = ∑ n ∈ Finset.Ico 3072 3088, cot d r n * weight w l n := by
  refine sum_lanes 0 16 3072 (by omega) _ (fun n => cot d r n * weight w l n) (fun k h h' => ?_) (fun k h => ?_)
  · rw [decay_at, if_pos (by omega), columns_decay w l _ (by dsimp only <;> omega) (by dsimp only <;> omega)]
    exact congrArg₂ (· * ·) (congrArg (cot d r) (by first | omega | (dsimp only <;> omega))) (congrArg (weight w l) (by first | omega | (dsimp only <;> omega)))
  · rw [decay_at, if_neg (by omega), zero_mul]

theorem part_kpe (d : FVec Ideal S2x2048x5552 .f32) (w : FVec Ideal S1024x5552 .f32) (r : Fin 4096) (l : Fin 1024) :
    part (kpe d) (columns w) 5632 (by omega) r l = ∑ n ∈ Finset.Ico 3472 3504, cot d r n * weight w l n := by
  refine sum_lanes 64 32 3472 (by omega) _ (fun n => cot d r n * weight w l n) (fun k h h' => ?_) (fun k h => ?_)
  · rw [kpe_at, if_pos (by omega), columns_kpe w l _ (by dsimp only <;> omega) (by dsimp only <;> omega)]
    exact congrArg₂ (· * ·) (congrArg (cot d r) (by first | omega | (dsimp only <;> omega))) (congrArg (weight w l) (by first | omega | (dsimp only <;> omega)))
  · rw [kpe_at, if_neg (by omega), zero_mul]

/-- The ten products together are the product of the cotangent with the weights. -/
theorem total_pieces (d : FVec Ideal S2x2048x5552 .f32) (w : FVec Ideal S1024x5552 .f32) (r : Fin 4096) (l : Fin 1024) :
    total (q d) (key d) (val d) (gate d) (mergeA d) (mergeB d) (latQ d) (latKv d) (decay d) (kpe d) (columns w) r l = ∑ n : Fin 5552, cot d r n.val * weight w l n.val := by
  unfold total
  rw [part_q, part_key, part_val, part_gate, part_mergeA, part_mergeB, part_latQ, part_latKv, part_decay, part_kpe]
  rw [Fin.sum_univ_eq_sum_range (fun n => cot d r n * weight w l n) 5552, Finset.range_eq_Ico]
  generalize (fun n => cot d r n * weight w l n) = f
  rw [← Finset.sum_Ico_consecutive f (show 0 ≤ 512 by omega) (show 512 ≤ 5552 by omega),
    ← Finset.sum_Ico_consecutive f (show 512 ≤ 1024 by omega) (show 1024 ≤ 5552 by omega), ← Finset.sum_Ico_consecutive f (show 1024 ≤ 2048 by omega) (show 2048 ≤ 5552 by omega), ← Finset.sum_Ico_consecutive f (show 2048 ≤ 3072 by omega) (show 3072 ≤ 5552 by omega), ← Finset.sum_Ico_consecutive f (show 3072 ≤ 3088 by omega) (show 3088 ≤ 5552 by omega), ← Finset.sum_Ico_consecutive f (show 3088 ≤ 3344 by omega) (show 3344 ≤ 5552 by omega), ← Finset.sum_Ico_consecutive f (show 3344 ≤ 3472 by omega) (show 3472 ≤ 5552 by omega), ← Finset.sum_Ico_consecutive f (show 3472 ≤ 3504 by omega) (show 3504 ≤ 5552 by omega), ← Finset.sum_Ico_consecutive f (show 3504 ≤ 4528 by omega) (show 4528 ≤ 5552 by omega)]
  abel

end

section

open Cert.ProjDxReferenceIdeal Cert.ProjDxReferenceIdeal.Gen

/-- The reference's array. -/
theorem reference (w : FVec Ideal S1024x5552 .f32) (d : FVec Ideal S2x2048x5552 .f32) :
    (shapeCast S4096x1024 (Host.dotGeneral (F := Ideal) dot_S2x2048x5552_S1024x5552_S2x2048x1024_2_1_01_0_n_n none d w) shapeCasts_S2x2048x1024_S4096x1024 : FVec Ideal S4096x1024 .f32)
      = mat (total (q d) (key d) (val d) (gate d) (mergeA d) (mergeB d) (latQ d) (latKv d) (decay d) (kpe d) (columns w)) := by
  funext i
  obtain ⟨r, l, rfl⟩ : ∃ (r : Fin 4096) (l : Fin 1024), i = (ix2 r l : S4096x1024.Idx) := ⟨_, _, ix_eta i⟩
  show _ = total _ _ _ _ _ _ _ _ _ _ _ r l
  rw [total_pieces]
  pointwise
  refine Finset.sum_congr rfl fun n _ => ?_
  rw [at_cot d r rfl rfl rfl, at_column w l rfl n.isLt]

end

open Cert.ProjDxIdeal Cert.ProjDxIdeal.Gen

theorem frame : Cert.quiescent_ProjDx := fun m ρ _ => Cert.ProjDx.Gen.frame m ρ
theorem frame_ideal : Cert.quiescent_ProjDxIdeal := fun m ρ _ => Cert.ProjDxIdeal.Gen.frame m ρ
theorem frame_reference : Cert.quiescent_ProjDxReferenceIdeal := fun m ρ _ =>
  (θ_run Cert.ProjDxReferenceIdeal.defs _ _).mono (fun r h => ⟨fun c => (h c).2, sem_eq_zero_of_no_sems (by decide) r.2⟩)
    (Cert.ProjDxReferenceIdeal.Value.run (F := Ideal) m ρ)

/-- The call and the reference end with the same array. -/
theorem algebraic : Cert.algebraic_ProjDxIdeal_ProjDxReferenceIdeal := by
  intro m g m' g' _ hagree
  refine ⟨fun c : Dev nD => mat (total (q (m ((c.tc : Thread nD τ).loc main_arg2))) (key (m ((c.tc : Thread nD τ).loc main_arg2))) (val (m ((c.tc : Thread nD τ).loc main_arg2))) (gate (m ((c.tc : Thread nD τ).loc main_arg2))) (mergeA (m ((c.tc : Thread nD τ).loc main_arg2))) (mergeB (m ((c.tc : Thread nD τ).loc main_arg2))) (latQ (m ((c.tc : Thread nD τ).loc main_arg2))) (latKv (m ((c.tc : Thread nD τ).loc main_arg2))) (decay (m ((c.tc : Thread nD τ).loc main_arg2))) (kpe (m ((c.tc : Thread nD τ).loc main_arg2)))
    (columns (m ((c.tc : Thread nD τ).loc main_arg1)))), ?_, ?_⟩
  · exact (θ_run Cert.ProjDxIdeal.defs _ _).mono
      (fun r h c => ⟨(h c).1.trans (final m c _ _ _ _ _ _ _ _ _ _ _ (entry_q m c) (entry_key m c) (entry_val m c) (entry_gate m c) (entry_mergeA m c) (entry_mergeB m c) (entry_latQ m c) (entry_latKv m c) (entry_decay m c) (entry_kpe m c) (entry_columns m c)), (h c).2⟩) (Cert.ProjDxIdeal.Value.run_blocks m g)
  · refine (θ_run Cert.ProjDxReferenceIdeal.defs _ _).mono (fun r h c => ⟨(h c).1.trans ?_, (h c).2⟩) (Cert.ProjDxReferenceIdeal.Value.run m' g')
    rw [(hagree c).2.1, (hagree c).2.2]
    exact reference _ _

end Cert.Proof.ProjDx

end
-- ==== Proof.ProjDwA.lean ====
/- The call `proj_dw_a`: the gradient of the first projection with respect to the first 3072 columns of its weights. -/
module

public import proofs.«01_k».proof.Defs
public import proofs.«01_k».proof.Proof.Pieces
public import proofs.«01_k».proof.Proof.Gen.ProjDwAIdeal.Value
public import proofs.«01_k».proof.Proof.Gen.ProjDwAReferenceIdeal.Run
public import proofs.«01_k».proof.Proof.Gen.ProjDwA.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.ProjDwA

open Idealize.ShloMosaic Idealize.ShloMosaic.TcCoe Idealize.SL.Sem Products Pieces

section

open Cert.ProjDwAIdeal Cert.ProjDwAIdeal.Gen

variable (m : (ℓ : Loc nD τ sig) → Buf (Elt Ideal) ℓ)

/-- The input's rows. -/
def ins (x : FVec Ideal S2x2048x1024 .f32) : FVec Ideal S4096x1024 .bf16 :=
  truncf .bf16 (shapeCast S4096x1024 x shapeCasts_S2x2048x1024_S4096x1024) bitsLt_bf16_f32

theorem entry_ins (c : Dev nD) : V m c main_v1 = ins (m ((c : Thread nD τ).loc main_arg0)) := by
  unfold V
  after_reads_simp
  rfl

theorem entry_q (c : Dev nD) : V m c main_v4 = q (m ((c : Thread nD τ).loc main_arg2)) := by
  unfold V
  after_reads_simp
  rfl

theorem entry_key (c : Dev nD) : V m c main_v7 = key (m ((c : Thread nD τ).loc main_arg2)) := by
  unfold V
  after_reads_simp
  rfl

theorem entry_val (c : Dev nD) : V m c main_v10 = val (m ((c : Thread nD τ).loc main_arg2)) := by
  unfold V
  after_reads_simp
  rfl

theorem entry_gate (c : Dev nD) : V m c main_v13 = gate (m ((c : Thread nD τ).loc main_arg2)) := by
  unfold V
  after_reads_simp
  rfl

theorem index_out : ∀ t : Fin cfg0.N, win0_5.index t = ![0, 0] := by decide +kernel
theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel
theorem index3 : ∀ t : Fin cfg0.N, win0_3.index t = ![t.val, 0] := by decide +kernel
theorem index4 : ∀ t : Fin cfg0.N, win0_4.index t = ![t.val, 0] := by decide +kernel

theorem points (t : Fin cfg0.N) : t.val < 4 := lt_of_lt_of_eq t.isLt N_0

/-- A block's row among all rows. -/
def row (t : Fin cfg0.N) (k : Fin 1024) : Fin 4096 := ⟨1024 * t.val + k.val, by have := points t; omega⟩

theorem read0 (c : Dev nD) (t : Fin cfg0.N) (X : FVec Ideal S4096x1024 .bf16) (hX : V m c main_v1 = X) (k : Fin 1024) (l : Fin 1024) :
    iblk m c 0 t (ix2 k l) = X (ix2 (row t k) l) := by
  have e : iblk m c 0 t = ((cfg0.win 0).blk t).view.read (Elt Ideal) X := by
    subst hX
    rfl
  rw [e]
  unfold row
  blk_ext [index0 t]

theorem read1 (c : Dev nD) (t : Fin cfg0.N) (X : FVec Ideal S4096x512 .bf16) (hX : V m c main_v4 = X) (k : Fin 1024) (l : Fin 512) :
    iblk m c 1 t (ix2 k l) = X (ix2 (row t k) l) := by
  have e : iblk m c 1 t = ((cfg0.win 1).blk t).view.read (Elt Ideal) X := by
    subst hX
    rfl
  rw [e]
  unfold row
  blk_ext [index1 t]

theorem read2 (c : Dev nD) (t : Fin cfg0.N) (X : FVec Ideal S4096x512 .bf16) (hX : V m c main_v7 = X) (k : Fin 1024) (l : Fin 512) :
    iblk m c 2 t (ix2 k l) = X (ix2 (row t k) l) := by
  have e : iblk m c 2 t = ((cfg0.win 2).blk t).view.read (Elt Ideal) X := by
    subst hX
    rfl
  rw [e]
  unfold row
  blk_ext [index2 t]

theorem read3 (c : Dev nD) (t : Fin cfg0.N) (X : FVec Ideal S4096x1024 .bf16) (hX : V m c main_v10 = X) (k : Fin 1024) (l : Fin 1024) :
    iblk m c 3 t (ix2 k l) = X (ix2 (row t k) l) := by
  have e : iblk m c 3 t = ((cfg0.win 3).blk t).view.read (Elt Ideal) X := by
    subst hX
    rfl
  rw [e]
  unfold row
  blk_ext [index3 t]

theorem read4 (c : Dev nD) (t : Fin cfg0.N) (X : FVec Ideal S4096x1024 .bf16) (hX : V m c main_v13 = X) (k : Fin 1024) (l : Fin 1024) :
    iblk m c 4 t (ix2 k l) = X (ix2 (row t k) l) := by
  have e : iblk m c 4 t = ((cfg0.win 4).blk t).view.read (Elt Ideal) X := by
    subst hX
    rfl
  rw [e]
  unfold row
  blk_ext [index4 t]

theorem store_q (X : Vec Ideal S1024x1024 .bf16) (Y : Vec Ideal S1024x512 .bf16) (x : S1024x512.Idx) :
    k0_pay4 X Y x = colCol (M := 1024) (N := 512) (K := 1024) X Y (x 0) (x 1) := by
  obtain ⟨a, b, rfl⟩ : ∃ (a : Fin 1024) (b : Fin 512), x = (ix2 a b : S1024x512.Idx) := ⟨_, _, ix_eta x⟩
  unfold k0_pay4 colCol
  unfold k0_pay3
  pointwise

theorem add_q (X : Vec Ideal S1024x1024 .bf16) (Y : Vec Ideal S1024x512 .bf16) (Z : Vec Ideal S1024x512 .f32) (x : S1024x512.Idx) :
    k0_pay5 X Y Z x = Z x + colCol (M := 1024) (N := 512) (K := 1024) X Y (x 0) (x 1) := by
  obtain ⟨a, b, rfl⟩ : ∃ (a : Fin 1024) (b : Fin 512), x = (ix2 a b : S1024x512.Idx) := ⟨_, _, ix_eta x⟩
  unfold k0_pay5
  pointwise
  exact congrArg (Z _ + ·) (store_q X Y _)

theorem store_key (X : Vec Ideal S1024x1024 .bf16) (Y : Vec Ideal S1024x512 .bf16) (x : S1024x512.Idx) :
    k0_pay6 X Y x = colCol (M := 1024) (N := 512) (K := 1024) X Y (x 0) (x 1) := by
  obtain ⟨a, b, rfl⟩ : ∃ (a : Fin 1024) (b : Fin 512), x = (ix2 a b : S1024x512.Idx) := ⟨_, _, ix_eta x⟩
  unfold k0_pay6 colCol
  unfold k0_pay3
  pointwise

theorem add_key (X : Vec Ideal S1024x1024 .bf16) (Y : Vec Ideal S1024x512 .bf16) (Z : Vec Ideal S1024x512 .f32) (x : S1024x512.Idx) :
    k0_pay7 X Y Z x = Z x + colCol (M := 1024) (N := 512) (K := 1024) X Y (x 0) (x 1) := by
  obtain ⟨a, b, rfl⟩ : ∃ (a : Fin 1024) (b : Fin 512), x = (ix2 a b : S1024x512.Idx) := ⟨_, _, ix_eta x⟩
  unfold k0_pay7
  pointwise
  exact congrArg (Z _ + ·) (store_key X Y _)

theorem store_val (X : Vec Ideal S1024x1024 .bf16) (Y : Vec Ideal S1024x1024 .bf16) (x : S1024x1024.Idx) :
    k0_pay8 X Y x = colCol (M := 1024) (N := 1024) (K := 1024) X Y (x 0) (x 1) := by
  obtain ⟨a, b, rfl⟩ : ∃ (a : Fin 1024) (b : Fin 1024), x = (ix2 a b : S1024x1024.Idx) := ⟨_, _, ix_eta x⟩
  unfold k0_pay8 colCol
  unfold k0_pay3
  pointwise

theorem add_val (X : Vec Ideal S1024x1024 .bf16) (Y : Vec Ideal S1024x1024 .bf16) (Z : Vec Ideal S1024x1024 .f32) (x : S1024x1024.Idx) :
    k0_pay9 X Y Z x = Z x + colCol (M := 1024) (N := 1024) (K := 1024) X Y (x 0) (x 1) := by
  obtain ⟨a, b, rfl⟩ : ∃ (a : Fin 1024) (b : Fin 1024), x = (ix2 a b : S1024x1024.Idx) := ⟨_, _, ix_eta x⟩
  unfold k0_pay9
  pointwise
  exact congrArg (Z _ + ·) (store_val X Y _)

theorem store_gate (X : Vec Ideal S1024x1024 .bf16) (Y : Vec Ideal S1024x1024 .bf16) (x : S1024x1024.Idx) :
    k0_pay1 (k0_pay3 X) (k0_pay10 Y) (constant S1024x1024 .f32 0x00000000#32) x = colCol (M := 1024) (N := 1024) (K := 1024) X Y (x 0) (x 1) := by
  obtain ⟨a, b, rfl⟩ : ∃ (a : Fin 1024) (b : Fin 1024), x = (ix2 a b : S1024x1024.Idx) := ⟨_, _, ix_eta x⟩
  unfold k0_pay1 k0_pay3 k0_pay10 colCol

  pointwise

theorem add_gate (X : Vec Ideal S1024x1024 .bf16) (Y : Vec Ideal S1024x1024 .bf16) (Z : Vec Ideal S1024x1024 .f32) (x : S1024x1024.Idx) :
    k0_pay2 (k0_pay3 X) (k0_pay10 Y) (constant S1024x1024 .f32 0x00000000#32) Z x = Z x + colCol (M := 1024) (N := 1024) (K := 1024) X Y (x 0) (x 1) := by
  obtain ⟨a, b, rfl⟩ : ∃ (a : Fin 1024) (b : Fin 1024), x = (ix2 a b : S1024x1024.Idx) := ⟨_, _, ix_eta x⟩
  unfold k0_pay2
  pointwise
  exact congrArg (Z _ + ·) (store_gate X Y _)

/-- What the first grid point leaves, -/
theorem first (c : Dev nD) (t : Fin cfg0.N) (h : t.val % 4 = 0) (H : Fin 1024 → Fin 1024 → EReal) (D : Fin 1024 → ℕ → EReal)
    (h0 : ∀ k l, iblk m c 0 t (ix2 k l) = H k l)
    (h1 : ∀ k l, iblk m c 1 t (ix2 k l) = D k (0 + l.val))
    (h2 : ∀ k l, iblk m c 2 t (ix2 k l) = D k (512 + l.val))
    (h3 : ∀ k l, iblk m c 3 t (ix2 k l) = D k (1024 + l.val))
    (h4 : ∀ k l, iblk m c 4 t (ix2 k l) = D k (2048 + l.val)) (y : S1024x3072.Idx) :
    outsAt0 m c t.val t.isLt y = 0 + ∑ k : Fin 1024, H k (y 0) * D k (y 1).val := by
  have g : ¬ 1 ≤ t.val := by have := points t; omega
  rw [outsAt0_A m c t h g h g h g h g]
  frame_out
  canon_tiles x hx using View.cover_of_tiledBy _ ![1024, 512] (by sl_kernel_rfl) y
  · rw [store_gate]
    exact (tile h0 h4 hx0 (by omega)).trans (zero_add _).symm
  · rw [store_val]
    exact (tile h0 h3 hx0 (by omega)).trans (zero_add _).symm
  · rw [store_key]
    exact (tile h0 h2 hx0 (by omega)).trans (zero_add _).symm
  · rw [store_q]
    exact (tile h0 h1 hx0 (by omega)).trans (zero_add _).symm

/-- and what a later one adds. -/
theorem later (c : Dev nD) (t : Fin cfg0.N) (h : ¬ t.val % 4 = 0) (H : Fin 1024 → Fin 1024 → EReal) (D : Fin 1024 → ℕ → EReal)
    (h0 : ∀ k l, iblk m c 0 t (ix2 k l) = H k l)
    (h1 : ∀ k l, iblk m c 1 t (ix2 k l) = D k (0 + l.val))
    (h2 : ∀ k l, iblk m c 2 t (ix2 k l) = D k (512 + l.val))
    (h3 : ∀ k l, iblk m c 3 t (ix2 k l) = D k (1024 + l.val))
    (h4 : ∀ k l, iblk m c 4 t (ix2 k l) = D k (2048 + l.val)) (y : S1024x3072.Idx) :
    outsAt0 m c t.val t.isLt y = outsAt0 m c (t.val - 1) (Nat.lt_of_le_of_lt (Nat.sub_le _ _) t.isLt) y
      + ∑ k : Fin 1024, H k (y 0) * D k (y 1).val := by
  have g : 1 ≤ t.val := by omega
  rw [outsAt0_B m c t h g h g h g h g]
  frame_out
  canon_tiles x hx using View.cover_of_tiledBy _ ![1024, 512] (by sl_kernel_rfl) y
  · rw [add_gate]
    refine congrArg₂ (· + ·) (View.ld_unit_apply_of _ _ _ _ x y fun a => ?_) (tile h0 h4 hx0 (by omega))
    match a with
    | ⟨0, _⟩ => exact hx0.trans (Nat.zero_add _).symm
    | ⟨1, _⟩ => exact hx1
  · rw [add_val]
    refine congrArg₂ (· + ·) (View.ld_unit_apply_of _ _ _ _ x y fun a => ?_) (tile h0 h3 hx0 (by omega))
    match a with
    | ⟨0, _⟩ => exact hx0.trans (Nat.zero_add _).symm
    | ⟨1, _⟩ => exact hx1
  · rw [add_key]
    refine congrArg₂ (· + ·) (View.ld_unit_apply_of _ _ _ _ x y fun a => ?_) (tile h0 h2 hx0 (by omega))
    match a with
    | ⟨0, _⟩ => exact hx0.trans (Nat.zero_add _).symm
    | ⟨1, _⟩ => exact hx1
  · rw [add_q]
    refine congrArg₂ (· + ·) (View.ld_unit_apply_of _ _ _ _ x y fun a => ?_) (tile h0 h1 hx0 (by omega))
    match a with
    | ⟨0, _⟩ => exact hx0.trans (Nat.zero_add _).symm
    | ⟨1, _⟩ => exact hx1.trans (Nat.zero_add _).symm

theorem place (t : Fin cfg0.N) (l : Fin 1024) (n : Fin 3072) : (win0_5.blk t).view.emb (ix2 l n) = ix2 l n := by
  blk_ext [index_out t]

/-- The array the call leaves: the product of the input's rows with the columns the pieces hold. -/
theorem final (c : Dev nD) (H : FVec Ideal S4096x1024 .bf16) (hH : V m c main_v1 = H)
    (X1 : FVec Ideal S4096x512 .bf16) (X2 : FVec Ideal S4096x512 .bf16) (X3 : FVec Ideal S4096x1024 .bf16) (X4 : FVec Ideal S4096x1024 .bf16)
    (h1 : V m c main_v4 = X1) (h2 : V m c main_v7 = X2) (h3 : V m c main_v10 = X3) (h4 : V m c main_v13 = X4) (D : Fin 4096 → ℕ → EReal)
    (e1 : ∀ r k, X1 (ix2 r k) = D r (0 + k.val)) (e2 : ∀ r k, X2 (ix2 r k) = D r (512 + k.val)) (e3 : ∀ r k, X3 (ix2 r k) = D r (1024 + k.val)) (e4 : ∀ r k, X4 (ix2 r k) = D r (2048 + k.val)) :
    (dats m 0 c).arrAt 5 cfg0.N = (mat fun l n => ∑ r : Fin 4096, H (ix2 r l) * D r n.val : FVec Ideal S1024x3072 .f32) := by
  refine (dats m 0 c).arrAt_eq_of_covers 5 _ (by decide +kernel) fun t hf y => ?_
  blk_simp
  rw [after0_5]
  have ht : t.val + 1 = cfg0.N := by
    have h3 := (flush0_5 t).mp hf
    have h4 := points t
    exact (show t.val + 1 = 4 by omega).trans N_0.symm
  rw [Pipeline.eq_sum_fin_of_reset_step_apply_last (fun n h => outsAt0 m c n h) 4 (fun _ => 0)
    (fun (t : Fin cfg0.N) (y : S1024x3072.Idx) => ∑ k : Fin 1024, H (ix2 (row t k) (y 0)) * D (row t k) (y 1).val)
    (fun t h y => first m c t h (fun k l => H (ix2 (row t k) l)) (fun k n => D (row t k) n) (fun k l => read0 m c t H hH k l)
      (fun k l => (read1 m c t X1 h1 k l).trans (e1 _ _)) (fun k l => (read2 m c t X2 h2 k l).trans (e2 _ _)) (fun k l => (read3 m c t X3 h3 k l).trans (e3 _ _)) (fun k l => (read4 m c t X4 h4 k l).trans (e4 _ _)) y)
    (fun t h y => later m c t h (fun k l => H (ix2 (row t k) l)) (fun k n => D (row t k) n) (fun k l => read0 m c t H hH k l)
      (fun k l => (read1 m c t X1 h1 k l).trans (e1 _ _)) (fun k l => (read2 m c t X2 h2 k l).trans (e2 _ _)) (fun k l => (read3 m c t X3 h3 k l).trans (e3 _ _)) (fun k l => (read4 m c t X4 h4 k l).trans (e4 _ _)) y)
    (le_of_eq N_0) t ht y, zero_add]
  obtain ⟨l, n, rfl⟩ : ∃ (l : Fin 1024) (n : Fin 3072), y = (ix2 l n : S1024x3072.Idx) := ⟨_, _, ix_eta y⟩
  rw [place]
  refine (sum_batch cfg0.N 1024 (by show 4096 = grid0.N * 1024; rw [N_0]) _ _ fun r b s hb hs => ?_).symm
  have e : r = row b s := Fin.ext (by show r.val = 1024 * b.val + s.val; omega)
  rw [e]

end

section

open Cert.ProjDwAReferenceIdeal Cert.ProjDwAReferenceIdeal.Gen

/-- The gradient at a row and a column of the weights. -/
theorem gradient (h : FVec Ideal S2x2048x1024 .f32) (d : FVec Ideal S2x2048x5552 .f32) (l : Fin 1024) (n : Fin 5552) :
    (transpose S1024x5552 [1, 0] (Host.dotGeneral (F := Ideal) dot_S2x2048x5552_S2x2048x1024_S5552x1024_01_01_2_2_n_n none d h) transposes_S5552x1024_S1024x5552_1_0) (ix2 l n)
      = ∑ r : Fin 4096, ins h (ix2 r l) * cot d r n.val := by
  refine Eq.trans ?_ (sum_batch 2 2048 rfl (fun b s => d (ix3 b s n) * h (ix3 b s l)) _ fun r b s hb hs => ?_).symm
  · pointwise
  · rw [← at_cot d r (b := b) (s := s) (i := n) hb.symm hs.symm rfl, mul_comm]
    unfold ins
    refine congrArg (d (ix3 b s n) * ·) ?_
    pointwise
    exact congrArg h (congrArg₂ (fun b s => ix3 b s l) (Fin.ext hb) (Fin.ext hs))

theorem slice_at (x : FVec Ideal S1024x5552 .f32) (l : Fin 1024) (n : Fin 3072) :
    (extractStridedSlice S1024x3072 ![0, 0] x slices_S1024x5552_S1024x3072_0_0 : FVec Ideal S1024x3072 .f32) (ix2 l n)
      = x (ix2 l ⟨n.val, by omega⟩) := by
  pointwise

/-- The reference's array. -/
theorem reference (h : FVec Ideal S2x2048x1024 .f32) (d : FVec Ideal S2x2048x5552 .f32) :
    (extractStridedSlice S1024x3072 ![0, 0] (transpose S1024x5552 [1, 0] (Host.dotGeneral (F := Ideal) dot_S2x2048x5552_S2x2048x1024_S5552x1024_01_01_2_2_n_n none d h) transposes_S5552x1024_S1024x5552_1_0) slices_S1024x5552_S1024x3072_0_0 : FVec Ideal S1024x3072 .f32)
      = mat fun l n => ∑ r : Fin 4096, ins h (ix2 r l) * cot d r n.val := by
  funext i
  obtain ⟨l, n, rfl⟩ : ∃ (l : Fin 1024) (n : Fin 3072), i = (ix2 l n : S1024x3072.Idx) := ⟨_, _, ix_eta i⟩
  exact (slice_at _ l n).trans (gradient h d l ⟨n.val, by omega⟩)

end

open Cert.ProjDwAIdeal Cert.ProjDwAIdeal.Gen

theorem frame : Cert.quiescent_ProjDwA := fun m ρ _ => Cert.ProjDwA.Gen.frame m ρ
theorem frame_ideal : Cert.quiescent_ProjDwAIdeal := fun m ρ _ => Cert.ProjDwAIdeal.Gen.frame m ρ
theorem frame_reference : Cert.quiescent_ProjDwAReferenceIdeal := fun m ρ _ =>
  (θ_run Cert.ProjDwAReferenceIdeal.defs _ _).mono (fun r h => ⟨fun c => (h c).2, sem_eq_zero_of_no_sems (by decide) r.2⟩)
    (Cert.ProjDwAReferenceIdeal.Value.run (F := Ideal) m ρ)

/-- The call and the reference end with the same array. -/
theorem algebraic : Cert.algebraic_ProjDwAIdeal_ProjDwAReferenceIdeal := by
  intro m g m' g' _ hagree
  refine ⟨fun c : Dev nD => mat fun l n => ∑ r : Fin 4096, ins (m ((c.tc : Thread nD τ).loc main_arg0)) (ix2 r l)
    * cot (m ((c.tc : Thread nD τ).loc main_arg2)) r n.val, ?_, ?_⟩
  · exact (θ_run Cert.ProjDwAIdeal.defs _ _).mono
      (fun r h c => ⟨(h c).1.trans (final m c _ (entry_ins m c) _ _ _ _ (entry_q m c) (entry_key m c) (entry_val m c) (entry_gate m c) _ (q_at _) (key_at _) (val_at _) (gate_at _)), (h c).2⟩) (Cert.ProjDwAIdeal.Value.run_blocks m g)
  · refine (θ_run Cert.ProjDwAReferenceIdeal.defs _ _).mono (fun r h c => ⟨(h c).1.trans ?_, (h c).2⟩) (Cert.ProjDwAReferenceIdeal.Value.run m' g')
    rw [(hagree c).1, (hagree c).2.2]
    exact reference _ _

end Cert.Proof.ProjDwA

end
-- ==== Proof.ProjDwB.lean ====
/- The call `proj_dw_b`: the gradient of the first projection with respect to the other columns of its weights, in the order the step keeps them in. -/
module

public import proofs.«01_k».proof.Defs
public import proofs.«01_k».proof.Proof.Pieces
public import proofs.«01_k».proof.Proof.Gen.ProjDwBIdeal.Value
public import proofs.«01_k».proof.Proof.Gen.ProjDwBReferenceIdeal.Run
public import proofs.«01_k».proof.Proof.Gen.ProjDwB.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.ProjDwB

open Idealize.ShloMosaic Idealize.ShloMosaic.TcCoe Idealize.SL.Sem Products Pieces

section

open Cert.ProjDwBIdeal Cert.ProjDwBIdeal.Gen

variable (m : (ℓ : Loc nD τ sig) → Buf (Elt Ideal) ℓ)

/-- The input's rows. -/
def ins (x : FVec Ideal S2x2048x1024 .f32) : FVec Ideal S4096x1024 .bf16 :=
  truncf .bf16 (shapeCast S4096x1024 x shapeCasts_S2x2048x1024_S4096x1024) bitsLt_bf16_f32

theorem entry_ins (c : Dev nD) : V m c main_v1 = ins (m ((c : Thread nD τ).loc main_arg0)) := by
  unfold V
  after_reads_simp
  rfl

theorem entry_mergeA (c : Dev nD) : V m c main_v16 = mergeA (m ((c : Thread nD τ).loc main_arg2)) := by
  unfold V
  after_reads_simp
  rfl

theorem entry_mergeB (c : Dev nD) : V m c main_v19 = mergeB (m ((c : Thread nD τ).loc main_arg2)) := by
  unfold V
  after_reads_simp
  rfl

theorem entry_latQ (c : Dev nD) : V m c main_v22 = latQ (m ((c : Thread nD τ).loc main_arg2)) := by
  unfold V
  after_reads_simp
  rfl

theorem entry_latKv (c : Dev nD) : V m c main_v25 = latKv (m ((c : Thread nD τ).loc main_arg2)) := by
  unfold V
  after_reads_simp
  rfl

theorem entry_decay (c : Dev nD) : V m c main_v29 = decay (m ((c : Thread nD τ).loc main_arg2)) := by
  unfold V
  after_reads_simp
  simp only [StableHlo.TRef.toBuf, StableHlo.TRef.ofBuf, cast_eq]
  rfl

theorem entry_kpe (c : Dev nD) : V m c main_v32 = kpe (m ((c : Thread nD τ).loc main_arg2)) := by
  unfold V
  after_reads_simp
  simp only [StableHlo.TRef.toBuf, StableHlo.TRef.ofBuf, cast_eq]
  rfl

theorem index_out : ∀ t : Fin cfg0.N, win0_7.index t = ![0, 0] := by decide +kernel
theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel
theorem index3 : ∀ t : Fin cfg0.N, win0_3.index t = ![t.val, 0] := by decide +kernel
theorem index4 : ∀ t : Fin cfg0.N, win0_4.index t = ![t.val, 0] := by decide +kernel
theorem index5 : ∀ t : Fin cfg0.N, win0_5.index t = ![t.val, 0] := by decide +kernel
theorem index6 : ∀ t : Fin cfg0.N, win0_6.index t = ![t.val, 0] := by decide +kernel

theorem points (t : Fin cfg0.N) : t.val < 4 := lt_of_lt_of_eq t.isLt N_0

/-- A block's row among all rows. -/
def row (t : Fin cfg0.N) (k : Fin 1024) : Fin 4096 := ⟨1024 * t.val + k.val, by have := points t; omega⟩

theorem read0 (c : Dev nD) (t : Fin cfg0.N) (X : FVec Ideal S4096x1024 .bf16) (hX : V m c main_v1 = X) (k : Fin 1024) (l : Fin 1024) :
    iblk m c 0 t (ix2 k l) = X (ix2 (row t k) l) := by
  have e : iblk m c 0 t = ((cfg0.win 0).blk t).view.read (Elt Ideal) X := by
    subst hX
    rfl
  rw [e]
  unfold row
  blk_ext [index0 t]

theorem read1 (c : Dev nD) (t : Fin cfg0.N) (X : FVec Ideal S4096x1024 .bf16) (hX : V m c main_v16 = X) (k : Fin 1024) (l : Fin 1024) :
    iblk m c 1 t (ix2 k l) = X (ix2 (row t k) l) := by
  have e : iblk m c 1 t = ((cfg0.win 1).blk t).view.read (Elt Ideal) X := by
    subst hX
    rfl
  rw [e]
  unfold row
  blk_ext [index1 t]

theorem read2 (c : Dev nD) (t : Fin cfg0.N) (X : FVec Ideal S4096x1024 .bf16) (hX : V m c main_v19 = X) (k : Fin 1024) (l : Fin 1024) :
    iblk m c 2 t (ix2 k l) = X (ix2 (row t k) l) := by
  have e : iblk m c 2 t = ((cfg0.win 2).blk t).view.read (Elt Ideal) X := by
    subst hX
    rfl
  rw [e]
  unfold row
  blk_ext [index2 t]

theorem read3 (c : Dev nD) (t : Fin cfg0.N) (X : FVec Ideal S4096x256 .bf16) (hX : V m c main_v22 = X) (k : Fin 1024) (l : Fin 256) :
    iblk m c 3 t (ix2 k l) = X (ix2 (row t k) l) := by
  have e : iblk m c 3 t = ((cfg0.win 3).blk t).view.read (Elt Ideal) X := by
    subst hX
    rfl
  rw [e]
  unfold row
  blk_ext [index3 t]

theorem read4 (c : Dev nD) (t : Fin cfg0.N) (X : FVec Ideal S4096x128 .bf16) (hX : V m c main_v25 = X) (k : Fin 1024) (l : Fin 128) :
    iblk m c 4 t (ix2 k l) = X (ix2 (row t k) l) := by
  have e : iblk m c 4 t = ((cfg0.win 4).blk t).view.read (Elt Ideal) X := by
    subst hX
    rfl
  rw [e]
  unfold row
  blk_ext [index4 t]

theorem read5 (c : Dev nD) (t : Fin cfg0.N) (X : FVec Ideal S4096x128 .bf16) (hX : V m c main_v29 = X) (k : Fin 1024) (l : Fin 128) :
    iblk m c 5 t (ix2 k l) = X (ix2 (row t k) l) := by
  have e : iblk m c 5 t = ((cfg0.win 5).blk t).view.read (Elt Ideal) X := by
    subst hX
    rfl
  rw [e]
  unfold row
  blk_ext [index5 t]

theorem read6 (c : Dev nD) (t : Fin cfg0.N) (X : FVec Ideal S4096x128 .f32) (hX : V m c main_v32 = X) (k : Fin 1024) (l : Fin 128) :
    iblk m c 6 t (ix2 k l) = X (ix2 (row t k) l) := by
  have e : iblk m c 6 t = ((cfg0.win 6).blk t).view.read (Elt Ideal) X := by
    subst hX
    rfl
  rw [e]
  unfold row
  blk_ext [index6 t]

theorem store_mergeA (X : Vec Ideal S1024x1024 .bf16) (Y : Vec Ideal S1024x1024 .bf16) (x : S1024x1024.Idx) :
    k0_pay8 X Y x = colCol (M := 1024) (N := 1024) (K := 1024) X Y (x 0) (x 1) := by
  obtain ⟨a, b, rfl⟩ : ∃ (a : Fin 1024) (b : Fin 1024), x = (ix2 a b : S1024x1024.Idx) := ⟨_, _, ix_eta x⟩
  unfold k0_pay8 colCol
  unfold k0_pay7
  pointwise

theorem add_mergeA (X : Vec Ideal S1024x1024 .bf16) (Y : Vec Ideal S1024x1024 .bf16) (Z : Vec Ideal S1024x1024 .f32) (x : S1024x1024.Idx) :
    k0_pay9 X Y Z x = Z x + colCol (M := 1024) (N := 1024) (K := 1024) X Y (x 0) (x 1) := by
  obtain ⟨a, b, rfl⟩ : ∃ (a : Fin 1024) (b : Fin 1024), x = (ix2 a b : S1024x1024.Idx) := ⟨_, _, ix_eta x⟩
  unfold k0_pay9
  pointwise
  exact congrArg (Z _ + ·) (store_mergeA X Y _)

theorem store_mergeB (X : Vec Ideal S1024x1024 .bf16) (Y : Vec Ideal S1024x1024 .bf16) (x : S1024x1024.Idx) :
    k0_pay10 X Y x = colCol (M := 1024) (N := 1024) (K := 1024) X Y (x 0) (x 1) := by
  obtain ⟨a, b, rfl⟩ : ∃ (a : Fin 1024) (b : Fin 1024), x = (ix2 a b : S1024x1024.Idx) := ⟨_, _, ix_eta x⟩
  unfold k0_pay10 colCol
  unfold k0_pay7
  pointwise

theorem add_mergeB (X : Vec Ideal S1024x1024 .bf16) (Y : Vec Ideal S1024x1024 .bf16) (Z : Vec Ideal S1024x1024 .f32) (x : S1024x1024.Idx) :
    k0_pay11 X Y Z x = Z x + colCol (M := 1024) (N := 1024) (K := 1024) X Y (x 0) (x 1) := by
  obtain ⟨a, b, rfl⟩ : ∃ (a : Fin 1024) (b : Fin 1024), x = (ix2 a b : S1024x1024.Idx) := ⟨_, _, ix_eta x⟩
  unfold k0_pay11
  pointwise
  exact congrArg (Z _ + ·) (store_mergeB X Y _)

theorem store_latQ (X : Vec Ideal S1024x1024 .bf16) (Y : Vec Ideal S1024x256 .bf16) (x : S1024x256.Idx) :
    k0_pay12 X Y x = colCol (M := 1024) (N := 256) (K := 1024) X Y (x 0) (x 1) := by
  obtain ⟨a, b, rfl⟩ : ∃ (a : Fin 1024) (b : Fin 256), x = (ix2 a b : S1024x256.Idx) := ⟨_, _, ix_eta x⟩
  unfold k0_pay12 colCol
  unfold k0_pay7
  pointwise

theorem add_latQ (X : Vec Ideal S1024x1024 .bf16) (Y : Vec Ideal S1024x256 .bf16) (Z : Vec Ideal S1024x256 .f32) (x : S1024x256.Idx) :
    k0_pay13 X Y Z x = Z x + colCol (M := 1024) (N := 256) (K := 1024) X Y (x 0) (x 1) := by
  obtain ⟨a, b, rfl⟩ : ∃ (a : Fin 1024) (b : Fin 256), x = (ix2 a b : S1024x256.Idx) := ⟨_, _, ix_eta x⟩
  unfold k0_pay13
  pointwise
  exact congrArg (Z _ + ·) (store_latQ X Y _)

theorem store_latKv (X : Vec Ideal S1024x1024 .bf16) (Y : Vec Ideal S1024x128 .bf16) (x : S1024x128.Idx) :
    k0_pay1 (k0_pay7 X) (k0_pay14 Y) (constant S1024x128 .f32 0x00000000#32) x = colCol (M := 1024) (N := 128) (K := 1024) X Y (x 0) (x 1) := by
  obtain ⟨a, b, rfl⟩ : ∃ (a : Fin 1024) (b : Fin 128), x = (ix2 a b : S1024x128.Idx) := ⟨_, _, ix_eta x⟩
  unfold k0_pay1 k0_pay7 k0_pay14 colCol

  pointwise

theorem add_latKv (X : Vec Ideal S1024x1024 .bf16) (Y : Vec Ideal S1024x128 .bf16) (Z : Vec Ideal S1024x128 .f32) (x : S1024x128.Idx) :
    k0_pay2 (k0_pay7 X) (k0_pay14 Y) (constant S1024x128 .f32 0x00000000#32) Z x = Z x + colCol (M := 1024) (N := 128) (K := 1024) X Y (x 0) (x 1) := by
  obtain ⟨a, b, rfl⟩ : ∃ (a : Fin 1024) (b : Fin 128), x = (ix2 a b : S1024x128.Idx) := ⟨_, _, ix_eta x⟩
  unfold k0_pay2
  pointwise
  exact congrArg (Z _ + ·) (store_latKv X Y _)

theorem store_decay (X : Vec Ideal S1024x1024 .bf16) (Y : Vec Ideal S1024x128 .bf16) (x : S1024x128.Idx) :
    k0_pay3 (k0_pay7 X) Y x = colCol (M := 1024) (N := 128) (K := 1024) X Y (x 0) (x 1) := by
  obtain ⟨a, b, rfl⟩ : ∃ (a : Fin 1024) (b : Fin 128), x = (ix2 a b : S1024x128.Idx) := ⟨_, _, ix_eta x⟩
  unfold k0_pay3 k0_pay7 colCol

  pointwise

theorem add_decay (X : Vec Ideal S1024x1024 .bf16) (Y : Vec Ideal S1024x128 .bf16) (Z : Vec Ideal S1024x128 .f32) (x : S1024x128.Idx) :
    k0_pay4 (k0_pay7 X) Y Z x = Z x + colCol (M := 1024) (N := 128) (K := 1024) X Y (x 0) (x 1) := by
  obtain ⟨a, b, rfl⟩ : ∃ (a : Fin 1024) (b : Fin 128), x = (ix2 a b : S1024x128.Idx) := ⟨_, _, ix_eta x⟩
  unfold k0_pay4
  pointwise
  exact congrArg (Z _ + ·) (store_decay X Y _)

theorem store_kpe (X : Vec Ideal S1024x1024 .bf16) (Y : Vec Ideal S1024x128 .f32) (x : S1024x128.Idx) :
    k0_pay5 (k0_pay7 X) Y x = colCol (M := 1024) (N := 128) (K := 1024) X Y (x 0) (x 1) := by
  obtain ⟨a, b, rfl⟩ : ∃ (a : Fin 1024) (b : Fin 128), x = (ix2 a b : S1024x128.Idx) := ⟨_, _, ix_eta x⟩
  unfold k0_pay5 k0_pay7 colCol

  pointwise

theorem add_kpe (X : Vec Ideal S1024x1024 .bf16) (Y : Vec Ideal S1024x128 .f32) (Z : Vec Ideal S1024x128 .f32) (x : S1024x128.Idx) :
    k0_pay6 (k0_pay7 X) Y Z x = Z x + colCol (M := 1024) (N := 128) (K := 1024) X Y (x 0) (x 1) := by
  obtain ⟨a, b, rfl⟩ : ∃ (a : Fin 1024) (b : Fin 128), x = (ix2 a b : S1024x128.Idx) := ⟨_, _, ix_eta x⟩
  unfold k0_pay6
  pointwise
  exact congrArg (Z _ + ·) (store_kpe X Y _)

/-- What the first grid point leaves, -/
theorem first (c : Dev nD) (t : Fin cfg0.N) (h : t.val % 4 = 0) (H : Fin 1024 → Fin 1024 → EReal) (D : Fin 1024 → ℕ → EReal)
    (h0 : ∀ k l, iblk m c 0 t (ix2 k l) = H k l)
    (h1 : ∀ k l, iblk m c 1 t (ix2 k l) = D k (0 + l.val))
    (h2 : ∀ k l, iblk m c 2 t (ix2 k l) = D k (1024 + l.val))
    (h3 : ∀ k l, iblk m c 3 t (ix2 k l) = D k (2048 + l.val))
    (h4 : ∀ k l, iblk m c 4 t (ix2 k l) = D k (2304 + l.val))
    (h5 : ∀ k l, iblk m c 5 t (ix2 k l) = D k (2432 + l.val))
    (h6 : ∀ k l, iblk m c 6 t (ix2 k l) = D k (2560 + l.val)) (y : S1024x2688.Idx) :
    outsAt0 m c t.val t.isLt y = 0 + ∑ k : Fin 1024, H k (y 0) * D k (y 1).val := by
  have g : ¬ 1 ≤ t.val := by have := points t; omega
  rw [outsAt0_A m c t h g h g h g h g h g h g]
  frame_out
  canon_tiles x hx using View.cover_of_tiledBy _ ![1024, 128] (by sl_kernel_rfl) y
  · rw [store_kpe]
    exact (tile h0 h6 hx0 (by omega)).trans (zero_add _).symm
  · rw [store_decay]
    exact (tile h0 h5 hx0 (by omega)).trans (zero_add _).symm
  · rw [store_latKv]
    exact (tile h0 h4 hx0 (by omega)).trans (zero_add _).symm
  · rw [store_latQ]
    exact (tile h0 h3 hx0 (by omega)).trans (zero_add _).symm
  · rw [store_mergeB]
    exact (tile h0 h2 hx0 (by omega)).trans (zero_add _).symm
  · rw [store_mergeA]
    exact (tile h0 h1 hx0 (by omega)).trans (zero_add _).symm

/-- and what a later one adds. -/
theorem later (c : Dev nD) (t : Fin cfg0.N) (h : ¬ t.val % 4 = 0) (H : Fin 1024 → Fin 1024 → EReal) (D : Fin 1024 → ℕ → EReal)
    (h0 : ∀ k l, iblk m c 0 t (ix2 k l) = H k l)
    (h1 : ∀ k l, iblk m c 1 t (ix2 k l) = D k (0 + l.val))
    (h2 : ∀ k l, iblk m c 2 t (ix2 k l) = D k (1024 + l.val))
    (h3 : ∀ k l, iblk m c 3 t (ix2 k l) = D k (2048 + l.val))
    (h4 : ∀ k l, iblk m c 4 t (ix2 k l) = D k (2304 + l.val))
    (h5 : ∀ k l, iblk m c 5 t (ix2 k l) = D k (2432 + l.val))
    (h6 : ∀ k l, iblk m c 6 t (ix2 k l) = D k (2560 + l.val)) (y : S1024x2688.Idx) :
    outsAt0 m c t.val t.isLt y = outsAt0 m c (t.val - 1) (Nat.lt_of_le_of_lt (Nat.sub_le _ _) t.isLt) y
      + ∑ k : Fin 1024, H k (y 0) * D k (y 1).val := by
  have g : 1 ≤ t.val := by omega
  rw [outsAt0_B m c t h g h g h g h g h g h g]
  frame_out
  canon_tiles x hx using View.cover_of_tiledBy _ ![1024, 128] (by sl_kernel_rfl) y
  · rw [add_kpe]
    refine congrArg₂ (· + ·) (View.ld_unit_apply_of _ _ _ _ x y fun a => ?_) (tile h0 h6 hx0 (by omega))
    match a with
    | ⟨0, _⟩ => exact hx0.trans (Nat.zero_add _).symm
    | ⟨1, _⟩ => exact hx1
  · rw [add_decay]
    refine congrArg₂ (· + ·) (View.ld_unit_apply_of _ _ _ _ x y fun a => ?_) (tile h0 h5 hx0 (by omega))
    match a with
    | ⟨0, _⟩ => exact hx0.trans (Nat.zero_add _).symm
    | ⟨1, _⟩ => exact hx1
  · rw [add_latKv]
    refine congrArg₂ (· + ·) (View.ld_unit_apply_of _ _ _ _ x y fun a => ?_) (tile h0 h4 hx0 (by omega))
    match a with
    | ⟨0, _⟩ => exact hx0.trans (Nat.zero_add _).symm
    | ⟨1, _⟩ => exact hx1
  · rw [add_latQ]
    refine congrArg₂ (· + ·) (View.ld_unit_apply_of _ _ _ _ x y fun a => ?_) (tile h0 h3 hx0 (by omega))
    match a with
    | ⟨0, _⟩ => exact hx0.trans (Nat.zero_add _).symm
    | ⟨1, _⟩ => exact hx1
  · rw [add_mergeB]
    refine congrArg₂ (· + ·) (View.ld_unit_apply_of _ _ _ _ x y fun a => ?_) (tile h0 h2 hx0 (by omega))
    match a with
    | ⟨0, _⟩ => exact hx0.trans (Nat.zero_add _).symm
    | ⟨1, _⟩ => exact hx1
  · rw [add_mergeA]
    refine congrArg₂ (· + ·) (View.ld_unit_apply_of _ _ _ _ x y fun a => ?_) (tile h0 h1 hx0 (by omega))
    match a with
    | ⟨0, _⟩ => exact hx0.trans (Nat.zero_add _).symm
    | ⟨1, _⟩ => exact hx1.trans (Nat.zero_add _).symm

theorem place (t : Fin cfg0.N) (l : Fin 1024) (n : Fin 2688) : (win0_7.blk t).view.emb (ix2 l n) = ix2 l n := by
  blk_ext [index_out t]

/-- The columns past the first 3072, in the order the step keeps them in. -/
def others (d : FVec Ideal S2x2048x5552 .f32) (r : Fin 4096) (n : ℕ) : EReal :=
  if n < 2048 then cot d r (3504 + n) else if n < 2432 then cot d r (3088 + (n - 2048)) else if n < 2448 then cot d r (3072 + (n - 2432))
  else if n < 2624 then 0 else if n < 2656 then cot d r (3472 + (n - 2624)) else 0

theorem others_mergeA (d : FVec Ideal S2x2048x5552 .f32) (r : Fin 4096) (k : Fin 1024) : mergeA d (ix2 r k) = others d r (0 + k.val) := by
  have hk := k.isLt
  rw [mergeA_at]
  unfold others
  rw [if_pos (by omega)]
  exact congrArg (cot d r) (by omega)

theorem others_mergeB (d : FVec Ideal S2x2048x5552 .f32) (r : Fin 4096) (k : Fin 1024) : mergeB d (ix2 r k) = others d r (1024 + k.val) := by
  have hk := k.isLt
  rw [mergeB_at]
  unfold others
  rw [if_pos (by omega)]
  exact congrArg (cot d r) (by omega)

theorem others_latQ (d : FVec Ideal S2x2048x5552 .f32) (r : Fin 4096) (k : Fin 256) : latQ d (ix2 r k) = others d r (2048 + k.val) := by
  have hk := k.isLt
  rw [latQ_at]
  unfold others
  rw [if_neg (by omega), if_pos (by omega)]
  exact congrArg (cot d r) (by omega)

theorem others_latKv (d : FVec Ideal S2x2048x5552 .f32) (r : Fin 4096) (k : Fin 128) : latKv d (ix2 r k) = others d r (2304 + k.val) := by
  have hk := k.isLt
  rw [latKv_at]
  unfold others
  rw [if_neg (by omega), if_pos (by omega)]
  exact congrArg (cot d r) (by omega)

theorem others_decay (d : FVec Ideal S2x2048x5552 .f32) (r : Fin 4096) (k : Fin 128) : decay d (ix2 r k) = others d r (2432 + k.val) := by
  have hk := k.isLt
  rw [decay_at]
  unfold others
  by_cases h : k.val < 16
  · rw [if_pos h, if_neg (by omega), if_neg (by omega), if_pos (by omega)]
    exact congrArg (cot d r) (by omega)
  · rw [if_neg h, if_neg (by omega), if_neg (by omega), if_neg (by omega), if_pos (by omega)]

theorem others_kpe (d : FVec Ideal S2x2048x5552 .f32) (r : Fin 4096) (k : Fin 128) : kpe d (ix2 r k) = others d r (2560 + k.val) := by
  have hk := k.isLt
  rw [kpe_at]
  unfold others
  by_cases h : 64 ≤ k.val ∧ k.val < 96
  · rw [if_pos h, if_neg (by omega), if_neg (by omega), if_neg (by omega), if_neg (by omega), if_pos (by omega)]
    exact congrArg (cot d r) (by omega)
  · rw [if_neg h]
    by_cases h4 : 2560 + k.val < 2624
    · rw [if_neg (by omega), if_neg (by omega), if_neg (by omega), if_pos h4]
    · rw [if_neg (by omega), if_neg (by omega), if_neg (by omega), if_neg h4, if_neg (by omega)]

/-- The array the call leaves: the product of the input's rows with the columns the pieces hold. -/
theorem final (c : Dev nD) (H : FVec Ideal S4096x1024 .bf16) (hH : V m c main_v1 = H)
    (X1 : FVec Ideal S4096x1024 .bf16) (X2 : FVec Ideal S4096x1024 .bf16) (X3 : FVec Ideal S4096x256 .bf16) (X4 : FVec Ideal S4096x128 .bf16) (X5 : FVec Ideal S4096x128 .bf16) (X6 : FVec Ideal S4096x128 .f32)
    (h1 : V m c main_v16 = X1) (h2 : V m c main_v19 = X2) (h3 : V m c main_v22 = X3) (h4 : V m c main_v25 = X4) (h5 : V m c main_v29 = X5) (h6 : V m c main_v32 = X6) (D : Fin 4096 → ℕ → EReal)
    (e1 : ∀ r k, X1 (ix2 r k) = D r (0 + k.val)) (e2 : ∀ r k, X2 (ix2 r k) = D r (1024 + k.val)) (e3 : ∀ r k, X3 (ix2 r k) = D r (2048 + k.val)) (e4 : ∀ r k, X4 (ix2 r k) = D r (2304 + k.val)) (e5 : ∀ r k, X5 (ix2 r k) = D r (2432 + k.val)) (e6 : ∀ r k, X6 (ix2 r k) = D r (2560 + k.val)) :
    (dats m 0 c).arrAt 7 cfg0.N = (mat fun l n => ∑ r : Fin 4096, H (ix2 r l) * D r n.val : FVec Ideal S1024x2688 .f32) := by
  refine (dats m 0 c).arrAt_eq_of_covers 7 _ (by decide +kernel) fun t hf y => ?_
  blk_simp
  rw [after0_7]
  have ht : t.val + 1 = cfg0.N := by
    have h3 := (flush0_7 t).mp hf
    have h4 := points t
    exact (show t.val + 1 = 4 by omega).trans N_0.symm
  rw [Pipeline.eq_sum_fin_of_reset_step_apply_last (fun n h => outsAt0 m c n h) 4 (fun _ => 0)
    (fun (t : Fin cfg0.N) (y : S1024x2688.Idx) => ∑ k : Fin 1024, H (ix2 (row t k) (y 0)) * D (row t k) (y 1).val)
    (fun t h y => first m c t h (fun k l => H (ix2 (row t k) l)) (fun k n => D (row t k) n) (fun k l => read0 m c t H hH k l)
      (fun k l => (read1 m c t X1 h1 k l).trans (e1 _ _)) (fun k l => (read2 m c t X2 h2 k l).trans (e2 _ _)) (fun k l => (read3 m c t X3 h3 k l).trans (e3 _ _)) (fun k l => (read4 m c t X4 h4 k l).trans (e4 _ _)) (fun k l => (read5 m c t X5 h5 k l).trans (e5 _ _)) (fun k l => (read6 m c t X6 h6 k l).trans (e6 _ _)) y)
    (fun t h y => later m c t h (fun k l => H (ix2 (row t k) l)) (fun k n => D (row t k) n) (fun k l => read0 m c t H hH k l)
      (fun k l => (read1 m c t X1 h1 k l).trans (e1 _ _)) (fun k l => (read2 m c t X2 h2 k l).trans (e2 _ _)) (fun k l => (read3 m c t X3 h3 k l).trans (e3 _ _)) (fun k l => (read4 m c t X4 h4 k l).trans (e4 _ _)) (fun k l => (read5 m c t X5 h5 k l).trans (e5 _ _)) (fun k l => (read6 m c t X6 h6 k l).trans (e6 _ _)) y)
    (le_of_eq N_0) t ht y, zero_add]
  obtain ⟨l, n, rfl⟩ : ∃ (l : Fin 1024) (n : Fin 2688), y = (ix2 l n : S1024x2688.Idx) := ⟨_, _, ix_eta y⟩
  rw [place]
  refine (sum_batch cfg0.N 1024 (by show 4096 = grid0.N * 1024; rw [N_0]) _ _ fun r b s hb hs => ?_).symm
  have e : r = row b s := Fin.ext (by show r.val = 1024 * b.val + s.val; omega)
  rw [e]

end

section

open Cert.ProjDwBReferenceIdeal Cert.ProjDwBReferenceIdeal.Gen

/-- The gradient at a row and a column of the weights. -/
theorem gradient (h : FVec Ideal S2x2048x1024 .f32) (d : FVec Ideal S2x2048x5552 .f32) (l : Fin 1024) (n : Fin 5552) :
    (transpose S1024x5552 [1, 0] (Host.dotGeneral (F := Ideal) dot_S2x2048x5552_S2x2048x1024_S5552x1024_01_01_2_2_n_n none d h) transposes_S5552x1024_S1024x5552_1_0) (ix2 l n)
      = ∑ r : Fin 4096, ins h (ix2 r l) * cot d r n.val := by
  refine Eq.trans ?_ (sum_batch 2 2048 rfl (fun b s => d (ix3 b s n) * h (ix3 b s l)) _ fun r b s hb hs => ?_).symm
  · pointwise
  · rw [← at_cot d r (b := b) (s := s) (i := n) hb.symm hs.symm rfl, mul_comm]
    unfold ins
    refine congrArg (d (ix3 b s n) * ·) ?_
    pointwise
    exact congrArg h (congrArg₂ (fun b s => ix3 b s l) (Fin.ext hb) (Fin.ext hs))

/-- The order the step keeps the columns in is the one the weights are read in. -/
theorem placed (w : FVec Ideal S1024x5552 .f32) (i : S1024x5760.Idx) :
    (concatenate S1024x5760 1 [⟨S1024x3072, (extractStridedSlice S1024x3072 ![0, 0] w slices_S1024x5552_S1024x3072_0_0 : FVec Ideal S1024x3072 .f32)⟩, ⟨S1024x2048, (extractStridedSlice S1024x2048 ![0, 3504] w slices_S1024x5552_S1024x2048_0_3504 : FVec Ideal S1024x2048 .f32)⟩, ⟨S1024x384, (extractStridedSlice S1024x384 ![0, 3088] w slices_S1024x5552_S1024x384_0_3088 : FVec Ideal S1024x384 .f32)⟩, ⟨S1024x16, (extractStridedSlice S1024x16 ![0, 3072] w slices_S1024x5552_S1024x16_0_3072 : FVec Ideal S1024x16 .f32)⟩, ⟨S1024x176, (broadcastInDim S1024x176 ![] bcast_S_S1024x176 (constant S_ .f32 0x00000000#32) : FVec Ideal S1024x176 .f32)⟩, ⟨S1024x32, (extractStridedSlice S1024x32 ![0, 3472] w slices_S1024x5552_S1024x32_0_3472 : FVec Ideal S1024x32 .f32)⟩, ⟨S1024x32, (broadcastInDim S1024x32 ![] bcast_S_S1024x32 (constant S_ .f32 0x00000000#32) : FVec Ideal S1024x32 .f32)⟩] concatenates_S1024x3072_S1024x2048_S1024x384_S1024x16_S1024x176_S1024x32_S1024x32_S1024x5760_d1 : FVec Ideal S1024x5760 .f32) i = columns w i := rfl

theorem slice_at (x : FVec Ideal S1024x5760 .f32) (l : Fin 1024) (n : Fin 2688) :
    (extractStridedSlice S1024x2688 ![0, 3072] x slices_S1024x5760_S1024x2688_0_3072 : FVec Ideal S1024x2688 .f32) (ix2 l n)
      = x (ix2 l ⟨3072 + n.val, by omega⟩) := by
  pointwise

/-- The reference's array. -/
theorem reference (h : FVec Ideal S2x2048x1024 .f32) (d : FVec Ideal S2x2048x5552 .f32) (w : FVec Ideal S1024x5552 .f32)
    (hw : w = (transpose S1024x5552 [1, 0] (Host.dotGeneral (F := Ideal) dot_S2x2048x5552_S2x2048x1024_S5552x1024_01_01_2_2_n_n none d h) transposes_S5552x1024_S1024x5552_1_0)) :
    (extractStridedSlice S1024x2688 ![0, 3072] (concatenate S1024x5760 1 [⟨S1024x3072, (extractStridedSlice S1024x3072 ![0, 0] w slices_S1024x5552_S1024x3072_0_0 : FVec Ideal S1024x3072 .f32)⟩, ⟨S1024x2048, (extractStridedSlice S1024x2048 ![0, 3504] w slices_S1024x5552_S1024x2048_0_3504 : FVec Ideal S1024x2048 .f32)⟩, ⟨S1024x384, (extractStridedSlice S1024x384 ![0, 3088] w slices_S1024x5552_S1024x384_0_3088 : FVec Ideal S1024x384 .f32)⟩, ⟨S1024x16, (extractStridedSlice S1024x16 ![0, 3072] w slices_S1024x5552_S1024x16_0_3072 : FVec Ideal S1024x16 .f32)⟩, ⟨S1024x176, (broadcastInDim S1024x176 ![] bcast_S_S1024x176 (constant S_ .f32 0x00000000#32) : FVec Ideal S1024x176 .f32)⟩, ⟨S1024x32, (extractStridedSlice S1024x32 ![0, 3472] w slices_S1024x5552_S1024x32_0_3472 : FVec Ideal S1024x32 .f32)⟩, ⟨S1024x32, (broadcastInDim S1024x32 ![] bcast_S_S1024x32 (constant S_ .f32 0x00000000#32) : FVec Ideal S1024x32 .f32)⟩] concatenates_S1024x3072_S1024x2048_S1024x384_S1024x16_S1024x176_S1024x32_S1024x32_S1024x5760_d1 : FVec Ideal S1024x5760 .f32) slices_S1024x5760_S1024x2688_0_3072 : FVec Ideal S1024x2688 .f32)
      = mat fun l n => ∑ r : Fin 4096, ins h (ix2 r l) * others d r n.val := by
  funext i
  obtain ⟨l, n, rfl⟩ : ∃ (l : Fin 1024) (n : Fin 2688), i = (ix2 l n : S1024x2688.Idx) := ⟨_, _, ix_eta i⟩
  refine (slice_at _ l n).trans ((placed w (ix2 l ⟨3072 + n.val, by omega⟩)).trans ?_)
  have e : ∀ k : ℕ, k < 5552 → weight w l k = ∑ r : Fin 4096, ins h (ix2 r l) * cot d r k := fun k hk =>
    (at_column w l (i := ⟨k, hk⟩) rfl hk).symm.trans ((congrFun hw _).trans (gradient h d l ⟨k, hk⟩))
  show _ = ∑ r : Fin 4096, ins h (ix2 r l) * others d r n.val
  have hn := n.isLt
  have go : ∀ k : ℕ, k < 5552 → (∀ r, others d r n.val = cot d r k) → columns w (ix2 l ⟨3072 + n.val, by omega⟩) = weight w l k →
      columns w (ix2 l ⟨3072 + n.val, by omega⟩) = ∑ r : Fin 4096, ins h (ix2 r l) * others d r n.val := fun k hk ho hc =>
    hc.trans ((e k hk).trans (Finset.sum_congr rfl fun r _ => by rw [ho r]))
  have none : (∀ r, others d r n.val = 0) → columns w (ix2 l ⟨3072 + n.val, by omega⟩) = 0 →
      columns w (ix2 l ⟨3072 + n.val, by omega⟩) = ∑ r : Fin 4096, ins h (ix2 r l) * others d r n.val := fun ho hc =>
    hc.trans (Finset.sum_eq_zero fun r _ => by rw [ho r, mul_zero]).symm
  have at_n : ∀ a b : ℕ, 3072 + n.val - a = b → (⟨3072 + n.val, by omega⟩ : Fin 5760).val - a = b := fun _ _ h => h
  by_cases h1 : n.val < 2048
  · refine go (3504 + n.val) (by omega) (fun r => if_pos h1) ((columns_merge w l _ (by dsimp only <;> omega) (by dsimp only <;> omega)).trans (congrArg (fun j => weight w l (3504 + j)) (at_n _ _ (by omega))))
  by_cases h2 : n.val < 2432
  · refine go (3088 + (n.val - 2048)) (by omega) (fun r => (if_neg h1).trans (if_pos h2)) ((columns_latent w l _ (by dsimp only <;> omega) (by dsimp only <;> omega)).trans (congrArg (fun j => weight w l (3088 + j)) (at_n _ _ (by omega))))
  by_cases h3 : n.val < 2448
  · refine go (3072 + (n.val - 2432)) (by omega) (fun r => (if_neg h1).trans ((if_neg h2).trans (if_pos h3))) ((columns_decay w l _ (by dsimp only <;> omega) (by dsimp only <;> omega)).trans (congrArg (fun j => weight w l (3072 + j)) (at_n _ _ (by omega))))
  by_cases h4 : n.val < 2624
  · exact none (fun r => (if_neg h1).trans ((if_neg h2).trans ((if_neg h3).trans (if_pos h4)))) (columns_gap w l _ (by dsimp only <;> omega) (by dsimp only <;> omega))
  by_cases h5 : n.val < 2656
  · refine go (3472 + (n.val - 2624)) (by omega) (fun r => (if_neg h1).trans ((if_neg h2).trans ((if_neg h3).trans ((if_neg h4).trans (if_pos h5))))) ((columns_kpe w l _ (by dsimp only <;> omega) (by dsimp only <;> omega)).trans (congrArg (fun j => weight w l (3472 + j)) (at_n _ _ (by omega))))
  · exact none (fun r => (if_neg h1).trans ((if_neg h2).trans ((if_neg h3).trans ((if_neg h4).trans (if_neg h5))))) (columns_end w l _ (by dsimp only <;> omega) (by dsimp only <;> omega))

end

open Cert.ProjDwBIdeal Cert.ProjDwBIdeal.Gen

theorem frame : Cert.quiescent_ProjDwB := fun m ρ _ => Cert.ProjDwB.Gen.frame m ρ
theorem frame_ideal : Cert.quiescent_ProjDwBIdeal := fun m ρ _ => Cert.ProjDwBIdeal.Gen.frame m ρ
theorem frame_reference : Cert.quiescent_ProjDwBReferenceIdeal := fun m ρ _ =>
  (θ_run Cert.ProjDwBReferenceIdeal.defs _ _).mono (fun r h => ⟨fun c => (h c).2, sem_eq_zero_of_no_sems (by decide) r.2⟩)
    (Cert.ProjDwBReferenceIdeal.Value.run (F := Ideal) m ρ)

/-- The call and the reference end with the same array. -/
theorem algebraic : Cert.algebraic_ProjDwBIdeal_ProjDwBReferenceIdeal := by
  intro m g m' g' _ hagree
  refine ⟨fun c : Dev nD => mat fun l n => ∑ r : Fin 4096, ins (m ((c.tc : Thread nD τ).loc main_arg0)) (ix2 r l)
    * others (m ((c.tc : Thread nD τ).loc main_arg2)) r n.val, ?_, ?_⟩
  · exact (θ_run Cert.ProjDwBIdeal.defs _ _).mono
      (fun r h c => ⟨(h c).1.trans (final m c _ (entry_ins m c) _ _ _ _ _ _ (entry_mergeA m c) (entry_mergeB m c) (entry_latQ m c) (entry_latKv m c) (entry_decay m c) (entry_kpe m c) _ (others_mergeA _) (others_mergeB _) (others_latQ _) (others_latKv _) (others_decay _) (others_kpe _)), (h c).2⟩) (Cert.ProjDwBIdeal.Value.run_blocks m g)
  · refine (θ_run Cert.ProjDwBReferenceIdeal.defs _ _).mono (fun r h c => ⟨(h c).1.trans ?_, (h c).2⟩) (Cert.ProjDwBReferenceIdeal.Value.run m' g')
    rw [(hagree c).1, (hagree c).2.2]
    exact reference _ _ _ rfl

end Cert.Proof.ProjDwB

end
-- ==== Proof.Proj.lean ====
/- The call `proj`: the first projection, with its columns in the order the later calls read them. -/
module

public import proofs.«01_k».proof.Defs
public import proofs.«01_k».proof.Proof.Products
public import proofs.«01_k».proof.Proof.Gen.ProjIdeal.Value
public import proofs.«01_k».proof.Proof.Gen.ProjReferenceIdeal.Run
public import proofs.«01_k».proof.Proof.Gen.Proj.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.Proj

open Idealize.ShloMosaic Idealize.ShloMosaic.TcCoe Idealize.SL.Sem Products

section

open Cert.ProjIdeal Cert.ProjIdeal.Gen

variable (m : (ℓ : Loc nD τ sig) → Buf (Elt Ideal) ℓ)

/-- The input's rows. -/
def ins (x : FVec Ideal S2x2048x1024 .f32) : FVec Ideal S4096x1024 .bf16 :=
  truncf .bf16 (shapeCast S4096x1024 x shapeCasts_S2x2048x1024_S4096x1024) bitsLt_bf16_f32

theorem entry_ins (c : Dev nD) : V m c main_v1 = ins (m ((c : Thread nD τ).loc main_arg0)) := by
  unfold V
  after_reads_simp
  rfl

/-- The weights, in the order of columns the later calls read. -/
def weights (x : FVec Ideal S1024x5552 .f32) : FVec Ideal S1024x5760 .bf16 :=
  truncf .bf16 (concatenate S1024x5760 1 [⟨S1024x3072, (extractStridedSlice S1024x3072 ![0, 0] x slices_S1024x5552_S1024x3072_0_0 : FVec Ideal S1024x3072 .f32)⟩,
    ⟨S1024x2048, (extractStridedSlice S1024x2048 ![0, 3504] x slices_S1024x5552_S1024x2048_0_3504 : FVec Ideal S1024x2048 .f32)⟩,
    ⟨S1024x384, (extractStridedSlice S1024x384 ![0, 3088] x slices_S1024x5552_S1024x384_0_3088 : FVec Ideal S1024x384 .f32)⟩,
    ⟨S1024x16, (extractStridedSlice S1024x16 ![0, 3072] x slices_S1024x5552_S1024x16_0_3072 : FVec Ideal S1024x16 .f32)⟩,
    ⟨S1024x176, (broadcastInDim S1024x176 ![] bcast_S_S1024x176 (constant S_ .f32 0x00000000#32) : FVec Ideal S1024x176 .f32)⟩,
    ⟨S1024x32, (extractStridedSlice S1024x32 ![0, 3472] x slices_S1024x5552_S1024x32_0_3472 : FVec Ideal S1024x32 .f32)⟩,
    ⟨S1024x32, (broadcastInDim S1024x32 ![] bcast_S_S1024x32 (constant S_ .f32 0x00000000#32) : FVec Ideal S1024x32 .f32)⟩]
    concatenates_S1024x3072_S1024x2048_S1024x384_S1024x16_S1024x176_S1024x32_S1024x32_S1024x5760_d1) bitsLt_bf16_f32

theorem entry_weights (c : Dev nD) : V m c main_v10 = weights (m ((c : Thread nD τ).loc main_arg1)) := by
  unfold V
  after_reads_simp
  rfl

theorem index0 : ∀ t : Fin cfg0.N, win0_0.index t = ![(grid0.coords t 0).val, 0] := by decide +kernel
theorem index1 : ∀ t : Fin cfg0.N, win0_1.index t = ![0, (grid0.coords t 1).val] := by decide +kernel
theorem index2 : ∀ t : Fin cfg0.N, win0_2.index t = ![(grid0.coords t 0).val, (grid0.coords t 1).val] := by decide +kernel

theorem payload (x : Vec Ideal S1024x1024 .bf16) (y : Vec Ideal S1024x1152 .bf16) (r : Fin 1024) (l : Fin 1152) :
    k0_pay1 x y (ix2 r l) = rowCol (M := 1024) (N := 1152) (K := 1024) x y r l := by
  unfold k0_pay1 rowCol
  pointwise

/-- What a grid point reads of the left matrix, whatever that matrix is. -/
theorem read0 (c : Dev nD) (t : Fin cfg0.N) (X : FVec Ideal S4096x1024 .bf16) (hX : V m c main_v1 = X) :
    iblk m c 0 t = ((cfg0.win 0).blk t).view.read (Elt Ideal) X := by
  subst hX
  rfl

/-- What a grid point reads of the right matrix. -/
theorem read1 (c : Dev nD) (t : Fin cfg0.N) (Y : FVec Ideal S1024x5760 .bf16) (hY : V m c main_v10 = Y) :
    iblk m c 1 t = ((cfg0.win 1).blk t).view.read (Elt Ideal) Y := by
  subst hY
  rfl

/-- The array the call leaves is the product of the two it takes. -/
theorem final (c : Dev nD) (X : FVec Ideal S4096x1024 .bf16) (Y : FVec Ideal S1024x5760 .bf16) (hX : V m c main_v1 = X) (hY : V m c main_v10 = Y) :
    (dats m 0 c).arrAt 2 cfg0.N = (mat (rowCol X Y) : FVec Ideal S4096x5760 .bf16) := by
  refine (dats m 0 c).arrAt_eq_of_covers 2 _ (by decide +kernel) fun t hf y => ?_
  blk_simp
  rw [after0_2]
  frame_out
  obtain ⟨r, l, rfl⟩ : ∃ (r : Fin 1024) (l : Fin 1152), y = (ix2 r l : S1024x1152.Idx) := ⟨_, _, ix_eta y⟩
  rw [payload]
  rw [read0 m c t X hX, read1 m c t Y hY]
  refine rowCol_congr (fun k => ?_) (fun k => ?_) <;> blk_ext [index0 t, index1 t, index2 t]

end

section

open Cert.ProjReferenceIdeal Cert.ProjReferenceIdeal.Gen

/-- The reference's array. -/
theorem reference (x : FVec Ideal S2x2048x1024 .f32) (w : FVec Ideal S1024x5552 .f32) :
    (truncf .bf16 (shapeCast _ ((concatenate S2x2048x5760 2 [⟨S2x2048x3072, ((extractStridedSlice S2x2048x3072 ![0, 0, 0] (Host.dotGeneral (F := Ideal) dot_S2x2048x1024_S1024x5552_S2x2048x5552_2_0_01_1_n_n none x w) slices_S2x2048x5552_S2x2048x3072_0_0_0) : FVec Ideal S2x2048x3072 .f32)⟩, ⟨S2x2048x2048, ((extractStridedSlice S2x2048x2048 ![0, 0, 3504] (Host.dotGeneral (F := Ideal) dot_S2x2048x1024_S1024x5552_S2x2048x5552_2_0_01_1_n_n none x w) slices_S2x2048x5552_S2x2048x2048_0_0_3504) : FVec Ideal S2x2048x2048 .f32)⟩, ⟨S2x2048x384, ((extractStridedSlice S2x2048x384 ![0, 0, 3088] (Host.dotGeneral (F := Ideal) dot_S2x2048x1024_S1024x5552_S2x2048x5552_2_0_01_1_n_n none x w) slices_S2x2048x5552_S2x2048x384_0_0_3088) : FVec Ideal S2x2048x384 .f32)⟩, ⟨S2x2048x16, ((extractStridedSlice S2x2048x16 ![0, 0, 3072] (Host.dotGeneral (F := Ideal) dot_S2x2048x1024_S1024x5552_S2x2048x5552_2_0_01_1_n_n none x w) slices_S2x2048x5552_S2x2048x16_0_0_3072) : FVec Ideal S2x2048x16 .f32)⟩, ⟨S2x2048x176, ((broadcastInDim S2x2048x176 ![] bcast_S_S2x2048x176 (constant S_ .f32 0x00000000#32)) : FVec Ideal S2x2048x176 .f32)⟩, ⟨S2x2048x32, ((extractStridedSlice S2x2048x32 ![0, 0, 3472] (Host.dotGeneral (F := Ideal) dot_S2x2048x1024_S1024x5552_S2x2048x5552_2_0_01_1_n_n none x w) slices_S2x2048x5552_S2x2048x32_0_0_3472) : FVec Ideal S2x2048x32 .f32)⟩, ⟨S2x2048x32, ((broadcastInDim S2x2048x32 ![] bcast_S_S2x2048x32 (constant S_ .f32 0x00000000#32)) : FVec Ideal S2x2048x32 .f32)⟩] concatenates_S2x2048x3072_S2x2048x2048_S2x2048x384_S2x2048x16_S2x2048x176_S2x2048x32_S2x2048x32_S2x2048x5760_d2 : FVec Ideal S2x2048x5760 .f32)) shapeCasts_S2x2048x5760_S4096x5760) bitsLt_bf16_f32 : FVec Ideal S4096x5760 .bf16)
      = mat (rowCol (ins x) (weights w)) := by
  funext i
  obtain ⟨r, l, rfl⟩ : ∃ (r : Fin 4096) (l : Fin 5760), i = (ix2 r l : S4096x5760.Idx) := ⟨_, _, ix_eta i⟩
  unfold mat rowCol
  unfold ins weights
  pointwise
  split_ifs <;> first | rfl | simp

end

open Cert.ProjIdeal Cert.ProjIdeal.Gen

theorem frame : Cert.quiescent_Proj := fun m ρ _ => Cert.Proj.Gen.frame m ρ
theorem frame_ideal : Cert.quiescent_ProjIdeal := fun m ρ _ => Cert.ProjIdeal.Gen.frame m ρ
theorem frame_reference : Cert.quiescent_ProjReferenceIdeal := fun m ρ _ =>
  (θ_run Cert.ProjReferenceIdeal.defs _ _).mono (fun r h => ⟨fun c => (h c).2, sem_eq_zero_of_no_sems (by decide) r.2⟩)
    (Cert.ProjReferenceIdeal.Value.run (F := Ideal) m ρ)

/-- The call and the reference end with the same array. -/
theorem algebraic : Cert.algebraic_ProjIdeal_ProjReferenceIdeal := by
  intro m g m' g' _ hagree
  refine ⟨fun c : Dev nD => mat (rowCol (ins (m ((c.tc : Thread nD τ).loc main_arg0))) (weights (m ((c.tc : Thread nD τ).loc main_arg1)))), ?_, ?_⟩
  · exact (θ_run Cert.ProjIdeal.defs _ _).mono
      (fun r h c => ⟨(h c).1.trans (final m c _ _ (entry_ins m c) (entry_weights m c)), (h c).2⟩) (Cert.ProjIdeal.Value.run_blocks m g)
  · refine (θ_run Cert.ProjReferenceIdeal.defs _ _).mono (fun r h c => ⟨(h c).1.trans ?_, (h c).2⟩) (Cert.ProjReferenceIdeal.Value.run m' g')
    rw [(hagree c).1, (hagree c).2]
    exact reference _ _

end Cert.Proof.Proj

end
-- ==== Proof.Gates.lean ====
/- The two gates that merge the branches, over the extended reals: their values, their slopes and where the logits lie. -/
module

public import Idealize.ShloMosaic.PureOps.Ideal
public import Idealize.ShloMosaic.Lib.Pointwise

@[expose] public section

noncomputable section

namespace Cert.Proof.Gates

open Idealize.ShloMosaic

/-- The logits of both gates, their biases, and the arrays of one branch. -/
abbrev Logits := (⟨3, ![2, 2048, 2048]⟩ : Shape).Idx → EReal
abbrev Biases := (⟨2, ![1, 2048]⟩ : Shape).Idx → EReal
abbrev Branch := (⟨3, ![2, 2048, 1024]⟩ : Shape).Idx → EReal

/-- The logistic function. -/
def gate (x : EReal) : EReal := Ideal.div 1 (1 + Ideal.exp (-x))

/-- The gate whose logits begin at column `o`. -/
def gateAt (o : ℕ) (h : o + 1024 ≤ 2048) (L : Logits) (B : Biases) (b : Fin 2) (r : Fin 2048) (l : Fin 1024) : EReal :=
  gate (L (ix3 b r ⟨o + l.val, by omega⟩) + B (ix2 0 ⟨o + l.val, by omega⟩))

/-- What reaches that gate's logit, the cotangent being `D` and the branch `Y`. -/
def slopeAt (o : ℕ) (h : o + 1024 ≤ 2048) (L : Logits) (B : Biases) (D Y : Branch) (b : Fin 2) (r : Fin 2048) (l : Fin 1024) : EReal :=
  D (ix3 b r l) * Y (ix3 b r l) * (gateAt o h L B b r l * (1 - gateAt o h L B b r l))

/-- The array with the given entries. -/
def arr (f : Fin 2 → Fin 2048 → Fin 1024 → EReal) : Branch := fun i => f (i 0) (i 1) (i 2)

theorem ix3_eta {A B C : ℕ} (i : (⟨3, ![A, B, C]⟩ : Shape).Idx) : i = ix3 (i 0) (i 1) (i 2) := by
  funext a
  match a with
  | ⟨0, _⟩ => rfl
  | ⟨1, _⟩ => rfl
  | ⟨2, _⟩ => rfl

theorem one : Ideal.ofBits .f32 0x3F800000#32 = (1 : EReal) := by
  simp [Ideal.ofBits, Ideal.ieee, -EReal.coe_mul]; norm_num

theorem zero : Ideal.ofBits .f32 0x00000000#32 = (0 : EReal) := by
  simp [Ideal.ofBits, Ideal.ieee]

end Cert.Proof.Gates

end
-- ==== Proof.MergeFwd.lean ====
/- The call `merge_fwd`: the two branches, each under its gate, added. -/
module

public import proofs.«01_k».proof.Defs
public import proofs.«01_k».proof.Proof.Gates
public import proofs.«01_k».proof.Proof.Gen.MergeFwdIdeal.Value
public import proofs.«01_k».proof.Proof.Gen.MergeFwdReferenceIdeal.Run
public import proofs.«01_k».proof.Proof.Gen.MergeFwd.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.MergeFwd

open Idealize.ShloMosaic Idealize.ShloMosaic.TcCoe Idealize.SL.Sem Gates

/-- The gated sum. -/
def merged (L : Logits) (B : Biases) (Y Z : Branch) (b : Fin 2) (r : Fin 2048) (l : Fin 1024) : EReal :=
  gateAt 0 (by decide) L B b r l * Y (ix3 b r l) + gateAt 1024 (by decide) L B b r l * Z (ix3 b r l)

section

open Cert.MergeFwdIdeal Cert.MergeFwdIdeal.Gen

variable (m : (ℓ : Loc nD τ sig) → Buf (Elt Ideal) ℓ)

/-- The logits, at their columns of the array the call reads. -/
def placed (x : FVec Ideal S2x2048x2048 .f32) : FVec Ideal S2x2048x5760 .bf16 :=
  truncf .bf16 (pad S2x2048x5760 ![0, 0, 3072] ![0, 0, 640] ![0, 0, 0] x (sitofp .f32 (constantI S_ 32 0#32))
    pads_S2x2048x2048_S2x2048x5760_000_000_30726400 h_S_) bitsLt_bf16_f32

theorem placed_apply (x : FVec Ideal S2x2048x2048 .f32) (b : Fin 2) (r : Fin 2048) (l : ℕ) (h : l < 2048) (h' : 3072 + l < 5760) :
    placed x (ix3 b r ⟨3072 + l, h'⟩) = x (ix3 b r ⟨l, h⟩) := by
  unfold placed
  pointwise
  exact dif_pos h

theorem entry_logits (c : Dev nD) : V m c main_v1 = placed (m ((c : Thread nD τ).loc main_arg0)) := by
  unfold V
  after_reads_simp
  simp only [StableHlo.TRef.toBuf, StableHlo.TRef.ofBuf, cast_eq]
  rfl

theorem entry_biases (c : Dev nD) : V m c main_arg1 = m ((c : Thread nD τ).loc main_arg1) := V_main_arg1 m c

theorem entry_first (c : Dev nD) : V m c main_v2 = (truncf .bf16 (m ((c : Thread nD τ).loc main_arg2) : FVec Ideal S2x2048x1024 .f32) bitsLt_bf16_f32 : FVec Ideal S2x2048x1024 .bf16) := by
  unfold V
  after_reads_simp

theorem entry_second (c : Dev nD) : V m c main_v3 = (truncf .bf16 (m ((c : Thread nD τ).loc main_arg3) : FVec Ideal S2x2048x1024 .f32) bitsLt_bf16_f32 : FVec Ideal S2x2048x1024 .bf16) := by
  unfold V
  after_reads_simp

theorem index0 : ∀ t : Fin cfg0.N, win0_0.index t = ![(grid0.coords t 0).val, (grid0.coords t 1).val, 3] := by decide +kernel
theorem index1 : ∀ t : Fin cfg0.N, win0_1.index t = ![(grid0.coords t 0).val, (grid0.coords t 1).val, 4] := by decide +kernel
theorem index2 : ∀ t : Fin cfg0.N, win0_2.index t = ![0, 0] := by decide +kernel
theorem index3 : ∀ t : Fin cfg0.N, win0_3.index t = ![0, 1] := by decide +kernel
theorem index4 : ∀ t : Fin cfg0.N, win0_4.index t = ![(grid0.coords t 0).val, (grid0.coords t 1).val, 0] := by decide +kernel
theorem index5 : ∀ t : Fin cfg0.N, win0_5.index t = ![(grid0.coords t 0).val, (grid0.coords t 1).val, 0] := by decide +kernel
theorem index6 : ∀ t : Fin cfg0.N, win0_6.index t = ![(grid0.coords t 0).val, (grid0.coords t 1).val, 0] := by decide +kernel

/-- The member of the batch and the row of one point's block. -/
def batch (t : Fin cfg0.N) : Fin 2 := ⟨(grid0.coords t 0).val, (grid0.coords t 0).isLt⟩
def row (t : Fin cfg0.N) (r : Fin 512) : Fin 2048 :=
  ⟨(grid0.coords t 1).val * 512 + r.val, by have h := (grid0.coords t 1).isLt; have h' : (grid0.coords t 1).val < 4 := h; omega⟩

theorem payload (x0 x1 x4 x5 : Vec Ideal S1x512x1024 .bf16) (x2 x3 : Vec Ideal S1x1024 .f32) (r : Fin 512) (l : Fin 1024) :
    k0_pay1 (k0_pay2 x0 x2 x1 x3 x4 x5) (ix3 0 r l)
      = gate (x0 (ix3 0 r l) + x2 (ix2 0 l)) * x4 (ix3 0 r l) + gate (x1 (ix3 0 r l) + x3 (ix2 0 l)) * x5 (ix3 0 r l) := by
  unfold k0_pay1 k0_pay2 gate
  pointwise [one, zero]
  simp only [zero_sub]

theorem read0 (c : Dev nD) (t : Fin cfg0.N) (X : FVec Ideal S2x2048x5760 .bf16) (hX : V m c main_v1 = X) (r : Fin 512) (l : Fin 1024) :
    X0_0 m c t (ix3 0 r l) = X (ix3 (batch t) (row t r) ⟨3072 + l.val, by omega⟩) := by
  subst hX
  unfold X0_0 Pipeline.Window.fill
  rw [dif_pos (moved0_0 t _)]
  blk_ext [iblk, index0 t, batch, row]

theorem read1 (c : Dev nD) (t : Fin cfg0.N) (X : FVec Ideal S2x2048x5760 .bf16) (hX : V m c main_v1 = X) (r : Fin 512) (l : Fin 1024) :
    X0_1 m c t (ix3 0 r l) = X (ix3 (batch t) (row t r) ⟨4096 + l.val, by omega⟩) := by
  subst hX
  unfold X0_1 Pipeline.Window.fill
  rw [dif_pos (moved0_1 t _)]
  blk_ext [iblk, index1 t, batch, row]

theorem read2 (c : Dev nD) (t : Fin cfg0.N) (X : FVec Ideal S1x2048 .f32) (hX : V m c main_arg1 = X) (l : Fin 1024) :
    iblk m c 2 t (ix2 0 l) = X (ix2 0 ⟨0 + l.val, by omega⟩) := by
  subst hX
  blk_ext [iblk, index2 t]

theorem read3 (c : Dev nD) (t : Fin cfg0.N) (X : FVec Ideal S1x2048 .f32) (hX : V m c main_arg1 = X) (l : Fin 1024) :
    iblk m c 3 t (ix2 0 l) = X (ix2 0 ⟨1024 + l.val, by omega⟩) := by
  subst hX
  blk_ext [iblk, index3 t]

theorem read4 (c : Dev nD) (t : Fin cfg0.N) (X : FVec Ideal S2x2048x1024 .bf16) (hX : V m c main_v2 = X) (r : Fin 512) (l : Fin 1024) :
    iblk m c 4 t (ix3 0 r l) = X (ix3 (batch t) (row t r) l) := by
  subst hX
  blk_ext [iblk, index4 t, batch, row]

theorem read5 (c : Dev nD) (t : Fin cfg0.N) (X : FVec Ideal S2x2048x1024 .bf16) (hX : V m c main_v3 = X) (r : Fin 512) (l : Fin 1024) :
    iblk m c 5 t (ix3 0 r l) = X (ix3 (batch t) (row t r) l) := by
  subst hX
  blk_ext [iblk, index5 t, batch, row]

/-- The array the call leaves. -/
theorem final (c : Dev nD) (L : FVec Ideal S2x2048x2048 .f32) (B : FVec Ideal S1x2048 .f32) (Y Z : FVec Ideal S2x2048x1024 .bf16)
    (hL : V m c main_v1 = placed L) (hB : V m c main_arg1 = B) (hY : V m c main_v2 = Y) (hZ : V m c main_v3 = Z) :
    (dats m 0 c).arrAt 6 cfg0.N = (arr (merged L B Y Z) : FVec Ideal S2x2048x1024 .bf16) := by
  refine (dats m 0 c).arrAt_eq_of_covers 6 _ (by decide +kernel) fun t hf y => ?_
  blk_simp
  rw [after0_6]
  unfold outsAt0
  frame_out
  obtain ⟨z, r, l, rfl⟩ : ∃ (z : Fin 1) (r : Fin 512) (l : Fin 1024), y = (ix3 z r l : S1x512x1024.Idx) := ⟨_, _, _, ix3_eta y⟩
  obtain rfl : z = 0 := Subsingleton.elim _ _
  rw [payload, read0 m c t _ hL, read1 m c t _ hL, read2 m c t _ hB, read3 m c t _ hB, read4 m c t _ hY, read5 m c t _ hZ]
  have hy : arr (merged L B Y Z) (((cfg0.win 6).blk t).view.emb (ix3 0 r l)) = arr (merged L B Y Z) (ix3 (batch t) (row t r) l) := by
    blk_ext [index6 t, batch, row]
  refine Eq.trans ?_ hy.symm
  show _ = merged L B Y Z (batch t) (row t r) l
  unfold merged gateAt
  rw [← placed_apply L (batch t) (row t r) (0 + l.val) (by omega) (by omega), ← placed_apply L (batch t) (row t r) (1024 + l.val) (by omega) (by omega)]
  simp only [← Nat.add_assoc, Nat.add_zero, Nat.reduceAdd]

end

section

open Cert.MergeFwdReferenceIdeal Cert.MergeFwdReferenceIdeal.Gen

/-- The reference's array. -/
theorem reference (x : FVec Ideal S2x2048x2048 .f32) (y : FVec Ideal S1x2048 .f32) (a b : FVec Ideal S2x2048x1024 .f32) :
    (truncf .bf16 (addf (mulf (extractStridedSlice S2x2048x1024 ![0, 0, 0] (Host.divf (broadcastInDim S2x2048x2048 ![] bcast_S_S2x2048x2048 (constant S_ .f32 0x3F800000#32)) (addf (broadcastInDim S2x2048x2048 ![] bcast_S_S2x2048x2048 (constant S_ .f32 0x3F800000#32)) (Host.exp (Host.negf (addf x (broadcastInDim S2x2048x2048 ![0, 1, 2] bcast_S1x1x2048_S2x2048x2048_0_1_2 (broadcastInDim S1x1x2048 ![1, 2] bcast_S1x2048_S1x1x2048_1_2 y))))))) slices_S2x2048x2048_S2x2048x1024_0_0_0) a) (mulf (extractStridedSlice S2x2048x1024 ![0, 0, 1024] (Host.divf (broadcastInDim S2x2048x2048 ![] bcast_S_S2x2048x2048 (constant S_ .f32 0x3F800000#32)) (addf (broadcastInDim S2x2048x2048 ![] bcast_S_S2x2048x2048 (constant S_ .f32 0x3F800000#32)) (Host.exp (Host.negf (addf x (broadcastInDim S2x2048x2048 ![0, 1, 2] bcast_S1x1x2048_S2x2048x2048_0_1_2 (broadcastInDim S1x1x2048 ![1, 2] bcast_S1x2048_S1x1x2048_1_2 y))))))) slices_S2x2048x2048_S2x2048x1024_0_0_1024) b)) bitsLt_bf16_f32 : FVec Ideal S2x2048x1024 .bf16)
      = arr (merged x y a b) := by
  funext i
  obtain ⟨b', r, l, rfl⟩ : ∃ (b' : Fin 2) (r : Fin 2048) (l : Fin 1024), i = (ix3 b' r l : S2x2048x1024.Idx) := ⟨_, _, _, ix3_eta i⟩
  unfold arr merged gateAt gate
  pointwise [one]

end

open Cert.MergeFwdIdeal Cert.MergeFwdIdeal.Gen

theorem frame : Cert.quiescent_MergeFwd := fun m ρ _ => Cert.MergeFwd.Gen.frame m ρ
theorem frame_ideal : Cert.quiescent_MergeFwdIdeal := fun m ρ _ => Cert.MergeFwdIdeal.Gen.frame m ρ
theorem frame_reference : Cert.quiescent_MergeFwdReferenceIdeal := fun m ρ _ =>
  (θ_run Cert.MergeFwdReferenceIdeal.defs _ _).mono (fun r h => ⟨fun c => (h c).2, sem_eq_zero_of_no_sems (by decide) r.2⟩)
    (Cert.MergeFwdReferenceIdeal.Value.run (F := Ideal) m ρ)

/-- The call and the reference end with the same array. -/
theorem algebraic : Cert.algebraic_MergeFwdIdeal_MergeFwdReferenceIdeal := by
  intro m g m' g' _ hagree
  refine ⟨fun c : Dev nD => arr (merged (m ((c.tc : Thread nD τ).loc main_arg0)) (m ((c.tc : Thread nD τ).loc main_arg1)) (m ((c.tc : Thread nD τ).loc main_arg2)) (m ((c.tc : Thread nD τ).loc main_arg3))), ?_, ?_⟩
  · exact (θ_run Cert.MergeFwdIdeal.defs _ _).mono
      (fun r h c => ⟨(h c).1.trans (final m c _ _ _ _ (entry_logits m c) (entry_biases m c) (entry_first m c) (entry_second m c)), (h c).2⟩) (Cert.MergeFwdIdeal.Value.run_blocks m g)
  · refine (θ_run Cert.MergeFwdReferenceIdeal.defs _ _).mono (fun r h c => ⟨(h c).1.trans ?_, (h c).2⟩) (Cert.MergeFwdReferenceIdeal.Value.run m' g')
    rw [(hagree c).1, (hagree c).2.1, (hagree c).2.2.1, (hagree c).2.2.2]
    exact reference _ _ _ _

end Cert.Proof.MergeFwd

end
-- ==== Proof.MergeBwd.lean ====
/- The call `merge_bwd`: what reaches the branches, the gates' logits and the biases from the merge's cotangent. -/
module

public import proofs.«01_k».proof.Defs
public import proofs.«01_k».proof.Proof.MergeFwd
public import proofs.«01_k».proof.Proof.Products
public import proofs.«01_k».proof.Proof.Gen.MergeBwdIdeal.Value
public import proofs.«01_k».proof.Proof.Gen.MergeBwdReferenceIdeal.Run
public import proofs.«01_k».proof.Proof.Gen.MergeBwd.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.MergeBwd

open Idealize.ShloMosaic Idealize.ShloMosaic.TcCoe Idealize.SL.Sem Gates MergeFwd

/-- A host sum over the first two axes of three. -/
theorem sum_two {A R W : ℕ} (h : (⟨3, ![A, R, W]⟩ : Shape).ReducesTo [0, 1] ⟨1, ![W]⟩) (v : (⟨3, ![A, R, W]⟩ : Shape).Idx → EReal) (init : EReal) (l : Fin W) :
    Ideal.hostReduceAdd h v init (ix1 l) = init + ∑ a : Fin A, ∑ r : Fin R, v (ix3 a r l) := by
  refine congrArg (init + ·) (Eq.trans ?_ (Fintype.sum_prod_type' (fun a r => v (ix3 a r l))))
  refine Finset.sum_filter_eq_sum_of_fiber _ (fun p : Fin A × Fin R => ix3 p.1 p.2 l) (fun p q e => Prod.ext (congrFun e 0) (congrFun e 1)) (fun i => ?_) v
  constructor
  · intro e
    refine ⟨(i 0, i 1), ?_⟩
    funext a
    apply Fin.ext
    match a with
    | ⟨0, _⟩ => rfl
    | ⟨1, _⟩ => rfl
    | ⟨2, _⟩ => exact (congrArg Fin.val (congrFun e 0)).symm
  · rintro ⟨p, rfl⟩
    funext b
    apply Fin.ext
    match b with
    | ⟨0, _⟩ => rfl

/-- What reaches a branch, whose gate's logits begin at column `o`. -/
def branchAt (o : ℕ) (h : o + 1024 ≤ 2048) (L : Logits) (B : Biases) (D : Branch) (b : Fin 2) (r : Fin 2048) (l : Fin 1024) : EReal :=
  D (ix3 b r l) * gateAt o h L B b r l

/-- What reaches the biases of that gate. -/
def biasAt (o : ℕ) (h : o + 1024 ≤ 2048) (L : Logits) (B : Biases) (D Y : Branch) : (⟨2, ![1, 1024]⟩ : Shape).Idx → EReal :=
  fun i => ∑ b : Fin 2, ∑ r : Fin 2048, slopeAt o h L B D Y b r (i 1)

section

open Cert.MergeBwdIdeal Cert.MergeBwdIdeal.Gen

variable (m : (ℓ : Loc nD τ sig) → Buf (Elt Ideal) ℓ)

/-- A branch's array, as the call reads it. -/
def cast (x : FVec Ideal S2x2048x1024 .f32) : FVec Ideal S2x2048x1024 .bf16 := truncf .bf16 x bitsLt_bf16_f32

theorem entry_logits (c : Dev nD) : V m c main_v2 = placed (m ((c : Thread nD τ).loc main_arg0)) := by
  unfold V
  after_reads_simp
  simp only [StableHlo.TRef.toBuf, StableHlo.TRef.ofBuf, cast_eq]
  rfl

theorem entry_cotangent (c : Dev nD) : V m c main_v0 = cast (m ((c : Thread nD τ).loc main_arg4)) := by
  unfold V
  after_reads_simp
  rfl

theorem entry_first (c : Dev nD) : V m c main_v3 = cast (m ((c : Thread nD τ).loc main_arg2)) := by
  unfold V
  after_reads_simp
  rfl

theorem entry_second (c : Dev nD) : V m c main_v4 = cast (m ((c : Thread nD τ).loc main_arg3)) := by
  unfold V
  after_reads_simp
  rfl

theorem index1 : ∀ t : Fin cfg0.N, win0_1.index t = ![(grid0.coords t 0).val, (grid0.coords t 1).val, 3] := by decide +kernel
theorem index2 : ∀ t : Fin cfg0.N, win0_2.index t = ![(grid0.coords t 0).val, (grid0.coords t 1).val, 4] := by decide +kernel
theorem index3 : ∀ t : Fin cfg0.N, win0_3.index t = ![0, 0] := by decide +kernel
theorem index4 : ∀ t : Fin cfg0.N, win0_4.index t = ![0, 1] := by decide +kernel
theorem index0 : ∀ t : Fin cfg0.N, win0_0.index t = ![(grid0.coords t 0).val, (grid0.coords t 1).val, 0] := by decide +kernel
theorem index5 : ∀ t : Fin cfg0.N, win0_5.index t = ![(grid0.coords t 0).val, (grid0.coords t 1).val, 0] := by decide +kernel
theorem index6 : ∀ t : Fin cfg0.N, win0_6.index t = ![(grid0.coords t 0).val, (grid0.coords t 1).val, 0] := by decide +kernel
theorem index7 : ∀ t : Fin cfg0.N, win0_7.index t = ![(grid0.coords t 0).val, (grid0.coords t 1).val, 0] := by decide +kernel
theorem index8 : ∀ t : Fin cfg0.N, win0_8.index t = ![(grid0.coords t 0).val, (grid0.coords t 1).val, 0] := by decide +kernel
theorem index9 : ∀ t : Fin cfg0.N, win0_9.index t = ![(grid0.coords t 0).val, (grid0.coords t 1).val, 0] := by decide +kernel
theorem index10 : ∀ t : Fin cfg0.N, win0_10.index t = ![(grid0.coords t 0).val, (grid0.coords t 1).val, 0] := by decide +kernel

/-- The member of the batch and the row of one point's block. -/
def batch (t : Fin cfg0.N) : Fin 2 := ⟨(grid0.coords t 0).val, (grid0.coords t 0).isLt⟩
def row (t : Fin cfg0.N) (r : Fin 512) : Fin 2048 :=
  ⟨(grid0.coords t 1).val * 512 + r.val, by have h := (grid0.coords t 1).isLt; have h' : (grid0.coords t 1).val < 4 := h; omega⟩

theorem coords0 : ∀ t : Fin cfg0.N, (grid0.coords t 0).val = t.val / 4 := by decide +kernel
theorem coords1 : ∀ t : Fin cfg0.N, (grid0.coords t 1).val = t.val % 4 := by decide +kernel

section

variable (x0 x1 x2 x5 x6 : Vec Ideal S1x512x1024 .bf16) (x3 x4 u : Vec Ideal S1x1024 .f32) (r : Fin 512) (l : Fin 1024)

/-- A block's gate, and its slope. -/
def gateOf (x : Vec Ideal S1x512x1024 .bf16) (y : Vec Ideal S1x1024 .f32) (r : Fin 512) (l : Fin 1024) : EReal := gate (x (ix3 0 r l) + y (ix2 0 l))
def slopeOf (x0 x x' : Vec Ideal S1x512x1024 .bf16) (y : Vec Ideal S1x1024 .f32) (r : Fin 512) (l : Fin 1024) : EReal :=
  x0 (ix3 0 r l) * x' (ix3 0 r l) * (gateOf x y r l * (1 - gateOf x y r l))

theorem payload7 : k0_pay9 (k0_pay8 x0 x1 x3) (ix3 0 r l) = x0 (ix3 0 r l) * gateOf x1 x3 r l := by
  unfold k0_pay9 k0_pay8 k0_pay5 k0_pay6 gateOf gate
  pointwise [one, zero]
  simp only [zero_sub]

theorem payload8 : k0_pay10 (k0_pay5 x0) (k0_pay7 x2 x4) (ix3 0 r l) = x0 (ix3 0 r l) * gateOf x2 x4 r l := by
  unfold k0_pay10 k0_pay5 k0_pay7 gateOf gate
  pointwise [one, zero]
  simp only [zero_sub]

theorem slope1 : k0_pay11 (k0_pay5 x0) (k0_pay6 x1 x3) x5 (ix2 r l) = slopeOf x0 x1 x5 x3 r l := by
  unfold k0_pay11 k0_pay5 k0_pay6 slopeOf gateOf gate
  pointwise [one, zero]
  simp only [zero_sub]

theorem slope2 : k0_pay12 (k0_pay5 x0) (k0_pay7 x2 x4) x6 (ix2 r l) = slopeOf x0 x2 x6 x4 r l := by
  unfold k0_pay12 k0_pay5 k0_pay7 slopeOf gateOf gate
  pointwise [one, zero]
  simp only [zero_sub]

theorem payload9 : k0_pay13 (k0_pay5 x0) (k0_pay6 x1 x3) x5 (ix3 0 r l) = slopeOf x0 x1 x5 x3 r l := by
  rw [← slope1]
  unfold k0_pay13
  pointwise

theorem payload10 : k0_pay14 (k0_pay5 x0) (k0_pay7 x2 x4) x6 (ix3 0 r l) = slopeOf x0 x2 x6 x4 r l := by
  rw [← slope2]
  unfold k0_pay14
  pointwise

theorem payload11 : k0_pay1 (k0_pay11 (k0_pay5 x0) (k0_pay6 x1 x3) x5) u (ix2 0 l) = u (ix2 0 l) + ∑ r : Fin 512, slopeOf x0 x1 x5 x3 r l := by
  simp only [← slope1]
  unfold k0_pay1
  pointwise

theorem payload12 : k0_pay2 (k0_pay12 (k0_pay5 x0) (k0_pay7 x2 x4) x6) u (ix2 0 l) = u (ix2 0 l) + ∑ r : Fin 512, slopeOf x0 x2 x6 x4 r l := by
  simp only [← slope2]
  unfold k0_pay2
  pointwise

theorem none11 : k0_pay3 (F := Ideal) (ix2 0 l) = 0 := by
  unfold k0_pay3
  pointwise [zero]

theorem none12 : k0_pay4 (F := Ideal) (ix2 0 l) = 0 := by
  unfold k0_pay4
  pointwise [zero]

end

theorem read0 (c : Dev nD) (t : Fin cfg0.N) (X : FVec Ideal S2x2048x1024 .bf16) (hX : V m c main_v0 = X) (r : Fin 512) (l : Fin 1024) :
    iblk m c 0 t (ix3 0 r l) = X (ix3 (batch t) (row t r) l) := by
  subst hX
  blk_ext [iblk, index0 t, batch, row]

theorem read5 (c : Dev nD) (t : Fin cfg0.N) (X : FVec Ideal S2x2048x1024 .bf16) (hX : V m c main_v3 = X) (r : Fin 512) (l : Fin 1024) :
    iblk m c 5 t (ix3 0 r l) = X (ix3 (batch t) (row t r) l) := by
  subst hX
  blk_ext [iblk, index5 t, batch, row]

theorem read6 (c : Dev nD) (t : Fin cfg0.N) (X : FVec Ideal S2x2048x1024 .bf16) (hX : V m c main_v4 = X) (r : Fin 512) (l : Fin 1024) :
    iblk m c 6 t (ix3 0 r l) = X (ix3 (batch t) (row t r) l) := by
  subst hX
  blk_ext [iblk, index6 t, batch, row]

theorem read1 (c : Dev nD) (t : Fin cfg0.N) (X : FVec Ideal S2x2048x5760 .bf16) (hX : V m c main_v2 = X) (r : Fin 512) (l : Fin 1024) :
    X0_1 m c t (ix3 0 r l) = X (ix3 (batch t) (row t r) ⟨3072 + l.val, by omega⟩) := by
  subst hX
  unfold X0_1 Pipeline.Window.fill
  rw [dif_pos (moved0_1 t _)]
  blk_ext [iblk, index1 t, batch, row]

theorem read2 (c : Dev nD) (t : Fin cfg0.N) (X : FVec Ideal S2x2048x5760 .bf16) (hX : V m c main_v2 = X) (r : Fin 512) (l : Fin 1024) :
    X0_2 m c t (ix3 0 r l) = X (ix3 (batch t) (row t r) ⟨4096 + l.val, by omega⟩) := by
  subst hX
  unfold X0_2 Pipeline.Window.fill
  rw [dif_pos (moved0_2 t _)]
  blk_ext [iblk, index2 t, batch, row]

theorem read3 (c : Dev nD) (t : Fin cfg0.N) (X : FVec Ideal S1x2048 .f32) (hX : V m c main_arg1 = X) (l : Fin 1024) :
    iblk m c 3 t (ix2 0 l) = X (ix2 0 ⟨0 + l.val, by omega⟩) := by
  subst hX
  blk_ext [iblk, index3 t]

theorem read4 (c : Dev nD) (t : Fin cfg0.N) (X : FVec Ideal S1x2048 .f32) (hX : V m c main_arg1 = X) (l : Fin 1024) :
    iblk m c 4 t (ix2 0 l) = X (ix2 0 ⟨1024 + l.val, by omega⟩) := by
  subst hX
  blk_ext [iblk, index4 t]

section

variable (c : Dev nD) (L : FVec Ideal S2x2048x2048 .f32) (B : FVec Ideal S1x2048 .f32) (D Y Z : FVec Ideal S2x2048x1024 .bf16)
  (hL : V m c main_v2 = placed L) (hB : V m c main_arg1 = B)

include hL hB

/-- The gates of one point's block. -/
theorem gate1 (t : Fin cfg0.N) (r : Fin 512) (l : Fin 1024) : gateOf (X0_1 m c t) (iblk m c 3 t) r l = gateAt 0 (by decide) L B (batch t) (row t r) l := by
  unfold gateOf gateAt
  rw [read1 m c t _ hL, read3 m c t _ hB, ← placed_apply L (batch t) (row t r) (0 + l.val) (by omega) (by omega)]
  simp only [← Nat.add_assoc, Nat.add_zero]

theorem gate2 (t : Fin cfg0.N) (r : Fin 512) (l : Fin 1024) : gateOf (X0_2 m c t) (iblk m c 4 t) r l = gateAt 1024 (by decide) L B (batch t) (row t r) l := by
  unfold gateOf gateAt
  rw [read2 m c t _ hL, read4 m c t _ hB, ← placed_apply L (batch t) (row t r) (1024 + l.val) (by omega) (by omega)]
  simp only [← Nat.add_assoc, Nat.reduceAdd]

variable (hD : V m c main_v0 = D)
include hD

theorem slopes1 (hY : V m c main_v3 = Y) (t : Fin cfg0.N) (r : Fin 512) (l : Fin 1024) :
    slopeOf (iblk m c 0 t) (X0_1 m c t) (iblk m c 5 t) (iblk m c 3 t) r l = slopeAt 0 (by decide) L B D Y (batch t) (row t r) l := by
  unfold slopeOf slopeAt
  rw [gate1 m c L B hL hB, read0 m c t _ hD, read5 m c t _ hY]

theorem slopes2 (hZ : V m c main_v4 = Z) (t : Fin cfg0.N) (r : Fin 512) (l : Fin 1024) :
    slopeOf (iblk m c 0 t) (X0_2 m c t) (iblk m c 6 t) (iblk m c 4 t) r l = slopeAt 1024 (by decide) L B D Z (batch t) (row t r) l := by
  unfold slopeOf slopeAt
  rw [gate2 m c L B hL hB, read0 m c t _ hD, read6 m c t _ hZ]

/-- The arrays the call leaves. -/
theorem final7 : (dats m 0 c).arrAt 7 cfg0.N = (arr (branchAt 0 (by decide) L B D) : FVec Ideal S2x2048x1024 .bf16) := by
  refine (dats m 0 c).arrAt_eq_of_covers 7 _ (by decide +kernel) fun t hf y => ?_
  blk_simp
  rw [after0_7]
  obtain ⟨z, r, l, rfl⟩ : ∃ (z : Fin 1) (r : Fin 512) (l : Fin 1024), y = (ix3 z r l : S1x512x1024.Idx) := ⟨_, _, _, ix3_eta y⟩
  obtain rfl : z = 0 := Subsingleton.elim _ _
  have hy : arr (branchAt 0 (by decide) L B D) (((cfg0.win 7).blk t).view.emb (ix3 0 r l)) = arr (branchAt 0 (by decide) L B D) (ix3 (batch t) (row t r) l) := by
    blk_ext [index7 t, batch, row]
  refine Eq.trans ?_ hy.symm
  by_cases h0 : t.val % 8 = 0
  · rw [outsAt0_A m c t h0]
    frame_out
    exact (payload7 _ _ _ r l).trans (congr (congrArg HMul.hMul (read0 m c t _ hD r l)) (gate1 m c L B hL hB t r l))
  · rw [outsAt0_B m c t h0]
    frame_out
    exact (payload7 _ _ _ r l).trans (congr (congrArg HMul.hMul (read0 m c t _ hD r l)) (gate1 m c L B hL hB t r l))

theorem final8 : (dats m 0 c).arrAt 8 cfg0.N = (arr (branchAt 1024 (by decide) L B D) : FVec Ideal S2x2048x1024 .bf16) := by
  refine (dats m 0 c).arrAt_eq_of_covers 8 _ (by decide +kernel) fun t hf y => ?_
  blk_simp
  rw [after0_8]
  obtain ⟨z, r, l, rfl⟩ : ∃ (z : Fin 1) (r : Fin 512) (l : Fin 1024), y = (ix3 z r l : S1x512x1024.Idx) := ⟨_, _, _, ix3_eta y⟩
  obtain rfl : z = 0 := Subsingleton.elim _ _
  have hy : arr (branchAt 1024 (by decide) L B D) (((cfg0.win 8).blk t).view.emb (ix3 0 r l)) = arr (branchAt 1024 (by decide) L B D) (ix3 (batch t) (row t r) l) := by
    blk_ext [index8 t, batch, row]
  refine Eq.trans ?_ hy.symm
  by_cases h0 : t.val % 8 = 0
  · rw [outsAt0_A m c t h0]
    frame_out
    exact (payload8 _ _ _ r l).trans (congr (congrArg HMul.hMul (read0 m c t _ hD r l)) (gate2 m c L B hL hB t r l))
  · rw [outsAt0_B m c t h0]
    frame_out
    exact (payload8 _ _ _ r l).trans (congr (congrArg HMul.hMul (read0 m c t _ hD r l)) (gate2 m c L B hL hB t r l))

theorem final9 (hY : V m c main_v3 = Y) : (dats m 0 c).arrAt 9 cfg0.N = (arr (slopeAt 0 (by decide) L B D Y) : FVec Ideal S2x2048x1024 .bf16) := by
  refine (dats m 0 c).arrAt_eq_of_covers 9 _ (by decide +kernel) fun t hf y => ?_
  blk_simp
  rw [after0_9]
  obtain ⟨z, r, l, rfl⟩ : ∃ (z : Fin 1) (r : Fin 512) (l : Fin 1024), y = (ix3 z r l : S1x512x1024.Idx) := ⟨_, _, _, ix3_eta y⟩
  obtain rfl : z = 0 := Subsingleton.elim _ _
  have hy : arr (slopeAt 0 (by decide) L B D Y) (((cfg0.win 9).blk t).view.emb (ix3 0 r l)) = arr (slopeAt 0 (by decide) L B D Y) (ix3 (batch t) (row t r) l) := by
    blk_ext [index9 t, batch, row]
  refine Eq.trans ?_ hy.symm
  by_cases h0 : t.val % 8 = 0
  · rw [outsAt0_A m c t h0]
    frame_out
    exact (payload9 _ _ _ _ r l).trans (slopes1 m c L B D Y hL hB hD hY t r l)
  · rw [outsAt0_B m c t h0]
    frame_out
    exact (payload9 _ _ _ _ r l).trans (slopes1 m c L B D Y hL hB hD hY t r l)

theorem final10 (hZ : V m c main_v4 = Z) : (dats m 0 c).arrAt 10 cfg0.N = (arr (slopeAt 1024 (by decide) L B D Z) : FVec Ideal S2x2048x1024 .bf16) := by
  refine (dats m 0 c).arrAt_eq_of_covers 10 _ (by decide +kernel) fun t hf y => ?_
  blk_simp
  rw [after0_10]
  obtain ⟨z, r, l, rfl⟩ : ∃ (z : Fin 1) (r : Fin 512) (l : Fin 1024), y = (ix3 z r l : S1x512x1024.Idx) := ⟨_, _, _, ix3_eta y⟩
  obtain rfl : z = 0 := Subsingleton.elim _ _
  have hy : arr (slopeAt 1024 (by decide) L B D Z) (((cfg0.win 10).blk t).view.emb (ix3 0 r l)) = arr (slopeAt 1024 (by decide) L B D Z) (ix3 (batch t) (row t r) l) := by
    blk_ext [index10 t, batch, row]
  refine Eq.trans ?_ hy.symm
  by_cases h0 : t.val % 8 = 0
  · rw [outsAt0_A m c t h0]
    frame_out
    exact (payload10 _ _ _ _ r l).trans (slopes2 m c L B D Z hL hB hD hZ t r l)
  · rw [outsAt0_B m c t h0]
    frame_out
    exact (payload10 _ _ _ _ r l).trans (slopes2 m c L B D Z hL hB hD hZ t r l)

theorem final11 (hY : V m c main_v3 = Y) : (dats m 0 c).arrAt 11 cfg0.N = (biasAt 0 (by decide) L B D Y : FVec Ideal S1x1024 .f32) := by
  refine (dats m 0 c).arrAt_eq_of_after_last 11 t0_7 (by decide +kernel) _ fun j => ?_
  blk_simp
  rw [after0_11]
  obtain ⟨z, l, rfl⟩ : ∃ (z : Fin 1) (l : Fin 1024), j = (ix2 z l : S1x1024.Idx) := ⟨_, _, Products.ix_eta j⟩
  obtain rfl : z = 0 := Subsingleton.elim _ _
  refine (Pipeline.eq_sum_fin_of_reset_step_apply_last (fun n h => (outsAt0 m c n h).2.2.2.2.1) 8 (fun _ => 0)
    (fun t j => ∑ r : Fin 512, (fun t r l => slopeOf (iblk m c 0 t) (X0_1 m c t) (iblk m c 5 t) (iblk m c 3 t) r l) t r (j 1))
    (fun t h j => ?_) (fun t h j => ?_) (le_of_eq N_0) t0_7 rfl (ix2 0 l)).trans ?_
  · obtain ⟨z, l, rfl⟩ : ∃ (z : Fin 1) (l : Fin 1024), j = (ix2 z l : S1x1024.Idx) := ⟨_, _, Products.ix_eta j⟩
    obtain rfl : z = 0 := Subsingleton.elim _ _
    rw [outsAt0_A m c t h]
    frame_out
    exact (payload11 _ _ _ _ _ l).trans (congrArg (· + _) (none11 l))
  · obtain ⟨z, l, rfl⟩ : ∃ (z : Fin 1) (l : Fin 1024), j = (ix2 z l : S1x1024.Idx) := ⟨_, _, Products.ix_eta j⟩
    obtain rfl : z = 0 := Subsingleton.elim _ _
    rw [outsAt0_B m c t h]
    frame_out
    exact payload11 _ _ _ _ _ l
  · rw [zero_add]
    refine Fin.sum_points_lanes_congr 4 fun t k ha hl => ?_
    refine (slopes1 m c L B D Y hL hB hD hY t k l).trans ?_
    congr 1
    · exact Fin.ext (coords0 t)
    · exact Fin.ext (by show (grid0.coords t 1).val * 512 + k.val = _; rw [coords1 t])

theorem final12 (hZ : V m c main_v4 = Z) : (dats m 0 c).arrAt 12 cfg0.N = (biasAt 1024 (by decide) L B D Z : FVec Ideal S1x1024 .f32) := by
  refine (dats m 0 c).arrAt_eq_of_after_last 12 t0_7 (by decide +kernel) _ fun j => ?_
  blk_simp
  rw [after0_12]
  obtain ⟨z, l, rfl⟩ : ∃ (z : Fin 1) (l : Fin 1024), j = (ix2 z l : S1x1024.Idx) := ⟨_, _, Products.ix_eta j⟩
  obtain rfl : z = 0 := Subsingleton.elim _ _
  refine (Pipeline.eq_sum_fin_of_reset_step_apply_last (fun n h => (outsAt0 m c n h).2.2.2.2.2) 8 (fun _ => 0)
    (fun t j => ∑ r : Fin 512, (fun t r l => slopeOf (iblk m c 0 t) (X0_2 m c t) (iblk m c 6 t) (iblk m c 4 t) r l) t r (j 1))
    (fun t h j => ?_) (fun t h j => ?_) (le_of_eq N_0) t0_7 rfl (ix2 0 l)).trans ?_
  · obtain ⟨z, l, rfl⟩ : ∃ (z : Fin 1) (l : Fin 1024), j = (ix2 z l : S1x1024.Idx) := ⟨_, _, Products.ix_eta j⟩
    obtain rfl : z = 0 := Subsingleton.elim _ _
    rw [outsAt0_A m c t h]
    frame_out
    exact (payload12 _ _ _ _ _ l).trans (congrArg (· + _) (none12 l))
  · obtain ⟨z, l, rfl⟩ : ∃ (z : Fin 1) (l : Fin 1024), j = (ix2 z l : S1x1024.Idx) := ⟨_, _, Products.ix_eta j⟩
    obtain rfl : z = 0 := Subsingleton.elim _ _
    rw [outsAt0_B m c t h]
    frame_out
    exact payload12 _ _ _ _ _ l
  · rw [zero_add]
    refine Fin.sum_points_lanes_congr 4 fun t k ha hl => ?_
    refine (slopes2 m c L B D Z hL hB hD hZ t k l).trans ?_
    congr 1
    · exact Fin.ext (coords0 t)
    · exact Fin.ext (by show (grid0.coords t 1).val * 512 + k.val = _; rw [coords1 t])

end

end

section

open Cert.MergeBwdReferenceIdeal Cert.MergeBwdReferenceIdeal.Gen

variable (x : FVec Ideal S2x2048x2048 .f32) (y : FVec Ideal S1x2048 .f32) (a b d : FVec Ideal S2x2048x1024 .f32)

/-- The cotangent of the logits, both gates together. -/
def dlogits : FVec Ideal S2x2048x2048 .f32 := mulf (addf (pad S2x2048x2048 ![0, 0, 1024] ![0, 0, 0] ![0, 0, 0] (mulf (shapeCast _ d shapeCasts_S2x2048x1024_S2x2048x1024) b) (constant S_ .f32 0x00000000#32) pads_S2x2048x1024_S2x2048x2048_000_000_102400 h_S_) (pad S2x2048x2048 ![0, 0, 0] ![0, 0, 1024] ![0, 0, 0] (mulf (shapeCast _ d shapeCasts_S2x2048x1024_S2x2048x1024) a) (constant S_ .f32 0x00000000#32) pads_S2x2048x1024_S2x2048x2048_000_000_010240 h_S_)) (mulf (Host.divf (broadcastInDim S2x2048x2048 ![] bcast_S_S2x2048x2048 (constant S_ .f32 0x3F800000#32)) (addf (broadcastInDim S2x2048x2048 ![] bcast_S_S2x2048x2048 (constant S_ .f32 0x3F800000#32)) (Host.exp (Host.negf (addf x (broadcastInDim S2x2048x2048 ![0, 1, 2] bcast_S1x1x2048_S2x2048x2048_0_1_2 (broadcastInDim S1x1x2048 ![1, 2] bcast_S1x2048_S1x1x2048_1_2 y))))))) (subf (broadcastInDim S2x2048x2048 ![] bcast_S_S2x2048x2048 (constant S_ .f32 0x3F800000#32)) (Host.divf (broadcastInDim S2x2048x2048 ![] bcast_S_S2x2048x2048 (constant S_ .f32 0x3F800000#32)) (addf (broadcastInDim S2x2048x2048 ![] bcast_S_S2x2048x2048 (constant S_ .f32 0x3F800000#32)) (Host.exp (Host.negf (addf x (broadcastInDim S2x2048x2048 ![0, 1, 2] bcast_S1x1x2048_S2x2048x2048_0_1_2 (broadcastInDim S1x1x2048 ![1, 2] bcast_S1x2048_S1x1x2048_1_2 y)))))))))

theorem dlogits_first (b' : Fin 2) (r : Fin 2048) (l : Fin 1024) : dlogits x y a b d (ix3 b' r ⟨l.val, by omega⟩) = slopeAt 0 (by decide) x y d a b' r l := by
  unfold dlogits slopeAt gateAt gate
  pointwise [one, zero]
  refine congrArg (· * _) ?_
  rw [dif_neg fun h => h.1, zero_add]

theorem dlogits_second (b' : Fin 2) (r : Fin 2048) (l : Fin 1024) : dlogits x y a b d (ix3 b' r ⟨1024 + l.val, by omega⟩) = slopeAt 1024 (by decide) x y d b b' r l := by
  unfold dlogits slopeAt gateAt gate
  pointwise [one, zero]

theorem reference31 :
    (truncf .bf16 (mulf (extractStridedSlice S2x2048x1024 ![0, 0, 0] (Host.divf (broadcastInDim S2x2048x2048 ![] bcast_S_S2x2048x2048 (constant S_ .f32 0x3F800000#32)) (addf (broadcastInDim S2x2048x2048 ![] bcast_S_S2x2048x2048 (constant S_ .f32 0x3F800000#32)) (Host.exp (Host.negf (addf x (broadcastInDim S2x2048x2048 ![0, 1, 2] bcast_S1x1x2048_S2x2048x2048_0_1_2 (broadcastInDim S1x1x2048 ![1, 2] bcast_S1x2048_S1x1x2048_1_2 y))))))) slices_S2x2048x2048_S2x2048x1024_0_0_0) (shapeCast _ d shapeCasts_S2x2048x1024_S2x2048x1024)) bitsLt_bf16_f32 : FVec Ideal S2x2048x1024 .bf16)
      = arr (branchAt 0 (by decide) x y d) := by
  funext i
  obtain ⟨b', r, l, rfl⟩ : ∃ (b' : Fin 2) (r : Fin 2048) (l : Fin 1024), i = (ix3 b' r l : S2x2048x1024.Idx) := ⟨_, _, _, ix3_eta i⟩
  unfold arr branchAt gateAt gate
  pointwise [one, zero]
  exact mul_comm _ _

theorem reference32 :
    (truncf .bf16 (mulf (extractStridedSlice S2x2048x1024 ![0, 0, 1024] (Host.divf (broadcastInDim S2x2048x2048 ![] bcast_S_S2x2048x2048 (constant S_ .f32 0x3F800000#32)) (addf (broadcastInDim S2x2048x2048 ![] bcast_S_S2x2048x2048 (constant S_ .f32 0x3F800000#32)) (Host.exp (Host.negf (addf x (broadcastInDim S2x2048x2048 ![0, 1, 2] bcast_S1x1x2048_S2x2048x2048_0_1_2 (broadcastInDim S1x1x2048 ![1, 2] bcast_S1x2048_S1x1x2048_1_2 y))))))) slices_S2x2048x2048_S2x2048x1024_0_0_1024) (shapeCast _ d shapeCasts_S2x2048x1024_S2x2048x1024)) bitsLt_bf16_f32 : FVec Ideal S2x2048x1024 .bf16)
      = arr (branchAt 1024 (by decide) x y d) := by
  funext i
  obtain ⟨b', r, l, rfl⟩ : ∃ (b' : Fin 2) (r : Fin 2048) (l : Fin 1024), i = (ix3 b' r l : S2x2048x1024.Idx) := ⟨_, _, _, ix3_eta i⟩
  unfold arr branchAt gateAt gate
  pointwise [one, zero]
  exact mul_comm _ _

theorem reference34 :
    (truncf .bf16 (extractStridedSlice S2x2048x1024 ![0, 0, 0] (dlogits x y a b d) slices_S2x2048x2048_S2x2048x1024_0_0_0) bitsLt_bf16_f32 : FVec Ideal S2x2048x1024 .bf16)
      = arr (slopeAt 0 (by decide) x y d a) := by
  funext i
  obtain ⟨b', r, l, rfl⟩ : ∃ (b' : Fin 2) (r : Fin 2048) (l : Fin 1024), i = (ix3 b' r l : S2x2048x1024.Idx) := ⟨_, _, _, ix3_eta i⟩
  refine Eq.trans ?_ (dlogits_first x y a b d b' r l)
  pointwise

theorem reference36 :
    (truncf .bf16 (extractStridedSlice S2x2048x1024 ![0, 0, 1024] (dlogits x y a b d) slices_S2x2048x2048_S2x2048x1024_0_0_1024) bitsLt_bf16_f32 : FVec Ideal S2x2048x1024 .bf16)
      = arr (slopeAt 1024 (by decide) x y d b) := by
  funext i
  obtain ⟨b', r, l, rfl⟩ : ∃ (b' : Fin 2) (r : Fin 2048) (l : Fin 1024), i = (ix3 b' r l : S2x2048x1024.Idx) := ⟨_, _, _, ix3_eta i⟩
  refine Eq.trans ?_ (dlogits_second x y a b d b' r l)
  pointwise

/-- What reaches the biases before the two gates are taken apart. -/
theorem sums (v : FVec Ideal S2x2048x2048 .f32) (l : Fin 2048) :
    Host.reduceAdd (shapeCast S1x1x2048 (Host.reduceAdd v (constant S_ .f32 0x00000000#32) reducesTo_S2x2048x2048_S2048_d0_1 h_S_ : FVec Ideal S2048 .f32) shapeCasts_S2048_S1x1x2048)
      (constant S_ .f32 0x00000000#32) reducesTo_S1x1x2048_S2048_d0_1 h_S_ (ix1 l) = ∑ b : Fin 2, ∑ r : Fin 2048, v (ix3 b r l) := by
  have none : (constant S_ .f32 0x00000000#32 : FVec Ideal S_ .f32) (Shape.Idx.first h_S_) = 0 := zero
  refine (sum_two reducesTo_S1x1x2048_S2048_d0_1 _ _ l).trans ?_
  simp only [Fin.sum_univ_one]
  rw [none, zero_add]
  refine Eq.trans (b := Host.reduceAdd v (constant S_ .f32 0x00000000#32) reducesTo_S2x2048x2048_S2048_d0_1 h_S_ (ix1 l)) ?_ ?_
  · generalize (Host.reduceAdd v (constant S_ .f32 0x00000000#32) reducesTo_S2x2048x2048_S2048_d0_1 h_S_ : FVec Ideal S2048 .f32) = w
    pointwise
  · refine (sum_two reducesTo_S2x2048x2048_S2048_d0_1 _ _ l).trans ?_
    rw [none, zero_add]

theorem reference37 :
    (extractStridedSlice S1x1024 ![0, 0] (broadcastInDim S1x2048 ![1] bcast_S2048_S1x2048_1 (Host.reduceAdd (shapeCast _ (Host.reduceAdd (dlogits x y a b d) (constant S_ .f32 0x00000000#32) reducesTo_S2x2048x2048_S2048_d0_1 h_S_) shapeCasts_S2048_S1x1x2048) (constant S_ .f32 0x00000000#32) reducesTo_S1x1x2048_S2048_d0_1 h_S_)) slices_S1x2048_S1x1024_0_0 : FVec Ideal S1x1024 .f32)
      = biasAt 0 (by decide) x y d a := by
  funext i
  obtain ⟨z, l, rfl⟩ : ∃ (z : Fin 1) (l : Fin 1024), i = (ix2 z l : S1x1024.Idx) := ⟨_, _, Products.ix_eta i⟩
  obtain rfl : z = 0 := Subsingleton.elim _ _
  refine Eq.trans ?_ ((sums (dlogits x y a b d) ⟨l.val, by omega⟩).trans (Finset.sum_congr rfl fun b' _ => Finset.sum_congr rfl fun r _ => dlogits_first x y a b d b' r l))
  generalize (Host.reduceAdd (shapeCast _ (Host.reduceAdd (dlogits x y a b d) (constant S_ .f32 0x00000000#32) reducesTo_S2x2048x2048_S2048_d0_1 h_S_) shapeCasts_S2048_S1x1x2048) (constant S_ .f32 0x00000000#32) reducesTo_S1x1x2048_S2048_d0_1 h_S_ : FVec Ideal S2048 .f32) = w
  pointwise

theorem reference38 :
    (extractStridedSlice S1x1024 ![0, 1024] (broadcastInDim S1x2048 ![1] bcast_S2048_S1x2048_1 (Host.reduceAdd (shapeCast _ (Host.reduceAdd (dlogits x y a b d) (constant S_ .f32 0x00000000#32) reducesTo_S2x2048x2048_S2048_d0_1 h_S_) shapeCasts_S2048_S1x1x2048) (constant S_ .f32 0x00000000#32) reducesTo_S1x1x2048_S2048_d0_1 h_S_)) slices_S1x2048_S1x1024_0_1024 : FVec Ideal S1x1024 .f32)
      = biasAt 1024 (by decide) x y d b := by
  funext i
  obtain ⟨z, l, rfl⟩ : ∃ (z : Fin 1) (l : Fin 1024), i = (ix2 z l : S1x1024.Idx) := ⟨_, _, Products.ix_eta i⟩
  obtain rfl : z = 0 := Subsingleton.elim _ _
  refine Eq.trans ?_ ((sums (dlogits x y a b d) ⟨1024 + l.val, by omega⟩).trans (Finset.sum_congr rfl fun b' _ => Finset.sum_congr rfl fun r _ => dlogits_second x y a b d b' r l))
  generalize (Host.reduceAdd (shapeCast _ (Host.reduceAdd (dlogits x y a b d) (constant S_ .f32 0x00000000#32) reducesTo_S2x2048x2048_S2048_d0_1 h_S_) shapeCasts_S2048_S1x1x2048) (constant S_ .f32 0x00000000#32) reducesTo_S1x1x2048_S2048_d0_1 h_S_ : FVec Ideal S2048 .f32) = w
  pointwise

end

open Cert.MergeBwdIdeal Cert.MergeBwdIdeal.Gen

theorem frame : Cert.quiescent_MergeBwd := fun m ρ _ => Cert.MergeBwd.Gen.frame m ρ
theorem frame_ideal : Cert.quiescent_MergeBwdIdeal := fun m ρ _ => Cert.MergeBwdIdeal.Gen.frame m ρ
theorem frame_reference : Cert.quiescent_MergeBwdReferenceIdeal := fun m ρ _ =>
  (θ_run Cert.MergeBwdReferenceIdeal.defs _ _).mono (fun r h => ⟨fun c => (h c).2.2.2.2.2.2, sem_eq_zero_of_no_sems (by decide) r.2⟩)
    (Cert.MergeBwdReferenceIdeal.Value.run (F := Ideal) m ρ)

/-- The call and the reference end with the same six arrays. -/
theorem algebraic : Cert.algebraic_MergeBwdIdeal_MergeBwdReferenceIdeal := by
  intro m g m' g' _ hagree
  refine ⟨fun c : Dev nD => arr (branchAt 0 (by decide) (m ((c.tc : Thread nD τ).loc main_arg0)) (m ((c.tc : Thread nD τ).loc main_arg1)) (m ((c.tc : Thread nD τ).loc main_arg4))),
    fun c : Dev nD => arr (branchAt 1024 (by decide) (m ((c.tc : Thread nD τ).loc main_arg0)) (m ((c.tc : Thread nD τ).loc main_arg1)) (m ((c.tc : Thread nD τ).loc main_arg4))),
    fun c : Dev nD => arr (slopeAt 0 (by decide) (m ((c.tc : Thread nD τ).loc main_arg0)) (m ((c.tc : Thread nD τ).loc main_arg1)) (m ((c.tc : Thread nD τ).loc main_arg4)) (m ((c.tc : Thread nD τ).loc main_arg2))),
    fun c : Dev nD => arr (slopeAt 1024 (by decide) (m ((c.tc : Thread nD τ).loc main_arg0)) (m ((c.tc : Thread nD τ).loc main_arg1)) (m ((c.tc : Thread nD τ).loc main_arg4)) (m ((c.tc : Thread nD τ).loc main_arg3))),
    fun c : Dev nD => biasAt 0 (by decide) (m ((c.tc : Thread nD τ).loc main_arg0)) (m ((c.tc : Thread nD τ).loc main_arg1)) (m ((c.tc : Thread nD τ).loc main_arg4)) (m ((c.tc : Thread nD τ).loc main_arg2)),
    fun c : Dev nD => biasAt 1024 (by decide) (m ((c.tc : Thread nD τ).loc main_arg0)) (m ((c.tc : Thread nD τ).loc main_arg1)) (m ((c.tc : Thread nD τ).loc main_arg4)) (m ((c.tc : Thread nD τ).loc main_arg3)), ?_, ?_⟩
  · exact (θ_run Cert.MergeBwdIdeal.defs _ _).mono
      (fun r h c => ⟨(h c).1.trans (final7 m c _ _ _ (entry_logits m c) (V_main_arg1 m c) (entry_cotangent m c)),
        (h c).2.1.trans (final8 m c _ _ _ (entry_logits m c) (V_main_arg1 m c) (entry_cotangent m c)),
        (h c).2.2.1.trans (final9 m c _ _ _ _ (entry_logits m c) (V_main_arg1 m c) (entry_cotangent m c) (entry_first m c)),
        (h c).2.2.2.1.trans (final10 m c _ _ _ _ (entry_logits m c) (V_main_arg1 m c) (entry_cotangent m c) (entry_second m c)),
        (h c).2.2.2.2.1.trans (final11 m c _ _ _ _ (entry_logits m c) (V_main_arg1 m c) (entry_cotangent m c) (entry_first m c)),
        (h c).2.2.2.2.2.1.trans (final12 m c _ _ _ _ (entry_logits m c) (V_main_arg1 m c) (entry_cotangent m c) (entry_second m c)), (h c).2.2.2.2.2.2⟩) (Cert.MergeBwdIdeal.Value.run_blocks m g)
  · refine (θ_run Cert.MergeBwdReferenceIdeal.defs _ _).mono (fun r h c => ?_) (Cert.MergeBwdReferenceIdeal.Value.run m' g')
    beta_reduce
    rw [← (hagree c).1, ← (hagree c).2.1, ← (hagree c).2.2.1, ← (hagree c).2.2.2.1, ← (hagree c).2.2.2.2]
    exact ⟨(h c).1.trans (reference31 _ _ _),
        (h c).2.1.trans (reference32 _ _ _),
        (h c).2.2.1.trans (reference34 _ _ _ _ _),
        (h c).2.2.2.1.trans (reference36 _ _ _ _ _),
        (h c).2.2.2.2.1.trans (reference37 _ _ _ _ _),
        (h c).2.2.2.2.2.1.trans (reference38 _ _ _ _ _), (h c).2.2.2.2.2.2⟩

end Cert.Proof.MergeBwd

end
-- ==== Proof.AlphaDx.lean ====
/- The call `alpha_dx`: the gradient of the product that makes the gate logits with respect to its input. -/
module

public import proofs.«01_k».proof.Defs
public import proofs.«01_k».proof.Proof.Products
public import proofs.«01_k».proof.Proof.Gen.AlphaDxIdeal.Value
public import proofs.«01_k».proof.Proof.Gen.AlphaDxReferenceIdeal.Run
public import proofs.«01_k».proof.Proof.Gen.AlphaDx.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.AlphaDx

open Idealize.ShloMosaic Idealize.ShloMosaic.TcCoe Idealize.SL.Sem Products

section

open Cert.AlphaDxIdeal Cert.AlphaDxIdeal.Gen

variable (m : (ℓ : Loc nD τ sig) → Buf (Elt Ideal) ℓ)

/-- The cotangent's rows. -/
def cots (x : FVec Ideal S2x2048x512 .f32) : FVec Ideal S4096x512 .bf16 :=
  truncf .bf16 (shapeCast S4096x512 x shapeCasts_S2x2048x512_S4096x512) bitsLt_bf16_f32

theorem entry_cots (c : Dev nD) : V m c main_v2 = cots (m ((c : Thread nD τ).loc main_arg2)) := by
  unfold V
  after_reads_simp
  rfl

/-- The weights, filled out with rows of zeros. -/
def weights (x : FVec Ideal S16x512 .f32) : FVec Ideal S128x512 .f32 :=
  pad S128x512 ![0, 0] ![112, 0] ![0, 0] x (sitofp .f32 (constantI S_ 32 0#32)) pads_S16x512_S128x512_01120_000 h_S_

theorem entry_weights (c : Dev nD) : V m c main_v0 = weights (m ((c : Thread nD τ).loc main_arg1)) := by
  unfold V
  after_reads_simp
  simp only [StableHlo.TRef.toBuf, StableHlo.TRef.ofBuf, cast_eq]
  rfl

theorem index0 : ∀ t : Fin cfg0.N, win0_0.index t = ![(grid0.coords t 0).val, 0] := by decide +kernel
theorem index1 : ∀ t : Fin cfg0.N, win0_1.index t = ![(grid0.coords t 1).val, 0] := by decide +kernel
theorem index2 : ∀ t : Fin cfg0.N, win0_2.index t = ![(grid0.coords t 0).val, (grid0.coords t 1).val] := by decide +kernel

theorem payload (x : Vec Ideal S1024x512 .bf16) (y : Vec Ideal S128x512 .f32) (r : Fin 1024) (l : Fin 128) :
    k0_pay1 x y (ix2 r l) = rowRow (M := 1024) (N := 128) (K := 512) x y r l := by
  unfold k0_pay1 rowRow
  pointwise

/-- What a grid point reads of the left matrix, whatever that matrix is. -/
theorem read0 (c : Dev nD) (t : Fin cfg0.N) (X : FVec Ideal S4096x512 .bf16) (hX : V m c main_v2 = X) :
    iblk m c 0 t = ((cfg0.win 0).blk t).view.read (Elt Ideal) X := by
  subst hX
  rfl

/-- What a grid point reads of the right matrix. -/
theorem read1 (c : Dev nD) (t : Fin cfg0.N) (Y : FVec Ideal S128x512 .f32) (hY : V m c main_v0 = Y) :
    iblk m c 1 t = ((cfg0.win 1).blk t).view.read (Elt Ideal) Y := by
  subst hY
  rfl

/-- The array the call leaves is the product of the two it takes. -/
theorem final (c : Dev nD) (X : FVec Ideal S4096x512 .bf16) (Y : FVec Ideal S128x512 .f32) (hX : V m c main_v2 = X) (hY : V m c main_v0 = Y) :
    (dats m 0 c).arrAt 2 cfg0.N = (mat (rowRow X Y) : FVec Ideal S4096x128 .f32) := by
  refine (dats m 0 c).arrAt_eq_of_covers 2 _ (by decide +kernel) fun t hf y => ?_
  blk_simp
  rw [after0_2]
  frame_out
  obtain ⟨r, l, rfl⟩ : ∃ (r : Fin 1024) (l : Fin 128), y = (ix2 r l : S1024x128.Idx) := ⟨_, _, ix_eta y⟩
  rw [payload]
  rw [read0 m c t X hX, read1 m c t Y hY]
  refine rowRow_congr (fun k => ?_) (fun k => ?_) <;> blk_ext [index0 t, index1 t, index2 t]

end

section

open Cert.AlphaDxReferenceIdeal Cert.AlphaDxReferenceIdeal.Gen

/-- The reference's array. -/
theorem reference (w : FVec Ideal S16x512 .f32) (d : FVec Ideal S2x2048x512 .f32) :
    (truncf .bf16 (shapeCast S4096x128 (pad S2x2048x128 ![0, 0, 0] ![0, 0, 112] ![0, 0, 0] (Host.dotGeneral (F := Ideal) dot_S2x2048x512_S16x512_S2x2048x16_2_1_01_0_n_n none d w) (sitofp (F := Ideal) .f32 (constantI S_ 32 0#32)) pads_S2x2048x16_S2x2048x128_000_000_01120 h_S_) shapeCasts_S2x2048x128_S4096x128) bitsLt_bf16_f32 : FVec Ideal S4096x128 .bf16)
      = mat (rowRow (cots d) (weights w)) := by
  funext i
  obtain ⟨r, l, rfl⟩ : ∃ (r : Fin 4096) (l : Fin 128), i = (ix2 r l : S4096x128.Idx) := ⟨_, _, ix_eta i⟩
  unfold mat rowRow
  unfold cots weights
  pointwise
  by_cases h : l.val < 16
  · refine (dif_pos ⟨by omega, by omega, h⟩).trans ?_
    refine Finset.sum_congr rfl fun k _ => ?_
    rw [dif_pos h]
  · refine (dif_neg (fun q => h q.2.2)).trans (pad_value.trans ?_)
    symm
    refine Finset.sum_eq_zero fun k _ => ?_
    rw [dif_neg (fun q => h q), pad_value, mul_zero]

end

open Cert.AlphaDxIdeal Cert.AlphaDxIdeal.Gen

theorem frame : Cert.quiescent_AlphaDx := fun m ρ _ => Cert.AlphaDx.Gen.frame m ρ
theorem frame_ideal : Cert.quiescent_AlphaDxIdeal := fun m ρ _ => Cert.AlphaDxIdeal.Gen.frame m ρ
theorem frame_reference : Cert.quiescent_AlphaDxReferenceIdeal := fun m ρ _ =>
  (θ_run Cert.AlphaDxReferenceIdeal.defs _ _).mono (fun r h => ⟨fun c => (h c).2, sem_eq_zero_of_no_sems (by decide) r.2⟩)
    (Cert.AlphaDxReferenceIdeal.Value.run (F := Ideal) m ρ)

/-- The call and the reference end with the same array. -/
theorem algebraic : Cert.algebraic_AlphaDxIdeal_AlphaDxReferenceIdeal := by
  intro m g m' g' _ hagree
  refine ⟨fun c : Dev nD => mat (rowRow (cots (m ((c.tc : Thread nD τ).loc main_arg2))) (weights (m ((c.tc : Thread nD τ).loc main_arg1)))), ?_, ?_⟩
  · exact (θ_run Cert.AlphaDxIdeal.defs _ _).mono
      (fun r h c => ⟨(h c).1.trans (final m c _ _ (entry_cots m c) (entry_weights m c)), (h c).2⟩) (Cert.AlphaDxIdeal.Value.run_blocks m g)
  · refine (θ_run Cert.AlphaDxReferenceIdeal.defs _ _).mono (fun r h c => ⟨(h c).1.trans ?_, (h c).2⟩) (Cert.AlphaDxReferenceIdeal.Value.run m' g')
    rw [(hagree c).2.1, (hagree c).2.2]
    exact reference _ _

end Cert.Proof.AlphaDx

end
-- ==== Proof.AlphaDw.lean ====
/- The call `alpha_dw`: the gradient of the product that makes the gate logits with respect to its weights. -/
module

public import proofs.«01_k».proof.Defs
public import proofs.«01_k».proof.Proof.Products
public import proofs.«01_k».proof.Proof.Gen.AlphaDwIdeal.Value
public import proofs.«01_k».proof.Proof.Gen.AlphaDwReferenceIdeal.Run
public import proofs.«01_k».proof.Proof.Gen.AlphaDw.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.AlphaDw

open Idealize.ShloMosaic Idealize.ShloMosaic.TcCoe Idealize.SL.Sem Products

section

open Cert.AlphaDwIdeal Cert.AlphaDwIdeal.Gen

variable (m : (ℓ : Loc nD τ sig) → Buf (Elt Ideal) ℓ)

/-- The input's rows, filled out with lanes of zeros. -/
def ins (x : FVec Ideal S2x2048x16 .f32) : FVec Ideal S4096x128 .bf16 :=
  pad S4096x128 ![0, 0] ![0, 112] ![0, 0] (truncf .bf16 (shapeCast S4096x16 x shapeCasts_S2x2048x16_S4096x16) bitsLt_bf16_f32)
    (sitofp .bf16 (constantI S_ 32 0#32)) pads_S4096x16_S4096x128_000_01120 h_S_

theorem entry_ins (c : Dev nD) : V m c main_v2 = ins (m ((c : Thread nD τ).loc main_arg0)) := by
  unfold V
  after_reads_simp
  simp only [StableHlo.TRef.toBuf, StableHlo.TRef.ofBuf, cast_eq]
  rfl

/-- The cotangent's rows. -/
def cots (x : FVec Ideal S2x2048x512 .f32) : FVec Ideal S4096x512 .bf16 :=
  truncf .bf16 (shapeCast S4096x512 x shapeCasts_S2x2048x512_S4096x512) bitsLt_bf16_f32

theorem entry_cots (c : Dev nD) : V m c main_v4 = cots (m ((c : Thread nD τ).loc main_arg2)) := by
  unfold V
  after_reads_simp
  rfl

theorem index0 : ∀ t : Fin cfg0.N, win0_0.index t = ![0, (grid0.coords t 0).val] := by decide +kernel
theorem index1 : ∀ t : Fin cfg0.N, win0_1.index t = ![0, (grid0.coords t 1).val] := by decide +kernel
theorem index2 : ∀ t : Fin cfg0.N, win0_2.index t = ![(grid0.coords t 0).val, (grid0.coords t 1).val] := by decide +kernel

theorem payload (x : Vec Ideal S4096x128 .bf16) (y : Vec Ideal S4096x512 .bf16) (r : Fin 128) (l : Fin 512) :
    k0_pay1 x y (ix2 r l) = colCol (M := 128) (N := 512) (K := 4096) x y r l := by
  unfold k0_pay1 colCol
  pointwise

/-- What a grid point reads of the left matrix, whatever that matrix is. -/
theorem read0 (c : Dev nD) (t : Fin cfg0.N) (X : FVec Ideal S4096x128 .bf16) (hX : V m c main_v2 = X) :
    iblk m c 0 t = ((cfg0.win 0).blk t).view.read (Elt Ideal) X := by
  subst hX
  rfl

/-- What a grid point reads of the right matrix. -/
theorem read1 (c : Dev nD) (t : Fin cfg0.N) (Y : FVec Ideal S4096x512 .bf16) (hY : V m c main_v4 = Y) :
    iblk m c 1 t = ((cfg0.win 1).blk t).view.read (Elt Ideal) Y := by
  subst hY
  rfl

/-- The array the call leaves is the product of the two it takes. -/
theorem final (c : Dev nD) (X : FVec Ideal S4096x128 .bf16) (Y : FVec Ideal S4096x512 .bf16) (hX : V m c main_v2 = X) (hY : V m c main_v4 = Y) :
    (dats m 0 c).arrAt 2 cfg0.N = (mat (colCol X Y) : FVec Ideal S128x512 .f32) := by
  refine (dats m 0 c).arrAt_eq_of_covers 2 _ (by decide +kernel) fun t hf y => ?_
  blk_simp
  rw [after0_2]
  frame_out
  obtain ⟨r, l, rfl⟩ : ∃ (r : Fin 128) (l : Fin 512), y = (ix2 r l : S128x512.Idx) := ⟨_, _, ix_eta y⟩
  rw [payload]
  rw [read0 m c t X hX, read1 m c t Y hY]
  refine colCol_congr (fun k => ?_) (fun k => ?_) <;> blk_ext [index0 t, index1 t, index2 t]

/-- The value the lanes are filled with. -/
theorem lane_value : (FloatOps.sitofp (F := Ideal) FTy.bf16 (0#32) : EReal) = 0 := pad_value

end

section

open Cert.AlphaDwReferenceIdeal Cert.AlphaDwReferenceIdeal.Gen

/-- The reference's array. -/
theorem reference (x : FVec Ideal S2x2048x16 .f32) (d : FVec Ideal S2x2048x512 .f32) :
    (pad S128x512 ![0, 0] ![112, 0] ![0, 0] (transpose S16x512 [1, 0] (Host.dotGeneral (F := Ideal) dot_S2x2048x512_S2x2048x16_S512x16_01_01_2_2_n_n none d x) transposes_S512x16_S16x512_1_0) (sitofp (F := Ideal) .f32 (constantI S_ 32 0#32)) pads_S16x512_S128x512_01120_000 h_S_ : FVec Ideal S128x512 .f32)
      = mat (colCol (ins x) (cots d)) := by
  funext i
  obtain ⟨r, l, rfl⟩ : ∃ (r : Fin 128) (l : Fin 512), i = (ix2 r l : S128x512.Idx) := ⟨_, _, ix_eta i⟩
  unfold mat colCol
  unfold ins cots
  pointwise
  by_cases h : r.val < 16
  · refine (dif_pos h).trans ?_
    refine (sum_batch 2 2048 rfl _ _ fun q b s e f => ?_).symm
    rw [dif_pos h]
    simp only [e, f]
    exact mul_comm _ _
  · refine (dif_neg (fun q => h q)).trans (pad_value.trans ?_)
    symm
    refine Finset.sum_eq_zero fun q _ => ?_
    rw [dif_neg (fun z => h z), lane_value, zero_mul]

end

open Cert.AlphaDwIdeal Cert.AlphaDwIdeal.Gen

theorem frame : Cert.quiescent_AlphaDw := fun m ρ _ => Cert.AlphaDw.Gen.frame m ρ
theorem frame_ideal : Cert.quiescent_AlphaDwIdeal := fun m ρ _ => Cert.AlphaDwIdeal.Gen.frame m ρ
theorem frame_reference : Cert.quiescent_AlphaDwReferenceIdeal := fun m ρ _ =>
  (θ_run Cert.AlphaDwReferenceIdeal.defs _ _).mono (fun r h => ⟨fun c => (h c).2, sem_eq_zero_of_no_sems (by decide) r.2⟩)
    (Cert.AlphaDwReferenceIdeal.Value.run (F := Ideal) m ρ)

/-- The call and the reference end with the same array. -/
theorem algebraic : Cert.algebraic_AlphaDwIdeal_AlphaDwReferenceIdeal := by
  intro m g m' g' _ hagree
  refine ⟨fun c : Dev nD => mat (colCol (ins (m ((c.tc : Thread nD τ).loc main_arg0))) (cots (m ((c.tc : Thread nD τ).loc main_arg2)))), ?_, ?_⟩
  · exact (θ_run Cert.AlphaDwIdeal.defs _ _).mono
      (fun r h c => ⟨(h c).1.trans (final m c _ _ (entry_ins m c) (entry_cots m c)), (h c).2⟩) (Cert.AlphaDwIdeal.Value.run_blocks m g)
  · refine (θ_run Cert.AlphaDwReferenceIdeal.defs _ _).mono (fun r h c => ⟨(h c).1.trans ?_, (h c).2⟩) (Cert.AlphaDwReferenceIdeal.Value.run m' g')
    rw [(hagree c).1, (hagree c).2.2]
    exact reference _ _

end Cert.Proof.AlphaDw

end
-- ==== Proof.GlaFwdStores.lean ====
/- The call `gla_fwd`, the gated recurrence: the stores of one run of its body, chunk by chunk. -/
module

public import proofs.«01_k».proof.Proof.Gen.GlaFwdIdeal.Value
public import Idealize.ShloMosaic.Lib.Pipeline.ValueKit

@[expose] public section

set_option maxRecDepth 16384

noncomputable section

namespace Cert.Proof.GlaFwd

open Idealize.ShloMosaic Idealize.ShloMosaic.Tactic Cert.GlaFwdIdeal Cert.GlaFwdIdeal.Gen

variable {F : FTy → Type} [FloatOps F]

/-! ## The boxes -/

/-- `n` rows from row `o` on, `w` lanes wide, lie in the block of 2048 rows. -/
theorem rows_inside {o n w : ℕ} (h : o + n ≤ 2048) (a : Fin 3) :
    (![0, o, 0] : Fin 3 → ℕ) a + (![1, n, w] : Fin 3 → ℕ) a ≤ (![1, 2048, w] : Fin 3 → ℕ) a := by
  fin_cases a
  · exact Nat.le_refl 1
  · exact h
  · exact (Nat.zero_add w).le

/-- The box of `n` rows from row `o` on. -/
abbrev box (w o n : ℕ) (h : o + n ≤ 2048) : Rect ⟨3, ![1, 2048, w]⟩ := Rect.unit ![0, o, 0] ![1, n, w] (rows_inside h)

/-- One chunk's state lies in the block of 32 states. -/
theorem state_inside {n : ℕ} (h : n < 32) (a : Fin 5) :
    (![0, 0, n, 0, 0] : Fin 5 → ℕ) a + S1x1x1x256x128.size a ≤ S1x1x32x256x128.size a := by
  fin_cases a
  · exact Nat.le_refl 1
  · exact Nat.le_refl 1
  · exact h
  · exact Nat.le_refl 256
  · exact Nat.le_refl 128

/-- The box of one chunk's state. -/
abbrev stateBox (n : ℕ) (h : n < 32) : Rect S1x1x32x256x128 := Rect.unit ![0, 0, n, 0, 0] S1x1x1x256x128.size (state_inside h)

/-- One chunk's rows of the logarithms. -/
theorem chunk_slices {n : ℕ} (h : n < 32) : S2048x128.Slices ![64 * n, 0] S64x128 :=
  ⟨rfl, fun a => by
    fin_cases a
    · show 64 * n + 64 ≤ 2048
      omega
    · exact Nat.le_refl 128⟩

/-! ## One chunk -/

/-- One chunk's rows of the logarithms of the gates. -/
def chunk (la : FVec F S2048x128 .f32) (n : ℕ) (h : n < 32) : FVec F S64x128 .f32 :=
  extractStridedSlice S64x128 ![64 * n, 0] la (chunk_slices h)

/-- Their sum over the chunk. -/
def total (l : FVec F S64x128 .f32) : FVec F S1x128 .f32 :=
  shapeCast S1x128 (multiReduction .add [0] S128 l 0x00000000#32 reduces_S64x128_S128 (.inl rfl) rfl) shapeCasts_S128_S1x128

/-- The keys, each decayed to the end of the chunk. -/
def decayed (l : FVec F S64x128 .f32) (k : Vec F S1x64x128 .bf16) : FVec F S64x128 .f32 :=
  mulf (extf .f32 (shapeCast S64x128 k shapeCasts_S1x64x128_S64x128) bitsLt_bf16_f32)
    (exp (subf (broadcastTo S64x128 (total l) broadcasts_S1x128_S64x128)
      (matmul dot_S64x64_S64x128_S64x128_1_0_0_1_n_n (some .bf16x3) (k0_pay3 (F := F)) l (constant S64x128 .f32 0x00000000#32))))

/-- The state after a chunk, from the state before it. -/
def next (l : FVec F S64x128 .f32) (k : Vec F S1x64x128 .bf16) (v : Vec F S1x64x256 .bf16) (st : FVec F S256x128 .f32) : FVec F S256x128 .f32 :=
  addf (mulf st (broadcastTo S256x128 (exp (total l)) broadcasts_S1x128_S256x128))
    (matmul dot_S64x256_S64x128_S256x128_0_0_1_1_n_n none (shapeCast S64x256 v shapeCasts_S1x64x256_S64x256)
      (truncf .bf16 (decayed l k) bitsLt_bf16_f32) (constant S256x128 .f32 0x00000000#32))

/-- The chunk's rows of the output, from the state after it. -/
def read (q : Vec F S1x64x128 .bf16) (st : FVec F S256x128 .f32) : FVec F S64x256 .f32 :=
  matmul dot_S64x128_S256x128_S64x256_1_1_0_0_n_n none
    (truncf .bf16 (mulf (extf .f32 (shapeCast S64x128 q shapeCasts_S1x64x128_S64x128) bitsLt_bf16_f32)
      (broadcast S64x128 (Scalar.ofBits .f32 0x3DB504F3#32))) bitsLt_bf16_f32)
    (truncf .bf16 st bitsLt_bf16_f32) (constant S64x256 .f32 0x00000000#32)

/-! ## All the chunks -/

section

variable (arg2 : Memref sig .tc .vmem S1x2048x128 .bf16) (harg2 : arg2.IsWhole) (arg3 : Memref sig .tc .vmem S1x2048x128 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x128 .bf16) (harg6 : arg6.IsWhole) (arg7 : Memref sig .tc .vmem S128x128 .f32) (harg7 : arg7.IsWhole) (arg8 : Memref sig .tc .vmem S1x128 .f32) (harg8 : arg8.IsWhole) (arg9 : Memref sig .tc .vmem S1x256 .f32) (harg9 : arg9.IsWhole) (arg10 : Memref sig .tc .vmem S1x2048x256 .f32) (harg10 : arg10.IsWhole) (arg11 : Memref sig .tc .vmem S1x2048x256 .bf16) (harg11 : arg11.IsWhole) (arg12 : Memref sig .tc .vmem S1x1x32x256x128 .f32) (harg12 : arg12.IsWhole)
    (x0 : Vec F S1x2048x128 .bf16) (x1 : Vec F S1x2048x128 .bf16) (x2 : Vec F S1x2048x256 .bf16) (x3 : Vec F S1x2048x256 .bf16) (x4 : Vec F S1x2048x128 .bf16) (x5 : Vec F S128x128 .f32) (x6 : Vec F S1x128 .f32) (x7 : Vec F S1x256 .f32)

/-- The logarithms of the gates over the whole block. -/
def logs : FVec F S2048x128 .f32 :=
  k0_pay2 (View.readAt (Elt F) arg6.view (Rect.unit (s := S1x2048x128) ![0, 0, 0] S1x2048x128.size inb_S1x2048x128_S1x2048x128_0_0_0).toLoadRect (harg6.unread x4))
    (View.readAt (Elt F) arg7.view (Rect.unit (s := S128x128) ![0, 0] S128x128.size inb_S128x128_S128x128_0_0).toLoadRect (harg7.unread x5))
    (View.readAt (Elt F) arg8.view (Rect.unit (s := S1x128) ![0, 0] S1x128.size inb_S1x128_S1x128_0_0).toLoadRect (harg8.unread x6))

/-- One chunk's rows of a block. -/
abbrev rows128 (arg : Memref sig .tc .vmem S1x2048x128 .bf16) (harg : arg.IsWhole) (x : Vec F S1x2048x128 .bf16) (n : ℕ) (h : n < 32) : Vec F S1x64x128 .bf16 :=
  View.readAt (Elt F) arg.view (box 128 (64 * n) 64 (by omega)).toLoadRect (harg.unread x)
abbrev rows256 (arg : Memref sig .tc .vmem S1x2048x256 .bf16) (harg : arg.IsWhole) (x : Vec F S1x2048x256 .bf16) (n : ℕ) (h : n < 32) : Vec F S1x64x256 .bf16 :=
  View.readAt (Elt F) arg.view (box 256 (64 * n) 64 (by omega)).toLoadRect (harg.unread x)

/-- The state after the first `n` chunks. -/
def state : (n : ℕ) → n ≤ 32 → FVec F S256x128 .f32
  | 0, _ => k0_pay4
  | n + 1, h => next (chunk (logs arg6 harg6 arg7 harg7 arg8 harg8 x4 x5 x6) n h) (rows128 arg3 harg3 x1 n h) (rows256 arg4 harg4 x2 n h) (state n (Nat.le_of_lt h))

/-- The stores of the states. -/
def stateStores : (n : ℕ) → n ≤ 32 → List (View.Piece (Elt F) S1x1x32x256x128 .f32)
  | 0, _ => []
  | n + 1, h => ⟨stateBox n h, shapeCast S1x1x1x256x128 (state arg3 harg3 arg4 harg4 arg6 harg6 arg7 harg7 arg8 harg8 x1 x2 x4 x5 x6 (n + 1) h) shapeCasts_S256x128_S1x1x1x256x128⟩
      :: stateStores n (Nat.le_of_lt h)

/-- The stores of the output. -/
def outStores : (n : ℕ) → n ≤ 32 → List (View.Piece (Elt F) S1x2048x256 .f32)
  | 0, _ => []
  | n + 1, h => ⟨box 256 (64 * n) 64 (by omega), shapeCast S1x64x256 (read (rows128 arg2 harg2 x0 n h)
        (state arg3 harg3 arg4 harg4 arg6 harg6 arg7 harg7 arg8 harg8 x1 x2 x4 x5 x6 (n + 1) h)) shapeCasts_S64x256_S1x64x256⟩
      :: outStores n (Nat.le_of_lt h)

/-- The stores of the gated output. -/
def gatedStores : (n : ℕ) → n ≤ 4 → List (View.Piece (Elt F) S1x2048x256 .bf16)
  | 0, _ => []
  | n + 1, h => ⟨box 256 (512 * n) 512 (by omega), k0_pay162
        (arg10.view.readCov (outStores arg2 harg2 arg3 harg3 arg4 harg4 arg6 harg6 arg7 harg7 arg8 harg8 x0 x1 x2 x4 x5 x6 32 (Nat.le_refl 32)) (box 256 (512 * n) 512 (by omega)).toLoadRect)
        (View.readAt (Elt F) arg5.view (box 256 (512 * n) 512 (by omega)).toLoadRect (harg5.unread x3))
        (View.readAt (Elt F) arg9.view (Rect.unit (s := S1x256) ![0, 0] S1x256.size inb_S1x256_S1x256_0_0).toLoadRect (harg9.unread x7))⟩
      :: gatedStores n (Nat.le_of_lt h)

variable (c : Dev nD) (i : grid0.Coords)

/-- The output after the run. -/
theorem run_out : (kernelRun0_A c i arg2 harg2 arg3 harg3 arg4 harg4 arg5 harg5 arg6 harg6 arg7 harg7 arg8 harg8 arg9 harg9 arg10 harg10 arg11 harg11 arg12 harg12 x0 x1 x2 x3 x4 x5 x6 x7).1 = outStores arg2 harg2 arg3 harg3 arg4 harg4 arg6 harg6 arg7 harg7 arg8 harg8 x0 x1 x2 x4 x5 x6 32 (Nat.le_refl 32) := by
  sl_kernel_rfl

/-- The gated output after the run. -/
theorem run_gated : (kernelRun0_A c i arg2 harg2 arg3 harg3 arg4 harg4 arg5 harg5 arg6 harg6 arg7 harg7 arg8 harg8 arg9 harg9 arg10 harg10 arg11 harg11 arg12 harg12 x0 x1 x2 x3 x4 x5 x6 x7).2.1 = gatedStores arg2 harg2 arg3 harg3 arg4 harg4 arg5 harg5 arg6 harg6 arg7 harg7 arg8 harg8 arg9 harg9 arg10 x0 x1 x2 x3 x4 x5 x6 x7 4 (Nat.le_refl 4) := by
  sl_kernel_rfl

/-- The states after the run. -/
theorem run_states : (kernelRun0_A c i arg2 harg2 arg3 harg3 arg4 harg4 arg5 harg5 arg6 harg6 arg7 harg7 arg8 harg8 arg9 harg9 arg10 harg10 arg11 harg11 arg12 harg12 x0 x1 x2 x3 x4 x5 x6 x7).2.2.1 = stateStores arg3 harg3 arg4 harg4 arg6 harg6 arg7 harg7 arg8 harg8 x1 x2 x4 x5 x6 32 (Nat.le_refl 32) := by
  sl_kernel_rfl

end

end Cert.Proof.GlaFwd

end
-- ==== Proof.GlaFwdSpec.lean ====
/- The gated recurrence over the extended reals, one head of one sequence: the state carried from chunk to chunk of 64 rows, the rows it
   is read into, and the gated norm of a row. -/
module

public import Idealize.ShloMosaic.PureOps.Ideal
public import Idealize.ShloMosaic.Lib.Pointwise
public import proofs.«01_k».proof.Proof.Gates

@[expose] public section

noncomputable section

namespace Cert.Proof.GlaFwd

open Idealize.ShloMosaic

/-- Row `j` of chunk `n`. -/
def place (n : ℕ) (h : n < 32) (j : Fin 64) : Fin 2048 := ⟨64 * n + j.val, by omega⟩

/-- What the queries are scaled by. -/
def scale : EReal := Ideal.ofBits .f32 0x3DB504F3#32

/-- The logarithm of a gate, from the gate's logit. -/
def logGate (z : EReal) : EReal :=
  (min z 0 - Ideal.log (1 + Ideal.exp (0 - max z (-z)))) * Ideal.ofBits .f32 0x3D800000#32

section

variable (la k : Fin 2048 → Fin 128 → EReal) (v : Fin 2048 → Fin 256 → EReal)

/-- The sum of the logarithms over chunk `n`. -/
def whole (n : ℕ) (h : n < 32) (c : Fin 128) : EReal := ∑ x : Fin 64, la (place n h x) c

/-- Their sum from the chunk's first row through row `j`. -/
def upTo (n : ℕ) (h : n < 32) (j : Fin 64) (c : Fin 128) : EReal := ∑ x : Fin 64, if x.val ≤ j.val then la (place n h x) c else 0

/-- The state after the first `n` chunks. -/
def carried : (n : ℕ) → n ≤ 32 → Fin 256 → Fin 128 → EReal
  | 0, _ => fun _ _ => 0
  | n + 1, h => fun i c => carried n (Nat.le_of_lt h) i c * Ideal.exp (whole la n h c)
      + ∑ x : Fin 64, v (place n h x) i * (k (place n h x) c * Ideal.exp (whole la n h c - upTo la n h x c))

/-- Row `r` of the output. -/
def outRow (q : Fin 2048 → Fin 128 → EReal) (r : Fin 2048) (i : Fin 256) : EReal :=
  ∑ x : Fin 128, q r x * scale * carried la k v (r.val / 64 + 1) (by omega) i x

end

/-- One row of the gated output, from the output's row, the norm's weight and the gate's logits. -/
def normed (o w g : Fin 256 → EReal) (i : Fin 256) : EReal :=
  o i * Ideal.rsqrt (Ideal.div (∑ x : Fin 256, o x * o x) (Ideal.ofBits .f32 0x43800000#32) + Ideal.ofBits .f32 0x358637BD#32) * w i
    * (g i * Ideal.div 1 (1 + Ideal.exp (0 - g i)))

/-! ## From the arguments -/

abbrev Narrow := (⟨3, ![2, 2048, 512]⟩ : Shape).Idx → EReal
abbrev Wide := (⟨3, ![2, 2048, 1024]⟩ : Shape).Idx → EReal
abbrev Low := (⟨3, ![2, 2048, 16]⟩ : Shape).Idx → EReal
abbrev Up := (⟨2, ![16, 512]⟩ : Shape).Idx → EReal
abbrev Bias := (⟨2, ![1, 512]⟩ : Shape).Idx → EReal
abbrev Norm := (⟨2, ![1, 256]⟩ : Shape).Idx → EReal

/-- Head `h`'s lanes of sequence `b`, of the queries or the keys. -/
def narrow (x : Narrow) (b : Fin 2) (h : Fin 4) (r : Fin 2048) (l : Fin 128) : EReal := x (ix3 b r ⟨128 * h.val + l.val, by omega⟩)

/-- The same of the values or the gate's logits. -/
def wide (x : Wide) (b : Fin 2) (h : Fin 4) (r : Fin 2048) (l : Fin 256) : EReal := x (ix3 b r ⟨256 * h.val + l.val, by omega⟩)

/-- The logarithms of head `h`'s gates. -/
def gates (a : Low) (w : Up) (bias : Bias) (b : Fin 2) (h : Fin 4) (r : Fin 2048) (c : Fin 128) : EReal :=
  logGate (∑ y : Fin 16, a (ix3 b r y) * w (ix2 y ⟨128 * h.val + c.val, by omega⟩) + bias (ix2 0 ⟨128 * h.val + c.val, by omega⟩))

section

variable (q k : Narrow) (v g : Wide) (a : Low) (w : Up) (bias : Bias) (norm : Norm)

/-- The states of head `h`. -/
def stateAt (b : Fin 2) (h : Fin 4) : (n : ℕ) → n ≤ 32 → Fin 256 → Fin 128 → EReal :=
  carried (gates a w bias b h) (narrow k b h) (wide v b h)

/-- The output of head `h`. -/
def outAt (b : Fin 2) (h : Fin 4) : Fin 2048 → Fin 256 → EReal :=
  outRow (gates a w bias b h) (narrow k b h) (wide v b h) (narrow q b h)

/-- The gated output of head `h`. -/
def gatedAt (b : Fin 2) (h : Fin 4) (r : Fin 2048) : Fin 256 → EReal :=
  normed (outAt q k v a w bias b h r) (fun x => norm (ix2 0 x)) (wide g b h r)

/-- The array whose head `h` is `f`'s. -/
def heads (f : Fin 2 → Fin 4 → Fin 2048 → Fin 256 → EReal) : Wide := fun i =>
  f (i 0) ⟨(i 2).val / 256, by have : (i 2).val < 1024 := (i 2).isLt; omega⟩ (i 1) ⟨(i 2).val % 256, Nat.mod_lt _ (by decide)⟩

/-- The array of the states after each chunk. -/
def states : (⟨5, ![2, 4, 32, 256, 128]⟩ : Shape).Idx → EReal := fun i =>
  stateAt k v a w bias (i 0) (i 1) ((i 2).val + 1) (i 2).isLt (i 3) (i 4)

end

theorem heads_apply (f : Fin 2 → Fin 4 → Fin 2048 → Fin 256 → EReal) (b : Fin 2) (h : Fin 4) (r : Fin 2048) (l : Fin 256) :
    heads f (ix3 b r ⟨256 * h.val + l.val, by omega⟩) = f b h r l := by
  show f b ⟨(256 * h.val + l.val) / 256, _⟩ r ⟨(256 * h.val + l.val) % 256, _⟩ = _
  congr 1
  · refine Fin.ext ?_
    show (256 * h.val + l.val) / 256 = h.val
    omega
  · refine Fin.ext ?_
    show (256 * h.val + l.val) % 256 = l.val
    omega

/-- The last chunk's last row has all of the chunk before it. -/
theorem upTo_last (la : Fin 2048 → Fin 128 → EReal) (n : ℕ) (h : n < 32) (c : Fin 128) : upTo la n h ⟨63, by decide⟩ c = whole la n h c :=
  Finset.sum_congr rfl fun x _ => if_pos (Nat.le_of_lt_succ x.isLt)

/-- Comparing two small numbers as signed 32-bit words compares the numbers. -/
theorem word_le {i j : ℕ} (hi : i < 64) (hj : j < 64) : IntOp.cmpi CmpIPredicate.sle (BitVec.ofNat 32 j) (BitVec.ofNat 32 i) = if j ≤ i then 1#1 else 0#1 := by
  have e : ∀ n : ℕ, n < 64 → (BitVec.ofNat 32 n).toInt = n := fun n h => by
    rw [BitVec.toInt_eq_toNat_cond, BitVec.toNat_ofNat, Nat.mod_eq_of_lt (by omega), if_pos (by omega)]
  show BitVec.ofBool ((BitVec.ofNat 32 j).sle (BitVec.ofNat 32 i)) = _
  rw [BitVec.sle, e j hj, e i hi]
  by_cases h : j ≤ i
  · rw [if_pos h, decide_eq_true (by omega)]; rfl
  · rw [if_neg h, decide_eq_false (by omega)]; rfl

theorem sixteenth (x : EReal) : Ideal.div x (Ideal.ofBits .f32 0x41800000#32) = x * Ideal.ofBits .f32 0x3D800000#32 := by
  have h1 : Ideal.ofBits .f32 0x41800000#32 = ((16 : ℝ) : EReal) := by
    simp [Ideal.ofBits, Ideal.ieee, -EReal.coe_mul]; norm_num
  have h2 : Ideal.ofBits .f32 0x3D800000#32 = ((1 / 16 : ℝ) : EReal) := by
    simp [Ideal.ofBits, Ideal.ieee, -EReal.coe_mul]; norm_num
  rw [h1, h2]
  have h3 : ((16 : ℝ) : EReal) ≠ 0 := by norm_num
  unfold Ideal.div
  rw [if_neg h3, ← EReal.coe_inv]
  norm_num

/-- The logarithm that remains is a real number. -/
theorem log_real (z : EReal) : ∃ r : ℝ, Ideal.log (1 + Ideal.exp (-(max z (-z)))) = (r : EReal) := by
  have key : ∀ y : ℝ, ∃ r : ℝ, Ideal.log (1 + Ideal.exp ((y : ℝ) : EReal)) = (r : EReal) := fun y => by
    refine ⟨Real.log (1 + Real.exp y), ?_⟩
    show Ideal.log (((1 : ℝ) : EReal) + ((Real.exp y : ℝ) : EReal)) = _
    rw [← EReal.coe_add]
    exact if_neg (by have := Real.exp_pos y; linarith)
  have zero : ∃ r : ℝ, Ideal.log (1 + Ideal.exp ⊥) = (r : EReal) := by
    refine ⟨Real.log 1, ?_⟩
    show Ideal.log (((1 : ℝ) : EReal) + 0) = _
    rw [add_zero]
    exact if_neg (by norm_num)
  induction z with
  | bot => simpa using zero
  | top => simpa using zero
  | coe x =>
    rw [← EReal.coe_neg, ← EReal.coe_strictMono.monotone.map_max, ← EReal.coe_neg]
    exact key _

theorem max_neg_zero (x : ℝ) : -(max (-x) 0) = min x 0 := by
  rcases le_total x 0 with h | h
  · rw [max_eq_left (by linarith), min_eq_left h, neg_neg]
  · rw [max_eq_right (by linarith), min_eq_right h, neg_zero]

/-- The reference's form of a gate's logarithm. -/
theorem logGate_eq (z : EReal) :
    Ideal.div (-(max (-z) 0 + Ideal.log1p (Ideal.exp (-max (-z - 0) (-(-z - 0)))))) (Ideal.ofBits .f32 0x41800000#32) = logGate z := by
  rw [sixteenth]
  unfold logGate
  refine congrArg (fun y : EReal => y * _) ?_
  obtain ⟨r, hr⟩ := log_real z
  have e : max (-z - 0) (-(-z - 0)) = max z (-z) := by rw [sub_zero, neg_neg, max_comm]
  have e' : -(max (-z) 0) = min z 0 := by
    induction z with
    | bot => simp
    | top => simp
    | coe x => rw [← EReal.coe_zero, ← EReal.coe_neg, ← EReal.coe_strictMono.monotone.map_max, ← EReal.coe_strictMono.monotone.map_min, ← EReal.coe_neg, max_neg_zero x]
  unfold Ideal.log1p
  rw [e, hr, zero_sub, hr, EReal.neg_add (.inr (EReal.coe_ne_top r)) (.inr (EReal.coe_ne_bot r)), e']

end Cert.Proof.GlaFwd

end
-- ==== Proof.GlaFwdValue.lean ====
/- The call `gla_fwd`: one chunk's values, read at an index. -/
module

public import proofs.«01_k».proof.Proof.GlaFwdStores
public import proofs.«01_k».proof.Proof.GlaFwdSpec
public import Idealize.ShloMosaic.Lib.Pointwise

@[expose] public section

set_option maxRecDepth 16384

noncomputable section

namespace Cert.Proof.GlaFwd

open Idealize.ShloMosaic Cert.GlaFwdIdeal Cert.GlaFwdIdeal.Gen

theorem chunk_apply (la : FVec Ideal S2048x128 .f32) (n : ℕ) (h : n < 32) (i : Fin 64) (c : Fin 128) :
    chunk la n h (ix2 i c) = la (ix2 ⟨64 * n + i.val, by omega⟩ c) := by
  unfold chunk
  pointwise

theorem total_apply (l : FVec Ideal S64x128 .f32) (c : Fin 128) : total l (ix2 0 c) = (∑ j : Fin 64, l (ix2 j c) : EReal) := by
  unfold total
  pointwise

/-- The mask of the rows through row `i`. -/
theorem mask_apply (i j : Fin 64) : k0_pay3 (F := Ideal) (ix2 i j) = if j.val ≤ i.val then (1 : EReal) else 0 := by
  unfold k0_pay3
  pointwise
  rw [word_le i.isLt j.isLt]
  by_cases h : j.val ≤ i.val
  · rw [if_pos h, if_pos h]; rfl
  · rw [if_neg h, if_neg h]; rfl

theorem decayed_apply (l : FVec Ideal S64x128 .f32) (k : Vec Ideal S1x64x128 .bf16) (i : Fin 64) (c : Fin 128) :
    decayed l k (ix2 i c) = (k (ix3 0 i c) * Ideal.exp ((∑ j : Fin 64, l (ix2 j c)) - ∑ x : Fin 64, if x.val ≤ i.val then (l (ix2 x c) : EReal) else 0) : EReal) := by
  unfold decayed
  pointwise [total_apply, mask_apply]
  refine congrArg (fun z : EReal => k (ix3 0 i c) * Ideal.exp ((∑ j : Fin 64, l (ix2 j c)) - z)) (Finset.sum_congr rfl fun x _ => ?_)
  by_cases h : x.val ≤ i.val
  · rw [if_pos h, if_pos h, one_mul]
  · rw [if_neg h, if_neg h, zero_mul]

theorem next_apply (l : FVec Ideal S64x128 .f32) (k : Vec Ideal S1x64x128 .bf16) (v : Vec Ideal S1x64x256 .bf16) (st : FVec Ideal S256x128 .f32)
    (i : Fin 256) (c : Fin 128) :
    next l k v st (ix2 i c) = (st (ix2 i c) * Ideal.exp (∑ j : Fin 64, l (ix2 j c)) + ∑ x : Fin 64, v (ix3 0 x i) * decayed l k (ix2 x c) : EReal) := by
  unfold next
  pointwise [total_apply]

theorem read_apply (q : Vec Ideal S1x64x128 .bf16) (st : FVec Ideal S256x128 .f32) (i : Fin 64) (c : Fin 256) :
    read q st (ix2 i c) = (∑ x : Fin 128, q (ix3 0 i x) * scale * st (ix2 c x) : EReal) := by
  unfold read scale
  pointwise

theorem logs_apply (x : Vec Ideal S1x2048x128 .bf16) (w : Vec Ideal S128x128 .f32) (b : Vec Ideal S1x128 .f32) (r : Fin 2048) (c : Fin 128) :
    k0_pay2 x w b (ix2 r c) = logGate (∑ y : Fin 128, x (ix3 0 r y) * w (ix2 y c) + b (ix2 0 c)) := by
  unfold k0_pay2 logGate
  pointwise
  rfl

theorem gated_apply (o : Vec Ideal S1x512x256 .f32) (g : Vec Ideal S1x512x256 .bf16) (w : Vec Ideal S1x256 .f32) (r : Fin 512) (c : Fin 256) :
    k0_pay162 o g w (ix3 0 r c) = normed (fun x => o (ix3 0 r x)) (fun x => w (ix2 0 x)) (fun x => g (ix3 0 r x)) c := by
  unfold k0_pay162 normed
  pointwise

theorem start_apply (i : Fin 256) (c : Fin 128) : k0_pay4 (F := Ideal) (ix2 i c) = (0 : EReal) := by
  unfold k0_pay4
  pointwise

/-! ## What the loads take -/

/-- A box's rows in the whole block. -/
theorem box_idx (w o n : ℕ) (h : o + n ≤ 2048) (r : Fin n) (c : Fin w) : (box w o n h).emb (ix3 0 r c) = ix3 0 ⟨o + r.val, by omega⟩ c := by
  funext a
  apply Fin.ext
  match a with
  | ⟨0, _⟩ => rfl
  | ⟨1, _⟩ => show o + 1 * r.val = o + r.val; omega
  | ⟨2, _⟩ => show 0 + 1 * c.val = c.val; omega

/-- A row outside a box is none of its rows. -/
theorem not_mem_box (w o n : ℕ) (h : o + n ≤ 2048) (r : Fin 2048) (c : Fin w) (hr : ¬ (o ≤ r.val ∧ r.val < o + n)) :
    (ix3 0 r c : (⟨3, ![1, 2048, w]⟩ : Shape).Idx) ∉ (box w o n h).set := by
  intro hm
  obtain ⟨x, hx⟩ := (box w o n h).exists_idx_of_mem hm
  have h1 : o + 1 * (x 1).val = r.val := congrArg (fun y : (⟨3, ![1, 2048, w]⟩ : Shape).Idx => (y 1).val) hx
  have h2 : (x 1).val < n := (x 1).isLt
  omega

/-- A chunk's state in the block of states. -/
theorem state_idx (n : ℕ) (h : n < 32) (i : Fin 256) (c : Fin 128) :
    (stateBox n h).emb (ix5 0 0 0 i c) = (ix5 0 0 ⟨n, h⟩ i c : S1x1x32x256x128.Idx) := by
  funext a
  apply Fin.ext
  match a with
  | ⟨0, _⟩ => rfl
  | ⟨1, _⟩ => rfl
  | ⟨2, _⟩ => rfl
  | ⟨3, _⟩ => show 0 + 1 * i.val = i.val; omega
  | ⟨4, _⟩ => show 0 + 1 * c.val = c.val; omega

/-- Another chunk's state is not in it. -/
theorem not_mem_state (n : ℕ) (h : n < 32) (j : Fin 32) (i : Fin 256) (c : Fin 128) (hj : j.val ≠ n) :
    (ix5 0 0 j i c : S1x1x32x256x128.Idx) ∉ (stateBox n h).set := by
  intro hm
  obtain ⟨x, hx⟩ := (stateBox n h).exists_idx_of_mem hm
  have h1 : n + 1 * (x 2).val = j.val := congrArg (fun y : S1x1x32x256x128.Idx => (y 2).val) hx
  have h2 : (x 2).val < 1 := (x 2).isLt
  omega

theorem rows128_apply (arg : Memref sig .tc .vmem S1x2048x128 .bf16) (harg : arg.IsWhole) (x : Vec Ideal S1x2048x128 .bf16) (n : ℕ) (h : n < 32)
    (r : Fin 64) (c : Fin 128) : rows128 arg harg x n h (ix3 0 r c) = x (ix3 0 (place n h r) c) := by
  rw [rows128, View.readAt_eq_ld, harg.read_unread]
  show x ((box 128 (64 * n) 64 _).emb (ix3 0 r c)) = _
  rw [box_idx]
  rfl

theorem rows256_apply (arg : Memref sig .tc .vmem S1x2048x256 .bf16) (harg : arg.IsWhole) (x : Vec Ideal S1x2048x256 .bf16) (n : ℕ) (h : n < 32)
    (r : Fin 64) (c : Fin 256) : rows256 arg harg x n h (ix3 0 r c) = x (ix3 0 (place n h r) c) := by
  rw [rows256, View.readAt_eq_ld, harg.read_unread]
  show x ((box 256 (64 * n) 64 _).emb (ix3 0 r c)) = _
  rw [box_idx]
  rfl

end Cert.Proof.GlaFwd

end
-- ==== Proof.GlaFwdRun.lean ====
/- The call `gla_fwd`: what one run of its body leaves, read at an index: the recurrence's states, its rows and their gated norm. -/
module

public import proofs.«01_k».proof.Proof.GlaFwdValue

@[expose] public section

set_option maxRecDepth 16384

noncomputable section

namespace Cert.Proof.GlaFwd

open Idealize.ShloMosaic Cert.GlaFwdIdeal Cert.GlaFwdIdeal.Gen

/-- The logarithms of the gates of a block, from the logits' factors. -/
def logsOf (x4 : Vec Ideal S1x2048x128 .bf16) (x5 : Vec Ideal S128x128 .f32) (x6 : Vec Ideal S1x128 .f32) (r : Fin 2048) (c : Fin 128) : EReal :=
  logGate (∑ y : Fin 128, x4 (ix3 0 r y) * x5 (ix2 y c) + x6 (ix2 0 c))

/-- A block's rows. -/
def rowsOf {w : ℕ} (x : (⟨3, ![1, 2048, w]⟩ : Shape).Idx → EReal) (r : Fin 2048) (c : Fin w) : EReal := x (ix3 0 r c)

theorem carried_at (la k : Fin 2048 → Fin 128 → EReal) (v : Fin 2048 → Fin 256 → EReal) {n n' : ℕ} (e : n = n') (h : n ≤ 32) (h' : n' ≤ 32) :
    carried la k v n h = carried la k v n' h' := by
  subst e
  rfl

/-- A chunk's row of the output. -/
theorem outRow_place (la k : Fin 2048 → Fin 128 → EReal) (v : Fin 2048 → Fin 256 → EReal) (q : Fin 2048 → Fin 128 → EReal) (n : ℕ) (h : n < 32)
    (j : Fin 64) (i : Fin 256) : outRow la k v q (place n h j) i = ∑ x : Fin 128, q (place n h j) x * scale * carried la k v (n + 1) h i x := by
  unfold outRow
  rw [carried_at la k v (show (place n h j).val / 64 + 1 = n + 1 by show (64 * n + j.val) / 64 + 1 = n + 1; omega) _ h]

theorem readWhole128 (arg : Memref sig .tc .vmem S1x2048x128 .bf16) (harg : arg.IsWhole) (x : Vec Ideal S1x2048x128 .bf16) (r : Fin 2048) (c : Fin 128) :
    View.readAt (Elt Ideal) arg.view (Rect.unit (s := S1x2048x128) ![0, 0, 0] S1x2048x128.size inb_S1x2048x128_S1x2048x128_0_0_0).toLoadRect (harg.unread x) (ix3 0 r c)
      = x (ix3 0 r c) := by
  rw [View.readAt_eq_ld, harg.read_unread]
  refine congrArg x ((box_idx 128 0 2048 (Nat.le_refl _) r c).trans ?_)
  simp only [Nat.zero_add]

theorem readWhole2 {n w : ℕ} (arg : Memref sig .tc .vmem ⟨2, ![n, w]⟩ .f32) (harg : arg.IsWhole) (x : Vec Ideal ⟨2, ![n, w]⟩ .f32) (hin) (r : Fin n) (c : Fin w) :
    View.readAt (Elt Ideal) arg.view (Rect.unit (s := ⟨2, ![n, w]⟩) ![0, 0] ![n, w] hin).toLoadRect (harg.unread x) (ix2 r c)
      = x (ix2 r c) := by
  rw [View.readAt_eq_ld, harg.read_unread]
  refine congrArg x (funext fun a => Fin.ext ?_)
  match a with
  | ⟨0, _⟩ => show 0 + 1 * r.val = r.val; omega
  | ⟨1, _⟩ => show 0 + 1 * c.val = c.val; omega

/-- A store of rows, at a row it does not cover. -/
theorem rows_outside {e : EltTy} (o n : ℕ) (h : o + n ≤ 2048) (p : Vec Ideal ⟨3, ![1, n, 256]⟩ e) (L : List (View.Piece (Elt Ideal) S1x2048x256 e))
    (r : Fin 2048) (c : Fin 256) (hr : ¬ (o ≤ r.val ∧ r.val < o + n)) :
    View.canon ((⟨box 256 o n h, p⟩ : View.Piece (Elt Ideal) S1x2048x256 e) :: L) (ix3 0 r c) = View.canon L (ix3 0 r c) :=
  View.canon_cons_of_not_mem _ L (not_mem_box 256 o n h r c hr)

/-- A store of a state, at another chunk's. -/
theorem state_outside (n : ℕ) (h : n < 32) (p : Vec Ideal S1x1x1x256x128 .f32) (L : List (View.Piece (Elt Ideal) S1x1x32x256x128 .f32))
    (j : Fin 32) (i : Fin 256) (c : Fin 128) (hj : j.val ≠ n) :
    View.canon ((⟨stateBox n h, p⟩ : View.Piece (Elt Ideal) S1x1x32x256x128 .f32) :: L) (ix5 0 0 j i c) = View.canon L (ix5 0 0 j i c) :=
  View.canon_cons_of_not_mem _ L (not_mem_state n h j i c hj)

section

variable (arg2 : Memref sig .tc .vmem S1x2048x128 .bf16) (harg2 : arg2.IsWhole) (arg3 : Memref sig .tc .vmem S1x2048x128 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x128 .bf16) (harg6 : arg6.IsWhole) (arg7 : Memref sig .tc .vmem S128x128 .f32) (harg7 : arg7.IsWhole) (arg8 : Memref sig .tc .vmem S1x128 .f32) (harg8 : arg8.IsWhole) (arg9 : Memref sig .tc .vmem S1x256 .f32) (harg9 : arg9.IsWhole) (arg10 : Memref sig .tc .vmem S1x2048x256 .f32) (harg10 : arg10.IsWhole) (arg11 : Memref sig .tc .vmem S1x2048x256 .bf16) (harg11 : arg11.IsWhole) (arg12 : Memref sig .tc .vmem S1x1x32x256x128 .f32) (harg12 : arg12.IsWhole)
    (x0 : Vec Ideal S1x2048x128 .bf16) (x1 : Vec Ideal S1x2048x128 .bf16) (x2 : Vec Ideal S1x2048x256 .bf16) (x3 : Vec Ideal S1x2048x256 .bf16) (x4 : Vec Ideal S1x2048x128 .bf16) (x5 : Vec Ideal S128x128 .f32) (x6 : Vec Ideal S1x128 .f32) (x7 : Vec Ideal S1x256 .f32)

theorem logs_value (r : Fin 2048) (c : Fin 128) : logs arg6 harg6 arg7 harg7 arg8 harg8 x4 x5 x6 (ix2 r c) = logsOf x4 x5 x6 r c := by
  rw [logs, logs_apply, logsOf]
  refine congrArg logGate (congrArg₂ _ (Finset.sum_congr rfl fun y _ => congrArg₂ _ (readWhole128 arg6 harg6 x4 r y) ?_) ?_)
  · exact readWhole2 (n := 128) (w := 128) arg7 harg7 x5 _ y c
  · exact readWhole2 (n := 1) (w := 128) arg8 harg8 x6 _ 0 c

theorem state_value (n : ℕ) (h : n ≤ 32) (i : Fin 256) (c : Fin 128) :
    state arg3 harg3 arg4 harg4 arg6 harg6 arg7 harg7 arg8 harg8 x1 x2 x4 x5 x6 n h (ix2 i c)
      = carried (logsOf x4 x5 x6) (rowsOf x1) (rowsOf x2) n h i c := by
  induction n generalizing i c with
  | zero => exact start_apply i c
  | succ n ih =>
    rw [state, next_apply, ih]
    simp only [decayed_apply, rows128_apply, rows256_apply, chunk_apply, logs_value]
    rfl

theorem canon_states (n : ℕ) (h : n ≤ 32) (j : Fin 32) (hj : j.val < n) (i : Fin 256) (c : Fin 128) :
    View.canon (stateStores arg3 harg3 arg4 harg4 arg6 harg6 arg7 harg7 arg8 harg8 x1 x2 x4 x5 x6 n h) (ix5 0 0 j i c)
      = carried (logsOf x4 x5 x6) (rowsOf x1) (rowsOf x2) (j.val + 1) j.isLt i c := by
  induction n with
  | zero => exact absurd hj (Nat.not_lt_zero _)
  | succ n ih =>
    rw [stateStores]
    by_cases e : j.val = n
    · subst e
      refine Eq.trans ?_ (state_value arg3 harg3 arg4 harg4 arg6 harg6 arg7 harg7 arg8 harg8 x1 x2 x4 x5 x6 (j.val + 1) h i c)
      rw [show (ix5 0 0 j i c : S1x1x32x256x128.Idx) = (stateBox j.val j.isLt).emb (ix5 0 0 0 i c) from (state_idx j.val j.isLt i c).symm, View.canon_cons_emb]
      pointwise
    · rw [state_outside n h _ _ j i c e]
      exact ih (Nat.le_of_lt h) (by omega)

theorem canon_out (n : ℕ) (h : n ≤ 32) (r : Fin 2048) (hr : r.val < 64 * n) (i : Fin 256) :
    View.canon (outStores arg2 harg2 arg3 harg3 arg4 harg4 arg6 harg6 arg7 harg7 arg8 harg8 x0 x1 x2 x4 x5 x6 n h) (ix3 0 r i)
      = outRow (logsOf x4 x5 x6) (rowsOf x1) (rowsOf x2) (rowsOf x0) r i := by
  induction n with
  | zero => exact absurd hr (Nat.not_lt_zero _)
  | succ n ih =>
    rw [outStores]
    by_cases e : r.val < 64 * n
    · have e' : ¬ 64 * n ≤ r.val := Nat.not_le_of_lt e
      rw [rows_outside (64 * n) 64 _ _ _ r i (fun q => e' q.1)]
      exact ih (Nat.le_of_lt h) e
    · obtain ⟨j, rfl⟩ : ∃ j : Fin 64, r = place n h j := ⟨⟨r.val - 64 * n, by omega⟩, Fin.ext (by show r.val = 64 * n + (r.val - 64 * n); omega)⟩
      rw [outRow_place, show (ix3 0 (place n h j) i : S1x2048x256.Idx) = (box 256 (64 * n) 64 (by omega)).emb (ix3 0 j i) from (box_idx 256 (64 * n) 64 (by omega) j i).symm,
        View.canon_cons_emb]
      pointwise [read_apply, rows128_apply, state_value]
      rfl

theorem canon_gated (n : ℕ) (h : n ≤ 4) (r : Fin 2048) (hr : r.val < 512 * n) (i : Fin 256) :
    View.canon (gatedStores arg2 harg2 arg3 harg3 arg4 harg4 arg5 harg5 arg6 harg6 arg7 harg7 arg8 harg8 arg9 harg9 arg10 x0 x1 x2 x3 x4 x5 x6 x7 n h) (ix3 0 r i)
      = normed (outRow (logsOf x4 x5 x6) (rowsOf x1) (rowsOf x2) (rowsOf x0) r) (fun x => x7 (ix2 0 x)) (rowsOf x3 r) i := by
  induction n with
  | zero => exact absurd hr (Nat.not_lt_zero _)
  | succ n ih =>
    rw [gatedStores]
    by_cases e : r.val < 512 * n
    · have e' : ¬ 512 * n ≤ r.val := Nat.not_le_of_lt e
      rw [rows_outside (512 * n) 512 _ _ _ r i (fun q => e' q.1)]
      exact ih (Nat.le_of_lt h) e
    · have hb : ∀ j : Fin 512, 512 * n + j.val < 2048 := fun j => by omega
      obtain ⟨j, rfl⟩ : ∃ j : Fin 512, r = ⟨512 * n + j.val, hb j⟩ := ⟨⟨r.val - 512 * n, by omega⟩, Fin.ext (by show r.val = 512 * n + (r.val - 512 * n); omega)⟩
      rw [show (ix3 0 ⟨512 * n + j.val, hb j⟩ i : S1x2048x256.Idx) = (box 256 (512 * n) 512 (by omega)).emb (ix3 0 j i) from (box_idx 256 (512 * n) 512 (by omega) j i).symm,
        View.canon_cons_emb, gated_apply]
      have e1 : ∀ x : Fin 256, arg10.view.readCov (outStores arg2 harg2 arg3 harg3 arg4 harg4 arg6 harg6 arg7 harg7 arg8 harg8 x0 x1 x2 x4 x5 x6 32 (Nat.le_refl 32)) (box 256 (512 * n) 512 (by omega)).toLoadRect (ix3 0 j x)
          = outRow (logsOf x4 x5 x6) (rowsOf x1) (rowsOf x2) (rowsOf x0) ⟨512 * n + j.val, hb j⟩ x := fun x => by
        rw [View.readCov_eq_canon']
        exact (congrArg _ (box_idx 256 (512 * n) 512 (by omega) j x)).trans (canon_out arg2 harg2 arg3 harg3 arg4 harg4 arg6 harg6 arg7 harg7 arg8 harg8 x0 x1 x2 x4 x5 x6 32 (Nat.le_refl 32) _ (Fin.isLt _) x)
      have e2 : ∀ x : Fin 256, View.readAt (Elt Ideal) arg5.view (box 256 (512 * n) 512 (by omega)).toLoadRect (harg5.unread x3) (ix3 0 j x)
          = rowsOf x3 ⟨512 * n + j.val, hb j⟩ x := fun x => by
        rw [View.readAt_eq_ld, harg5.read_unread]
        exact congrArg x3 (box_idx 256 (512 * n) 512 (by omega) j x)
      have e3 : ∀ x : Fin 256, View.readAt (Elt Ideal) arg9.view (Rect.unit (s := S1x256) ![0, 0] S1x256.size inb_S1x256_S1x256_0_0).toLoadRect (harg9.unread x7) (ix2 0 x)
          = x7 (ix2 0 x) := fun x => readWhole2 (n := 1) (w := 256) arg9 harg9 x7 _ 0 x
      rw [funext e1, funext e2, funext e3]

variable (c : Dev nD) (i : grid0.Coords)

theorem out_value (r : Fin 2048) (l : Fin 256) : out0_A_8 c i arg2 harg2 arg3 harg3 arg4 harg4 arg5 harg5 arg6 harg6 arg7 harg7 arg8 harg8 arg9 harg9 arg10 harg10 arg11 harg11 arg12 harg12 x0 x1 x2 x3 x4 x5 x6 x7 (ix3 0 r l) = outRow (logsOf x4 x5 x6) (rowsOf x1) (rowsOf x2) (rowsOf x0) r l := by
  have e : out0_A_8 c i arg2 harg2 arg3 harg3 arg4 harg4 arg5 harg5 arg6 harg6 arg7 harg7 arg8 harg8 arg9 harg9 arg10 harg10 arg11 harg11 arg12 harg12 x0 x1 x2 x3 x4 x5 x6 x7 = View.canon (outStores arg2 harg2 arg3 harg3 arg4 harg4 arg6 harg6 arg7 harg7 arg8 harg8 x0 x1 x2 x4 x5 x6 32 (Nat.le_refl 32)) := by
    refine Eq.trans ?_ (congrArg View.canon (run_out arg2 harg2 arg3 harg3 arg4 harg4 arg5 harg5 arg6 harg6 arg7 harg7 arg8 harg8 arg9 harg9 arg10 harg10 arg11 harg11 arg12 harg12 x0 x1 x2 x3 x4 x5 x6 x7 c i))
    exact (show _ = VO0_8.read (Elt Ideal) (VO0_8.writes (Elt Ideal) VO0_8.junk _) from rfl).trans (View.read_writes_junk_eq_canon _ _)
  rw [e]
  exact canon_out arg2 harg2 arg3 harg3 arg4 harg4 arg6 harg6 arg7 harg7 arg8 harg8 x0 x1 x2 x4 x5 x6 32 (Nat.le_refl 32) r r.isLt l

theorem gated_value (r : Fin 2048) (l : Fin 256) : out0_A_9 c i arg2 harg2 arg3 harg3 arg4 harg4 arg5 harg5 arg6 harg6 arg7 harg7 arg8 harg8 arg9 harg9 arg10 harg10 arg11 harg11 arg12 harg12 x0 x1 x2 x3 x4 x5 x6 x7 (ix3 0 r l) = normed (outRow (logsOf x4 x5 x6) (rowsOf x1) (rowsOf x2) (rowsOf x0) r) (fun x => x7 (ix2 0 x)) (rowsOf x3 r) l := by
  have e : out0_A_9 c i arg2 harg2 arg3 harg3 arg4 harg4 arg5 harg5 arg6 harg6 arg7 harg7 arg8 harg8 arg9 harg9 arg10 harg10 arg11 harg11 arg12 harg12 x0 x1 x2 x3 x4 x5 x6 x7 = View.canon (gatedStores arg2 harg2 arg3 harg3 arg4 harg4 arg5 harg5 arg6 harg6 arg7 harg7 arg8 harg8 arg9 harg9 arg10 x0 x1 x2 x3 x4 x5 x6 x7 4 (Nat.le_refl 4)) := by
    refine Eq.trans ?_ (congrArg View.canon (run_gated arg2 harg2 arg3 harg3 arg4 harg4 arg5 harg5 arg6 harg6 arg7 harg7 arg8 harg8 arg9 harg9 arg10 harg10 arg11 harg11 arg12 harg12 x0 x1 x2 x3 x4 x5 x6 x7 c i))
    exact (show _ = VO0_9.read (Elt Ideal) (VO0_9.writes (Elt Ideal) VO0_9.junk _) from rfl).trans (View.read_writes_junk_eq_canon _ _)
  rw [e]
  exact canon_gated arg2 harg2 arg3 harg3 arg4 harg4 arg5 harg5 arg6 harg6 arg7 harg7 arg8 harg8 arg9 harg9 arg10 x0 x1 x2 x3 x4 x5 x6 x7 4 (Nat.le_refl 4) r r.isLt l

theorem states_value (j : Fin 32) (r : Fin 256) (l : Fin 128) : out0_A_10 c i arg2 harg2 arg3 harg3 arg4 harg4 arg5 harg5 arg6 harg6 arg7 harg7 arg8 harg8 arg9 harg9 arg10 harg10 arg11 harg11 arg12 harg12 x0 x1 x2 x3 x4 x5 x6 x7 (ix5 0 0 j r l) = carried (logsOf x4 x5 x6) (rowsOf x1) (rowsOf x2) (j.val + 1) j.isLt r l := by
  have e : out0_A_10 c i arg2 harg2 arg3 harg3 arg4 harg4 arg5 harg5 arg6 harg6 arg7 harg7 arg8 harg8 arg9 harg9 arg10 harg10 arg11 harg11 arg12 harg12 x0 x1 x2 x3 x4 x5 x6 x7 = View.canon (stateStores arg3 harg3 arg4 harg4 arg6 harg6 arg7 harg7 arg8 harg8 x1 x2 x4 x5 x6 32 (Nat.le_refl 32)) := by
    refine Eq.trans ?_ (congrArg View.canon (run_states arg2 harg2 arg3 harg3 arg4 harg4 arg5 harg5 arg6 harg6 arg7 harg7 arg8 harg8 arg9 harg9 arg10 harg10 arg11 harg11 arg12 harg12 x0 x1 x2 x3 x4 x5 x6 x7 c i))
    exact (show _ = VO0_10.read (Elt Ideal) (VO0_10.writes (Elt Ideal) VO0_10.junk _) from rfl).trans (View.read_writes_junk_eq_canon _ _)
  rw [e]
  exact canon_states arg3 harg3 arg4 harg4 arg6 harg6 arg7 harg7 arg8 harg8 x1 x2 x4 x5 x6 32 (Nat.le_refl 32) j j.isLt r l

end

end Cert.Proof.GlaFwd

end
-- ==== Proof.GlaFwdKernel.lean ====
/- The call `gla_fwd` over the whole arrays: the blocks it reads and the arrays it leaves. -/
module

public import proofs.«01_k».proof.Proof.GlaFwdRun
public import proofs.«01_k».proof.Proof.Products
public import Idealize.ShloMosaic.Lib.StableHlo.RunRead

@[expose] public section

set_option maxRecDepth 16384
set_option maxHeartbeats 1000000

noncomputable section

namespace Cert.Proof.GlaFwd

open Idealize.ShloMosaic Idealize.ShloMosaic.TcCoe Idealize.SL.Sem Cert.GlaFwdIdeal Cert.GlaFwdIdeal.Gen

variable (m : (ℓ : Loc nD τ sig) → Buf (Elt Ideal) ℓ)

/-- The arrays side by side, the gates' factor behind a gap. -/
def packed (q k : FVec Ideal S2x2048x512 .f32) (v g : FVec Ideal S2x2048x1024 .f32) (a : FVec Ideal S2x2048x16 .f32) : FVec Ideal S2x2048x5760 .bf16 :=
  truncf .bf16 (concatenate S2x2048x5760 2 [⟨S2x2048x512, q⟩, ⟨S2x2048x512, k⟩, ⟨S2x2048x1024, v⟩, ⟨S2x2048x1024, g⟩,
    ⟨S2x2048x2432, (broadcastInDim S2x2048x2432 ![] bcast_S_S2x2048x2432 (constant S_ .f32 0x00000000#32) : FVec Ideal S2x2048x2432 .f32)⟩,
    ⟨S2x2048x16, a⟩, ⟨S2x2048x240, (broadcastInDim S2x2048x240 ![] bcast_S_S2x2048x240 (constant S_ .f32 0x00000000#32) : FVec Ideal S2x2048x240 .f32)⟩]
    concatenates_S2x2048x512_S2x2048x512_S2x2048x1024_S2x2048x1024_S2x2048x2432_S2x2048x16_S2x2048x240_S2x2048x5760_d2) bitsLt_bf16_f32

theorem entry_packed (c : Dev nD) : V m c main_v4 = packed (m ((c : Thread nD τ).loc main_arg0)) (m ((c : Thread nD τ).loc main_arg1))
    (m ((c : Thread nD τ).loc main_arg2)) (m ((c : Thread nD τ).loc main_arg3)) (m ((c : Thread nD τ).loc main_arg4)) := by
  unfold V
  after_reads_simp
  rfl

section

variable (q k : FVec Ideal S2x2048x512 .f32) (v g : FVec Ideal S2x2048x1024 .f32) (a : FVec Ideal S2x2048x16 .f32) (b : Fin 2) (r : Fin 2048)

theorem packed_q (l : Fin 512) : packed q k v g a (ix3 b r ⟨l.val, by omega⟩) = q (ix3 b r l) := by
  unfold packed
  pointwise
theorem packed_k (l : Fin 512) : packed q k v g a (ix3 b r ⟨512 + l.val, by omega⟩) = k (ix3 b r l) := by
  unfold packed
  pointwise
theorem packed_v (l : Fin 1024) : packed q k v g a (ix3 b r ⟨1024 + l.val, by omega⟩) = v (ix3 b r l) := by
  unfold packed
  pointwise
  exact (dif_neg (by omega)).trans ((dif_neg (by omega)).trans ((dif_pos (by omega)).trans (congrArg (fun z => v (ix3 b r z)) (Fin.ext (by dsimp only; omega)))))
theorem packed_g (l : Fin 1024) : packed q k v g a (ix3 b r ⟨2048 + l.val, by omega⟩) = g (ix3 b r l) := by
  unfold packed
  pointwise
  exact (dif_neg (by omega)).trans ((dif_neg (by omega)).trans ((dif_neg (by omega)).trans ((dif_pos (by omega)).trans (congrArg (fun z => g (ix3 b r z)) (Fin.ext (by dsimp only; omega))))))
theorem packed_a (l : Fin 128) : packed q k v g a (ix3 b r ⟨5504 + l.val, by omega⟩) = if h : l.val < 16 then a (ix3 b r ⟨l.val, h⟩) else (0 : EReal) := by
  unfold packed
  pointwise
  by_cases h : l.val < 16
  · refine Eq.trans ?_ (dif_pos h).symm
    exact (dif_neg (by omega)).trans ((dif_neg (by omega)).trans ((dif_neg (by omega)).trans ((dif_neg (by omega)).trans ((dif_neg (by omega)).trans ((dif_pos (by omega)).trans (congrArg (fun z => a (ix3 b r z)) (Fin.ext (by dsimp only; omega))))))))
  · refine Eq.trans ?_ (dif_neg h).symm
    exact (dif_neg (by omega)).trans ((dif_neg (by omega)).trans ((dif_neg (by omega)).trans ((dif_neg (by omega)).trans ((dif_neg (by omega)).trans (dif_neg (by omega))))))

end

/-- The weights, filled out with rows of zeros. -/
def weights (x : FVec Ideal S16x512 .f32) : FVec Ideal S128x512 .f32 :=
  pad S128x512 ![0, 0] ![112, 0] ![0, 0] x (sitofp .f32 (constantI S_ 32 0#32)) pads_S16x512_S128x512_01120_000 h_S_

theorem weights_apply (x : FVec Ideal S16x512 .f32) (y : Fin 128) (l : Fin 512) :
    weights x (ix2 y l) = if h : y.val < 16 then x (ix2 ⟨y.val, h⟩ l) else (0 : EReal) := by
  unfold weights
  pointwise
  by_cases h : y.val < 16
  · refine (dif_pos h).trans ?_
    rw [dif_pos h]
  · refine (dif_neg h).trans (Products.pad_value.trans ?_)
    rw [dif_neg h]

theorem entry_weights (c : Dev nD) : V m c main_v0 = weights (m ((c : Thread nD τ).loc main_arg5)) := by
  unfold V
  after_reads_simp
  simp only [StableHlo.TRef.toBuf, StableHlo.TRef.ofBuf, cast_eq]
  rfl

theorem index0 : ∀ t : Fin cfg0.N, win0_0.index t = ![(grid0.coords t 1).val, 0, (grid0.coords t 0).val] := by decide +kernel
theorem index1 : ∀ t : Fin cfg0.N, win0_1.index t = ![(grid0.coords t 1).val, 0, 4 + (grid0.coords t 0).val] := by decide +kernel
theorem index2 : ∀ t : Fin cfg0.N, win0_2.index t = ![(grid0.coords t 1).val, 0, 4 + (grid0.coords t 0).val] := by decide +kernel
theorem index3 : ∀ t : Fin cfg0.N, win0_3.index t = ![(grid0.coords t 1).val, 0, 8 + (grid0.coords t 0).val] := by decide +kernel
theorem index4 : ∀ t : Fin cfg0.N, win0_4.index t = ![(grid0.coords t 1).val, 0, 43] := by decide +kernel
theorem index5 : ∀ t : Fin cfg0.N, win0_5.index t = ![0, (grid0.coords t 0).val] := by decide +kernel
theorem index6 : ∀ t : Fin cfg0.N, win0_6.index t = ![0, (grid0.coords t 0).val] := by decide +kernel
theorem index7 : ∀ t : Fin cfg0.N, win0_7.index t = ![0, 0] := by decide +kernel
theorem index8 : ∀ t : Fin cfg0.N, win0_8.index t = ![(grid0.coords t 1).val, 0, (grid0.coords t 0).val] := by decide +kernel
theorem index9 : ∀ t : Fin cfg0.N, win0_9.index t = ![(grid0.coords t 1).val, 0, (grid0.coords t 0).val] := by decide +kernel
theorem index10 : ∀ t : Fin cfg0.N, win0_10.index t = ![(grid0.coords t 1).val, (grid0.coords t 0).val, 0, 0, 0] := by decide +kernel

abbrev head (t : Fin cfg0.N) : Fin 4 := grid0.coords t 0
abbrev seq (t : Fin cfg0.N) : Fin 2 := grid0.coords t 1

theorem place0 (t : Fin cfg0.N) (A : Vec Ideal S2x2048x5760 .bf16) (r : Fin 2048) (l : Fin 128) :
    ((cfg0.win 0).blk t).view.read (Elt Ideal) A (ix3 0 r l) = A (ix3 (seq t) r ⟨128 * (head t).val + l.val, by have := (head t).isLt; omega⟩) := by
  blk_ext [index0 t]
  all_goals (dsimp only [seq, head]; omega)
theorem place1 (t : Fin cfg0.N) (A : Vec Ideal S2x2048x5760 .bf16) (r : Fin 2048) (l : Fin 128) :
    ((cfg0.win 1).blk t).view.read (Elt Ideal) A (ix3 0 r l) = A (ix3 (seq t) r ⟨512 + (128 * (head t).val + l.val), by have := (head t).isLt; omega⟩) := by
  blk_ext [index1 t]
  all_goals (dsimp only [seq, head]; omega)
theorem place2 (c : Dev nD) (t : Fin cfg0.N) (A : Vec Ideal S2x2048x5760 .bf16) (hA : V m c main_v4 = A) (r : Fin 2048) (l : Fin 256) :
    X0_2 m c t (ix3 0 r l) = A (ix3 (seq t) r ⟨1024 + (256 * (head t).val + l.val), by have := (head t).isLt; omega⟩) := by
  subst hA
  unfold X0_2 Pipeline.Window.fill
  rw [dif_pos (moved0_2 t _)]
  unfold iblk
  blk_ext [index2 t]
  all_goals (dsimp only [seq, head]; omega)
theorem place3 (c : Dev nD) (t : Fin cfg0.N) (A : Vec Ideal S2x2048x5760 .bf16) (hA : V m c main_v4 = A) (r : Fin 2048) (l : Fin 256) :
    X0_3 m c t (ix3 0 r l) = A (ix3 (seq t) r ⟨2048 + (256 * (head t).val + l.val), by have := (head t).isLt; omega⟩) := by
  subst hA
  unfold X0_3 Pipeline.Window.fill
  rw [dif_pos (moved0_3 t _)]
  unfold iblk
  blk_ext [index3 t]
  all_goals (dsimp only [seq, head]; omega)
theorem place4 (t : Fin cfg0.N) (A : Vec Ideal S2x2048x5760 .bf16) (r : Fin 2048) (l : Fin 128) :
    ((cfg0.win 4).blk t).view.read (Elt Ideal) A (ix3 0 r l) = A (ix3 (seq t) r ⟨5504 + l.val, by omega⟩) := by
  blk_ext [index4 t]
  all_goals (dsimp only [seq, head]; omega)
theorem place5 (t : Fin cfg0.N) (A : Vec Ideal S128x512 .f32) (r : Fin 128) (l : Fin 128) :
    ((cfg0.win 5).blk t).view.read (Elt Ideal) A (ix2 r l) = A (ix2 r ⟨128 * (head t).val + l.val, by have := (head t).isLt; omega⟩) := by
  blk_ext [index5 t]
  all_goals (dsimp only [head]; omega)
theorem place6 (t : Fin cfg0.N) (A : Vec Ideal S1x512 .f32) (l : Fin 128) :
    ((cfg0.win 6).blk t).view.read (Elt Ideal) A (ix2 0 l) = A (ix2 0 ⟨128 * (head t).val + l.val, by have := (head t).isLt; omega⟩) := by
  blk_ext [index6 t]
  all_goals (dsimp only [head]; omega)
theorem place7 (t : Fin cfg0.N) (A : Vec Ideal S1x256 .f32) (l : Fin 256) :
    ((cfg0.win 7).blk t).view.read (Elt Ideal) A (ix2 0 l) = A (ix2 0 l) := by
  blk_ext [index7 t]
theorem place8 (t : Fin cfg0.N) (r : Fin 2048) (l : Fin 256) :
    (win0_8.blk t).view.emb (ix3 0 r l) = ix3 (seq t) r ⟨256 * (head t).val + l.val, by have := (head t).isLt; omega⟩ := by
  blk_ext [index8 t]
  all_goals (dsimp only [seq, head]; omega)
theorem place9 (t : Fin cfg0.N) (r : Fin 2048) (l : Fin 256) :
    (win0_9.blk t).view.emb (ix3 0 r l) = ix3 (seq t) r ⟨256 * (head t).val + l.val, by have := (head t).isLt; omega⟩ := by
  blk_ext [index9 t]
  all_goals (dsimp only [seq, head]; omega)
theorem place10 (t : Fin cfg0.N) (j : Fin 32) (r : Fin 256) (l : Fin 128) :
    (win0_10.blk t).view.emb (ix5 0 0 j r l) = ix5 (seq t) (head t) j r l := by
  blk_ext [index10 t]
  all_goals (dsimp only [seq, head]; omega)

/-! ## The blocks -/

/-- A block of the packed array is read off the array. -/
theorem block_of (c : Dev nD) (t : Fin cfg0.N) (w : Fin cfg0.W) (A) (h : V m c (Pipeline.arrRef spec0 w) = A) :
    iblk m c w t = ((cfg0.win w).blk t).view.read (Elt Ideal) A := by
  unfold iblk
  rw [h]

section

variable (c : Dev nD) (t : Fin cfg0.N)

/-- The arguments. -/
abbrev argQ : Narrow := m ((c : Thread nD τ).loc main_arg0)
abbrev argK : Narrow := m ((c : Thread nD τ).loc main_arg1)
abbrev argV : Wide := m ((c : Thread nD τ).loc main_arg2)
abbrev argG : Wide := m ((c : Thread nD τ).loc main_arg3)
abbrev argA : Low := m ((c : Thread nD τ).loc main_arg4)
abbrev argW : Up := m ((c : Thread nD τ).loc main_arg5)
abbrev argB : Bias := m ((c : Thread nD τ).loc main_arg6)
abbrev argN : Norm := m ((c : Thread nD τ).loc main_arg7)

theorem block_q : rowsOf (iblk m c 0 t) = narrow (argQ m c) (seq t) (head t) := by
  funext r l
  unfold rowsOf
  rw [block_of m c t 0 _ (entry_packed m c), place0]
  exact packed_q _ _ _ _ _ _ _ ⟨128 * (head t).val + l.val, by have := (head t).isLt; omega⟩
theorem block_k : rowsOf (iblk m c 1 t) = narrow (argK m c) (seq t) (head t) := by
  funext r l
  unfold rowsOf
  rw [block_of m c t 1 _ (entry_packed m c), place1]
  exact packed_k _ _ _ _ _ _ _ ⟨128 * (head t).val + l.val, by have := (head t).isLt; omega⟩
theorem block_v : rowsOf (X0_2 m c t) = wide (argV m c) (seq t) (head t) := by
  funext r l
  unfold rowsOf
  rw [place2 m c t _ (entry_packed m c)]
  exact packed_v _ _ _ _ _ _ _ ⟨256 * (head t).val + l.val, by have := (head t).isLt; omega⟩
theorem block_g : rowsOf (X0_3 m c t) = wide (argG m c) (seq t) (head t) := by
  funext r l
  unfold rowsOf
  rw [place3 m c t _ (entry_packed m c)]
  exact packed_g _ _ _ _ _ _ _ ⟨256 * (head t).val + l.val, by have := (head t).isLt; omega⟩

/-- A sum whose terms vanish from the sixteenth on. -/
theorem sum_sixteen (f : Fin 128 → EReal) (g : Fin 16 → EReal) (h1 : ∀ (y : Fin 128) (h : y.val < 16), f y = g ⟨y.val, h⟩)
    (h2 : ∀ y : Fin 128, ¬ y.val < 16 → f y = 0) : ∑ y : Fin 128, f y = ∑ y : Fin 16, g y := by
  rw [show (∑ y : Fin 128, f y) = ∑ y : Fin (16 + 112), f y from rfl, Fin.sum_univ_add, Finset.sum_eq_zero (s := Finset.univ) (f := fun y : Fin 112 => f (Fin.natAdd 16 y)) fun y _ => h2 _ (by
    show ¬ 16 + y.val < 16
    omega), add_zero]
  exact Finset.sum_congr rfl fun y _ => h1 _ y.isLt

theorem block_gates : logsOf (iblk m c 4 t) (iblk m c 5 t) (iblk m c 6 t) = gates (argA m c) (argW m c) (argB m c) (seq t) (head t) := by
  funext r l
  unfold logsOf gates
  rw [block_of m c t 4 _ (entry_packed m c), block_of m c t 5 _ (entry_weights m c), block_of m c t 6 _ (V_main_arg6 m c), place6]
  refine congrArg logGate (congrArg₂ (fun y z : EReal => y + z) ?_ rfl)
  refine sum_sixteen _ _ (fun y h => ?_) fun y h => ?_
  · rw [place4, place5, packed_a, weights_apply, dif_pos h, dif_pos h]
  · rw [place4, place5, packed_a, dif_neg h, zero_mul]

theorem block_norm : (fun x => iblk m c 7 t (ix2 0 x)) = fun x => argN m c (ix2 0 x) := by
  funext l
  rw [block_of m c t 7 _ (V_main_arg7 m c), place7]

end

/-! ## The arrays after the run -/

variable (c : Dev nD)

theorem block3_eta (y : S1x2048x256.Idx) : ∃ (r : Fin 2048) (l : Fin 256), y = ix3 0 r l := by
  refine ⟨y 1, y 2, funext fun a => ?_⟩
  match a with
  | ⟨0, _⟩ => exact Subsingleton.elim (α := Fin 1) _ _
  | ⟨1, _⟩ => rfl
  | ⟨2, _⟩ => rfl

theorem block5_eta (y : S1x1x32x256x128.Idx) : ∃ (j : Fin 32) (r : Fin 256) (l : Fin 128), y = ix5 0 0 j r l := by
  refine ⟨y 2, y 3, y 4, funext fun a => ?_⟩
  match a with
  | ⟨0, _⟩ => exact Subsingleton.elim (α := Fin 1) _ _
  | ⟨1, _⟩ => exact Subsingleton.elim (α := Fin 1) _ _
  | ⟨2, _⟩ => rfl
  | ⟨3, _⟩ => rfl
  | ⟨4, _⟩ => rfl

theorem at_out (t : Fin cfg0.N) (r : Fin 2048) (l : Fin 256) : (outsAt0 m c t).1 (ix3 0 r l) = outAt (argQ m c) (argK m c) (argV m c) (argA m c) (argW m c) (argB m c) (seq t) (head t) r l := by
  unfold outsAt0 outAt
  dsimp only
  rw [out_value, block_q, block_k, block_v, block_gates]

theorem at_gated (t : Fin cfg0.N) (r : Fin 2048) (l : Fin 256) : (outsAt0 m c t).2.1 (ix3 0 r l) = gatedAt (argQ m c) (argK m c) (argV m c) (argG m c) (argA m c) (argW m c) (argB m c) (argN m c) (seq t) (head t) r l := by
  unfold outsAt0 gatedAt outAt
  dsimp only
  rw [gated_value, block_q, block_k, block_v, block_gates, block_g, block_norm]

theorem at_states (t : Fin cfg0.N) (j : Fin 32) (r : Fin 256) (l : Fin 128) : (outsAt0 m c t).2.2 (ix5 0 0 j r l) = stateAt (argK m c) (argV m c) (argA m c) (argW m c) (argB m c) (seq t) (head t) (j.val + 1) j.isLt r l := by
  unfold outsAt0 stateAt
  dsimp only
  rw [states_value, block_k, block_v, block_gates]

/-- The output. -/
def outs : Wide := heads (outAt (argQ m c) (argK m c) (argV m c) (argA m c) (argW m c) (argB m c))

/-- The gated output. -/
def gateds : Wide := heads (gatedAt (argQ m c) (argK m c) (argV m c) (argG m c) (argA m c) (argW m c) (argB m c) (argN m c))

theorem final_out : (dats m 0 c).arrAt 8 cfg0.N = outs m c := by
  refine (dats m 0 c).arrAt_eq_of_covers 8 _ (by decide +kernel) fun t hf y => ?_
  rw [after0_8]
  blk_simp
  obtain ⟨r, l, rfl⟩ := block3_eta y
  refine Eq.trans ?_ ((heads_apply _ (seq t) (head t) r l).symm.trans (congrArg _ (place8 t r l).symm))
  exact at_out m c t r l

theorem final_gated : (dats m 0 c).arrAt 9 cfg0.N = gateds m c := by
  refine (dats m 0 c).arrAt_eq_of_covers 9 _ (by decide +kernel) fun t hf y => ?_
  rw [after0_9]
  blk_simp
  obtain ⟨r, l, rfl⟩ := block3_eta y
  refine Eq.trans ?_ ((heads_apply _ (seq t) (head t) r l).symm.trans (congrArg _ (place9 t r l).symm))
  exact at_gated m c t r l

theorem final_states : (dats m 0 c).arrAt 10 cfg0.N = states (argK m c) (argV m c) (argA m c) (argW m c) (argB m c) := by
  refine (dats m 0 c).arrAt_eq_of_covers 10 _ (by decide +kernel) fun t hf y => ?_
  rw [after0_10]
  blk_simp
  obtain ⟨j, r, l, rfl⟩ := block5_eta y
  refine Eq.trans ?_ (congrArg _ (place10 t j r l).symm)
  exact at_states m c t j r l

end Cert.Proof.GlaFwd

end
-- ==== Proof.GlaFwdReference.lean ====
/- The call `gla_fwd`: the reference's arrays before its loop over the chunks, and through it. -/
module

public import proofs.«01_k».proof.Proof.GlaFwdSpec
public import proofs.«01_k».proof.Proof.Products
public import proofs.«01_k».proof.Proof.Gen.GlaFwdReferenceIdeal.Run
public import Idealize.ShloMosaic.Lib.StableHlo.RunRead
public import Idealize.ShloMosaic.Lib.Pointwise

@[expose] public section

set_option maxRecDepth 16384
set_option maxHeartbeats 1000000

noncomputable section

namespace Cert.Proof.GlaFwd.Reference

open Idealize.ShloMosaic Idealize.ShloMosaic.TcCoe Idealize.SL.Sem Idealize.ShloMosaic.StableHlo Cert.GlaFwdReferenceIdeal Cert.GlaFwdReferenceIdeal.Gen Cert.GlaFwdReferenceIdeal.Value

/-! ## The arrays before the loop -/

/-- The logits of the gates. -/
def logits (a : FVec Ideal S2x2048x16 .f32) (w : FVec Ideal S16x512 .f32) (b : FVec Ideal S1x512 .f32) : FVec Ideal S2x2048x512 .f32 :=
  addf (Host.dotGeneral dot_S2x2048x16_S16x512_S2x2048x512_2_0_01_1_n_n none a w)
    (broadcastInDim S2x2048x512 ![0, 1, 2] bcast_S1x1x512_S2x2048x512_0_1_2 (broadcastInDim S1x1x512 ![1, 2] bcast_S1x512_S1x1x512_1_2 b))

/-- Zeros in the logits' shape. -/
def zeros : FVec Ideal S2x2048x512 .f32 := broadcastInDim S2x2048x512 ![] bcast_S_S2x2048x512 (constant S_ .f32 0x00000000#32)

/-- The logarithm of the logistic function. -/
def logSigmoid (x : FVec Ideal S2x2048x512 .f32) : FVec Ideal S2x2048x512 .f32 :=
  Host.negf (select (cmpf .une (subf (Host.negf x) zeros) (subf (Host.negf x) zeros)) (addf (Host.negf x) zeros)
    (addf (maximumf (Host.negf x) zeros) (Host.log1p (Host.exp (Host.negf (Host.absf (subf (Host.negf x) zeros)))))))

/-- The logarithms of the gates, chunk by chunk. -/
def logs (x : FVec Ideal S2x2048x512 .f32) : FVec Ideal S2x32x64x4x128 .f32 :=
  shapeCast S2x32x64x4x128 (Host.divf (logSigmoid x) (broadcastInDim S2x2048x512 ![] bcast_S_S2x2048x512 (constant S_ .f32 0x41800000#32)))
    shapeCasts_S2x2048x512_S2x32x64x4x128

/-- Which rows of a chunk come no later than which. -/
def mask : (⟨S64x64, .i1⟩ : BufTy).Contents (Elt Ideal) :=
  cmpi .sle (broadcastInDim S64x64 ![0, 1] bcast_S1x64_S64x64_0_1 (broadcastInDim S1x64 ![1] bcast_S64_S1x64_1 (iotaInDim S64 32 0)))
    (broadcastInDim S64x64 ![0, 1] bcast_S64x1_S64x64_0_1 (broadcastInDim S64x1 ![0] bcast_S64_S64x1_0 (iotaInDim S64 32 0)))

/-- The running sums of the logarithms. -/
def running (l : FVec Ideal S2x32x64x4x128 .f32) : FVec Ideal S2x32x64x4x128 .f32 :=
  Host.reduceAdd (select (broadcastInDim S2x32x64x64x4x128 ![0, 1, 2, 3, 4, 5] bcast_S1x1x64x64x1x1_S2x32x64x64x4x128_0_1_2_3_4_5
      (broadcastInDim S1x1x64x64x1x1 ![2, 3] bcast_S64x64_S1x1x64x64x1x1_2_3 mask))
    (broadcastInDim S2x32x64x64x4x128 ![0, 1, 2, 3, 4, 5] bcast_S2x32x1x64x4x128_S2x32x64x64x4x128_0_1_2_3_4_5
      (broadcastInDim S2x32x1x64x4x128 ![0, 1, 3, 4, 5] bcast_S2x32x64x4x128_S2x32x1x64x4x128_0_1_3_4_5 l))
    (broadcastInDim S2x32x64x64x4x128 ![] bcast_S_S2x32x64x64x4x128 (id (constant S_ .f32 0x00000000#32))))
    (constant S_ .f32 0x00000000#32) reducesTo_S2x32x64x64x4x128_S2x32x64x4x128_d3 h_S_

/-- The last of a chunk's running sums. -/
def lasts (l : FVec Ideal S2x32x64x4x128 .f32) : FVec Ideal S2x32x4x128 .f32 :=
  shapeCast S2x32x4x128 (extractStridedSlice S2x32x1x4x128 ![0, 0, 63, 0, 0] (running l) slices_S2x32x64x4x128_S2x32x1x4x128_0_0_63_0_0)
    shapeCasts_S2x32x1x4x128_S2x32x4x128

/-- How much a chunk decays the state. -/
def decays (l : FVec Ideal S2x32x64x4x128 .f32) : FVec Ideal S32x2x4x128 .f32 :=
  transpose S32x2x4x128 [1, 0, 2, 3] (Host.exp (lasts l)) transposes_S2x32x4x128_S32x2x4x128_1_0_2_3

/-- What a chunk adds to the state. -/
def adds (k : FVec Ideal S2x2048x512 .f32) (v : FVec Ideal S2x2048x1024 .f32) (l : FVec Ideal S2x32x64x4x128 .f32) : FVec Ideal S32x2x4x128x256 .f32 :=
  Host.dotGeneral dot_S2x32x64x4x128_S2x32x64x4x256_S32x2x4x128x256_2_2_4_4_103_103 none
    (mulf (shapeCast S2x32x64x4x128 k shapeCasts_S2x2048x512_S2x32x64x4x128)
      (Host.exp (subf (broadcastInDim S2x32x64x4x128 ![0, 1, 2, 3, 4] bcast_S2x32x1x4x128_S2x32x64x4x128_0_1_2_3_4
        (broadcastInDim S2x32x1x4x128 ![0, 1, 3, 4] bcast_S2x32x4x128_S2x32x1x4x128_0_1_3_4 (lasts l))) (running l))))
    (shapeCast S2x32x64x4x256 v shapeCasts_S2x2048x1024_S2x32x64x4x256)

/-- The scaled queries, chunk by chunk. -/
def queries (q : FVec Ideal S2x2048x512 .f32) : FVec Ideal S32x2x64x4x128 .f32 :=
  transpose S32x2x64x4x128 [1, 0, 2, 3, 4] (mulf (shapeCast S2x32x64x4x128 q shapeCasts_S2x2048x512_S2x32x64x4x128)
    (broadcastInDim S2x32x64x4x128 ![] bcast_S_S2x32x64x4x128 (constant S_ .f32 0x3DB504F3#32))) transposes_S2x32x64x4x128_S32x2x64x4x128_1_0_2_3_4

section

variable (m : (ℓ : Loc nD τ sig) → Buf (Elt Ideal) ℓ) (c : Dev nD)

/-- The arguments. -/
abbrev argQ : Narrow := m ((c : Thread nD τ).loc main_arg0)
abbrev argK : Narrow := m ((c : Thread nD τ).loc main_arg1)
abbrev argV : Wide := m ((c : Thread nD τ).loc main_arg2)
abbrev argG : Wide := m ((c : Thread nD τ).loc main_arg3)
abbrev argA : Low := m ((c : Thread nD τ).loc main_arg4)
abbrev argW : Up := m ((c : Thread nD τ).loc main_arg5)
abbrev argB : Bias := m ((c : Thread nD τ).loc main_arg6)
abbrev argN : Norm := m ((c : Thread nD τ).loc main_arg7)

theorem entry_decays : entryContents preI m c (Proc.devRef .tc main_v37_0) = decays (logs (logits (argA m c) (argW m c) (argB m c))) := by
  simp only [entryContents, afterL_cons, afterL_nil]
  after_reads_simp
  simp only [StableHlo.TRef.toBuf, StableHlo.TRef.ofBuf, cast_eq]
  rfl

theorem entry_adds : entryContents preI m c (Proc.devRef .tc main_v37_1) = adds (argK m c) (argV m c) (logs (logits (argA m c) (argW m c) (argB m c))) := by
  simp only [entryContents, afterL_cons, afterL_nil]
  after_reads_simp
  simp only [StableHlo.TRef.toBuf, StableHlo.TRef.ofBuf, cast_eq]
  rfl

theorem entry_queries : entryContents preI m c (Proc.devRef .tc main_v37_2) = queries (argQ m c) := by
  simp only [entryContents, afterL_cons, afterL_nil]
  after_reads_simp
  rfl

theorem entry_state (b : Fin 2) (h : Fin 4) (l : Fin 128) (i : Fin 256) :
    entryContents preI m c (Proc.devRef .tc main_v37_4) (ix4 b h l i : S2x4x128x256.Idx) = (0 : EReal) := by
  simp only [entryContents, afterL_cons, afterL_nil]
  after_reads_simp
  exact Gates.zero

end

/-! ## Their entries -/

theorem logits_apply (a : FVec Ideal S2x2048x16 .f32) (w : FVec Ideal S16x512 .f32) (bias : FVec Ideal S1x512 .f32) (b : Fin 2) (r : Fin 2048) (l : Fin 512) :
    logits a w bias (ix3 b r l) = (∑ y : Fin 16, a (ix3 b r y) * w (ix2 y l) + bias (ix2 0 l) : EReal) := by
  unfold logits
  pointwise

theorem logSigmoid_apply (x : FVec Ideal S2x2048x512 .f32) (b : Fin 2) (r : Fin 2048) (l : Fin 512) :
    logSigmoid x (ix3 b r l) = (-(max (-(x (ix3 b r l) : EReal)) 0
      + Ideal.log1p (Ideal.exp (-(max (-(x (ix3 b r l) : EReal)) (-(-(x (ix3 b r l) : EReal))))))) : EReal) := by
  unfold logSigmoid zeros
  pointwise
  rw [if_neg (by simp)]
  rfl

/-- The logarithm of a gate at row `j` of chunk `n`. -/
theorem logs_apply (x : FVec Ideal S2x2048x512 .f32) (b : Fin 2) (n : Fin 32) (j : Fin 64) (h : Fin 4) (l : Fin 128) :
    logs x (ix5 b n j h l) = logGate (x (ix3 b (place n.val n.isLt j) ⟨128 * h.val + l.val, by omega⟩)) := by
  unfold logs
  pointwise
  have e := logGate_eq (x (ix3 b (place n.val n.isLt j) ⟨128 * h.val + l.val, by omega⟩))
  rw [sub_zero] at e
  refine Eq.trans ?_ e
  refine congrArg (fun z => Ideal.div z (Ideal.ofBits .f32 0x41800000#32)) ?_
  refine Eq.trans (congrArg (logSigmoid x) ?_) (logSigmoid_apply x b (place n.val n.isLt j) ⟨128 * h.val + l.val, by omega⟩)
  exact congrArg₂ (ix3 b) (Fin.ext (by show n.val * 64 + j.val = 64 * n.val + j.val; omega)) (Fin.ext (by show h.val * 128 + l.val = 128 * h.val + l.val; omega))

theorem mask_apply (i j : Fin 64) : mask (ix2 i j) = if j.val ≤ i.val then 1#1 else 0#1 := by
  unfold mask
  pointwise
  exact word_le i.isLt j.isLt

/-- A host sum over the fourth axis of six. -/
theorem sum_fourth {A B C D E G : ℕ} (h : (⟨6, ![A, B, C, D, E, G]⟩ : Shape).ReducesTo [3] ⟨5, ![A, B, C, E, G]⟩)
    (v : (⟨6, ![A, B, C, D, E, G]⟩ : Shape).Idx → EReal) (init : EReal) (a : Fin A) (b : Fin B) (i : Fin C) (e : Fin E) (g : Fin G) :
    Ideal.hostReduceAdd h v init (ix5 a b i e g) = init + ∑ x : Fin D, v (ix6 a b i x e g) := by
  refine congrArg (init + ·) ?_
  refine Finset.sum_filter_eq_sum_of_fiber _ (fun x : Fin D => ix6 a b i x e g) (fun p q w => congrFun w 3) (fun y => ?_) v
  constructor
  · intro w
    refine ⟨y 3, ?_⟩
    funext z
    apply Fin.ext
    match z with
    | ⟨0, _⟩ => exact (congrArg Fin.val (congrFun w 0)).symm
    | ⟨1, _⟩ => exact (congrArg Fin.val (congrFun w 1)).symm
    | ⟨2, _⟩ => exact (congrArg Fin.val (congrFun w 2)).symm
    | ⟨3, _⟩ => rfl
    | ⟨4, _⟩ => exact (congrArg Fin.val (congrFun w 3)).symm
    | ⟨5, _⟩ => exact (congrArg Fin.val (congrFun w 4)).symm
  · rintro ⟨p, rfl⟩
    funext z
    apply Fin.ext
    match z with
    | ⟨0, _⟩ => rfl
    | ⟨1, _⟩ => rfl
    | ⟨2, _⟩ => rfl
    | ⟨3, _⟩ => rfl
    | ⟨4, _⟩ => rfl

theorem running_apply (y : FVec Ideal S2x32x64x4x128 .f32) (b : Fin 2) (n : Fin 32) (j : Fin 64) (h : Fin 4) (l : Fin 128) :
    running y (ix5 b n j h l) = (∑ x : Fin 64, if x.val ≤ j.val then (y (ix5 b n x h l) : EReal) else 0 : EReal) := by
  unfold running
  refine (sum_fourth reducesTo_S2x32x64x64x4x128_S2x32x64x4x128_d3 _ _ b n j h l).trans ?_
  have none : (constant S_ .f32 0x00000000#32 : FVec Ideal S_ .f32) (Shape.Idx.first h_S_) = 0 := Gates.zero
  rw [none, zero_add]
  refine Finset.sum_congr rfl fun x _ => ?_
  pointwise
  rw [mask_apply]
  by_cases e : x.val ≤ j.val
  · rw [if_pos e, if_pos e]
    rfl
  · rw [if_neg e, if_neg e]
    exact Gates.zero

theorem lasts_apply (y : FVec Ideal S2x32x64x4x128 .f32) (b : Fin 2) (n : Fin 32) (h : Fin 4) (l : Fin 128) :
    lasts y (ix4 b n h l) = (running y (ix5 b n ⟨63, by decide⟩ h l) : EReal) := by
  unfold lasts
  pointwise

theorem decays_apply (y : FVec Ideal S2x32x64x4x128 .f32) (b : Fin 2) (n : Fin 32) (h : Fin 4) (l : Fin 128) :
    decays y (ix4 n b h l) = Ideal.exp (lasts y (ix4 b n h l)) := by
  unfold decays
  pointwise

theorem adds_apply (k : FVec Ideal S2x2048x512 .f32) (v : FVec Ideal S2x2048x1024 .f32) (y : FVec Ideal S2x32x64x4x128 .f32)
    (b : Fin 2) (n : Fin 32) (h : Fin 4) (l : Fin 128) (i : Fin 256) : adds k v y (ix5 n b h l i)
      = (∑ x : Fin 64, wide v b h (place n.val n.isLt x) i
          * (narrow k b h (place n.val n.isLt x) l * Ideal.exp (lasts y (ix4 b n h l) - running y (ix5 b n x h l))) : EReal) := by
  unfold adds
  pointwise
  refine Finset.sum_congr rfl fun x _ => (mul_comm _ _).trans ?_
  refine congrArg₂ (fun s t : EReal => s * t) (congrArg v ?_) (congrArg (fun s : EReal => s * _) (congrArg k ?_))
  · exact congrArg₂ (ix3 b) (Fin.ext (by show n.val * 64 + x.val = 64 * n.val + x.val; omega)) (Fin.ext (by show h.val * 256 + i.val = 256 * h.val + i.val; omega))
  · exact congrArg₂ (ix3 b) (Fin.ext (by show n.val * 64 + x.val = 64 * n.val + x.val; omega)) (Fin.ext (by show h.val * 128 + l.val = 128 * h.val + l.val; omega))

theorem queries_apply (q : FVec Ideal S2x2048x512 .f32) (b : Fin 2) (n : Fin 32) (j : Fin 64) (h : Fin 4) (l : Fin 128) :
    queries q (ix5 n b j h l) = (narrow q b h (place n.val n.isLt j) l * scale : EReal) := by
  unfold queries
  pointwise
  refine congrArg (fun s : EReal => s * scale) (congrArg q ?_)
  exact congrArg₂ (ix3 b) (Fin.ext (by show n.val * 64 + j.val = 64 * n.val + j.val; omega)) (Fin.ext (by show h.val * 128 + l.val = 128 * h.val + l.val; omega))

/-! ## In terms of the heads -/

section

variable (a : Low) (w : Up) (bias : Bias) (b : Fin 2) (n : Fin 32) (h : Fin 4) (l : Fin 128)

/-- The running sums are those of head `h`'s gates. -/
theorem running_logs (j : Fin 64) : running (logs (logits a w bias)) (ix5 b n j h l) = upTo (gates a w bias b h) n.val n.isLt j l := by
  refine (running_apply _ b n j h l).trans (Finset.sum_congr rfl fun x _ => ?_)
  refine congrArg (fun z : EReal => if x.val ≤ j.val then z else 0) ?_
  exact (logs_apply _ b n x h l).trans (congrArg logGate (logits_apply a w bias b _ _))

theorem lasts_logs : lasts (logs (logits a w bias)) (ix4 b n h l) = whole (gates a w bias b h) n.val n.isLt l :=
  (lasts_apply _ b n h l).trans ((running_logs a w bias b n h l _).trans (upTo_last _ _ _ _))

theorem decays_logs : decays (logs (logits a w bias)) (ix4 n b h l) = Ideal.exp (whole (gates a w bias b h) n.val n.isLt l) :=
  (decays_apply _ b n h l).trans (congrArg Ideal.exp (lasts_logs a w bias b n h l))

theorem adds_logs (k : Narrow) (v : Wide) (i : Fin 256) : adds k v (logs (logits a w bias)) (ix5 n b h l i)
    = (∑ x : Fin 64, wide v b h (place n.val n.isLt x) i * (narrow k b h (place n.val n.isLt x) l
        * Ideal.exp (whole (gates a w bias b h) n.val n.isLt l - upTo (gates a w bias b h) n.val n.isLt x l)) : EReal) := by
  refine (adds_apply k v _ b n h l i).trans (Finset.sum_congr rfl fun x _ => ?_)
  rw [lasts_logs, running_logs]

end

end Cert.Proof.GlaFwd.Reference

end
-- ==== Proof.GlaFwdLoop.lean ====
/- The call `gla_fwd`: the reference's loop over the chunks, by induction on the number of chunks done. -/
module

public import proofs.«01_k».proof.Proof.GlaFwdReference
public import proofs.«01_k».proof.Proof.GlaFwdRun

@[expose] public section

set_option maxRecDepth 16384
set_option maxHeartbeats 1000000

noncomputable section

namespace Cert.Proof.GlaFwd.Reference

open Idealize.ShloMosaic Idealize.ShloMosaic.TcCoe Idealize.SL.Sem Idealize.ShloMosaic.StableHlo Cert.GlaFwdReferenceIdeal Cert.GlaFwdReferenceIdeal.Gen Cert.GlaFwdReferenceIdeal.Value

/-! ## A chunk of an array whose first axis counts the chunks -/

section

variable {A B C D E : ℕ} {start : Fin 5 → Int} {t : Fin A} (h0 : start 0 = (t.val : Int)) (h1 : start 1 = 0) (h2 : start 2 = 0) (h3 : start 3 = 0) (h4 : start 4 = 0)
  (h : (⟨5, ![A, B, C, D, E]⟩ : Shape).Slices (fun _ => 0) ⟨5, ![1, B, C, D, E]⟩)

include h0 h1 h2 h3 h4

theorem clamped (a : Fin 5) : Host.clampedStart ⟨5, ![A, B, C, D, E]⟩ ⟨5, ![1, B, C, D, E]⟩ h.1 start a = (![t.val, 0, 0, 0, 0] : Fin 5 → ℕ) a := by
  have := t.isLt
  match a with
  | ⟨0, _⟩ =>
    show (min (max (start 0) 0) ((A - 1 : ℕ) : Int)).toNat = t.val
    rw [h0]
    omega
  | ⟨1, _⟩ =>
    show (min (max (start 1) 0) ((B - B : ℕ) : Int)).toNat = 0
    rw [h1]
    omega
  | ⟨2, _⟩ =>
    show (min (max (start 2) 0) ((C - C : ℕ) : Int)).toNat = 0
    rw [h2]
    omega
  | ⟨3, _⟩ =>
    show (min (max (start 3) 0) ((D - D : ℕ) : Int)).toNat = 0
    rw [h3]
    omega
  | ⟨4, _⟩ =>
    show (min (max (start 4) 0) ((E - E : ℕ) : Int)).toNat = 0
    rw [h4]
    omega

/-- Reading it. -/
theorem chunk_apply (x : (⟨5, ![A, B, C, D, E]⟩ : Shape).Idx → EReal) (b : Fin B) (c : Fin C) (d : Fin D) (e : Fin E) :
    Host.dynamicSlice ⟨5, ![1, B, C, D, E]⟩ x start h (ix5 0 b c d e) = x (ix5 t b c d e) := by
  have k := clamped h0 h1 h2 h3 h4 h
  refine congrArg x ?_
  funext a
  apply Fin.ext
  match a with
  | ⟨0, _⟩ => exact congrArg (· + 0) (k 0)
  | ⟨1, _⟩ => exact (congrArg (· + b.val) (k 1)).trans (Nat.zero_add _)
  | ⟨2, _⟩ => exact (congrArg (· + c.val) (k 2)).trans (Nat.zero_add _)
  | ⟨3, _⟩ => exact (congrArg (· + d.val) (k 3)).trans (Nat.zero_add _)
  | ⟨4, _⟩ => exact (congrArg (· + e.val) (k 4)).trans (Nat.zero_add _)

/-- Writing it: the chunk itself. -/
theorem chunk_written (x : (⟨5, ![A, B, C, D, E]⟩ : Shape).Idx → EReal) (y : (⟨5, ![1, B, C, D, E]⟩ : Shape).Idx → EReal)
    (b : Fin B) (c : Fin C) (d : Fin D) (e : Fin E) : Host.dynamicUpdateSlice x y start h (ix5 t b c d e) = y (ix5 0 b c d e) := by
  have k := clamped h0 h1 h2 h3 h4 h
  have inside : ∀ a : Fin 5, Host.clampedStart ⟨5, ![A, B, C, D, E]⟩ ⟨5, ![1, B, C, D, E]⟩ h.1 start a ≤ (ix5 t b c d e a).val
      ∧ (ix5 t b c d e a).val < Host.clampedStart ⟨5, ![A, B, C, D, E]⟩ ⟨5, ![1, B, C, D, E]⟩ h.1 start a + (![1, B, C, D, E] : Fin 5 → ℕ) a := fun a => by
    rw [k a]
    match a with
    | ⟨0, _⟩ => exact ⟨le_rfl, Nat.lt_succ_self _⟩
    | ⟨1, _⟩ => exact ⟨Nat.zero_le _, by show b.val < 0 + B; omega⟩
    | ⟨2, _⟩ => exact ⟨Nat.zero_le _, by show c.val < 0 + C; omega⟩
    | ⟨3, _⟩ => exact ⟨Nat.zero_le _, by show d.val < 0 + D; omega⟩
    | ⟨4, _⟩ => exact ⟨Nat.zero_le _, by show e.val < 0 + E; omega⟩
  refine (dif_pos inside).trans (congrArg y ?_)
  · funext a
    apply Fin.ext
    match a with
    | ⟨0, _⟩ => exact (congrArg (t.val - ·) (k 0)).trans (Nat.sub_self _)
    | ⟨1, _⟩ => exact congrArg (b.val - ·) (k 1)
    | ⟨2, _⟩ => exact congrArg (c.val - ·) (k 2)
    | ⟨3, _⟩ => exact congrArg (d.val - ·) (k 3)
    | ⟨4, _⟩ => exact congrArg (e.val - ·) (k 4)

/-- Writing it: another chunk. -/
theorem chunk_kept (x : (⟨5, ![A, B, C, D, E]⟩ : Shape).Idx → EReal) (y : (⟨5, ![1, B, C, D, E]⟩ : Shape).Idx → EReal)
    (s : Fin A) (hs : s.val < t.val) (b : Fin B) (c : Fin C) (d : Fin D) (e : Fin E) :
    Host.dynamicUpdateSlice x y start h (ix5 s b c d e) = x (ix5 s b c d e) := by
  have k := clamped h0 h1 h2 h3 h4 h
  refine dif_neg fun w => ?_
  have w0 : Host.clampedStart ⟨5, ![A, B, C, D, E]⟩ ⟨5, ![1, B, C, D, E]⟩ h.1 start 0 ≤ s.val := (w 0).1
  rw [k 0] at w0
  exact Nat.not_le_of_lt hs w0

end

/-- Reading a chunk of an array of four axes. -/
theorem chunk_apply₄ {A B C D : ℕ} {start : Fin 4 → Int} {t : Fin A} (h0 : start 0 = (t.val : Int)) (h1 : start 1 = 0) (h2 : start 2 = 0) (h3 : start 3 = 0)
    (h : (⟨4, ![A, B, C, D]⟩ : Shape).Slices (fun _ => 0) ⟨4, ![1, B, C, D]⟩) (x : (⟨4, ![A, B, C, D]⟩ : Shape).Idx → EReal) (b : Fin B) (c : Fin C) (d : Fin D) :
    Host.dynamicSlice ⟨4, ![1, B, C, D]⟩ x start h (ix4 0 b c d) = x (ix4 t b c d) := by
  have := t.isLt
  refine congrArg x ?_
  funext a
  apply Fin.ext
  match a with
  | ⟨0, _⟩ =>
    show (min (max (start 0) 0) ((A - 1 : ℕ) : Int)).toNat + 0 = t.val
    rw [h0]
    omega
  | ⟨1, _⟩ =>
    show (min (max (start 1) 0) ((B - B : ℕ) : Int)).toNat + b.val = b.val
    rw [h1]
    omega
  | ⟨2, _⟩ =>
    show (min (max (start 2) 0) ((C - C : ℕ) : Int)).toNat + c.val = c.val
    rw [h2]
    omega
  | ⟨3, _⟩ =>
    show (min (max (start 3) 0) ((D - D : ℕ) : Int)).toNat + d.val = d.val
    rw [h3]
    omega

/-! ## One trip -/

/-- The next state, from a chunk's decay and what the chunk adds. -/
theorem next_apply (d : FVec Ideal S1x2x4x128 .f32) (s : FVec Ideal S2x4x128x256 .f32) (u : FVec Ideal S1x2x4x128x256 .f32) (b : Fin 2) (h : Fin 4) (l : Fin 128) (i : Fin 256) :
    addf (mulf (broadcastInDim S2x4x128x256 ![0, 1, 2, 3] bcast_S2x4x128x1_S2x4x128x256_0_1_2_3
        (broadcastInDim S2x4x128x1 ![0, 1, 2] bcast_S2x4x128_S2x4x128x1_0_1_2 (shapeCast S2x4x128 d shapeCasts_S1x2x4x128_S2x4x128))) s)
      (shapeCast S2x4x128x256 u shapeCasts_S1x2x4x128x256_S2x4x128x256) (ix4 b h l i)
      = (d (ix4 0 b h l) * s (ix4 b h l i) + u (ix5 0 b h l i) : EReal) := by
  pointwise

/-- A chunk's rows of the output, from the state and the chunk's queries. -/
theorem rows_apply (s : FVec Ideal S2x4x128x256 .f32) (q : FVec Ideal S1x2x64x4x128 .f32) (b : Fin 2) (j : Fin 64) (h : Fin 4) (i : Fin 256) :
    broadcastInDim S1x2x64x4x256 ![1, 2, 3, 4] bcast_S2x64x4x256_S1x2x64x4x256_1_2_3_4 (transpose S2x64x4x256 [0, 3, 1, 2]
      (Host.dotGeneral dot_S2x4x128x256_S2x64x4x128_S2x4x256x64_2_3_3_1_01_02 none s (shapeCast S2x64x4x128 q shapeCasts_S1x2x64x4x128_S2x64x4x128))
      transposes_S2x4x256x64_S2x64x4x256_0_3_1_2) (ix5 0 b j h i) = (∑ l : Fin 128, s (ix4 b h l i) * q (ix5 0 b j h l) : EReal) := by
  pointwise

theorem kept_state (s : FVec Ideal S2x4x128x256 .f32) (b : Fin 2) (h : Fin 4) (l : Fin 128) (i : Fin 256) :
    broadcastInDim S1x2x4x128x256 ![1, 2, 3, 4] bcast_S2x4x128x256_S1x2x4x128x256_1_2_3_4 s (ix5 0 b h l i) = s (ix4 b h l i) := by
  pointwise

theorem word_int (n : Fin 32) : (BitVec.ofNat 32 n.val).toInt = (n.val : Int) := by
  rw [BitVec.toInt_eq_toNat_cond, BitVec.toNat_ofNat, Nat.mod_eq_of_lt (by omega), if_pos (by omega)]

/-- The loop's arrays. -/
abbrev decayOf (V : Valuation τ sig (Elt Ideal)) : FVec Ideal S32x2x4x128 .f32 := V (Proc.devRef .tc main_v37_0)
abbrev addOf (V : Valuation τ sig (Elt Ideal)) : FVec Ideal S32x2x4x128x256 .f32 := V (Proc.devRef .tc main_v37_1)
abbrev queryOf (V : Valuation τ sig (Elt Ideal)) : FVec Ideal S32x2x64x4x128 .f32 := V (Proc.devRef .tc main_v37_2)
abbrev stateOf (V : Valuation τ sig (Elt Ideal)) : FVec Ideal S2x4x128x256 .f32 := V (Proc.devRef .tc main_v37_4)
abbrev keptOf (V : Valuation τ sig (Elt Ideal)) : FVec Ideal S32x2x4x128x256 .f32 := V (Proc.devRef .tc main_v37_5)
abbrev rowsOf (V : Valuation τ sig (Elt Ideal)) : FVec Ideal S32x2x64x4x256 .f32 := V (Proc.devRef .tc main_v37_6)
abbrev nextOf (V : Valuation τ sig (Elt Ideal)) : FVec Ideal S2x4x128x256 .f32 := res_main_while0b_v66 V

/-- Where a chunk begins, of five axes and of four. -/
def starts (x : (⟨S_, .i32⟩ : BufTy).Contents (Elt Ideal)) : Fin 5 → Int := fun k =>
  (((![x, constantI S_ 32 0#32, constantI S_ 32 0#32, constantI S_ 32 0#32, constantI S_ 32 0#32] : Fin 5 → (⟨S_, .i32⟩ : BufTy).Contents (Elt Ideal))) k (Shape.Idx.first h_S_)).toInt

def starts₄ (x : (⟨S_, .i32⟩ : BufTy).Contents (Elt Ideal)) : Fin 4 → Int := fun k =>
  (((![x, constantI S_ 32 0#32, constantI S_ 32 0#32, constantI S_ 32 0#32] : Fin 4 → (⟨S_, .i32⟩ : BufTy).Contents (Elt Ideal))) k (Shape.Idx.first h_S_)).toInt

section

variable (V : Valuation τ sig (Elt Ideal)) (n : Fin 32) (hw : V (Proc.devRef .tc main_v37_3) = fun _ => BitVec.ofNat 32 n.val)

include hw

theorem first_start : starts (V (Proc.devRef .tc main_v37_3)) 0 = (n.val : Int) :=
  (congrArg BitVec.toInt (congrFun hw (Shape.Idx.first h_S_))).trans (word_int n)

theorem trip_state (b : Fin 2) (h : Fin 4) (l : Fin 128) (i : Fin 256) :
    nextOf V (ix4 b h l i) = (decayOf V (ix4 n b h l) * stateOf V (ix4 b h l i) + addOf V (ix5 n b h l i) : EReal) := by
  refine (next_apply _ _ _ b h l i).trans ?_
  exact congrArg₂ (fun s t : EReal => s * stateOf V (ix4 b h l i) + t)
    (chunk_apply₄ (start := starts₄ (V (Proc.devRef .tc main_v37_3))) (t := n) (first_start V n hw) rfl rfl rfl sliceFits_S32x2x4x128_S1x2x4x128 (decayOf V) b h l)
    (chunk_apply (start := starts (V (Proc.devRef .tc main_v37_3))) (t := n) (first_start V n hw) rfl rfl rfl rfl sliceFits_S32x2x4x128x256_S1x2x4x128x256 (addOf V) b h l i)

theorem trip_states (b : Fin 2) (h : Fin 4) (l : Fin 128) (i : Fin 256) :
    (step_main_v37_5 V : FVec Ideal S32x2x4x128x256 .f32) (ix5 n b h l i) = nextOf V (ix4 b h l i) :=
  (chunk_written (start := starts (V (Proc.devRef .tc main_v37_3))) (t := n) (first_start V n hw) rfl rfl rfl rfl updateFits_S32x2x4x128x256_S1x2x4x128x256
    (keptOf V) _ b h l i).trans (kept_state (nextOf V) b h l i)

theorem trip_states_kept (t : Fin 32) (ht : t.val < n.val) (b : Fin 2) (h : Fin 4) (l : Fin 128) (i : Fin 256) :
    (step_main_v37_5 V : FVec Ideal S32x2x4x128x256 .f32) (ix5 t b h l i) = keptOf V (ix5 t b h l i) :=
  chunk_kept (start := starts (V (Proc.devRef .tc main_v37_3))) (t := n) (first_start V n hw) rfl rfl rfl rfl updateFits_S32x2x4x128x256_S1x2x4x128x256
    (keptOf V) _ t ht b h l i

theorem trip_rows (b : Fin 2) (j : Fin 64) (h : Fin 4) (i : Fin 256) : (step_main_v37_6 V : FVec Ideal S32x2x64x4x256 .f32) (ix5 n b j h i)
    = (∑ l : Fin 128, (nextOf V (ix4 b h l i) : EReal) * queryOf V (ix5 n b j h l) : EReal) := by
  refine (chunk_written (start := starts (V (Proc.devRef .tc main_v37_3))) (t := n) (first_start V n hw) rfl rfl rfl rfl updateFits_S32x2x64x4x256_S1x2x64x4x256
    (rowsOf V) _ b j h i).trans ((rows_apply (nextOf V) _ b j h i).trans ?_)
  exact Finset.sum_congr rfl fun l _ => congrArg (fun z : EReal => (nextOf V (ix4 b h l i) : EReal) * z)
    (chunk_apply (start := starts (V (Proc.devRef .tc main_v37_3))) (t := n) (first_start V n hw) rfl rfl rfl rfl sliceFits_S32x2x64x4x128_S1x2x64x4x128 (queryOf V) b j h l)

theorem trip_rows_kept (t : Fin 32) (ht : t.val < n.val) (b : Fin 2) (j : Fin 64) (h : Fin 4) (i : Fin 256) :
    (step_main_v37_6 V : FVec Ideal S32x2x64x4x256 .f32) (ix5 t b j h i) = rowsOf V (ix5 t b j h i) :=
  chunk_kept (start := starts (V (Proc.devRef .tc main_v37_3))) (t := n) (first_start V n hw) rfl rfl rfl rfl updateFits_S32x2x64x4x256_S1x2x64x4x256
    (rowsOf V) _ t ht b j h i

end

/-! ## All trips -/

/-- What the loop's arrays hold once `n` chunks are done. -/
structure Done (q k : Narrow) (v : Wide) (a : Low) (w : Up) (bias : Bias) (n : ℕ) (hn : n ≤ 32) (V : Valuation τ sig (Elt Ideal)) : Prop where
  decay : decayOf V = decays (logs (logits a w bias))
  add : addOf V = adds k v (logs (logits a w bias))
  query : queryOf V = queries q
  count : V (Proc.devRef .tc main_v37_3) = fun _ => BitVec.ofNat 32 n
  state : ∀ (b : Fin 2) (h : Fin 4) (l : Fin 128) (i : Fin 256), stateOf V (ix4 b h l i) = (stateAt k v a w bias b h n hn i l : EReal)
  kept : ∀ (t : Fin 32), t.val < n → ∀ (b : Fin 2) (h : Fin 4) (l : Fin 128) (i : Fin 256),
    keptOf V (ix5 t b h l i) = (stateAt k v a w bias b h (t.val + 1) t.isLt i l : EReal)
  rows : ∀ (t : Fin 32), t.val < n → ∀ (b : Fin 2) (j : Fin 64) (h : Fin 4) (i : Fin 256),
    rowsOf V (ix5 t b j h i) = (outAt q k v a w bias b h (place t.val t.isLt j) i : EReal)

theorem done_step {q k : Narrow} {v : Wide} {a : Low} {w : Up} {bias : Bias} {n : ℕ} (hn : n < 32) {V : Valuation τ sig (Elt Ideal)}
    (d : Done q k v a w bias n (Nat.le_of_lt hn) V) : Done q k v a w bias (n + 1) hn (STEP V) := by
  have hw : V (Proc.devRef .tc main_v37_3) = fun _ => BitVec.ofNat 32 (⟨n, hn⟩ : Fin 32).val := d.count
  have hs : ∀ (b : Fin 2) (h : Fin 4) (l : Fin 128) (i : Fin 256),
      nextOf V (ix4 b h l i) = (stateAt k v a w bias b h (n + 1) hn i l : EReal) := fun b h l i => by
    refine (trip_state V ⟨n, hn⟩ hw b h l i).trans ?_
    rw [d.decay, d.add, d.state]
    refine congrArg₂ (fun s t : EReal => s + t) ((mul_comm _ _).trans (congrArg (fun z : EReal => stateAt k v a w bias b h n _ i l * z) ?_)) ?_
    · exact decays_logs a w bias b ⟨n, hn⟩ h l
    · exact adds_logs a w bias b ⟨n, hn⟩ h l k v i
  refine ⟨(STEP_main_v37_0 V).trans d.decay, (STEP_main_v37_1 V).trans d.add, (STEP_main_v37_2 V).trans d.query, ?_, fun b h l i => ?_, fun t ht b h l i => ?_, fun t ht b j h i => ?_⟩
  · refine (STEP_main_v37_3 V).trans ?_
    unfold step_main_v37_3
    rw [d.count]
    funext i
    show BitVec.ofNat 32 n + 1#32 = BitVec.ofNat 32 (n + 1)
    exact (BitVec.ofNat_add n 1).symm
  · exact (congrFun (STEP_main_v37_4 V) _).trans (hs b h l i)
  · refine (congrFun (STEP_main_v37_5 V) _).trans ?_
    rcases Nat.lt_succ_iff_lt_or_eq.mp ht with e | e
    · exact (trip_states_kept V ⟨n, hn⟩ hw t e b h l i).trans (d.kept t e b h l i)
    · obtain rfl : t = ⟨n, hn⟩ := Fin.ext e
      exact (trip_states V ⟨n, hn⟩ hw b h l i).trans (hs b h l i)
  · refine (congrFun (STEP_main_v37_6 V) _).trans ?_
    rcases Nat.lt_succ_iff_lt_or_eq.mp ht with e | e
    · exact (trip_rows_kept V ⟨n, hn⟩ hw t e b j h i).trans (d.rows t e b j h i)
    · obtain rfl : t = ⟨n, hn⟩ := Fin.ext e
      refine (trip_rows V ⟨n, hn⟩ hw b j h i).trans (Eq.trans ?_ (outRow_place _ _ _ _ n hn j i).symm)
      show (∑ l : Fin 128, (nextOf V (ix4 b h l i) : EReal) * queryOf V (ix5 ⟨n, hn⟩ b j h l) : EReal) = _
      refine Finset.sum_congr rfl fun l _ => ?_
      rw [hs, d.query]
      exact (mul_comm _ _).trans (congrArg (fun z : EReal => z * stateAt k v a w bias b h (n + 1) hn i l) (queries_apply q b ⟨n, hn⟩ j h l))

section

variable (m : (ℓ : Loc nD τ sig) → Buf (Elt Ideal) ℓ) (c : Dev nD)

theorem done_entry : Done (argQ m c) (argK m c) (argV m c) (argA m c) (argW m c) (argB m c) 0 (Nat.zero_le _) (entryContents preI m c) :=
  ⟨entry_decays m c, entry_adds m c, entry_queries m c, ctr_entry m c, fun b h l i => entry_state m c b h l i,
    fun _ ht => absurd ht (Nat.not_lt_zero _), fun _ ht => absurd ht (Nat.not_lt_zero _)⟩

theorem done_after (n : ℕ) : ∀ hn : n ≤ 32, Done (argQ m c) (argK m c) (argV m c) (argA m c) (argW m c) (argB m c) n hn (STEP^[n] (entryContents preI m c)) := by
  induction n with
  | zero => exact fun _ => done_entry m c
  | succ n ih =>
    intro hn
    rw [Function.iterate_succ_apply']
    exact done_step hn (ih (Nat.le_of_lt hn))

end

end Cert.Proof.GlaFwd.Reference

end
-- ==== Proof.GlaFwdResults.lean ====
/- The call `gla_fwd`: the reference's results, from the arrays its loop leaves. -/
module

public import proofs.«01_k».proof.Proof.GlaFwdLoop

@[expose] public section

set_option maxRecDepth 16384
set_option maxHeartbeats 1000000

noncomputable section

namespace Cert.Proof.GlaFwd.Reference

open Idealize.ShloMosaic Idealize.ShloMosaic.TcCoe Idealize.SL.Sem Idealize.ShloMosaic.StableHlo Cert.GlaFwdReferenceIdeal Cert.GlaFwdReferenceIdeal.Gen Cert.GlaFwdReferenceIdeal.Value

/-- The output, row by row. -/
def rowwise (x : FVec Ideal S32x2x64x4x256 .f32) : FVec Ideal S2x2048x4x256 .f32 :=
  shapeCast _ (transpose S2x32x64x4x256 [1, 0, 2, 3, 4] x transposes_S32x2x64x4x256_S2x32x64x4x256_1_0_2_3_4) shapeCasts_S2x32x64x4x256_S2x2048x4x256

/-- The gated output. -/
def gatedOf (o : FVec Ideal S2x2048x4x256 .f32) (w : FVec Ideal S1x256 .f32) (g : FVec Ideal S2x2048x1024 .f32) : FVec Ideal S2x2048x1024 .bf16 :=
  truncf .bf16 (shapeCast _ (mulf (mulf (mulf o (broadcastInDim S2x2048x4x256 ![0, 1, 2, 3] bcast_S2x2048x4x1_S2x2048x4x256_0_1_2_3
      (Host.rsqrt (addf (Host.divf (broadcastInDim S2x2048x4x1 ![0, 1, 2] bcast_S2x2048x4_S2x2048x4x1_0_1_2
        (Host.reduceAdd (mulf o o) (constant S_ .f32 0x00000000#32) reducesTo_S2x2048x4x256_S2x2048x4_d3 h_S_))
        (broadcastInDim S2x2048x4x1 ![] bcast_S_S2x2048x4x1 (constant S_ .f32 0x43800000#32)))
        (broadcastInDim S2x2048x4x1 ![] bcast_S_S2x2048x4x1 (constant S_ .f32 0x358637BD#32))))))
      (broadcastInDim S2x2048x4x256 ![0, 1, 2, 3] bcast_S1x1x1x256_S2x2048x4x256_0_1_2_3 (broadcastInDim S1x1x1x256 ![2, 3] bcast_S1x256_S1x1x1x256_2_3 w)))
    (mulf (shapeCast _ g shapeCasts_S2x2048x1024_S2x2048x4x256) (Host.divf (broadcastInDim S2x2048x4x256 ![] bcast_S_S2x2048x4x256 (constant S_ .f32 0x3F800000#32))
      (addf (broadcastInDim S2x2048x4x256 ![] bcast_S_S2x2048x4x256 (constant S_ .f32 0x3F800000#32)) (Host.exp (Host.negf (shapeCast _ g shapeCasts_S2x2048x1024_S2x2048x4x256)))))))
    shapeCasts_S2x2048x4x256_S2x2048x1024) bitsLt_bf16_f32

theorem rowwise_apply (x : FVec Ideal S32x2x64x4x256 .f32) (b : Fin 2) (n : Fin 32) (j : Fin 64) (h : Fin 4) (i : Fin 256) :
    rowwise x (ix4 b (place n.val n.isLt j) h i) = x (ix5 n b j h i) := by
  unfold rowwise place
  pointwise

theorem flat_apply (o : FVec Ideal S2x2048x4x256 .f32) (b : Fin 2) (r : Fin 2048) (h : Fin 4) (i : Fin 256) :
    shapeCast S2x2048x1024 o shapeCasts_S2x2048x4x256_S2x2048x1024 (ix3 b r ⟨256 * h.val + i.val, by omega⟩) = o (ix4 b r h i) := by
  pointwise

theorem gatedOf_apply (o : FVec Ideal S2x2048x4x256 .f32) (w : Norm) (g : Wide) (b : Fin 2) (r : Fin 2048) (h : Fin 4) (i : Fin 256) :
    gatedOf o w g (ix3 b r ⟨256 * h.val + i.val, by omega⟩) = normed (fun x => o (ix4 b r h x)) (fun x => w (ix2 0 x)) (wide g b h r) i := by
  unfold gatedOf normed wide
  pointwise [zero_sub]
  rw [show (⟨h.val * 256 + i.val, by omega⟩ : Fin 1024) = ⟨256 * h.val + i.val, by omega⟩ from Fin.ext (by show h.val * 256 + i.val = 256 * h.val + i.val; omega)]

theorem states_apply (x : FVec Ideal S32x2x4x128x256 .f32) (b : Fin 2) (h : Fin 4) (n : Fin 32) (i : Fin 256) (l : Fin 128) :
    transpose S2x4x32x256x128 [1, 2, 0, 4, 3] x transposes_S32x2x4x128x256_S2x4x32x256x128_1_2_0_4_3 (ix5 b h n i l) = x (ix5 n b h l i) := by
  pointwise

/-- Arrays that agree at every row of every chunk and lane of every head are equal. -/
theorem wide_ext {f g : Wide} (e : ∀ (b : Fin 2) (n : Fin 32) (j : Fin 64) (h : Fin 4) (l : Fin 256),
    f (ix3 b (place n.val n.isLt j) ⟨256 * h.val + l.val, by omega⟩) = g (ix3 b (place n.val n.isLt j) ⟨256 * h.val + l.val, by omega⟩)) : f = g := by
  funext i
  obtain ⟨b, r, c, rfl⟩ : ∃ (b : Fin 2) (r : Fin 2048) (c : Fin 1024), i = ix3 b r c := ⟨_, _, _, Gates.ix3_eta i⟩
  have := e b ⟨r.val / 64, by omega⟩ ⟨r.val % 64, Nat.mod_lt _ (by decide)⟩ ⟨c.val / 256, by omega⟩ ⟨c.val % 256, Nat.mod_lt _ (by decide)⟩
  rw [show place (r.val / 64) (by omega) ⟨r.val % 64, Nat.mod_lt _ (by decide)⟩ = r from Fin.ext (Nat.div_add_mod r.val 64),
    show (⟨256 * (c.val / 256) + c.val % 256, by omega⟩ : Fin 1024) = c from Fin.ext (Nat.div_add_mod c.val 256)] at this
  exact this

section

variable {q k : Narrow} {v : Wide} {a : Low} {w : Up} {bias : Bias} {V : Valuation τ sig (Elt Ideal)} (d : Done q k v a w bias 32 le_rfl V)

include d

theorem out_eq : out_main_v56 V = heads (outAt q k v a w bias) := by
  refine wide_ext fun b n j h l => ?_
  refine (flat_apply (rowwise (rowsOf V)) b _ h l).trans ?_
  exact (rowwise_apply _ b n j h l).trans ((d.rows n n.isLt b j h l).trans (heads_apply _ b h _ l).symm)

theorem gated_eq {g : Wide} {norm : Norm} (hg : V (Proc.devRef .tc main_arg3) = g) (hn : V (Proc.devRef .tc main_arg7) = norm) :
    out_main_v58 V = heads (gatedAt q k v g a w bias norm) := by
  refine wide_ext fun b n j h l => ?_
  refine Eq.trans (b := gatedOf (rowwise (rowsOf V)) norm g (ix3 b (place n.val n.isLt j) ⟨256 * h.val + l.val, by omega⟩)) ?_ ?_
  · rw [← hg, ← hn]
    rfl
  · refine (gatedOf_apply _ norm g b _ h l).trans (Eq.trans ?_ (heads_apply _ b h _ l).symm)
    refine congrArg (fun z => normed z (fun x => norm (ix2 0 x)) (wide g b h (place n.val n.isLt j)) l) (funext fun x => ?_)
    exact (rowwise_apply _ b n j h x).trans (d.rows n n.isLt b j h x)

theorem states_eq : out_main_v59 V = states k v a w bias := by
  funext i
  obtain ⟨b, h, n, x, l, rfl⟩ : ∃ (b : Fin 2) (h : Fin 4) (n : Fin 32) (x : Fin 256) (l : Fin 128), i = (ix5 b h n x l : S2x4x32x256x128.Idx) := ⟨_, _, _, _, _, eq_ix5 i⟩
  exact (states_apply (keptOf V) b h n x l).trans (d.kept n n.isLt b h l x)

end

end Cert.Proof.GlaFwd.Reference

end
-- ==== Proof.GlaFwd.lean ====
/- The call `gla_fwd`: its claims. -/
module

public import proofs.«01_k».proof.Defs
public import proofs.«01_k».proof.Proof.GlaFwdKernel
public import proofs.«01_k».proof.Proof.GlaFwdResults
public import proofs.«01_k».proof.Proof.Gen.GlaFwdIdeal.Value
public import proofs.«01_k».proof.Proof.Gen.GlaFwd.Frame
public import Idealize.ShloMosaic.Lib.Claim
public import Idealize.ShloMosaic.Lib.Quiescent

@[expose] public section

set_option maxRecDepth 16384
set_option maxHeartbeats 1000000

noncomputable section

namespace Cert.Proof.GlaFwd

open Idealize.ShloMosaic Idealize.ShloMosaic.TcCoe Idealize.SL.Sem Cert.GlaFwdIdeal Cert.GlaFwdIdeal.Gen

theorem frame : Cert.quiescent_GlaFwd := fun m ρ _ => Cert.GlaFwd.Gen.frame m ρ
theorem frame_ideal : Cert.quiescent_GlaFwdIdeal := fun m ρ _ => Cert.GlaFwdIdeal.Gen.frame m ρ
theorem frame_reference : Cert.quiescent_GlaFwdReferenceIdeal := fun m ρ _ =>
  (θ_run Cert.GlaFwdReferenceIdeal.defs _ _).mono (fun r h => ⟨fun c => (h c).2.2.2, sem_eq_zero_of_no_sems (by decide) r.2⟩)
    (Cert.GlaFwdReferenceIdeal.Value.run (F := Ideal) m ρ)

/-- The call and the reference end with the same output, gated output and states. -/
theorem algebraic : Cert.algebraic_GlaFwdIdeal_GlaFwdReferenceIdeal := by
  intro m g m' g' _ hagree
  refine ⟨fun c : Dev nD => outs m c, fun c : Dev nD => gateds m c, fun c : Dev nD => states (argK m c) (argV m c) (argA m c) (argW m c) (argB m c), ?_, ?_⟩
  · exact (θ_run Cert.GlaFwdIdeal.defs _ _).mono
      (fun r h c => ⟨(h c).1.trans (final_out m c), (h c).2.1.trans (final_gated m c), (h c).2.2.1.trans (final_states m c), (h c).2.2.2⟩)
      (Cert.GlaFwdIdeal.Value.run_blocks m g)
  · refine (θ_run Cert.GlaFwdReferenceIdeal.defs _ _).mono (fun r h c => ?_) (Cert.GlaFwdReferenceIdeal.Value.run m' g')
    have d := Reference.done_after m' c 32 le_rfl
    have eq : Reference.argQ m' c = argQ m c := (hagree c).1
    have ek : Reference.argK m' c = argK m c := (hagree c).2.1
    have ev : Reference.argV m' c = argV m c := (hagree c).2.2.1
    have eg : Reference.argG m' c = argG m c := (hagree c).2.2.2.1
    have ea : Reference.argA m' c = argA m c := (hagree c).2.2.2.2.1
    have ew : Reference.argW m' c = argW m c := (hagree c).2.2.2.2.2.1
    have eb : Reference.argB m' c = argB m c := (hagree c).2.2.2.2.2.2.1
    have en : Reference.argN m' c = argN m c := (hagree c).2.2.2.2.2.2.2
    rw [eq, ek, ev, ea, ew, eb] at d
    exact ⟨(h c).1.trans (Reference.out_eq d),
      (h c).2.1.trans (Reference.gated_eq d ((Cert.GlaFwdReferenceIdeal.Value.iter_main_arg3 m' c 32).trans eg) ((Cert.GlaFwdReferenceIdeal.Value.iter_main_arg7 m' c 32).trans en)),
      (h c).2.2.1.trans (Reference.states_eq d), (h c).2.2.2⟩

end Cert.Proof.GlaFwd

end
-- ==== Proof.Norms.lean ====
/- The forward norms over the extended reals: a row over the root of its mean square, scaled and shifted. -/
module

public import proofs.«01_k».proof.Proof.Gates
public import Idealize.ShloMosaic.PureOps.Ideal
public import Idealize.ShloMosaic.Lib.Pointwise

@[expose] public section

noncomputable section

namespace Cert.Proof.Norms

open Idealize.ShloMosaic Gates

/-- One number for each of a member's columns, and one for each column. -/
abbrev Parts := (⟨2, ![2, 1024]⟩ : Shape).Idx → EReal
abbrev Gains := (⟨2, ![1, 1024]⟩ : Shape).Idx → EReal

/-- An entry of a row over the root of the row's mean square, times its gain; `n` is the word of the row's length. -/
def normed {k : ℕ} (n : BitVec 32) (x g : Fin k → EReal) (l : Fin k) : EReal :=
  x l * Ideal.rsqrt (Ideal.div (∑ j, x j * x j) (Ideal.ofBits .f32 n) + Ideal.ofBits .f32 0x358637BD#32) * g l

/-- An entry of a row normed, scaled and shifted. -/
def modulated (x g s h : Fin 1024 → EReal) (l : Fin 1024) : EReal := normed 0x44800000#32 x g l * (1 + s l) + h l

/-- The array whose rows are the given array's, normed, scaled and shifted. -/
def blocks (X : Branch) (G : Gains) (S H : Parts) : Branch :=
  arr fun b r l => modulated (fun j => X (ix3 b r j)) (fun j => G (ix2 0 j)) (fun j => S (ix2 b j)) (fun j => H (ix2 b j)) l

/-- The residual stream with a branch added under its gate. -/
def added (X M : Branch) (T : Parts) : Branch := arr fun b r l => X (ix3 b r l) + T (ix2 b l) * M (ix3 b r l)

end Cert.Proof.Norms

end
-- ==== Proof.Norm1.lean ====
/- The call `norm1`: the first norm, scaled and shifted. -/
module

public import proofs.«01_k».proof.Defs
public import proofs.«01_k».proof.Proof.Norms
public import proofs.«01_k».proof.Proof.Gen.Norm1Ideal.Value
public import proofs.«01_k».proof.Proof.Gen.Norm1ReferenceIdeal.Run
public import proofs.«01_k».proof.Proof.Gen.Norm1.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.Norm1

open Idealize.ShloMosaic Idealize.ShloMosaic.TcCoe Idealize.SL.Sem Gates Norms

section

open Cert.Norm1Ideal Cert.Norm1Ideal.Gen

variable (m : (ℓ : Loc nD τ sig) → Buf (Elt Ideal) ℓ)

/-- A member's numbers with an axis for its rows. -/
def widened (x : FVec Ideal S2x1024 .f32) : FVec Ideal S2x1x1024 .f32 := broadcastInDim S2x1x1024 ![0, 2] bcast_S2x1024_S2x1x1024_0_2 x

theorem widened_apply (x : FVec Ideal S2x1024 .f32) (b : Fin 2) (l : Fin 1024) : widened x (ix3 b 0 l) = x (ix2 b l) := by
  unfold widened
  pointwise

theorem entry0 (c : Dev nD) : V m c main_v0 = widened (m ((c : Thread nD τ).loc main_arg3)) := by
  unfold V
  after_reads_simp
  rfl

theorem entry1 (c : Dev nD) : V m c main_v1 = widened (m ((c : Thread nD τ).loc main_arg2)) := by
  unfold V
  after_reads_simp
  rfl

theorem index0 : ∀ t : Fin cfg0.N, win0_0.index t = ![(grid0.coords t 0).val, (grid0.coords t 1).val, 0] := by decide +kernel
theorem index1 : ∀ t : Fin cfg0.N, win0_1.index t = ![0, 0] := by decide +kernel
theorem index2 : ∀ t : Fin cfg0.N, win0_2.index t = ![(grid0.coords t 0).val, 0, 0] := by decide +kernel
theorem index3 : ∀ t : Fin cfg0.N, win0_3.index t = ![(grid0.coords t 0).val, 0, 0] := by decide +kernel
theorem index4 : ∀ t : Fin cfg0.N, win0_4.index t = ![(grid0.coords t 0).val, (grid0.coords t 1).val, 0] := by decide +kernel

/-- The member of the batch and the row of one point's block. -/
def batch (t : Fin cfg0.N) : Fin 2 := ⟨(grid0.coords t 0).val, (grid0.coords t 0).isLt⟩
def row (t : Fin cfg0.N) (r : Fin 512) : Fin 2048 :=
  ⟨(grid0.coords t 1).val * 512 + r.val, by have h := (grid0.coords t 1).isLt; have h' : (grid0.coords t 1).val < 4 := h; omega⟩

theorem payload (x : Vec Ideal S1x512x1024 .f32) (g : Vec Ideal S1x1024 .f32) (s h : Vec Ideal S1x1x1024 .f32) (r : Fin 512) (l : Fin 1024) :
    out0_4 (F := Ideal) x g s h (ix3 0 r l)
      = modulated (fun j => x (ix3 0 r j)) (fun j => g (ix2 0 j)) (fun j => s (ix3 0 0 j)) (fun j => h (ix3 0 0 j)) l := by
  unfold out0_4
  frame_out
  unfold k0_pay1 modulated normed
  pointwise [one]

theorem read0 (c : Dev nD) (t : Fin cfg0.N) (X : FVec Ideal S2x2048x1024 .f32) (hX : V m c main_arg0 = X) (r : Fin 512) (l : Fin 1024) :
    iblk m c 0 t (ix3 0 r l) = X (ix3 (batch t) (row t r) l) := by
  subst hX
  blk_ext [iblk, index0 t, batch, row]

theorem read1 (c : Dev nD) (t : Fin cfg0.N) (X : FVec Ideal S1x1024 .f32) (hX : V m c main_arg1 = X) (l : Fin 1024) :
    iblk m c 1 t (ix2 0 l) = X (ix2 0 l) := by
  subst hX
  blk_ext [iblk, index1 t]

theorem read2 (c : Dev nD) (t : Fin cfg0.N) (X : FVec Ideal S2x1024 .f32) (hX : V m c main_v0 = widened X) (l : Fin 1024) :
    iblk m c 2 t (ix3 0 0 l) = X (ix2 (batch t) l) := by
  refine Eq.trans (b := widened X (ix3 (batch t) 0 l)) ?_ (widened_apply X _ l)
  rw [← hX]
  blk_ext [iblk, index2 t, batch]

theorem read3 (c : Dev nD) (t : Fin cfg0.N) (X : FVec Ideal S2x1024 .f32) (hX : V m c main_v1 = widened X) (l : Fin 1024) :
    iblk m c 3 t (ix3 0 0 l) = X (ix2 (batch t) l) := by
  refine Eq.trans (b := widened X (ix3 (batch t) 0 l)) ?_ (widened_apply X _ l)
  rw [← hX]
  blk_ext [iblk, index3 t, batch]

/-- The array the call leaves. -/
theorem final (c : Dev nD) (X : FVec Ideal S2x2048x1024 .f32) (G : FVec Ideal S1x1024 .f32) (S H : FVec Ideal S2x1024 .f32)
    (hX : V m c main_arg0 = X) (hG : V m c main_arg1 = G) (hS : V m c main_v0 = widened S) (hH : V m c main_v1 = widened H) :
    (dats m 0 c).arrAt 4 cfg0.N = (blocks X G S H : FVec Ideal S2x2048x1024 .bf16) := by
  refine (dats m 0 c).arrAt_eq_of_covers 4 _ (by decide +kernel) fun t hf y => ?_
  blk_simp
  rw [after0_4]
  obtain ⟨z, r, l, rfl⟩ : ∃ (z : Fin 1) (r : Fin 512) (l : Fin 1024), y = (ix3 z r l : S1x512x1024.Idx) := ⟨_, _, _, ix3_eta y⟩
  obtain rfl : z = 0 := Subsingleton.elim _ _
  rw [payload]
  simp only [read0 m c t _ hX, read1 m c t _ hG, read2 m c t _ hS, read3 m c t _ hH]
  have hy : blocks X G S H (((cfg0.win 4).blk t).view.emb (ix3 0 r l)) = blocks X G S H (ix3 (batch t) (row t r) l) := by
    blk_ext [index4 t, batch, row]
  exact hy.symm

end

section

open Cert.Norm1ReferenceIdeal Cert.Norm1ReferenceIdeal.Gen

/-- The reference's array. -/
theorem reference (x : FVec Ideal S2x2048x1024 .f32) (g : FVec Ideal S1x1024 .f32) (h s : FVec Ideal S2x1024 .f32) :
    (truncf .bf16 (addf (mulf (mulf (mulf x (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf x x) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 (shapeCast _ g shapeCasts_S1x1024_S1024)))) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 s)))) (broadcastInDim S2x2048x1024 ![0, 1, 2] bcast_S2x1x1024_S2x2048x1024_0_1_2 (broadcastInDim S2x1x1024 ![0, 2] bcast_S2x1024_S2x1x1024_0_2 h))) bitsLt_bf16_f32 : FVec Ideal S2x2048x1024 .bf16)
      = blocks x g s h := by
  funext i
  obtain ⟨b, r, l, rfl⟩ : ∃ (b : Fin 2) (r : Fin 2048) (l : Fin 1024), i = (ix3 b r l : S2x2048x1024.Idx) := ⟨_, _, _, ix3_eta i⟩
  unfold blocks arr modulated normed
  pointwise [one, zero]

end

open Cert.Norm1Ideal Cert.Norm1Ideal.Gen

theorem frame : Cert.quiescent_Norm1 := fun m ρ _ => Cert.Norm1.Gen.frame m ρ
theorem frame_ideal : Cert.quiescent_Norm1Ideal := fun m ρ _ => Cert.Norm1Ideal.Gen.frame m ρ
theorem frame_reference : Cert.quiescent_Norm1ReferenceIdeal := fun m ρ _ =>
  (θ_run Cert.Norm1ReferenceIdeal.defs _ _).mono (fun r h => ⟨fun c => (h c).2, sem_eq_zero_of_no_sems (by decide) r.2⟩)
    (Cert.Norm1ReferenceIdeal.Value.run (F := Ideal) m ρ)

/-- The call and the reference end with the same array. -/
theorem algebraic : Cert.algebraic_Norm1Ideal_Norm1ReferenceIdeal := by
  intro m g m' g' _ hagree
  refine ⟨fun c : Dev nD => blocks (m ((c.tc : Thread nD τ).loc main_arg0)) (m ((c.tc : Thread nD τ).loc main_arg1)) (m ((c.tc : Thread nD τ).loc main_arg3)) (m ((c.tc : Thread nD τ).loc main_arg2)), ?_, ?_⟩
  · exact (θ_run Cert.Norm1Ideal.defs _ _).mono
      (fun r h c => ⟨(h c).1.trans (final m c _ _ _ _ (V_main_arg0 m c) (V_main_arg1 m c) (entry0 m c) (entry1 m c)), (h c).2⟩) (Cert.Norm1Ideal.Value.run_blocks m g)
  · refine (θ_run Cert.Norm1ReferenceIdeal.defs _ _).mono (fun r h c => ⟨(h c).1.trans ?_, (h c).2⟩) (Cert.Norm1ReferenceIdeal.Value.run m' g')
    rw [(hagree c).1, (hagree c).2.1, (hagree c).2.2.1, (hagree c).2.2.2]
    exact reference _ _ _ _

end Cert.Proof.Norm1

end
-- ==== Proof.Norm2.lean ====
/- The call `norm2`: a branch added to the residual stream under its gate, and the second norm of the sum. -/
module

public import proofs.«01_k».proof.Defs
public import proofs.«01_k».proof.Proof.Norms
public import proofs.«01_k».proof.Proof.Gen.Norm2Ideal.Value
public import proofs.«01_k».proof.Proof.Gen.Norm2ReferenceIdeal.Run
public import proofs.«01_k».proof.Proof.Gen.Norm2.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.Norm2

open Idealize.ShloMosaic Idealize.ShloMosaic.TcCoe Idealize.SL.Sem Gates Norms

section

open Cert.Norm2Ideal Cert.Norm2Ideal.Gen

variable (m : (ℓ : Loc nD τ sig) → Buf (Elt Ideal) ℓ)

/-- A member's numbers with an axis for its rows. -/
def widened (x : FVec Ideal S2x1024 .f32) : FVec Ideal S2x1x1024 .f32 := broadcastInDim S2x1x1024 ![0, 2] bcast_S2x1024_S2x1x1024_0_2 x

theorem widened_apply (x : FVec Ideal S2x1024 .f32) (b : Fin 2) (l : Fin 1024) : widened x (ix3 b 0 l) = x (ix2 b l) := by
  unfold widened
  pointwise

theorem entry0 (c : Dev nD) : V m c main_v0 = widened (m ((c : Thread nD τ).loc main_arg5)) := by
  unfold V
  after_reads_simp
  rfl

theorem entry1 (c : Dev nD) : V m c main_v1 = widened (m ((c : Thread nD τ).loc main_arg3)) := by
  unfold V
  after_reads_simp
  rfl

theorem entry2 (c : Dev nD) : V m c main_v2 = widened (m ((c : Thread nD τ).loc main_arg2)) := by
  unfold V
  after_reads_simp
  rfl

theorem index0 : ∀ t : Fin cfg0.N, win0_0.index t = ![(grid0.coords t 0).val, (grid0.coords t 1).val, 0] := by decide +kernel
theorem index1 : ∀ t : Fin cfg0.N, win0_1.index t = ![(grid0.coords t 0).val, (grid0.coords t 1).val, 0] := by decide +kernel
theorem index2 : ∀ t : Fin cfg0.N, win0_2.index t = ![(grid0.coords t 0).val, 0, 0] := by decide +kernel
theorem index3 : ∀ t : Fin cfg0.N, win0_3.index t = ![0, 0] := by decide +kernel
theorem index4 : ∀ t : Fin cfg0.N, win0_4.index t = ![(grid0.coords t 0).val, 0, 0] := by decide +kernel
theorem index5 : ∀ t : Fin cfg0.N, win0_5.index t = ![(grid0.coords t 0).val, 0, 0] := by decide +kernel
theorem index6 : ∀ t : Fin cfg0.N, win0_6.index t = ![(grid0.coords t 0).val, (grid0.coords t 1).val, 0] := by decide +kernel
theorem index7 : ∀ t : Fin cfg0.N, win0_7.index t = ![(grid0.coords t 0).val, (grid0.coords t 1).val, 0] := by decide +kernel

/-- The member of the batch and the row of one point's block. -/
def batch (t : Fin cfg0.N) : Fin 2 := ⟨(grid0.coords t 0).val, (grid0.coords t 0).isLt⟩
def row (t : Fin cfg0.N) (r : Fin 512) : Fin 2048 :=
  ⟨(grid0.coords t 1).val * 512 + r.val, by have h := (grid0.coords t 1).isLt; have h' : (grid0.coords t 1).val < 4 := h; omega⟩

theorem payload6 (x y : Vec Ideal S1x512x1024 .f32) (q s h : Vec Ideal S1x1x1024 .f32) (g : Vec Ideal S1x1024 .f32) (r : Fin 512) (l : Fin 1024) :
    out0_6 (F := Ideal) x y q g s h (ix3 0 r l) = x (ix3 0 r l) + q (ix3 0 0 l) * y (ix3 0 r l) := by
  unfold out0_6
  frame_out
  unfold k0_pay3 k0_pay2
  pointwise

theorem payload7 (x y : Vec Ideal S1x512x1024 .f32) (q s h : Vec Ideal S1x1x1024 .f32) (g : Vec Ideal S1x1024 .f32) (r : Fin 512) (l : Fin 1024) :
    out0_7 (F := Ideal) x y q g s h (ix3 0 r l)
      = modulated (fun j => x (ix3 0 r j) + q (ix3 0 0 j) * y (ix3 0 r j)) (fun j => g (ix2 0 j)) (fun j => s (ix3 0 0 j)) (fun j => h (ix3 0 0 j)) l := by
  unfold out0_7
  frame_out
  unfold k0_pay1 k0_pay4 k0_pay5 k0_pay2 modulated normed
  pointwise [one]

theorem read0 (c : Dev nD) (t : Fin cfg0.N) (X : FVec Ideal S2x2048x1024 .f32) (hX : V m c main_arg0 = X) (r : Fin 512) (l : Fin 1024) :
    iblk m c 0 t (ix3 0 r l) = X (ix3 (batch t) (row t r) l) := by
  subst hX
  blk_ext [iblk, index0 t, batch, row]

theorem read1 (c : Dev nD) (t : Fin cfg0.N) (X : FVec Ideal S2x2048x1024 .f32) (hX : V m c main_arg4 = X) (r : Fin 512) (l : Fin 1024) :
    iblk m c 1 t (ix3 0 r l) = X (ix3 (batch t) (row t r) l) := by
  subst hX
  blk_ext [iblk, index1 t, batch, row]

theorem read2 (c : Dev nD) (t : Fin cfg0.N) (X : FVec Ideal S2x1024 .f32) (hX : V m c main_v0 = widened X) (l : Fin 1024) :
    iblk m c 2 t (ix3 0 0 l) = X (ix2 (batch t) l) := by
  refine Eq.trans (b := widened X (ix3 (batch t) 0 l)) ?_ (widened_apply X _ l)
  rw [← hX]
  blk_ext [iblk, index2 t, batch]

theorem read3 (c : Dev nD) (t : Fin cfg0.N) (X : FVec Ideal S1x1024 .f32) (hX : V m c main_arg1 = X) (l : Fin 1024) :
    iblk m c 3 t (ix2 0 l) = X (ix2 0 l) := by
  subst hX
  blk_ext [iblk, index3 t]

theorem read4 (c : Dev nD) (t : Fin cfg0.N) (X : FVec Ideal S2x1024 .f32) (hX : V m c main_v1 = widened X) (l : Fin 1024) :
    iblk m c 4 t (ix3 0 0 l) = X (ix2 (batch t) l) := by
  refine Eq.trans (b := widened X (ix3 (batch t) 0 l)) ?_ (widened_apply X _ l)
  rw [← hX]
  blk_ext [iblk, index4 t, batch]

theorem read5 (c : Dev nD) (t : Fin cfg0.N) (X : FVec Ideal S2x1024 .f32) (hX : V m c main_v2 = widened X) (l : Fin 1024) :
    iblk m c 5 t (ix3 0 0 l) = X (ix2 (batch t) l) := by
  refine Eq.trans (b := widened X (ix3 (batch t) 0 l)) ?_ (widened_apply X _ l)
  rw [← hX]
  blk_ext [iblk, index5 t, batch]

/-- The residual stream the call leaves. -/
theorem final6 (c : Dev nD) (X M : FVec Ideal S2x2048x1024 .f32) (T : FVec Ideal S2x1024 .f32)
    (hX : V m c main_arg0 = X) (hM : V m c main_arg4 = M) (hT : V m c main_v0 = widened T) :
    (dats m 0 c).arrAt 6 cfg0.N = (added X M T : FVec Ideal S2x2048x1024 .f32) := by
  refine (dats m 0 c).arrAt_eq_of_covers 6 _ (by decide +kernel) fun t hf y => ?_
  blk_simp
  rw [after0_6]
  obtain ⟨z, r, l, rfl⟩ : ∃ (z : Fin 1) (r : Fin 512) (l : Fin 1024), y = (ix3 z r l : S1x512x1024.Idx) := ⟨_, _, _, ix3_eta y⟩
  obtain rfl : z = 0 := Subsingleton.elim _ _
  rw [payload6, read0 m c t _ hX, read1 m c t _ hM, read2 m c t _ hT]
  have hy : added X M T (((cfg0.win 6).blk t).view.emb (ix3 0 r l)) = added X M T (ix3 (batch t) (row t r) l) := by
    blk_ext [index6 t, batch, row]
  exact hy.symm

/-- The normed array the call leaves. -/
theorem final7 (c : Dev nD) (X M : FVec Ideal S2x2048x1024 .f32) (G : FVec Ideal S1x1024 .f32) (T S H : FVec Ideal S2x1024 .f32)
    (hX : V m c main_arg0 = X) (hM : V m c main_arg4 = M) (hT : V m c main_v0 = widened T) (hG : V m c main_arg1 = G)
    (hS : V m c main_v1 = widened S) (hH : V m c main_v2 = widened H) :
    (dats m 0 c).arrAt 7 cfg0.N = (blocks (added X M T) G S H : FVec Ideal S2x2048x1024 .bf16) := by
  refine (dats m 0 c).arrAt_eq_of_covers 7 _ (by decide +kernel) fun t hf y => ?_
  blk_simp
  rw [after0_7]
  obtain ⟨z, r, l, rfl⟩ : ∃ (z : Fin 1) (r : Fin 512) (l : Fin 1024), y = (ix3 z r l : S1x512x1024.Idx) := ⟨_, _, _, ix3_eta y⟩
  obtain rfl : z = 0 := Subsingleton.elim _ _
  rw [payload7]
  simp only [read0 m c t _ hX, read1 m c t _ hM, read2 m c t _ hT, read3 m c t _ hG, read4 m c t _ hS, read5 m c t _ hH]
  have hy : blocks (added X M T) G S H (((cfg0.win 7).blk t).view.emb (ix3 0 r l)) = blocks (added X M T) G S H (ix3 (batch t) (row t r) l) := by
    blk_ext [index7 t, batch, row]
  exact hy.symm

end

section

open Cert.Norm2ReferenceIdeal Cert.Norm2ReferenceIdeal.Gen

/-- The reference's residual stream. -/
theorem reference_sum (x y : FVec Ideal S2x2048x1024 .f32) (q : FVec Ideal S2x1024 .f32) :
    (addf x (mulf (broadcastInDim S2x2048x1024 ![0, 1, 2] bcast_S2x1x1024_S2x2048x1024_0_1_2 (broadcastInDim S2x1x1024 ![0, 2] bcast_S2x1024_S2x1x1024_0_2 q)) y) : FVec Ideal S2x2048x1024 .f32)
      = added x y q := by
  funext i
  obtain ⟨b, r, l, rfl⟩ : ∃ (b : Fin 2) (r : Fin 2048) (l : Fin 1024), i = (ix3 b r l : S2x2048x1024.Idx) := ⟨_, _, _, ix3_eta i⟩
  unfold added arr
  pointwise

/-- The reference's normed array, of the residual stream `w`. -/
theorem reference_normed (w : FVec Ideal S2x2048x1024 .f32) (g : FVec Ideal S1x1024 .f32) (h s : FVec Ideal S2x1024 .f32) :
    (truncf .bf16 (addf (mulf (mulf (mulf w (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf w w) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 (shapeCast _ g shapeCasts_S1x1024_S1024)))) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 s)))) (broadcastInDim S2x2048x1024 ![0, 1, 2] bcast_S2x1x1024_S2x2048x1024_0_1_2 (broadcastInDim S2x1x1024 ![0, 2] bcast_S2x1024_S2x1x1024_0_2 h))) bitsLt_bf16_f32 : FVec Ideal S2x2048x1024 .bf16)
      = blocks w g s h := by
  funext i
  obtain ⟨b, r, l, rfl⟩ : ∃ (b : Fin 2) (r : Fin 2048) (l : Fin 1024), i = (ix3 b r l : S2x2048x1024.Idx) := ⟨_, _, _, ix3_eta i⟩
  unfold blocks arr modulated normed
  pointwise [one, zero]

end

open Cert.Norm2Ideal Cert.Norm2Ideal.Gen

theorem frame : Cert.quiescent_Norm2 := fun m ρ _ => Cert.Norm2.Gen.frame m ρ
theorem frame_ideal : Cert.quiescent_Norm2Ideal := fun m ρ _ => Cert.Norm2Ideal.Gen.frame m ρ
theorem frame_reference : Cert.quiescent_Norm2ReferenceIdeal := fun m ρ _ =>
  (θ_run Cert.Norm2ReferenceIdeal.defs _ _).mono (fun r h => ⟨fun c => (h c).2.2, sem_eq_zero_of_no_sems (by decide) r.2⟩)
    (Cert.Norm2ReferenceIdeal.Value.run (F := Ideal) m ρ)

/-- The call and the reference end with the same two arrays. -/
theorem algebraic : Cert.algebraic_Norm2Ideal_Norm2ReferenceIdeal := by
  intro m g m' g' _ hagree
  refine ⟨fun c : Dev nD => added (m ((c.tc : Thread nD τ).loc main_arg0)) (m ((c.tc : Thread nD τ).loc main_arg4)) (m ((c.tc : Thread nD τ).loc main_arg5)),
    fun c : Dev nD => blocks (added (m ((c.tc : Thread nD τ).loc main_arg0)) (m ((c.tc : Thread nD τ).loc main_arg4)) (m ((c.tc : Thread nD τ).loc main_arg5))) (m ((c.tc : Thread nD τ).loc main_arg1)) (m ((c.tc : Thread nD τ).loc main_arg3)) (m ((c.tc : Thread nD τ).loc main_arg2)), ?_, ?_⟩
  · exact (θ_run Cert.Norm2Ideal.defs _ _).mono
      (fun r h c => ⟨(h c).1.trans (final6 m c _ _ _ (V_main_arg0 m c) (V_main_arg4 m c) (entry0 m c)),
        (h c).2.1.trans (final7 m c _ _ _ _ _ _ (V_main_arg0 m c) (V_main_arg4 m c) (entry0 m c) (V_main_arg1 m c) (entry1 m c) (entry2 m c)), (h c).2.2⟩) (Cert.Norm2Ideal.Value.run_blocks m g)
  · refine (θ_run Cert.Norm2ReferenceIdeal.defs _ _).mono (fun r h c => ?_) (Cert.Norm2ReferenceIdeal.Value.run m' g')
    beta_reduce
    rw [← (hagree c).1, ← (hagree c).2.1, ← (hagree c).2.2.1, ← (hagree c).2.2.2.1, ← (hagree c).2.2.2.2.1, ← (hagree c).2.2.2.2.2]
    refine ⟨(h c).1.trans (reference_sum _ _ _), (h c).2.1.trans ((reference_normed _ _ _ _).trans ?_), (h c).2.2⟩
    rw [reference_sum]

end Cert.Proof.Norm2

end
-- ==== Proof.LatNorm.lean ====
/- The call `lat_norm`: the norms of the latents of the queries and of the keys and values. -/
module

public import proofs.«01_k».proof.Defs
public import proofs.«01_k».proof.Proof.Norms
public import proofs.«01_k».proof.Proof.Products
public import proofs.«01_k».proof.Proof.Gen.LatNormIdeal.Value
public import proofs.«01_k».proof.Proof.Gen.LatNormReferenceIdeal.Run
public import proofs.«01_k».proof.Proof.Gen.LatNorm.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.LatNorm

open Idealize.ShloMosaic Idealize.ShloMosaic.TcCoe Idealize.SL.Sem Gates Norms Products

/-- The member of the batch and the position of one row. -/
def member (R : Fin 4096) : Fin 2 := ⟨R.val / 2048, by omega⟩
def place (R : Fin 4096) : Fin 2048 := ⟨R.val % 2048, by omega⟩

/-- The rows of a latent normed. -/
def lat {k : ℕ} (n : BitVec 32) (X : (⟨3, ![2, 2048, k]⟩ : Shape).Idx → EReal) (G : (⟨2, ![1, k]⟩ : Shape).Idx → EReal) :
    (⟨2, ![4096, k]⟩ : Shape).Idx → EReal :=
  mat fun R l => normed n (fun j => X (ix3 (member R) (place R) j)) (fun j => G (ix2 0 j)) l

section

open Cert.LatNormIdeal Cert.LatNormIdeal.Gen

variable (m : (ℓ : Loc nD τ sig) → Buf (Elt Ideal) ℓ)

/-- The two latents, at their columns of the array the call reads. -/
def placed (x : FVec Ideal S2x2048x256 .f32) (y : FVec Ideal S2x2048x128 .f32) : FVec Ideal S4096x5760 .bf16 :=
  truncf .bf16 (pad S4096x5760 ![0, 5120] ![0, 256] ![0, 0]
    (shapeCast S4096x384 (concatenate S2x2048x384 2 [⟨S2x2048x256, x⟩, ⟨S2x2048x128, y⟩] concatenates_S2x2048x256_S2x2048x128_S2x2048x384_d2 : FVec Ideal S2x2048x384 .f32) shapeCasts_S2x2048x384_S4096x384)
    (sitofp .f32 (constantI S_ 32 0#32)) pads_S4096x384_S4096x5760_000_51202560 h_S_) bitsLt_bf16_f32

theorem placed_first (x : FVec Ideal S2x2048x256 .f32) (y : FVec Ideal S2x2048x128 .f32) (R : Fin 4096) (l : Fin 256) :
    placed x y (ix2 R ⟨5120 + l.val, by omega⟩) = x (ix3 (member R) (place R) l) := by
  unfold placed
  pointwise
  exact dif_pos (by omega)

theorem placed_second (x : FVec Ideal S2x2048x256 .f32) (y : FVec Ideal S2x2048x128 .f32) (R : Fin 4096) (l : Fin 128) :
    placed x y (ix2 R ⟨5376 + l.val, by omega⟩) = y (ix3 (member R) (place R) l) := by
  unfold placed
  pointwise
  have e : 5376 + l.val - 5120 - 256 = l.val := by omega
  rw [dif_pos ⟨by omega, by omega⟩, dif_neg (by omega)]
  simp only [e]
  rfl

theorem entry (c : Dev nD) : V m c main_v3 = placed (m ((c : Thread nD τ).loc main_arg0)) (m ((c : Thread nD τ).loc main_arg1)) := by
  unfold V
  after_reads_simp
  simp only [StableHlo.TRef.toBuf, StableHlo.TRef.ofBuf, cast_eq]
  rfl

theorem index0 : ∀ t : Fin cfg0.N, win0_0.index t = ![(grid0.coords t 0).val, 20] := by decide +kernel
theorem index1 : ∀ t : Fin cfg0.N, win0_1.index t = ![(grid0.coords t 0).val, 42] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![(grid0.coords t 0).val, 0] := by decide +kernel
theorem index5 : ∀ t : Fin cfg0.N, win0_5.index t = ![(grid0.coords t 0).val, 0] := by decide +kernel

/-- The row of one point's block. -/
def row (t : Fin cfg0.N) (r : Fin 512) : Fin 4096 :=
  ⟨(grid0.coords t 0).val * 512 + r.val, by have h := (grid0.coords t 0).isLt; have h' : (grid0.coords t 0).val < 8 := h; omega⟩

theorem payload1 (x : Vec Ideal S512x256 .bf16) (g : Vec Ideal S1x256 .f32) (r : Fin 512) (l : Fin 256) :
    k0_pay1 x g (ix2 r l) = normed 0x43800000#32 (fun j => x (ix2 r j)) (fun j => g (ix2 0 j)) l := by
  unfold k0_pay1 normed
  pointwise

theorem payload2 (x : Vec Ideal S512x128 .bf16) (g : Vec Ideal S1x128 .f32) (r : Fin 512) (l : Fin 128) :
    k0_pay2 x g (ix2 r l) = normed 0x43000000#32 (fun j => x (ix2 r j)) (fun j => g (ix2 0 j)) l := by
  unfold k0_pay2 normed
  pointwise

theorem read0 (c : Dev nD) (t : Fin cfg0.N) (X : FVec Ideal S4096x5760 .bf16) (hX : V m c main_v3 = X) (r : Fin 512) (l : Fin 256) :
    X0_0 m c t (ix2 r l) = X (ix2 (row t r) ⟨5120 + l.val, by omega⟩) := by
  subst hX
  unfold X0_0 Pipeline.Window.fill
  rw [dif_pos (moved0_0 t _)]
  blk_ext [iblk, index0 t, row]

theorem read1 (c : Dev nD) (t : Fin cfg0.N) (X : FVec Ideal S4096x5760 .bf16) (hX : V m c main_v3 = X) (r : Fin 512) (l : Fin 128) :
    iblk m c 1 t (ix2 r l) = X (ix2 (row t r) ⟨5376 + l.val, by omega⟩) := by
  subst hX
  blk_ext [iblk, index1 t, row]

theorem read2 (c : Dev nD) (t : Fin cfg0.N) (X : FVec Ideal S1x256 .f32) (hX : V m c main_arg2 = X) (l : Fin 256) :
    iblk m c 2 t (ix2 0 l) = X (ix2 0 l) := by
  subst hX
  blk_ext [iblk, index2 t]

theorem read3 (c : Dev nD) (t : Fin cfg0.N) (X : FVec Ideal S1x128 .f32) (hX : V m c main_arg3 = X) (l : Fin 128) :
    iblk m c 3 t (ix2 0 l) = X (ix2 0 l) := by
  subst hX
  blk_ext [iblk, index3 t]

/-- The first latent the call leaves. -/
theorem final4 (c : Dev nD) (X : FVec Ideal S2x2048x256 .f32) (Y : FVec Ideal S2x2048x128 .f32) (G : FVec Ideal S1x256 .f32)
    (hX : V m c main_v3 = placed X Y) (hG : V m c main_arg2 = G) :
    (dats m 0 c).arrAt 4 cfg0.N = (lat 0x43800000#32 X G : FVec Ideal S4096x256 .bf16) := by
  refine (dats m 0 c).arrAt_eq_of_covers 4 _ (by decide +kernel) fun t hf y => ?_
  blk_simp
  rw [after0_4]
  unfold outsAt0
  frame_out
  obtain ⟨r, l, rfl⟩ : ∃ (r : Fin 512) (l : Fin 256), y = (ix2 r l : S512x256.Idx) := ⟨_, _, ix_eta y⟩
  rw [payload1]
  simp only [read0 m c t _ hX, read2 m c t _ hG, placed_first]
  have hy : lat 0x43800000#32 X G (((cfg0.win 4).blk t).view.emb (ix2 r l)) = lat 0x43800000#32 X G (ix2 (row t r) l) := by
    blk_ext [index4 t, row]
  exact hy.symm

/-- The second latent the call leaves. -/
theorem final5 (c : Dev nD) (X : FVec Ideal S2x2048x256 .f32) (Y : FVec Ideal S2x2048x128 .f32) (G : FVec Ideal S1x128 .f32)
    (hX : V m c main_v3 = placed X Y) (hG : V m c main_arg3 = G) :
    (dats m 0 c).arrAt 5 cfg0.N = (lat 0x43000000#32 Y G : FVec Ideal S4096x128 .bf16) := by
  refine (dats m 0 c).arrAt_eq_of_covers 5 _ (by decide +kernel) fun t hf y => ?_
  blk_simp
  rw [after0_5]
  unfold outsAt0
  frame_out
  obtain ⟨r, l, rfl⟩ : ∃ (r : Fin 512) (l : Fin 128), y = (ix2 r l : S512x128.Idx) := ⟨_, _, ix_eta y⟩
  rw [payload2]
  simp only [read1 m c t _ hX, read3 m c t _ hG, placed_second]
  have hy : lat 0x43000000#32 Y G (((cfg0.win 5).blk t).view.emb (ix2 r l)) = lat 0x43000000#32 Y G (ix2 (row t r) l) := by
    blk_ext [index5 t, row]
  exact hy.symm

end

section

open Cert.LatNormReferenceIdeal Cert.LatNormReferenceIdeal.Gen

/-- The reference's first latent. -/
theorem reference_first (x : FVec Ideal S2x2048x256 .f32) (g : FVec Ideal S1x256 .f32) :
    (truncf .bf16 (shapeCast _ (mulf (mulf x (broadcastInDim S2x2048x256 ![0, 1, 2] bcast_S2x2048x1_S2x2048x256_0_1_2 (Host.rsqrt (addf (Host.divf (broadcastInDim S2x2048x1 ![0, 1] bcast_S2x2048_S2x2048x1_0_1 (Host.reduceAdd (mulf x x) (constant S_ .f32 0x00000000#32) reducesTo_S2x2048x256_S2x2048_d2 h_S_)) (broadcastInDim S2x2048x1 ![] bcast_S_S2x2048x1 (constant S_ .f32 0x43800000#32))) (broadcastInDim S2x2048x1 ![] bcast_S_S2x2048x1 (constant S_ .f32 0x358637BD#32)))))) (broadcastInDim S2x2048x256 ![0, 1, 2] bcast_S1x1x256_S2x2048x256_0_1_2 (broadcastInDim S1x1x256 ![2] bcast_S256_S1x1x256_2 (shapeCast _ g shapeCasts_S1x256_S256)))) shapeCasts_S2x2048x256_S4096x256) bitsLt_bf16_f32 : FVec Ideal S4096x256 .bf16)
      = lat 0x43800000#32 x g := by
  funext i
  obtain ⟨r, l, rfl⟩ : ∃ (r : Fin 4096) (l : Fin 256), i = (ix2 r l : S4096x256.Idx) := ⟨_, _, ix_eta i⟩
  unfold lat mat normed member place
  pointwise [zero]

/-- The reference's second latent. -/
theorem reference_second (x : FVec Ideal S2x2048x128 .f32) (g : FVec Ideal S1x128 .f32) :
    (truncf .bf16 (shapeCast _ (mulf (mulf x (broadcastInDim S2x2048x128 ![0, 1, 2] bcast_S2x2048x1_S2x2048x128_0_1_2 (Host.rsqrt (addf (Host.divf (broadcastInDim S2x2048x1 ![0, 1] bcast_S2x2048_S2x2048x1_0_1 (Host.reduceAdd (mulf x x) (constant S_ .f32 0x00000000#32) reducesTo_S2x2048x128_S2x2048_d2 h_S_)) (broadcastInDim S2x2048x1 ![] bcast_S_S2x2048x1 (constant S_ .f32 0x43000000#32))) (broadcastInDim S2x2048x1 ![] bcast_S_S2x2048x1 (constant S_ .f32 0x358637BD#32)))))) (broadcastInDim S2x2048x128 ![0, 1, 2] bcast_S1x1x128_S2x2048x128_0_1_2 (broadcastInDim S1x1x128 ![2] bcast_S128_S1x1x128_2 (shapeCast _ g shapeCasts_S1x128_S128)))) shapeCasts_S2x2048x128_S4096x128) bitsLt_bf16_f32 : FVec Ideal S4096x128 .bf16)
      = lat 0x43000000#32 x g := by
  funext i
  obtain ⟨r, l, rfl⟩ : ∃ (r : Fin 4096) (l : Fin 128), i = (ix2 r l : S4096x128.Idx) := ⟨_, _, ix_eta i⟩
  unfold lat mat normed member place
  pointwise [zero]

end

open Cert.LatNormIdeal Cert.LatNormIdeal.Gen

theorem frame : Cert.quiescent_LatNorm := fun m ρ _ => Cert.LatNorm.Gen.frame m ρ
theorem frame_ideal : Cert.quiescent_LatNormIdeal := fun m ρ _ => Cert.LatNormIdeal.Gen.frame m ρ
theorem frame_reference : Cert.quiescent_LatNormReferenceIdeal := fun m ρ _ =>
  (θ_run Cert.LatNormReferenceIdeal.defs _ _).mono (fun r h => ⟨fun c => (h c).2.2, sem_eq_zero_of_no_sems (by decide) r.2⟩)
    (Cert.LatNormReferenceIdeal.Value.run (F := Ideal) m ρ)

/-- The call and the reference end with the same two latents. -/
theorem algebraic : Cert.algebraic_LatNormIdeal_LatNormReferenceIdeal := by
  intro m g m' g' _ hagree
  refine ⟨fun c : Dev nD => lat 0x43800000#32 (m ((c.tc : Thread nD τ).loc main_arg0)) (m ((c.tc : Thread nD τ).loc main_arg2)),
    fun c : Dev nD => lat 0x43000000#32 (m ((c.tc : Thread nD τ).loc main_arg1)) (m ((c.tc : Thread nD τ).loc main_arg3)), ?_, ?_⟩
  · exact (θ_run Cert.LatNormIdeal.defs _ _).mono
      (fun r h c => ⟨(h c).1.trans (final4 m c _ _ _ (entry m c) (V_main_arg2 m c)), (h c).2.1.trans (final5 m c _ _ _ (entry m c) (V_main_arg3 m c)), (h c).2.2⟩)
      (Cert.LatNormIdeal.Value.run_blocks m g)
  · refine (θ_run Cert.LatNormReferenceIdeal.defs _ _).mono (fun r h c => ?_) (Cert.LatNormReferenceIdeal.Value.run m' g')
    beta_reduce
    rw [← (hagree c).1, ← (hagree c).2.1, ← (hagree c).2.2.1, ← (hagree c).2.2.2]
    exact ⟨(h c).1.trans (reference_first _ _), (h c).2.1.trans (reference_second _ _), (h c).2.2⟩

end Cert.Proof.LatNorm

end
-- ==== Proof.Adam.lean ====
/- The optimiser's step over the extended reals: the two moments and the change of one weight. -/
module

public import proofs.«01_k».proof.Proof.Products
public import Idealize.ShloMosaic.PureOps.Ideal
public import Idealize.ShloMosaic.Lib.Pointwise

@[expose] public section

noncomputable section

namespace Cert.Proof.Adam

open Idealize.ShloMosaic

/-- The first moment, of the old one and the gradient. -/
def first (m g : EReal) : EReal := Ideal.ofBits .f32 0x3F666666#32 * m + Ideal.ofBits .f32 0x3DCCCCCD#32 * g

/-- The second moment, of the old one and the gradient. -/
def second (v g : EReal) : EReal := Ideal.ofBits .f32 0x3F7FBE77#32 * v + Ideal.ofBits .f32 0x3A83126F#32 * (g * g)

/-- The change of the weight: the first moment over the root of the second, both corrected for the step, and the decay. -/
def delta (w g m v : EReal) : EReal :=
  Ideal.ofBits .f32 0xBA83126F#32 * (Ideal.div (Ideal.div (first m g) (Ideal.ofBits .f32 0x3F26BD02#32))
    (Ideal.sqrt (Ideal.div (second v g) (Ideal.ofBits .f32 0x3C231ACC#32)) + Ideal.ofBits .f32 0x322BCC77#32)
      + Ideal.ofBits .f32 0x3C23D70A#32 * w)

variable {R C : ℕ}

/-- The three arrays, entry by entry. -/
def deltas (w g m v : (⟨2, ![R, C]⟩ : Shape).Idx → EReal) : (⟨2, ![R, C]⟩ : Shape).Idx → EReal :=
  Products.mat fun r l => delta (w (ix2 r l)) (g (ix2 r l)) (m (ix2 r l)) (v (ix2 r l))
def firsts (g m : (⟨2, ![R, C]⟩ : Shape).Idx → EReal) : (⟨2, ![R, C]⟩ : Shape).Idx → EReal :=
  Products.mat fun r l => first (m (ix2 r l)) (g (ix2 r l))
def seconds (g v : (⟨2, ![R, C]⟩ : Shape).Idx → EReal) : (⟨2, ![R, C]⟩ : Shape).Idx → EReal :=
  Products.mat fun r l => second (v (ix2 r l)) (g (ix2 r l))

end Cert.Proof.Adam

end
-- ==== Proof.AdamwWAda.lean ====
/- The call `adamw_w_ada`: the optimiser's step on the shard of the conditioning's weights. -/
module

public import proofs.«01_k».proof.Defs
public import proofs.«01_k».proof.Proof.Adam
public import proofs.«01_k».proof.Proof.Gen.AdamwWAdaIdeal.Value
public import proofs.«01_k».proof.Proof.Gen.AdamwWAdaReferenceIdeal.Run
public import proofs.«01_k».proof.Proof.Gen.AdamwWAda.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.AdamwWAda

open Idealize.ShloMosaic Idealize.ShloMosaic.TcCoe Idealize.SL.Sem Products Adam

section

open Cert.AdamwWAdaIdeal Cert.AdamwWAdaIdeal.Gen

variable (m : (ℓ : Loc nD τ sig) → Buf (Elt Ideal) ℓ)

theorem index0 : ∀ t : Fin cfg0.N, win0_0.index t = ![(grid0.coords t 0).val, 0] := by decide +kernel
theorem index1 : ∀ t : Fin cfg0.N, win0_1.index t = ![(grid0.coords t 0).val, 0] := by decide +kernel
theorem index2 : ∀ t : Fin cfg0.N, win0_2.index t = ![(grid0.coords t 0).val, 0] := by decide +kernel
theorem index3 : ∀ t : Fin cfg0.N, win0_3.index t = ![(grid0.coords t 0).val, 0] := by decide +kernel
theorem index4 : ∀ t : Fin cfg0.N, win0_4.index t = ![(grid0.coords t 0).val, 0] := by decide +kernel
theorem index5 : ∀ t : Fin cfg0.N, win0_5.index t = ![(grid0.coords t 0).val, 0] := by decide +kernel
theorem index6 : ∀ t : Fin cfg0.N, win0_6.index t = ![(grid0.coords t 0).val, 0] := by decide +kernel

/-- The row of one point's block. -/
def row (t : Fin cfg0.N) (r : Fin 256) : Fin 1024 :=
  ⟨(grid0.coords t 0).val * 256 + r.val, by have h := (grid0.coords t 0).isLt; have h' : (grid0.coords t 0).val < 4 := h; omega⟩

theorem payload4 (w g m v : Vec Ideal S256x1536 .f32) (r : Fin 256) (l : Fin 1536) :
    out0_4 (F := Ideal) w g m v (ix2 r l) = delta (w (ix2 r l)) (g (ix2 r l)) (m (ix2 r l)) (v (ix2 r l)) := by
  unfold out0_4
  frame_out
  unfold k0_pay3 k0_pay2 k0_pay1 delta first second
  pointwise

theorem payload5 (w g m v : Vec Ideal S256x1536 .f32) (r : Fin 256) (l : Fin 1536) :
    out0_5 (F := Ideal) w g m v (ix2 r l) = first (m (ix2 r l)) (g (ix2 r l)) := by
  unfold out0_5
  frame_out
  unfold k0_pay1 first
  pointwise

theorem payload6 (w g m v : Vec Ideal S256x1536 .f32) (r : Fin 256) (l : Fin 1536) :
    out0_6 (F := Ideal) w g m v (ix2 r l) = second (v (ix2 r l)) (g (ix2 r l)) := by
  unfold out0_6
  frame_out
  unfold k0_pay2 second
  pointwise

theorem read0 (c : Dev nD) (t : Fin cfg0.N) (X : FVec Ideal S1024x1536 .f32) (hX : V m c main_arg0 = X) (r : Fin 256) (l : Fin 1536) :
    iblk m c 0 t (ix2 r l) = X (ix2 (row t r) l) := by
  subst hX
  blk_ext [iblk, index0 t, row]

theorem read1 (c : Dev nD) (t : Fin cfg0.N) (X : FVec Ideal S1024x1536 .f32) (hX : V m c main_arg1 = X) (r : Fin 256) (l : Fin 1536) :
    iblk m c 1 t (ix2 r l) = X (ix2 (row t r) l) := by
  subst hX
  blk_ext [iblk, index1 t, row]

theorem read2 (c : Dev nD) (t : Fin cfg0.N) (X : FVec Ideal S1024x1536 .f32) (hX : V m c main_arg2 = X) (r : Fin 256) (l : Fin 1536) :
    iblk m c 2 t (ix2 r l) = X (ix2 (row t r) l) := by
  subst hX
  blk_ext [iblk, index2 t, row]

theorem read3 (c : Dev nD) (t : Fin cfg0.N) (X : FVec Ideal S1024x1536 .f32) (hX : V m c main_arg3 = X) (r : Fin 256) (l : Fin 1536) :
    iblk m c 3 t (ix2 r l) = X (ix2 (row t r) l) := by
  subst hX
  blk_ext [iblk, index3 t, row]

theorem final4 (c : Dev nD) (W G P Q : FVec Ideal S1024x1536 .f32) (hW : V m c main_arg0 = W) (hG : V m c main_arg1 = G) (hP : V m c main_arg2 = P) (hQ : V m c main_arg3 = Q) :
    (dats m 0 c).arrAt 4 cfg0.N = (deltas W G P Q : FVec Ideal S1024x1536 .f32) := by
  refine (dats m 0 c).arrAt_eq_of_covers 4 _ (by decide +kernel) fun t hf y => ?_
  blk_simp
  rw [after0_4]
  obtain ⟨r, l, rfl⟩ : ∃ (r : Fin 256) (l : Fin 1536), y = (ix2 r l : S256x1536.Idx) := ⟨_, _, ix_eta y⟩
  rw [payload4, read0 m c t _ hW, read1 m c t _ hG, read2 m c t _ hP, read3 m c t _ hQ]
  have hy : deltas W G P Q (((cfg0.win 4).blk t).view.emb (ix2 r l)) = deltas W G P Q (ix2 (row t r) l) := by
    blk_ext [index4 t, row]
  exact hy.symm

theorem final5 (c : Dev nD) (G P : FVec Ideal S1024x1536 .f32) (hG : V m c main_arg1 = G) (hP : V m c main_arg2 = P) :
    (dats m 0 c).arrAt 5 cfg0.N = (firsts G P : FVec Ideal S1024x1536 .f32) := by
  refine (dats m 0 c).arrAt_eq_of_covers 5 _ (by decide +kernel) fun t hf y => ?_
  blk_simp
  rw [after0_5]
  obtain ⟨r, l, rfl⟩ : ∃ (r : Fin 256) (l : Fin 1536), y = (ix2 r l : S256x1536.Idx) := ⟨_, _, ix_eta y⟩
  rw [payload5, read1 m c t _ hG, read2 m c t _ hP]
  have hy : firsts G P (((cfg0.win 5).blk t).view.emb (ix2 r l)) = firsts G P (ix2 (row t r) l) := by
    blk_ext [index5 t, row]
  exact hy.symm

theorem final6 (c : Dev nD) (G Q : FVec Ideal S1024x1536 .f32) (hG : V m c main_arg1 = G) (hQ : V m c main_arg3 = Q) :
    (dats m 0 c).arrAt 6 cfg0.N = (seconds G Q : FVec Ideal S1024x1536 .f32) := by
  refine (dats m 0 c).arrAt_eq_of_covers 6 _ (by decide +kernel) fun t hf y => ?_
  blk_simp
  rw [after0_6]
  obtain ⟨r, l, rfl⟩ : ∃ (r : Fin 256) (l : Fin 1536), y = (ix2 r l : S256x1536.Idx) := ⟨_, _, ix_eta y⟩
  rw [payload6, read1 m c t _ hG, read3 m c t _ hQ]
  have hy : seconds G Q (((cfg0.win 6).blk t).view.emb (ix2 r l)) = seconds G Q (ix2 (row t r) l) := by
    blk_ext [index6 t, row]
  exact hy.symm

end

section

open Cert.AdamwWAdaReferenceIdeal Cert.AdamwWAdaReferenceIdeal.Gen

theorem reference4 (w g m v : FVec Ideal S1024x1536 .f32) :
    (mulf (broadcastInDim S1024x1536 ![] bcast_S_S1024x1536 (constant S_ .f32 0xBA83126F#32)) (addf (Host.divf (Host.divf (addf (mulf (broadcastInDim S1024x1536 ![] bcast_S_S1024x1536 (constant S_ .f32 0x3F666666#32)) m) (mulf (broadcastInDim S1024x1536 ![] bcast_S_S1024x1536 (constant S_ .f32 0x3DCCCCCD#32)) g)) (broadcastInDim S1024x1536 ![] bcast_S_S1024x1536 (constant S_ .f32 0x3F26BD02#32))) (addf (Host.sqrt (Host.divf (addf (mulf (broadcastInDim S1024x1536 ![] bcast_S_S1024x1536 (constant S_ .f32 0x3F7FBE77#32)) v) (mulf (broadcastInDim S1024x1536 ![] bcast_S_S1024x1536 (constant S_ .f32 0x3A83126F#32)) (mulf g g))) (broadcastInDim S1024x1536 ![] bcast_S_S1024x1536 (constant S_ .f32 0x3C231ACC#32)))) (broadcastInDim S1024x1536 ![] bcast_S_S1024x1536 (constant S_ .f32 0x322BCC77#32)))) (mulf (broadcastInDim S1024x1536 ![] bcast_S_S1024x1536 (constant S_ .f32 0x3C23D70A#32)) w)) : FVec Ideal S1024x1536 .f32)
      = deltas w g m v := by
  funext i
  obtain ⟨r, l, rfl⟩ : ∃ (r : Fin 1024) (l : Fin 1536), i = (ix2 r l : S1024x1536.Idx) := ⟨_, _, ix_eta i⟩
  unfold deltas mat delta first second
  pointwise

theorem reference5 (g m : FVec Ideal S1024x1536 .f32) :
    (addf (mulf (broadcastInDim S1024x1536 ![] bcast_S_S1024x1536 (constant S_ .f32 0x3F666666#32)) m) (mulf (broadcastInDim S1024x1536 ![] bcast_S_S1024x1536 (constant S_ .f32 0x3DCCCCCD#32)) g) : FVec Ideal S1024x1536 .f32)
      = firsts g m := by
  funext i
  obtain ⟨r, l, rfl⟩ : ∃ (r : Fin 1024) (l : Fin 1536), i = (ix2 r l : S1024x1536.Idx) := ⟨_, _, ix_eta i⟩
  unfold firsts mat first
  pointwise

theorem reference6 (g v : FVec Ideal S1024x1536 .f32) :
    (addf (mulf (broadcastInDim S1024x1536 ![] bcast_S_S1024x1536 (constant S_ .f32 0x3F7FBE77#32)) v) (mulf (broadcastInDim S1024x1536 ![] bcast_S_S1024x1536 (constant S_ .f32 0x3A83126F#32)) (mulf g g)) : FVec Ideal S1024x1536 .f32)
      = seconds g v := by
  funext i
  obtain ⟨r, l, rfl⟩ : ∃ (r : Fin 1024) (l : Fin 1536), i = (ix2 r l : S1024x1536.Idx) := ⟨_, _, ix_eta i⟩
  unfold seconds mat second
  pointwise

end

open Cert.AdamwWAdaIdeal Cert.AdamwWAdaIdeal.Gen

theorem frame : Cert.quiescent_AdamwWAda := fun m ρ _ => Cert.AdamwWAda.Gen.frame m ρ
theorem frame_ideal : Cert.quiescent_AdamwWAdaIdeal := fun m ρ _ => Cert.AdamwWAdaIdeal.Gen.frame m ρ
theorem frame_reference : Cert.quiescent_AdamwWAdaReferenceIdeal := fun m ρ _ =>
  (θ_run Cert.AdamwWAdaReferenceIdeal.defs _ _).mono (fun r h => ⟨fun c => (h c).2.2.2, sem_eq_zero_of_no_sems (by decide) r.2⟩)
    (Cert.AdamwWAdaReferenceIdeal.Value.run (F := Ideal) m ρ)

/-- The call and the reference end with the same three arrays. -/
theorem algebraic : Cert.algebraic_AdamwWAdaIdeal_AdamwWAdaReferenceIdeal := by
  intro m g m' g' _ hagree
  refine ⟨fun c : Dev nD => deltas (m ((c.tc : Thread nD τ).loc main_arg0)) (m ((c.tc : Thread nD τ).loc main_arg1)) (m ((c.tc : Thread nD τ).loc main_arg2)) (m ((c.tc : Thread nD τ).loc main_arg3)),
    fun c : Dev nD => firsts (m ((c.tc : Thread nD τ).loc main_arg1)) (m ((c.tc : Thread nD τ).loc main_arg2)),
    fun c : Dev nD => seconds (m ((c.tc : Thread nD τ).loc main_arg1)) (m ((c.tc : Thread nD τ).loc main_arg3)), ?_, ?_⟩
  · exact (θ_run Cert.AdamwWAdaIdeal.defs _ _).mono
      (fun r h c => ⟨(h c).1.trans (final4 m c _ _ _ _ (V_main_arg0 m c) (V_main_arg1 m c) (V_main_arg2 m c) (V_main_arg3 m c)), (h c).2.1.trans (final5 m c _ _ (V_main_arg1 m c) (V_main_arg2 m c)),
        (h c).2.2.1.trans (final6 m c _ _ (V_main_arg1 m c) (V_main_arg3 m c)), (h c).2.2.2⟩) (Cert.AdamwWAdaIdeal.Value.run_blocks m g)
  · refine (θ_run Cert.AdamwWAdaReferenceIdeal.defs _ _).mono (fun r h c => ?_) (Cert.AdamwWAdaReferenceIdeal.Value.run m' g')
    beta_reduce
    rw [← (hagree c).1, ← (hagree c).2.1, ← (hagree c).2.2.1, ← (hagree c).2.2.2]
    exact ⟨(h c).1.trans (reference4 _ _ _ _), (h c).2.1.trans (reference5 _ _), (h c).2.2.1.trans (reference6 _ _), (h c).2.2.2⟩

end Cert.Proof.AdamwWAda

end
-- ==== Proof.AdamwWIn.lean ====
/- The call `adamw_w_in`: the optimiser's step on the shard of the first projection's weights, the other way round. -/
module

public import proofs.«01_k».proof.Defs
public import proofs.«01_k».proof.Proof.Adam
public import proofs.«01_k».proof.Proof.Gen.AdamwWInIdeal.Value
public import proofs.«01_k».proof.Proof.Gen.AdamwWInReferenceIdeal.Run
public import proofs.«01_k».proof.Proof.Gen.AdamwWIn.Frame
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Proof.AdamwWIn

open Idealize.ShloMosaic Idealize.ShloMosaic.TcCoe Idealize.SL.Sem Products Adam

section

open Cert.AdamwWInIdeal Cert.AdamwWInIdeal.Gen

variable (m : (ℓ : Loc nD τ sig) → Buf (Elt Ideal) ℓ)

/-- The array the other way round. -/
def turned (x : FVec Ideal S1024x1388 .f32) : FVec Ideal S1388x1024 .f32 := transpose S1388x1024 [1, 0] x transposes_S1024x1388_S1388x1024_1_0

theorem entry0 (c : Dev nD) : V m c main_v0 = turned (m ((c : Thread nD τ).loc main_arg0)) := by
  unfold V
  after_reads_simp
  rfl

theorem entry1 (c : Dev nD) : V m c main_v1 = turned (m ((c : Thread nD τ).loc main_arg1)) := by
  unfold V
  after_reads_simp
  rfl

theorem entry2 (c : Dev nD) : V m c main_v2 = turned (m ((c : Thread nD τ).loc main_arg2)) := by
  unfold V
  after_reads_simp
  rfl

theorem entry3 (c : Dev nD) : V m c main_v3 = turned (m ((c : Thread nD τ).loc main_arg3)) := by
  unfold V
  after_reads_simp
  rfl

theorem index0 : ∀ t : Fin cfg0.N, win0_0.index t = ![0, (grid0.coords t 0).val] := by decide +kernel
theorem index1 : ∀ t : Fin cfg0.N, win0_1.index t = ![0, (grid0.coords t 0).val] := by decide +kernel
theorem index2 : ∀ t : Fin cfg0.N, win0_2.index t = ![0, (grid0.coords t 0).val] := by decide +kernel
theorem index3 : ∀ t : Fin cfg0.N, win0_3.index t = ![0, (grid0.coords t 0).val] := by decide +kernel
theorem index4 : ∀ t : Fin cfg0.N, win0_4.index t = ![0, (grid0.coords t 0).val] := by decide +kernel
theorem index5 : ∀ t : Fin cfg0.N, win0_5.index t = ![0, (grid0.coords t 0).val] := by decide +kernel
theorem index6 : ∀ t : Fin cfg0.N, win0_6.index t = ![0, (grid0.coords t 0).val] := by decide +kernel

/-- The column of one point's block. -/
def col (t : Fin cfg0.N) (l : Fin 128) : Fin 1024 :=
  ⟨(grid0.coords t 0).val * 128 + l.val, by have h := (grid0.coords t 0).isLt; have h' : (grid0.coords t 0).val < 8 := h; omega⟩

theorem payload4 (w g m v : Vec Ideal S1388x128 .f32) (r : Fin 1388) (l : Fin 128) :
    out0_4 (F := Ideal) w g m v (ix2 r l) = delta (w (ix2 r l)) (g (ix2 r l)) (m (ix2 r l)) (v (ix2 r l)) := by
  unfold out0_4
  frame_out
  unfold k0_pay4 k0_pay3 k0_pay2 k0_pay1 delta first second
  pointwise

theorem payload5 (w g m v : Vec Ideal S1388x128 .f32) (r : Fin 1388) (l : Fin 128) :
    out0_5 (F := Ideal) w g m v (ix2 r l) = first (m (ix2 r l)) (g (ix2 r l)) := by
  unfold out0_5
  frame_out
  unfold k0_pay2 k0_pay1 first
  pointwise

theorem payload6 (w g m v : Vec Ideal S1388x128 .f32) (r : Fin 1388) (l : Fin 128) :
    out0_6 (F := Ideal) w g m v (ix2 r l) = second (v (ix2 r l)) (g (ix2 r l)) := by
  unfold out0_6
  frame_out
  unfold k0_pay3 k0_pay1 second
  pointwise

theorem read0 (c : Dev nD) (t : Fin cfg0.N) (X : FVec Ideal S1388x1024 .f32) (hX : V m c main_v0 = X) (r : Fin 1388) (l : Fin 128) :
    iblk m c 0 t (ix2 r l) = X (ix2 r (col t l)) := by
  subst hX
  blk_ext [iblk, index0 t, col]

theorem read1 (c : Dev nD) (t : Fin cfg0.N) (X : FVec Ideal S1388x1024 .f32) (hX : V m c main_v1 = X) (r : Fin 1388) (l : Fin 128) :
    iblk m c 1 t (ix2 r l) = X (ix2 r (col t l)) := by
  subst hX
  blk_ext [iblk, index1 t, col]

theorem read2 (c : Dev nD) (t : Fin cfg0.N) (X : FVec Ideal S1388x1024 .f32) (hX : V m c main_v2 = X) (r : Fin 1388) (l : Fin 128) :
    iblk m c 2 t (ix2 r l) = X (ix2 r (col t l)) := by
  subst hX
  blk_ext [iblk, index2 t, col]

theorem read3 (c : Dev nD) (t : Fin cfg0.N) (X : FVec Ideal S1388x1024 .f32) (hX : V m c main_v3 = X) (r : Fin 1388) (l : Fin 128) :
    iblk m c 3 t (ix2 r l) = X (ix2 r (col t l)) := by
  subst hX
  blk_ext [iblk, index3 t, col]

theorem final4 (c : Dev nD) (W G P Q : FVec Ideal S1388x1024 .f32) (hW : V m c main_v0 = W) (hG : V m c main_v1 = G) (hP : V m c main_v2 = P) (hQ : V m c main_v3 = Q) :
    (dats m 0 c).arrAt 4 cfg0.N = (deltas W G P Q : FVec Ideal S1388x1024 .f32) := by
  refine (dats m 0 c).arrAt_eq_of_covers 4 _ (by decide +kernel) fun t hf y => ?_
  blk_simp
  rw [after0_4]
  obtain ⟨r, l, rfl⟩ : ∃ (r : Fin 1388) (l : Fin 128), y = (ix2 r l : S1388x128.Idx) := ⟨_, _, ix_eta y⟩
  rw [payload4, read0 m c t _ hW, read1 m c t _ hG, read2 m c t _ hP, read3 m c t _ hQ]
  have hy : deltas W G P Q (((cfg0.win 4).blk t).view.emb (ix2 r l)) = deltas W G P Q (ix2 r (col t l)) := by
    blk_ext [index4 t, col]
  exact hy.symm

theorem final5 (c : Dev nD) (G P : FVec Ideal S1388x1024 .f32) (hG : V m c main_v1 = G) (hP : V m c main_v2 = P) :
    (dats m 0 c).arrAt 5 cfg0.N = (firsts G P : FVec Ideal S1388x1024 .f32) := by
  refine (dats m 0 c).arrAt_eq_of_covers 5 _ (by decide +kernel) fun t hf y => ?_
  blk_simp
  rw [after0_5]
  obtain ⟨r, l, rfl⟩ : ∃ (r : Fin 1388) (l : Fin 128), y = (ix2 r l : S1388x128.Idx) := ⟨_, _, ix_eta y⟩
  rw [payload5, read1 m c t _ hG, read2 m c t _ hP]
  have hy : firsts G P (((cfg0.win 5).blk t).view.emb (ix2 r l)) = firsts G P (ix2 r (col t l)) := by
    blk_ext [index5 t, col]
  exact hy.symm

theorem final6 (c : Dev nD) (G Q : FVec Ideal S1388x1024 .f32) (hG : V m c main_v1 = G) (hQ : V m c main_v3 = Q) :
    (dats m 0 c).arrAt 6 cfg0.N = (seconds G Q : FVec Ideal S1388x1024 .f32) := by
  refine (dats m 0 c).arrAt_eq_of_covers 6 _ (by decide +kernel) fun t hf y => ?_
  blk_simp
  rw [after0_6]
  obtain ⟨r, l, rfl⟩ : ∃ (r : Fin 1388) (l : Fin 128), y = (ix2 r l : S1388x128.Idx) := ⟨_, _, ix_eta y⟩
  rw [payload6, read1 m c t _ hG, read3 m c t _ hQ]
  have hy : seconds G Q (((cfg0.win 6).blk t).view.emb (ix2 r l)) = seconds G Q (ix2 r (col t l)) := by
    blk_ext [index6 t, col]
  exact hy.symm

end

section

open Cert.AdamwWInReferenceIdeal Cert.AdamwWInReferenceIdeal.Gen

theorem reference4 (w g m v : FVec Ideal S1024x1388 .f32) :
    (transpose S1388x1024 [1, 0] (mulf (broadcastInDim S1024x1388 ![] bcast_S_S1024x1388 (constant S_ .f32 0xBA83126F#32)) (addf (Host.divf (Host.divf (addf (mulf (broadcastInDim S1024x1388 ![] bcast_S_S1024x1388 (constant S_ .f32 0x3F666666#32)) m) (mulf (broadcastInDim S1024x1388 ![] bcast_S_S1024x1388 (constant S_ .f32 0x3DCCCCCD#32)) g)) (broadcastInDim S1024x1388 ![] bcast_S_S1024x1388 (constant S_ .f32 0x3F26BD02#32))) (addf (Host.sqrt (Host.divf (addf (mulf (broadcastInDim S1024x1388 ![] bcast_S_S1024x1388 (constant S_ .f32 0x3F7FBE77#32)) v) (mulf (broadcastInDim S1024x1388 ![] bcast_S_S1024x1388 (constant S_ .f32 0x3A83126F#32)) (mulf g g))) (broadcastInDim S1024x1388 ![] bcast_S_S1024x1388 (constant S_ .f32 0x3C231ACC#32)))) (broadcastInDim S1024x1388 ![] bcast_S_S1024x1388 (constant S_ .f32 0x322BCC77#32)))) (mulf (broadcastInDim S1024x1388 ![] bcast_S_S1024x1388 (constant S_ .f32 0x3C23D70A#32)) w))) transposes_S1024x1388_S1388x1024_1_0 : FVec Ideal S1388x1024 .f32)
      = deltas (Cert.Proof.AdamwWIn.turned w) (Cert.Proof.AdamwWIn.turned g) (Cert.Proof.AdamwWIn.turned m) (Cert.Proof.AdamwWIn.turned v) := by
  funext i
  obtain ⟨r, l, rfl⟩ : ∃ (r : Fin 1388) (l : Fin 1024), i = (ix2 r l : S1388x1024.Idx) := ⟨_, _, ix_eta i⟩
  unfold deltas mat delta first second turned
  pointwise

theorem reference5 (g m : FVec Ideal S1024x1388 .f32) :
    (transpose S1388x1024 [1, 0] (addf (mulf (broadcastInDim S1024x1388 ![] bcast_S_S1024x1388 (constant S_ .f32 0x3F666666#32)) m) (mulf (broadcastInDim S1024x1388 ![] bcast_S_S1024x1388 (constant S_ .f32 0x3DCCCCCD#32)) g)) transposes_S1024x1388_S1388x1024_1_0 : FVec Ideal S1388x1024 .f32)
      = firsts (Cert.Proof.AdamwWIn.turned g) (Cert.Proof.AdamwWIn.turned m) := by
  funext i
  obtain ⟨r, l, rfl⟩ : ∃ (r : Fin 1388) (l : Fin 1024), i = (ix2 r l : S1388x1024.Idx) := ⟨_, _, ix_eta i⟩
  unfold firsts mat first turned
  pointwise

theorem reference6 (g v : FVec Ideal S1024x1388 .f32) :
    (transpose S1388x1024 [1, 0] (addf (mulf (broadcastInDim S1024x1388 ![] bcast_S_S1024x1388 (constant S_ .f32 0x3F7FBE77#32)) v) (mulf (broadcastInDim S1024x1388 ![] bcast_S_S1024x1388 (constant S_ .f32 0x3A83126F#32)) (mulf g g))) transposes_S1024x1388_S1388x1024_1_0 : FVec Ideal S1388x1024 .f32)
      = seconds (Cert.Proof.AdamwWIn.turned g) (Cert.Proof.AdamwWIn.turned v) := by
  funext i
  obtain ⟨r, l, rfl⟩ : ∃ (r : Fin 1388) (l : Fin 1024), i = (ix2 r l : S1388x1024.Idx) := ⟨_, _, ix_eta i⟩
  unfold seconds mat second turned
  pointwise

end

open Cert.AdamwWInIdeal Cert.AdamwWInIdeal.Gen

theorem frame : Cert.quiescent_AdamwWIn := fun m ρ _ => Cert.AdamwWIn.Gen.frame m ρ
theorem frame_ideal : Cert.quiescent_AdamwWInIdeal := fun m ρ _ => Cert.AdamwWInIdeal.Gen.frame m ρ
theorem frame_reference : Cert.quiescent_AdamwWInReferenceIdeal := fun m ρ _ =>
  (θ_run Cert.AdamwWInReferenceIdeal.defs _ _).mono (fun r h => ⟨fun c => (h c).2.2.2, sem_eq_zero_of_no_sems (by decide) r.2⟩)
    (Cert.AdamwWInReferenceIdeal.Value.run (F := Ideal) m ρ)

/-- The call and the reference end with the same three arrays. -/
theorem algebraic : Cert.algebraic_AdamwWInIdeal_AdamwWInReferenceIdeal := by
  intro m g m' g' _ hagree
  refine ⟨fun c : Dev nD => deltas (turned (m ((c.tc : Thread nD τ).loc main_arg0))) (turned (m ((c.tc : Thread nD τ).loc main_arg1))) (turned (m ((c.tc : Thread nD τ).loc main_arg2))) (turned (m ((c.tc : Thread nD τ).loc main_arg3))),
    fun c : Dev nD => firsts (turned (m ((c.tc : Thread nD τ).loc main_arg1))) (turned (m ((c.tc : Thread nD τ).loc main_arg2))),
    fun c : Dev nD => seconds (turned (m ((c.tc : Thread nD τ).loc main_arg1))) (turned (m ((c.tc : Thread nD τ).loc main_arg3))), ?_, ?_⟩
  · exact (θ_run Cert.AdamwWInIdeal.defs _ _).mono
      (fun r h c => ⟨(h c).1.trans (final4 m c _ _ _ _ (entry0 m c) (entry1 m c) (entry2 m c) (entry3 m c)), (h c).2.1.trans (final5 m c _ _ (entry1 m c) (entry2 m c)),
        (h c).2.2.1.trans (final6 m c _ _ (entry1 m c) (entry3 m c)), (h c).2.2.2⟩) (Cert.AdamwWInIdeal.Value.run_blocks m g)
  · refine (θ_run Cert.AdamwWInReferenceIdeal.defs _ _).mono (fun r h c => ?_) (Cert.AdamwWInReferenceIdeal.Value.run m' g')
    beta_reduce
    rw [← (hagree c).1, ← (hagree c).2.1, ← (hagree c).2.2.1, ← (hagree c).2.2.2]
    exact ⟨(h c).1.trans (reference4 _ _ _ _), (h c).2.1.trans (reference5 _ _), (h c).2.2.1.trans (reference6 _ _), (h c).2.2.2⟩

end Cert.Proof.AdamwWIn

end
-- ==== Proof.AttnFwdBlock.lean ====
/- The attention's forward, block by block: what the kernel stores for 256 query rows, as the operations of Block.lean, and its
   value over the extended reals: the values weighed by a row's weights. -/
module

public import proofs.«01_k».proof.Proof.BlockValue
public import proofs.«01_k».proof.AttnFwdIdeal

@[expose] public section

noncomputable section

namespace Cert.Proof.AttnFwd

open Idealize.ShloMosaic Cert.Proof.Block

/-! ## The operations -/

section

variable {F : FTy → Type} [FloatOps F] [Named F]

/-- The masked scores of a block's own keys, with this program's name for the mask's fill. -/
def maskedScores (q kh : FVec F (Mat 256 128) .bf16) : FVec F (Mat 256 256) .f32 :=
  select kept (against 256 q kh) (broadcast (Mat 256 256) (Named.named Cert.AttnFwdIdeal.κ "mask" 0xF149F2CA#32))

/-- Rows over their sums. -/
def normalized (o : FVec F (Mat 256 128) .f32) (z : FVec F (Mat 256 1) .f32) : FVec F (Mat 256 128) .bf16 :=
  truncf .bf16 (mulf o (spread 128 (recip z))) narrow

/-- What the first block stores, from its own scores and values. -/
def firstRows (s : FVec F (Mat 256 256) .f32) (vh : FVec F (Mat 256 128) .bf16) : FVec F (Mat 256 128) .bf16 :=
  normalized (overKeys 256 (truncf .bf16 (powers 256 s (rowMax 256 s)) narrow) vh) (rowSum 256 (powers 256 s (rowMax 256 s)))

/-- The largest score of a later block's rows: over its own keys and those before. -/
def top (n : ℕ) (s : FVec F (Mat 256 256) .f32) (p : FVec F (Mat 256 n) .f32) : FVec F (Mat 256 1) .f32 :=
  maximumf (rowMax 256 s) (rowMax n p)

/-- What a later block stores, from both groups' scores and values. -/
def laterRows (n : ℕ) (s : FVec F (Mat 256 256) .f32) (p : FVec F (Mat 256 n) .f32) (vh : FVec F (Mat 256 128) .bf16)
    (vb : FVec F (Mat n 128) .bf16) : FVec F (Mat 256 128) .bf16 :=
  normalized (addf (overKeys 256 (truncf .bf16 (powers 256 s (top n s p)) narrow) vh) (overKeys n (truncf .bf16 (powers n p (top n s p)) narrow) vb))
    (addf (rowSum n (powers n p (top n s p))) (rowSum 256 (powers 256 s (top n s p))))

end

/-! ## Their values -/

/-- A row's mean of the values under its weights. -/
def weighed (Q K : Fin 2048 → Fin 128 → ℝ) (V : Fin 2048 → Fin 128 → EReal) (I : Fin 2048) (c : Fin 128) : EReal :=
  ∑ J, V J c * (Head.share Q K I J : EReal)

/-- The name stands for minus infinity here too. -/
theorem named_mask : Named.named (F := Ideal) (φ := .f32) Cert.AttnFwdIdeal.κ "mask" 0xF149F2CA#32 = (⊥ : EReal) :=
  IdealRules.named_const.ideal_named_scalar _ _ _ _ rfl

/-- So the masked scores are those of the gradient's block. -/
theorem maskedScores_eq (q kh : FVec Ideal (Mat 256 128) .bf16) : maskedScores q kh = ownScores q kh :=
  congrArg (fun z : Ideal .f32 => select kept (against 256 q kh) (broadcast (Mat 256 256) z)) (named_mask.trans Consts.named_mask.symm)

variable {n : ℕ} {hn : n + 256 ≤ 2048} {Q K : Fin 2048 → Fin 128 → ℝ} {V D : Fin 2048 → Fin 128 → EReal}
    {q kh vh d : FVec Ideal (Mat 256 128) .bf16} {kb vb : FVec Ideal (Mat n 128) .bf16}

/-- A later block's rows at an index. -/
theorem laterRows_apply (r : Fin 256) (c : Fin 128) : laterRows n (ownScores q kh) (against n q kb) vh vb (ix2 r c)
    = (((∑ j : Fin 256, (Later.own n q kh kb (ix2 r j) : EReal) * vh (ix2 j c)) + ∑ j : Fin n, (Later.past n q kh kb (ix2 r j) : EReal) * vb (ix2 j c))
      * Later.inv n q kh kb (ix2 r 0) : EReal) := by
  show (normalized (addf (overKeys 256 (truncf .bf16 (Later.own n q kh kb) narrow) vh) (overKeys n (truncf .bf16 (Later.past n q kh kb) narrow) vb)) _ (ix2 r c) : EReal) = _
  unfold normalized
  pointwise [spread_apply, overKeys_apply]
  rfl

/-- They are the values under the rows' weights. -/
theorem laterRows_eq (h : Loads n hn Q K V D q kh vh d kb vb) (r : Fin 256) (c : Fin 128) :
    laterRows n (ownScores q kh) (against n q kb) vh vb (ix2 r c) = weighed Q K V (h.here r) c := by
  obtain ⟨M, hM⟩ := h.largest_real r
  rw [laterRows_apply, weighed, ← Head.sum_two_groups n 256 hn _ fun J hJ => by
      rw [Head.share_later Q K (h.chunk_after r J hJ), EReal.coe_zero, mul_zero],
    h.inv_eq hM, EReal.right_distrib_of_nonneg_of_ne_top
      (by exact_mod_cast inv_nonneg.mpr (Head.total_pos _ _ _ _).le) (EReal.coe_ne_top _), ← h.inv_eq hM, h.sum_inv, h.sum_inv, add_comm]
  exact congrArg₂ _ (Finset.sum_congr rfl fun j _ => by rw [mul_right_comm, h.past_inv, h.pastValues, mul_comm])
    (Finset.sum_congr rfl fun j _ => by rw [mul_right_comm, h.own_inv, h.ownValues, mul_comm])

/-- The first block is a later one with no keys before it. -/
theorem firstRows_eq (kb vb : FVec Ideal (Mat 0 128) .bf16) (r : Fin 256) (c : Fin 128) :
    firstRows (ownScores q kh) vh (ix2 r c) = laterRows 0 (ownScores q kh) (against 0 q kb) vh vb (ix2 r c) := by
  rw [laterRows_apply, ← first_own q kh kb, ← first_inv q kh kb, Finset.univ_eq_empty (α := Fin 0), Finset.sum_empty, add_zero]
  show (normalized (overKeys 256 (truncf .bf16 (First.own q kh) narrow) vh) _ (ix2 r c) : EReal) = _
  unfold normalized
  pointwise [spread_apply, overKeys_apply]
  rfl

end Cert.Proof.AttnFwd

end
-- ==== Proof.AttnFwdStores.lean ====
/- The attention's forward for one head: the kernel's eight stores leave, row by row, the values under the rows' weights. -/
module

public import proofs.«01_k».proof.Proof.AttnFwdBlock
public import proofs.«01_k».proof.Proof.HeadValue
public import proofs.«01_k».proof.Proof.Gen.AttnFwdIdeal.Value

@[expose] public section

set_option maxRecDepth 16384

noncomputable section

namespace Cert.Proof.AttnFwd

open Idealize.ShloMosaic Cert.AttnFwdIdeal Cert.AttnFwdIdeal.Gen Cert.Proof.Block Cert.Proof.Stores

/-! ## The stores -/

section

variable {F : FTy → Type} [FloatOps F] [Named F]

/-- The rows a load takes of a block. -/
abbrev piece (x : Vec F S1x2048x128 .bf16) (o n : ℕ) (h : o + n ≤ 2048) : FVec F (Mat n 128) .bf16 := flat n (View.ld x (box o n h))

variable (x0 x1 x2 : Vec F S1x2048x128 .bf16)

/-- The first block's store. -/
def storeFirst : List (View.Piece (Elt F) S1x2048x128 .bf16) :=
  [⟨box 0 256 (by decide), slab 256 (firstRows (maskedScores (piece x0 0 256 (by decide)) (piece x1 0 256 (by decide))) (piece x2 0 256 (by decide)))⟩]

/-- A later block's store. -/
def storeLater (n : ℕ) (h : n + 256 ≤ 2048) (h' : 0 + n ≤ 2048) (L : List (View.Piece (Elt F) S1x2048x128 .bf16)) : List (View.Piece (Elt F) S1x2048x128 .bf16) :=
  ⟨box n 256 h, slab 256 (laterRows n (maskedScores (piece x0 n 256 h) (piece x1 n 256 h)) (against n (piece x0 n 256 h) (piece x1 0 n h'))
    (piece x2 n 256 h) (piece x2 0 n h'))⟩ :: L

/-- All of them. -/
def stores : List (View.Piece (Elt F) S1x2048x128 .bf16) :=
  storeLater x0 x1 x2 1792 (by decide) (by decide) (storeLater x0 x1 x2 1536 (by decide) (by decide)
    (storeLater x0 x1 x2 1280 (by decide) (by decide) (storeLater x0 x1 x2 1024 (by decide) (by decide)
    (storeLater x0 x1 x2 768 (by decide) (by decide) (storeLater x0 x1 x2 512 (by decide) (by decide)
    (storeLater x0 x1 x2 256 (by decide) (by decide) (storeFirst x0 x1 x2)))))))

/-- What the body leaves is what these stores leave. -/
theorem out_stores : out0_3 x0 x1 x2 = View.canon (stores x0 x1 x2) := rfl

end

/-! ## Their value -/

/-- A loaded piece at an index is the block's row. -/
theorem piece_apply (x : Vec Ideal S1x2048x128 .bf16) (o n : ℕ) (h : o + n ≤ 2048) (r : Fin n) (c : Fin 128) :
    piece x o n h (ix2 r c) = x (ix3 0 ⟨o + r.val, by omega⟩ c) := by
  refine (flat_apply n _ r c).trans ?_
  show x ((box o n h).emb (ix3 0 r c)) = _
  rw [box_idx]

/-- The same from the block's first row. -/
theorem piece_front (x : Vec Ideal S1x2048x128 .bf16) (n : ℕ) (h : 0 + n ≤ 2048) (r : Fin n) (c : Fin 128) :
    piece x 0 n h (ix2 r c) = x (ix3 0 ⟨r.val, by omega⟩ c) := by
  rw [piece_apply]
  simp only [Nat.zero_add]

section

variable (n : ℕ) (h : n + 256 ≤ 2048) (w : FVec Ideal (Mat 256 128) .bf16) (L : List (View.Piece (Elt Ideal) Cert.KernelIdeal.S1x2048x128 .bf16))

/-- A store of a block of rows, at a row it does not cover. -/
theorem rows_outside (r : Fin 2048) (c : Fin 128) (hr : ¬ (n ≤ r.val ∧ r.val < n + 256)) :
    View.canon ((⟨box n 256 h, slab 256 w⟩ : View.Piece (Elt Ideal) Cert.KernelIdeal.S1x2048x128 .bf16) :: L) (ix3 0 r c) = View.canon L (ix3 0 r c) :=
  View.canon_cons_of_not_mem _ L (not_mem_box n 256 h r c hr)

/-- The same at a row it covers. -/
theorem rows_covered (r : Fin 256) (c : Fin 128) :
    View.canon ((⟨box n 256 h, slab 256 w⟩ : View.Piece (Elt Ideal) Cert.KernelIdeal.S1x2048x128 .bf16) :: L) (ix3 0 ⟨n + r.val, by omega⟩ c) = w (ix2 r c) := by
  rw [← box_idx n 256 h r c, View.canon_cons_emb, slab_apply]

/-- One store upon others: where the others hold `G` above row `n`, all hold it above row `n + 256`. -/
theorem canon_upon (G : Fin 2048 → Fin 128 → EReal) (hw : ∀ (r : Fin 256) c, w (ix2 r c) = G ⟨n + r.val, by omega⟩ c)
    (hL : ∀ (r : Fin 2048) c, r.val < n → View.canon L (ix3 0 r c) = G r c) (r : Fin 2048) (c : Fin 128) (hr : r.val < n + 256) :
    View.canon ((⟨box n 256 h, slab 256 w⟩ : View.Piece (Elt Ideal) Cert.KernelIdeal.S1x2048x128 .bf16) :: L) (ix3 0 r c) = G r c := by
  by_cases h1 : r.val < n
  · exact (rows_outside n h w L r c (by omega)).trans (hL r c h1)
  · obtain ⟨i, rfl⟩ : ∃ i : Fin 256, r = ⟨n + i.val, (Nat.add_lt_add_left i.isLt n).trans_le h⟩ := ⟨⟨r.val - n, by omega⟩, Fin.ext (by simp; omega)⟩
    exact (rows_covered n h w L i c).trans (hw i c)

end

variable {Q K : Fin 2048 → Fin 128 → ℝ} {V : Fin 2048 → Fin 128 → EReal} {x0 x1 x2 : Vec Ideal S1x2048x128 .bf16}

/-- What the three blocks hold for one head. -/
structure Has (Q K : Fin 2048 → Fin 128 → ℝ) (V : Fin 2048 → Fin 128 → EReal) (x0 x1 x2 : Vec Ideal S1x2048x128 .bf16) : Prop where
  queries : ∀ r l, x0 (ix3 0 r l) = (Q r l : EReal)
  keys : ∀ r l, x1 (ix3 0 r l) = (K r l : EReal)
  values : ∀ r l, x2 (ix3 0 r l) = V r l

/-- What a later block loads. -/
theorem Has.loads (H : Has Q K V x0 x1 x2) (n : ℕ) (h : n + 256 ≤ 2048) (h' : 0 + n ≤ 2048) (ha : 64 ∣ n) :
    Loads n h Q K V V (piece x0 n 256 h) (piece x1 n 256 h) (piece x2 n 256 h) (piece x2 n 256 h) (piece x1 0 n h') (piece x2 0 n h') where
  aligned := ha
  queries r l := (piece_apply x0 n 256 h r l).trans (H.queries _ l)
  ownKeys r l := (piece_apply x1 n 256 h r l).trans (H.keys _ l)
  ownValues r l := (piece_apply x2 n 256 h r l).trans (H.values _ l)
  cotangents r l := (piece_apply x2 n 256 h r l).trans (H.values _ l)
  pastKeys r l := (piece_front x1 n h' r l).trans (H.keys _ l)
  pastValues r l := (piece_front x2 n h' r l).trans (H.values _ l)

/-- A later block's store upon the others. -/
theorem Has.later (H : Has Q K V x0 x1 x2) (n : ℕ) (h : n + 256 ≤ 2048) (h' : 0 + n ≤ 2048) (ha : 64 ∣ n)
    (L : List (View.Piece (Elt Ideal) S1x2048x128 .bf16))
    (hL : ∀ (r : Fin 2048) c, r.val < n → View.canon L (ix3 0 r c) = weighed Q K V r c) (r : Fin 2048) (c : Fin 128) (hr : r.val < n + 256) :
    View.canon (storeLater x0 x1 x2 n h h' L) (ix3 0 r c) = weighed Q K V r c :=
  canon_upon n h _ L (weighed Q K V) (fun r c => by rw [maskedScores_eq]; exact laterRows_eq (H.loads n h h' ha) r c) hL r c hr

/-- The first block's store. -/
theorem Has.first (H : Has Q K V x0 x1 x2) (r : Fin 2048) (c : Fin 128) (hr : r.val < 0 + 256) :
    View.canon (storeFirst x0 x1 x2) (ix3 0 r c) = weighed Q K V r c :=
  canon_upon 0 (by decide) _ [] (weighed Q K V) (fun r c => by
    rw [maskedScores_eq, firstRows_eq (piece x1 0 0 (by decide)) (piece x2 0 0 (by decide))]
    exact laterRows_eq (H.loads 0 (by decide) (by decide) (by decide)) r c) (fun _ _ h => absurd h (Nat.not_lt_zero _)) r c hr

/-- The whole block after the body. -/
theorem Has.out (H : Has Q K V x0 x1 x2) (r : Fin 2048) (c : Fin 128) : out0_3 x0 x1 x2 (ix3 0 r c) = weighed Q K V r c := by
  rw [out_stores]
  exact H.later 1792 _ _ (by decide) _ (H.later 1536 _ _ (by decide) _ (H.later 1280 _ _ (by decide) _ (H.later 1024 _ _ (by decide) _
    (H.later 768 _ _ (by decide) _ (H.later 512 _ _ (by decide) _ (H.later 256 _ _ (by decide) _ H.first)))))) r c r.isLt

end Cert.Proof.AttnFwd

end
-- ==== Proof.AttnFwdValue.lean ====
/- The attention's forward over the whole array: the blocks the call reads, and the result after its last point. -/
module

public import proofs.«01_k».proof.Proof.AttnFwdStores
public import proofs.«01_k».proof.Proof.KernelValue

@[expose] public section

set_option maxRecDepth 16384
set_option maxHeartbeats 400000

noncomputable section

namespace Cert.Proof.AttnFwd

open Idealize.ShloMosaic Cert.AttnFwdIdeal Cert.AttnFwdIdeal.Gen Idealize.ShloMosaic.TcCoe Idealize.SL.Sem
open Entry (lanes96 lanes64 prescaled rows96 rows64 lane prescale realQueries realKeys Finite)

/-! ## The arrays the call takes -/

section

variable {F : FTy → Type} [FloatOps F] [Named F]
variable (m : (ℓ : Loc nD τ sig) → Buf (Elt F) ℓ)

theorem entry_queries (c : Dev nD) : V m c main_v7 = lanes96 (prescaled (m ((c : Thread nD τ).loc main_arg0))) := by
  unfold V
  after_reads_simp
  simp only [StableHlo.TRef.toBuf, StableHlo.TRef.ofBuf, cast_eq]
  rfl

theorem entry_keys (c : Dev nD) : V m c main_v10 = lanes96 (m ((c : Thread nD τ).loc main_arg1)) := by
  unfold V
  after_reads_simp
  simp only [StableHlo.TRef.toBuf, StableHlo.TRef.ofBuf, cast_eq]
  rfl

theorem entry_values (c : Dev nD) : V m c main_v13 = lanes64 (m ((c : Thread nD τ).loc main_arg2)) := by
  unfold V
  after_reads_simp
  simp only [StableHlo.TRef.toBuf, StableHlo.TRef.ofBuf, cast_eq]
  rfl

end

/-! ## The blocks -/

variable (m : (ℓ : Loc nD τ sig) → Buf (Elt Ideal) ℓ)

/-- The sequence and the head of grid point `t`. -/
abbrev seq (t : Fin cfg0.N) : Fin 2 := grid0.coords t 0
abbrev head (t : Fin cfg0.N) : Fin 16 := grid0.coords t 1

/-- Every window's block at a point is the point's head of its sequence. -/
theorem index0 : ∀ t : Fin cfg0.N, win0_0.index t = ![(grid0.coords t 0).val, 0, (grid0.coords t 1).val] := by decide +kernel
theorem index1 : ∀ t : Fin cfg0.N, win0_1.index t = ![(grid0.coords t 0).val, 0, (grid0.coords t 1).val] := by decide +kernel
theorem index2 : ∀ t : Fin cfg0.N, win0_2.index t = ![(grid0.coords t 0).val, 0, (grid0.coords t 1).val] := by decide +kernel
theorem index3 : ∀ t : Fin cfg0.N, win0_3.index t = ![(grid0.coords t 0).val, 0, (grid0.coords t 1).val] := by decide +kernel

theorem place0 (t : Fin cfg0.N) (A : Vec Ideal S2x2048x2048 .bf16) (r : Fin 2048) (l : Fin 128) :
    ((cfg0.win 0).blk t).view.read (Elt Ideal) A (ix3 0 r l) = A (ix3 (seq t) r (lane (head t) l)) := by
  unfold lane
  blk_ext [index0 t]
  rfl
theorem place1 (t : Fin cfg0.N) (A : Vec Ideal S2x2048x2048 .bf16) (r : Fin 2048) (l : Fin 128) :
    ((cfg0.win 1).blk t).view.read (Elt Ideal) A (ix3 0 r l) = A (ix3 (seq t) r (lane (head t) l)) := by
  unfold lane
  blk_ext [index1 t]
  rfl
theorem place2 (t : Fin cfg0.N) (A : Vec Ideal S2x2048x2048 .bf16) (r : Fin 2048) (l : Fin 128) :
    ((cfg0.win 2).blk t).view.read (Elt Ideal) A (ix3 0 r l) = A (ix3 (seq t) r (lane (head t) l)) := by
  unfold lane
  blk_ext [index2 t]
  rfl
theorem place3 (t : Fin cfg0.N) (r : Fin 2048) (l : Fin 128) : (win0_3.blk t).view.emb (ix3 0 r l) = ix3 (seq t) r (lane (head t) l) := by
  unfold lane
  blk_ext [index3 t]
  rfl

theorem array0 (c : Dev nD) (W : (b : Ref sig .tc) → Buf (Elt Ideal) ((c : Thread nD τ).loc b)) : W (Pipeline.arrRef spec0 0) = W main_v7 := rfl
theorem array1 (c : Dev nD) (W : (b : Ref sig .tc) → Buf (Elt Ideal) ((c : Thread nD τ).loc b)) : W (Pipeline.arrRef spec0 1) = W main_v10 := rfl
theorem array2 (c : Dev nD) (W : (b : Ref sig .tc) → Buf (Elt Ideal) ((c : Thread nD τ).loc b)) : W (Pipeline.arrRef spec0 2) = W main_v13 := rfl

theorem block_of0 (c : Dev nD) (t : Fin cfg0.N) (A : Vec Ideal S2x2048x2048 .bf16) (h : V m c (Pipeline.arrRef spec0 0) = A) :
    iblk m c 0 t = ((cfg0.win 0).blk t).view.read (Elt Ideal) A := by
  unfold iblk
  rw [h]
theorem block_of1 (c : Dev nD) (t : Fin cfg0.N) (A : Vec Ideal S2x2048x2048 .bf16) (h : V m c (Pipeline.arrRef spec0 1) = A) :
    iblk m c 1 t = ((cfg0.win 1).blk t).view.read (Elt Ideal) A := by
  unfold iblk
  rw [h]
theorem block_of2 (c : Dev nD) (t : Fin cfg0.N) (A : Vec Ideal S2x2048x2048 .bf16) (h : V m c (Pipeline.arrRef spec0 2) = A) :
    iblk m c 2 t = ((cfg0.win 2).blk t).view.read (Elt Ideal) A := by
  unfold iblk
  rw [h]

/-- Block `t` of the queries, of the keys and of the values. -/
theorem block_queries (c : Dev nD) (t : Fin cfg0.N) (r : Fin 2048) (l : Fin 128) :
    iblk m c 0 t (ix3 0 r l) = (rows96 (m ((c : Thread nD τ).loc main_arg0)) (seq t) (head t) r l * ((prescale⁻¹ : ℝ) : EReal) : EReal) := by
  rw [block_of0 m c t _ ((array0 c (V m c)).trans (entry_queries m c)), place0]
  exact (Entry.lanes96_apply _ _ _ _ _).trans (Entry.rows96_prescaled _ _ _ _ _)
theorem block_keys (c : Dev nD) (t : Fin cfg0.N) (r : Fin 2048) (l : Fin 128) :
    iblk m c 1 t (ix3 0 r l) = (rows96 (m ((c : Thread nD τ).loc main_arg1)) (seq t) (head t) r l : EReal) := by
  rw [block_of1 m c t _ ((array1 c (V m c)).trans (entry_keys m c)), place1]
  exact Entry.lanes96_apply _ _ _ _ _
theorem block_values (c : Dev nD) (t : Fin cfg0.N) (r : Fin 2048) (l : Fin 128) :
    iblk m c 2 t (ix3 0 r l) = (rows64 (m ((c : Thread nD τ).loc main_arg2)) (seq t) (head t) r l : EReal) := by
  rw [block_of2 m c t _ ((array2 c (V m c)).trans (entry_values m c)), place2]
  exact Entry.lanes64_apply _ _ _ _ _

/-! ## The result -/

/-- The values of one head under the rows' weights, from the three arguments. -/
def outAt (q k : FVec Ideal Cert.KernelIdeal.S2x2048x16x96 .f32) (v : FVec Ideal Cert.KernelIdeal.S2x2048x16x64 .f32)
    (b : Fin 2) (h : Fin 16) (r : Fin 2048) (l : Fin 128) : EReal :=
  weighed (realQueries q b h) (realKeys k b h) (rows64 v b h) r l

variable (c : Dev nD) (hq : Finite (m ((c : Thread nD τ).loc main_arg0) : FVec Ideal S2x2048x16x96 .f32))
    (hk : Finite (m ((c : Thread nD τ).loc main_arg1) : FVec Ideal S2x2048x16x96 .f32))
include hq hk

/-- What the blocks of point `t` hold. -/
theorem has (t : Fin cfg0.N) : Has (realQueries (m ((c : Thread nD τ).loc main_arg0)) (seq t) (head t))
    (realKeys (m ((c : Thread nD τ).loc main_arg1)) (seq t) (head t)) (rows64 (m ((c : Thread nD τ).loc main_arg2)) (seq t) (head t))
    (iblk m c 0 t) (iblk m c 1 t) (iblk m c 2 t) where
  queries r l := (block_queries m c t r l).trans (Entry.queries_real hq _ _ _ _)
  keys r l := (block_keys m c t r l).trans (Entry.rows96_real hk _ _ _ _)
  values r l := block_values m c t r l

/-- The array after the run. -/
theorem final : (dats m 0 c).arrAt 3 cfg0.N = Entry.spreadHeads (outAt (m ((c : Thread nD τ).loc main_arg0)) (m ((c : Thread nD τ).loc main_arg1))
    (m ((c : Thread nD τ).loc main_arg2))) := by
  refine (dats m 0 c).arrAt_eq_of_covers 3 _ (by decide +kernel) fun t hf y => ?_
  rw [after0_3]
  blk_simp
  obtain ⟨r, l, rfl⟩ : ∃ (r : Fin 2048) (l : Fin 128), y = (ix3 0 r l : S1x2048x128.Idx) := ⟨_, _, Entry.block_index y⟩
  refine Eq.trans ?_ ((Entry.spreadHeads_apply _ (seq t) (head t) r l).symm.trans (congrArg _ (place3 t r l).symm))
  exact (has m c hq hk t).out r l

end Cert.Proof.AttnFwd

end
-- ==== Proof.AttnFwdReference.lean ====
/- The reference of the attention's forward, at real queries and keys: the values under the rows' weights, head by head. -/
module

public import proofs.«01_k».proof.Proof.AttnFwdValue
public import proofs.«01_k».proof.Proof.RefValue
public import proofs.«01_k».proof.Proof.Gen.AttnFwdReferenceIdeal.Run

@[expose] public section

set_option maxRecDepth 16384

noncomputable section

namespace Cert.Proof.AttnFwd

open Idealize.ShloMosaic Cert.AttnFwdReferenceIdeal Cert.AttnFwdReferenceIdeal.Gen Idealize.ShloMosaic.TcCoe Idealize.SL.Sem
open Entry (rows64 realQueries realKeys Finite fill_value)

/-- The weighed values with rows of positions, laid out, from any weights. -/
def laidOut {F : FTy → Type} [FloatOps F] (v : FVec F S2x2048x16x64 .f32) (w : FVec F S2x16x2048x2048 .f32) : FVec F S2x2048x2048 .bf16 :=
  truncf .bf16 (shapeCast S2x2048x2048 (pad S2x2048x16x128 ![0, 0, 0, 0] ![0, 0, 0, 64] ![0, 0, 0, 0]
    (transpose S2x2048x16x64 [0, 3, 1, 2] (Host.dotGeneral dot_S2x2048x16x64_S2x16x2048x2048_S2x16x64x2048_1_3_3_2_02_01 none v w) transposes_S2x16x64x2048_S2x2048x16x64_0_3_1_2)
    (sitofp .f32 (constantI S_ 32 0#32)) pads_S2x2048x16x64_S2x2048x16x128_000_000_000_0640 h_S_) shapeCasts_S2x2048x16x128_S2x2048x2048) bitsLt_bf16_f32

/-- The reference's weights are the gradient's. -/
theorem res_eq {F : FTy → Type} [FloatOps F] (m : (ℓ : Loc nD τ sig) → Buf (Elt F) ℓ) (c : Dev nD) : Value.res_main_v28 m c
    = laidOut (m ((c : Thread nD τ).loc main_arg2)) (Ref.weights (m ((c : Thread nD τ).loc main_arg0)) (m ((c : Thread nD τ).loc main_arg1))) := rfl

variable (v : FVec Ideal S2x2048x16x64 .f32) (b : Fin 2) (h : Fin 16) (I : Fin 2048) (l : Fin 128) (L : Fin 2048) (hL : L.val = h.val * 128 + l.val)
include hL

theorem laidOut_apply (w : FVec Ideal S2x16x2048x2048 .f32) : laidOut v w (ix3 b I L)
    = if hl : l.val < 64 then (∑ J : Fin 2048, (v (ix4 b J h ⟨l.val, hl⟩) : EReal) * w (ix4 b h I J) : EReal) else (0 : EReal) := by
  obtain ⟨n, hn⟩ := L
  subst hL
  have e1 : (h.val * 128 + l.val) / 128 = h.val := by omega
  have e2 : (h.val * 128 + l.val) % 128 = l.val := by omega
  unfold laidOut
  pointwise [e1, e2, fill_value]

/-- The reference's result at real queries and keys. -/
theorem laidOut_eq {q k : FVec Ideal Cert.ReferenceIdeal.S2x2048x16x96 .f32} (hq : Finite q) (hk : Finite k) :
    laidOut v (Ref.weights q k) (ix3 b I L) = outAt q k v b h I l := by
  rw [laidOut_apply v b h I l L hL, outAt, weighed]
  split
  · refine Finset.sum_congr rfl fun J _ => ?_
    rw [Ref.weights_eq b h I J hq hk]
    exact congrArg (· * _) (Ref.rows64_inside b h _ _ ⟨l.val, by assumption⟩ _).symm
  · refine (Finset.sum_eq_zero fun J _ => ?_).symm
    rw [Ref.rows64_outside _ _ _ _ _ (by omega), zero_mul]

end Cert.Proof.AttnFwd

end
-- ==== Proof.AttnFwdClaims.lean ====
/- The claims of the attention's forward. -/
module

public import proofs.«01_k».proof.Defs
public import proofs.«01_k».proof.Proof.AttnFwdReference
public import proofs.«01_k».proof.Proof.Algebraic
public import proofs.«01_k».proof.Proof.Gen.AttnFwd.Frame
public import proofs.«01_k».proof.Proof.Gen.AttnFwdIdeal.Frame

@[expose] public section

set_option maxRecDepth 16384

noncomputable section

open Idealize.ShloMosaic Idealize.ShloMosaic.TcCoe Idealize.SL.Sem

namespace Cert.Proof.AttnFwd

theorem precondition_facts : Cert.Pre_finite_queries.Facts where
  bcast_S_S2x2048x16x96 := by decide
  reducesTo_S2x2048x16x96_S_d0_1_2_3 := by decide
  h_S_ := by decide

instance : Cert.Pre_finite_queries.Facts := precondition_facts

/-- The precondition is the gradient's, which does not read the cotangents it is also given. -/
theorem of_fn (q k : FVec Ideal Cert.KernelIdeal.S2x2048x16x96 .f32) (v : FVec Ideal Cert.KernelIdeal.S2x2048x16x64 .f32)
    (i₀ : Cert.Pre_finite_queries.S_.Idx) (e : Cert.Pre_finite_queries.fn q k v i₀ = 1#1) : Entry.Finite q ∧ Entry.Finite k :=
  Precondition.of_fn q k v v i₀ e

/-- All three programs run and leave their arguments; the last two also under the precondition, which they do not use. -/
theorem frame : Cert.quiescent_AttnFwd := fun m ρ _ => Cert.AttnFwd.Gen.frame m ρ
theorem frame_ideal : Cert.quiescent_AttnFwdIdeal := fun m ρ _ => Cert.AttnFwdIdeal.Gen.frame m ρ
theorem frame_ideal_finite : Cert.quiescent_AttnFwdIdeal_pre_finite_queries := fun m ρ _ => frame_ideal m ρ trivial
theorem frame_reference : Cert.quiescent_AttnFwdReferenceIdeal := fun m ρ _ =>
  (θ_run Cert.AttnFwdReferenceIdeal.defs _ _).mono
    (fun r h => ⟨fun c => (h c).2, sem_eq_zero_of_no_sems (by decide) r.2⟩)
    (Cert.AttnFwdReferenceIdeal.Value.run (F := Ideal) m ρ)
theorem frame_reference_finite : Cert.quiescent_AttnFwdReferenceIdeal_pre_finite_queries := fun m ρ _ => frame_reference m ρ trivial

/-- The one name of the table: the mask's fill is `-∞`. -/
theorem preserves : Cert.preserves_AttnFwd_AttnFwdIdeal := IdealRules.named_const.statement _ _ _ _ _ rfl

/-- From equal arguments with real queries and keys both end with the values under the rows' weights. -/
theorem algebraic : Cert.algebraic_AttnFwdIdeal_AttnFwdReferenceIdeal_pre_finite_queries := by
  intro m g m' g' hpre hagree
  have hfin := fun c => of_fn _ _ _ (fun i => i.elim0) (congrFun (hpre c) _)
  refine ⟨fun c : Dev Cert.AttnFwdIdeal.nD => Entry.spreadHeads (outAt (m ((c.tc : Thread Cert.AttnFwdIdeal.nD Cert.AttnFwdIdeal.τ).loc Cert.AttnFwdIdeal.main_arg0))
      (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))), ?_, ?_⟩
  · refine (θ_run Cert.AttnFwdIdeal.defs _ _).mono (fun r h c => ?_) (Cert.AttnFwdIdeal.Value.run_blocks m g)
    obtain ⟨h0, hrest⟩ := h c
    exact ⟨h0.trans (final m c (hfin c).1 (hfin c).2), hrest⟩
  · refine (θ_run Cert.AttnFwdReferenceIdeal.defs _ _).mono (fun r h c => ?_) (Cert.AttnFwdReferenceIdeal.Value.run m' g')
    obtain ⟨h0, hrest⟩ := h c
    obtain ⟨a0, a1, a2⟩ := hagree c
    refine ⟨h0.trans ?_, hrest⟩
    rw [res_eq, a0, a1, a2]
    exact (eq_spread _ _ fun b h r l L hL => laidOut_eq _ b h r l L hL (hfin c).1 (hfin c).2).symm

end Cert.Proof.AttnFwd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Mlp2Dx
public import proofs.«01_k».proof.Proof.Gen.Mlp2Dx.Skeleton
public import proofs.«01_k».proof.Proof.Gen.Mlp2Dx.Launch
public import proofs.«01_k».proof.Proof.Gen.Mlp2Dx.Points
public import proofs.«01_k».proof.Proof.Gen.Mlp2Dx.Frame
public import proofs.«01_k».proof.Proof.Gen.Mlp2DxIdeal
public import proofs.«01_k».proof.Proof.Gen.Mlp2DxIdeal.Skeleton
public import proofs.«01_k».proof.Proof.Gen.Mlp2DxIdeal.Launch
public import proofs.«01_k».proof.Proof.Gen.Mlp2DxIdeal.Points
public import proofs.«01_k».proof.Proof.Gen.Mlp2DxIdeal.Frame
public import proofs.«01_k».proof.Proof.Gen.Mlp2DxIdeal.Value
public import proofs.«01_k».proof.Proof.Gen.Mlp2DxReferenceIdeal
public import proofs.«01_k».proof.Proof.Gen.Mlp2DxReferenceIdeal.Run
public import proofs.«01_k».proof.Proof.Gen.Mlp2Dw
public import proofs.«01_k».proof.Proof.Gen.Mlp2Dw.Skeleton
public import proofs.«01_k».proof.Proof.Gen.Mlp2Dw.Launch
public import proofs.«01_k».proof.Proof.Gen.Mlp2Dw.Points
public import proofs.«01_k».proof.Proof.Gen.Mlp2Dw.Frame
public import proofs.«01_k».proof.Proof.Gen.Mlp2DwIdeal
public import proofs.«01_k».proof.Proof.Gen.Mlp2DwIdeal.Skeleton
public import proofs.«01_k».proof.Proof.Gen.Mlp2DwIdeal.Launch
public import proofs.«01_k».proof.Proof.Gen.Mlp2DwIdeal.Points
public import proofs.«01_k».proof.Proof.Gen.Mlp2DwIdeal.Frame
public import proofs.«01_k».proof.Proof.Gen.Mlp2DwIdeal.Value
public import proofs.«01_k».proof.Proof.Gen.Mlp2DwReferenceIdeal
public import proofs.«01_k».proof.Proof.Gen.Mlp2DwReferenceIdeal.Run
public import proofs.«01_k».proof.Proof.Gen.Mlp1Dx
public import proofs.«01_k».proof.Proof.Gen.Mlp1Dx.Skeleton
public import proofs.«01_k».proof.Proof.Gen.Mlp1Dx.Launch
public import proofs.«01_k».proof.Proof.Gen.Mlp1Dx.Points
public import proofs.«01_k».proof.Proof.Gen.Mlp1Dx.Frame
public import proofs.«01_k».proof.Proof.Gen.Mlp1DxIdeal
public import proofs.«01_k».proof.Proof.Gen.Mlp1DxIdeal.Skeleton
public import proofs.«01_k».proof.Proof.Gen.Mlp1DxIdeal.Launch
public import proofs.«01_k».proof.Proof.Gen.Mlp1DxIdeal.Points
public import proofs.«01_k».proof.Proof.Gen.Mlp1DxIdeal.Frame
public import proofs.«01_k».proof.Proof.Gen.Mlp1DxIdeal.Value
public import proofs.«01_k».proof.Proof.Gen.Mlp1DxReferenceIdeal
public import proofs.«01_k».proof.Proof.Gen.Mlp1DxReferenceIdeal.Run
public import proofs.«01_k».proof.Proof.Gen.Mlp1Dw
public import proofs.«01_k».proof.Proof.Gen.Mlp1Dw.Skeleton
public import proofs.«01_k».proof.Proof.Gen.Mlp1Dw.Launch
public import proofs.«01_k».proof.Proof.Gen.Mlp1Dw.Points
public import proofs.«01_k».proof.Proof.Gen.Mlp1Dw.Frame
public import proofs.«01_k».proof.Proof.Gen.Mlp1DwIdeal
public import proofs.«01_k».proof.Proof.Gen.Mlp1DwIdeal.Skeleton
public import proofs.«01_k».proof.Proof.Gen.Mlp1DwIdeal.Launch
public import proofs.«01_k».proof.Proof.Gen.Mlp1DwIdeal.Points
public import proofs.«01_k».proof.Proof.Gen.Mlp1DwIdeal.Frame
public import proofs.«01_k».proof.Proof.Gen.Mlp1DwIdeal.Value
public import proofs.«01_k».proof.Proof.Gen.Mlp1DwReferenceIdeal
public import proofs.«01_k».proof.Proof.Gen.Mlp1DwReferenceIdeal.Run
public import proofs.«01_k».proof.Proof.Gen.WOutDx
public import proofs.«01_k».proof.Proof.Gen.WOutDx.Skeleton
public import proofs.«01_k».proof.Proof.Gen.WOutDx.Launch
public import proofs.«01_k».proof.Proof.Gen.WOutDx.Points
public import proofs.«01_k».proof.Proof.Gen.WOutDx.Frame
public import proofs.«01_k».proof.Proof.Gen.WOutDxIdeal
public import proofs.«01_k».proof.Proof.Gen.WOutDxIdeal.Skeleton
public import proofs.«01_k».proof.Proof.Gen.WOutDxIdeal.Launch
public import proofs.«01_k».proof.Proof.Gen.WOutDxIdeal.Points
public import proofs.«01_k».proof.Proof.Gen.WOutDxIdeal.Frame
public import proofs.«01_k».proof.Proof.Gen.WOutDxIdeal.Value
public import proofs.«01_k».proof.Proof.Gen.WOutDxReferenceIdeal
public import proofs.«01_k».proof.Proof.Gen.WOutDxReferenceIdeal.Run
public import proofs.«01_k».proof.Proof.Gen.WOutDw
public import proofs.«01_k».proof.Proof.Gen.WOutDw.Skeleton
public import proofs.«01_k».proof.Proof.Gen.WOutDw.Launch
public import proofs.«01_k».proof.Proof.Gen.WOutDw.Points
public import proofs.«01_k».proof.Proof.Gen.WOutDw.Frame
public import proofs.«01_k».proof.Proof.Gen.WOutDwIdeal
public import proofs.«01_k».proof.Proof.Gen.WOutDwIdeal.Skeleton
public import proofs.«01_k».proof.Proof.Gen.WOutDwIdeal.Launch
public import proofs.«01_k».proof.Proof.Gen.WOutDwIdeal.Points
public import proofs.«01_k».proof.Proof.Gen.WOutDwIdeal.Frame
public import proofs.«01_k».proof.Proof.Gen.WOutDwIdeal.Value
public import proofs.«01_k».proof.Proof.Gen.WOutDwReferenceIdeal
public import proofs.«01_k».proof.Proof.Gen.WOutDwReferenceIdeal.Run
public import proofs.«01_k».proof.Proof.Gen.GlaOutDx
public import proofs.«01_k».proof.Proof.Gen.GlaOutDx.Skeleton
public import proofs.«01_k».proof.Proof.Gen.GlaOutDx.Launch
public import proofs.«01_k».proof.Proof.Gen.GlaOutDx.Points
public import proofs.«01_k».proof.Proof.Gen.GlaOutDx.Frame
public import proofs.«01_k».proof.Proof.Gen.GlaOutDxIdeal
public import proofs.«01_k».proof.Proof.Gen.GlaOutDxIdeal.Skeleton
public import proofs.«01_k».proof.Proof.Gen.GlaOutDxIdeal.Launch
public import proofs.«01_k».proof.Proof.Gen.GlaOutDxIdeal.Points
public import proofs.«01_k».proof.Proof.Gen.GlaOutDxIdeal.Frame
public import proofs.«01_k».proof.Proof.Gen.GlaOutDxIdeal.Value
public import proofs.«01_k».proof.Proof.Gen.GlaOutDxReferenceIdeal
public import proofs.«01_k».proof.Proof.Gen.GlaOutDxReferenceIdeal.Run
public import proofs.«01_k».proof.Proof.Gen.GlaOutDw
public import proofs.«01_k».proof.Proof.Gen.GlaOutDw.Skeleton
public import proofs.«01_k».proof.Proof.Gen.GlaOutDw.Launch
public import proofs.«01_k».proof.Proof.Gen.GlaOutDw.Points
public import proofs.«01_k».proof.Proof.Gen.GlaOutDw.Frame
public import proofs.«01_k».proof.Proof.Gen.GlaOutDwIdeal
public import proofs.«01_k».proof.Proof.Gen.GlaOutDwIdeal.Skeleton
public import proofs.«01_k».proof.Proof.Gen.GlaOutDwIdeal.Launch
public import proofs.«01_k».proof.Proof.Gen.GlaOutDwIdeal.Points
public import proofs.«01_k».proof.Proof.Gen.GlaOutDwIdeal.Frame
public import proofs.«01_k».proof.Proof.Gen.GlaOutDwIdeal.Value
public import proofs.«01_k».proof.Proof.Gen.GlaOutDwReferenceIdeal
public import proofs.«01_k».proof.Proof.Gen.GlaOutDwReferenceIdeal.Run
public import proofs.«01_k».proof.Proof.Gen.MlaOutDx
public import proofs.«01_k».proof.Proof.Gen.MlaOutDx.Skeleton
public import proofs.«01_k».proof.Proof.Gen.MlaOutDx.Launch
public import proofs.«01_k».proof.Proof.Gen.MlaOutDx.Points
public import proofs.«01_k».proof.Proof.Gen.MlaOutDx.Frame
public import proofs.«01_k».proof.Proof.Gen.MlaOutDxIdeal
public import proofs.«01_k».proof.Proof.Gen.MlaOutDxIdeal.Skeleton
public import proofs.«01_k».proof.Proof.Gen.MlaOutDxIdeal.Launch
public import proofs.«01_k».proof.Proof.Gen.MlaOutDxIdeal.Points
public import proofs.«01_k».proof.Proof.Gen.MlaOutDxIdeal.Frame
public import proofs.«01_k».proof.Proof.Gen.MlaOutDxIdeal.Value
public import proofs.«01_k».proof.Proof.Gen.MlaOutDxReferenceIdeal
public import proofs.«01_k».proof.Proof.Gen.MlaOutDxReferenceIdeal.Run
public import proofs.«01_k».proof.Proof.Gen.MlaOutDw
public import proofs.«01_k».proof.Proof.Gen.MlaOutDw.Skeleton
public import proofs.«01_k».proof.Proof.Gen.MlaOutDw.Launch
public import proofs.«01_k».proof.Proof.Gen.MlaOutDw.Points
public import proofs.«01_k».proof.Proof.Gen.MlaOutDw.Frame
public import proofs.«01_k».proof.Proof.Gen.MlaOutDwIdeal
public import proofs.«01_k».proof.Proof.Gen.MlaOutDwIdeal.Skeleton
public import proofs.«01_k».proof.Proof.Gen.MlaOutDwIdeal.Launch
public import proofs.«01_k».proof.Proof.Gen.MlaOutDwIdeal.Points
public import proofs.«01_k».proof.Proof.Gen.MlaOutDwIdeal.Frame
public import proofs.«01_k».proof.Proof.Gen.MlaOutDwIdeal.Value
public import proofs.«01_k».proof.Proof.Gen.MlaOutDwReferenceIdeal
public import proofs.«01_k».proof.Proof.Gen.MlaOutDwReferenceIdeal.Run
public import proofs.«01_k».proof.Proof.Gen.MlaUqDx
public import proofs.«01_k».proof.Proof.Gen.MlaUqDx.Skeleton
public import proofs.«01_k».proof.Proof.Gen.MlaUqDx.Launch
public import proofs.«01_k».proof.Proof.Gen.MlaUqDx.Points
public import proofs.«01_k».proof.Proof.Gen.MlaUqDx.Frame
public import proofs.«01_k».proof.Proof.Gen.MlaUqDxIdeal
public import proofs.«01_k».proof.Proof.Gen.MlaUqDxIdeal.Skeleton
public import proofs.«01_k».proof.Proof.Gen.MlaUqDxIdeal.Launch
public import proofs.«01_k».proof.Proof.Gen.MlaUqDxIdeal.Points
public import proofs.«01_k».proof.Proof.Gen.MlaUqDxIdeal.Frame
public import proofs.«01_k».proof.Proof.Gen.MlaUqDxIdeal.Value
public import proofs.«01_k».proof.Proof.Gen.MlaUqDxReferenceIdeal
public import proofs.«01_k».proof.Proof.Gen.MlaUqDxReferenceIdeal.Run
public import proofs.«01_k».proof.Proof.Gen.MlaUqDw
public import proofs.«01_k».proof.Proof.Gen.MlaUqDw.Skeleton
public import proofs.«01_k».proof.Proof.Gen.MlaUqDw.Launch
public import proofs.«01_k».proof.Proof.Gen.MlaUqDw.Points
public import proofs.«01_k».proof.Proof.Gen.MlaUqDw.Frame
public import proofs.«01_k».proof.Proof.Gen.MlaUqDwIdeal
public import proofs.«01_k».proof.Proof.Gen.MlaUqDwIdeal.Skeleton
public import proofs.«01_k».proof.Proof.Gen.MlaUqDwIdeal.Launch
public import proofs.«01_k».proof.Proof.Gen.MlaUqDwIdeal.Points
public import proofs.«01_k».proof.Proof.Gen.MlaUqDwIdeal.Frame
public import proofs.«01_k».proof.Proof.Gen.MlaUqDwIdeal.Value
public import proofs.«01_k».proof.Proof.Gen.MlaUqDwReferenceIdeal
public import proofs.«01_k».proof.Proof.Gen.MlaUqDwReferenceIdeal.Run
public import proofs.«01_k».proof.Proof.Gen.MlaUkvDx
public import proofs.«01_k».proof.Proof.Gen.MlaUkvDx.Skeleton
public import proofs.«01_k».proof.Proof.Gen.MlaUkvDx.Launch
public import proofs.«01_k».proof.Proof.Gen.MlaUkvDx.Points
public import proofs.«01_k».proof.Proof.Gen.MlaUkvDx.Frame
public import proofs.«01_k».proof.Proof.Gen.MlaUkvDxIdeal
public import proofs.«01_k».proof.Proof.Gen.MlaUkvDxIdeal.Skeleton
public import proofs.«01_k».proof.Proof.Gen.MlaUkvDxIdeal.Launch
public import proofs.«01_k».proof.Proof.Gen.MlaUkvDxIdeal.Points
public import proofs.«01_k».proof.Proof.Gen.MlaUkvDxIdeal.Frame
public import proofs.«01_k».proof.Proof.Gen.MlaUkvDxIdeal.Value
public import proofs.«01_k».proof.Proof.Gen.MlaUkvDxReferenceIdeal
public import proofs.«01_k».proof.Proof.Gen.MlaUkvDxReferenceIdeal.Run
public import proofs.«01_k».proof.Proof.Gen.MlaUkvDw
public import proofs.«01_k».proof.Proof.Gen.MlaUkvDw.Skeleton
public import proofs.«01_k».proof.Proof.Gen.MlaUkvDw.Launch
public import proofs.«01_k».proof.Proof.Gen.MlaUkvDw.Points
public import proofs.«01_k».proof.Proof.Gen.MlaUkvDw.Frame
public import proofs.«01_k».proof.Proof.Gen.MlaUkvDwIdeal
public import proofs.«01_k».proof.Proof.Gen.MlaUkvDwIdeal.Skeleton
public import proofs.«01_k».proof.Proof.Gen.MlaUkvDwIdeal.Launch
public import proofs.«01_k».proof.Proof.Gen.MlaUkvDwIdeal.Points
public import proofs.«01_k».proof.Proof.Gen.MlaUkvDwIdeal.Frame
public import proofs.«01_k».proof.Proof.Gen.MlaUkvDwIdeal.Value
public import proofs.«01_k».proof.Proof.Gen.MlaUkvDwReferenceIdeal
public import proofs.«01_k».proof.Proof.Gen.MlaUkvDwReferenceIdeal.Run
public import proofs.«01_k».proof.Proof.Gen.GlaOut
public import proofs.«01_k».proof.Proof.Gen.GlaOut.Skeleton
public import proofs.«01_k».proof.Proof.Gen.GlaOut.Launch
public import proofs.«01_k».proof.Proof.Gen.GlaOut.Points
public import proofs.«01_k».proof.Proof.Gen.GlaOut.Frame
public import proofs.«01_k».proof.Proof.Gen.GlaOutIdeal
public import proofs.«01_k».proof.Proof.Gen.GlaOutIdeal.Skeleton
public import proofs.«01_k».proof.Proof.Gen.GlaOutIdeal.Launch
public import proofs.«01_k».proof.Proof.Gen.GlaOutIdeal.Points
public import proofs.«01_k».proof.Proof.Gen.GlaOutIdeal.Frame
public import proofs.«01_k».proof.Proof.Gen.GlaOutIdeal.Value
public import proofs.«01_k».proof.Proof.Gen.GlaOutReferenceIdeal
public import proofs.«01_k».proof.Proof.Gen.GlaOutReferenceIdeal.Run
public import proofs.«01_k».proof.Proof.Gen.WOut
public import proofs.«01_k».proof.Proof.Gen.WOut.Skeleton
public import proofs.«01_k».proof.Proof.Gen.WOut.Launch
public import proofs.«01_k».proof.Proof.Gen.WOut.Points
public import proofs.«01_k».proof.Proof.Gen.WOut.Frame
public import proofs.«01_k».proof.Proof.Gen.WOutIdeal
public import proofs.«01_k».proof.Proof.Gen.WOutIdeal.Skeleton
public import proofs.«01_k».proof.Proof.Gen.WOutIdeal.Launch
public import proofs.«01_k».proof.Proof.Gen.WOutIdeal.Points
public import proofs.«01_k».proof.Proof.Gen.WOutIdeal.Frame
public import proofs.«01_k».proof.Proof.Gen.WOutIdeal.Value
public import proofs.«01_k».proof.Proof.Gen.WOutReferenceIdeal
public import proofs.«01_k».proof.Proof.Gen.WOutReferenceIdeal.Run
public import proofs.«01_k».proof.Proof.Gen.MlaOut
public import proofs.«01_k».proof.Proof.Gen.MlaOut.Skeleton
public import proofs.«01_k».proof.Proof.Gen.MlaOut.Launch
public import proofs.«01_k».proof.Proof.Gen.MlaOut.Points
public import proofs.«01_k».proof.Proof.Gen.MlaOut.Frame
public import proofs.«01_k».proof.Proof.Gen.MlaOutIdeal
public import proofs.«01_k».proof.Proof.Gen.MlaOutIdeal.Skeleton
public import proofs.«01_k».proof.Proof.Gen.MlaOutIdeal.Launch
public import proofs.«01_k».proof.Proof.Gen.MlaOutIdeal.Points
public import proofs.«01_k».proof.Proof.Gen.MlaOutIdeal.Frame
public import proofs.«01_k».proof.Proof.Gen.MlaOutIdeal.Value
public import proofs.«01_k».proof.Proof.Gen.MlaOutReferenceIdeal
public import proofs.«01_k».proof.Proof.Gen.MlaOutReferenceIdeal.Run
public import proofs.«01_k».proof.Proof.Gen.MlaUq
public import proofs.«01_k».proof.Proof.Gen.MlaUq.Skeleton
public import proofs.«01_k».proof.Proof.Gen.MlaUq.Launch
public import proofs.«01_k».proof.Proof.Gen.MlaUq.Points
public import proofs.«01_k».proof.Proof.Gen.MlaUq.Frame
public import proofs.«01_k».proof.Proof.Gen.MlaUqIdeal
public import proofs.«01_k».proof.Proof.Gen.MlaUqIdeal.Skeleton
public import proofs.«01_k».proof.Proof.Gen.MlaUqIdeal.Launch
public import proofs.«01_k».proof.Proof.Gen.MlaUqIdeal.Points
public import proofs.«01_k».proof.Proof.Gen.MlaUqIdeal.Frame
public import proofs.«01_k».proof.Proof.Gen.MlaUqIdeal.Value
public import proofs.«01_k».proof.Proof.Gen.MlaUqReferenceIdeal
public import proofs.«01_k».proof.Proof.Gen.MlaUqReferenceIdeal.Run
public import proofs.«01_k».proof.Proof.Gen.MlaUkv
public import proofs.«01_k».proof.Proof.Gen.MlaUkv.Skeleton
public import proofs.«01_k».proof.Proof.Gen.MlaUkv.Launch
public import proofs.«01_k».proof.Proof.Gen.MlaUkv.Points
public import proofs.«01_k».proof.Proof.Gen.MlaUkv.Frame
public import proofs.«01_k».proof.Proof.Gen.MlaUkvIdeal
public import proofs.«01_k».proof.Proof.Gen.MlaUkvIdeal.Skeleton
public import proofs.«01_k».proof.Proof.Gen.MlaUkvIdeal.Launch
public import proofs.«01_k».proof.Proof.Gen.MlaUkvIdeal.Points
public import proofs.«01_k».proof.Proof.Gen.MlaUkvIdeal.Frame
public import proofs.«01_k».proof.Proof.Gen.MlaUkvIdeal.Value
public import proofs.«01_k».proof.Proof.Gen.MlaUkvReferenceIdeal
public import proofs.«01_k».proof.Proof.Gen.MlaUkvReferenceIdeal.Run
public import proofs.«01_k».proof.Proof.Gen.Mlp1
public import proofs.«01_k».proof.Proof.Gen.Mlp1.Skeleton
public import proofs.«01_k».proof.Proof.Gen.Mlp1.Launch
public import proofs.«01_k».proof.Proof.Gen.Mlp1.Points
public import proofs.«01_k».proof.Proof.Gen.Mlp1.Frame
public import proofs.«01_k».proof.Proof.Gen.Mlp1Ideal
public import proofs.«01_k».proof.Proof.Gen.Mlp1Ideal.Skeleton
public import proofs.«01_k».proof.Proof.Gen.Mlp1Ideal.Launch
public import proofs.«01_k».proof.Proof.Gen.Mlp1Ideal.Points
public import proofs.«01_k».proof.Proof.Gen.Mlp1Ideal.Frame
public import proofs.«01_k».proof.Proof.Gen.Mlp1Ideal.Value
public import proofs.«01_k».proof.Proof.Gen.Mlp1ReferenceIdeal
public import proofs.«01_k».proof.Proof.Gen.Mlp1ReferenceIdeal.Run
public import proofs.«01_k».proof.Proof.Gen.Mlp2
public import proofs.«01_k».proof.Proof.Gen.Mlp2.Skeleton
public import proofs.«01_k».proof.Proof.Gen.Mlp2.Launch
public import proofs.«01_k».proof.Proof.Gen.Mlp2.Points
public import proofs.«01_k».proof.Proof.Gen.Mlp2.Frame
public import proofs.«01_k».proof.Proof.Gen.Mlp2Ideal
public import proofs.«01_k».proof.Proof.Gen.Mlp2Ideal.Skeleton
public import proofs.«01_k».proof.Proof.Gen.Mlp2Ideal.Launch
public import proofs.«01_k».proof.Proof.Gen.Mlp2Ideal.Points
public import proofs.«01_k».proof.Proof.Gen.Mlp2Ideal.Frame
public import proofs.«01_k».proof.Proof.Gen.Mlp2Ideal.Value
public import proofs.«01_k».proof.Proof.Gen.Mlp2ReferenceIdeal
public import proofs.«01_k».proof.Proof.Gen.Mlp2ReferenceIdeal.Run
public import proofs.«01_k».proof.Proof.Gen.ProjDx
public import proofs.«01_k».proof.Proof.Gen.ProjDx.Skeleton
public import proofs.«01_k».proof.Proof.Gen.ProjDx.Launch
public import proofs.«01_k».proof.Proof.Gen.ProjDx.Points
public import proofs.«01_k».proof.Proof.Gen.ProjDx.Frame
public import proofs.«01_k».proof.Proof.Gen.ProjDxIdeal
public import proofs.«01_k».proof.Proof.Gen.ProjDxIdeal.Skeleton
public import proofs.«01_k».proof.Proof.Gen.ProjDxIdeal.Launch
public import proofs.«01_k».proof.Proof.Gen.ProjDxIdeal.Points
public import proofs.«01_k».proof.Proof.Gen.ProjDxIdeal.Frame
public import proofs.«01_k».proof.Proof.Gen.ProjDxIdeal.Value
public import proofs.«01_k».proof.Proof.Gen.ProjDxReferenceIdeal
public import proofs.«01_k».proof.Proof.Gen.ProjDxReferenceIdeal.Run
public import proofs.«01_k».proof.Proof.Gen.ProjDwA
public import proofs.«01_k».proof.Proof.Gen.ProjDwA.Skeleton
public import proofs.«01_k».proof.Proof.Gen.ProjDwA.Launch
public import proofs.«01_k».proof.Proof.Gen.ProjDwA.Points
public import proofs.«01_k».proof.Proof.Gen.ProjDwA.Frame
public import proofs.«01_k».proof.Proof.Gen.ProjDwAIdeal
public import proofs.«01_k».proof.Proof.Gen.ProjDwAIdeal.Skeleton
public import proofs.«01_k».proof.Proof.Gen.ProjDwAIdeal.Launch
public import proofs.«01_k».proof.Proof.Gen.ProjDwAIdeal.Points
public import proofs.«01_k».proof.Proof.Gen.ProjDwAIdeal.Frame
public import proofs.«01_k».proof.Proof.Gen.ProjDwAIdeal.Value
public import proofs.«01_k».proof.Proof.Gen.ProjDwAReferenceIdeal
public import proofs.«01_k».proof.Proof.Gen.ProjDwAReferenceIdeal.Run
public import proofs.«01_k».proof.Proof.Gen.ProjDwB
public import proofs.«01_k».proof.Proof.Gen.ProjDwB.Skeleton
public import proofs.«01_k».proof.Proof.Gen.ProjDwB.Launch
public import proofs.«01_k».proof.Proof.Gen.ProjDwB.Points
public import proofs.«01_k».proof.Proof.Gen.ProjDwB.Frame
public import proofs.«01_k».proof.Proof.Gen.ProjDwBIdeal
public import proofs.«01_k».proof.Proof.Gen.ProjDwBIdeal.Skeleton
public import proofs.«01_k».proof.Proof.Gen.ProjDwBIdeal.Launch
public import proofs.«01_k».proof.Proof.Gen.ProjDwBIdeal.Points
public import proofs.«01_k».proof.Proof.Gen.ProjDwBIdeal.Frame
public import proofs.«01_k».proof.Proof.Gen.ProjDwBIdeal.Value
public import proofs.«01_k».proof.Proof.Gen.ProjDwBReferenceIdeal
public import proofs.«01_k».proof.Proof.Gen.ProjDwBReferenceIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.MergeBwd
public import proofs.«01_k».proof.Proof.Gen.MergeBwd.Skeleton
public import proofs.«01_k».proof.Proof.Gen.MergeBwd.Launch
public import proofs.«01_k».proof.Proof.Gen.MergeBwd.Points
public import proofs.«01_k».proof.Proof.Gen.MergeBwd.Frame
public import proofs.«01_k».proof.Proof.Gen.MergeBwdIdeal
public import proofs.«01_k».proof.Proof.Gen.MergeBwdIdeal.Skeleton
public import proofs.«01_k».proof.Proof.Gen.MergeBwdIdeal.Launch
public import proofs.«01_k».proof.Proof.Gen.MergeBwdIdeal.Points
public import proofs.«01_k».proof.Proof.Gen.MergeBwdIdeal.Frame
public import proofs.«01_k».proof.Proof.Gen.MergeBwdIdeal.Value
public import proofs.«01_k».proof.Proof.Gen.MergeBwdReferenceIdeal
public import proofs.«01_k».proof.Proof.Gen.MergeBwdReferenceIdeal.Run
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdIdeal.Value
public import proofs.«01_k».proof.Proof.Gen.MergeFwdReferenceIdeal
public import proofs.«01_k».proof.Proof.Gen.MergeFwdReferenceIdeal.Run
public import proofs.«01_k».proof.Proof.Gen.AlphaDx
public import proofs.«01_k».proof.Proof.Gen.AlphaDx.Skeleton
public import proofs.«01_k».proof.Proof.Gen.AlphaDx.Launch
public import proofs.«01_k».proof.Proof.Gen.AlphaDx.Points
public import proofs.«01_k».proof.Proof.Gen.AlphaDx.Frame
public import proofs.«01_k».proof.Proof.Gen.AlphaDxIdeal
public import proofs.«01_k».proof.Proof.Gen.AlphaDxIdeal.Skeleton
public import proofs.«01_k».proof.Proof.Gen.AlphaDxIdeal.Launch
public import proofs.«01_k».proof.Proof.Gen.AlphaDxIdeal.Points
public import proofs.«01_k».proof.Proof.Gen.AlphaDxIdeal.Frame
public import proofs.«01_k».proof.Proof.Gen.AlphaDxIdeal.Value
public import proofs.«01_k».proof.Proof.Gen.AlphaDxReferenceIdeal
public import proofs.«01_k».proof.Proof.Gen.AlphaDxReferenceIdeal.Run
public import proofs.«01_k».proof.Proof.Gen.AlphaDw
public import proofs.«01_k».proof.Proof.Gen.AlphaDw.Skeleton
public import proofs.«01_k».proof.Proof.Gen.AlphaDw.Launch
public import proofs.«01_k».proof.Proof.Gen.AlphaDw.Points
public import proofs.«01_k».proof.Proof.Gen.AlphaDw.Frame
public import proofs.«01_k».proof.Proof.Gen.AlphaDwIdeal
public import proofs.«01_k».proof.Proof.Gen.AlphaDwIdeal.Skeleton
public import proofs.«01_k».proof.Proof.Gen.AlphaDwIdeal.Launch
public import proofs.«01_k».proof.Proof.Gen.AlphaDwIdeal.Points
public import proofs.«01_k».proof.Proof.Gen.AlphaDwIdeal.Frame
public import proofs.«01_k».proof.Proof.Gen.AlphaDwIdeal.Value
public import proofs.«01_k».proof.Proof.Gen.AlphaDwReferenceIdeal
public import proofs.«01_k».proof.Proof.Gen.AlphaDwReferenceIdeal.Run
public import proofs.«01_k».proof.Proof.Gen.GlaFwd
public import proofs.«01_k».proof.Proof.Gen.GlaFwd.Skeleton
public import proofs.«01_k».proof.Proof.Gen.GlaFwd.Launch
public import proofs.«01_k».proof.Proof.Gen.GlaFwd.Points
public import proofs.«01_k».proof.Proof.Gen.GlaFwd.Frame
public import proofs.«01_k».proof.Proof.Gen.GlaFwdIdeal
public import proofs.«01_k».proof.Proof.Gen.GlaFwdIdeal.Skeleton
public import proofs.«01_k».proof.Proof.Gen.GlaFwdIdeal.Launch
public import proofs.«01_k».proof.Proof.Gen.GlaFwdIdeal.Points
public import proofs.«01_k».proof.Proof.Gen.GlaFwdIdeal.Frame
public import proofs.«01_k».proof.Proof.Gen.GlaFwdIdeal.Value
public import proofs.«01_k».proof.Proof.Gen.GlaFwdReferenceIdeal
public import proofs.«01_k».proof.Proof.Gen.GlaFwdReferenceIdeal.Run
public import proofs.«01_k».proof.Proof.Gen.Norm1
public import proofs.«01_k».proof.Proof.Gen.Norm1.Skeleton
public import proofs.«01_k».proof.Proof.Gen.Norm1.Launch
public import proofs.«01_k».proof.Proof.Gen.Norm1.Points
public import proofs.«01_k».proof.Proof.Gen.Norm1.Frame
public import proofs.«01_k».proof.Proof.Gen.Norm1Ideal
public import proofs.«01_k».proof.Proof.Gen.Norm1Ideal.Skeleton
public import proofs.«01_k».proof.Proof.Gen.Norm1Ideal.Launch
public import proofs.«01_k».proof.Proof.Gen.Norm1Ideal.Points
public import proofs.«01_k».proof.Proof.Gen.Norm1Ideal.Frame
public import proofs.«01_k».proof.Proof.Gen.Norm1Ideal.Value
public import proofs.«01_k».proof.Proof.Gen.Norm1ReferenceIdeal
public import proofs.«01_k».proof.Proof.Gen.Norm1ReferenceIdeal.Run
public import proofs.«01_k».proof.Proof.Gen.Norm2
public import proofs.«01_k».proof.Proof.Gen.Norm2.Skeleton
public import proofs.«01_k».proof.Proof.Gen.Norm2.Launch
public import proofs.«01_k».proof.Proof.Gen.Norm2.Points
public import proofs.«01_k».proof.Proof.Gen.Norm2.Frame
public import proofs.«01_k».proof.Proof.Gen.Norm2Ideal
public import proofs.«01_k».proof.Proof.Gen.Norm2Ideal.Skeleton
public import proofs.«01_k».proof.Proof.Gen.Norm2Ideal.Launch
public import proofs.«01_k».proof.Proof.Gen.Norm2Ideal.Points
public import proofs.«01_k».proof.Proof.Gen.Norm2Ideal.Frame
public import proofs.«01_k».proof.Proof.Gen.Norm2Ideal.Value
public import proofs.«01_k».proof.Proof.Gen.Norm2ReferenceIdeal
public import proofs.«01_k».proof.Proof.Gen.Norm2ReferenceIdeal.Run
public import proofs.«01_k».proof.Proof.Gen.LatNorm
public import proofs.«01_k».proof.Proof.Gen.LatNorm.Skeleton
public import proofs.«01_k».proof.Proof.Gen.LatNorm.Launch
public import proofs.«01_k».proof.Proof.Gen.LatNorm.Points
public import proofs.«01_k».proof.Proof.Gen.LatNorm.Frame
public import proofs.«01_k».proof.Proof.Gen.LatNormIdeal
public import proofs.«01_k».proof.Proof.Gen.LatNormIdeal.Skeleton
public import proofs.«01_k».proof.Proof.Gen.LatNormIdeal.Launch
public import proofs.«01_k».proof.Proof.Gen.LatNormIdeal.Points
public import proofs.«01_k».proof.Proof.Gen.LatNormIdeal.Frame
public import proofs.«01_k».proof.Proof.Gen.LatNormIdeal.Value
public import proofs.«01_k».proof.Proof.Gen.LatNormReferenceIdeal
public import proofs.«01_k».proof.Proof.Gen.LatNormReferenceIdeal.Run
public import proofs.«01_k».proof.Proof.Gen.AdamwWAda
public import proofs.«01_k».proof.Proof.Gen.AdamwWAda.Skeleton
public import proofs.«01_k».proof.Proof.Gen.AdamwWAda.Launch
public import proofs.«01_k».proof.Proof.Gen.AdamwWAda.Points
public import proofs.«01_k».proof.Proof.Gen.AdamwWAda.Frame
public import proofs.«01_k».proof.Proof.Gen.AdamwWAdaIdeal
public import proofs.«01_k».proof.Proof.Gen.AdamwWAdaIdeal.Skeleton
public import proofs.«01_k».proof.Proof.Gen.AdamwWAdaIdeal.Launch
public import proofs.«01_k».proof.Proof.Gen.AdamwWAdaIdeal.Points
public import proofs.«01_k».proof.Proof.Gen.AdamwWAdaIdeal.Frame
public import proofs.«01_k».proof.Proof.Gen.AdamwWAdaIdeal.Value
public import proofs.«01_k».proof.Proof.Gen.AdamwWAdaReferenceIdeal
public import proofs.«01_k».proof.Proof.Gen.AdamwWAdaReferenceIdeal.Run
public import proofs.«01_k».proof.Proof.Gen.AdamwWIn
public import proofs.«01_k».proof.Proof.Gen.AdamwWIn.Skeleton
public import proofs.«01_k».proof.Proof.Gen.AdamwWIn.Launch
public import proofs.«01_k».proof.Proof.Gen.AdamwWIn.Points
public import proofs.«01_k».proof.Proof.Gen.AdamwWIn.Frame
public import proofs.«01_k».proof.Proof.Gen.AdamwWInIdeal
public import proofs.«01_k».proof.Proof.Gen.AdamwWInIdeal.Skeleton
public import proofs.«01_k».proof.Proof.Gen.AdamwWInIdeal.Launch
public import proofs.«01_k».proof.Proof.Gen.AdamwWInIdeal.Points
public import proofs.«01_k».proof.Proof.Gen.AdamwWInIdeal.Frame
public import proofs.«01_k».proof.Proof.Gen.AdamwWInIdeal.Value
public import proofs.«01_k».proof.Proof.Gen.AdamwWInReferenceIdeal
public import proofs.«01_k».proof.Proof.Gen.AdamwWInReferenceIdeal.Run
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdIdeal.Value
public import proofs.«01_k».proof.Proof.Gen.AttnFwdReferenceIdeal
public import proofs.«01_k».proof.Proof.Gen.AttnFwdReferenceIdeal.Run
public import proofs.«01_k».proof.Proof.Frames
public import proofs.«01_k».proof.Proof.Algebraic
public import proofs.«01_k».proof.Proof.Mlp2Dx
public import proofs.«01_k».proof.Proof.Mlp2Dw
public import proofs.«01_k».proof.Proof.Mlp1Dx
public import proofs.«01_k».proof.Proof.Mlp1Dw
public import proofs.«01_k».proof.Proof.WOutDx
public import proofs.«01_k».proof.Proof.WOutDw
public import proofs.«01_k».proof.Proof.GlaOutDx
public import proofs.«01_k».proof.Proof.GlaOutDw
public import proofs.«01_k».proof.Proof.MlaOutDx
public import proofs.«01_k».proof.Proof.MlaOutDw
public import proofs.«01_k».proof.Proof.MlaUqDx
public import proofs.«01_k».proof.Proof.MlaUqDw
public import proofs.«01_k».proof.Proof.MlaUkvDx
public import proofs.«01_k».proof.Proof.MlaUkvDw
public import proofs.«01_k».proof.Proof.GlaOut
public import proofs.«01_k».proof.Proof.WOut
public import proofs.«01_k».proof.Proof.MlaOut
public import proofs.«01_k».proof.Proof.MlaUq
public import proofs.«01_k».proof.Proof.MlaUkv
public import proofs.«01_k».proof.Proof.Mlp1
public import proofs.«01_k».proof.Proof.Mlp2
public import proofs.«01_k».proof.Proof.ProjDx
public import proofs.«01_k».proof.Proof.ProjDwA
public import proofs.«01_k».proof.Proof.ProjDwB
public import proofs.«01_k».proof.Proof.Proj
public import proofs.«01_k».proof.Proof.MergeBwd
public import proofs.«01_k».proof.Proof.MergeFwd
public import proofs.«01_k».proof.Proof.AlphaDx
public import proofs.«01_k».proof.Proof.AlphaDw
public import proofs.«01_k».proof.Proof.GlaFwd
public import proofs.«01_k».proof.Proof.Norm1
public import proofs.«01_k».proof.Proof.Norm2
public import proofs.«01_k».proof.Proof.LatNorm
public import proofs.«01_k».proof.Proof.AdamwWAda
public import proofs.«01_k».proof.Proof.AdamwWIn
public import proofs.«01_k».proof.Proof.AttnFwdClaims
public import proofs.«01_k».proof.Proof.Gen.KernelIdeal.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Mlp2Dx.Gen.facts, Cert.Mlp2DxIdeal.Gen.facts, Cert.Mlp2DxReferenceIdeal.Gen.facts,
    Cert.Mlp2Dw.Gen.facts, Cert.Mlp2DwIdeal.Gen.facts, Cert.Mlp2DwReferenceIdeal.Gen.facts,
    Cert.Mlp1Dx.Gen.facts, Cert.Mlp1DxIdeal.Gen.facts, Cert.Mlp1DxReferenceIdeal.Gen.facts,
    Cert.Mlp1Dw.Gen.facts, Cert.Mlp1DwIdeal.Gen.facts, Cert.Mlp1DwReferenceIdeal.Gen.facts,
    Cert.WOutDx.Gen.facts, Cert.WOutDxIdeal.Gen.facts, Cert.WOutDxReferenceIdeal.Gen.facts,
    Cert.WOutDw.Gen.facts, Cert.WOutDwIdeal.Gen.facts, Cert.WOutDwReferenceIdeal.Gen.facts,
    Cert.GlaOutDx.Gen.facts, Cert.GlaOutDxIdeal.Gen.facts, Cert.GlaOutDxReferenceIdeal.Gen.facts,
    Cert.GlaOutDw.Gen.facts, Cert.GlaOutDwIdeal.Gen.facts, Cert.GlaOutDwReferenceIdeal.Gen.facts,
    Cert.MlaOutDx.Gen.facts, Cert.MlaOutDxIdeal.Gen.facts, Cert.MlaOutDxReferenceIdeal.Gen.facts,
    Cert.MlaOutDw.Gen.facts, Cert.MlaOutDwIdeal.Gen.facts, Cert.MlaOutDwReferenceIdeal.Gen.facts,
    Cert.MlaUqDx.Gen.facts, Cert.MlaUqDxIdeal.Gen.facts, Cert.MlaUqDxReferenceIdeal.Gen.facts,
    Cert.MlaUqDw.Gen.facts, Cert.MlaUqDwIdeal.Gen.facts, Cert.MlaUqDwReferenceIdeal.Gen.facts,
    Cert.MlaUkvDx.Gen.facts, Cert.MlaUkvDxIdeal.Gen.facts, Cert.MlaUkvDxReferenceIdeal.Gen.facts,
    Cert.MlaUkvDw.Gen.facts, Cert.MlaUkvDwIdeal.Gen.facts, Cert.MlaUkvDwReferenceIdeal.Gen.facts,
    Cert.GlaOut.Gen.facts, Cert.GlaOutIdeal.Gen.facts, Cert.GlaOutReferenceIdeal.Gen.facts,
    Cert.WOut.Gen.facts, Cert.WOutIdeal.Gen.facts, Cert.WOutReferenceIdeal.Gen.facts,
    Cert.MlaOut.Gen.facts, Cert.MlaOutIdeal.Gen.facts, Cert.MlaOutReferenceIdeal.Gen.facts,
    Cert.MlaUq.Gen.facts, Cert.MlaUqIdeal.Gen.facts, Cert.MlaUqReferenceIdeal.Gen.facts,
    Cert.MlaUkv.Gen.facts, Cert.MlaUkvIdeal.Gen.facts, Cert.MlaUkvReferenceIdeal.Gen.facts,
    Cert.Mlp1.Gen.facts, Cert.Mlp1Ideal.Gen.facts, Cert.Mlp1ReferenceIdeal.Gen.facts,
    Cert.Mlp2.Gen.facts, Cert.Mlp2Ideal.Gen.facts, Cert.Mlp2ReferenceIdeal.Gen.facts,
    Cert.ProjDx.Gen.facts, Cert.ProjDxIdeal.Gen.facts, Cert.ProjDxReferenceIdeal.Gen.facts,
    Cert.ProjDwA.Gen.facts, Cert.ProjDwAIdeal.Gen.facts, Cert.ProjDwAReferenceIdeal.Gen.facts,
    Cert.ProjDwB.Gen.facts, Cert.ProjDwBIdeal.Gen.facts, Cert.ProjDwBReferenceIdeal.Gen.facts,
    Cert.Proj.Gen.facts, Cert.ProjIdeal.Gen.facts, Cert.ProjReferenceIdeal.Gen.facts,
    Cert.MergeBwd.Gen.facts, Cert.MergeBwdIdeal.Gen.facts, Cert.MergeBwdReferenceIdeal.Gen.facts,
    Cert.MergeFwd.Gen.facts, Cert.MergeFwdIdeal.Gen.facts, Cert.MergeFwdReferenceIdeal.Gen.facts,
    Cert.AlphaDx.Gen.facts, Cert.AlphaDxIdeal.Gen.facts, Cert.AlphaDxReferenceIdeal.Gen.facts,
    Cert.AlphaDw.Gen.facts, Cert.AlphaDwIdeal.Gen.facts, Cert.AlphaDwReferenceIdeal.Gen.facts,
    Cert.GlaFwd.Gen.facts, Cert.GlaFwdIdeal.Gen.facts, Cert.GlaFwdReferenceIdeal.Gen.facts,
    Cert.Norm1.Gen.facts, Cert.Norm1Ideal.Gen.facts, Cert.Norm1ReferenceIdeal.Gen.facts,
    Cert.Norm2.Gen.facts, Cert.Norm2Ideal.Gen.facts, Cert.Norm2ReferenceIdeal.Gen.facts,
    Cert.LatNorm.Gen.facts, Cert.LatNormIdeal.Gen.facts, Cert.LatNormReferenceIdeal.Gen.facts,
    Cert.AdamwWAda.Gen.facts, Cert.AdamwWAdaIdeal.Gen.facts, Cert.AdamwWAdaReferenceIdeal.Gen.facts,
    Cert.AdamwWIn.Gen.facts, Cert.AdamwWInIdeal.Gen.facts, Cert.AdamwWInReferenceIdeal.Gen.facts,
    Cert.AttnFwd.Gen.facts, Cert.AttnFwdIdeal.Gen.facts, Cert.AttnFwdReferenceIdeal.Gen.facts,
    Precondition.facts, AttnFwd.precondition_facts,
    frame_kernel, frame_kernel_ideal, frame_kernel_ideal_finite, frame_reference_ideal, frame_reference_ideal_finite,
    Mlp2Dx.frame, Mlp2Dx.frame_ideal, Mlp2Dx.frame_reference,
    Mlp2Dw.frame, Mlp2Dw.frame_ideal, Mlp2Dw.frame_reference,
    Mlp1Dx.frame, Mlp1Dx.frame_ideal, Mlp1Dx.frame_reference,
    Mlp1Dw.frame, Mlp1Dw.frame_ideal, Mlp1Dw.frame_reference,
    WOutDx.frame, WOutDx.frame_ideal, WOutDx.frame_reference,
    WOutDw.frame, WOutDw.frame_ideal, WOutDw.frame_reference,
    GlaOutDx.frame, GlaOutDx.frame_ideal, GlaOutDx.frame_reference,
    GlaOutDw.frame, GlaOutDw.frame_ideal, GlaOutDw.frame_reference,
    MlaOutDx.frame, MlaOutDx.frame_ideal, MlaOutDx.frame_reference,
    MlaOutDw.frame, MlaOutDw.frame_ideal, MlaOutDw.frame_reference,
    MlaUqDx.frame, MlaUqDx.frame_ideal, MlaUqDx.frame_reference,
    MlaUqDw.frame, MlaUqDw.frame_ideal, MlaUqDw.frame_reference,
    MlaUkvDx.frame, MlaUkvDx.frame_ideal, MlaUkvDx.frame_reference,
    MlaUkvDw.frame, MlaUkvDw.frame_ideal, MlaUkvDw.frame_reference,
    GlaOut.frame, GlaOut.frame_ideal, GlaOut.frame_reference,
    WOut.frame, WOut.frame_ideal, WOut.frame_reference,
    MlaOut.frame, MlaOut.frame_ideal, MlaOut.frame_reference,
    MlaUq.frame, MlaUq.frame_ideal, MlaUq.frame_reference,
    MlaUkv.frame, MlaUkv.frame_ideal, MlaUkv.frame_reference,
    Mlp1.frame, Mlp1.frame_ideal, Mlp1.frame_reference,
    Mlp2.frame, Mlp2.frame_ideal, Mlp2.frame_reference,
    ProjDx.frame, ProjDx.frame_ideal, ProjDx.frame_reference,
    ProjDwA.frame, ProjDwA.frame_ideal, ProjDwA.frame_reference,
    ProjDwB.frame, ProjDwB.frame_ideal, ProjDwB.frame_reference,
    Proj.frame, Proj.frame_ideal, Proj.frame_reference,
    MergeBwd.frame, MergeBwd.frame_ideal, MergeBwd.frame_reference,
    MergeFwd.frame, MergeFwd.frame_ideal, MergeFwd.frame_reference,
    AlphaDx.frame, AlphaDx.frame_ideal, AlphaDx.frame_reference,
    AlphaDw.frame, AlphaDw.frame_ideal, AlphaDw.frame_reference,
    GlaFwd.frame, GlaFwd.frame_ideal, GlaFwd.frame_reference,
    Norm1.frame, Norm1.frame_ideal, Norm1.frame_reference,
    Norm2.frame, Norm2.frame_ideal, Norm2.frame_reference,
    LatNorm.frame, LatNorm.frame_ideal, LatNorm.frame_reference,
    AdamwWAda.frame, AdamwWAda.frame_ideal, AdamwWAda.frame_reference,
    AdamwWIn.frame, AdamwWIn.frame_ideal, AdamwWIn.frame_reference,
    AttnFwd.frame, AttnFwd.frame_ideal, AttnFwd.frame_ideal_finite, AttnFwd.frame_reference, AttnFwd.frame_reference_finite,
    preserves, algebraic,
    trivial, Mlp2Dx.algebraic,
    trivial, Mlp2Dw.algebraic,
    trivial, Mlp1Dx.algebraic,
    trivial, Mlp1Dw.algebraic,
    trivial, WOutDx.algebraic,
    trivial, WOutDw.algebraic,
    trivial, GlaOutDx.algebraic,
    trivial, GlaOutDw.algebraic,
    trivial, MlaOutDx.algebraic,
    trivial, MlaOutDw.algebraic,
    trivial, MlaUqDx.algebraic,
    trivial, MlaUqDw.algebraic,
    trivial, MlaUkvDx.algebraic,
    trivial, MlaUkvDw.algebraic,
    trivial, GlaOut.algebraic,
    trivial, WOut.algebraic,
    trivial, MlaOut.algebraic,
    trivial, MlaUq.algebraic,
    trivial, MlaUkv.algebraic,
    trivial, Mlp1.algebraic,
    trivial, Mlp2.algebraic,
    trivial, ProjDx.algebraic,
    trivial, ProjDwA.algebraic,
    trivial, ProjDwB.algebraic,
    trivial, Proj.algebraic,
    trivial, MergeBwd.algebraic,
    trivial, MergeFwd.algebraic,
    trivial, AlphaDx.algebraic,
    trivial, AlphaDw.algebraic,
    trivial, GlaFwd.algebraic,
    trivial, Norm1.algebraic,
    trivial, Norm2.algebraic,
    trivial, LatNorm.algebraic,
    trivial, AdamwWAda.algebraic,
    trivial, AdamwWIn.algebraic,
    AttnFwd.preserves, AttnFwd.algebraic⟩

end Cert.Proof

end
